-- ==== Defs.lean ====
def Pre_Kernel [hPre_pages_in_pool : Cert.Pre_pages_in_pool.Facts] (m : (ℓ : Loc Cert.Kernel.nD Cert.Kernel.τ Cert.Kernel.sig) → Buf (Elt Bits) ℓ) : Prop :=
  ∀ c : Dev Cert.Kernel.nD,
    (Cert.Pre_pages_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pages_in_pool : Cert.Pre_pages_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_in_pool [hPre_pages_in_pool : Cert.Pre_pages_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_in_range : Cert.Pre_experts_in_range.Facts] (m : (ℓ : Loc Cert.Kernel4.nD Cert.Kernel4.τ Cert.Kernel4.sig) → Buf (Elt Bits) ℓ) : Prop :=
  ∀ c : Dev Cert.Kernel4.nD,
    (Cert.Pre_experts_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_experts_in_range : Cert.Pre_experts_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_in_range [hPre_experts_in_range : Cert.Pre_experts_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_experts_in_range_down : Cert.Pre_experts_in_range_down.Facts] (m : (ℓ : Loc Cert.Kernel5.nD Cert.Kernel5.τ Cert.Kernel5.sig) → Buf (Elt Bits) ℓ) : Prop :=
  ∀ c : Dev Cert.Kernel5.nD,
    (Cert.Pre_experts_in_range_down.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_experts_in_range_down : Cert.Pre_experts_in_range_down.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_experts_in_range_down.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_experts_in_range_down [hPre_experts_in_range_down : Cert.Pre_experts_in_range_down.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_experts_in_range_down.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 [hPre_one_expert : Cert.Pre_one_expert.Facts] (m : (ℓ : Loc Cert.Kernel6.nD Cert.Kernel6.τ Cert.Kernel6.sig) → Buf (Elt Bits) ℓ) : Prop :=
  ∀ c : Dev Cert.Kernel6.nD,
    (Cert.Pre_one_expert.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_one_expert : Cert.Pre_one_expert.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_one_expert.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_one_expert [hPre_one_expert : Cert.Pre_one_expert.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_one_expert.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 [hPre_one_expert_down : Cert.Pre_one_expert_down.Facts] (m : (ℓ : Loc Cert.Kernel7.nD Cert.Kernel7.τ Cert.Kernel7.sig) → Buf (Elt Bits) ℓ) : Prop :=
  ∀ c : Dev Cert.Kernel7.nD,
    (Cert.Pre_one_expert_down.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_one_expert_down : Cert.Pre_one_expert_down.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_one_expert_down.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_one_expert_down [hPre_one_expert_down : Cert.Pre_one_expert_down.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_one_expert_down.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] [hPre_pages_in_pool : Cert.Pre_pages_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pages_in_pool [hReferenceIdeal : Cert.ReferenceIdeal.Facts] [hPre_pages_in_pool : Cert.Pre_pages_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_experts_in_range : Cert.Pre_experts_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_experts_in_range [hReference4Ideal : Cert.Reference4Ideal.Facts] [hPre_experts_in_range : Cert.Pre_experts_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_experts_in_range_down : Cert.Pre_experts_in_range_down.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_experts_in_range_down : Cert.Pre_experts_in_range_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_experts_in_range_down [hReference5Ideal : Cert.Reference5Ideal.Facts] [hPre_experts_in_range_down : Cert.Pre_experts_in_range_down.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_experts_in_range_down m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_one_expert : Cert.Pre_one_expert.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_one_expert : Cert.Pre_one_expert.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_one_expert [hReference6Ideal : Cert.Reference6Ideal.Facts] [hPre_one_expert : Cert.Pre_one_expert.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_one_expert m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] [hPre_one_expert_down : Cert.Pre_one_expert_down.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_one_expert_down : Cert.Pre_one_expert_down.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_one_expert_down [hReference7Ideal : Cert.Reference7Ideal.Facts] [hPre_one_expert_down : Cert.Pre_one_expert_down.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_one_expert_down m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages_in_pool : Cert.Pre_pages_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v61)) (v1 : (c : Dev Cert.Kernel2Ideal.nD) → Buf (Elt Ideal) ((c.tc : Thread Cert.Kernel2Ideal.nD Cert.Kernel2Ideal.τ).loc Cert.Kernel2Ideal.main_v62)) (v2 : (c : Dev Cert.Kernel2Ideal.nD) → Buf (Elt Ideal) ((c.tc : Thread Cert.Kernel2Ideal.nD Cert.Kernel2Ideal.τ).loc Cert.Kernel2Ideal.main_v67)) (v3 : (c : Dev Cert.Kernel2Ideal.nD) → Buf (Elt Ideal) ((c.tc : Thread Cert.Kernel2Ideal.nD Cert.Kernel2Ideal.τ).loc Cert.Kernel2Ideal.main_v134)) (v4 : (c : Dev Cert.Kernel2Ideal.nD) → Buf (Elt Ideal) ((c.tc : Thread Cert.Kernel2Ideal.nD Cert.Kernel2Ideal.τ).loc Cert.Kernel2Ideal.main_v135)) (v5 : (c : Dev Cert.Kernel2Ideal.nD) → Buf (Elt Ideal) ((c.tc : Thread Cert.Kernel2Ideal.nD Cert.Kernel2Ideal.τ).loc Cert.Kernel2Ideal.main_v136)) (v6 : (c : Dev Cert.Kernel2Ideal.nD) → Buf (Elt Ideal) ((c.tc : Thread Cert.Kernel2Ideal.nD Cert.Kernel2Ideal.τ).loc Cert.Kernel2Ideal.main_v137)) (v7 : (c : Dev Cert.Kernel2Ideal.nD) → Buf (Elt Ideal) ((c.tc : Thread Cert.Kernel2Ideal.nD Cert.Kernel2Ideal.τ).loc Cert.Kernel2Ideal.main_v138)) (v8 : (c : Dev Cert.Kernel2Ideal.nD) → Buf (Elt Ideal) ((c.tc : Thread Cert.Kernel2Ideal.nD Cert.Kernel2Ideal.τ).loc Cert.Kernel2Ideal.main_v139)) (v9 : (c : Dev Cert.Kernel2Ideal.nD) → Buf (Elt Ideal) ((c.tc : Thread Cert.Kernel2Ideal.nD Cert.Kernel2Ideal.τ).loc Cert.Kernel2Ideal.main_v140)) (v10 : (c : Dev Cert.Kernel2Ideal.nD) → Buf (Elt Ideal) ((c.tc : Thread Cert.Kernel2Ideal.nD Cert.Kernel2Ideal.τ).loc Cert.Kernel2Ideal.main_v141)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v61) = v0 c
          ∧ r.2.mem ((c.tc : Thread Cert.Kernel2Ideal.nD Cert.Kernel2Ideal.τ).loc Cert.Kernel2Ideal.main_v62) = v1 c
          ∧ r.2.mem ((c.tc : Thread Cert.Kernel2Ideal.nD Cert.Kernel2Ideal.τ).loc Cert.Kernel2Ideal.main_v67) = v2 c
          ∧ r.2.mem ((c.tc : Thread Cert.Kernel2Ideal.nD Cert.Kernel2Ideal.τ).loc Cert.Kernel2Ideal.main_v134) = v3 c
          ∧ r.2.mem ((c.tc : Thread Cert.Kernel2Ideal.nD Cert.Kernel2Ideal.τ).loc Cert.Kernel2Ideal.main_v135) = v4 c
          ∧ r.2.mem ((c.tc : Thread Cert.Kernel2Ideal.nD Cert.Kernel2Ideal.τ).loc Cert.Kernel2Ideal.main_v136) = v5 c
          ∧ r.2.mem ((c.tc : Thread Cert.Kernel2Ideal.nD Cert.Kernel2Ideal.τ).loc Cert.Kernel2Ideal.main_v137) = v6 c
          ∧ r.2.mem ((c.tc : Thread Cert.Kernel2Ideal.nD Cert.Kernel2Ideal.τ).loc Cert.Kernel2Ideal.main_v138) = v7 c
          ∧ r.2.mem ((c.tc : Thread Cert.Kernel2Ideal.nD Cert.Kernel2Ideal.τ).loc Cert.Kernel2Ideal.main_v139) = v8 c
          ∧ r.2.mem ((c.tc : Thread Cert.Kernel2Ideal.nD Cert.Kernel2Ideal.τ).loc Cert.Kernel2Ideal.main_v140) = v9 c
          ∧ r.2.mem ((c.tc : Thread Cert.Kernel2Ideal.nD Cert.Kernel2Ideal.τ).loc Cert.Kernel2Ideal.main_v141) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_v46) = v3 c
          ∧ r.2.mem ((c.tc : Thread Cert.Reference2Ideal.nD Cert.Reference2Ideal.τ).loc Cert.Reference2Ideal.main_v49) = v4 c
          ∧ r.2.mem ((c.tc : Thread Cert.Reference2Ideal.nD Cert.Reference2Ideal.τ).loc Cert.Reference2Ideal.main_v52) = v5 c
          ∧ r.2.mem ((c.tc : Thread Cert.Reference2Ideal.nD Cert.Reference2Ideal.τ).loc Cert.Reference2Ideal.main_v55) = v6 c
          ∧ r.2.mem ((c.tc : Thread Cert.Reference2Ideal.nD Cert.Reference2Ideal.τ).loc Cert.Reference2Ideal.main_v102) = v7 c
          ∧ r.2.mem ((c.tc : Thread Cert.Reference2Ideal.nD Cert.Reference2Ideal.τ).loc Cert.Reference2Ideal.main_v105) = v8 c
          ∧ r.2.mem ((c.tc : Thread Cert.Reference2Ideal.nD Cert.Reference2Ideal.τ).loc Cert.Reference2Ideal.main_v106) = v9 c
          ∧ r.2.mem ((c.tc : Thread Cert.Reference2Ideal.nD Cert.Reference2Ideal.τ).loc Cert.Reference2Ideal.main_v109) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v19)) (v1 : (c : Dev Cert.Kernel3Ideal.nD) → Buf (Elt Ideal) ((c.tc : Thread Cert.Kernel3Ideal.nD Cert.Kernel3Ideal.τ).loc Cert.Kernel3Ideal.main_v37)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_v37) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_experts_in_range_down : Cert.Pre_experts_in_range_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_one_expert : Cert.Pre_one_expert.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] [hPre_one_expert_down : Cert.Pre_one_expert_down.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_pages_in_pool : Cert.Pre_pages_in_pool.Facts) (hPre_experts_in_range : Cert.Pre_experts_in_range.Facts) (hPre_experts_in_range_down : Cert.Pre_experts_in_range_down.Facts) (hPre_one_expert : Cert.Pre_one_expert.Facts) (hPre_one_expert_down : Cert.Pre_one_expert_down.Facts) (hPre_finite : Cert.Pre_finite.Facts),
    quiescent_Kernel (hKernel := hKernel) (hPre_pages_in_pool := hPre_pages_in_pool)
    ∧ quiescent_KernelIdeal (hKernelIdeal := hKernelIdeal) (hPre_pages_in_pool := hPre_pages_in_pool)
    ∧ quiescent_ReferenceIdeal (hReferenceIdeal := hReferenceIdeal)
    ∧ quiescent_ReferenceIdeal_pre_pages_in_pool (hReferenceIdeal := hReferenceIdeal) (hPre_pages_in_pool := hPre_pages_in_pool)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_in_range := hPre_experts_in_range)
    ∧ quiescent_Kernel4Ideal (hKernel4Ideal := hKernel4Ideal) (hPre_experts_in_range := hPre_experts_in_range)
    ∧ quiescent_Reference4Ideal (hReference4Ideal := hReference4Ideal)
    ∧ quiescent_Reference4Ideal_pre_experts_in_range (hReference4Ideal := hReference4Ideal) (hPre_experts_in_range := hPre_experts_in_range)
    ∧ quiescent_Kernel5 (hKernel5 := hKernel5) (hPre_experts_in_range_down := hPre_experts_in_range_down)
    ∧ quiescent_Kernel5Ideal (hKernel5Ideal := hKernel5Ideal) (hPre_experts_in_range_down := hPre_experts_in_range_down)
    ∧ quiescent_Reference5Ideal (hReference5Ideal := hReference5Ideal)
    ∧ quiescent_Reference5Ideal_pre_experts_in_range_down (hReference5Ideal := hReference5Ideal) (hPre_experts_in_range_down := hPre_experts_in_range_down)
    ∧ quiescent_Kernel6 (hKernel6 := hKernel6) (hPre_one_expert := hPre_one_expert)
    ∧ quiescent_Kernel6Ideal (hKernel6Ideal := hKernel6Ideal) (hPre_one_expert := hPre_one_expert)
    ∧ quiescent_Reference6Ideal (hReference6Ideal := hReference6Ideal)
    ∧ quiescent_Reference6Ideal_pre_one_expert (hReference6Ideal := hReference6Ideal) (hPre_one_expert := hPre_one_expert)
    ∧ quiescent_Kernel7 (hKernel7 := hKernel7) (hPre_one_expert_down := hPre_one_expert_down)
    ∧ quiescent_Kernel7Ideal (hKernel7Ideal := hKernel7Ideal) (hPre_one_expert_down := hPre_one_expert_down)
    ∧ quiescent_Reference7Ideal (hReference7Ideal := hReference7Ideal)
    ∧ quiescent_Reference7Ideal_pre_one_expert_down (hReference7Ideal := hReference7Ideal) (hPre_one_expert_down := hPre_one_expert_down)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ preserves_Kernel_KernelIdeal
    ∧ algebraic_KernelIdeal_ReferenceIdeal (hKernelIdeal := hKernelIdeal) (hReferenceIdeal := hReferenceIdeal) (hPre_pages_in_pool := hPre_pages_in_pool)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_in_range := hPre_experts_in_range)
    ∧ preserves_Kernel5_Kernel5Ideal
    ∧ algebraic_Kernel5Ideal_Reference5Ideal (hKernel5Ideal := hKernel5Ideal) (hReference5Ideal := hReference5Ideal) (hPre_experts_in_range_down := hPre_experts_in_range_down)
    ∧ preserves_Kernel6_Kernel6Ideal
    ∧ algebraic_Kernel6Ideal_Reference6Ideal (hKernel6Ideal := hKernel6Ideal) (hReference6Ideal := hReference6Ideal) (hPre_one_expert := hPre_one_expert)
    ∧ preserves_Kernel7_Kernel7Ideal
    ∧ algebraic_Kernel7Ideal_Reference7Ideal (hKernel7Ideal := hKernel7Ideal) (hReference7Ideal := hReference7Ideal) (hPre_one_expert_down := hPre_one_expert_down)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite (hKernel9Ideal := hKernel9Ideal) (hReference9Ideal := hReference9Ideal) (hPre_finite := hPre_finite)
-- ==== Pre_experts_in_range.lean ====
abbrev S81920x4096 : Shape := ⟨2, ![81920, 4096]⟩
abbrev S64x4096x512 : Shape := ⟨3, ![64, 4096, 512]⟩
abbrev S320 : Shape := ⟨1, ![320]⟩
abbrev S1 : Shape := ⟨1, ![1]⟩
abbrev S_ : Shape := ⟨0, ![]⟩

class Facts : Prop where
  bcast_S_S320 : S_.BroadcastsInDim S320 (![] : Fin 0 → Fin S320.rank)

variable [Facts]

def fn {F : FTy → Type} [FloatOps F] (main_arg0 : FVec F S81920x4096 .bf16) (main_arg1 : FVec F S64x4096x512 .f32) (main_arg2 : FVec F S64x4096x512 .f32) (main_arg3 : IVec S320 32) (main_arg4 : IVec S1 32) : IVec S320 1 :=
  let main_c : IVec S_ 32 := constantI S_ 32 0#32
  let main_v0 : IVec S320 32 := broadcastInDim S320 ![] bcast_S_S320 main_c
  let main_v1 : IVec S320 1 := cmpi .sge main_arg3 main_v0
  let main_c_0 : IVec S_ 32 := constantI S_ 32 64#32
  let main_v2 : IVec S320 32 := broadcastInDim S320 ![] bcast_S_S320 main_c_0
  let main_v3 : IVec S320 1 := cmpi .slt main_arg3 main_v2
  let main_v4 : IVec S320 1 := andi main_v1 main_v3
  main_v4
-- ==== Pre_experts_in_range_down.lean ====
abbrev S81920x512 : Shape := ⟨2, ![81920, 512]⟩
abbrev S64x512x4096 : Shape := ⟨3, ![64, 512, 4096]⟩
abbrev S81920x1 : Shape := ⟨2, ![81920, 1]⟩
abbrev S320 : Shape := ⟨1, ![320]⟩
abbrev S1 : Shape := ⟨1, ![1]⟩
abbrev S_ : Shape := ⟨0, ![]⟩

class Facts : Prop where
  bcast_S_S320 : S_.BroadcastsInDim S320 (![] : Fin 0 → Fin S320.rank)

variable [Facts]

def fn {F : FTy → Type} [FloatOps F] (main_arg0 : FVec F S81920x512 .bf16) (main_arg1 : FVec F S64x512x4096 .f32) (main_arg2 : FVec F S81920x1 .f32) (main_arg3 : IVec S320 32) (main_arg4 : IVec S1 32) : IVec S320 1 :=
  let main_c : IVec S_ 32 := constantI S_ 32 0#32
  let main_v0 : IVec S320 32 := broadcastInDim S320 ![] bcast_S_S320 main_c
  let main_v1 : IVec S320 1 := cmpi .sge main_arg3 main_v0
  let main_c_0 : IVec S_ 32 := constantI S_ 32 64#32
  let main_v2 : IVec S320 32 := broadcastInDim S320 ![] bcast_S_S320 main_c_0
  let main_v3 : IVec S320 1 := cmpi .slt main_arg3 main_v2
  let main_v4 : IVec S320 1 := andi main_v1 main_v3
  main_v4
-- ==== Pre_finite.lean ====
abbrev S8192x12288 : Shape := ⟨2, ![8192, 12288]⟩
abbrev S1x2x32x128 : Shape := ⟨4, ![1, 2, 32, 128]⟩
abbrev S1x2x32x128x128 : Shape := ⟨5, ![1, 2, 32, 128, 128]⟩
abbrev S8192x1024 : Shape := ⟨2, ![8192, 1024]⟩
abbrev S_ : Shape := ⟨0, ![]⟩

class Facts : Prop where
  slices_S8192x12288_S8192x1024_0_8704 : S8192x12288.Slices ![0, 8704] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x2x32x128 : S_.BroadcastsInDim S1x2x32x128 (![] : Fin 0 → Fin S1x2x32x128.rank)
  reducesTo_S1x2x32x128_S_d0_1_2_3 : S1x2x32x128.ReducesTo [0, 1, 2, 3] S_
  bcast_S_S1x2x32x128x128 : S_.BroadcastsInDim S1x2x32x128x128 (![] : Fin 0 → Fin S1x2x32x128x128.rank)
  reducesTo_S1x2x32x128x128_S_d0_1_2_3_4 : S1x2x32x128x128.ReducesTo [0, 1, 2, 3, 4] S_

variable [Facts]

def fn {F : FTy → Type} [FloatOps F] (main_arg0 : FVec F S8192x12288 .f32) (main_arg1 : FVec F S1x2x32x128 .f32) (main_arg2 : FVec F S1x2x32x128x128 .f32) : IVec S_ 1 :=
  let main_v0 : FVec F S8192x1024 .f32 := (extractStridedSlice S8192x1024 ![0, 8704] · slices_S8192x12288_S8192x1024_0_8704) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x2x32x128 .f32 := Host.absf main_arg1
  let main_cst_0 : FVec F S_ .f32 := constant S_ .f32 0x7F800000#32
  let main_v6 : FVec F S1x2x32x128 .f32 := broadcastInDim S1x2x32x128 ![] bcast_S_S1x2x32x128 main_cst_0
  let main_v7 : IVec S1x2x32x128 1 := cmpf .olt main_v5 main_v6
  let main_c_1 : IVec S_ 1 := constantI S_ 1 1#1
  let main_v8 : IVec S_ 1 := (fun x v => Host.reduce IntOp.andi x v reducesTo_S1x2x32x128_S_d0_1_2_3 h_S_) main_v7 main_c_1
  let main_v9 : IVec S_ 1 := andi main_v4 main_v8
  let main_v10 : FVec F S1x2x32x128x128 .f32 := Host.absf main_arg2
  let main_cst_2 : FVec F S_ .f32 := constant S_ .f32 0x7F800000#32
  let main_v11 : FVec F S1x2x32x128x128 .f32 := broadcastInDim S1x2x32x128x128 ![] bcast_S_S1x2x32x128x128 main_cst_2
  let main_v12 : IVec S1x2x32x128x128 1 := cmpf .olt main_v10 main_v11
  let main_c_3 : IVec S_ 1 := constantI S_ 1 1#1
  let main_v13 : IVec S_ 1 := (fun x v => Host.reduce IntOp.andi x v reducesTo_S1x2x32x128x128_S_d0_1_2_3_4 h_S_) main_v12 main_c_3
  let main_v14 : IVec S_ 1 := andi main_v9 main_v13
  main_v14
-- ==== Pre_one_expert.lean ====
abbrev S8192x4096 : Shape := ⟨2, ![8192, 4096]⟩
abbrev S1x4096x512 : Shape := ⟨3, ![1, 4096, 512]⟩
abbrev S32 : Shape := ⟨1, ![32]⟩
abbrev S1 : Shape := ⟨1, ![1]⟩
abbrev S_ : Shape := ⟨0, ![]⟩

class Facts : Prop where
  bcast_S_S32 : S_.BroadcastsInDim S32 (![] : Fin 0 → Fin S32.rank)
  bcast_S_S1 : S_.BroadcastsInDim S1 (![] : Fin 0 → Fin S1.rank)
  bcast_S1_S32_0 : S1.BroadcastsInDim S32 (![0] : Fin 1 → Fin S32.rank)

variable [Facts]

def fn {F : FTy → Type} [FloatOps F] (main_arg0 : FVec F S8192x4096 .bf16) (main_arg1 : FVec F S1x4096x512 .f32) (main_arg2 : FVec F S1x4096x512 .f32) (main_arg3 : IVec S32 32) (main_arg4 : IVec S1 32) : IVec S32 1 :=
  let main_c : IVec S_ 32 := constantI S_ 32 0#32
  let main_v0 : IVec S32 32 := broadcastInDim S32 ![] bcast_S_S32 main_c
  let main_v1 : IVec S32 1 := cmpi .eq main_arg3 main_v0
  let main_c_0 : IVec S_ 32 := constantI S_ 32 32#32
  let main_v2 : IVec S1 32 := broadcastInDim S1 ![] bcast_S_S1 main_c_0
  let main_v3 : IVec S1 1 := cmpi .eq main_arg4 main_v2
  let main_v4 : IVec S32 1 := broadcastInDim S32 ![0] bcast_S1_S32_0 main_v3
  let main_v5 : IVec S32 1 := andi main_v1 main_v4
  main_v5
-- ==== Pre_one_expert_down.lean ====
abbrev S8192x512 : Shape := ⟨2, ![8192, 512]⟩
abbrev S1x512x4096 : Shape := ⟨3, ![1, 512, 4096]⟩
abbrev S8192x1 : Shape := ⟨2, ![8192, 1]⟩
abbrev S32 : Shape := ⟨1, ![32]⟩
abbrev S1 : Shape := ⟨1, ![1]⟩
abbrev S_ : Shape := ⟨0, ![]⟩

class Facts : Prop where
  bcast_S_S32 : S_.BroadcastsInDim S32 (![] : Fin 0 → Fin S32.rank)
  bcast_S_S1 : S_.BroadcastsInDim S1 (![] : Fin 0 → Fin S1.rank)
  bcast_S1_S32_0 : S1.BroadcastsInDim S32 (![0] : Fin 1 → Fin S32.rank)

variable [Facts]

def fn {F : FTy → Type} [FloatOps F] (main_arg0 : FVec F S8192x512 .bf16) (main_arg1 : FVec F S1x512x4096 .f32) (main_arg2 : FVec F S8192x1 .f32) (main_arg3 : IVec S32 32) (main_arg4 : IVec S1 32) : IVec S32 1 :=
  let main_c : IVec S_ 32 := constantI S_ 32 0#32
  let main_v0 : IVec S32 32 := broadcastInDim S32 ![] bcast_S_S32 main_c
  let main_v1 : IVec S32 1 := cmpi .eq main_arg3 main_v0
  let main_c_0 : IVec S_ 32 := constantI S_ 32 32#32
  let main_v2 : IVec S1 32 := broadcastInDim S1 ![] bcast_S_S1 main_c_0
  let main_v3 : IVec S1 1 := cmpi .eq main_arg4 main_v2
  let main_v4 : IVec S32 1 := broadcastInDim S32 ![0] bcast_S1_S32_0 main_v3
  let main_v5 : IVec S32 1 := andi main_v1 main_v4
  main_v5
-- ==== Pre_pages_in_pool.lean ====
abbrev S1x2560x128x2x4x128 : Shape := ⟨6, ![1, 2560, 128, 2, 4, 128]⟩
abbrev S32x64 : Shape := ⟨2, ![32, 64]⟩
abbrev S1x2x32x128 : Shape := ⟨4, ![1, 2, 32, 128]⟩
abbrev S1x2x32x128x128 : Shape := ⟨5, ![1, 2, 32, 128, 128]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : FVec F S1x2560x128x2x4x128 .f32) (main_arg1 : IVec S32x64 32) (main_arg2 : FVec F S1x2x32x128 .f32) (main_arg3 : FVec F S1x2x32x128x128 .f32) : IVec S32x64 1 :=
  let main_c : IVec S_ 32 := constantI S_ 32 0#32
  let main_v0 : IVec S32x64 32 := broadcastInDim S32x64 ![] bcast_S_S32x64 main_c
  let main_v1 : IVec S32x64 1 := cmpi .sge main_arg1 main_v0
  let main_c_0 : IVec S_ 32 := constantI S_ 32 2560#32
  let main_v2 : IVec S32x64 32 := broadcastInDim S32x64 ![] bcast_S_S32x64 main_c_0
  let main_v3 : IVec S32x64 1 := cmpi .slt main_arg1 main_v2
  let main_v4 : IVec S32x64 1 := andi main_v1 main_v3
  main_v4
-- ==== Kernel.lean ====
abbrev S1x2560x128x2x4x128 : Shape := ⟨6, ![1, 2560, 128, 2, 4, 128]⟩
abbrev S32x64 : Shape := ⟨2, ![32, 64]⟩
abbrev S1x2x32x128 : Shape := ⟨4, ![1, 2, 32, 128]⟩
abbrev S1x2x32x128x128 : Shape := ⟨5, ![1, 2, 32, 128, 128]⟩
abbrev S2560x128x2x4x128 : Shape := ⟨5, ![2560, 128, 2, 4, 128]⟩
abbrev S2x32x128 : Shape := ⟨3, ![2, 32, 128]⟩
abbrev S2x32x128x128 : Shape := ⟨4, ![2, 32, 128, 128]⟩
abbrev S2560x128x8x128 : Shape := ⟨4, ![2560, 128, 8, 128]⟩
abbrev S1x32x128x128 : Shape := ⟨4, ![1, 32, 128, 128]⟩
abbrev S32x128x128 : Shape := ⟨3, ![32, 128, 128]⟩
abbrev S32x128x256 : Shape := ⟨3, ![32, 128, 256]⟩
abbrev S32x2x128 : Shape := ⟨3, ![32, 2, 128]⟩
abbrev S32x2x4x128 : Shape := ⟨4, ![32, 2, 4, 128]⟩
abbrev S32x8x128 : Shape := ⟨3, ![32, 8, 128]⟩
abbrev S2048 : Shape := ⟨1, ![2048]⟩
abbrev S32x256x8x128 : Shape := ⟨4, ![32, 256, 8, 128]⟩
abbrev S1x128x8x128 : Shape := ⟨4, ![1, 128, 8, 128]⟩
abbrev S1 : Shape := ⟨1, ![1]⟩
abbrev S1x32x8x128 : Shape := ⟨4, ![1, 32, 8, 128]⟩
abbrev S256x256 : Shape := ⟨2, ![256, 256]⟩
abbrev S1x4x8x128 : Shape := ⟨4, ![1, 4, 8, 128]⟩
abbrev S4x8x128 : Shape := ⟨3, ![4, 8, 128]⟩
abbrev S1x8x128 : Shape := ⟨3, ![1, 8, 128]⟩
abbrev S8x128 : Shape := ⟨2, ![8, 128]⟩
abbrev S256x128 : Shape := ⟨2, ![256, 128]⟩
abbrev S1x128x256 : Shape := ⟨3, ![1, 128, 256]⟩
abbrev S128x256 : Shape := ⟨2, ![128, 256]⟩
abbrev S256x1 : Shape := ⟨2, ![256, 1]⟩

abbrev nBuf : Space → Nat
  | .hbm => 18
  | .vmem => 20
  | .smem => 1
  | _ => 0

abbrev bufTy : (tb : Table) → Fin (tcTables nBuf tb) → BufTy
  | .hbm, ⟨0, _⟩ => ⟨S1x2560x128x2x4x128, .f32⟩
  | .hbm, ⟨1, _⟩ => ⟨S32x64, .i32⟩
  | .hbm, ⟨2, _⟩ => ⟨S1x2x32x128, .f32⟩
  | .hbm, ⟨3, _⟩ => ⟨S1x2x32x128x128, .f32⟩
  | .hbm, ⟨4, _⟩ => ⟨S2560x128x2x4x128, .f32⟩
  | .hbm, ⟨5, _⟩ => ⟨S2x32x128, .f32⟩
  | .hbm, ⟨6, _⟩ => ⟨S2x32x128x128, .f32⟩
  | .hbm, ⟨7, _⟩ => ⟨S2560x128x8x128, .f32⟩
  | .hbm, ⟨8, _⟩ => ⟨S1x32x128x128, .f32⟩
  | .hbm, ⟨9, _⟩ => ⟨S32x128x128, .f32⟩
  | .hbm, ⟨10, _⟩ => ⟨S1x32x128x128, .f32⟩
  | .hbm, ⟨11, _⟩ => ⟨S32x128x128, .f32⟩
  | .hbm, ⟨12, _⟩ => ⟨S32x128x256, .f32⟩
  | .hbm, ⟨13, _⟩ => ⟨S32x128x256, .bf16⟩
  | .hbm, ⟨14, _⟩ => ⟨S32x2x128, .f32⟩
  | .hbm, ⟨15, _⟩ => ⟨S32x2x4x128, .f32⟩
  | .hbm, ⟨16, _⟩ => ⟨S32x8x128, .f32⟩
  | .hbm, ⟨17, _⟩ => ⟨S32x256x8x128, .f32⟩
  | .local _ .vmem, ⟨0, _⟩ => ⟨S1x128x8x128, .f32⟩
  | .local _ .vmem, ⟨1, _⟩ => ⟨S1x128x8x128, .f32⟩
  | .local _ .vmem, ⟨2, _⟩ => ⟨S1x128x8x128, .f32⟩
  | .local _ .vmem, ⟨3, _⟩ => ⟨S1x128x8x128, .f32⟩
  | .local _ .vmem, ⟨4, _⟩ => ⟨S1x128x8x128, .f32⟩
  | .local _ .vmem, ⟨5, _⟩ => ⟨S1x128x8x128, .f32⟩
  | .local _ .vmem, ⟨6, _⟩ => ⟨S1x128x8x128, .f32⟩
  | .local _ .vmem, ⟨7, _⟩ => ⟨S1x128x8x128, .f32⟩
  | .local _ .vmem, ⟨8, _⟩ => ⟨S1x128x8x128, .f32⟩
  | .local _ .vmem, ⟨9, _⟩ => ⟨S1x128x8x128, .f32⟩
  | .local _ .vmem, ⟨10, _⟩ => ⟨S1x128x8x128, .f32⟩
  | .local _ .vmem, ⟨11, _⟩ => ⟨S1x128x8x128, .f32⟩
  | .local _ .vmem, ⟨12, _⟩ => ⟨S1x128x8x128, .f32⟩
  | .local _ .vmem, ⟨13, _⟩ => ⟨S1x128x8x128, .f32⟩
  | .local _ .vmem, ⟨14, _⟩ => ⟨S1x128x8x128, .f32⟩
  | .local _ .vmem, ⟨15, _⟩ => ⟨S1x128x8x128, .f32⟩
  | .local _ .vmem, ⟨16, _⟩ => ⟨S32x128x256, .bf16⟩
  | .local _ .vmem, ⟨17, _⟩ => ⟨S32x8x128, .f32⟩
  | .local _ .vmem, ⟨18, _⟩ => ⟨S1x32x8x128, .f32⟩
  | .local _ .vmem, ⟨19, _⟩ => ⟨S1x32x8x128, .f32⟩
  | .local _ .smem, ⟨0, _⟩ => ⟨S2048, .i32⟩
  | _, _ => ⟨S1x2560x128x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v14 : Ref sig .tc := ⟨.hbm, 17, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let c8_i32 : BitVec 32 := 8#32
  let v1 : BitVec 32 := Scalar.muli arg1 c8_i32
  let v2 : BitVec 32 := Scalar.addi v0 v1
  let v3 : BitVec 32 := Scalar.addi v2 c0_i32
  let v4 : Index := Scalar.indexCast v3
  ![v4.toNat]
def cc0_transform_0 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c0_i32 : BitVec 32 := 0#32
  let v3 : BitVec 32 := Scalar.addi v2 c0_i32
  let v4 : Index := Scalar.indexCast v3
  let v5 : BitVec 32 := pf.at 0 (Rect.unit (s := S2048) ![v4.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![v5.toNat, c0_i32_0.toNat, c0_i32_1.toNat, c0_i32_2.toNat]

def cc0_transform_1 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c1_i32 : BitVec 32 := 1#32
  let v3 : BitVec 32 := Scalar.addi v2 c1_i32
  let v4 : Index := Scalar.indexCast v3
  let v5 : BitVec 32 := pf.at 0 (Rect.unit (s := S2048) ![v4.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_2 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c2_i32 : BitVec 32 := 2#32
  let v3 : BitVec 32 := Scalar.addi v2 c2_i32
  let v4 : Index := Scalar.indexCast v3
  let v5 : BitVec 32 := pf.at 0 (Rect.unit (s := S2048) ![v4.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_3 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c3_i32 : BitVec 32 := 3#32
  let v3 : BitVec 32 := Scalar.addi v2 c3_i32
  let v4 : Index := Scalar.indexCast v3
  let v5 : BitVec 32 := pf.at 0 (Rect.unit (s := S2048) ![v4.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_4 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c4_i32 : BitVec 32 := 4#32
  let v3 : BitVec 32 := Scalar.addi v2 c4_i32
  let v4 : Index := Scalar.indexCast v3
  let v5 : BitVec 32 := pf.at 0 (Rect.unit (s := S2048) ![v4.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_5 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c5_i32 : BitVec 32 := 5#32
  let v3 : BitVec 32 := Scalar.addi v2 c5_i32
  let v4 : Index := Scalar.indexCast v3
  let v5 : BitVec 32 := pf.at 0 (Rect.unit (s := S2048) ![v4.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_6 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c6_i32 : BitVec 32 := 6#32
  let v3 : BitVec 32 := Scalar.addi v2 c6_i32
  let v4 : Index := Scalar.indexCast v3
  let v5 : BitVec 32 := pf.at 0 (Rect.unit (s := S2048) ![v4.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_7 (k0_off1_inb : ∀ i : grid0.Coords, ∀ (r : Fin 8), ∀ a, (k0_off1 i (BitVec.ofNat 32 r.val)) a + S1.size a ≤ S2048.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c8_i32 : BitVec 32 := 8#32
  let v1 : BitVec 32 := Scalar.muli arg1 c8_i32
  let v2 : BitVec 32 := Scalar.addi v0 v1
  let c7_i32 : BitVec 32 := 7#32
  let v3 : BitVec 32 := Scalar.addi v2 c7_i32
  let v4 : Index := Scalar.indexCast v3
  let v5 : BitVec 32 := pf.at 0 (Rect.unit (s := S2048) ![v4.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![v5.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S32x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S1x2560x128x2x4x128 : Shape := ⟨6, ![1, 2560, 128, 2, 4, 128]⟩
abbrev S32x64 : Shape := ⟨2, ![32, 64]⟩
abbrev S1x2x32x128 : Shape := ⟨4, ![1, 2, 32, 128]⟩
abbrev S1x2x32x128x128 : Shape := ⟨5, ![1, 2, 32, 128, 128]⟩
abbrev S2560x128x2x4x128 : Shape := ⟨5, ![2560, 128, 2, 4, 128]⟩
abbrev S2x32x128 : Shape := ⟨3, ![2, 32, 128]⟩
abbrev S2x32x128x128 : Shape := ⟨4, ![2, 32, 128, 128]⟩
abbrev S_ : Shape := ⟨0, ![]⟩
abbrev S32x64x1 : Shape := ⟨3, ![32, 64, 1]⟩
abbrev S32x64x128x2x4x128 : Shape := ⟨6, ![32, 64, 128, 2, 4, 128]⟩
abbrev S32x8192x2x4x128 : Shape := ⟨5, ![32, 8192, 2, 4, 128]⟩
abbrev S32x256x32x2x4x128 : Shape := ⟨6, ![32, 256, 32, 2, 4, 128]⟩
abbrev S32x2x128 : Shape := ⟨3, ![32, 2, 128]⟩
abbrev S1x1x32x2x1x128 : Shape := ⟨6, ![1, 1, 32, 2, 1, 128]⟩
abbrev S2x128x32x256x4 : Shape := ⟨5, ![2, 128, 32, 256, 4]⟩
abbrev S32x256x2x4x128 : Shape := ⟨5, ![32, 256, 2, 4, 128]⟩
abbrev S32x256x8x128 : Shape := ⟨4, ![32, 256, 8, 128]⟩

abbrev nBuf : Space → Nat
  | .hbm => 25
  | .vmem => 0
  | .smem => 0
  | _ => 0

abbrev bufTy : (tb : Table) → Fin (tcTables nBuf tb) → BufTy
  | .hbm, ⟨0, _⟩ => ⟨S1x2560x128x2x4x128, .f32⟩
  | .hbm, ⟨1, _⟩ => ⟨S32x64, .i32⟩
  | .hbm, ⟨2, _⟩ => ⟨S1x2x32x128, .f32⟩
  | .hbm, ⟨3, _⟩ => ⟨S1x2x32x128x128, .f32⟩
  | .hbm, ⟨4, _⟩ => ⟨S2560x128x2x4x128, .f32⟩
  | .hbm, ⟨5, _⟩ => ⟨S2x32x128, .f32⟩
  | .hbm, ⟨6, _⟩ => ⟨S2x32x128x128, .f32⟩
  | .hbm, ⟨7, _⟩ => ⟨S_, .i32⟩
  | .hbm, ⟨8, _⟩ => ⟨S32x64, .i32⟩
  | .hbm, ⟨9, _⟩ => ⟨S32x64, .i1⟩
  | .hbm, ⟨10, _⟩ => ⟨S_, .i32⟩
  | .hbm, ⟨11, _⟩ => ⟨S32x64, .i32⟩
  | .hbm, ⟨12, _⟩ => ⟨S32x64, .i32⟩
  | .hbm, ⟨13, _⟩ => ⟨S32x64, .i32⟩
  | .hbm, ⟨14, _⟩ => ⟨S32x64x1, .i32⟩
  | .hbm, ⟨15, _⟩ => ⟨S32x64x128x2x4x128, .f32⟩
  | .hbm, ⟨16, _⟩ => ⟨S32x8192x2x4x128, .f32⟩
  | .hbm, ⟨17, _⟩ => ⟨S32x256x32x2x4x128, .f32⟩
  | .hbm, ⟨18, _⟩ => ⟨S32x2x128, .f32⟩
  | .hbm, ⟨19, _⟩ => ⟨S1x1x32x2x1x128, .f32⟩
  | .hbm, ⟨20, _⟩ => ⟨S32x256x32x2x4x128, .f32⟩
  | .hbm, ⟨21, _⟩ => ⟨S32x256x32x2x4x128, .f32⟩
  | .hbm, ⟨22, _⟩ => ⟨S2x128x32x256x4, .f32⟩
  | .hbm, ⟨23, _⟩ => ⟨S32x256x2x4x128, .f32⟩
  | .hbm, ⟨24, _⟩ => ⟨S32x256x8x128, .f32⟩
  | _, _ => ⟨S1x2560x128x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel2.lean ====
abbrev S4x2048x4096 : Shape := ⟨3, ![4, 2048, 4096]⟩
abbrev S32x4x4096 : Shape := ⟨3, ![32, 4, 4096]⟩
abbrev S4x4096 : Shape := ⟨2, ![4, 4096]⟩
abbrev S32x4096 : Shape := ⟨2, ![32, 4096]⟩
abbrev S1x4096x24576 : Shape := ⟨3, ![1, 4096, 24576]⟩
abbrev S1x24576 : Shape := ⟨2, ![1, 24576]⟩
abbrev S1x4x4096 : Shape := ⟨3, ![1, 4, 4096]⟩
abbrev S1x4096x11760 : Shape := ⟨3, ![1, 4096, 11760]⟩
abbrev S1x32x512x2x4x128 : Shape := ⟨6, ![1, 32, 512, 2, 4, 128]⟩
abbrev S4096x11760 : Shape := ⟨2, ![4096, 11760]⟩
abbrev S4096x6144 : Shape := ⟨2, ![4096, 6144]⟩
abbrev S4096x96 : Shape := ⟨2, ![4096, 96]⟩
abbrev S_ : Shape := ⟨0, ![]⟩
abbrev S4096x32 : Shape := ⟨2, ![4096, 32]⟩
abbrev S4096x5376 : Shape := ⟨2, ![4096, 5376]⟩
abbrev S4096x12 : Shape := ⟨2, ![4096, 12]⟩
abbrev S4096x116 : Shape := ⟨2, ![4096, 116]⟩
abbrev S4096x12288 : Shape := ⟨2, ![4096, 12288]⟩
abbrev S36x4096 : Shape := ⟨2, ![36, 4096]⟩
abbrev S4096x24576 : Shape := ⟨2, ![4096, 24576]⟩
abbrev S40x4096 : Shape := ⟨2, ![40, 4096]⟩
abbrev S40x24576 : Shape := ⟨2, ![40, 24576]⟩
abbrev S4096x512 : Shape := ⟨2, ![4096, 512]⟩
abbrev S40x512 : Shape := ⟨2, ![40, 512]⟩
abbrev S36x24576 : Shape := ⟨2, ![36, 24576]⟩
abbrev S24576 : Shape := ⟨1, ![24576]⟩
abbrev S4x24576 : Shape := ⟨2, ![4, 24576]⟩
abbrev S4x6x1x4096 : Shape := ⟨4, ![4, 6, 1, 4096]⟩
abbrev S1x1x4096 : Shape := ⟨3, ![1, 1, 4096]⟩
abbrev S4096 : Shape := ⟨1, ![4096]⟩
abbrev S4x2048 : Shape := ⟨2, ![4, 2048]⟩
abbrev S4x2048x1 : Shape := ⟨3, ![4, 2048, 1]⟩
abbrev S4x1x1x4096 : Shape := ⟨4, ![4, 1, 1, 4096]⟩
abbrev S4x1x4096 : Shape := ⟨3, ![4, 1, 4096]⟩
abbrev S8192x4096 : Shape := ⟨2, ![8192, 4096]⟩
abbrev S8192x12288 : Shape := ⟨2, ![8192, 12288]⟩
abbrev S1024x4096 : Shape := ⟨2, ![1024, 4096]⟩
abbrev S1024x512 : Shape := ⟨2, ![1024, 512]⟩
abbrev S8192x6144 : Shape := ⟨2, ![8192, 6144]⟩
abbrev S8192x96 : Shape := ⟨2, ![8192, 96]⟩
abbrev S8192x256 : Shape := ⟨2, ![8192, 256]⟩
abbrev S8192x6592 : Shape := ⟨2, ![8192, 6592]⟩
abbrev S8192x2048 : Shape := ⟨2, ![8192, 2048]⟩
abbrev S8192x12 : Shape := ⟨2, ![8192, 12]⟩
abbrev S8192x48 : Shape := ⟨2, ![8192, 48]⟩
abbrev S4x2048x12288 : Shape := ⟨3, ![4, 2048, 12288]⟩
abbrev S4x1x12288 : Shape := ⟨3, ![4, 1, 12288]⟩
abbrev S4x12288 : Shape := ⟨2, ![4, 12288]⟩
abbrev S4x6144 : Shape := ⟨2, ![4, 6144]⟩
abbrev S4x96 : Shape := ⟨2, ![4, 96]⟩
abbrev S4x256 : Shape := ⟨2, ![4, 256]⟩
abbrev S4x6592 : Shape := ⟨2, ![4, 6592]⟩
abbrev S8192x3072 : Shape := ⟨2, ![8192, 3072]⟩
abbrev S4x2048x3x2x4x128 : Shape := ⟨6, ![4, 2048, 3, 2, 4, 128]⟩
abbrev S4x2048x1x2x4x128 : Shape := ⟨6, ![4, 2048, 1, 2, 4, 128]⟩
abbrev S4x2048x2x4x128 : Shape := ⟨5, ![4, 2048, 2, 4, 128]⟩
abbrev S4x512x2x4x128 : Shape := ⟨5, ![4, 512, 2, 4, 128]⟩
abbrev S32x24576 : Shape := ⟨2, ![32, 24576]⟩
abbrev S32x6x1x4096 : Shape := ⟨4, ![32, 6, 1, 4096]⟩
abbrev S32x4 : Shape := ⟨2, ![32, 4]⟩
abbrev S32x4x1 : Shape := ⟨3, ![32, 4, 1]⟩
abbrev S32x1x1x4096 : Shape := ⟨4, ![32, 1, 1, 4096]⟩
abbrev S32x1x4096 : Shape := ⟨3, ![32, 1, 4096]⟩
abbrev S128x4096 : Shape := ⟨2, ![128, 4096]⟩
abbrev S128x12288 : Shape := ⟨2, ![128, 12288]⟩
abbrev S128x512 : Shape := ⟨2, ![128, 512]⟩
abbrev S32x4x12288 : Shape := ⟨3, ![32, 4, 12288]⟩
abbrev S32x4x3072 : Shape := ⟨3, ![32, 4, 3072]⟩
abbrev S32x4x3x2x4x128 : Shape := ⟨6, ![32, 4, 3, 2, 4, 128]⟩
abbrev S32x4x1x2x4x128 : Shape := ⟨6, ![32, 4, 1, 2, 4, 128]⟩
abbrev S32x4x2x4x128 : Shape := ⟨5, ![32, 4, 2, 4, 128]⟩
abbrev S32x1x12288 : Shape := ⟨3, ![32, 1, 12288]⟩
abbrev S32x12288 : Shape := ⟨2, ![32, 12288]⟩
abbrev S32x6144 : Shape := ⟨2, ![32, 6144]⟩
abbrev S32x96 : Shape := ⟨2, ![32, 96]⟩
abbrev S32x256 : Shape := ⟨2, ![32, 256]⟩
abbrev S32x6592 : Shape := ⟨2, ![32, 6592]⟩
abbrev S32x512x2x4x128 : Shape := ⟨5, ![32, 512, 2, 4, 128]⟩
abbrev S32x516x2x4x128 : Shape := ⟨5, ![32, 516, 2, 4, 128]⟩
abbrev S1x4x2048x2x4x128 : Shape := ⟨6, ![1, 4, 2048, 2, 4, 128]⟩
abbrev S1x4x512x2x4x128 : Shape := ⟨6, ![1, 4, 512, 2, 4, 128]⟩
abbrev S1x4x6592 : Shape := ⟨3, ![1, 4, 6592]⟩
abbrev S1x32x4x2x4x128 : Shape := ⟨6, ![1, 32, 4, 2, 4, 128]⟩
abbrev S1x32x6592 : Shape := ⟨3, ![1, 32, 6592]⟩

abbrev nBuf : Space → Nat
  | .hbm => 175
  | .vmem => 16
  | .smem => 0
  | _ => 0

abbrev hbmTy0_0 (i : Nat) : BufTy := match i % 128 with
  | 0 => ⟨S4x2048x4096, .f32⟩
  | 1 => ⟨S32x4x4096, .f32⟩
  | 2 => ⟨S4x4096, .f32⟩
  | 3 => ⟨S32x4096, .f32⟩
  | 4 => ⟨S1x4096x24576, .f32⟩
  | 5 => ⟨S1x24576, .f32⟩
  | 6 => ⟨S1x4x4096, .f32⟩
  | 7 => ⟨S1x4096x11760, .f32⟩
  | 8 => ⟨S1x32x512x2x4x128, .f32⟩
  | 9 => ⟨S4096x11760, .f32⟩
  | 10 => ⟨S4096x6144, .f32⟩
  | 11 => ⟨S4096x96, .f32⟩
  | 12 => ⟨S_, .f32⟩
  | 13 => ⟨S4096x32, .f32⟩
  | 14 => ⟨S4096x96, .f32⟩
  | 15 => ⟨S_, .f32⟩
  | 16 => ⟨S4096x32, .f32⟩
  | 17 => ⟨S4096x5376, .f32⟩
  | 18 => ⟨S4096x12, .f32⟩
  | 19 => ⟨S_, .f32⟩
  | 20 => ⟨S4096x116, .f32⟩
  | 21 => ⟨S4096x12, .f32⟩
  | 22 => ⟨S_, .f32⟩
  | 23 => ⟨S4096x116, .f32⟩
  | 24 => ⟨S4096x12, .f32⟩
  | 25 => ⟨S_, .f32⟩
  | 26 => ⟨S4096x116, .f32⟩
  | 27 => ⟨S4096x12, .f32⟩
  | 28 => ⟨S_, .f32⟩
  | 29 => ⟨S4096x116, .f32⟩
  | 30 => ⟨S4096x12288, .f32⟩
  | 31 => ⟨S4096x12288, .bf16⟩
  | 32 => ⟨S36x4096, .f32⟩
  | 33 => ⟨S36x4096, .f32⟩
  | 34 => ⟨S36x4096, .f32⟩
  | 35 => ⟨S_, .f32⟩
  | 36 => ⟨S36x4096, .f32⟩
  | 37 => ⟨S36x4096, .f32⟩
  | 38 => ⟨S_, .f32⟩
  | 39 => ⟨S36x4096, .f32⟩
  | 40 => ⟨S36x4096, .f32⟩
  | 41 => ⟨S36x4096, .f32⟩
  | 42 => ⟨S4096x24576, .f32⟩
  | 43 => ⟨S_, .i32⟩
  | 44 => ⟨S_, .f32⟩
  | 45 => ⟨S40x4096, .f32⟩
  | 46 => ⟨S40x24576, .f32⟩
  | 47 => ⟨S36x24576, .f32⟩
  | 48 => ⟨S24576, .f32⟩
  | 49 => ⟨S1x24576, .f32⟩
  | 50 => ⟨S36x24576, .f32⟩
  | 51 => ⟨S36x24576, .f32⟩
  | 52 => ⟨S4x24576, .f32⟩
  | 53 => ⟨S4x6x1x4096, .f32⟩
  | 54 => ⟨S1x1x4096, .f32⟩
  | 55 => ⟨S4096, .f32⟩
  | 56 => ⟨S4x2048x4096, .f32⟩
  | 57 => ⟨S_, .f32⟩
  | 58 => ⟨S4x2048, .f32⟩
  | 59 => ⟨S4x2048x1, .f32⟩
  | 60 => ⟨S_, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x1, .f32⟩
  | 67 => ⟨S4x2048x4096, .f32⟩
  | 68 => ⟨S4x2048x4096, .f32⟩
  | 69 => ⟨S1x1x4096, .f32⟩
  | 70 => ⟨S4x2048x4096, .f32⟩
  | 71 => ⟨S4x2048x4096, .f32⟩
  | 72 => ⟨S4x1x1x4096, .f32⟩
  | 73 => ⟨S4x1x4096, .f32⟩
  | 74 => ⟨S_, .f32⟩
  | 75 => ⟨S4x1x4096, .f32⟩
  | 76 => ⟨S4x1x4096, .f32⟩
  | 77 => ⟨S4x2048x4096, .f32⟩
  | 78 => ⟨S4x2048x4096, .f32⟩
  | 79 => ⟨S4x1x1x4096, .f32⟩
  | 80 => ⟨S4x1x4096, .f32⟩
  | 81 => ⟨S4x2048x4096, .f32⟩
  | 82 => ⟨S4x2048x4096, .f32⟩
  | 83 => ⟨S4x2048x4096, .bf16⟩
  | 84 => ⟨S8192x4096, .bf16⟩
  | 85 => ⟨S8192x12288, .f32⟩
  | 86 => ⟨S8192x6144, .f32⟩
  | 87 => ⟨S8192x96, .f32⟩
  | 88 => ⟨S8192x96, .f32⟩
  | 89 => ⟨S8192x256, .f32⟩
  | 90 => ⟨S8192x6592, .f32⟩
  | 91 => ⟨S8192x2048, .f32⟩
  | 92 => ⟨S8192x12, .f32⟩
  | 93 => ⟨S8192x12, .f32⟩
  | 94 => ⟨S8192x12, .f32⟩
  | 95 => ⟨S8192x12, .f32⟩
  | 96 => ⟨S8192x48, .f32⟩
  | 97 => ⟨S4x2048x12288, .f32⟩
  | 98 => ⟨S4x1x12288, .f32⟩
  | 99 => ⟨S4x12288, .f32⟩
  | 100 => ⟨S4x6144, .f32⟩
  | 101 => ⟨S4x96, .f32⟩
  | 102 => ⟨S4x96, .f32⟩
  | 103 => ⟨S4x256, .f32⟩
  | 104 => ⟨S4x6592, .f32⟩
  | 105 => ⟨S8192x3072, .f32⟩
  | 106 => ⟨S4x2048x3x2x4x128, .f32⟩
  | 107 => ⟨S4x2048x1x2x4x128, .f32⟩
  | 108 => ⟨S4x2048x2x4x128, .f32⟩
  | 109 => ⟨S4x2048x1x2x4x128, .f32⟩
  | 110 => ⟨S4x2048x2x4x128, .f32⟩
  | 111 => ⟨S4x2048x1x2x4x128, .f32⟩
  | 112 => ⟨S4x2048x2x4x128, .f32⟩
  | 113 => ⟨S4x512x2x4x128, .f32⟩
  | 114 => ⟨S32x24576, .f32⟩
  | 115 => ⟨S32x6x1x4096, .f32⟩
  | 116 => ⟨S1x1x4096, .f32⟩
  | 117 => ⟨S4096, .f32⟩
  | 118 => ⟨S32x4x4096, .f32⟩
  | 119 => ⟨S_, .f32⟩
  | 120 => ⟨S32x4, .f32⟩
  | 121 => ⟨S32x4x1, .f32⟩
  | 122 => ⟨S_, .f32⟩
  | 123 => ⟨S32x4x1, .f32⟩
  | 124 => ⟨S32x4x1, .f32⟩
  | 125 => ⟨S_, .f32⟩
  | 126 => ⟨S32x4x1, .f32⟩
  | 127 => ⟨S32x4x1, .f32⟩
  | _ => ⟨S4x2048x4096, .f32⟩

abbrev hbmTy0_1 (i : Nat) : BufTy := match i % 128 with
  | 0 => ⟨S32x4x1, .f32⟩
  | 1 => ⟨S32x4x4096, .f32⟩
  | 2 => ⟨S32x4x4096, .f32⟩
  | 3 => ⟨S1x1x4096, .f32⟩
  | 4 => ⟨S32x4x4096, .f32⟩
  | 5 => ⟨S32x4x4096, .f32⟩
  | 6 => ⟨S32x1x1x4096, .f32⟩
  | 7 => ⟨S32x1x4096, .f32⟩
  | 8 => ⟨S_, .f32⟩
  | 9 => ⟨S32x1x4096, .f32⟩
  | 10 => ⟨S32x1x4096, .f32⟩
  | 11 => ⟨S32x4x4096, .f32⟩
  | 12 => ⟨S32x4x4096, .f32⟩
  | 13 => ⟨S32x1x1x4096, .f32⟩
  | 14 => ⟨S32x1x4096, .f32⟩
  | 15 => ⟨S32x4x4096, .f32⟩
  | 16 => ⟨S32x4x4096, .f32⟩
  | 17 => ⟨S32x4x4096, .bf16⟩
  | 18 => ⟨S128x4096, .bf16⟩
  | 19 => ⟨S128x12288, .f32⟩
  | 20 => ⟨S32x4x12288, .f32⟩
  | 21 => ⟨S32x4x3072, .f32⟩
  | 22 => ⟨S32x4x3x2x4x128, .f32⟩
  | 23 => ⟨S32x4x1x2x4x128, .f32⟩
  | 24 => ⟨S32x4x2x4x128, .f32⟩
  | 25 => ⟨S32x4x1x2x4x128, .f32⟩
  | 26 => ⟨S32x4x2x4x128, .f32⟩
  | 27 => ⟨S32x4x1x2x4x128, .f32⟩
  | 28 => ⟨S32x4x2x4x128, .f32⟩
  | 29 => ⟨S32x1x12288, .f32⟩
  | 30 => ⟨S32x12288, .f32⟩
  | 31 => ⟨S32x6144, .f32⟩
  | 32 => ⟨S32x96, .f32⟩
  | 33 => ⟨S32x96, .f32⟩
  | 34 => ⟨S32x256, .f32⟩
  | 35 => ⟨S32x6592, .f32⟩
  | 36 => ⟨S32x512x2x4x128, .f32⟩
  | 37 => ⟨S32x516x2x4x128, .f32⟩
  | 38 => ⟨S32x512x2x4x128, .f32⟩
  | 39 => ⟨S1x4x2048x2x4x128, .f32⟩
  | 40 => ⟨S1x4x2048x2x4x128, .f32⟩
  | 41 => ⟨S1x4x512x2x4x128, .f32⟩
  | 42 => ⟨S1x4x6592, .f32⟩
  | 43 => ⟨S1x32x4x2x4x128, .f32⟩
  | 44 => ⟨S1x32x4x2x4x128, .f32⟩
  | 45 => ⟨S1x32x512x2x4x128, .f32⟩
  | 46 => ⟨S1x32x6592, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | .local _ .vmem, ⟨0, _⟩ => ⟨S40x4096, .f32⟩
  | .local _ .vmem, ⟨1, _⟩ => ⟨S4096x512, .f32⟩
  | .local _ .vmem, ⟨2, _⟩ => ⟨S4096x512, .f32⟩
  | .local _ .vmem, ⟨3, _⟩ => ⟨S40x512, .f32⟩
  | .local _ .vmem, ⟨4, _⟩ => ⟨S40x512, .f32⟩
  | .local _ .vmem, ⟨5, _⟩ => ⟨S1024x4096, .bf16⟩
  | .local _ .vmem, ⟨6, _⟩ => ⟨S1024x4096, .bf16⟩
  | .local _ .vmem, ⟨7, _⟩ => ⟨S4096x512, .bf16⟩
  | .local _ .vmem, ⟨8, _⟩ => ⟨S4096x512, .bf16⟩
  | .local _ .vmem, ⟨9, _⟩ => ⟨S1024x512, .f32⟩
  | .local _ .vmem, ⟨10, _⟩ => ⟨S1024x512, .f32⟩
  | .local _ .vmem, ⟨11, _⟩ => ⟨S128x4096, .bf16⟩
  | .local _ .vmem, ⟨12, _⟩ => ⟨S4096x512, .bf16⟩
  | .local _ .vmem, ⟨13, _⟩ => ⟨S4096x512, .bf16⟩
  | .local _ .vmem, ⟨14, _⟩ => ⟨S128x512, .f32⟩
  | .local _ .vmem, ⟨15, _⟩ => ⟨S128x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_call1_v0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_9 : Ref sig .tc := ⟨.hbm, 119, rfl⟩
abbrev main_v90 : Ref sig .tc := ⟨.hbm, 120, rfl⟩
abbrev main_v91 : Ref sig .tc := ⟨.hbm, 121, rfl⟩
abbrev main_cst_10 : Ref sig .tc := ⟨.hbm, 122, rfl⟩
abbrev main_v92 : Ref sig .tc := ⟨.hbm, 123, rfl⟩
abbrev main_v93 : Ref sig .tc := ⟨.hbm, 124, rfl⟩
abbrev main_cst_11 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_12 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![1, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S40x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S40x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 24], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 24], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference2Ideal.lean ====
abbrev S4x2048x4096 : Shape := ⟨3, ![4, 2048, 4096]⟩
abbrev S32x4x4096 : Shape := ⟨3, ![32, 4, 4096]⟩
abbrev S4x4096 : Shape := ⟨2, ![4, 4096]⟩
abbrev S32x4096 : Shape := ⟨2, ![32, 4096]⟩
abbrev S1x4096x24576 : Shape := ⟨3, ![1, 4096, 24576]⟩
abbrev S1x24576 : Shape := ⟨2, ![1, 24576]⟩
abbrev S1x4x4096 : Shape := ⟨3, ![1, 4, 4096]⟩
abbrev S1x4096x11760 : Shape := ⟨3, ![1, 4096, 11760]⟩
abbrev S1x32x512x2x4x128 : Shape := ⟨6, ![1, 32, 512, 2, 4, 128]⟩
abbrev S_ : Shape := ⟨0, ![]⟩
abbrev S4096x24576 : Shape := ⟨2, ![4096, 24576]⟩
abbrev S4x24576 : Shape := ⟨2, ![4, 24576]⟩
abbrev S24576 : Shape := ⟨1, ![24576]⟩
abbrev S4x6x1x4096 : Shape := ⟨4, ![4, 6, 1, 4096]⟩
abbrev S4x2048 : Shape := ⟨2, ![4, 2048]⟩
abbrev S4x2048x1 : Shape := ⟨3, ![4, 2048, 1]⟩
abbrev S1x1x4096 : Shape := ⟨3, ![1, 1, 4096]⟩
abbrev S4096 : Shape := ⟨1, ![4096]⟩
abbrev S4x1x1x4096 : Shape := ⟨4, ![4, 1, 1, 4096]⟩
abbrev S4x1x4096 : Shape := ⟨3, ![4, 1, 4096]⟩
abbrev S4096x11760 : Shape := ⟨2, ![4096, 11760]⟩
abbrev S4x2048x11760 : Shape := ⟨3, ![4, 2048, 11760]⟩
abbrev S4x2048x6592 : Shape := ⟨3, ![4, 2048, 6592]⟩
abbrev S4x2048x5168 : Shape := ⟨3, ![4, 2048, 5168]⟩
abbrev S4x2048x2048 : Shape := ⟨3, ![4, 2048, 2048]⟩
abbrev S4x2048x3072 : Shape := ⟨3, ![4, 2048, 3072]⟩
abbrev S4x2048x3x2x4x128 : Shape := ⟨6, ![4, 2048, 3, 2, 4, 128]⟩
abbrev S4x2048x48 : Shape := ⟨3, ![4, 2048, 48]⟩
abbrev S8192x6592 : Shape := ⟨2, ![8192, 6592]⟩
abbrev S8192x2048 : Shape := ⟨2, ![8192, 2048]⟩
abbrev S8192x48 : Shape := ⟨2, ![8192, 48]⟩
abbrev S4x2048x1x2x4x128 : Shape := ⟨6, ![4, 2048, 1, 2, 4, 128]⟩
abbrev S4x2048x2x4x128 : Shape := ⟨5, ![4, 2048, 2, 4, 128]⟩
abbrev S1x4x2048x2x4x128 : Shape := ⟨6, ![1, 4, 2048, 2, 4, 128]⟩
abbrev S4x512x1x2x4x128 : Shape := ⟨6, ![4, 512, 1, 2, 4, 128]⟩
abbrev S4x512x2x4x128 : Shape := ⟨5, ![4, 512, 2, 4, 128]⟩
abbrev S1x4x512x2x4x128 : Shape := ⟨6, ![1, 4, 512, 2, 4, 128]⟩
abbrev S4x1x6592 : Shape := ⟨3, ![4, 1, 6592]⟩
abbrev S4x6592 : Shape := ⟨2, ![4, 6592]⟩
abbrev S1x4x6592 : Shape := ⟨3, ![1, 4, 6592]⟩
abbrev S32x24576 : Shape := ⟨2, ![32, 24576]⟩
abbrev S32x6x1x4096 : Shape := ⟨4, ![32, 6, 1, 4096]⟩
abbrev S32x4 : Shape := ⟨2, ![32, 4]⟩
abbrev S32x4x1 : Shape := ⟨3, ![32, 4, 1]⟩
abbrev S32x1x1x4096 : Shape := ⟨4, ![32, 1, 1, 4096]⟩
abbrev S32x1x4096 : Shape := ⟨3, ![32, 1, 4096]⟩
abbrev S32x4x11760 : Shape := ⟨3, ![32, 4, 11760]⟩
abbrev S32x4x6592 : Shape := ⟨3, ![32, 4, 6592]⟩
abbrev S32x4x5168 : Shape := ⟨3, ![32, 4, 5168]⟩
abbrev S32x4x3072 : Shape := ⟨3, ![32, 4, 3072]⟩
abbrev S32x4x3x2x4x128 : Shape := ⟨6, ![32, 4, 3, 2, 4, 128]⟩
abbrev S32x512x2x4x128 : Shape := ⟨5, ![32, 512, 2, 4, 128]⟩
abbrev S32x4x1x2x4x128 : Shape := ⟨6, ![32, 4, 1, 2, 4, 128]⟩
abbrev S32x4x2x4x128 : Shape := ⟨5, ![32, 4, 2, 4, 128]⟩
abbrev S32x516x2x4x128 : Shape := ⟨5, ![32, 516, 2, 4, 128]⟩
abbrev S1x32x4x2x4x128 : Shape := ⟨6, ![1, 32, 4, 2, 4, 128]⟩
abbrev S32x1x6592 : Shape := ⟨3, ![32, 1, 6592]⟩
abbrev S32x6592 : Shape := ⟨2, ![32, 6592]⟩
abbrev S1x32x6592 : Shape := ⟨3, ![1, 32, 6592]⟩

abbrev nBuf : Space → Nat
  | .hbm => 143
  | .vmem => 0
  | .smem => 0
  | _ => 0

abbrev hbmTy0_0 (i : Nat) : BufTy := match i % 128 with
  | 0 => ⟨S4x2048x4096, .f32⟩
  | 1 => ⟨S32x4x4096, .f32⟩
  | 2 => ⟨S4x4096, .f32⟩
  | 3 => ⟨S32x4096, .f32⟩
  | 4 => ⟨S1x4096x24576, .f32⟩
  | 5 => ⟨S1x24576, .f32⟩
  | 6 => ⟨S1x4x4096, .f32⟩
  | 7 => ⟨S1x4096x11760, .f32⟩
  | 8 => ⟨S1x32x512x2x4x128, .f32⟩
  | 9 => ⟨S4x4096, .f32⟩
  | 10 => ⟨S4x4096, .f32⟩
  | 11 => ⟨S_, .f32⟩
  | 12 => ⟨S4x4096, .f32⟩
  | 13 => ⟨S4x4096, .f32⟩
  | 14 => ⟨S_, .f32⟩
  | 15 => ⟨S4x4096, .f32⟩
  | 16 => ⟨S4x4096, .f32⟩
  | 17 => ⟨S4x4096, .f32⟩
  | 18 => ⟨S4096x24576, .f32⟩
  | 19 => ⟨S4x24576, .f32⟩
  | 20 => ⟨S24576, .f32⟩
  | 21 => ⟨S1x24576, .f32⟩
  | 22 => ⟨S4x24576, .f32⟩
  | 23 => ⟨S4x24576, .f32⟩
  | 24 => ⟨S4x6x1x4096, .f32⟩
  | 25 => ⟨S4x2048x4096, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S_, .f32⟩
  | 33 => ⟨S4x2048x1, .f32⟩
  | 34 => ⟨S4x2048x1, .f32⟩
  | 35 => ⟨S4x2048x1, .f32⟩
  | 36 => ⟨S4x2048x4096, .f32⟩
  | 37 => ⟨S4x2048x4096, .f32⟩
  | 38 => ⟨S1x1x4096, .f32⟩
  | 39 => ⟨S4096, .f32⟩
  | 40 => ⟨S1x1x4096, .f32⟩
  | 41 => ⟨S4x2048x4096, .f32⟩
  | 42 => ⟨S4x2048x4096, .f32⟩
  | 43 => ⟨S4x1x1x4096, .f32⟩
  | 44 => ⟨S4x1x4096, .f32⟩
  | 45 => ⟨S_, .f32⟩
  | 46 => ⟨S4x1x4096, .f32⟩
  | 47 => ⟨S4x1x4096, .f32⟩
  | 48 => ⟨S4x2048x4096, .f32⟩
  | 49 => ⟨S4x2048x4096, .f32⟩
  | 50 => ⟨S4x1x1x4096, .f32⟩
  | 51 => ⟨S4x1x4096, .f32⟩
  | 52 => ⟨S4x2048x4096, .f32⟩
  | 53 => ⟨S4x2048x4096, .f32⟩
  | 54 => ⟨S4096x11760, .f32⟩
  | 55 => ⟨S4x2048x11760, .f32⟩
  | 56 => ⟨S4x2048x6592, .f32⟩
  | 57 => ⟨S4x2048x5168, .f32⟩
  | 58 => ⟨S4x2048x2048, .f32⟩
  | 59 => ⟨S4x2048x3072, .f32⟩
  | 60 => ⟨S4x2048x3x2x4x128, .f32⟩
  | 61 => ⟨S4x2048x48, .f32⟩
  | 62 => ⟨S8192x6592, .f32⟩
  | 63 => ⟨S8192x2048, .f32⟩
  | 64 => ⟨S8192x48, .f32⟩
  | 65 => ⟨S4x2048x1x2x4x128, .f32⟩
  | 66 => ⟨S4x2048x2x4x128, .f32⟩
  | 67 => ⟨S1x4x2048x2x4x128, .f32⟩
  | 68 => ⟨S4x2048x1x2x4x128, .f32⟩
  | 69 => ⟨S4x2048x2x4x128, .f32⟩
  | 70 => ⟨S1x4x2048x2x4x128, .f32⟩
  | 71 => ⟨S4x512x1x2x4x128, .f32⟩
  | 72 => ⟨S4x512x2x4x128, .f32⟩
  | 73 => ⟨S1x4x512x2x4x128, .f32⟩
  | 74 => ⟨S4x1x6592, .f32⟩
  | 75 => ⟨S4x6592, .f32⟩
  | 76 => ⟨S1x4x6592, .f32⟩
  | 77 => ⟨S32x4096, .f32⟩
  | 78 => ⟨S32x4096, .f32⟩
  | 79 => ⟨S_, .f32⟩
  | 80 => ⟨S32x4096, .f32⟩
  | 81 => ⟨S32x4096, .f32⟩
  | 82 => ⟨S_, .f32⟩
  | 83 => ⟨S32x4096, .f32⟩
  | 84 => ⟨S32x4096, .f32⟩
  | 85 => ⟨S32x4096, .f32⟩
  | 86 => ⟨S4096x24576, .f32⟩
  | 87 => ⟨S32x24576, .f32⟩
  | 88 => ⟨S24576, .f32⟩
  | 89 => ⟨S1x24576, .f32⟩
  | 90 => ⟨S32x24576, .f32⟩
  | 91 => ⟨S32x24576, .f32⟩
  | 92 => ⟨S32x6x1x4096, .f32⟩
  | 93 => ⟨S32x4x4096, .f32⟩
  | 94 => ⟨S_, .f32⟩
  | 95 => ⟨S32x4, .f32⟩
  | 96 => ⟨S32x4x1, .f32⟩
  | 97 => ⟨S_, .f32⟩
  | 98 => ⟨S32x4x1, .f32⟩
  | 99 => ⟨S32x4x1, .f32⟩
  | 100 => ⟨S_, .f32⟩
  | 101 => ⟨S32x4x1, .f32⟩
  | 102 => ⟨S32x4x1, .f32⟩
  | 103 => ⟨S32x4x1, .f32⟩
  | 104 => ⟨S32x4x4096, .f32⟩
  | 105 => ⟨S32x4x4096, .f32⟩
  | 106 => ⟨S1x1x4096, .f32⟩
  | 107 => ⟨S4096, .f32⟩
  | 108 => ⟨S1x1x4096, .f32⟩
  | 109 => ⟨S32x4x4096, .f32⟩
  | 110 => ⟨S32x4x4096, .f32⟩
  | 111 => ⟨S32x1x1x4096, .f32⟩
  | 112 => ⟨S32x1x4096, .f32⟩
  | 113 => ⟨S_, .f32⟩
  | 114 => ⟨S32x1x4096, .f32⟩
  | 115 => ⟨S32x1x4096, .f32⟩
  | 116 => ⟨S32x4x4096, .f32⟩
  | 117 => ⟨S32x4x4096, .f32⟩
  | 118 => ⟨S32x1x1x4096, .f32⟩
  | 119 => ⟨S32x1x4096, .f32⟩
  | 120 => ⟨S32x4x4096, .f32⟩
  | 121 => ⟨S32x4x4096, .f32⟩
  | 122 => ⟨S4096x11760, .f32⟩
  | 123 => ⟨S32x4x11760, .f32⟩
  | 124 => ⟨S32x4x6592, .f32⟩
  | 125 => ⟨S32x4x5168, .f32⟩
  | 126 => ⟨S32x4x3072, .f32⟩
  | 127 => ⟨S32x4x3x2x4x128, .f32⟩
  | _ => ⟨S4x2048x4096, .f32⟩

abbrev hbmTy0_1 (i : Nat) : BufTy := match i % 128 with
  | 0 => ⟨S32x512x2x4x128, .f32⟩
  | 1 => ⟨S32x4x1x2x4x128, .f32⟩
  | 2 => ⟨S32x4x2x4x128, .f32⟩
  | 3 => ⟨S32x516x2x4x128, .f32⟩
  | 4 => ⟨S32x512x2x4x128, .f32⟩
  | 5 => ⟨S32x4x1x2x4x128, .f32⟩
  | 6 => ⟨S32x4x2x4x128, .f32⟩
  | 7 => ⟨S1x32x4x2x4x128, .f32⟩
  | 8 => ⟨S32x4x1x2x4x128, .f32⟩
  | 9 => ⟨S32x4x2x4x128, .f32⟩
  | 10 => ⟨S1x32x4x2x4x128, .f32⟩
  | 11 => ⟨S1x32x512x2x4x128, .f32⟩
  | 12 => ⟨S32x1x6592, .f32⟩
  | 13 => ⟨S32x6592, .f32⟩
  | 14 => ⟨S1x32x6592, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_3 : Ref sig .tc := ⟨.hbm, 94, rfl⟩
abbrev main_v65 : Ref sig .tc := ⟨.hbm, 95, rfl⟩
abbrev main_v66 : Ref sig .tc := ⟨.hbm, 96, rfl⟩
abbrev main_cst_4 : Ref sig .tc := ⟨.hbm, 97, rfl⟩
abbrev main_v67 : Ref sig .tc := ⟨.hbm, 98, rfl⟩
abbrev main_v68 : Ref sig .tc := ⟨.hbm, 99, rfl⟩
abbrev main_cst_5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_6 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]
-- ==== Kernel3.lean ====
abbrev S4x2048x2048 : Shape := ⟨3, ![4, 2048, 2048]⟩
abbrev S32x4x2048 : Shape := ⟨3, ![32, 4, 2048]⟩
abbrev S1x2048 : Shape := ⟨2, ![1, 2048]⟩
abbrev S1x4096x4096 : Shape := ⟨3, ![1, 4096, 4096]⟩
abbrev S2048 : Shape := ⟨1, ![2048]⟩
abbrev S4096x4096 : Shape := ⟨2, ![4096, 4096]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x4096 : Shape := ⟨3, ![4, 2048, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩
abbrev S32x4 : Shape := ⟨2, ![32, 4]⟩
abbrev S32x4x1 : Shape := ⟨3, ![32, 4, 1]⟩
abbrev S32x4x4096 : Shape := ⟨3, ![32, 4, 4096]⟩
abbrev S128x4096 : Shape := ⟨2, ![128, 4096]⟩
abbrev S128x512 : Shape := ⟨2, ![128, 512]⟩

abbrev nBuf : Space → Nat
  | .hbm => 50
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S32x4x2048, .f32⟩
  | .hbm, ⟨3, _⟩ => ⟨S32x4x2048, .f32⟩
  | .hbm, ⟨4, _⟩ => ⟨S1x2048, .f32⟩
  | .hbm, ⟨5, _⟩ => ⟨S1x4096x4096, .f32⟩
  | .hbm, ⟨6, _⟩ => ⟨S2048, .f32⟩
  | .hbm, ⟨7, _⟩ => ⟨S4096x4096, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x2048x4096, .f32⟩
  | .hbm, ⟨25, _⟩ => ⟨S4x2048x4096, .bf16⟩
  | .hbm, ⟨26, _⟩ => ⟨S8192x4096, .bf16⟩
  | .hbm, ⟨27, _⟩ => ⟨S8192x4096, .f32⟩
  | .hbm, ⟨28, _⟩ => ⟨S4x2048x4096, .f32⟩
  | .hbm, ⟨29, _⟩ => ⟨S32x4x2048, .f32⟩
  | .hbm, ⟨30, _⟩ => ⟨S_, .f32⟩
  | .hbm, ⟨31, _⟩ => ⟨S32x4, .f32⟩
  | .hbm, ⟨32, _⟩ => ⟨S32x4x1, .f32⟩
  | .hbm, ⟨33, _⟩ => ⟨S_, .f32⟩
  | .hbm, ⟨34, _⟩ => ⟨S32x4x1, .f32⟩
  | .hbm, ⟨35, _⟩ => ⟨S32x4x1, .f32⟩
  | .hbm, ⟨36, _⟩ => ⟨S_, .f32⟩
  | .hbm, ⟨37, _⟩ => ⟨S32x4x1, .f32⟩
  | .hbm, ⟨38, _⟩ => ⟨S32x4x1, .f32⟩
  | .hbm, ⟨39, _⟩ => ⟨S32x4x1, .f32⟩
  | .hbm, ⟨40, _⟩ => ⟨S32x4x2048, .f32⟩
  | .hbm, ⟨41, _⟩ => ⟨S32x4x2048, .f32⟩
  | .hbm, ⟨42, _⟩ => ⟨S1x1x2048, .f32⟩
  | .hbm, ⟨43, _⟩ => ⟨S32x4x2048, .f32⟩
  | .hbm, ⟨44, _⟩ => ⟨S32x4x2048, .f32⟩
  | .hbm, ⟨45, _⟩ => ⟨S32x4x4096, .f32⟩
  | .hbm, ⟨46, _⟩ => ⟨S32x4x4096, .bf16⟩
  | .hbm, ⟨47, _⟩ => ⟨S128x4096, .bf16⟩
  | .hbm, ⟨48, _⟩ => ⟨S128x4096, .f32⟩
  | .hbm, ⟨49, _⟩ => ⟨S32x4x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S128x4096, .bf16⟩
  | .local _ .vmem, ⟨7, _⟩ => ⟨S4096x512, .f32⟩
  | .local _ .vmem, ⟨8, _⟩ => ⟨S4096x512, .f32⟩
  | .local _ .vmem, ⟨9, _⟩ => ⟨S128x512, .f32⟩
  | .local _ .vmem, ⟨10, _⟩ => ⟨S128x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference3Ideal.lean ====
abbrev S4x2048x2048 : Shape := ⟨3, ![4, 2048, 2048]⟩
abbrev S32x4x2048 : Shape := ⟨3, ![32, 4, 2048]⟩
abbrev S1x2048 : Shape := ⟨2, ![1, 2048]⟩
abbrev S1x4096x4096 : Shape := ⟨3, ![1, 4096, 4096]⟩
abbrev S_ : Shape := ⟨0, ![]⟩
abbrev S4x2048 : Shape := ⟨2, ![4, 2048]⟩
abbrev S4x2048x1 : Shape := ⟨3, ![4, 2048, 1]⟩
abbrev S2048 : Shape := ⟨1, ![2048]⟩
abbrev S1x1x2048 : Shape := ⟨3, ![1, 1, 2048]⟩
abbrev S4x2048x4096 : Shape := ⟨3, ![4, 2048, 4096]⟩
abbrev S4096x4096 : Shape := ⟨2, ![4096, 4096]⟩
abbrev S32x4 : Shape := ⟨2, ![32, 4]⟩
abbrev S32x4x1 : Shape := ⟨3, ![32, 4, 1]⟩
abbrev S32x4x4096 : Shape := ⟨3, ![32, 4, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S32x4x2048, .f32⟩
  | .hbm, ⟨3, _⟩ => ⟨S32x4x2048, .f32⟩
  | .hbm, ⟨4, _⟩ => ⟨S1x2048, .f32⟩
  | .hbm, ⟨5, _⟩ => ⟨S1x4096x4096, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x4096, .f32⟩
  | .hbm, ⟨24, _⟩ => ⟨S4096x4096, .f32⟩
  | .hbm, ⟨25, _⟩ => ⟨S4x2048x4096, .f32⟩
  | .hbm, ⟨26, _⟩ => ⟨S32x4x2048, .f32⟩
  | .hbm, ⟨27, _⟩ => ⟨S_, .f32⟩
  | .hbm, ⟨28, _⟩ => ⟨S32x4, .f32⟩
  | .hbm, ⟨29, _⟩ => ⟨S32x4x1, .f32⟩
  | .hbm, ⟨30, _⟩ => ⟨S_, .f32⟩
  | .hbm, ⟨31, _⟩ => ⟨S32x4x1, .f32⟩
  | .hbm, ⟨32, _⟩ => ⟨S32x4x1, .f32⟩
  | .hbm, ⟨33, _⟩ => ⟨S_, .f32⟩
  | .hbm, ⟨34, _⟩ => ⟨S32x4x1, .f32⟩
  | .hbm, ⟨35, _⟩ => ⟨S32x4x1, .f32⟩
  | .hbm, ⟨36, _⟩ => ⟨S32x4x1, .f32⟩
  | .hbm, ⟨37, _⟩ => ⟨S32x4x2048, .f32⟩
  | .hbm, ⟨38, _⟩ => ⟨S32x4x2048, .f32⟩
  | .hbm, ⟨39, _⟩ => ⟨S2048, .f32⟩
  | .hbm, ⟨40, _⟩ => ⟨S1x1x2048, .f32⟩
  | .hbm, ⟨41, _⟩ => ⟨S32x4x2048, .f32⟩
  | .hbm, ⟨42, _⟩ => ⟨S32x4x2048, .f32⟩
  | .hbm, ⟨43, _⟩ => ⟨S32x4x4096, .f32⟩
  | .hbm, ⟨44, _⟩ => ⟨S4096x4096, .f32⟩
  | .hbm, ⟨45, _⟩ => ⟨S32x4x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel4.lean ====
abbrev S81920x4096 : Shape := ⟨2, ![81920, 4096]⟩
abbrev S64x4096x512 : Shape := ⟨3, ![64, 4096, 512]⟩
abbrev S320 : Shape := ⟨1, ![320]⟩
abbrev S1 : Shape := ⟨1, ![1]⟩
abbrev S81920x512 : Shape := ⟨2, ![81920, 512]⟩
abbrev S256x4096 : Shape := ⟨2, ![256, 4096]⟩
abbrev S1x4096x512 : Shape := ⟨3, ![1, 4096, 512]⟩
abbrev S256x512 : Shape := ⟨2, ![256, 512]⟩
abbrev S4096x512 : Shape := ⟨2, ![4096, 512]⟩

abbrev nBuf : Space → Nat
  | .hbm => 4
  | .vmem => 10
  | .smem => 2
  | _ => 0

abbrev bufTy : (tb : Table) → Fin (tcTables nBuf tb) → BufTy
  | .hbm, ⟨0, _⟩ => ⟨S81920x4096, .bf16⟩
  | .hbm, ⟨1, _⟩ => ⟨S64x4096x512, .f32⟩
  | .hbm, ⟨2, _⟩ => ⟨S64x4096x512, .f32⟩
  | .hbm, ⟨3, _⟩ => ⟨S81920x512, .bf16⟩
  | .local _ .vmem, ⟨0, _⟩ => ⟨S256x4096, .bf16⟩
  | .local _ .vmem, ⟨1, _⟩ => ⟨S256x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S320, .i32⟩
  | .local _ .smem, ⟨1, _⟩ => ⟨S1, .i32⟩
  | _, _ => ⟨S81920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S81920x4096 : Shape := ⟨2, ![81920, 4096]⟩
abbrev S64x4096x512 : Shape := ⟨3, ![64, 4096, 512]⟩
abbrev S320 : Shape := ⟨1, ![320]⟩
abbrev S1 : Shape := ⟨1, ![1]⟩
abbrev S320x256x4096 : Shape := ⟨3, ![320, 256, 4096]⟩
abbrev S_ : Shape := ⟨0, ![]⟩
abbrev S320x1 : Shape := ⟨2, ![320, 1]⟩
abbrev S320x4096x512 : Shape := ⟨3, ![320, 4096, 512]⟩
abbrev S320x256x512 : Shape := ⟨3, ![320, 256, 512]⟩
abbrev S320x1x1 : Shape := ⟨3, ![320, 1, 1]⟩
abbrev S81920x512 : Shape := ⟨2, ![81920, 512]⟩

abbrev nBuf : Space → Nat
  | .hbm => 49
  | .vmem => 0
  | .smem => 0
  | _ => 0

abbrev bufTy : (tb : Table) → Fin (tcTables nBuf tb) → BufTy
  | .hbm, ⟨0, _⟩ => ⟨S81920x4096, .bf16⟩
  | .hbm, ⟨1, _⟩ => ⟨S64x4096x512, .f32⟩
  | .hbm, ⟨2, _⟩ => ⟨S64x4096x512, .f32⟩
  | .hbm, ⟨3, _⟩ => ⟨S320, .i32⟩
  | .hbm, ⟨4, _⟩ => ⟨S1, .i32⟩
  | .hbm, ⟨5, _⟩ => ⟨S320x256x4096, .bf16⟩
  | .hbm, ⟨6, _⟩ => ⟨S320x256x4096, .f32⟩
  | .hbm, ⟨7, _⟩ => ⟨S_, .i32⟩
  | .hbm, ⟨8, _⟩ => ⟨S320, .i32⟩
  | .hbm, ⟨9, _⟩ => ⟨S320, .i1⟩
  | .hbm, ⟨10, _⟩ => ⟨S_, .i32⟩
  | .hbm, ⟨11, _⟩ => ⟨S320, .i32⟩
  | .hbm, ⟨12, _⟩ => ⟨S320, .i32⟩
  | .hbm, ⟨13, _⟩ => ⟨S320, .i32⟩
  | .hbm, ⟨14, _⟩ => ⟨S320x1, .i32⟩
  | .hbm, ⟨15, _⟩ => ⟨S320x4096x512, .f32⟩
  | .hbm, ⟨16, _⟩ => ⟨S320x256x512, .f32⟩
  | .hbm, ⟨17, _⟩ => ⟨S320x256x512, .f32⟩
  | .hbm, ⟨18, _⟩ => ⟨S320x256x512, .f32⟩
  | .hbm, ⟨19, _⟩ => ⟨S_, .f32⟩
  | .hbm, ⟨20, _⟩ => ⟨S320x256x512, .f32⟩
  | .hbm, ⟨21, _⟩ => ⟨S320x256x512, .f32⟩
  | .hbm, ⟨22, _⟩ => ⟨S_, .f32⟩
  | .hbm, ⟨23, _⟩ => ⟨S320x256x512, .f32⟩
  | .hbm, ⟨24, _⟩ => ⟨S320x256x512, .f32⟩
  | .hbm, ⟨25, _⟩ => ⟨S320x256x512, .f32⟩
  | .hbm, ⟨26, _⟩ => ⟨S_, .i32⟩
  | .hbm, ⟨27, _⟩ => ⟨S320, .i32⟩
  | .hbm, ⟨28, _⟩ => ⟨S320, .i1⟩
  | .hbm, ⟨29, _⟩ => ⟨S_, .i32⟩
  | .hbm, ⟨30, _⟩ => ⟨S320, .i32⟩
  | .hbm, ⟨31, _⟩ => ⟨S320, .i32⟩
  | .hbm, ⟨32, _⟩ => ⟨S320, .i32⟩
  | .hbm, ⟨33, _⟩ => ⟨S320x1, .i32⟩
  | .hbm, ⟨34, _⟩ => ⟨S320x4096x512, .f32⟩
  | .hbm, ⟨35, _⟩ => ⟨S320x256x512, .f32⟩
  | .hbm, ⟨36, _⟩ => ⟨S320x256x512, .f32⟩
  | .hbm, ⟨37, _⟩ => ⟨S320, .i32⟩
  | .hbm, ⟨38, _⟩ => ⟨S_, .i32⟩
  | .hbm, ⟨39, _⟩ => ⟨S320, .i32⟩
  | .hbm, ⟨40, _⟩ => ⟨S320, .i1⟩
  | .hbm, ⟨41, _⟩ => ⟨S320x1x1, .i1⟩
  | .hbm, ⟨42, _⟩ => ⟨S_, .f32⟩
  | .hbm, ⟨43, _⟩ => ⟨S_, .f32⟩
  | .hbm, ⟨44, _⟩ => ⟨S320x256x512, .i1⟩
  | .hbm, ⟨45, _⟩ => ⟨S320x256x512, .f32⟩
  | .hbm, ⟨46, _⟩ => ⟨S320x256x512, .f32⟩
  | .hbm, ⟨47, _⟩ => ⟨S81920x512, .f32⟩
  | .hbm, ⟨48, _⟩ => ⟨S81920x512, .bf16⟩
  | _, _ => ⟨S81920x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Kernel5.lean ====
abbrev S81920x512 : Shape := ⟨2, ![81920, 512]⟩
abbrev S64x512x4096 : Shape := ⟨3, ![64, 512, 4096]⟩
abbrev S81920x1 : Shape := ⟨2, ![81920, 1]⟩
abbrev S320 : Shape := ⟨1, ![320]⟩
abbrev S1 : Shape := ⟨1, ![1]⟩
abbrev S81920x4096 : Shape := ⟨2, ![81920, 4096]⟩
abbrev S256x512 : Shape := ⟨2, ![256, 512]⟩
abbrev S1x512x4096 : Shape := ⟨3, ![1, 512, 4096]⟩
abbrev S256x1 : Shape := ⟨2, ![256, 1]⟩
abbrev S256x4096 : Shape := ⟨2, ![256, 4096]⟩
abbrev S512x4096 : Shape := ⟨2, ![512, 4096]⟩

abbrev nBuf : Space → Nat
  | .hbm => 4
  | .vmem => 9
  | .smem => 2
  | _ => 0

abbrev bufTy : (tb : Table) → Fin (tcTables nBuf tb) → BufTy
  | .hbm, ⟨0, _⟩ => ⟨S81920x512, .bf16⟩
  | .hbm, ⟨1, _⟩ => ⟨S64x512x4096, .f32⟩
  | .hbm, ⟨2, _⟩ => ⟨S81920x1, .f32⟩
  | .hbm, ⟨3, _⟩ => ⟨S81920x4096, .f32⟩
  | .local _ .vmem, ⟨0, _⟩ => ⟨S256x512, .bf16⟩
  | .local _ .vmem, ⟨1, _⟩ => ⟨S256x512, .bf16⟩
  | .local _ .vmem, ⟨2, _⟩ => ⟨S1x512x4096, .f32⟩
  | .local _ .vmem, ⟨3, _⟩ => ⟨S1x512x4096, .f32⟩
  | .local _ .vmem, ⟨4, _⟩ => ⟨S256x1, .f32⟩
  | .local _ .vmem, ⟨5, _⟩ => ⟨S256x1, .f32⟩
  | .local _ .vmem, ⟨6, _⟩ => ⟨S256x4096, .f32⟩
  | .local _ .vmem, ⟨7, _⟩ => ⟨S256x4096, .f32⟩
  | .local _ .vmem, ⟨8, _⟩ => ⟨S512x4096, .bf16⟩
  | .local _ .smem, ⟨0, _⟩ => ⟨S320, .i32⟩
  | .local _ .smem, ⟨1, _⟩ => ⟨S1, .i32⟩
  | _, _ => ⟨S81920x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S81920x512 : Shape := ⟨2, ![81920, 512]⟩
abbrev S64x512x4096 : Shape := ⟨3, ![64, 512, 4096]⟩
abbrev S81920x1 : Shape := ⟨2, ![81920, 1]⟩
abbrev S320 : Shape := ⟨1, ![320]⟩
abbrev S1 : Shape := ⟨1, ![1]⟩
abbrev S320x256x512 : Shape := ⟨3, ![320, 256, 512]⟩
abbrev S_ : Shape := ⟨0, ![]⟩
abbrev S320x1 : Shape := ⟨2, ![320, 1]⟩
abbrev S320x512x4096 : Shape := ⟨3, ![320, 512, 4096]⟩
abbrev S320x256x4096 : Shape := ⟨3, ![320, 256, 4096]⟩
abbrev S320x256x1 : Shape := ⟨3, ![320, 256, 1]⟩
abbrev S320x1x1 : Shape := ⟨3, ![320, 1, 1]⟩
abbrev S81920x4096 : Shape := ⟨2, ![81920, 4096]⟩

abbrev nBuf : Space → Nat
  | .hbm => 31
  | .vmem => 0
  | .smem => 0
  | _ => 0

abbrev bufTy : (tb : Table) → Fin (tcTables nBuf tb) → BufTy
  | .hbm, ⟨0, _⟩ => ⟨S81920x512, .bf16⟩
  | .hbm, ⟨1, _⟩ => ⟨S64x512x4096, .f32⟩
  | .hbm, ⟨2, _⟩ => ⟨S81920x1, .f32⟩
  | .hbm, ⟨3, _⟩ => ⟨S320, .i32⟩
  | .hbm, ⟨4, _⟩ => ⟨S1, .i32⟩
  | .hbm, ⟨5, _⟩ => ⟨S320x256x512, .bf16⟩
  | .hbm, ⟨6, _⟩ => ⟨S320x256x512, .f32⟩
  | .hbm, ⟨7, _⟩ => ⟨S_, .i32⟩
  | .hbm, ⟨8, _⟩ => ⟨S320, .i32⟩
  | .hbm, ⟨9, _⟩ => ⟨S320, .i1⟩
  | .hbm, ⟨10, _⟩ => ⟨S_, .i32⟩
  | .hbm, ⟨11, _⟩ => ⟨S320, .i32⟩
  | .hbm, ⟨12, _⟩ => ⟨S320, .i32⟩
  | .hbm, ⟨13, _⟩ => ⟨S320, .i32⟩
  | .hbm, ⟨14, _⟩ => ⟨S320x1, .i32⟩
  | .hbm, ⟨15, _⟩ => ⟨S320x512x4096, .f32⟩
  | .hbm, ⟨16, _⟩ => ⟨S320x256x4096, .f32⟩
  | .hbm, ⟨17, _⟩ => ⟨S320x256x1, .f32⟩
  | .hbm, ⟨18, _⟩ => ⟨S320x256x4096, .f32⟩
  | .hbm, ⟨19, _⟩ => ⟨S320x256x4096, .f32⟩
  | .hbm, ⟨20, _⟩ => ⟨S320, .i32⟩
  | .hbm, ⟨21, _⟩ => ⟨S_, .i32⟩
  | .hbm, ⟨22, _⟩ => ⟨S320, .i32⟩
  | .hbm, ⟨23, _⟩ => ⟨S320, .i1⟩
  | .hbm, ⟨24, _⟩ => ⟨S320x1x1, .i1⟩
  | .hbm, ⟨25, _⟩ => ⟨S_, .f32⟩
  | .hbm, ⟨26, _⟩ => ⟨S_, .f32⟩
  | .hbm, ⟨27, _⟩ => ⟨S320x256x4096, .i1⟩
  | .hbm, ⟨28, _⟩ => ⟨S320x256x4096, .f32⟩
  | .hbm, ⟨29, _⟩ => ⟨S320x256x4096, .f32⟩
  | .hbm, ⟨30, _⟩ => ⟨S81920x4096, .f32⟩
  | _, _ => ⟨S81920x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel6.lean ====
abbrev S8192x4096 : Shape := ⟨2, ![8192, 4096]⟩
abbrev S1x4096x512 : Shape := ⟨3, ![1, 4096, 512]⟩
abbrev S32 : Shape := ⟨1, ![32]⟩
abbrev S1 : Shape := ⟨1, ![1]⟩
abbrev S8192x512 : Shape := ⟨2, ![8192, 512]⟩
abbrev S256x4096 : Shape := ⟨2, ![256, 4096]⟩
abbrev S256x512 : Shape := ⟨2, ![256, 512]⟩
abbrev S4096x512 : Shape := ⟨2, ![4096, 512]⟩

abbrev nBuf : Space → Nat
  | .hbm => 4
  | .vmem => 10
  | .smem => 2
  | _ => 0

abbrev bufTy : (tb : Table) → Fin (tcTables nBuf tb) → BufTy
  | .hbm, ⟨0, _⟩ => ⟨S8192x4096, .bf16⟩
  | .hbm, ⟨1, _⟩ => ⟨S1x4096x512, .f32⟩
  | .hbm, ⟨2, _⟩ => ⟨S1x4096x512, .f32⟩
  | .hbm, ⟨3, _⟩ => ⟨S8192x512, .bf16⟩
  | .local _ .vmem, ⟨0, _⟩ => ⟨S256x4096, .bf16⟩
  | .local _ .vmem, ⟨1, _⟩ => ⟨S256x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S32, .i32⟩
  | .local _ .smem, ⟨1, _⟩ => ⟨S1, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x4096 : Shape := ⟨2, ![8192, 4096]⟩
abbrev S1x4096x512 : Shape := ⟨3, ![1, 4096, 512]⟩
abbrev S32 : Shape := ⟨1, ![32]⟩
abbrev S1 : Shape := ⟨1, ![1]⟩
abbrev S4096x512 : Shape := ⟨2, ![4096, 512]⟩
abbrev S8192x512 : Shape := ⟨2, ![8192, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x512, .f32⟩
  | .hbm, ⟨2, _⟩ => ⟨S1x4096x512, .f32⟩
  | .hbm, ⟨3, _⟩ => ⟨S32, .i32⟩
  | .hbm, ⟨4, _⟩ => ⟨S1, .i32⟩
  | .hbm, ⟨5, _⟩ => ⟨S8192x4096, .f32⟩
  | .hbm, ⟨6, _⟩ => ⟨S4096x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S4096x512, .f32⟩
  | .hbm, ⟨18, _⟩ => ⟨S8192x512, .f32⟩
  | .hbm, ⟨19, _⟩ => ⟨S8192x512, .f32⟩
  | .hbm, ⟨20, _⟩ => ⟨S8192x512, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel7.lean ====
abbrev S8192x512 : Shape := ⟨2, ![8192, 512]⟩
abbrev S1x512x4096 : Shape := ⟨3, ![1, 512, 4096]⟩
abbrev S8192x1 : Shape := ⟨2, ![8192, 1]⟩
abbrev S32 : Shape := ⟨1, ![32]⟩
abbrev S1 : Shape := ⟨1, ![1]⟩
abbrev S8192x4096 : Shape := ⟨2, ![8192, 4096]⟩
abbrev S256x512 : Shape := ⟨2, ![256, 512]⟩
abbrev S256x1 : Shape := ⟨2, ![256, 1]⟩
abbrev S256x4096 : Shape := ⟨2, ![256, 4096]⟩
abbrev S512x4096 : Shape := ⟨2, ![512, 4096]⟩

abbrev nBuf : Space → Nat
  | .hbm => 4
  | .vmem => 9
  | .smem => 2
  | _ => 0

abbrev bufTy : (tb : Table) → Fin (tcTables nBuf tb) → BufTy
  | .hbm, ⟨0, _⟩ => ⟨S8192x512, .bf16⟩
  | .hbm, ⟨1, _⟩ => ⟨S1x512x4096, .f32⟩
  | .hbm, ⟨2, _⟩ => ⟨S8192x1, .f32⟩
  | .hbm, ⟨3, _⟩ => ⟨S8192x4096, .f32⟩
  | .local _ .vmem, ⟨0, _⟩ => ⟨S256x512, .bf16⟩
  | .local _ .vmem, ⟨1, _⟩ => ⟨S256x512, .bf16⟩
  | .local _ .vmem, ⟨2, _⟩ => ⟨S1x512x4096, .f32⟩
  | .local _ .vmem, ⟨3, _⟩ => ⟨S1x512x4096, .f32⟩
  | .local _ .vmem, ⟨4, _⟩ => ⟨S256x1, .f32⟩
  | .local _ .vmem, ⟨5, _⟩ => ⟨S256x1, .f32⟩
  | .local _ .vmem, ⟨6, _⟩ => ⟨S256x4096, .f32⟩
  | .local _ .vmem, ⟨7, _⟩ => ⟨S256x4096, .f32⟩
  | .local _ .vmem, ⟨8, _⟩ => ⟨S512x4096, .bf16⟩
  | .local _ .smem, ⟨0, _⟩ => ⟨S32, .i32⟩
  | .local _ .smem, ⟨1, _⟩ => ⟨S1, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x512 : Shape := ⟨2, ![8192, 512]⟩
abbrev S1x512x4096 : Shape := ⟨3, ![1, 512, 4096]⟩
abbrev S8192x1 : Shape := ⟨2, ![8192, 1]⟩
abbrev S32 : Shape := ⟨1, ![32]⟩
abbrev S1 : Shape := ⟨1, ![1]⟩
abbrev S512x4096 : Shape := ⟨2, ![512, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1x512x4096, .f32⟩
  | .hbm, ⟨2, _⟩ => ⟨S8192x1, .f32⟩
  | .hbm, ⟨3, _⟩ => ⟨S32, .i32⟩
  | .hbm, ⟨4, _⟩ => ⟨S1, .i32⟩
  | .hbm, ⟨5, _⟩ => ⟨S8192x512, .f32⟩
  | .hbm, ⟨6, _⟩ => ⟨S512x4096, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S2048x1024 : Shape := ⟨2, ![2048, 1024]⟩
abbrev S1x2x32x128 : Shape := ⟨4, ![1, 2, 32, 128]⟩
abbrev S1x2x32x128x128 : Shape := ⟨5, ![1, 2, 32, 128, 128]⟩
abbrev S2x32x128 : Shape := ⟨3, ![2, 32, 128]⟩
abbrev S2x32x128x128 : Shape := ⟨4, ![2, 32, 128, 128]⟩
abbrev S32x2x4x2x128 : Shape := ⟨5, ![32, 2, 4, 2, 128]⟩
abbrev S64x128 : Shape := ⟨2, ![64, 128]⟩
abbrev S1x32x128x128 : Shape := ⟨4, ![1, 32, 128, 128]⟩
abbrev S1x32x128 : Shape := ⟨3, ![1, 32, 128]⟩
abbrev S1x1x1x2x128 : Shape := ⟨5, ![1, 1, 1, 2, 128]⟩
abbrev S2x128 : Shape := ⟨2, ![2, 128]⟩
abbrev S1x128 : Shape := ⟨2, ![1, 128]⟩
abbrev S1x1x128 : Shape := ⟨3, ![1, 1, 128]⟩
abbrev S1x1x128x128 : Shape := ⟨4, ![1, 1, 128, 128]⟩
abbrev S128x128 : Shape := ⟨2, ![128, 128]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x2x32x128, .f32⟩
  | .hbm, ⟨2, _⟩ => ⟨S1x2x32x128x128, .f32⟩
  | .hbm, ⟨3, _⟩ => ⟨S2x32x128, .f32⟩
  | .hbm, ⟨4, _⟩ => ⟨S2x32x128x128, .f32⟩
  | .hbm, ⟨5, _⟩ => ⟨S32x2x4x2x128, .f32⟩
  | .local _ .vmem, ⟨0, _⟩ => ⟨S64x128, .f32⟩
  | .local _ .vmem, ⟨1, _⟩ => ⟨S64x128, .f32⟩
  | .local _ .vmem, ⟨2, _⟩ => ⟨S1x32x128x128, .f32⟩
  | .local _ .vmem, ⟨3, _⟩ => ⟨S1x32x128x128, .f32⟩
  | .local _ .vmem, ⟨4, _⟩ => ⟨S1x32x128, .f32⟩
  | .local _ .vmem, ⟨5, _⟩ => ⟨S1x32x128, .f32⟩
  | .local _ .vmem, ⟨6, _⟩ => ⟨S1x1x1x2x128, .f32⟩
  | .local _ .vmem, ⟨7, _⟩ => ⟨S1x1x1x2x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg2
  let c0_i32_0 : BitVec 32 := 0#32
  ![arg0.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference8Ideal.lean ====
abbrev S2048x1024 : Shape := ⟨2, ![2048, 1024]⟩
abbrev S1x2x32x128 : Shape := ⟨4, ![1, 2, 32, 128]⟩
abbrev S1x2x32x128x128 : Shape := ⟨5, ![1, 2, 32, 128, 128]⟩
abbrev S2x32x128 : Shape := ⟨3, ![2, 32, 128]⟩
abbrev S2x32x128x128 : Shape := ⟨4, ![2, 32, 128, 128]⟩
abbrev S32x2x32x2x4x128 : Shape := ⟨6, ![32, 2, 32, 2, 4, 128]⟩
abbrev S32x2x128 : Shape := ⟨3, ![32, 2, 128]⟩
abbrev S1x1x32x2x1x128 : Shape := ⟨6, ![1, 1, 32, 2, 1, 128]⟩
abbrev S2x128x32x2x4 : Shape := ⟨5, ![2, 128, 32, 2, 4]⟩
abbrev S32x2x4x2x128 : Shape := ⟨5, ![32, 2, 4, 2, 128]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x2x32x128, .f32⟩
  | .hbm, ⟨2, _⟩ => ⟨S1x2x32x128x128, .f32⟩
  | .hbm, ⟨3, _⟩ => ⟨S2x32x128, .f32⟩
  | .hbm, ⟨4, _⟩ => ⟨S2x32x128x128, .f32⟩
  | .hbm, ⟨5, _⟩ => ⟨S32x2x32x2x4x128, .f32⟩
  | .hbm, ⟨6, _⟩ => ⟨S32x2x128, .f32⟩
  | .hbm, ⟨7, _⟩ => ⟨S1x1x32x2x1x128, .f32⟩
  | .hbm, ⟨8, _⟩ => ⟨S32x2x32x2x4x128, .f32⟩
  | .hbm, ⟨9, _⟩ => ⟨S32x2x32x2x4x128, .f32⟩
  | .hbm, ⟨10, _⟩ => ⟨S2x128x32x2x4, .f32⟩
  | .hbm, ⟨11, _⟩ => ⟨S32x2x4x2x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x12288 : Shape := ⟨2, ![8192, 12288]⟩
abbrev S1x2x32x128 : Shape := ⟨4, ![1, 2, 32, 128]⟩
abbrev S1x2x32x128x128 : Shape := ⟨5, ![1, 2, 32, 128, 128]⟩
abbrev S2x32x128 : Shape := ⟨3, ![2, 32, 128]⟩
abbrev S2x32x128x128 : Shape := ⟨4, ![2, 32, 128, 128]⟩
abbrev S4x2x4x64x128 : Shape := ⟨5, ![4, 2, 4, 64, 128]⟩
abbrev S2048x128 : Shape := ⟨2, ![2048, 128]⟩
abbrev S1x32x128x128 : Shape := ⟨4, ![1, 32, 128, 128]⟩
abbrev S1x32x128 : Shape := ⟨3, ![1, 32, 128]⟩
abbrev S1x1x1x64x128 : Shape := ⟨5, ![1, 1, 1, 64, 128]⟩
abbrev S2048x1 : Shape := ⟨2, ![2048, 1]⟩
abbrev S32x128 : Shape := ⟨2, ![32, 128]⟩
abbrev S1x1x128x128 : Shape := ⟨4, ![1, 1, 128, 128]⟩
abbrev S128x128 : Shape := ⟨2, ![128, 128]⟩
abbrev S64x2048 : Shape := ⟨2, ![64, 2048]⟩
abbrev S64x128 : Shape := ⟨2, ![64, 128]⟩

abbrev nBuf : Space → Nat
  | .hbm => 6
  | .vmem => 8
  | .smem => 0
  | _ => 0

abbrev bufTy : (tb : Table) → Fin (tcTables nBuf tb) → BufTy
  | .hbm, ⟨0, _⟩ => ⟨S8192x12288, .f32⟩
  | .hbm, ⟨1, _⟩ => ⟨S1x2x32x128, .f32⟩
  | .hbm, ⟨2, _⟩ => ⟨S1x2x32x128x128, .f32⟩
  | .hbm, ⟨3, _⟩ => ⟨S2x32x128, .f32⟩
  | .hbm, ⟨4, _⟩ => ⟨S2x32x128x128, .f32⟩
  | .hbm, ⟨5, _⟩ => ⟨S4x2x4x64x128, .f32⟩
  | .local _ .vmem, ⟨0, _⟩ => ⟨S2048x128, .f32⟩
  | .local _ .vmem, ⟨1, _⟩ => ⟨S2048x128, .f32⟩
  | .local _ .vmem, ⟨2, _⟩ => ⟨S1x32x128x128, .f32⟩
  | .local _ .vmem, ⟨3, _⟩ => ⟨S1x32x128x128, .f32⟩
  | .local _ .vmem, ⟨4, _⟩ => ⟨S1x32x128, .f32⟩
  | .local _ .vmem, ⟨5, _⟩ => ⟨S1x32x128, .f32⟩
  | .local _ .vmem, ⟨6, _⟩ => ⟨S1x1x1x64x128, .f32⟩
  | .local _ .vmem, ⟨7, _⟩ => ⟨S1x1x1x64x128, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c68_i32 : BitVec 32 := 68#32
  let v1 : BitVec 32 := Scalar.addi c68_i32 v0
  let v2 : BitVec 32 := Scalar.addi v1 arg2
  let c0_i32 : BitVec 32 := 0#32
  ![arg0.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S8192x12288 : Shape := ⟨2, ![8192, 12288]⟩
abbrev S1x2x32x128 : Shape := ⟨4, ![1, 2, 32, 128]⟩
abbrev S1x2x32x128x128 : Shape := ⟨5, ![1, 2, 32, 128, 128]⟩
abbrev S2x32x128 : Shape := ⟨3, ![2, 32, 128]⟩
abbrev S2x32x128x128 : Shape := ⟨4, ![2, 32, 128, 128]⟩
abbrev S8192x1024 : Shape := ⟨2, ![8192, 1024]⟩
abbrev S4x64x32x2x4x128 : Shape := ⟨6, ![4, 64, 32, 2, 4, 128]⟩
abbrev S32x2x128 : Shape := ⟨3, ![32, 2, 128]⟩
abbrev S1x1x32x2x1x128 : Shape := ⟨6, ![1, 1, 32, 2, 1, 128]⟩
abbrev S2x128x4x64x4 : Shape := ⟨5, ![2, 128, 4, 64, 4]⟩
abbrev S4x2x4x64x128 : Shape := ⟨5, ![4, 2, 4, 64, 128]⟩
abbrev S4x2x4x32x128 : Shape := ⟨5, ![4, 2, 4, 32, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S1x2x32x128, .f32⟩
  | .hbm, ⟨2, _⟩ => ⟨S1x2x32x128x128, .f32⟩
  | .hbm, ⟨3, _⟩ => ⟨S2x32x128, .f32⟩
  | .hbm, ⟨4, _⟩ => ⟨S2x32x128x128, .f32⟩
  | .hbm, ⟨5, _⟩ => ⟨S8192x1024, .f32⟩
  | .hbm, ⟨6, _⟩ => ⟨S4x64x32x2x4x128, .f32⟩
  | .hbm, ⟨7, _⟩ => ⟨S32x2x128, .f32⟩
  | .hbm, ⟨8, _⟩ => ⟨S1x1x32x2x1x128, .f32⟩
  | .hbm, ⟨9, _⟩ => ⟨S4x64x32x2x4x128, .f32⟩
  | .hbm, ⟨10, _⟩ => ⟨S4x64x32x2x4x128, .f32⟩
  | .hbm, ⟨11, _⟩ => ⟨S2x128x4x64x4, .f32⟩
  | .hbm, ⟨12, _⟩ => ⟨S4x2x4x64x128, .f32⟩
  | .hbm, ⟨13, _⟩ => ⟨S4x2x4x32x128, .f32⟩
  | .hbm, ⟨14, _⟩ => ⟨S4x2x4x32x128, .f32⟩
  | .hbm, ⟨15, _⟩ => ⟨S4x2x4x64x128, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.PagedIndex.lean ====
/- Hand-written: WHICH PAGES THE PAGED COMPRESSION READS. At the grid's point (b, g) window r (r = 0 … 7) reads the page that
   word b·64 + g·8 + r of the flattened page table names (`transform_0` …). Under the precondition every word of the table
   is the number of a page of the pool (`in_pool`), so each block lies inside the pool (`ok_of_pre`). -/
module

public import proofs.«01_k».proof.Proof.Gen.KernelIdeal.Frame
public import proofs.«01_k».proof.Proof.Gen.Pre_pages_in_pool
public import Idealize.ShloMosaic.Lib.ValueIdx
public import Idealize.ShloMosaic.Lib.Pipeline.Value
public import Idealize.ShloMosaic.Lib.ValueIdxRank6

@[expose] public section

noncomputable section

namespace Cert.Proof.Paged

open Cert.KernelIdeal Cert.KernelIdeal.Gen
open Idealize.ShloMosaic Idealize.ShloMosaic.TcCoe Idealize.ShloMosaic.ValueIdx Idealize.ShloMosaic.Tactic

variable {F : FTy → Type} [FloatOps F]

/-- The precondition, at an entry of the page table. -/
theorem in_pool (a0 : FVec F S1x2560x128x2x4x128 .f32) (pt : IVec S32x64 32) (a2 : FVec F S1x2x32x128 .f32) (a3 : FVec F S1x2x32x128x128 .f32)
    (h : Cert.Pre_pages_in_pool.fn (F := F) a0 pt a2 a3 = fun _ => 1#1) (y : S32x64.Idx) : (pt y).toNat < 2560 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_pages_in_pool.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

variable (m : (ℓ : Loc nD τ sig) → Buf (Elt F) ℓ)

/-- The prefetched table is the page table read flat. -/
theorem tbl_eq : tbl m 0 = shapeCast S2048 (m (((0 : Dev nD) : Thread nD τ).loc main_arg1)) shapeCasts_S32x64_S2048 := by
  show V m (0 : Dev nD) main_v13 = _
  unfold_abbrev_sides
  after_results
  rfl

theorem tbl_apply (k : Fin 2048) (j : S32x64.Idx) (hj : (j 0).val * 64 + (j 1).val = k.val) :
    tbl m 0 (ix1 k) = m (((0 : Dev nD) : Thread nD τ).loc main_arg1) j := by
  rw [tbl_eq]
  refine shapeCast_apply _ shapeCasts_S32x64_S2048 _ j ?_
  rw [Shape.rowMajor_val_two, Shape.rowMajor_val_one]
  show (j 0).val * 64 + (j 1).val = k.val
  exact hj

/-- The word of the table at an offset. -/
theorem at_word (pf : pre0.Contents (Elt F)) (n : ℕ) (k : Fin 2048) (hk : n = k.val)
    (inb : ∀ a, (![n] : Fin 1 → ℕ) a + S1.size a ≤ S2048.size a) :
    pf.at 0 (Rect.unit (s := S2048) ![n] S1.size inb) numel1_S1 = pf 0 (ix1 k) := by
  refine congrArg (pf 0) (funext fun (a : Fin 1) => ?_)
  match a with
  | ⟨0, _⟩ => exact Fin.ext (show n + 1 * 0 = k.val by omega)

theorem word_lt (i : grid0.Coords) (r : Fin 8) : (i 0).val * 64 + (i 1).val * 8 + r.val < 2048 := by
  have h0 : (i 0).val < 32 := (i 0).isLt
  have h1 : (i 1).val < 8 := (i 1).isLt
  omega
/-- The word of the table that window r reads at a point. -/
abbrev word (i : grid0.Coords) (r : Fin 8) : Fin 2048 := ⟨(i 0).val * 64 + (i 1).val * 8 + r.val, word_lt i r⟩

theorem off_val (i : grid0.Coords) (r : Fin 8) :
    (Scalar.indexCast (Scalar.addi (Scalar.addi (Scalar.muli (BitVec.ofNat 32 (i 0).val) 64#32) (Scalar.muli (BitVec.ofNat 32 (i 1).val) 8#32))
      (BitVec.ofNat 32 r.val))).toNat = (word i r).val := by
  have h0 : (i 0).val < 32 := (i 0).isLt
  have h1 : (i 1).val < 8 := (i 1).isLt
  have h2 : r.val < 8 := r.isLt
  simp only [Scalar.indexCast, Scalar.addi, Scalar.muli, IntOp.addi, IntOp.muli]
  simp [BitVec.toNat_mul, BitVec.toNat_add, BitVec.toNat_ofNat]
  omega

theorem transform_0 (pf : pre0.Contents (Elt F)) (i : grid0.Coords) :
    cc0_transform_0 k0_off1_inb numel1_S1 pf i = ![BitVec.toNat (w := 32) (pf 0 (ix1 (word i 0))), 0, 0, 0] := by
  unfold cc0_transform_0
  exact congrArg (fun x : BitVec 32 => ![x.toNat, 0, 0, 0]) (at_word pf _ (word i 0) (off_val i 0) _)
theorem transform_1 (pf : pre0.Contents (Elt F)) (i : grid0.Coords) :
    cc0_transform_1 k0_off1_inb numel1_S1 pf i = ![BitVec.toNat (w := 32) (pf 0 (ix1 (word i 1))), 0, 0, 0] := by
  unfold cc0_transform_1
  exact congrArg (fun x : BitVec 32 => ![x.toNat, 0, 0, 0]) (at_word pf _ (word i 1) (off_val i 1) _)
theorem transform_2 (pf : pre0.Contents (Elt F)) (i : grid0.Coords) :
    cc0_transform_2 k0_off1_inb numel1_S1 pf i = ![BitVec.toNat (w := 32) (pf 0 (ix1 (word i 2))), 0, 0, 0] := by
  unfold cc0_transform_2
  exact congrArg (fun x : BitVec 32 => ![x.toNat, 0, 0, 0]) (at_word pf _ (word i 2) (off_val i 2) _)
theorem transform_3 (pf : pre0.Contents (Elt F)) (i : grid0.Coords) :
    cc0_transform_3 k0_off1_inb numel1_S1 pf i = ![BitVec.toNat (w := 32) (pf 0 (ix1 (word i 3))), 0, 0, 0] := by
  unfold cc0_transform_3
  exact congrArg (fun x : BitVec 32 => ![x.toNat, 0, 0, 0]) (at_word pf _ (word i 3) (off_val i 3) _)
theorem transform_4 (pf : pre0.Contents (Elt F)) (i : grid0.Coords) :
    cc0_transform_4 k0_off1_inb numel1_S1 pf i = ![BitVec.toNat (w := 32) (pf 0 (ix1 (word i 4))), 0, 0, 0] := by
  unfold cc0_transform_4
  exact congrArg (fun x : BitVec 32 => ![x.toNat, 0, 0, 0]) (at_word pf _ (word i 4) (off_val i 4) _)
theorem transform_5 (pf : pre0.Contents (Elt F)) (i : grid0.Coords) :
    cc0_transform_5 k0_off1_inb numel1_S1 pf i = ![BitVec.toNat (w := 32) (pf 0 (ix1 (word i 5))), 0, 0, 0] := by
  unfold cc0_transform_5
  exact congrArg (fun x : BitVec 32 => ![x.toNat, 0, 0, 0]) (at_word pf _ (word i 5) (off_val i 5) _)
theorem transform_6 (pf : pre0.Contents (Elt F)) (i : grid0.Coords) :
    cc0_transform_6 k0_off1_inb numel1_S1 pf i = ![BitVec.toNat (w := 32) (pf 0 (ix1 (word i 6))), 0, 0, 0] := by
  unfold cc0_transform_6
  exact congrArg (fun x : BitVec 32 => ![x.toNat, 0, 0, 0]) (at_word pf _ (word i 6) (off_val i 6) _)
theorem transform_7 (pf : pre0.Contents (Elt F)) (i : grid0.Coords) :
    cc0_transform_7 k0_off1_inb numel1_S1 pf i = ![BitVec.toNat (w := 32) (pf 0 (ix1 (word i 7))), 0, 0, 0] := by
  unfold cc0_transform_7
  exact congrArg (fun x : BitVec 32 => ![x.toNat, 0, 0, 0]) (at_word pf _ (word i 7) (off_val i 7) _)

/-- A page of the pool is inside the pool. -/
theorem inb_of_lt (n : ℕ) (h : n < 2560) : ∀ a, ((![n, 0, 0, 0] : Fin 4 → ℕ) a + 1) * S1x128x8x128.size a ≤ S2560x128x8x128.size a := by
  intro a
  match a with
  | ⟨0, _⟩ => show (n + 1) * 1 ≤ 2560; omega
  | ⟨1, _⟩ => simp
  | ⟨2, _⟩ => simp
  | ⟨3, _⟩ => simp

/-- Under the precondition the blocks of every window lie inside the pool. -/
theorem ok_of_lt (h : ∀ y : S32x64.Idx, BitVec.toNat (w := 32) (m (((0 : Dev nD) : Thread nD τ).loc main_arg1) y) < 2560) : Ok m := by
  have hw : ∀ k : Fin 2048, BitVec.toNat (w := 32) (tbl m 0 (ix1 k)) < 2560 := fun k => by
    rw [tbl_apply m k (ix2 ⟨k.val / 64, by have := k.isLt; omega⟩ ⟨k.val % 64, by omega⟩) (by show k.val / 64 * 64 + k.val % 64 = k.val; omega)]
    exact h _
  refine ⟨fun i => ?_, fun i => ?_, fun i => ?_, fun i => ?_, fun i => ?_, fun i => ?_, fun i => ?_, fun i => ?_⟩
  · exact ⟨by rw [transform_0]; exact inb_of_lt _ (hw _), Or.inl rfl⟩
  · exact ⟨by rw [transform_1]; exact inb_of_lt _ (hw _), Or.inl rfl⟩
  · exact ⟨by rw [transform_2]; exact inb_of_lt _ (hw _), Or.inl rfl⟩
  · exact ⟨by rw [transform_3]; exact inb_of_lt _ (hw _), Or.inl rfl⟩
  · exact ⟨by rw [transform_4]; exact inb_of_lt _ (hw _), Or.inl rfl⟩
  · exact ⟨by rw [transform_5]; exact inb_of_lt _ (hw _), Or.inl rfl⟩
  · exact ⟨by rw [transform_6]; exact inb_of_lt _ (hw _), Or.inl rfl⟩
  · exact ⟨by rw [transform_7]; exact inb_of_lt _ (hw _), Or.inl rfl⟩

end Cert.Proof.Paged

end
-- ==== Proof.PagedChain.lean ====
/- Hand-written: THE BODY OF THE PAGED COMPRESSION AS A CHAIN OF 32 PRODUCTS. The body reads eight pages; for the place c in
   a block (c = 0 … 31) it takes every row c, c+32, c+64, c+96 of each page, adds the position row, multiplies by the weight
   matrix of c and adds to the accumulator. `chain n` is the accumulator after n places, `paged_out_apply` says that what
   the body leaves is the last step of the chain. -/
module

public import proofs.«01_k».proof.Proof.Gen.KernelIdeal.Frame
public import Idealize.ShloMosaic.Lib.VecWindow
public import Idealize.ShloMosaic.Lib.WholeRead
public import Idealize.ShloMosaic.Lib.Pipeline.ValueKit.Tiles

@[expose] public section

noncomputable section

namespace Cert.Proof.Paged

open Cert.KernelIdeal Cert.KernelIdeal.Gen
open Idealize.ShloMosaic Idealize.ShloMosaic.TcCoe

variable {F : FTy → Type} [FloatOps F]

theorem inb_page (n : ℕ) : ∀ a, S1x4x8x128.size a = 0 ∨
    (![0, n % 32, 0, 0] : Fin 4 → Nat) a + (![1, 32, 1, 1] : Fin 4 → Nat) a * (S1x4x8x128.size a - 1) < S1x128x8x128.size a := by
  intro a
  have hn : n % 32 < 32 := Nat.mod_lt _ (by decide)
  match a with
  | ⟨0, _⟩ => right; simp
  | ⟨1, _⟩ => right; show n % 32 + 32 * (4 - 1) < 128; omega
  | ⟨2, _⟩ => right; simp
  | ⟨3, _⟩ => right; simp

theorem inb_w (n : ℕ) : ∀ a, (![n % 32, 0, 0] : Fin 3 → Nat) a + S1x128x256.size a ≤ S32x128x256.size a := by
  intro a
  have hn : n % 32 < 32 := Nat.mod_lt _ (by decide)
  match a with
  | ⟨0, _⟩ => show n % 32 + 1 ≤ 32; omega
  | ⟨1, _⟩ => simp
  | ⟨2, _⟩ => simp

theorem inb_pe (n : ℕ) : ∀ a, (![n % 32, 0, 0] : Fin 3 → Nat) a + S1x8x128.size a ≤ S32x8x128.size a := by
  intro a
  have hn : n % 32 < 32 := Nat.mod_lt _ (by decide)
  match a with
  | ⟨0, _⟩ => show n % 32 + 1 ≤ 32; omega
  | ⟨1, _⟩ => simp
  | ⟨2, _⟩ => simp

/-- The rows n, n+32, n+64, n+96 of a page. -/
abbrev pageRect (n : ℕ) : LoadRect S1x128x8x128 := ⟨![0, n % 32, 0, 0], S1x4x8x128.size, ![1, 32, 1, 1], inb_page n⟩
/-- Place n of the weights. -/
abbrev wRect (n : ℕ) : LoadRect S32x128x256 := (Rect.unit (s := S32x128x256) ![n % 32, 0, 0] S1x128x256.size (inb_w n)).toLoadRect
/-- Place n of the positions. -/
abbrev peRect (n : ℕ) : LoadRect S32x8x128 := (Rect.unit (s := S32x8x128) ![n % 32, 0, 0] S1x8x128.size (inb_pe n)).toLoadRect

/-- One step: the rows of the eight pages, the position added, times the weights, added to the accumulator. -/
def step (acc : FVec F S256x256 .f32) (v1 v3 v5 v7 v9 v11 v13 v15 : Vec F S1x4x8x128 .f32) (v18 : Vec F S1x8x128 .f32)
    (v25 : Vec F S1x128x256 .bf16) : FVec F S256x256 .f32 :=
  k0_pay5 acc (k0_pay3 v1 v3 v5 v7 v9 v11 v13 v15) (k0_pay4 v18) v25

/-- The last lines of the body: of each row the half of the columns its group takes. -/
def finish (v896 : FVec F S256x256 .f32) : FVec F S1x32x8x128 .f32 :=
  k0_pay1 (select (broadcastTo S256x128 (shapeCast S256x1
      (cmpi .slt (andi (iota .tc S256x1 32 [0] iota_S256x1_d0_w32) (broadcast S256x1 7#32)) (broadcast S256x1 4#32))
      shapeCasts_S256x1_S256x1) broadcasts_S256x1_S256x128)
    (extractStridedSlice S256x128 ![0, 0] v896 slices_S256x256_o0_0_S256x128)
    (extractStridedSlice S256x128 ![0, 128] v896 slices_S256x256_o0_128_S256x128))

/-- The accumulator after n steps, from what each step loads. -/
def chain (p0 p1 p2 p3 p4 p5 p6 p7 : ℕ → Vec F S1x4x8x128 .f32) (w : ℕ → Vec F S1x128x256 .bf16) (pe : ℕ → Vec F S1x8x128 .f32) :
    ℕ → FVec F S256x256 .f32
  | 0 => k0_pay2
  | n + 1 => step (chain p0 p1 p2 p3 p4 p5 p6 p7 w pe n) (p0 n) (p1 n) (p2 n) (p3 n) (p4 n) (p5 n) (p6 n) (p7 n) (pe n) (w n)

/-- What the body leaves in the result's buffer, from the memrefs' contents. -/
theorem paged_out_apply (c : Dev nD) (i : grid0.Coords) (arg3 : Memref sig .tc .vmem S1x128x8x128 .f32) (harg3 : arg3.IsWhole)
    (arg4 : Memref sig .tc .vmem S1x128x8x128 .f32) (harg4 : arg4.IsWhole) (arg5 : Memref sig .tc .vmem S1x128x8x128 .f32) (harg5 : arg5.IsWhole)
    (arg6 : Memref sig .tc .vmem S1x128x8x128 .f32) (harg6 : arg6.IsWhole) (arg7 : Memref sig .tc .vmem S1x128x8x128 .f32) (harg7 : arg7.IsWhole)
    (arg8 : Memref sig .tc .vmem S1x128x8x128 .f32) (harg8 : arg8.IsWhole) (arg9 : Memref sig .tc .vmem S1x128x8x128 .f32) (harg9 : arg9.IsWhole)
    (arg10 : Memref sig .tc .vmem S1x128x8x128 .f32) (harg10 : arg10.IsWhole) (arg11 : Memref sig .tc .vmem S32x128x256 .bf16) (harg11 : arg11.IsWhole)
    (arg12 : Memref sig .tc .vmem S32x8x128 .f32) (harg12 : arg12.IsWhole) (arg13 : Memref sig .tc .vmem S1x32x8x128 .f32) (harg13 : arg13.IsWhole)
    (x0 x1 x2 x3 x4 x5 x6 x7 : Vec F S1x128x8x128 .f32) (x8 : Vec F S32x128x256 .bf16) (x9 : Vec F S32x8x128 .f32) (xt0 : TbBuf0 (F := F) c tbM0_0)
    (y : S1x32x8x128.Idx) :
    out0_A_10 c i arg3 harg3 arg4 harg4 arg5 harg5 arg6 harg6 arg7 harg7 arg8 harg8 arg9 harg9 arg10 harg10 arg11 harg11 arg12 harg12 arg13 harg13
        x0 x1 x2 x3 x4 x5 x6 x7 x8 x9 xt0 y
      = finish (chain (fun n => arg3.view.readAt (Elt F) (pageRect n) (harg3.unread x0)) (fun n => arg4.view.readAt (Elt F) (pageRect n) (harg4.unread x1))
          (fun n => arg5.view.readAt (Elt F) (pageRect n) (harg5.unread x2)) (fun n => arg6.view.readAt (Elt F) (pageRect n) (harg6.unread x3))
          (fun n => arg7.view.readAt (Elt F) (pageRect n) (harg7.unread x4)) (fun n => arg8.view.readAt (Elt F) (pageRect n) (harg8.unread x5))
          (fun n => arg9.view.readAt (Elt F) (pageRect n) (harg9.unread x6)) (fun n => arg10.view.readAt (Elt F) (pageRect n) (harg10.unread x7))
          (fun n => arg11.view.readAt (Elt F) (wRect n) (harg11.unread x8)) (fun n => arg12.view.readAt (Elt F) (peRect n) (harg12.unread x9)) 32) y := by
  unfold out0_A_10 kernelRun0_A
  have h := fun pay => View.read_writes_cons_emb (v := VO0_10) (f := VO0_10.junk) (Val := Elt F)
    (Rect.unit (s := S1x32x8x128) ![0, 0, 0, 0] S1x32x8x128.size inb_S1x32x8x128_S1x32x8x128_0_0_0_0) pay [] y
  rw [Rect.emb_unit_full] at h
  refine (h _).trans ?_
  rfl

end Cert.Proof.Paged

end
-- ==== Proof.PagedIdeal.lean ====
/- Hand-written: THE CHAIN OF PRODUCTS OVER THE EXTENDED REALS. Row r = rr·8 + h of the accumulator is block rr (of the eight
   pages' 32) and head h (of 2 × 4); after n places it is the sum over the places c < n and the features k of
   (page row + position) · weight (`chain_apply`). `finish_apply` takes of each row the 128 columns of its head's half. -/
module

public import proofs.«01_k».proof.Proof.PagedChain
public import Idealize.ShloMosaic.Lib.ValueIdx
public import Idealize.ShloMosaic.Lib.Pipeline.Value
public import Idealize.ShloMosaic.Lib.MatmulPlain

@[expose] public section

noncomputable section

namespace Cert.Proof.Paged

open Cert.KernelIdeal Cert.KernelIdeal.Gen
open Idealize.ShloMosaic Idealize.ShloMosaic.TcCoe Idealize.ShloMosaic.ValueIdx
open scoped BigOperators

/-- The rows of the eight pages, one after the other. -/
theorem rows_apply (P : Fin 8 → FVec Ideal S1x4x8x128 .f32) (rr : Fin 32) (h : Fin 8) (k : Fin 128) :
    k0_pay3 (P 0) (P 1) (P 2) (P 3) (P 4) (P 5) (P 6) (P 7) (ix3 rr h k)
      = P ⟨rr.val / 4, by omega⟩ (ix4 0 ⟨rr.val % 4, by omega⟩ h k) := by
  unfold k0_pay3
  refine (concatenate_ofFn_apply (t := S32x8x128) (s₁ := S4x8x128) 0
    (fun n : Fin 8 => shapeCast S4x8x128 (P n) shapeCasts_S1x4x8x128_S4x8x128) _ rfl 4 rfl (ix3 rr h k)
    ⟨rr.val / 4, by omega⟩ rfl (ix3 ⟨rr.val % 4, by omega⟩ h k) rfl (fun b hb => ?_)).trans ?_
  · match b with
    | ⟨0, _⟩ => exact absurd rfl hb
    | ⟨1, _⟩ => rfl
    | ⟨2, _⟩ => rfl
  · refine shapeCast_apply _ shapeCasts_S1x4x8x128_S4x8x128 _ _ ?_
    rw [Shape.rowMajor_val_four, Shape.rowMajor_val_three]
    show ((0 * 4 + rr.val % 4) * 8 + h.val) * 128 + k.val = (rr.val % 4 * 8 + h.val) * 128 + k.val
    omega

/-- The position's rows, the same for every block. -/
theorem pos_apply (p : FVec Ideal S1x8x128 .f32) (rr : Fin 32) (h : Fin 8) (k : Fin 128) :
    k0_pay4 p (ix3 rr h k) = p (ix3 0 h k) := by
  unfold k0_pay4
  refine (broadcastTo_apply _ broadcasts_S1x8x128_S32x8x128 _ (ix3 0 h k) fun a => ?_).trans ?_
  · match a with
    | ⟨0, _⟩ => rfl
    | ⟨1, _⟩ => rfl
    | ⟨2, _⟩ => rfl
  refine (shapeCast_apply _ shapeCasts_S8x128_S1x8x128 _ (ix2 h k) ?_).trans ?_
  · rw [Shape.rowMajor_val_two, Shape.rowMajor_val_three]
    show h.val * 128 + k.val = (0 * 8 + h.val) * 128 + k.val
    omega
  refine shapeCast_apply _ shapeCasts_S1x8x128_S8x128 _ (ix3 0 h k) ?_
  rw [Shape.rowMajor_val_two, Shape.rowMajor_val_three]
  show (0 * 8 + h.val) * 128 + k.val = h.val * 128 + k.val
  omega

/-- One step of the chain, at an entry. -/
theorem step_apply (acc : FVec Ideal S256x256 .f32) (P : Fin 8 → FVec Ideal S1x4x8x128 .f32) (p : FVec Ideal S1x8x128 .f32)
    (w : FVec Ideal S1x128x256 .bf16) (rr : Fin 32) (h : Fin 8) (col : Fin 256) :
    step acc (P 0) (P 1) (P 2) (P 3) (P 4) (P 5) (P 6) (P 7) p w (ix2 ⟨rr.val * 8 + h.val, by omega⟩ col)
      = acc (ix2 ⟨rr.val * 8 + h.val, by omega⟩ col) + ∑ k : Fin 128,
          (P ⟨rr.val / 4, by omega⟩ (ix4 0 ⟨rr.val % 4, by omega⟩ h k) + p (ix3 0 h k)) * w (ix3 0 k col) := by
  unfold step k0_pay5
  refine (addf_apply _ _ _).trans (congrArg (acc _ + ·) ?_)
  refine (Ideal.matmul_plain_apply (M := 256) (K := 128) (N := 256) none _ _ _ _ col).trans ?_
  rw [show (constant (F := Ideal) S256x256 .f32 0x00000000#32) (ix2 ⟨rr.val * 8 + h.val, by omega⟩ col) = 0 from Ideal.ofBits_zero_f32, zero_add]
  refine Finset.sum_congr rfl fun k _ => ?_
  refine congrArg₂ (· * ·) ?_ ?_
  · refine Eq.trans (b := shapeCast S256x128 (addf (φ := .f32) (k0_pay3 (F := Idealize.ShloMosaic.Ideal) (P 0) (P 1) (P 2) (P 3) (P 4) (P 5) (P 6) (P 7)) (k0_pay4 (F := Idealize.ShloMosaic.Ideal) p)) shapeCasts_S32x8x128_S256x128 (ix2 ⟨rr.val * 8 + h.val, by omega⟩ k)) rfl ?_
    refine (shapeCast_apply _ shapeCasts_S32x8x128_S256x128 _ (ix3 rr h k) ?_).trans ?_
    · rw [Shape.rowMajor_val_two, Shape.rowMajor_val_three]
      rfl
    · exact congrArg₂ (· + ·) (rows_apply P rr h k) (pos_apply p rr h k)
  · refine shapeCast_apply _ shapeCasts_S1x128x256_S128x256 _ (ix3 0 k col) ?_
    rw [Shape.rowMajor_val_two, Shape.rowMajor_val_three]
    show (0 * 128 + k.val) * 256 + col.val = k.val * 256 + col.val
    omega

/-- The chain after n steps, at an entry. -/
theorem chain_apply (P : Fin 8 → ℕ → FVec Ideal S1x4x8x128 .f32) (w : ℕ → FVec Ideal S1x128x256 .bf16) (pe : ℕ → FVec Ideal S1x8x128 .f32)
    (rr : Fin 32) (h : Fin 8) (col : Fin 256) (n : ℕ) :
    chain (P 0) (P 1) (P 2) (P 3) (P 4) (P 5) (P 6) (P 7) w pe n (ix2 ⟨rr.val * 8 + h.val, by omega⟩ col)
      = ∑ c ∈ Finset.range n, ∑ k : Fin 128,
          (P ⟨rr.val / 4, by omega⟩ c (ix4 0 ⟨rr.val % 4, by omega⟩ h k) + pe c (ix3 0 h k)) * w c (ix3 0 k col) := by
  induction n with
  | zero => exact Ideal.ofBits_zero_f32
  | succ n ih =>
    rw [Finset.sum_range_succ, ← ih]
    exact step_apply _ (fun i => P i n) (pe n) (w n) rr h col

theorem half_bit : ∀ i : Fin 256, IntOp.cmpi .slt (IntOp.andi (BitVec.ofNat 32 i.val) 7#32) 4#32 = if i.val % 8 < 4 then 1#1 else 0#1 := by
  decide +kernel

/-- The columns a head takes: the first half for the heads 0 … 3, the second for 4 … 7. -/
theorem finish_apply (v : FVec Ideal S256x256 .f32) (rr : Fin 32) (h : Fin 8) (e : Fin 128) :
    finish v (ix4 0 rr h e) = v (ix2 ⟨rr.val * 8 + h.val, by omega⟩ ⟨h.val / 4 * 128 + e.val, by omega⟩) := by
  unfold finish k0_pay1
  refine (shapeCast_apply _ shapeCasts_S32x8x128_S1x32x8x128 _ (ix3 rr h e) ?_).trans ?_
  · rw [Shape.rowMajor_val_four, Shape.rowMajor_val_three]
    show (rr.val * 8 + h.val) * 128 + e.val = ((0 * 32 + rr.val) * 8 + h.val) * 128 + e.val
    omega
  refine (shapeCast_apply _ shapeCasts_S256x128_S32x8x128 _ (ix2 ⟨rr.val * 8 + h.val, by omega⟩ e) ?_).trans ?_
  · rw [Shape.rowMajor_val_two, Shape.rowMajor_val_three]
    rfl
  show Scalar.select (broadcastTo S256x128 _ _ _) _ _ = _
  have hb : broadcastTo S256x128 (shapeCast S256x1
      (cmpi .slt (andi (iota .tc S256x1 32 [0] iota_S256x1_d0_w32) (broadcast S256x1 7#32)) (broadcast S256x1 4#32))
      shapeCasts_S256x1_S256x1) broadcasts_S256x1_S256x128 (ix2 ⟨rr.val * 8 + h.val, by omega⟩ e) = if h.val < 4 then 1#1 else 0#1 := by
    refine (broadcastTo_apply _ broadcasts_S256x1_S256x128 _ (ix2 ⟨rr.val * 8 + h.val, by omega⟩ 0) fun a => ?_).trans ?_
    · match a with
      | ⟨0, _⟩ => rfl
      | ⟨1, _⟩ => rfl
    refine (shapeCast_apply _ shapeCasts_S256x1_S256x1 _ (ix2 ⟨rr.val * 8 + h.val, by omega⟩ 0) rfl).trans ?_
    refine Eq.trans ?_ ((half_bit ⟨rr.val * 8 + h.val, by omega⟩).trans ?_)
    · show IntOp.cmpi .slt (IntOp.andi (BitVec.ofNat 32 (0 * 256 + (rr.val * 8 + h.val))) 7#32) 4#32 = _
      rw [Nat.zero_mul, Nat.zero_add]
    · have : (rr.val * 8 + h.val) % 8 = h.val := by omega
      simp only [this]
  rw [hb]
  have hh := h.isLt
  by_cases h4 : h.val < 4
  · rw [if_pos h4]
    refine (extractStridedSlice_apply ![0, 0] v slices_S256x256_o0_0_S256x128 _ _ fun a => ?_)
    match a with
    | ⟨0, _⟩ => show rr.val * 8 + h.val = 0 + (rr.val * 8 + h.val); omega
    | ⟨1, _⟩ => show h.val / 4 * 128 + e.val = 0 + e.val; omega
  · rw [if_neg h4]
    refine (extractStridedSlice_apply ![0, 128] v slices_S256x256_o0_128_S256x128 _ _ fun a => ?_)
    match a with
    | ⟨0, _⟩ => show rr.val * 8 + h.val = 0 + (rr.val * 8 + h.val); omega
    | ⟨1, _⟩ => show h.val / 4 * 128 + e.val = 128 + e.val; omega

end Cert.Proof.Paged

end
-- ==== Proof.PagedBlocks.lean ====
/- Hand-written: THE ARRAY THE PAGED COMPRESSION LEAVES, over the extended reals. Entry (b, n, h, e) is
   Σ_c Σ_k (row c of block n of sequence b, looked up through the page table, + position c) · weight (c, k, e), with the
   weights and positions of the head's half h / 4 (`paged_array`). -/
module

public import proofs.«01_k».proof.Proof.PagedIndex
public import proofs.«01_k».proof.Proof.PagedIdeal
public import Idealize.ShloMosaic.Lib.Pipeline.ValueKit.Geometry

@[expose] public section

noncomputable section

namespace Cert.Proof.Paged

open Cert.KernelIdeal Cert.KernelIdeal.Gen
open Idealize.ShloMosaic Idealize.ShloMosaic.TcCoe Idealize.ShloMosaic.ValueIdx Idealize.ShloMosaic.Tactic
open scoped BigOperators

variable (m : (ℓ : Loc nD τ sig) → Buf (Elt Idealize.ShloMosaic.Ideal) ℓ)

/-- The pool, the page table, the positions and the weights. -/
abbrev aPool : FVec Idealize.ShloMosaic.Ideal S1x2560x128x2x4x128 .f32 := m (((0 : Dev nD) : Thread nD τ).loc main_arg0)
abbrev aTable : IVec S32x64 32 := m (((0 : Dev nD) : Thread nD τ).loc main_arg1)
abbrev aPos : FVec Idealize.ShloMosaic.Ideal S1x2x32x128 .f32 := m (((0 : Dev nD) : Thread nD τ).loc main_arg2)
abbrev aWt : FVec Idealize.ShloMosaic.Ideal S1x2x32x128x128 .f32 := m (((0 : Dev nD) : Thread nD τ).loc main_arg3)

/-! ## The lines before the region -/

theorem V_pool (p : Fin 2560) (a : Fin 128) (h : Fin 8) (k : Fin 128) :
    (V m (0 : Dev nD) main_v3 : FVec Idealize.ShloMosaic.Ideal S2560x128x8x128 .f32) (ix4 p a h k)
      = aPool m (ix6 0 p a ⟨h.val / 4, by omega⟩ ⟨h.val % 4, by omega⟩ k) := by
  have e : V m (0 : Dev nD) main_v3 = shapeCast S2560x128x8x128 (shapeCast S2560x128x2x4x128 (aPool m) shapeCasts_S1x2560x128x2x4x128_S2560x128x2x4x128)
      shapeCasts_S2560x128x2x4x128_S2560x128x8x128 := by
    unfold_abbrev_sides
    after_results
    rfl
  rw [e]
  have hh := h.isLt
  refine (shapeCast_apply _ shapeCasts_S2560x128x2x4x128_S2560x128x8x128 _ (ix5 p a ⟨h.val / 4, by omega⟩ ⟨h.val % 4, by omega⟩ k) ?_).trans ?_
  · rw [Shape.rowMajor_val_five, Shape.rowMajor_val_four]
    show (((p.val * 128 + a.val) * 2 + h.val / 4) * 4 + h.val % 4) * 128 + k.val = ((p.val * 128 + a.val) * 8 + h.val) * 128 + k.val
    omega
  refine shapeCast_apply _ shapeCasts_S1x2560x128x2x4x128_S2560x128x2x4x128 _ (ix6 0 p a ⟨h.val / 4, by omega⟩ ⟨h.val % 4, by omega⟩ k) ?_
  rw [Shape.rowMajor_val_six, Shape.rowMajor_val_five]
  show ((((0 * 2560 + p.val) * 128 + a.val) * 2 + h.val / 4) * 4 + h.val % 4) * 128 + k.val = (((p.val * 128 + a.val) * 2 + h.val / 4) * 4 + h.val % 4) * 128 + k.val
  omega

theorem V_pos (c : Fin 32) (h : Fin 8) (k : Fin 128) :
    (V m (0 : Dev nD) main_v12 : FVec Idealize.ShloMosaic.Ideal S32x8x128 .f32) (ix3 c h k) = aPos m (ix4 0 ⟨h.val / 4, by omega⟩ c k) := by
  have e : V m (0 : Dev nD) main_v12 = shapeCast S32x8x128 (broadcastInDim S32x2x4x128 ![0, 1, 3] bcast_S32x2x128_S32x2x4x128_0_1_3
      (transpose S32x2x128 [1, 0, 2] (shapeCast S2x32x128 (aPos m) shapeCasts_S1x2x32x128_S2x32x128) transposes_S2x32x128_S32x2x128_1_0_2))
      shapeCasts_S32x2x4x128_S32x8x128 := by
    unfold_abbrev_sides
    after_results
    rfl
  rw [e]
  have hh := h.isLt
  refine (shapeCast_apply _ shapeCasts_S32x2x4x128_S32x8x128 _ (ix4 c ⟨h.val / 4, by omega⟩ ⟨h.val % 4, by omega⟩ k) ?_).trans ?_
  · rw [Shape.rowMajor_val_four, Shape.rowMajor_val_three]
    show ((c.val * 2 + h.val / 4) * 4 + h.val % 4) * 128 + k.val = (c.val * 8 + h.val) * 128 + k.val
    omega
  refine (broadcastInDim_apply _ bcast_S32x2x128_S32x2x4x128_0_1_3 _ _ (ix3 c ⟨h.val / 4, by omega⟩ k) fun a => ?_).trans ?_
  · match a with
    | ⟨0, _⟩ => rfl
    | ⟨1, _⟩ => rfl
    | ⟨2, _⟩ => rfl
  refine (transpose_apply [1, 0, 2] _ transposes_S2x32x128_S32x2x128_1_0_2 _ (ix3 ⟨h.val / 4, by omega⟩ c k) fun b => ?_).trans ?_
  · match b with
    | ⟨0, _⟩ => rfl
    | ⟨1, _⟩ => rfl
    | ⟨2, _⟩ => rfl
  refine shapeCast_apply _ shapeCasts_S1x2x32x128_S2x32x128 _ (ix4 0 ⟨h.val / 4, by omega⟩ c k) ?_
  rw [Shape.rowMajor_val_four, Shape.rowMajor_val_three]
  show ((0 * 2 + h.val / 4) * 32 + c.val) * 128 + k.val = (h.val / 4 * 32 + c.val) * 128 + k.val
  omega

/-- The weights of the first half. -/
def wtHalf0 : FVec Idealize.ShloMosaic.Ideal S32x128x128 .f32 :=
  shapeCast S32x128x128 (extractStridedSlice S1x32x128x128 ![0, 0, 0, 0] (shapeCast S2x32x128x128 (aWt m) shapeCasts_S1x2x32x128x128_S2x32x128x128)
    slices_S2x32x128x128_S1x32x128x128_0_0_0_0) shapeCasts_S1x32x128x128_S32x128x128
/-- The weights of the second half. -/
def wtHalf1 : FVec Idealize.ShloMosaic.Ideal S32x128x128 .f32 :=
  shapeCast S32x128x128 (extractStridedSlice S1x32x128x128 ![1, 0, 0, 0] (shapeCast S2x32x128x128 (aWt m) shapeCasts_S1x2x32x128x128_S2x32x128x128)
    slices_S2x32x128x128_S1x32x128x128_1_0_0_0) shapeCasts_S1x32x128x128_S32x128x128

theorem V_wt (c : Fin 32) (k : Fin 128) (j : Fin 2) (e : Fin 128) :
    (V m (0 : Dev nD) main_v9 : FVec Idealize.ShloMosaic.Ideal S32x128x256 .bf16) (ix3 c k ⟨j.val * 128 + e.val, by omega⟩) = aWt m (ix5 0 j c k e) := by
  have he : V m (0 : Dev nD) main_v9 = truncf .bf16 (concatenate S32x128x256 2 [⟨S32x128x128, wtHalf0 m⟩, ⟨S32x128x128, wtHalf1 m⟩]
      concatenates_S32x128x128_S32x128x128_S32x128x256_d2) bitsLt_bf16_f32 := by
    unfold_abbrev_sides
    after_results
    rfl
  rw [he]
  have hs : ∀ (x : FVec Idealize.ShloMosaic.Ideal S1x32x128x128 .f32), shapeCast S32x128x128 x shapeCasts_S1x32x128x128_S32x128x128 (ix3 c k e) = x (ix4 0 c k e) := fun x => by
    refine shapeCast_apply _ shapeCasts_S1x32x128x128_S32x128x128 _ _ ?_
    rw [Shape.rowMajor_val_four, Shape.rowMajor_val_three]
    show ((0 * 32 + c.val) * 128 + k.val) * 128 + e.val = (c.val * 128 + k.val) * 128 + e.val
    omega
  have hw : ∀ j : Fin 2, shapeCast S2x32x128x128 (aWt m) shapeCasts_S1x2x32x128x128_S2x32x128x128 (ix4 j c k e) = aWt m (ix5 0 j c k e) := fun j => by
    refine shapeCast_apply _ shapeCasts_S1x2x32x128x128_S2x32x128x128 _ _ ?_
    rw [Shape.rowMajor_val_five, Shape.rowMajor_val_four]
    show (((0 * 2 + j.val) * 32 + c.val) * 128 + k.val) * 128 + e.val = ((j.val * 32 + c.val) * 128 + k.val) * 128 + e.val
    omega
  refine Eq.trans (b := concatenate S32x128x256 2 [⟨S32x128x128, wtHalf0 m⟩, ⟨S32x128x128, wtHalf1 m⟩] concatenates_S32x128x128_S32x128x128_S32x128x256_d2 (ix3 c k ⟨j.val * 128 + e.val, by omega⟩)) rfl ?_
  match j with
  | ⟨0, _⟩ =>
    refine (concatenate_apply_piece (t := S32x128x256) 2 [⟨S32x128x128, wtHalf0 m⟩, ⟨S32x128x128, wtHalf1 m⟩] _ _ 0 (show 0 < 2 by omega) S32x128x128 _ rfl rfl 0 rfl (ix3 c k e) (fun b hb => ?_) ?_).trans ?_
    · match b with
      | ⟨0, _⟩ => rfl
      | ⟨1, _⟩ => rfl
      | ⟨2, _⟩ => exact absurd rfl hb
    · show 0 + e.val = 0 * 128 + e.val; omega
    · have hx := extractStridedSlice_apply ![0, 0, 0, 0] (shapeCast S2x32x128x128 (aWt m) shapeCasts_S1x2x32x128x128_S2x32x128x128) slices_S2x32x128x128_S1x32x128x128_0_0_0_0
        (ix4 (0 : Fin 1) c k e : S1x32x128x128.Idx) (ix4 (0 : Fin 2) c k e : S2x32x128x128.Idx) (fun a => ?_)
      · unfold wtHalf0
        exact (hs _).trans (hx.trans (hw 0))
      match a with
      | ⟨0, _⟩ => rfl
      | ⟨1, _⟩ => exact (Nat.zero_add _).symm
      | ⟨2, _⟩ => exact (Nat.zero_add _).symm
      | ⟨3, _⟩ => exact (Nat.zero_add _).symm
  | ⟨1, _⟩ =>
    refine (concatenate_apply_piece (t := S32x128x256) 2 [⟨S32x128x128, wtHalf0 m⟩, ⟨S32x128x128, wtHalf1 m⟩] _ _ 1 (show 1 < 2 by omega) S32x128x128 _ rfl rfl 128 rfl (ix3 c k e) (fun b hb => ?_) ?_).trans ?_
    · match b with
      | ⟨0, _⟩ => rfl
      | ⟨1, _⟩ => rfl
      | ⟨2, _⟩ => exact absurd rfl hb
    · show 128 + e.val = 1 * 128 + e.val; omega
    · have hx := extractStridedSlice_apply ![1, 0, 0, 0] (shapeCast S2x32x128x128 (aWt m) shapeCasts_S1x2x32x128x128_S2x32x128x128) slices_S2x32x128x128_S1x32x128x128_1_0_0_0
        (ix4 (0 : Fin 1) c k e : S1x32x128x128.Idx) (ix4 (1 : Fin 2) c k e : S2x32x128x128.Idx) (fun a => ?_)
      · unfold wtHalf1
        exact (hs _).trans (hx.trans (hw 1))
      match a with
      | ⟨0, _⟩ => rfl
      | ⟨1, _⟩ => exact (Nat.zero_add _).symm
      | ⟨2, _⟩ => exact (Nat.zero_add _).symm
      | ⟨3, _⟩ => exact (Nat.zero_add _).symm

/-! ## The blocks -/

variable (hlt : ∀ y : S32x64.Idx, BitVec.toNat (w := 32) (aTable m y) < 2560)

/-- Page j of sequence b in the pool. -/
def pageOf (b : Fin 32) (j : Fin 64) : Fin 2560 := ⟨BitVec.toNat (w := 32) (aTable m (ix2 b j)), hlt _⟩

theorem tbl_word (i : grid0.Coords) (r : Fin 8) (b : Fin 32) (g : Fin 8) (hb : (i 0).val = b.val) (hg : (i 1).val = g.val) :
    BitVec.toNat (w := 32) (tbl m 0 (ix1 (word i r))) = (pageOf m hlt b ⟨g.val * 8 + r.val, by omega⟩).val := by
  show BitVec.toNat (w := 32) (tbl m 0 (ix1 (word i r))) = BitVec.toNat (w := 32) (aTable m (ix2 b ⟨g.val * 8 + r.val, by omega⟩))
  refine congrArg (BitVec.toNat (w := 32)) (tbl_apply m (word i r) (ix2 b ⟨g.val * 8 + r.val, by omega⟩) ?_)
  show b.val * 64 + (g.val * 8 + r.val) = (i 0).val * 64 + (i 1).val * 8 + r.val
  omega

theorem page_block_0 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 0 t : FVec Idealize.ShloMosaic.Ideal S1x128x8x128 .f32) (ix4 0 a h k)
      = aPool m (ix6 0 (pageOf m hlt b ⟨g.val * 8 + 0, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 0, by omega⟩) a h k)) ?_ (V_pool m _ a h k)
  have ht : cc0_transform_0 k0_off1_inb numel1_S1 (tbl m) (grid0.coords t) = ![(pageOf m hlt b ⟨g.val * 8 + 0, by omega⟩).val, 0, 0, 0] := by
    rw [transform_0, tbl_word m hlt (grid0.coords t) 0 b g hb hg]
    rfl
  show V m (0 : Dev nD) main_v3 ((((cfgM m hO).win 0).blk t).view.emb (ix4 0 a h k)) = V m (0 : Dev nD) main_v3 _
  refine congrArg (V m (0 : Dev nD) main_v3) (funext fun (x : Fin 4) => Fin.ext ?_)
  match x with
  | ⟨0, _⟩ => show cc0_transform_0 k0_off1_inb numel1_S1 (tbl m) (grid0.coords t) (0 : Fin 4) * 1 + 1 * 0 = _; rw [ht]; show (pageOf m hlt b ⟨g.val * 8 + 0, by omega⟩).val * 1 + 1 * 0 = (pageOf m hlt b ⟨g.val * 8 + 0, by omega⟩).val; omega
  | ⟨1, _⟩ => show cc0_transform_0 k0_off1_inb numel1_S1 (tbl m) (grid0.coords t) (1 : Fin 4) * 128 + 1 * a.val = a.val; rw [ht]; show 0 * 128 + 1 * a.val = a.val; omega
  | ⟨2, _⟩ => show cc0_transform_0 k0_off1_inb numel1_S1 (tbl m) (grid0.coords t) (2 : Fin 4) * 8 + 1 * h.val = h.val; rw [ht]; show 0 * 8 + 1 * h.val = h.val; omega
  | ⟨3, _⟩ => show cc0_transform_0 k0_off1_inb numel1_S1 (tbl m) (grid0.coords t) (3 : Fin 4) * 128 + 1 * k.val = k.val; rw [ht]; show 0 * 128 + 1 * k.val = k.val; omega

theorem page_block_1 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 1 t : FVec Idealize.ShloMosaic.Ideal S1x128x8x128 .f32) (ix4 0 a h k)
      = aPool m (ix6 0 (pageOf m hlt b ⟨g.val * 8 + 1, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 1, by omega⟩) a h k)) ?_ (V_pool m _ a h k)
  have ht : cc0_transform_1 k0_off1_inb numel1_S1 (tbl m) (grid0.coords t) = ![(pageOf m hlt b ⟨g.val * 8 + 1, by omega⟩).val, 0, 0, 0] := by
    rw [transform_1, tbl_word m hlt (grid0.coords t) 1 b g hb hg]
    rfl
  show V m (0 : Dev nD) main_v3 ((((cfgM m hO).win 1).blk t).view.emb (ix4 0 a h k)) = V m (0 : Dev nD) main_v3 _
  refine congrArg (V m (0 : Dev nD) main_v3) (funext fun (x : Fin 4) => Fin.ext ?_)
  match x with
  | ⟨0, _⟩ => show cc0_transform_1 k0_off1_inb numel1_S1 (tbl m) (grid0.coords t) (0 : Fin 4) * 1 + 1 * 0 = _; rw [ht]; show (pageOf m hlt b ⟨g.val * 8 + 1, by omega⟩).val * 1 + 1 * 0 = (pageOf m hlt b ⟨g.val * 8 + 1, by omega⟩).val; omega
  | ⟨1, _⟩ => show cc0_transform_1 k0_off1_inb numel1_S1 (tbl m) (grid0.coords t) (1 : Fin 4) * 128 + 1 * a.val = a.val; rw [ht]; show 0 * 128 + 1 * a.val = a.val; omega
  | ⟨2, _⟩ => show cc0_transform_1 k0_off1_inb numel1_S1 (tbl m) (grid0.coords t) (2 : Fin 4) * 8 + 1 * h.val = h.val; rw [ht]; show 0 * 8 + 1 * h.val = h.val; omega
  | ⟨3, _⟩ => show cc0_transform_1 k0_off1_inb numel1_S1 (tbl m) (grid0.coords t) (3 : Fin 4) * 128 + 1 * k.val = k.val; rw [ht]; show 0 * 128 + 1 * k.val = k.val; omega

theorem page_block_2 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 2 t : FVec Idealize.ShloMosaic.Ideal S1x128x8x128 .f32) (ix4 0 a h k)
      = aPool m (ix6 0 (pageOf m hlt b ⟨g.val * 8 + 2, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 2, by omega⟩) a h k)) ?_ (V_pool m _ a h k)
  have ht : cc0_transform_2 k0_off1_inb numel1_S1 (tbl m) (grid0.coords t) = ![(pageOf m hlt b ⟨g.val * 8 + 2, by omega⟩).val, 0, 0, 0] := by
    rw [transform_2, tbl_word m hlt (grid0.coords t) 2 b g hb hg]
    rfl
  show V m (0 : Dev nD) main_v3 ((((cfgM m hO).win 2).blk t).view.emb (ix4 0 a h k)) = V m (0 : Dev nD) main_v3 _
  refine congrArg (V m (0 : Dev nD) main_v3) (funext fun (x : Fin 4) => Fin.ext ?_)
  match x with
  | ⟨0, _⟩ => show cc0_transform_2 k0_off1_inb numel1_S1 (tbl m) (grid0.coords t) (0 : Fin 4) * 1 + 1 * 0 = _; rw [ht]; show (pageOf m hlt b ⟨g.val * 8 + 2, by omega⟩).val * 1 + 1 * 0 = (pageOf m hlt b ⟨g.val * 8 + 2, by omega⟩).val; omega
  | ⟨1, _⟩ => show cc0_transform_2 k0_off1_inb numel1_S1 (tbl m) (grid0.coords t) (1 : Fin 4) * 128 + 1 * a.val = a.val; rw [ht]; show 0 * 128 + 1 * a.val = a.val; omega
  | ⟨2, _⟩ => show cc0_transform_2 k0_off1_inb numel1_S1 (tbl m) (grid0.coords t) (2 : Fin 4) * 8 + 1 * h.val = h.val; rw [ht]; show 0 * 8 + 1 * h.val = h.val; omega
  | ⟨3, _⟩ => show cc0_transform_2 k0_off1_inb numel1_S1 (tbl m) (grid0.coords t) (3 : Fin 4) * 128 + 1 * k.val = k.val; rw [ht]; show 0 * 128 + 1 * k.val = k.val; omega

theorem page_block_3 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 3 t : FVec Idealize.ShloMosaic.Ideal S1x128x8x128 .f32) (ix4 0 a h k)
      = aPool m (ix6 0 (pageOf m hlt b ⟨g.val * 8 + 3, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 3, by omega⟩) a h k)) ?_ (V_pool m _ a h k)
  have ht : cc0_transform_3 k0_off1_inb numel1_S1 (tbl m) (grid0.coords t) = ![(pageOf m hlt b ⟨g.val * 8 + 3, by omega⟩).val, 0, 0, 0] := by
    rw [transform_3, tbl_word m hlt (grid0.coords t) 3 b g hb hg]
    rfl
  show V m (0 : Dev nD) main_v3 ((((cfgM m hO).win 3).blk t).view.emb (ix4 0 a h k)) = V m (0 : Dev nD) main_v3 _
  refine congrArg (V m (0 : Dev nD) main_v3) (funext fun (x : Fin 4) => Fin.ext ?_)
  match x with
  | ⟨0, _⟩ => show cc0_transform_3 k0_off1_inb numel1_S1 (tbl m) (grid0.coords t) (0 : Fin 4) * 1 + 1 * 0 = _; rw [ht]; show (pageOf m hlt b ⟨g.val * 8 + 3, by omega⟩).val * 1 + 1 * 0 = (pageOf m hlt b ⟨g.val * 8 + 3, by omega⟩).val; omega
  | ⟨1, _⟩ => show cc0_transform_3 k0_off1_inb numel1_S1 (tbl m) (grid0.coords t) (1 : Fin 4) * 128 + 1 * a.val = a.val; rw [ht]; show 0 * 128 + 1 * a.val = a.val; omega
  | ⟨2, _⟩ => show cc0_transform_3 k0_off1_inb numel1_S1 (tbl m) (grid0.coords t) (2 : Fin 4) * 8 + 1 * h.val = h.val; rw [ht]; show 0 * 8 + 1 * h.val = h.val; omega
  | ⟨3, _⟩ => show cc0_transform_3 k0_off1_inb numel1_S1 (tbl m) (grid0.coords t) (3 : Fin 4) * 128 + 1 * k.val = k.val; rw [ht]; show 0 * 128 + 1 * k.val = k.val; omega

theorem page_block_4 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 4 t : FVec Idealize.ShloMosaic.Ideal S1x128x8x128 .f32) (ix4 0 a h k)
      = aPool m (ix6 0 (pageOf m hlt b ⟨g.val * 8 + 4, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 4, by omega⟩) a h k)) ?_ (V_pool m _ a h k)
  have ht : cc0_transform_4 k0_off1_inb numel1_S1 (tbl m) (grid0.coords t) = ![(pageOf m hlt b ⟨g.val * 8 + 4, by omega⟩).val, 0, 0, 0] := by
    rw [transform_4, tbl_word m hlt (grid0.coords t) 4 b g hb hg]
    rfl
  show V m (0 : Dev nD) main_v3 ((((cfgM m hO).win 4).blk t).view.emb (ix4 0 a h k)) = V m (0 : Dev nD) main_v3 _
  refine congrArg (V m (0 : Dev nD) main_v3) (funext fun (x : Fin 4) => Fin.ext ?_)
  match x with
  | ⟨0, _⟩ => show cc0_transform_4 k0_off1_inb numel1_S1 (tbl m) (grid0.coords t) (0 : Fin 4) * 1 + 1 * 0 = _; rw [ht]; show (pageOf m hlt b ⟨g.val * 8 + 4, by omega⟩).val * 1 + 1 * 0 = (pageOf m hlt b ⟨g.val * 8 + 4, by omega⟩).val; omega
  | ⟨1, _⟩ => show cc0_transform_4 k0_off1_inb numel1_S1 (tbl m) (grid0.coords t) (1 : Fin 4) * 128 + 1 * a.val = a.val; rw [ht]; show 0 * 128 + 1 * a.val = a.val; omega
  | ⟨2, _⟩ => show cc0_transform_4 k0_off1_inb numel1_S1 (tbl m) (grid0.coords t) (2 : Fin 4) * 8 + 1 * h.val = h.val; rw [ht]; show 0 * 8 + 1 * h.val = h.val; omega
  | ⟨3, _⟩ => show cc0_transform_4 k0_off1_inb numel1_S1 (tbl m) (grid0.coords t) (3 : Fin 4) * 128 + 1 * k.val = k.val; rw [ht]; show 0 * 128 + 1 * k.val = k.val; omega

theorem page_block_5 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 5 t : FVec Idealize.ShloMosaic.Ideal S1x128x8x128 .f32) (ix4 0 a h k)
      = aPool m (ix6 0 (pageOf m hlt b ⟨g.val * 8 + 5, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 5, by omega⟩) a h k)) ?_ (V_pool m _ a h k)
  have ht : cc0_transform_5 k0_off1_inb numel1_S1 (tbl m) (grid0.coords t) = ![(pageOf m hlt b ⟨g.val * 8 + 5, by omega⟩).val, 0, 0, 0] := by
    rw [transform_5, tbl_word m hlt (grid0.coords t) 5 b g hb hg]
    rfl
  show V m (0 : Dev nD) main_v3 ((((cfgM m hO).win 5).blk t).view.emb (ix4 0 a h k)) = V m (0 : Dev nD) main_v3 _
  refine congrArg (V m (0 : Dev nD) main_v3) (funext fun (x : Fin 4) => Fin.ext ?_)
  match x with
  | ⟨0, _⟩ => show cc0_transform_5 k0_off1_inb numel1_S1 (tbl m) (grid0.coords t) (0 : Fin 4) * 1 + 1 * 0 = _; rw [ht]; show (pageOf m hlt b ⟨g.val * 8 + 5, by omega⟩).val * 1 + 1 * 0 = (pageOf m hlt b ⟨g.val * 8 + 5, by omega⟩).val; omega
  | ⟨1, _⟩ => show cc0_transform_5 k0_off1_inb numel1_S1 (tbl m) (grid0.coords t) (1 : Fin 4) * 128 + 1 * a.val = a.val; rw [ht]; show 0 * 128 + 1 * a.val = a.val; omega
  | ⟨2, _⟩ => show cc0_transform_5 k0_off1_inb numel1_S1 (tbl m) (grid0.coords t) (2 : Fin 4) * 8 + 1 * h.val = h.val; rw [ht]; show 0 * 8 + 1 * h.val = h.val; omega
  | ⟨3, _⟩ => show cc0_transform_5 k0_off1_inb numel1_S1 (tbl m) (grid0.coords t) (3 : Fin 4) * 128 + 1 * k.val = k.val; rw [ht]; show 0 * 128 + 1 * k.val = k.val; omega

theorem page_block_6 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 6 t : FVec Idealize.ShloMosaic.Ideal S1x128x8x128 .f32) (ix4 0 a h k)
      = aPool m (ix6 0 (pageOf m hlt b ⟨g.val * 8 + 6, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 6, by omega⟩) a h k)) ?_ (V_pool m _ a h k)
  have ht : cc0_transform_6 k0_off1_inb numel1_S1 (tbl m) (grid0.coords t) = ![(pageOf m hlt b ⟨g.val * 8 + 6, by omega⟩).val, 0, 0, 0] := by
    rw [transform_6, tbl_word m hlt (grid0.coords t) 6 b g hb hg]
    rfl
  show V m (0 : Dev nD) main_v3 ((((cfgM m hO).win 6).blk t).view.emb (ix4 0 a h k)) = V m (0 : Dev nD) main_v3 _
  refine congrArg (V m (0 : Dev nD) main_v3) (funext fun (x : Fin 4) => Fin.ext ?_)
  match x with
  | ⟨0, _⟩ => show cc0_transform_6 k0_off1_inb numel1_S1 (tbl m) (grid0.coords t) (0 : Fin 4) * 1 + 1 * 0 = _; rw [ht]; show (pageOf m hlt b ⟨g.val * 8 + 6, by omega⟩).val * 1 + 1 * 0 = (pageOf m hlt b ⟨g.val * 8 + 6, by omega⟩).val; omega
  | ⟨1, _⟩ => show cc0_transform_6 k0_off1_inb numel1_S1 (tbl m) (grid0.coords t) (1 : Fin 4) * 128 + 1 * a.val = a.val; rw [ht]; show 0 * 128 + 1 * a.val = a.val; omega
  | ⟨2, _⟩ => show cc0_transform_6 k0_off1_inb numel1_S1 (tbl m) (grid0.coords t) (2 : Fin 4) * 8 + 1 * h.val = h.val; rw [ht]; show 0 * 8 + 1 * h.val = h.val; omega
  | ⟨3, _⟩ => show cc0_transform_6 k0_off1_inb numel1_S1 (tbl m) (grid0.coords t) (3 : Fin 4) * 128 + 1 * k.val = k.val; rw [ht]; show 0 * 128 + 1 * k.val = k.val; omega

theorem page_block_7 (hO : Ok m) (t : Fin (cfgM m hO).N) (b : Fin 32) (g : Fin 8) (hb : (grid0.coords t 0).val = b.val) (hg : (grid0.coords t 1).val = g.val)
    (a : Fin 128) (h : Fin 8) (k : Fin 128) :
    (iblk m hO 0 7 t : FVec Idealize.ShloMosaic.Ideal S1x128x8x128 .f32) (ix4 0 a h k)
      = aPool m (ix6 0 (pageOf m hlt b ⟨g.val * 8 + 7, by omega⟩) a ⟨h.val / 4, by omega⟩ ⟨h.val % 4, by omega⟩ k) := by
  refine Eq.trans (b := (V m (0 : Dev nD) main_v3 : FVec Idealize.ShloMosaic.Ideal S2560x128x8x128 .f32) (ix4 (pageOf m hlt b ⟨g.val * 8 + 7, by omega⟩) a h k)) ?_ (V_pool m _ a h k)
  have ht : cc0_transform_7 k0_off1_inb numel1_S1 (tbl m) (grid0.coords t) = ![(pageOf m hlt b ⟨g.val * 8 + 7, by omega⟩).val, 0, 0, 0] := by
    rw [transform_7, tbl_word m hlt (grid0.coords t) 7 b g hb hg]
    rfl
  show V m (0 : Dev nD) main_v3 ((((cfgM m hO).win 7).blk t).view.emb (ix4 0 a h k)) = V m (0 : Dev nD) main_v3 _
  refine congrArg (V m (0 : Dev nD) main_v3) (funext fun (x : Fin 4) => Fin.ext ?_)
  match x with
  | ⟨0, _⟩ => show cc0_transform_7 k0_off1_inb numel1_S1 (tbl m) (grid0.coords t) (0 : Fin 4) * 1 + 1 * 0 = _; rw [ht]; show (pageOf m hlt b ⟨g.val * 8 + 7, by omega⟩).val * 1 + 1 * 0 = (pageOf m hlt b ⟨g.val * 8 + 7, by omega⟩).val; omega
  | ⟨1, _⟩ => show cc0_transform_7 k0_off1_inb numel1_S1 (tbl m) (grid0.coords t) (1 : Fin 4) * 128 + 1 * a.val = a.val; rw [ht]; show 0 * 128 + 1 * a.val = a.val; omega
  | ⟨2, _⟩ => show cc0_transform_7 k0_off1_inb numel1_S1 (tbl m) (grid0.coords t) (2 : Fin 4) * 8 + 1 * h.val = h.val; rw [ht]; show 0 * 8 + 1 * h.val = h.val; omega
  | ⟨3, _⟩ => show cc0_transform_7 k0_off1_inb numel1_S1 (tbl m) (grid0.coords t) (3 : Fin 4) * 128 + 1 * k.val = k.val; rw [ht]; show 0 * 128 + 1 * k.val = k.val; omega

theorem wt_block (hO : Ok m) (t : Fin (cfgM m hO).N) (z : S32x128x256.Idx) :
    (iblk m hO 0 8 t : FVec Idealize.ShloMosaic.Ideal S32x128x256 .bf16) z = (V m (0 : Dev nD) main_v9 : FVec Idealize.ShloMosaic.Ideal S32x128x256 .bf16) z := by
  show V m (0 : Dev nD) main_v9 ((((cfgM m hO).win 8).blk t).view.emb z) = V m (0 : Dev nD) main_v9 z
  refine congrArg (V m (0 : Dev nD) main_v9) (funext fun (x : Fin 3) => Fin.ext ?_)
  match x with
  | ⟨0, _⟩ => show 0 * 32 + 1 * (z 0).val = (z 0).val; omega
  | ⟨1, _⟩ => show 0 * 128 + 1 * (z 1).val = (z 1).val; omega
  | ⟨2, _⟩ => show 0 * 256 + 1 * (z 2).val = (z 2).val; omega

theorem pos_block (hO : Ok m) (t : Fin (cfgM m hO).N) (z : S32x8x128.Idx) :
    (iblk m hO 0 9 t : FVec Idealize.ShloMosaic.Ideal S32x8x128 .f32) z = (V m (0 : Dev nD) main_v12 : FVec Idealize.ShloMosaic.Ideal S32x8x128 .f32) z := by
  show V m (0 : Dev nD) main_v12 ((((cfgM m hO).win 9).blk t).view.emb z) = V m (0 : Dev nD) main_v12 z
  refine congrArg (V m (0 : Dev nD) main_v12) (funext fun (x : Fin 3) => Fin.ext ?_)
  match x with
  | ⟨0, _⟩ => show 0 * 32 + 1 * (z 0).val = (z 0).val; omega
  | ⟨1, _⟩ => show 0 * 8 + 1 * (z 1).val = (z 1).val; omega
  | ⟨2, _⟩ => show 0 * 128 + 1 * (z 2).val = (z 2).val; omega

/-! ## The array -/

/-- The entry of the compressed blocks. -/
def entry (b : Fin 32) (n : Fin 256) (h : Fin 8) (e : Fin 128) : EReal :=
  ∑ c : Fin 32, ∑ k : Fin 128,
    (aPool m (ix6 0 (pageOf m hlt b ⟨n.val / 4, by omega⟩) ⟨c.val + 32 * (n.val % 4), by omega⟩ ⟨h.val / 4, by omega⟩ ⟨h.val % 4, by omega⟩ k)
      + aPos m (ix4 0 ⟨h.val / 4, by omega⟩ c k)) * aWt m (ix5 0 ⟨h.val / 4, by omega⟩ c k e)

theorem outs_apply (hO : Ok m) (t : Fin (cfgM m hO).N) (b : Fin 32) (g : Fin 8) (hb : (grid0.coords t 0).val = b.val) (hg : (grid0.coords t 1).val = g.val)
    (rr : Fin 32) (h : Fin 8) (e : Fin 128) :
    outsAt0 m hO 0 t (ix4 0 rr h e) = entry m hlt b ⟨g.val * 32 + rr.val, by omega⟩ h e := by
  unfold outsAt0
  refine (paged_out_apply _ _ _ _ _ _ _ _ _ _ _ _ _ _ _ _ _ _ _ _ _ _ _ _ _ _ _ _ _ _ _ _ _ _ _ _ ).trans ?_
  rw [finish_apply]
  refine (chain_apply (![fun n => (ms0_0 m hO t).view.readAt (Elt Idealize.ShloMosaic.Ideal) (pageRect n) ((hs0_0 m hO t).unread (iblk m hO 0 0 t)), fun n => (ms0_1 m hO t).view.readAt (Elt Idealize.ShloMosaic.Ideal) (pageRect n) ((hs0_1 m hO t).unread (iblk m hO 0 1 t)), fun n => (ms0_2 m hO t).view.readAt (Elt Idealize.ShloMosaic.Ideal) (pageRect n) ((hs0_2 m hO t).unread (iblk m hO 0 2 t)), fun n => (ms0_3 m hO t).view.readAt (Elt Idealize.ShloMosaic.Ideal) (pageRect n) ((hs0_3 m hO t).unread (iblk m hO 0 3 t)), fun n => (ms0_4 m hO t).view.readAt (Elt Idealize.ShloMosaic.Ideal) (pageRect n) ((hs0_4 m hO t).unread (iblk m hO 0 4 t)), fun n => (ms0_5 m hO t).view.readAt (Elt Idealize.ShloMosaic.Ideal) (pageRect n) ((hs0_5 m hO t).unread (iblk m hO 0 5 t)), fun n => (ms0_6 m hO t).view.readAt (Elt Idealize.ShloMosaic.Ideal) (pageRect n) ((hs0_6 m hO t).unread (iblk m hO 0 6 t)), fun n => (ms0_7 m hO t).view.readAt (Elt Idealize.ShloMosaic.Ideal) (pageRect n) ((hs0_7 m hO t).unread (iblk m hO 0 7 t))]) _ _ rr h _ 32).trans ?_
  unfold entry
  rw [Finset.sum_range]
  refine Finset.sum_congr rfl fun c _ => Finset.sum_congr rfl fun k _ => ?_
  have hc := c.isLt
  have hr := rr.isLt
  have hpage : ∀ r : Fin 8, (![fun n => (ms0_0 m hO t).view.readAt (Elt Idealize.ShloMosaic.Ideal) (pageRect n) ((hs0_0 m hO t).unread (iblk m hO 0 0 t)), fun n => (ms0_1 m hO t).view.readAt (Elt Idealize.ShloMosaic.Ideal) (pageRect n) ((hs0_1 m hO t).unread (iblk m hO 0 1 t)), fun n => (ms0_2 m hO t).view.readAt (Elt Idealize.ShloMosaic.Ideal) (pageRect n) ((hs0_2 m hO t).unread (iblk m hO 0 2 t)), fun n => (ms0_3 m hO t).view.readAt (Elt Idealize.ShloMosaic.Ideal) (pageRect n) ((hs0_3 m hO t).unread (iblk m hO 0 3 t)), fun n => (ms0_4 m hO t).view.readAt (Elt Idealize.ShloMosaic.Ideal) (pageRect n) ((hs0_4 m hO t).unread (iblk m hO 0 4 t)), fun n => (ms0_5 m hO t).view.readAt (Elt Idealize.ShloMosaic.Ideal) (pageRect n) ((hs0_5 m hO t).unread (iblk m hO 0 5 t)), fun n => (ms0_6 m hO t).view.readAt (Elt Idealize.ShloMosaic.Ideal) (pageRect n) ((hs0_6 m hO t).unread (iblk m hO 0 6 t)), fun n => (ms0_7 m hO t).view.readAt (Elt Idealize.ShloMosaic.Ideal) (pageRect n) ((hs0_7 m hO t).unread (iblk m hO 0 7 t))] : Fin 8 → ℕ → FVec Idealize.ShloMosaic.Ideal S1x4x8x128 .f32) r c.val (ix4 0 ⟨rr.val % 4, by omega⟩ h k)
      = aPool m (ix6 0 (pageOf m hlt b ⟨g.val * 8 + r.val, by omega⟩) ⟨c.val + 32 * (rr.val % 4), by omega⟩ ⟨h.val / 4, by omega⟩ ⟨h.val % 4, by omega⟩ k) := by
    have hi : ∀ x : FVec Idealize.ShloMosaic.Ideal S1x128x8x128 .f32, x ((pageRect c.val).idx (ix4 0 ⟨rr.val % 4, by omega⟩ h k)) = x (ix4 0 ⟨c.val + 32 * (rr.val % 4), by omega⟩ h k) := fun x => by
      refine congrArg x (funext fun a => Fin.ext ?_)
      match a with
      | ⟨0, _⟩ => rfl
      | ⟨1, _⟩ => show c.val % 32 + 32 * (rr.val % 4) = c.val + 32 * (rr.val % 4); omega
      | ⟨2, _⟩ => show 0 + 1 * h.val = h.val; omega
      | ⟨3, _⟩ => show 0 + 1 * k.val = k.val; omega
    intro r
    match r with
    | ⟨0, _⟩ => exact ((hs0_0 m hO t).readAt_unread _ _ _).trans ((hi _).trans (page_block_0 m hlt hO t b g hb hg _ h k))
    | ⟨1, _⟩ => exact ((hs0_1 m hO t).readAt_unread _ _ _).trans ((hi _).trans (page_block_1 m hlt hO t b g hb hg _ h k))
    | ⟨2, _⟩ => exact ((hs0_2 m hO t).readAt_unread _ _ _).trans ((hi _).trans (page_block_2 m hlt hO t b g hb hg _ h k))
    | ⟨3, _⟩ => exact ((hs0_3 m hO t).readAt_unread _ _ _).trans ((hi _).trans (page_block_3 m hlt hO t b g hb hg _ h k))
    | ⟨4, _⟩ => exact ((hs0_4 m hO t).readAt_unread _ _ _).trans ((hi _).trans (page_block_4 m hlt hO t b g hb hg _ h k))
    | ⟨5, _⟩ => exact ((hs0_5 m hO t).readAt_unread _ _ _).trans ((hi _).trans (page_block_5 m hlt hO t b g hb hg _ h k))
    | ⟨6, _⟩ => exact ((hs0_6 m hO t).readAt_unread _ _ _).trans ((hi _).trans (page_block_6 m hlt hO t b g hb hg _ h k))
    | ⟨7, _⟩ => exact ((hs0_7 m hO t).readAt_unread _ _ _).trans ((hi _).trans (page_block_7 m hlt hO t b g hb hg _ h k))
  have hn : (⟨(g.val * 32 + rr.val) / 4, by omega⟩ : Fin 64) = ⟨g.val * 8 + (⟨rr.val / 4, by omega⟩ : Fin 8).val, by omega⟩ := Fin.ext (by show (g.val * 32 + rr.val) / 4 = g.val * 8 + rr.val / 4; omega)
  have hq : (⟨c.val + 32 * ((g.val * 32 + rr.val) % 4), by omega⟩ : Fin 128) = ⟨c.val + 32 * (rr.val % 4), by omega⟩ := Fin.ext (by show c.val + 32 * ((g.val * 32 + rr.val) % 4) = c.val + 32 * (rr.val % 4); omega)
  refine congrArg₂ (· * ·) (congrArg₂ (· + ·) ?_ ?_) ?_
  · refine (hpage ⟨rr.val / 4, by omega⟩).trans ?_
    simp only [hn, hq]
  · refine ((hs0_9 m hO t).readAt_unread _ _ _).trans ((congrArg _ (funext fun a => Fin.ext ?_)).trans ((pos_block m hO t (ix3 c h k)).trans (V_pos m c h k)))
    match a with
    | ⟨0, _⟩ => show c.val % 32 + 1 * 0 = c.val; omega
    | ⟨1, _⟩ => show 0 + 1 * h.val = h.val; omega
    | ⟨2, _⟩ => show 0 + 1 * k.val = k.val; omega
  · refine ((hs0_8 m hO t).readAt_unread _ _ _).trans ((congrArg _ (funext fun a => Fin.ext ?_)).trans
      ((wt_block m hO t (ix3 c k ⟨h.val / 4 * 128 + e.val, by omega⟩)).trans (V_wt m c k ⟨h.val / 4, by omega⟩ e)))
    match a with
    | ⟨0, _⟩ => show c.val % 32 + 1 * 0 = c.val; omega
    | ⟨1, _⟩ => show 0 + 1 * k.val = k.val; omega
    | ⟨2, _⟩ => show 0 + 1 * (h.val / 4 * 128 + e.val) = h.val / 4 * 128 + e.val; omega

/-- Every (b, g) is a point of the grid. -/
theorem point_of : ∀ (b : Fin 32) (g : Fin 8), ∃ t : Fin grid0.N, (grid0.coords t 0).val = b.val ∧ (grid0.coords t 1).val = g.val := by
  decide +kernel

theorem transform_10 (i : grid0.Coords) : cc0_transform_10 i = ![(i 0).val, (i 1).val, 0, 0] := by
  have h0 : (i 0).val < 32 := (i 0).isLt
  have h1 : (i 1).val < 8 := (i 1).isLt
  unfold cc0_transform_10
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat, 0, 0] = _
  rw [e0, e1]

/-- Where the output's block places an index. -/
theorem out_emb (hO : Ok m) (t : Fin (cfgM m hO).N) (y : S1x32x8x128.Idx) :
    ((((cfgM m hO).win 10).blk t).view.emb y : S32x256x8x128.Idx) = ix4 (grid0.coords t 0) ⟨(grid0.coords t 1).val * 32 + (y 1).val, by
      have h1 : (grid0.coords t 1).val < 8 := (grid0.coords t 1).isLt; have h2 : (y 1).val < 32 := (y 1).isLt; omega⟩ (y 2) (y 3) := by
  have ht := transform_10 (grid0.coords t)
  have hy0 : (y 0).val < 1 := (y 0).isLt
  refine funext fun (a : Fin 4) => Fin.ext ?_
  match a with
  | ⟨0, _⟩ => show cc0_transform_10 (grid0.coords t) (0 : Fin 4) * 1 + 1 * (y 0).val = (grid0.coords t 0).val; rw [ht]; show (grid0.coords t 0).val * 1 + 1 * (y 0).val = (grid0.coords t 0).val; omega
  | ⟨1, _⟩ => show cc0_transform_10 (grid0.coords t) (1 : Fin 4) * 32 + 1 * (y 1).val = (grid0.coords t 1).val * 32 + (y 1).val; rw [ht]; show (grid0.coords t 1).val * 32 + 1 * (y 1).val = (grid0.coords t 1).val * 32 + (y 1).val; omega
  | ⟨2, _⟩ => show cc0_transform_10 (grid0.coords t) (2 : Fin 4) * 8 + 1 * (y 2).val = (y 2).val; rw [ht]; show 0 * 8 + 1 * (y 2).val = (y 2).val; omega
  | ⟨3, _⟩ => show cc0_transform_10 (grid0.coords t) (3 : Fin 4) * 128 + 1 * (y 3).val = (y 3).val; rw [ht]; show 0 * 128 + 1 * (y 3).val = (y 3).val; omega

/-- The array the region leaves. -/
theorem paged_array (hO : Ok m) :
    (dats m hO 0 (0 : Dev nD)).arrAt 10 (cfgM m hO).N
      = ((fun y : S32x256x8x128.Idx => entry m hlt (y 0) (y 1) (y 2) (y 3)) : FVec Idealize.ShloMosaic.Ideal S32x256x8x128 .f32) := by
  refine (dats m hO 0 (0 : Dev nD)).arrAt_eq_of_emb 10 _ (fun t _ y => ?_) fun i => ?_
  · refine (show _ = (dats m hO 0 (0 : Dev nD)).after 10 t y from rfl).trans ?_
    rw [after0_10]
    have hy : (y : S1x32x8x128.Idx) = ix4 0 (y (1 : Fin 4)) (y (2 : Fin 4)) (y (3 : Fin 4)) := by
      exact (eq_ix4 (y : S1x32x8x128.Idx)).trans (congrArg (fun z : Fin 1 => (ix4 z (y (1 : Fin 4)) (y (2 : Fin 4)) (y (3 : Fin 4)) : S1x32x8x128.Idx))
        (Subsingleton.elim (α := Fin 1) _ _))
    refine (congrArg (outsAt0 m hO 0 t) hy).trans ?_
    refine (outs_apply m hlt hO t (grid0.coords t 0) (grid0.coords t 1) rfl rfl (y (1 : Fin 4)) (y (2 : Fin 4)) (y (3 : Fin 4))).trans ?_
    refine Eq.trans ?_ (congrArg (fun y : S32x256x8x128.Idx => entry m hlt (y 0) (y 1) (y 2) (y 3)) (out_emb m hO t y)).symm
    rfl
  · obtain ⟨t, h0, h1⟩ := point_of (i (0 : Fin 4)) ⟨(i (1 : Fin 4)).val / 32, by have h : (i (1 : Fin 4)).val < 256 := (i (1 : Fin 4)).isLt; omega⟩
    refine ⟨t, flush0_10 (adm m hO) t, ?_⟩
    have e : ((((cfgM m hO).win 10).blk t).view.emb (ix4 0 ⟨(i (1 : Fin 4)).val % 32, by omega⟩ (i (2 : Fin 4)) (i (3 : Fin 4)) : S1x32x8x128.Idx) : S32x256x8x128.Idx) = i := by
      rw [out_emb]
      refine funext fun (a : Fin 4) => Fin.ext ?_
      match a with
      | ⟨0, _⟩ => exact h0
      | ⟨1, _⟩ => show (grid0.coords t 1).val * 32 + (i (1 : Fin 4)).val % 32 = (i (1 : Fin 4)).val; rw [h1]; show (i (1 : Fin 4)).val / 32 * 32 + (i (1 : Fin 4)).val % 32 = (i (1 : Fin 4)).val; omega
      | ⟨2, _⟩ => rfl
      | ⟨3, _⟩ => rfl
    rw [← e]
    exact View.emb_mem_set _ _

end Cert.Proof.Paged

end
-- ==== Proof.PagedRef.lean ====
/- Hand-written: THE REFERENCE OF THE PAGED COMPRESSION AT AN ENTRY, over the extended reals: the gather through the page table
   read at an in-range word (`gathered_apply`), the contraction over a block's 32 places and 128 features as a double sum
   (`product_apply`), and the result (`ref_apply`). -/
module

public import proofs.«01_k».proof.Proof.Gen.ReferenceIdeal.Read
public import Idealize.ShloMosaic.Lib.ValueIdx
public import Idealize.ShloMosaic.Lib.ValueIdxRank6
public import Idealize.ShloMosaic.Lib.Pipeline.Value
public import Idealize.ShloMosaic.Lib.MatmulPlain

@[expose] public section

noncomputable section

namespace Cert.Proof.PagedRef

open Cert.ReferenceIdeal Cert.ReferenceIdeal.Gen Cert.ReferenceIdeal.Read
open Idealize.ShloMosaic Idealize.ShloMosaic.TcCoe Idealize.ShloMosaic.ValueIdx
open scoped BigOperators

variable (x0 : FVec Idealize.ShloMosaic.Ideal S1x2560x128x2x4x128 .f32) (x1 : IVec S32x64 32) (x2 : FVec Idealize.ShloMosaic.Ideal S1x2x32x128 .f32)
  (x3 : FVec Idealize.ShloMosaic.Ideal S1x2x32x128x128 .f32)

/-- The weight's entry. -/
theorem wt_apply (j : Fin 2) (c : Fin 32) (k e : Fin 128) :
    val_main_v2 (F := Idealize.ShloMosaic.Ideal) x3 (ix4 j c k e) = x3 (ix5 0 j c k e) := by
  unfold val_main_v2
  refine shapeCast_apply _ shapeCasts_S1x2x32x128x128_S2x32x128x128 _ _ ?_
  rw [Shape.rowMajor_val_five, Shape.rowMajor_val_four]
  show (((0 * 2 + j.val) * 32 + c.val) * 128 + k.val) * 128 + e.val = ((j.val * 32 + c.val) * 128 + k.val) * 128 + e.val
  omega

/-- The position's entry. -/
theorem pos_apply (b : Fin 32) (n : Fin 256) (c : Fin 32) (j : Fin 2) (i : Fin 4) (k : Fin 128) :
    val_main_v14 (F := Idealize.ShloMosaic.Ideal) x2 (ix6 b n c j i k) = x2 (ix4 0 j c k) := by
  rw [val_main_v14_apply, val_main_v13_apply, val_main_v12_apply]
  unfold val_main_v1
  refine shapeCast_apply _ shapeCasts_S1x2x32x128_S2x32x128 _ _ ?_
  rw [Shape.rowMajor_val_four, Shape.rowMajor_val_three]
  show ((0 * 2 + j.val) * 32 + c.val) * 128 + k.val = (j.val * 32 + c.val) * 128 + k.val
  omega

/-- A word of the table that is a page of the pool is looked up as it is. -/
theorem word_apply (b : Fin 32) (p : Fin 64) (hp : (x1 (ix2 b p)).toNat < 2560) (z : Fin 1) :
    val_main_v8 (F := Idealize.ShloMosaic.Ideal) x1 (ix3 b p z) = x1 (ix2 b p) := by
  have e : idx_main_v8 (ix3 b p z) = ix2 b p := by
    funext a
    match a with
    | ⟨0, _⟩ => rfl
    | ⟨1, _⟩ => rfl
  rw [val_main_v8_apply, e, val_main_v7_apply, val_main_v4_apply, val_main_v3_apply, val_main_c_apply]
  have h : IntOp.cmpi .slt (x1 (ix2 b p)) 0#32 = 0#1 := by
    have hs : (x1 (ix2 b p)).slt 0#32 = false := by
      simp only [BitVec.slt, BitVec.toInt, BitVec.toNat_ofNat, decide_eq_false_iff_not]
      omega
    show BitVec.ofBool ((x1 (ix2 b p)).slt 0#32) = 0#1
    rw [hs]; rfl
  rw [h]
  rfl

/-- Only the page coordinate is looked up. -/
theorem start_off (b : Fin 32) (p : Fin 64) (a : Fin 128) (j : Fin 2) (i : Fin 4) (k : Fin 128) (y : Fin 5) (hy : y ≠ 0) :
    gather_S2560x128x2x4x128_S32x64x1_S32x64x128x2x4x128_2345_0_n_n_0_2_112824128.start (ix6 b p a j i k) (val_main_v8 (F := Idealize.ShloMosaic.Ideal) x1) y = 0 := by
  unfold GatherDims.start
  exact dif_neg (fun h => hy (List.mem_singleton.mp h))

/-- The gather through the page table. -/
theorem gathered_apply (b : Fin 32) (p : Fin 64) (a : Fin 128) (j : Fin 2) (i : Fin 4) (k : Fin 128) (hp : (x1 (ix2 b p)).toNat < 2560) :
    val_main_v9 (F := Idealize.ShloMosaic.Ideal) x0 x1 (ix6 b p a j i k) = x0 (ix6 0 ⟨(x1 (ix2 b p)).toNat, hp⟩ a j i k) := by
  unfold val_main_v9
  let D := gather_S2560x128x2x4x128_S32x64x1_S32x64x128x2x4x128_2345_0_n_n_0_2_112824128
  refine Eq.trans (b := val_main_v0 (F := Idealize.ShloMosaic.Ideal) x0 (ix5 ⟨(x1 (ix2 b p)).toNat, hp⟩ a j i k)) ?_ ?_
  · unfold Host.gather
    refine congrArg _ (funext fun (x : Fin 5) => Fin.ext ?_)
    show D.start (ix6 b p a j i k) (val_main_v8 (F := Idealize.ShloMosaic.Ideal) x1) x + D.batchCoord (ix6 b p a j i k) x + D.offCoord (ix6 b p a j i k) x = _
    rw [GatherDims.batchCoord_eq_zero _ _ _ List.not_mem_nil]
    match x with
    | ⟨0, _⟩ =>
      rw [GatherDims.offCoord_eq_zero _ _ _ (fun h => ((GatherDims.mem_sKept _ _).mp h).1 (List.mem_singleton.mpr rfl))]
      have hst : D.start (ix6 b p a j i k) (val_main_v8 (F := Idealize.ShloMosaic.Ideal) x1) ⟨0, by decide⟩
          = min (val_main_v8 (F := Idealize.ShloMosaic.Ideal) x1 (D.siIdx (ix6 b p a j i k) ⟨List.idxOf (0 : Fin 5) D.startIndexMap,
          List.idxOf_lt_length_iff.2 (List.mem_singleton.mpr rfl)⟩)).toInt.toNat (2560 - 1) := by
        unfold GatherDims.start
        exact dif_pos (show (0 : Fin 5) ∈ D.startIndexMap from List.mem_singleton.mpr rfl)
      refine (congrArg (fun z => z + 0 + 0) hst).trans ?_
      have hsi : D.siIdx (ix6 b p a j i k) ⟨List.idxOf (0 : Fin 5) D.startIndexMap,
          List.idxOf_lt_length_iff.2 (List.mem_singleton.mpr rfl)⟩ = ix3 b p 0 := by
        funext y; refine Fin.ext ?_
        match y with
        | ⟨0, _⟩ => rfl
        | ⟨1, _⟩ => rfl
        | ⟨2, _⟩ => rfl
      rw [hsi, word_apply x1 b p hp]
      show min (x1 (ix2 b p)).toInt.toNat (2560 - 1) + 0 + 0 = (x1 (ix2 b p)).toNat
      have ht : (x1 (ix2 b p)).toInt = ((x1 (ix2 b p)).toNat : ℤ) := by
        rw [BitVec.toInt_eq_toNat_cond, if_pos (by omega)]
      rw [ht]
      omega
    | ⟨1, _⟩ => exact (congrArg₂ (· + ·) (congrArg (· + 0) (start_off x1 b p a j i k ⟨1, by decide⟩ (by decide))) rfl).trans (by show 0 + 0 + a.val = a.val; omega)
    | ⟨2, _⟩ => exact (congrArg₂ (· + ·) (congrArg (· + 0) (start_off x1 b p a j i k ⟨2, by decide⟩ (by decide))) rfl).trans (by show 0 + 0 + j.val = j.val; omega)
    | ⟨3, _⟩ => exact (congrArg₂ (· + ·) (congrArg (· + 0) (start_off x1 b p a j i k ⟨3, by decide⟩ (by decide))) rfl).trans (by show 0 + 0 + i.val = i.val; omega)
    | ⟨4, _⟩ => exact (congrArg₂ (· + ·) (congrArg (· + 0) (start_off x1 b p a j i k ⟨4, by decide⟩ (by decide))) rfl).trans (by show 0 + 0 + k.val = k.val; omega)
  · unfold val_main_v0
    refine shapeCast_apply _ shapeCasts_S1x2560x128x2x4x128_S2560x128x2x4x128 _ _ ?_
    rw [Shape.rowMajor_val_six, Shape.rowMajor_val_five]
    show ((((0 * 2560 + (x1 (ix2 b p)).toNat) * 128 + a.val) * 2 + j.val) * 4 + i.val) * 128 + k.val
      = ((((x1 (ix2 b p)).toNat * 128 + a.val) * 2 + j.val) * 4 + i.val) * 128 + k.val
    omega

/-- The rows of a block. -/
theorem rows_apply (b : Fin 32) (n : Fin 256) (c : Fin 32) (j : Fin 2) (i : Fin 4) (k : Fin 128)
    (hp : (x1 (ix2 b ⟨n.val / 4, by omega⟩)).toNat < 2560) :
    val_main_v11 (F := Idealize.ShloMosaic.Ideal) x0 x1 (ix6 b n c j i k)
      = x0 (ix6 0 ⟨(x1 (ix2 b ⟨n.val / 4, by omega⟩)).toNat, hp⟩ ⟨c.val + 32 * (n.val % 4), by omega⟩ j i k) := by
  have hc := c.isLt
  have hn := n.isLt
  unfold val_main_v11
  refine (shapeCast_apply _ shapeCasts_S32x8192x2x4x128_S32x256x32x2x4x128 _ (ix5 b ⟨n.val * 32 + c.val, by omega⟩ j i k) ?_).trans ?_
  · rw [Shape.rowMajor_val_six, Shape.rowMajor_val_five]
    show (((b.val * 8192 + (n.val * 32 + c.val)) * 2 + j.val) * 4 + i.val) * 128 + k.val
      = ((((b.val * 256 + n.val) * 32 + c.val) * 2 + j.val) * 4 + i.val) * 128 + k.val
    omega
  unfold val_main_v10
  refine (shapeCast_apply _ shapeCasts_S32x64x128x2x4x128_S32x8192x2x4x128 _
    (ix6 b ⟨n.val / 4, by omega⟩ ⟨c.val + 32 * (n.val % 4), by omega⟩ j i k) ?_).trans (gathered_apply x0 x1 b _ _ j i k hp)
  rw [Shape.rowMajor_val_six, Shape.rowMajor_val_five]
  show ((((b.val * 64 + n.val / 4) * 128 + (c.val + 32 * (n.val % 4))) * 2 + j.val) * 4 + i.val) * 128 + k.val
    = (((b.val * 8192 + (n.val * 32 + c.val)) * 2 + j.val) * 4 + i.val) * 128 + k.val
  omega

/-- The contraction over places and features. -/
theorem product_apply (L : FVec Idealize.ShloMosaic.Ideal S2x32x128x128 .f32) (R : FVec Idealize.ShloMosaic.Ideal S32x256x32x2x4x128 .f32)
    (j : Fin 2) (e : Fin 128) (b : Fin 32) (n : Fin 256) (i : Fin 4) :
    Host.dotGeneral dot_S2x32x128x128_S32x256x32x2x4x128_S2x128x32x256x4_12_25_3_014_0_3 none L R (ix5 j e b n i)
      = ∑ c : Fin 32, ∑ k : Fin 128, L (ix4 j c k e) * R (ix6 b n c j i k) := by
  let D := dot_S2x32x128x128_S32x256x32x2x4x128_S2x128x32x256x4_12_25_3_014_0_3
  have hr : D.contr.rank = 2 := rfl
  have c0 : D.contr.size ⟨0, by rw [hr]; omega⟩ = 32 := rfl
  have c1 : D.contr.size ⟨1, by rw [hr]; omega⟩ = 128 := rfl
  show FloatOps.dotGeneral D none _ L R (ix5 j e b n i) = _
  rw [Idealize.ShloMosaic.Ideal.dotGeneral_apply, ← Equiv.sum_comp (contrEquiv2 D 32 128 hr c0 c1).symm, Fintype.sum_prod_type]
  refine Finset.sum_congr rfl fun c _ => Finset.sum_congr rfl fun k _ => ?_
  have h0 := contrEquiv2_symm_val0 D 32 128 hr c0 c1 (c, k)
  have h1 := contrEquiv2_symm_val1 D 32 128 hr c0 c1 (c, k)
  have el : D.lhsIdx (ix5 j e b n i) ((contrEquiv2 D 32 128 hr c0 c1).symm (c, k)) = ix4 j c k e := by
    funext a; apply Fin.ext
    match a with
    | ⟨0, _⟩ => rfl
    | ⟨1, _⟩ => exact h0
    | ⟨2, _⟩ => exact h1
    | ⟨3, _⟩ => rfl
  have er : D.rhsIdx (ix5 j e b n i) ((contrEquiv2 D 32 128 hr c0 c1).symm (c, k)) = ix6 b n c j i k := by
    funext a; apply Fin.ext
    match a with
    | ⟨0, _⟩ => rfl
    | ⟨1, _⟩ => rfl
    | ⟨2, _⟩ => exact h0
    | ⟨3, _⟩ => rfl
    | ⟨4, _⟩ => rfl
    | ⟨5, _⟩ => exact h1
  rw [el, er]

/-- The reference's result, at an entry. -/
theorem ref_apply (hlt : ∀ y : S32x64.Idx, (x1 y).toNat < 2560) (b : Fin 32) (n : Fin 256) (h : Fin 8) (e : Fin 128) :
    val_main_v18 (F := Idealize.ShloMosaic.Ideal) x0 x1 x2 x3 (ix4 b n h e)
      = ∑ c : Fin 32, ∑ k : Fin 128,
          (x0 (ix6 0 ⟨(x1 (ix2 b ⟨n.val / 4, by omega⟩)).toNat, hlt _⟩ ⟨c.val + 32 * (n.val % 4), by omega⟩ ⟨h.val / 4, by omega⟩ ⟨h.val % 4, by omega⟩ k)
            + x2 (ix4 0 ⟨h.val / 4, by omega⟩ c k)) * x3 (ix5 0 ⟨h.val / 4, by omega⟩ c k e) := by
  have hh := h.isLt
  unfold val_main_v18
  refine (shapeCast_apply _ shapeCasts_S32x256x2x4x128_S32x256x8x128 _ (ix5 b n ⟨h.val / 4, by omega⟩ ⟨h.val % 4, by omega⟩ e) ?_).trans ?_
  · rw [Shape.rowMajor_val_five, Shape.rowMajor_val_four]
    show (((b.val * 256 + n.val) * 2 + h.val / 4) * 4 + h.val % 4) * 128 + e.val = ((b.val * 256 + n.val) * 8 + h.val) * 128 + e.val
    omega
  rw [val_main_v17_apply]
  have ei : idx_main_v17 (ix5 b n ⟨h.val / 4, by omega⟩ ⟨h.val % 4, by omega⟩ e) = ix5 ⟨h.val / 4, by omega⟩ e b n ⟨h.val % 4, by omega⟩ := by
    funext a
    match a with
    | ⟨0, _⟩ => rfl
    | ⟨1, _⟩ => rfl
    | ⟨2, _⟩ => rfl
    | ⟨3, _⟩ => rfl
    | ⟨4, _⟩ => rfl
  rw [ei]
  unfold val_main_v16
  rw [product_apply]
  refine Finset.sum_congr rfl fun c _ => Finset.sum_congr rfl fun k _ => ?_
  rw [val_main_v15_apply, wt_apply, rows_apply x0 x1 b n c _ _ k (hlt _), pos_apply]
  exact mul_comm _ _

end Cert.Proof.PagedRef

end
-- ==== Proof.PagedClaims.lean ====
/- Hand-written: THE CLAIMS OF THE PAGED COMPRESSION. The precondition says that every word of the page table is a page of the
   pool, which is the frame's side condition (`ok`); the value is `PagedBlocks.paged_array` on the kernel's side and
   `PagedRef.ref_apply` on the reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.PagedBlocks
public import proofs.«01_k».proof.Proof.PagedRef

@[expose] public section

noncomputable section

namespace Cert.Proof.Paged

open Idealize.ShloMosaic Idealize.ShloMosaic.TcCoe Idealize.ShloMosaic.ValueIdx
open scoped BigOperators

/-- The kernel over the extended reals runs, keeps its arguments and ends with every counter at zero. -/
theorem frame_ideal : Cert.quiescent_KernelIdeal := fun m g h =>
  Cert.KernelIdeal.Gen.frame m g (ok_of_lt m fun y => in_pool _ _ _ _ (h 0) y)

/-- The same over the floating-point formats. -/
theorem frame_bits : Cert.quiescent_Kernel := by
  intro m g h
  have hlt : ∀ y : Cert.KernelIdeal.S32x64.Idx, BitVec.toNat (w := 32) (m (((0 : Dev Cert.Kernel.nD) : Thread Cert.Kernel.nD Cert.Kernel.τ).loc Cert.Kernel.main_arg1) y) < 2560 :=
    fun y => in_pool (F := Bits) _ _ _ _ (h 0) y
  have hO : Cert.Kernel.Gen.Ok m := ok_of_lt (F := Bits) m hlt
  exact Cert.Kernel.Gen.frame m g hO

/-- The kernel's array and the reference's result are the same function of the arguments. -/
theorem algebraic : Cert.algebraic_KernelIdeal_ReferenceIdeal := by
  intro m g m' g' hpre hagree
  have hlt : ∀ y : Cert.KernelIdeal.S32x64.Idx, BitVec.toNat (w := 32) (aTable m y) < 2560 := fun y => in_pool _ _ _ _ (hpre 0) y
  have hO : Cert.KernelIdeal.Gen.Ok m := ok_of_lt m hlt
  refine ⟨fun _ => ((fun y : Cert.KernelIdeal.S32x256x8x128.Idx => entry m hlt (y 0) (y 1) (y 2) (y 3)) :
    FVec Idealize.ShloMosaic.Ideal Cert.KernelIdeal.S32x256x8x128 .f32), ?_, ?_⟩
  · refine (θ_run Cert.KernelIdeal.defs _ _).mono (fun r h c => ?_)
      (θ_run_and (Cert.KernelIdeal.Gen.run_main m g hO) (Cert.KernelIdeal.Gen.unchanged m g hO))
    obtain rfl : c = 0 := Subsingleton.elim _ _
    exact ⟨((h.1 0).1 10).trans (paged_array m hlt hO), h.2 0⟩
  · refine (θ_run Cert.ReferenceIdeal.defs _ _).mono (fun r h c => ?_) (Cert.ReferenceIdeal.Value.run m' g')
    obtain rfl : c = 0 := Subsingleton.elim _ _
    refine ⟨((h 0).1.trans (Cert.ReferenceIdeal.Read.val_main_v18_eq _ _ _ _)).trans ?_, (h 0).2⟩
    obtain ⟨h0, h1, h2, h3⟩ := hagree 0
    funext y
    refine (congrFun (congr (congr (congr (congrArg Cert.ReferenceIdeal.Read.val_main_v18 h0) h1) h2) h3) y).trans ?_
    refine (congrArg _ (eq_ix4 y)).trans ?_
    exact PagedRef.ref_apply _ _ _ _ hlt (y 0) (y 1) (y 2) (y 3)

end Cert.Proof.Paged

end
-- ==== Proof.InProjRegions.lean ====
/- Hand-written: THE THREE REGIONS, over the extended reals. Each leaves in its result's array the product of its two operands as
   it finds them: the modulation (40 rows by 24576 columns), the prompt's projection (8192 by 12288) and the samples'
   projection (128 by 12288), each a sum over the 4096 columns of the left operand. -/
module

public import proofs.«01_k».proof.Proof.Gen.Kernel2Ideal.Frame
public import Idealize.ShloMosaic.Lib.ValueIdx
public import Idealize.ShloMosaic.Lib.Pipeline.Value
public import Idealize.ShloMosaic.Lib.MatmulPlain
public import Idealize.ShloMosaic.Lib.WholeRead
public import Idealize.ShloMosaic.Lib.VecWindow
public import Idealize.ShloMosaic.Lib.Pipeline.ValueKit.Tiles
public import Idealize.ShloMosaic.Lib.Pipeline.ValueKit.Geometry

@[expose] public section

noncomputable section

namespace Cert.Proof.InProj

open Cert.Kernel2Ideal Cert.Kernel2Ideal.Gen
open Idealize.ShloMosaic Idealize.ShloMosaic.TcCoe Idealize.ShloMosaic.ValueIdx Idealize.ShloMosaic.Tactic
open scoped BigOperators

variable (V : (c : Dev nD) → (b : Ref sig .tc) → Buf (Elt Idealize.ShloMosaic.Ideal) ((c : Thread nD τ).loc b))

/-! ## Region 0: 40 rows by 24576 columns, blocks of 40 by 512 -/

/-- The body's product at an entry. -/
theorem body_apply0 (x0 : FVec Idealize.ShloMosaic.Ideal S40x4096 .f32) (x1 : FVec Idealize.ShloMosaic.Ideal S4096x512 .f32) (i : Fin 40) (j : Fin 512) :
    k0_pay1 (F := Idealize.ShloMosaic.Ideal) x0 x1 (ix2 i j) = ∑ k : Fin 4096, x0 (ix2 i k) * x1 (ix2 k j) := by
  unfold k0_pay1
  refine (Ideal.matmul_plain_apply (M := 40) (K := 4096) (N := 512) none _ _ _ _ _).trans ?_
  refine (congrArg (fun z : EReal => z + _) (Ideal.ofBits_zero_f32)).trans ((zero_add _).trans (Finset.sum_congr rfl fun k _ => ?_))
  have el : ∀ y : S40x4096.Idx, truncf .bf16 (shapeCast S40x4096 x0 shapeCasts_S40x4096_S40x4096) bitsLt_bf16_f32 y = x0 y := fun y => (shapeCast_apply x0 shapeCasts_S40x4096_S40x4096 y y rfl)
  have er : ∀ y : S4096x512.Idx, truncf .bf16 (shapeCast S4096x512 x1 shapeCasts_S4096x512_S4096x512) bitsLt_bf16_f32 y = x1 y := fun y => (shapeCast_apply x1 shapeCasts_S4096x512_S4096x512 y y rfl)
  exact congrArg₂ (· * ·) (el _) (er _)

/-- What the body leaves in the result's buffer. -/
theorem out_apply0 (x0 : FVec Idealize.ShloMosaic.Ideal S40x4096 .f32) (x1 : FVec Idealize.ShloMosaic.Ideal S4096x512 .f32) (i : Fin 40) (j : Fin 512) :
    out0_2 (F := Idealize.ShloMosaic.Ideal) x0 x1 (ix2 i j) = ∑ k : Fin 4096, x0 (ix2 i k) * x1 (ix2 k j) := by
  unfold out0_2
  have h := fun pay => View.canon_cons_emb (Val := Elt Idealize.ShloMosaic.Ideal) (e := .f32) r0_2 pay [] (ix2 i j)
  have e2 : r0_2.emb (ix2 i j) = ix2 i j := Rect.emb_unit_full (s := S40x512) _ _
  rw [e2] at h
  refine (h _).trans ?_
  have e0 : View.ld (Val := Elt Idealize.ShloMosaic.Ideal) (e' := .f32) (S := S40x4096) x0 r0_0 = x0 := funext fun y => congrArg x0 (Rect.emb_unit_full (s := S40x4096) _ y)
  have e1 : View.ld (Val := Elt Idealize.ShloMosaic.Ideal) (e' := .f32) (S := S4096x512) x1 r0_1 = x1 := funext fun y => congrArg x1 (Rect.emb_unit_full (s := S4096x512) _ y)
  rw [e0, e1]
  exact body_apply0 x0 x1 i j

theorem transform0_0 (i : grid0.Coords) : cc0_transform_0 i = ![(i 0).val, 0] := by
  have h0 : (i 0).val < 1 := (i 0).isLt
  have h1 : (i 1).val < 48 := (i 1).isLt
  unfold cc0_transform_0
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, 0] = _
  rw [e0]

theorem transform0_1 (i : grid0.Coords) : cc0_transform_1 i = ![0, (i 1).val] := by
  have h0 : (i 0).val < 1 := (i 0).isLt
  have h1 : (i 1).val < 48 := (i 1).isLt
  unfold cc0_transform_1
  have e0 : (BitVec.ofNat 32 (i 0).val).toNat = (i 0).val := by rw [BitVec.toNat_ofNat]; omega
  have e1 : (BitVec.ofNat 32 (i 1).val).toNat = (i 1).val := by rw [BitVec.toNat_ofNat]; omega
  show ![0, (BitVec.ofNat 32 (i 1).val).toNat] = _
  rw [e1]

theorem transform0_2 (i : grid0.Coords) : cc0_transform_2 i = ![(i 0).val, (i 1).val] := by
  have h0 : (i 0).val < 1 := (i 0).isLt
  have h1 : (i 1).val < 48 := (i 1).isLt
  unfold cc0_transform_2
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat] = _
  rw [e0, e1]

/-- Region 0's operands. -/
def lhs0 : S40x4096.Idx → EReal := V (0 : Dev nD) main_v20
def rhs0 : S4096x24576.Idx → EReal := V (0 : Dev nD) main_v19

/-- The product region 0 computes. -/
def prod0 (i : Fin 40) (j : Fin 24576) : EReal := ∑ k : Fin 4096, lhs0 V (ix2 i k) * rhs0 V (ix2 k j)

theorem row_lt0 (t : Fin cfg0.N) (i : Fin 40) : (grid0.coords t 0).val * 40 + i.val < 40 := by
  have h : (grid0.coords t 0).val < 1 := (grid0.coords t 0).isLt
  omega

theorem col_lt0 (t : Fin cfg0.N) (j : Fin 512) : (grid0.coords t 1).val * 512 + j.val < 24576 := by
  have h : (grid0.coords t 1).val < 48 := (grid0.coords t 1).isLt
  omega

theorem left_block0 (t : Fin cfg0.N) (i : Fin 40) (k : Fin 4096) :
    (iblk0 V (0 : Dev nD) 0 t : FVec Idealize.ShloMosaic.Ideal S40x4096 .f32) (ix2 i k)
      = (V (0 : Dev nD) main_v20 : FVec Idealize.ShloMosaic.Ideal S40x4096 .f32) (ix2 ⟨(grid0.coords t 0).val * 40 + i.val, row_lt0 t i⟩ k) := by
  have ht := transform0_0 (grid0.coords t)
  show V (0 : Dev nD) main_v20 (((cfg0.win 0).blk t).view.emb (ix2 i k)) = _
  refine congrArg (V (0 : Dev nD) main_v20) (funext fun (x : Fin 2) => Fin.ext ?_)
  match x with
  | ⟨0, _⟩ => show cc0_transform_0 (grid0.coords t) (0 : Fin 2) * 40 + 1 * i.val = (grid0.coords t 0).val * 40 + i.val; rw [ht]; show (grid0.coords t 0).val * 40 + 1 * i.val = _; omega
  | ⟨1, _⟩ => show cc0_transform_0 (grid0.coords t) (1 : Fin 2) * 4096 + 1 * k.val = k.val; rw [ht]; show 0 * 4096 + 1 * k.val = k.val; omega

theorem right_block0 (t : Fin cfg0.N) (k : Fin 4096) (j : Fin 512) :
    (iblk0 V (0 : Dev nD) 1 t : FVec Idealize.ShloMosaic.Ideal S4096x512 .f32) (ix2 k j)
      = (V (0 : Dev nD) main_v19 : FVec Idealize.ShloMosaic.Ideal S4096x24576 .f32) (ix2 k ⟨(grid0.coords t 1).val * 512 + j.val, col_lt0 t j⟩) := by
  have ht := transform0_1 (grid0.coords t)
  show V (0 : Dev nD) main_v19 (((cfg0.win 1).blk t).view.emb (ix2 k j)) = _
  refine congrArg (V (0 : Dev nD) main_v19) (funext fun (x : Fin 2) => Fin.ext ?_)
  match x with
  | ⟨0, _⟩ => show cc0_transform_1 (grid0.coords t) (0 : Fin 2) * 4096 + 1 * k.val = k.val; rw [ht]; show 0 * 4096 + 1 * k.val = k.val; omega
  | ⟨1, _⟩ => show cc0_transform_1 (grid0.coords t) (1 : Fin 2) * 512 + 1 * j.val = (grid0.coords t 1).val * 512 + j.val; rw [ht]; show (grid0.coords t 1).val * 512 + 1 * j.val = _; omega

theorem out_emb0 (t : Fin cfg0.N) (y : S40x512.Idx) :
    (((cfg0.win 2).blk t).view.emb y : S40x24576.Idx) = ix2 ⟨(grid0.coords t 0).val * 40 + (y 0).val, row_lt0 t (y 0)⟩ ⟨(grid0.coords t 1).val * 512 + (y 1).val, col_lt0 t (y 1)⟩ := by
  have ht := transform0_2 (grid0.coords t)
  refine funext fun (a : Fin 2) => Fin.ext ?_
  match a with
  | ⟨0, _⟩ => show cc0_transform_2 (grid0.coords t) (0 : Fin 2) * 40 + 1 * (y 0).val = (grid0.coords t 0).val * 40 + (y 0).val; rw [ht]; show (grid0.coords t 0).val * 40 + 1 * (y 0).val = _; omega
  | ⟨1, _⟩ => show cc0_transform_2 (grid0.coords t) (1 : Fin 2) * 512 + 1 * (y 1).val = (grid0.coords t 1).val * 512 + (y 1).val; rw [ht]; show (grid0.coords t 1).val * 512 + 1 * (y 1).val = _; omega

theorem point_of0 : ∀ (b : Fin 1) (g : Fin 48), ∃ t : Fin grid0.N, (grid0.coords t 0).val = b.val ∧ (grid0.coords t 1).val = g.val := by
  decide +kernel

/-- The array region 0 leaves is the product of its two operands. -/
theorem region_array0 :
    (dat0 V (0 : Dev nD)).arrAt 2 cfg0.N = ((fun y : S40x24576.Idx => prod0 V (y 0) (y 1)) : FVec Idealize.ShloMosaic.Ideal S40x24576 .f32) := by
  refine (dat0 V (0 : Dev nD)).arrAt_eq_of_emb 2 _ (fun t _ y => ?_) fun i => ?_
  · refine (show _ = (dat0 V (0 : Dev nD)).after 2 t y from rfl).trans ?_
    rw [after0_2]
    refine (congrArg (out0_2 (F := Idealize.ShloMosaic.Ideal) (iblk0 V (0 : Dev nD) 0 t) (iblk0 V (0 : Dev nD) 1 t)) (eq_ix2 (y : S40x512.Idx))).trans ?_
    refine (out_apply0 _ _ _ _).trans ?_
    refine Eq.trans ?_ (congrArg (fun y : S40x24576.Idx => prod0 V (y 0) (y 1)) (out_emb0 t y)).symm
    exact Finset.sum_congr rfl fun k _ => congrArg₂ (fun a b : EReal => a * b) (left_block0 V t _ k) (right_block0 V t k _)
  · obtain ⟨t, h0, h1⟩ := point_of0 ⟨(i (0 : Fin 2)).val / 40, by have h : (i (0 : Fin 2)).val < 40 := (i (0 : Fin 2)).isLt; omega⟩
      ⟨(i (1 : Fin 2)).val / 512, by have h : (i (1 : Fin 2)).val < 24576 := (i (1 : Fin 2)).isLt; omega⟩
    refine ⟨t, flush0_2 t, ?_⟩
    have e : (((cfg0.win 2).blk t).view.emb (ix2 ⟨(i (0 : Fin 2)).val % 40, by omega⟩ ⟨(i (1 : Fin 2)).val % 512, by omega⟩ : S40x512.Idx) : S40x24576.Idx) = i := by
      rw [out_emb0]
      refine funext fun (a : Fin 2) => Fin.ext ?_
      match a with
      | ⟨0, _⟩ => show (grid0.coords t 0).val * 40 + (i (0 : Fin 2)).val % 40 = (i (0 : Fin 2)).val; rw [h0]; show (i (0 : Fin 2)).val / 40 * 40 + (i (0 : Fin 2)).val % 40 = (i (0 : Fin 2)).val; omega
      | ⟨1, _⟩ => show (grid0.coords t 1).val * 512 + (i (1 : Fin 2)).val % 512 = (i (1 : Fin 2)).val; rw [h1]; show (i (1 : Fin 2)).val / 512 * 512 + (i (1 : Fin 2)).val % 512 = (i (1 : Fin 2)).val; omega
    rw [← e]
    exact View.emb_mem_set _ _

/-! ## Region 1: 8192 rows by 12288 columns, blocks of 1024 by 512 -/

/-- The body's product at an entry. -/
theorem body_apply1 (x0 : FVec Idealize.ShloMosaic.Ideal S1024x4096 .bf16) (x1 : FVec Idealize.ShloMosaic.Ideal S4096x512 .bf16) (i : Fin 1024) (j : Fin 512) :
    k1_pay1 (F := Idealize.ShloMosaic.Ideal) x0 x1 (ix2 i j) = ∑ k : Fin 4096, x0 (ix2 i k) * x1 (ix2 k j) := by
  unfold k1_pay1
  refine (Ideal.matmul_plain_apply (M := 1024) (K := 4096) (N := 512) none _ _ _ _ _).trans ?_
  refine (congrArg (fun z : EReal => z + _) (Ideal.ofBits_zero_f32)).trans ((zero_add _).trans (Finset.sum_congr rfl fun k _ => ?_))
  have el : ∀ y : S1024x4096.Idx, shapeCast S1024x4096 x0 shapeCasts_S1024x4096_S1024x4096 y = x0 y := fun y => shapeCast_apply _ _ _ _ rfl
  have er : ∀ y : S4096x512.Idx, shapeCast S4096x512 x1 shapeCasts_S4096x512_S4096x512 y = x1 y := fun y => shapeCast_apply _ _ _ _ rfl
  exact congrArg₂ (· * ·) (el _) (er _)

/-- What the body leaves in the result's buffer. -/
theorem out_apply1 (x0 : FVec Idealize.ShloMosaic.Ideal S1024x4096 .bf16) (x1 : FVec Idealize.ShloMosaic.Ideal S4096x512 .bf16) (i : Fin 1024) (j : Fin 512) :
    out1_2 (F := Idealize.ShloMosaic.Ideal) x0 x1 (ix2 i j) = ∑ k : Fin 4096, x0 (ix2 i k) * x1 (ix2 k j) := by
  unfold out1_2
  have h := fun pay => View.canon_cons_emb (Val := Elt Idealize.ShloMosaic.Ideal) (e := .f32) r1_2 pay [] (ix2 i j)
  have e2 : r1_2.emb (ix2 i j) = ix2 i j := Rect.emb_unit_full (s := S1024x512) _ _
  rw [e2] at h
  refine (h _).trans ?_
  have e0 : View.ld (Val := Elt Idealize.ShloMosaic.Ideal) (e' := .bf16) (S := S1024x4096) x0 r1_0 = x0 := funext fun y => congrArg x0 (Rect.emb_unit_full (s := S1024x4096) _ y)
  have e1 : View.ld (Val := Elt Idealize.ShloMosaic.Ideal) (e' := .bf16) (S := S4096x512) x1 r1_1 = x1 := funext fun y => congrArg x1 (Rect.emb_unit_full (s := S4096x512) _ y)
  rw [e0, e1]
  exact body_apply1 x0 x1 i j

theorem transform1_0 (i : grid1.Coords) : cc1_transform_0 i = ![(i 0).val, 0] := by
  have h0 : (i 0).val < 8 := (i 0).isLt
  have h1 : (i 1).val < 24 := (i 1).isLt
  unfold cc1_transform_0
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, 0] = _
  rw [e0]

theorem transform1_1 (i : grid1.Coords) : cc1_transform_1 i = ![0, (i 1).val] := by
  have h0 : (i 0).val < 8 := (i 0).isLt
  have h1 : (i 1).val < 24 := (i 1).isLt
  unfold cc1_transform_1
  have e0 : (BitVec.ofNat 32 (i 0).val).toNat = (i 0).val := by rw [BitVec.toNat_ofNat]; omega
  have e1 : (BitVec.ofNat 32 (i 1).val).toNat = (i 1).val := by rw [BitVec.toNat_ofNat]; omega
  show ![0, (BitVec.ofNat 32 (i 1).val).toNat] = _
  rw [e1]

theorem transform1_2 (i : grid1.Coords) : cc1_transform_2 i = ![(i 0).val, (i 1).val] := by
  have h0 : (i 0).val < 8 := (i 0).isLt
  have h1 : (i 1).val < 24 := (i 1).isLt
  unfold cc1_transform_2
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat] = _
  rw [e0, e1]

/-- Region 1's operands. -/
def lhs1 : S8192x4096.Idx → EReal := V (0 : Dev nD) main_v55
def rhs1 : S4096x12288.Idx → EReal := V (0 : Dev nD) main_v16

/-- The product region 1 computes. -/
def prod1 (i : Fin 8192) (j : Fin 12288) : EReal := ∑ k : Fin 4096, lhs1 V (ix2 i k) * rhs1 V (ix2 k j)

theorem row_lt1 (t : Fin cfg1.N) (i : Fin 1024) : (grid1.coords t 0).val * 1024 + i.val < 8192 := by
  have h : (grid1.coords t 0).val < 8 := (grid1.coords t 0).isLt
  omega

theorem col_lt1 (t : Fin cfg1.N) (j : Fin 512) : (grid1.coords t 1).val * 512 + j.val < 12288 := by
  have h : (grid1.coords t 1).val < 24 := (grid1.coords t 1).isLt
  omega

theorem left_block1 (t : Fin cfg1.N) (i : Fin 1024) (k : Fin 4096) :
    (iblk1 V (0 : Dev nD) 0 t : FVec Idealize.ShloMosaic.Ideal S1024x4096 .bf16) (ix2 i k)
      = (V (0 : Dev nD) main_v55 : FVec Idealize.ShloMosaic.Ideal S8192x4096 .bf16) (ix2 ⟨(grid1.coords t 0).val * 1024 + i.val, row_lt1 t i⟩ k) := by
  have ht := transform1_0 (grid1.coords t)
  show V (0 : Dev nD) main_v55 (((cfg1.win 0).blk t).view.emb (ix2 i k)) = _
  refine congrArg (V (0 : Dev nD) main_v55) (funext fun (x : Fin 2) => Fin.ext ?_)
  match x with
  | ⟨0, _⟩ => show cc1_transform_0 (grid1.coords t) (0 : Fin 2) * 1024 + 1 * i.val = (grid1.coords t 0).val * 1024 + i.val; rw [ht]; show (grid1.coords t 0).val * 1024 + 1 * i.val = _; omega
  | ⟨1, _⟩ => show cc1_transform_0 (grid1.coords t) (1 : Fin 2) * 4096 + 1 * k.val = k.val; rw [ht]; show 0 * 4096 + 1 * k.val = k.val; omega

theorem right_block1 (t : Fin cfg1.N) (k : Fin 4096) (j : Fin 512) :
    (iblk1 V (0 : Dev nD) 1 t : FVec Idealize.ShloMosaic.Ideal S4096x512 .bf16) (ix2 k j)
      = (V (0 : Dev nD) main_v16 : FVec Idealize.ShloMosaic.Ideal S4096x12288 .bf16) (ix2 k ⟨(grid1.coords t 1).val * 512 + j.val, col_lt1 t j⟩) := by
  have ht := transform1_1 (grid1.coords t)
  show V (0 : Dev nD) main_v16 (((cfg1.win 1).blk t).view.emb (ix2 k j)) = _
  refine congrArg (V (0 : Dev nD) main_v16) (funext fun (x : Fin 2) => Fin.ext ?_)
  match x with
  | ⟨0, _⟩ => show cc1_transform_1 (grid1.coords t) (0 : Fin 2) * 4096 + 1 * k.val = k.val; rw [ht]; show 0 * 4096 + 1 * k.val = k.val; omega
  | ⟨1, _⟩ => show cc1_transform_1 (grid1.coords t) (1 : Fin 2) * 512 + 1 * j.val = (grid1.coords t 1).val * 512 + j.val; rw [ht]; show (grid1.coords t 1).val * 512 + 1 * j.val = _; omega

theorem out_emb1 (t : Fin cfg1.N) (y : S1024x512.Idx) :
    (((cfg1.win 2).blk t).view.emb y : S8192x12288.Idx) = ix2 ⟨(grid1.coords t 0).val * 1024 + (y 0).val, row_lt1 t (y 0)⟩ ⟨(grid1.coords t 1).val * 512 + (y 1).val, col_lt1 t (y 1)⟩ := by
  have ht := transform1_2 (grid1.coords t)
  refine funext fun (a : Fin 2) => Fin.ext ?_
  match a with
  | ⟨0, _⟩ => show cc1_transform_2 (grid1.coords t) (0 : Fin 2) * 1024 + 1 * (y 0).val = (grid1.coords t 0).val * 1024 + (y 0).val; rw [ht]; show (grid1.coords t 0).val * 1024 + 1 * (y 0).val = _; omega
  | ⟨1, _⟩ => show cc1_transform_2 (grid1.coords t) (1 : Fin 2) * 512 + 1 * (y 1).val = (grid1.coords t 1).val * 512 + (y 1).val; rw [ht]; show (grid1.coords t 1).val * 512 + 1 * (y 1).val = _; omega

theorem point_of1 : ∀ (b : Fin 8) (g : Fin 24), ∃ t : Fin grid1.N, (grid1.coords t 0).val = b.val ∧ (grid1.coords t 1).val = g.val := by
  decide +kernel

/-- The array region 1 leaves is the product of its two operands. -/
theorem region_array1 :
    (dat1 V (0 : Dev nD)).arrAt 2 cfg1.N = ((fun y : S8192x12288.Idx => prod1 V (y 0) (y 1)) : FVec Idealize.ShloMosaic.Ideal S8192x12288 .f32) := by
  refine (dat1 V (0 : Dev nD)).arrAt_eq_of_emb 2 _ (fun t _ y => ?_) fun i => ?_
  · refine (show _ = (dat1 V (0 : Dev nD)).after 2 t y from rfl).trans ?_
    rw [after1_2]
    refine (congrArg (out1_2 (F := Idealize.ShloMosaic.Ideal) (iblk1 V (0 : Dev nD) 0 t) (iblk1 V (0 : Dev nD) 1 t)) (eq_ix2 (y : S1024x512.Idx))).trans ?_
    refine (out_apply1 _ _ _ _).trans ?_
    refine Eq.trans ?_ (congrArg (fun y : S8192x12288.Idx => prod1 V (y 0) (y 1)) (out_emb1 t y)).symm
    exact Finset.sum_congr rfl fun k _ => congrArg₂ (fun a b : EReal => a * b) (left_block1 V t _ k) (right_block1 V t k _)
  · obtain ⟨t, h0, h1⟩ := point_of1 ⟨(i (0 : Fin 2)).val / 1024, by have h : (i (0 : Fin 2)).val < 8192 := (i (0 : Fin 2)).isLt; omega⟩
      ⟨(i (1 : Fin 2)).val / 512, by have h : (i (1 : Fin 2)).val < 12288 := (i (1 : Fin 2)).isLt; omega⟩
    refine ⟨t, flush1_2 t, ?_⟩
    have e : (((cfg1.win 2).blk t).view.emb (ix2 ⟨(i (0 : Fin 2)).val % 1024, by omega⟩ ⟨(i (1 : Fin 2)).val % 512, by omega⟩ : S1024x512.Idx) : S8192x12288.Idx) = i := by
      rw [out_emb1]
      refine funext fun (a : Fin 2) => Fin.ext ?_
      match a with
      | ⟨0, _⟩ => show (grid1.coords t 0).val * 1024 + (i (0 : Fin 2)).val % 1024 = (i (0 : Fin 2)).val; rw [h0]; show (i (0 : Fin 2)).val / 1024 * 1024 + (i (0 : Fin 2)).val % 1024 = (i (0 : Fin 2)).val; omega
      | ⟨1, _⟩ => show (grid1.coords t 1).val * 512 + (i (1 : Fin 2)).val % 512 = (i (1 : Fin 2)).val; rw [h1]; show (i (1 : Fin 2)).val / 512 * 512 + (i (1 : Fin 2)).val % 512 = (i (1 : Fin 2)).val; omega
    rw [← e]
    exact View.emb_mem_set _ _

/-! ## Region 2: 128 rows by 12288 columns, blocks of 128 by 512 -/

/-- The body's product at an entry. -/
theorem body_apply2 (x0 : FVec Idealize.ShloMosaic.Ideal S128x4096 .bf16) (x1 : FVec Idealize.ShloMosaic.Ideal S4096x512 .bf16) (i : Fin 128) (j : Fin 512) :
    k2_pay1 (F := Idealize.ShloMosaic.Ideal) x0 x1 (ix2 i j) = ∑ k : Fin 4096, x0 (ix2 i k) * x1 (ix2 k j) := by
  unfold k2_pay1
  refine (Ideal.matmul_plain_apply (M := 128) (K := 4096) (N := 512) none _ _ _ _ _).trans ?_
  refine (congrArg (fun z : EReal => z + _) (Ideal.ofBits_zero_f32)).trans ((zero_add _).trans (Finset.sum_congr rfl fun k _ => ?_))
  have el : ∀ y : S128x4096.Idx, shapeCast S128x4096 x0 shapeCasts_S128x4096_S128x4096 y = x0 y := fun y => shapeCast_apply _ _ _ _ rfl
  have er : ∀ y : S4096x512.Idx, shapeCast S4096x512 x1 shapeCasts_S4096x512_S4096x512 y = x1 y := fun y => shapeCast_apply _ _ _ _ rfl
  exact congrArg₂ (· * ·) (el _) (er _)

/-- What the body leaves in the result's buffer. -/
theorem out_apply2 (x0 : FVec Idealize.ShloMosaic.Ideal S128x4096 .bf16) (x1 : FVec Idealize.ShloMosaic.Ideal S4096x512 .bf16) (i : Fin 128) (j : Fin 512) :
    out2_2 (F := Idealize.ShloMosaic.Ideal) x0 x1 (ix2 i j) = ∑ k : Fin 4096, x0 (ix2 i k) * x1 (ix2 k j) := by
  unfold out2_2
  have h := fun pay => View.canon_cons_emb (Val := Elt Idealize.ShloMosaic.Ideal) (e := .f32) r2_2 pay [] (ix2 i j)
  have e2 : r2_2.emb (ix2 i j) = ix2 i j := Rect.emb_unit_full (s := S128x512) _ _
  rw [e2] at h
  refine (h _).trans ?_
  have e0 : View.ld (Val := Elt Idealize.ShloMosaic.Ideal) (e' := .bf16) (S := S128x4096) x0 r2_0 = x0 := funext fun y => congrArg x0 (Rect.emb_unit_full (s := S128x4096) _ y)
  have e1 : View.ld (Val := Elt Idealize.ShloMosaic.Ideal) (e' := .bf16) (S := S4096x512) x1 r2_1 = x1 := funext fun y => congrArg x1 (Rect.emb_unit_full (s := S4096x512) _ y)
  rw [e0, e1]
  exact body_apply2 x0 x1 i j

theorem transform2_0 (i : grid2.Coords) : cc2_transform_0 i = ![(i 0).val, 0] := by
  have h0 : (i 0).val < 1 := (i 0).isLt
  have h1 : (i 1).val < 24 := (i 1).isLt
  unfold cc2_transform_0
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, 0] = _
  rw [e0]

theorem transform2_1 (i : grid2.Coords) : cc2_transform_1 i = ![0, (i 1).val] := by
  have h0 : (i 0).val < 1 := (i 0).isLt
  have h1 : (i 1).val < 24 := (i 1).isLt
  unfold cc2_transform_1
  have e0 : (BitVec.ofNat 32 (i 0).val).toNat = (i 0).val := by rw [BitVec.toNat_ofNat]; omega
  have e1 : (BitVec.ofNat 32 (i 1).val).toNat = (i 1).val := by rw [BitVec.toNat_ofNat]; omega
  show ![0, (BitVec.ofNat 32 (i 1).val).toNat] = _
  rw [e1]

theorem transform2_2 (i : grid2.Coords) : cc2_transform_2 i = ![(i 0).val, (i 1).val] := by
  have h0 : (i 0).val < 1 := (i 0).isLt
  have h1 : (i 1).val < 24 := (i 1).isLt
  unfold cc2_transform_2
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat] = _
  rw [e0, e1]

/-- Region 2's operands. -/
def lhs2 : S128x4096.Idx → EReal := V (0 : Dev nD) main_v113
def rhs2 : S4096x12288.Idx → EReal := V (0 : Dev nD) main_v16

/-- The product region 2 computes. -/
def prod2 (i : Fin 128) (j : Fin 12288) : EReal := ∑ k : Fin 4096, lhs2 V (ix2 i k) * rhs2 V (ix2 k j)

theorem row_lt2 (t : Fin cfg2.N) (i : Fin 128) : (grid2.coords t 0).val * 128 + i.val < 128 := by
  have h : (grid2.coords t 0).val < 1 := (grid2.coords t 0).isLt
  omega

theorem col_lt2 (t : Fin cfg2.N) (j : Fin 512) : (grid2.coords t 1).val * 512 + j.val < 12288 := by
  have h : (grid2.coords t 1).val < 24 := (grid2.coords t 1).isLt
  omega

theorem left_block2 (t : Fin cfg2.N) (i : Fin 128) (k : Fin 4096) :
    (iblk2 V (0 : Dev nD) 0 t : FVec Idealize.ShloMosaic.Ideal S128x4096 .bf16) (ix2 i k)
      = (V (0 : Dev nD) main_v113 : FVec Idealize.ShloMosaic.Ideal S128x4096 .bf16) (ix2 ⟨(grid2.coords t 0).val * 128 + i.val, row_lt2 t i⟩ k) := by
  have ht := transform2_0 (grid2.coords t)
  show V (0 : Dev nD) main_v113 (((cfg2.win 0).blk t).view.emb (ix2 i k)) = _
  refine congrArg (V (0 : Dev nD) main_v113) (funext fun (x : Fin 2) => Fin.ext ?_)
  match x with
  | ⟨0, _⟩ => show cc2_transform_0 (grid2.coords t) (0 : Fin 2) * 128 + 1 * i.val = (grid2.coords t 0).val * 128 + i.val; rw [ht]; show (grid2.coords t 0).val * 128 + 1 * i.val = _; omega
  | ⟨1, _⟩ => show cc2_transform_0 (grid2.coords t) (1 : Fin 2) * 4096 + 1 * k.val = k.val; rw [ht]; show 0 * 4096 + 1 * k.val = k.val; omega

theorem right_block2 (t : Fin cfg2.N) (k : Fin 4096) (j : Fin 512) :
    (iblk2 V (0 : Dev nD) 1 t : FVec Idealize.ShloMosaic.Ideal S4096x512 .bf16) (ix2 k j)
      = (V (0 : Dev nD) main_v16 : FVec Idealize.ShloMosaic.Ideal S4096x12288 .bf16) (ix2 k ⟨(grid2.coords t 1).val * 512 + j.val, col_lt2 t j⟩) := by
  have ht := transform2_1 (grid2.coords t)
  show V (0 : Dev nD) main_v16 (((cfg2.win 1).blk t).view.emb (ix2 k j)) = _
  refine congrArg (V (0 : Dev nD) main_v16) (funext fun (x : Fin 2) => Fin.ext ?_)
  match x with
  | ⟨0, _⟩ => show cc2_transform_1 (grid2.coords t) (0 : Fin 2) * 4096 + 1 * k.val = k.val; rw [ht]; show 0 * 4096 + 1 * k.val = k.val; omega
  | ⟨1, _⟩ => show cc2_transform_1 (grid2.coords t) (1 : Fin 2) * 512 + 1 * j.val = (grid2.coords t 1).val * 512 + j.val; rw [ht]; show (grid2.coords t 1).val * 512 + 1 * j.val = _; omega

theorem out_emb2 (t : Fin cfg2.N) (y : S128x512.Idx) :
    (((cfg2.win 2).blk t).view.emb y : S128x12288.Idx) = ix2 ⟨(grid2.coords t 0).val * 128 + (y 0).val, row_lt2 t (y 0)⟩ ⟨(grid2.coords t 1).val * 512 + (y 1).val, col_lt2 t (y 1)⟩ := by
  have ht := transform2_2 (grid2.coords t)
  refine funext fun (a : Fin 2) => Fin.ext ?_
  match a with
  | ⟨0, _⟩ => show cc2_transform_2 (grid2.coords t) (0 : Fin 2) * 128 + 1 * (y 0).val = (grid2.coords t 0).val * 128 + (y 0).val; rw [ht]; show (grid2.coords t 0).val * 128 + 1 * (y 0).val = _; omega
  | ⟨1, _⟩ => show cc2_transform_2 (grid2.coords t) (1 : Fin 2) * 512 + 1 * (y 1).val = (grid2.coords t 1).val * 512 + (y 1).val; rw [ht]; show (grid2.coords t 1).val * 512 + 1 * (y 1).val = _; omega

theorem point_of2 : ∀ (b : Fin 1) (g : Fin 24), ∃ t : Fin grid2.N, (grid2.coords t 0).val = b.val ∧ (grid2.coords t 1).val = g.val := by
  decide +kernel

/-- The array region 2 leaves is the product of its two operands. -/
theorem region_array2 :
    (dat2 V (0 : Dev nD)).arrAt 2 cfg2.N = ((fun y : S128x12288.Idx => prod2 V (y 0) (y 1)) : FVec Idealize.ShloMosaic.Ideal S128x12288 .f32) := by
  refine (dat2 V (0 : Dev nD)).arrAt_eq_of_emb 2 _ (fun t _ y => ?_) fun i => ?_
  · refine (show _ = (dat2 V (0 : Dev nD)).after 2 t y from rfl).trans ?_
    rw [after2_2]
    refine (congrArg (out2_2 (F := Idealize.ShloMosaic.Ideal) (iblk2 V (0 : Dev nD) 0 t) (iblk2 V (0 : Dev nD) 1 t)) (eq_ix2 (y : S128x512.Idx))).trans ?_
    refine (out_apply2 _ _ _ _).trans ?_
    refine Eq.trans ?_ (congrArg (fun y : S128x12288.Idx => prod2 V (y 0) (y 1)) (out_emb2 t y)).symm
    exact Finset.sum_congr rfl fun k _ => congrArg₂ (fun a b : EReal => a * b) (left_block2 V t _ k) (right_block2 V t k _)
  · obtain ⟨t, h0, h1⟩ := point_of2 ⟨(i (0 : Fin 2)).val / 128, by have h : (i (0 : Fin 2)).val < 128 := (i (0 : Fin 2)).isLt; omega⟩
      ⟨(i (1 : Fin 2)).val / 512, by have h : (i (1 : Fin 2)).val < 12288 := (i (1 : Fin 2)).isLt; omega⟩
    refine ⟨t, flush2_2 t, ?_⟩
    have e : (((cfg2.win 2).blk t).view.emb (ix2 ⟨(i (0 : Fin 2)).val % 128, by omega⟩ ⟨(i (1 : Fin 2)).val % 512, by omega⟩ : S128x512.Idx) : S128x12288.Idx) = i := by
      rw [out_emb2]
      refine funext fun (a : Fin 2) => Fin.ext ?_
      match a with
      | ⟨0, _⟩ => show (grid2.coords t 0).val * 128 + (i (0 : Fin 2)).val % 128 = (i (0 : Fin 2)).val; rw [h0]; show (i (0 : Fin 2)).val / 128 * 128 + (i (0 : Fin 2)).val % 128 = (i (0 : Fin 2)).val; omega
      | ⟨1, _⟩ => show (grid2.coords t 1).val * 512 + (i (1 : Fin 2)).val % 512 = (i (1 : Fin 2)).val; rw [h1]; show (i (1 : Fin 2)).val / 512 * 512 + (i (1 : Fin 2)).val % 512 = (i (1 : Fin 2)).val; omega
    rw [← e]
    exact View.emb_mem_set _ _

end Cert.Proof.InProj

end
-- ==== Proof.InProj.lean ====
/- Hand-written: THE MODULATION AND THE REGIONS' OPERANDS, over the extended reals. Column `pos j` of the padded weights is column j
   of the weights (`W1_weight`); row b of the modulation is the reference's for prompt b, row 4 + b its for sample b (`mod_prompt`,
   `mod_sample`); what the two projections multiply on the left is the reference's modulated norm. -/
module

public import proofs.«01_k».proof.Proof.InProjRegions
public import proofs.«01_k».proof.Proof.Gen.Reference2Ideal.Read
public import Idealize.ShloMosaic.Lib.KernelVsHost
public import Idealize.ShloMosaic.Lib.ValueIdx
public import Idealize.ShloMosaic.Lib.Pipeline.Value
public import Idealize.ShloMosaic.Lib.MatmulPlain
public import Idealize.ShloMosaic.Lib.WholeRead
public import Idealize.ShloMosaic.Lib.VecWindow
public import Idealize.ShloMosaic.Lib.Pipeline.ValueKit.Tiles
public import Idealize.ShloMosaic.Lib.Pipeline.ValueKit.Geometry

@[expose] public section

noncomputable section

namespace Cert.Proof.InProj

open Cert.Kernel2Ideal Cert.Kernel2Ideal.Gen
open Idealize.ShloMosaic Idealize.ShloMosaic.TcCoe Idealize.ShloMosaic.ValueIdx Idealize.ShloMosaic.Tactic
open scoped BigOperators

variable (m : (ℓ : Loc nD τ sig) → Buf (Elt Idealize.ShloMosaic.Ideal) ℓ) (ρ : Dev nD → PrngReg)

/-- The arguments: the two streams, the two conditions, the modulation's weights and bias, the norms' gains, the projection's weights
    and the samples' window. -/
abbrev aX : FVec Idealize.ShloMosaic.Ideal S4x2048x4096 .f32 := m (((0 : Dev nD) : Thread nD τ).loc main_arg0)
abbrev aXs : FVec Idealize.ShloMosaic.Ideal S32x4x4096 .f32 := m (((0 : Dev nD) : Thread nD τ).loc main_arg1)
abbrev aC : FVec Idealize.ShloMosaic.Ideal S4x4096 .f32 := m (((0 : Dev nD) : Thread nD τ).loc main_arg2)
abbrev aCs : FVec Idealize.ShloMosaic.Ideal S32x4096 .f32 := m (((0 : Dev nD) : Thread nD τ).loc main_arg3)
abbrev aAda : FVec Idealize.ShloMosaic.Ideal S1x4096x24576 .f32 := m (((0 : Dev nD) : Thread nD τ).loc main_arg4)
abbrev aBias : FVec Idealize.ShloMosaic.Ideal S1x24576 .f32 := m (((0 : Dev nD) : Thread nD τ).loc main_arg5)
abbrev aGain : FVec Idealize.ShloMosaic.Ideal S1x4x4096 .f32 := m (((0 : Dev nD) : Thread nD τ).loc main_arg6)
abbrev aWeight : FVec Idealize.ShloMosaic.Ideal S1x4096x11760 .f32 := m (((0 : Dev nD) : Thread nD τ).loc main_arg7)
abbrev aWin : FVec Idealize.ShloMosaic.Ideal S1x32x512x2x4x128 .f32 := m (((0 : Dev nD) : Thread nD τ).loc main_arg8)

/-! ## The weights -/

/-- Where column j of the weights stands in the padded ones. -/
def pos (j : ℕ) : ℕ :=
  if j < 6240 then j else if j < 6336 then j + 32 else if j < 11712 then j + 64 else 11776 + 128 * ((j - 11712) / 12) + (j - 11712) % 12

theorem pos_lt (j : Fin 11760) : pos j.val < 12288 := by
  have := j.isLt
  unfold pos
  split_ifs <;> omega

/-- The weights read as a matrix. -/
def mat : FVec Idealize.ShloMosaic.Ideal S4096x11760 .f32 := shapeCast S4096x11760 (aWeight m) shapeCasts_S1x4096x11760_S4096x11760

theorem mat_apply (k : Fin 4096) (j : Fin 11760) : mat m (ix2 k j) = aWeight m (ix3 0 k j) := by
  unfold mat
  refine shapeCast_apply _ shapeCasts_S1x4096x11760_S4096x11760 _ _ ?_
  rw [Shape.rowMajor_val_three, Shape.rowMajor_val_two]
  show (0 * 4096 + k.val) * 11760 + j.val = k.val * 11760 + j.val
  omega

/-- The columns of zeros between. -/
def fill32 : FVec Idealize.ShloMosaic.Ideal S4096x32 .f32 := broadcastInDim S4096x32 ![] bcast_S_S4096x32 (constant S_ .f32 0x00000000#32)
def fill116 : FVec Idealize.ShloMosaic.Ideal S4096x116 .f32 := broadcastInDim S4096x116 ![] bcast_S_S4096x116 (constant S_ .f32 0x00000000#32)

/-- Columns 0 … 6143. -/
def cut0 : FVec Idealize.ShloMosaic.Ideal S4096x6144 .f32 := extractStridedSlice S4096x6144 ![0, 0] (mat m) slices_S4096x11760_S4096x6144_0_0

theorem cut0_apply (k : Fin 4096) (i : Fin 6144) : cut0 m (ix2 k i) = aWeight m (ix3 0 k ⟨0 + i.val, by omega⟩) := by
  unfold cut0
  refine (extractStridedSlice_apply ![0, 0] (mat m) slices_S4096x11760_S4096x6144_0_0 (ix2 k i : S4096x6144.Idx) (ix2 k ⟨0 + i.val, by omega⟩ : S4096x11760.Idx)
    (fun a => ?_)).trans (mat_apply m k _)
  match a with
  | ⟨0, _⟩ => exact (Nat.zero_add _).symm
  | ⟨1, _⟩ => rfl

/-- Columns 6144 … 6239. -/
def cut1 : FVec Idealize.ShloMosaic.Ideal S4096x96 .f32 := extractStridedSlice S4096x96 ![0, 6144] (mat m) slices_S4096x11760_S4096x96_0_6144

theorem cut1_apply (k : Fin 4096) (i : Fin 96) : cut1 m (ix2 k i) = aWeight m (ix3 0 k ⟨6144 + i.val, by omega⟩) := by
  unfold cut1
  refine (extractStridedSlice_apply ![0, 6144] (mat m) slices_S4096x11760_S4096x96_0_6144 (ix2 k i : S4096x96.Idx) (ix2 k ⟨6144 + i.val, by omega⟩ : S4096x11760.Idx)
    (fun a => ?_)).trans (mat_apply m k _)
  match a with
  | ⟨0, _⟩ => exact (Nat.zero_add _).symm
  | ⟨1, _⟩ => rfl

/-- Columns 6240 … 6335. -/
def cut3 : FVec Idealize.ShloMosaic.Ideal S4096x96 .f32 := extractStridedSlice S4096x96 ![0, 6240] (mat m) slices_S4096x11760_S4096x96_0_6240

theorem cut3_apply (k : Fin 4096) (i : Fin 96) : cut3 m (ix2 k i) = aWeight m (ix3 0 k ⟨6240 + i.val, by omega⟩) := by
  unfold cut3
  refine (extractStridedSlice_apply ![0, 6240] (mat m) slices_S4096x11760_S4096x96_0_6240 (ix2 k i : S4096x96.Idx) (ix2 k ⟨6240 + i.val, by omega⟩ : S4096x11760.Idx)
    (fun a => ?_)).trans (mat_apply m k _)
  match a with
  | ⟨0, _⟩ => exact (Nat.zero_add _).symm
  | ⟨1, _⟩ => rfl

/-- Columns 6336 … 11711. -/
def cut5 : FVec Idealize.ShloMosaic.Ideal S4096x5376 .f32 := extractStridedSlice S4096x5376 ![0, 6336] (mat m) slices_S4096x11760_S4096x5376_0_6336

theorem cut5_apply (k : Fin 4096) (i : Fin 5376) : cut5 m (ix2 k i) = aWeight m (ix3 0 k ⟨6336 + i.val, by omega⟩) := by
  unfold cut5
  refine (extractStridedSlice_apply ![0, 6336] (mat m) slices_S4096x11760_S4096x5376_0_6336 (ix2 k i : S4096x5376.Idx) (ix2 k ⟨6336 + i.val, by omega⟩ : S4096x11760.Idx)
    (fun a => ?_)).trans (mat_apply m k _)
  match a with
  | ⟨0, _⟩ => exact (Nat.zero_add _).symm
  | ⟨1, _⟩ => rfl

/-- Columns 11712 … 11723. -/
def cut6 : FVec Idealize.ShloMosaic.Ideal S4096x12 .f32 := extractStridedSlice S4096x12 ![0, 11712] (mat m) slices_S4096x11760_S4096x12_0_11712

theorem cut6_apply (k : Fin 4096) (i : Fin 12) : cut6 m (ix2 k i) = aWeight m (ix3 0 k ⟨11712 + i.val, by omega⟩) := by
  unfold cut6
  refine (extractStridedSlice_apply ![0, 11712] (mat m) slices_S4096x11760_S4096x12_0_11712 (ix2 k i : S4096x12.Idx) (ix2 k ⟨11712 + i.val, by omega⟩ : S4096x11760.Idx)
    (fun a => ?_)).trans (mat_apply m k _)
  match a with
  | ⟨0, _⟩ => exact (Nat.zero_add _).symm
  | ⟨1, _⟩ => rfl

/-- Columns 11724 … 11735. -/
def cut8 : FVec Idealize.ShloMosaic.Ideal S4096x12 .f32 := extractStridedSlice S4096x12 ![0, 11724] (mat m) slices_S4096x11760_S4096x12_0_11724

theorem cut8_apply (k : Fin 4096) (i : Fin 12) : cut8 m (ix2 k i) = aWeight m (ix3 0 k ⟨11724 + i.val, by omega⟩) := by
  unfold cut8
  refine (extractStridedSlice_apply ![0, 11724] (mat m) slices_S4096x11760_S4096x12_0_11724 (ix2 k i : S4096x12.Idx) (ix2 k ⟨11724 + i.val, by omega⟩ : S4096x11760.Idx)
    (fun a => ?_)).trans (mat_apply m k _)
  match a with
  | ⟨0, _⟩ => exact (Nat.zero_add _).symm
  | ⟨1, _⟩ => rfl

/-- Columns 11736 … 11747. -/
def cut10 : FVec Idealize.ShloMosaic.Ideal S4096x12 .f32 := extractStridedSlice S4096x12 ![0, 11736] (mat m) slices_S4096x11760_S4096x12_0_11736

theorem cut10_apply (k : Fin 4096) (i : Fin 12) : cut10 m (ix2 k i) = aWeight m (ix3 0 k ⟨11736 + i.val, by omega⟩) := by
  unfold cut10
  refine (extractStridedSlice_apply ![0, 11736] (mat m) slices_S4096x11760_S4096x12_0_11736 (ix2 k i : S4096x12.Idx) (ix2 k ⟨11736 + i.val, by omega⟩ : S4096x11760.Idx)
    (fun a => ?_)).trans (mat_apply m k _)
  match a with
  | ⟨0, _⟩ => exact (Nat.zero_add _).symm
  | ⟨1, _⟩ => rfl

/-- Columns 11748 … 11759. -/
def cut12 : FVec Idealize.ShloMosaic.Ideal S4096x12 .f32 := extractStridedSlice S4096x12 ![0, 11748] (mat m) slices_S4096x11760_S4096x12_0_11748

theorem cut12_apply (k : Fin 4096) (i : Fin 12) : cut12 m (ix2 k i) = aWeight m (ix3 0 k ⟨11748 + i.val, by omega⟩) := by
  unfold cut12
  refine (extractStridedSlice_apply ![0, 11748] (mat m) slices_S4096x11760_S4096x12_0_11748 (ix2 k i : S4096x12.Idx) (ix2 k ⟨11748 + i.val, by omega⟩ : S4096x11760.Idx)
    (fun a => ?_)).trans (mat_apply m k _)
  match a with
  | ⟨0, _⟩ => exact (Nat.zero_add _).symm
  | ⟨1, _⟩ => rfl

/-- The padded weights. -/
def padded : FVec Idealize.ShloMosaic.Ideal S4096x12288 .f32 := concatenate S4096x12288 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
  concatenates_S4096x6144_S4096x96_S4096x32_S4096x96_S4096x32_S4096x5376_S4096x12_S4096x116_S4096x12_S4096x116_S4096x12_S4096x116_S4096x12_S4096x116_S4096x12288_d1

theorem padded_apply0 (k : Fin 4096) (i : Fin 6144) : padded m (ix2 k ⟨0 + i.val, by omega⟩) = aWeight m (ix3 0 k ⟨0 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 0 (show 0 < 14 by omega) S4096x6144 _ rfl rfl 0 (Eq.trans (b := ([] : List ℕ).sum) rfl (by norm_num)) (ix2 k i) (fun b hb => ?_) ?_).trans (cut0_apply m k i)
  · match b with
    | ⟨0, _⟩ => rfl
    | ⟨1, _⟩ => exact absurd rfl hb
  · rfl

theorem padded_apply1 (k : Fin 4096) (i : Fin 96) : padded m (ix2 k ⟨6144 + i.val, by omega⟩) = aWeight m (ix3 0 k ⟨6144 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 1 (show 1 < 14 by omega) S4096x96 _ rfl rfl 6144 (Eq.trans (b := ([6144] : List ℕ).sum) rfl (by norm_num)) (ix2 k i) (fun b hb => ?_) ?_).trans (cut1_apply m k i)
  · match b with
    | ⟨0, _⟩ => rfl
    | ⟨1, _⟩ => exact absurd rfl hb
  · rfl

theorem padded_apply3 (k : Fin 4096) (i : Fin 96) : padded m (ix2 k ⟨6272 + i.val, by omega⟩) = aWeight m (ix3 0 k ⟨6240 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 3 (show 3 < 14 by omega) S4096x96 _ rfl rfl 6272 (Eq.trans (b := ([6144, 96, 32] : List ℕ).sum) rfl (by norm_num)) (ix2 k i) (fun b hb => ?_) ?_).trans (cut3_apply m k i)
  · match b with
    | ⟨0, _⟩ => rfl
    | ⟨1, _⟩ => exact absurd rfl hb
  · rfl

theorem padded_apply5 (k : Fin 4096) (i : Fin 5376) : padded m (ix2 k ⟨6400 + i.val, by omega⟩) = aWeight m (ix3 0 k ⟨6336 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 5 (show 5 < 14 by omega) S4096x5376 _ rfl rfl 6400 (Eq.trans (b := ([6144, 96, 32, 96, 32] : List ℕ).sum) rfl (by norm_num)) (ix2 k i) (fun b hb => ?_) ?_).trans (cut5_apply m k i)
  · match b with
    | ⟨0, _⟩ => rfl
    | ⟨1, _⟩ => exact absurd rfl hb
  · rfl

theorem padded_apply6 (k : Fin 4096) (i : Fin 12) : padded m (ix2 k ⟨11776 + i.val, by omega⟩) = aWeight m (ix3 0 k ⟨11712 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 6 (show 6 < 14 by omega) S4096x12 _ rfl rfl 11776 (Eq.trans (b := ([6144, 96, 32, 96, 32, 5376] : List ℕ).sum) rfl (by norm_num)) (ix2 k i) (fun b hb => ?_) ?_).trans (cut6_apply m k i)
  · match b with
    | ⟨0, _⟩ => rfl
    | ⟨1, _⟩ => exact absurd rfl hb
  · rfl

theorem padded_apply8 (k : Fin 4096) (i : Fin 12) : padded m (ix2 k ⟨11904 + i.val, by omega⟩) = aWeight m (ix3 0 k ⟨11724 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 8 (show 8 < 14 by omega) S4096x12 _ rfl rfl 11904 (Eq.trans (b := ([6144, 96, 32, 96, 32, 5376, 12, 116] : List ℕ).sum) rfl (by norm_num)) (ix2 k i) (fun b hb => ?_) ?_).trans (cut8_apply m k i)
  · match b with
    | ⟨0, _⟩ => rfl
    | ⟨1, _⟩ => exact absurd rfl hb
  · rfl

theorem padded_apply10 (k : Fin 4096) (i : Fin 12) : padded m (ix2 k ⟨12032 + i.val, by omega⟩) = aWeight m (ix3 0 k ⟨11736 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 10 (show 10 < 14 by omega) S4096x12 _ rfl rfl 12032 (Eq.trans (b := ([6144, 96, 32, 96, 32, 5376, 12, 116, 12, 116] : List ℕ).sum) rfl (by norm_num)) (ix2 k i) (fun b hb => ?_) ?_).trans (cut10_apply m k i)
  · match b with
    | ⟨0, _⟩ => rfl
    | ⟨1, _⟩ => exact absurd rfl hb
  · rfl

theorem padded_apply12 (k : Fin 4096) (i : Fin 12) : padded m (ix2 k ⟨12160 + i.val, by omega⟩) = aWeight m (ix3 0 k ⟨11748 + i.val, by omega⟩) := by
  unfold padded
  refine (concatenate_apply_piece (t := S4096x12288) 1 [⟨S4096x6144, cut0 m⟩, ⟨S4096x96, cut1 m⟩, ⟨S4096x32, fill32⟩, ⟨S4096x96, cut3 m⟩, ⟨S4096x32, fill32⟩, ⟨S4096x5376, cut5 m⟩, ⟨S4096x12, cut6 m⟩, ⟨S4096x116, fill116⟩, ⟨S4096x12, cut8 m⟩, ⟨S4096x116, fill116⟩, ⟨S4096x12, cut10 m⟩, ⟨S4096x116, fill116⟩, ⟨S4096x12, cut12 m⟩, ⟨S4096x116, fill116⟩]
    concatenates_S4096x6144_S4096x96_S4096x32_S4096x96_S4096x32_S4096x5376_S4096x12_S4096x116_S4096x12_S4096x116_S4096x12_S4096x116_S4096x12_S4096x116_S4096x12288_d1 _ 12 (show 12 < 14 by omega) S4096x12 _ rfl rfl 12160 (Eq.trans (b := ([6144, 96, 32, 96, 32, 5376, 12, 116, 12, 116, 12, 116] : List ℕ).sum) rfl (by norm_num)) (ix2 k i) (fun b hb => ?_) ?_).trans (cut12_apply m k i)
  · match b with
    | ⟨0, _⟩ => rfl
    | ⟨1, _⟩ => exact absurd rfl hb
  · rfl

/-- What the two projections multiply on the right, at the columns that are read. -/
theorem W1_weight (k : Fin 4096) (j : Fin 11760) :
    (W1 m ρ (0 : Dev nD) (Proc.devRef .tc main_v16) : FVec Idealize.ShloMosaic.Ideal S4096x12288 .bf16) (ix2 k ⟨pos j.val, pos_lt j⟩) = aWeight m (ix3 0 k j) := by
  have he : W1 m ρ (0 : Dev nD) (Proc.devRef .tc main_v16) = truncf .bf16 (padded m) bitsLt_bf16_f32 := by
    after_results
    rfl
  rw [he]
  refine Eq.trans (b := padded m (ix2 k ⟨pos j.val, pos_lt j⟩)) rfl ?_
  have hj := j.isLt
  have put : ∀ (p o : ℕ) (hp : p < 12288) (ho : o < 11760), p = pos j.val → o = j.val → padded m (ix2 k ⟨p, hp⟩) = aWeight m (ix3 0 k ⟨o, ho⟩) →
      padded m (ix2 k ⟨pos j.val, pos_lt j⟩) = aWeight m (ix3 0 k j) := fun p o hp ho e1 e2 h => by
    subst e1; subst e2; exact h
  by_cases h0 : j.val < 6144
  · exact put _ _ _ _ (by unfold pos; show 0 + (j.val - 0) = _; split_ifs <;> omega) (by show 0 + (j.val - 0) = _; omega) (padded_apply0 m k ⟨j.val - 0, by omega⟩)
  by_cases h1 : j.val < 6240
  · exact put _ _ _ _ (by unfold pos; show 6144 + (j.val - 6144) = _; split_ifs <;> omega) (by show 6144 + (j.val - 6144) = _; omega) (padded_apply1 m k ⟨j.val - 6144, by omega⟩)
  by_cases h3 : j.val < 6336
  · exact put _ _ _ _ (by unfold pos; show 6272 + (j.val - 6240) = _; split_ifs <;> omega) (by show 6240 + (j.val - 6240) = _; omega) (padded_apply3 m k ⟨j.val - 6240, by omega⟩)
  by_cases h5 : j.val < 11712
  · exact put _ _ _ _ (by unfold pos; show 6400 + (j.val - 6336) = _; split_ifs <;> omega) (by show 6336 + (j.val - 6336) = _; omega) (padded_apply5 m k ⟨j.val - 6336, by omega⟩)
  by_cases h6 : j.val < 11724
  · exact put _ _ _ _ (by unfold pos; show 11776 + (j.val - 11712) = _; split_ifs <;> omega) (by show 11712 + (j.val - 11712) = _; omega) (padded_apply6 m k ⟨j.val - 11712, by omega⟩)
  by_cases h8 : j.val < 11736
  · exact put _ _ _ _ (by unfold pos; show 11904 + (j.val - 11724) = _; split_ifs <;> omega) (by show 11724 + (j.val - 11724) = _; omega) (padded_apply8 m k ⟨j.val - 11724, by omega⟩)
  by_cases h10 : j.val < 11748
  · exact put _ _ _ _ (by unfold pos; show 12032 + (j.val - 11736) = _; split_ifs <;> omega) (by show 11736 + (j.val - 11736) = _; omega) (padded_apply10 m k ⟨j.val - 11736, by omega⟩)
  exact put _ _ _ _ (by unfold pos; show 12160 + (j.val - 11748) = _; split_ifs <;> omega) (by show 11748 + (j.val - 11748) = _; omega) (padded_apply12 m k ⟨j.val - 11748, by omega⟩)

/-! ## The modulation -/

/-- The conditions of the prompts and of the samples, one below the other. -/
def cCat : FVec Idealize.ShloMosaic.Ideal S36x4096 .f32 := concatenate S36x4096 0 [⟨S4x4096, aC m⟩, ⟨S32x4096, aCs m⟩] concatenates_S4x4096_S32x4096_S36x4096_d0

def siluScalar (x : FVec Idealize.ShloMosaic.Ideal S_ .f32) : FVec Idealize.ShloMosaic.Ideal S_ .f32 :=
  mulf x (Host.divf (constant S_ .f32 0x3F800000#32) (addf (constant S_ .f32 0x3F800000#32) (Host.exp (Host.negf x))))

/-- z · σ(z). -/
def act (z : EReal) : EReal :=
  siluScalar (fun _ => z) (fun a => a.elim0)

def siluOf (x : FVec Idealize.ShloMosaic.Ideal S36x4096 .f32) : FVec Idealize.ShloMosaic.Ideal S36x4096 .f32 :=
  mulf x (Host.divf (broadcastInDim S36x4096 ![] bcast_S_S36x4096 (constant S_ .f32 0x3F800000#32))
    (addf (broadcastInDim S36x4096 ![] bcast_S_S36x4096 (constant S_ .f32 0x3F800000#32)) (Host.exp (Host.negf x))))

def silu : FVec Idealize.ShloMosaic.Ideal S36x4096 .f32 := siluOf (cCat m)

/-- Four rows of zeros below. -/
def padOf (x : FVec Idealize.ShloMosaic.Ideal S36x4096 .f32) (z : IVec S_ 32) : FVec Idealize.ShloMosaic.Ideal S40x4096 .f32 :=
  pad S40x4096 ![0, 0] ![4, 0] ![0, 0] x (sitofp .f32 z) pads_S36x4096_S40x4096_040_000 h_S_

def siluPad : FVec Idealize.ShloMosaic.Ideal S40x4096 .f32 := padOf (silu m) (constantI S_ 32 0#32)

/-- The modulation's weights read as a matrix. -/
def ada : FVec Idealize.ShloMosaic.Ideal S4096x24576 .f32 := shapeCast S4096x24576 (aAda m) shapeCasts_S1x4096x24576_S4096x24576

theorem siluPad_apply (r : Fin 40) (i : Fin 36) (h : r.val = i.val) (k : Fin 4096) : siluPad m (ix2 r k) = silu m (ix2 i k) := by
  unfold siluPad padOf
  refine pad_apply_of_inside ![0, 0] ![4, 0] ![0, 0] (silu m) _ pads_S36x4096_S40x4096_040_000 h_S_ (ix2 r k) (ix2 i k) (fun a => ?_)
  match a with
  | ⟨0, _⟩ => show r.val = 0 + i.val * (0 + 1); omega
  | ⟨1, _⟩ => show k.val = 0 + k.val * (0 + 1); omega

theorem stretch0_17 : W1 m ρ (0 : Dev nD) (Proc.devRef .tc main_v17) = cCat m := by
  after_results
  rfl

theorem stretch0_18 (σ : Valuation τ sig (Elt Idealize.ShloMosaic.Ideal)) : StableHlo.after hostOps0_1 σ (Proc.devRef .tc main_v18) = siluOf (σ (Proc.devRef .tc main_v17)) := by
  simp only [hostOps0_1, StableHlo.TRef.binary, StableHlo.TRef.nullary, StableHlo.TRef.unary, StableHlo.TRef.toBuf, StableHlo.TRef.ofBuf, cast_eq]
  after_results
  rfl

theorem stretch0_19 (σ : Valuation τ sig (Elt Idealize.ShloMosaic.Ideal)) : StableHlo.after hostOps0_2 σ (Proc.devRef .tc main_v19) =
    shapeCast S4096x24576 (σ (Proc.devRef .tc main_arg4) : FVec Idealize.ShloMosaic.Ideal S1x4096x24576 .f32) shapeCasts_S1x4096x24576_S4096x24576 := by
  after_results
  rfl

theorem stretch0_c (σ : Valuation τ sig (Elt Idealize.ShloMosaic.Ideal)) : StableHlo.after hostOps0_2 σ (Proc.devRef .tc main_c) = (constantI S_ 32 0#32 : IVec S_ 32) := by
  after_results

theorem stretch0_20 (σ : Valuation τ sig (Elt Idealize.ShloMosaic.Ideal)) : StableHlo.after hostOps0_3 σ (Proc.devRef .tc main_v20) =
    padOf (σ (Proc.devRef .tc main_v18)) (σ (Proc.devRef .tc main_c)) := by
  simp only [hostOps0_3, StableHlo.TRef.binary, StableHlo.TRef.nullary, StableHlo.TRef.unary, StableHlo.TRef.toBuf, StableHlo.TRef.ofBuf, cast_eq]
  after_results
  rfl

theorem V4_left : V4 m ρ (0 : Dev nD) main_v20 = siluPad m := by
  have e18 : W3 m ρ (0 : Dev nD) (Proc.devRef .tc main_v18) = silu m := by
    refine (W3_of m ρ (0 : Dev nD) main_v18 (by decide)).trans ((stretch0_18 (W1 m ρ (0 : Dev nD))).trans ?_)
    rw [stretch0_17]
    rfl
  refine (stretch0_20 (W3 m ρ (0 : Dev nD))).trans ?_
  rw [e18, show W3 m ρ (0 : Dev nD) (Proc.devRef .tc main_c) = (constantI S_ 32 0#32 : IVec S_ 32) from stretch0_c _]
  rfl

theorem V4_right : V4 m ρ (0 : Dev nD) main_v19 = ada m := by
  refine (W4_of m ρ (0 : Dev nD) main_v19 (by decide)).trans ((stretch0_19 (W2 m ρ (0 : Dev nD))).trans ?_)
  rw [W2_args m ρ (0 : Dev nD) main_arg4 (by decide)]
  rfl

/-- The product with the bias added, its first 36 rows. -/
def modOf (A : FVec Idealize.ShloMosaic.Ideal S40x24576 .f32) (bias : FVec Idealize.ShloMosaic.Ideal S1x24576 .f32) : FVec Idealize.ShloMosaic.Ideal S36x24576 .f32 :=
  addf (extractStridedSlice S36x24576 ![0, 0] A slices_S40x24576_S36x24576_0_0)
    (broadcastInDim S36x24576 ![0, 1] bcast_S1x24576_S36x24576_0_1 (broadcastInDim S1x24576 ![1] bcast_S24576_S1x24576_1 (shapeCast S24576 bias shapeCasts_S1x24576_S24576)))

/-- The modulation as the kernel leaves it. -/
def modK : FVec Idealize.ShloMosaic.Ideal S36x24576 .f32 := modOf (fun y : S40x24576.Idx => prod0 (V4 m ρ) (y 0) (y 1)) (aBias m)

theorem modK_apply (r : Fin 36) (c : Fin 24576) :
    modK m ρ (ix2 r c) = (∑ k : Fin 4096, silu m (ix2 r k) * ada m (ix2 k c)) + Cert.Reference2Ideal.Read.val_main_v4 (F := Idealize.ShloMosaic.Ideal) (aBias m) (ix2 0 c) := by
  unfold modK modOf
  refine (congrArg₂ (fun u v : EReal => u + v) ?_ ?_)
  · refine (extractStridedSlice_apply ![0, 0] _ slices_S40x24576_S36x24576_0_0 (ix2 r c : S36x24576.Idx) (ix2 ⟨r.val, by omega⟩ c : S40x24576.Idx) (fun a => ?_)).trans ?_
    · match a with
      | ⟨0, _⟩ => exact (Nat.zero_add _).symm
      | ⟨1, _⟩ => exact (Nat.zero_add _).symm
    refine Eq.trans (b := prod0 (V4 m ρ) ⟨r.val, by omega⟩ c) rfl ?_
    unfold prod0 lhs0 rhs0
    rw [V4_left, V4_right]
    exact Finset.sum_congr rfl fun k _ => congrArg (fun z : EReal => z * _) (siluPad_apply m _ r rfl k)
  · refine (broadcastInDim_apply ![0, 1] bcast_S1x24576_S36x24576_0_1 _ (ix2 r c : S36x24576.Idx) (ix2 0 c : S1x24576.Idx) (fun z => match z with | ⟨0, _⟩ => rfl | ⟨1, _⟩ => rfl)).trans ?_
    rfl

theorem silu_prompt (b : Fin 4) (k : Fin 4096) : silu m (ix2 ⟨0 + b.val, by omega⟩ k) = Cert.Reference2Ideal.Read.val_main_v0 (F := Idealize.ShloMosaic.Ideal) (aC m) (ix2 b k) := by
  have h : cCat m (ix2 ⟨0 + b.val, by omega⟩ k) = aC m (ix2 b k) := by
    unfold cCat
    refine (concatenate_apply_piece (t := S36x4096) 0 [⟨S4x4096, aC m⟩, ⟨S32x4096, aCs m⟩] concatenates_S4x4096_S32x4096_S36x4096_d0 _ 0 (show 0 < 2 by omega) S4x4096 _ rfl rfl 0 (Eq.trans (b := ([] : List ℕ).sum) rfl (by norm_num)) (ix2 b k) (fun a ha => ?_) ?_)
    · match a with
      | ⟨0, _⟩ => exact absurd rfl ha
      | ⟨1, _⟩ => rfl
    · rfl
  exact Eq.trans (b := act (cCat m (ix2 ⟨0 + b.val, by omega⟩ k))) rfl (Eq.trans (congrArg act h) (Eq.trans (b := act (aC m (ix2 b k))) rfl rfl))

/-- The rows of the modulation that belong to the prompts are the reference's. -/
theorem mod_prompt : extractStridedSlice S4x24576 ![0, 0] (modK m ρ) slices_S36x24576_S4x24576_0_0 = Cert.Reference2Ideal.Read.val_main_v6 (F := Idealize.ShloMosaic.Ideal) (aC m) (aAda m) (aBias m) := by
  funext y
  obtain ⟨b, c, rfl⟩ : ∃ (b : Fin 4) (c : Fin 24576), y = ix2 b c := ⟨y 0, y 1, eq_ix2 y⟩
  refine (extractStridedSlice_apply ![0, 0] (modK m ρ) slices_S36x24576_S4x24576_0_0 (ix2 b c : S4x24576.Idx) (ix2 ⟨0 + b.val, by omega⟩ c : S36x24576.Idx)
    (fun a => ?_)).trans ?_
  · match a with
    | ⟨0, _⟩ => rfl
    | ⟨1, _⟩ => exact (Nat.zero_add _).symm
  refine (modK_apply m ρ _ c).trans ?_
  refine (congrArg₂ (fun u v : EReal => u + v) ?_ ?_)
  · refine Eq.trans (Finset.sum_congr rfl fun k _ => ?_) (Cert.Reference2Ideal.Read.val_main_v2_apply (aC m) (aAda m) (ix2 b c)).symm
    refine congrArg₂ (fun u v : EReal => u * v) ((silu_prompt m b k).trans (congrArg (Cert.Reference2Ideal.Read.val_main_v0 (F := Idealize.ShloMosaic.Ideal) (aC m)) ?_)) (congrArg (ada m) ?_)
    · funext a
      match a with
      | ⟨0, _⟩ => rfl
      | ⟨1, _⟩ => rfl
    · funext a
      match a with
      | ⟨0, _⟩ => rfl
      | ⟨1, _⟩ => rfl
  · refine Eq.trans ?_ (Cert.Reference2Ideal.Read.val_main_v5_apply (F := Idealize.ShloMosaic.Ideal) (aBias m) (ix2 b c)).symm
    refine congrArg (Cert.Reference2Ideal.Read.val_main_v4 (F := Idealize.ShloMosaic.Ideal) (aBias m)) ?_
    funext a
    match a with
    | ⟨0, _⟩ => rfl
    | ⟨1, _⟩ => rfl

theorem silu_sample (b : Fin 32) (k : Fin 4096) : silu m (ix2 ⟨4 + b.val, by omega⟩ k) = Cert.Reference2Ideal.Read.val_main_v56 (F := Idealize.ShloMosaic.Ideal) (aCs m) (ix2 b k) := by
  have h : cCat m (ix2 ⟨4 + b.val, by omega⟩ k) = aCs m (ix2 b k) := by
    unfold cCat
    refine (concatenate_apply_piece (t := S36x4096) 0 [⟨S4x4096, aC m⟩, ⟨S32x4096, aCs m⟩] concatenates_S4x4096_S32x4096_S36x4096_d0 _ 1 (show 1 < 2 by omega) S32x4096 _ rfl rfl 4 (Eq.trans (b := ([4] : List ℕ).sum) rfl (by norm_num)) (ix2 b k) (fun a ha => ?_) ?_)
    · match a with
      | ⟨0, _⟩ => exact absurd rfl ha
      | ⟨1, _⟩ => rfl
    · rfl
  exact Eq.trans (b := act (cCat m (ix2 ⟨4 + b.val, by omega⟩ k))) rfl (Eq.trans (congrArg act h) (Eq.trans (b := act (aCs m (ix2 b k))) rfl rfl))

/-- The rows of the modulation that belong to the samples are the reference's. -/
theorem mod_sample : extractStridedSlice S32x24576 ![4, 0] (modK m ρ) slices_S36x24576_S32x24576_4_0 = Cert.Reference2Ideal.Read.val_main_v62 (F := Idealize.ShloMosaic.Ideal) (aCs m) (aAda m) (aBias m) := by
  funext y
  obtain ⟨b, c, rfl⟩ : ∃ (b : Fin 32) (c : Fin 24576), y = ix2 b c := ⟨y 0, y 1, eq_ix2 y⟩
  refine (extractStridedSlice_apply ![4, 0] (modK m ρ) slices_S36x24576_S32x24576_4_0 (ix2 b c : S32x24576.Idx) (ix2 ⟨4 + b.val, by omega⟩ c : S36x24576.Idx)
    (fun a => ?_)).trans ?_
  · match a with
    | ⟨0, _⟩ => rfl
    | ⟨1, _⟩ => exact (Nat.zero_add _).symm
  refine (modK_apply m ρ _ c).trans ?_
  refine (congrArg₂ (fun u v : EReal => u + v) ?_ ?_)
  · refine Eq.trans (Finset.sum_congr rfl fun k _ => ?_) (Cert.Reference2Ideal.Read.val_main_v58_apply (aCs m) (aAda m) (ix2 b c)).symm
    refine congrArg₂ (fun u v : EReal => u * v) ((silu_sample m b k).trans (congrArg (Cert.Reference2Ideal.Read.val_main_v56 (F := Idealize.ShloMosaic.Ideal) (aCs m)) ?_)) (congrArg (ada m) ?_)
    · funext a
      match a with
      | ⟨0, _⟩ => rfl
      | ⟨1, _⟩ => rfl
    · funext a
      match a with
      | ⟨0, _⟩ => rfl
      | ⟨1, _⟩ => rfl
  · refine Eq.trans ?_ (Cert.Reference2Ideal.Read.val_main_v61_apply (F := Idealize.ShloMosaic.Ideal) (aBias m) (ix2 b c)).symm
    refine congrArg (Cert.Reference2Ideal.Read.val_main_v60 (F := Idealize.ShloMosaic.Ideal) (aBias m)) ?_
    funext a
    match a with
    | ⟨0, _⟩ => rfl
    | ⟨1, _⟩ => rfl

/-! ## The modulated norms -/

/-- The modulated norm of `x`: its root-mean-square norm times the gain, times one plus the modulation's row 1, plus its row 0. -/
def normP (x : FVec Idealize.ShloMosaic.Ideal S4x2048x4096 .f32) (g : FVec Idealize.ShloMosaic.Ideal S1x4x4096 .f32) (md : FVec Idealize.ShloMosaic.Ideal S4x6x1x4096 .f32) : FVec Idealize.ShloMosaic.Ideal S4x2048x4096 .f32 :=
  addf (mulf (mulf (mulf x (broadcastInDim S4x2048x4096 ![0, 1, 2] bcast_S4x2048x1_S4x2048x4096_0_1_2 (Host.rsqrt (addf (Host.divf
      (broadcastInDim S4x2048x1 ![0, 1] bcast_S4x2048_S4x2048x1_0_1 (Host.reduceAdd (mulf x x) (constant S_ .f32 0x00000000#32) reducesTo_S4x2048x4096_S4x2048_d2 h_S_))
      (broadcastInDim S4x2048x1 ![] bcast_S_S4x2048x1 (constant S_ .f32 0x45800000#32)))
      (broadcastInDim S4x2048x1 ![] bcast_S_S4x2048x1 (constant S_ .f32 0x358637BD#32))))))
      (broadcastInDim S4x2048x4096 ![0, 1, 2] bcast_S1x1x4096_S4x2048x4096_0_1_2 (broadcastInDim S1x1x4096 ![2] bcast_S4096_S1x1x4096_2
        (shapeCast S4096 (extractStridedSlice S1x1x4096 ![0, 0, 0] g slices_S1x4x4096_S1x1x4096_0_0_0) shapeCasts_S1x1x4096_S4096))))
      (broadcastInDim S4x2048x4096 ![0, 1, 2] bcast_S4x1x4096_S4x2048x4096_0_1_2 (addf (broadcastInDim S4x1x4096 ![] bcast_S_S4x1x4096 (constant S_ .f32 0x3F800000#32))
        (shapeCast S4x1x4096 (extractStridedSlice S4x1x1x4096 ![0, 1, 0, 0] md slices_S4x6x1x4096_S4x1x1x4096_0_1_0_0) shapeCasts_S4x1x1x4096_S4x1x4096))))
      (broadcastInDim S4x2048x4096 ![0, 1, 2] bcast_S4x1x4096_S4x2048x4096_0_1_2
        (shapeCast S4x1x4096 (extractStridedSlice S4x1x1x4096 ![0, 0, 0, 0] md slices_S4x6x1x4096_S4x1x1x4096_0_0_0_0) shapeCasts_S4x1x1x4096_S4x1x4096))

/-- The modulated norm of `x`: its root-mean-square norm times the gain, times one plus the modulation's row 1, plus its row 0. -/
def normS (x : FVec Idealize.ShloMosaic.Ideal S32x4x4096 .f32) (g : FVec Idealize.ShloMosaic.Ideal S1x4x4096 .f32) (md : FVec Idealize.ShloMosaic.Ideal S32x6x1x4096 .f32) : FVec Idealize.ShloMosaic.Ideal S32x4x4096 .f32 :=
  addf (mulf (mulf (mulf x (broadcastInDim S32x4x4096 ![0, 1, 2] bcast_S32x4x1_S32x4x4096_0_1_2 (Host.rsqrt (addf (Host.divf
      (broadcastInDim S32x4x1 ![0, 1] bcast_S32x4_S32x4x1_0_1 (Host.reduceAdd (mulf x x) (constant S_ .f32 0x00000000#32) reducesTo_S32x4x4096_S32x4_d2 h_S_))
      (broadcastInDim S32x4x1 ![] bcast_S_S32x4x1 (constant S_ .f32 0x45800000#32)))
      (broadcastInDim S32x4x1 ![] bcast_S_S32x4x1 (constant S_ .f32 0x358637BD#32))))))
      (broadcastInDim S32x4x4096 ![0, 1, 2] bcast_S1x1x4096_S32x4x4096_0_1_2 (broadcastInDim S1x1x4096 ![2] bcast_S4096_S1x1x4096_2
        (shapeCast S4096 (extractStridedSlice S1x1x4096 ![0, 0, 0] g slices_S1x4x4096_S1x1x4096_0_0_0) shapeCasts_S1x1x4096_S4096))))
      (broadcastInDim S32x4x4096 ![0, 1, 2] bcast_S32x1x4096_S32x4x4096_0_1_2 (addf (broadcastInDim S32x1x4096 ![] bcast_S_S32x1x4096 (constant S_ .f32 0x3F800000#32))
        (shapeCast S32x1x4096 (extractStridedSlice S32x1x1x4096 ![0, 1, 0, 0] md slices_S32x6x1x4096_S32x1x1x4096_0_1_0_0) shapeCasts_S32x1x1x4096_S32x1x4096))))
      (broadcastInDim S32x4x4096 ![0, 1, 2] bcast_S32x1x4096_S32x4x4096_0_1_2
        (shapeCast S32x1x4096 (extractStridedSlice S32x1x1x4096 ![0, 0, 0, 0] md slices_S32x6x1x4096_S32x1x1x4096_0_0_0_0) shapeCasts_S32x1x1x4096_S32x1x4096))

theorem W5_21 : W5 m ρ (0 : Dev nD) (Proc.devRef .tc main_v21) = ((fun y : S40x24576.Idx => prod0 (V4 m ρ) (y 0) (y 1)) : FVec Idealize.ShloMosaic.Ideal S40x24576 .f32) :=
  (W5_arr m ρ (0 : Dev nD) 2).trans (region_array0 (V4 m ρ))

theorem stretch1_26 (σ : Valuation τ sig (Elt Idealize.ShloMosaic.Ideal)) : StableHlo.after hostOps1 σ (Proc.devRef .tc main_v26) =
    modOf (σ (Proc.devRef .tc main_v21)) (σ (Proc.devRef .tc main_arg5)) := by
  after_results
  rfl

theorem stretch1_55 (σ : Valuation τ sig (Elt Idealize.ShloMosaic.Ideal)) : StableHlo.after hostOps1 σ (Proc.devRef .tc main_v55) =
    shapeCast S8192x4096 (truncf .bf16 (normP (σ (Proc.devRef .tc main_arg0)) (σ (Proc.devRef .tc main_arg6))
      (shapeCast S4x6x1x4096 (extractStridedSlice S4x24576 ![0, 0] (modOf (σ (Proc.devRef .tc main_v21)) (σ (Proc.devRef .tc main_arg5))) slices_S36x24576_S4x24576_0_0) shapeCasts_S4x24576_S4x6x1x4096)) bitsLt_bf16_f32)
      shapeCasts_S4x2048x4096_S8192x4096 := by
  after_results
  rfl

theorem stretch2_113 (σ : Valuation τ sig (Elt Idealize.ShloMosaic.Ideal)) : StableHlo.after hostOps2 σ (Proc.devRef .tc main_v113) =
    shapeCast S128x4096 (truncf .bf16 (normS (σ (Proc.devRef .tc main_arg1)) (σ (Proc.devRef .tc main_arg6))
      (shapeCast S32x6x1x4096 (extractStridedSlice S32x24576 ![4, 0] (σ (Proc.devRef .tc main_v26) : FVec Idealize.ShloMosaic.Ideal S36x24576 .f32) slices_S36x24576_S32x24576_4_0) shapeCasts_S32x24576_S32x6x1x4096)) bitsLt_bf16_f32)
      shapeCasts_S32x4x4096_S128x4096 := by
  after_results
  rfl

theorem W6_26 : W6 m ρ (0 : Dev nD) (Proc.devRef .tc main_v26) = modK m ρ := by
  refine (stretch1_26 (W5 m ρ (0 : Dev nD))).trans ?_
  rw [W5_21, W5_args m ρ (0 : Dev nD) main_arg5 (by decide)]
  rfl

/-- The reference's modulated norms. -/
abbrev rNorm : FVec Idealize.ShloMosaic.Ideal S4x2048x4096 .f32 :=
  Cert.Reference2Ideal.Read.val_main_v32 (F := Idealize.ShloMosaic.Ideal) (aX m) (aC m) (aAda m) (aBias m) (aGain m)
abbrev rNormS : FVec Idealize.ShloMosaic.Ideal S32x4x4096 .f32 :=
  Cert.Reference2Ideal.Read.val_main_v88 (F := Idealize.ShloMosaic.Ideal) (aXs m) (aCs m) (aAda m) (aBias m) (aGain m)

theorem V6_left : V6 m ρ (0 : Dev nD) main_v55 = shapeCast S8192x4096 (truncf .bf16 (rNorm m) bitsLt_bf16_f32) shapeCasts_S4x2048x4096_S8192x4096 := by
  refine (stretch1_55 (W5 m ρ (0 : Dev nD))).trans ?_
  rw [W5_21, W5_args m ρ (0 : Dev nD) main_arg0 (by decide), W5_args m ρ (0 : Dev nD) main_arg5 (by decide), W5_args m ρ (0 : Dev nD) main_arg6 (by decide)]
  refine congrArg (fun z => shapeCast S8192x4096 (truncf .bf16 (normP (aX m) (aGain m) (shapeCast S4x6x1x4096 z shapeCasts_S4x24576_S4x6x1x4096)) bitsLt_bf16_f32) shapeCasts_S4x2048x4096_S8192x4096) (mod_prompt m ρ)

theorem V8_left : V8 m ρ (0 : Dev nD) main_v113 = shapeCast S128x4096 (truncf .bf16 (rNormS m) bitsLt_bf16_f32) shapeCasts_S32x4x4096_S128x4096 := by
  refine (stretch2_113 (W7 m ρ (0 : Dev nD))).trans ?_
  rw [W7_args m ρ (0 : Dev nD) main_arg1 (by decide), W7_args m ρ (0 : Dev nD) main_arg6 (by decide),
    (W7_of_ne m ρ (0 : Dev nD) main_v26 (by decide)).trans (W6_26 m ρ)]
  refine congrArg (fun z => shapeCast S128x4096 (truncf .bf16 (normS (aXs m) (aGain m) (shapeCast S32x6x1x4096 z shapeCasts_S32x24576_S32x6x1x4096)) bitsLt_bf16_f32) shapeCasts_S32x4x4096_S128x4096) (mod_sample m ρ)

theorem V6_right : V6 m ρ (0 : Dev nD) main_v16 = W1 m ρ (0 : Dev nD) (Proc.devRef .tc main_v16) :=
  (W6_of m ρ (0 : Dev nD) main_v16 (by decide)).trans ((W5_of_ne m ρ (0 : Dev nD) main_v16 (by decide)).trans ((W4_of m ρ (0 : Dev nD) main_v16 (by decide)).trans
    ((W3_of m ρ (0 : Dev nD) main_v16 (by decide)).trans (W2_of m ρ (0 : Dev nD) main_v16 (by decide)))))

theorem V8_right : V8 m ρ (0 : Dev nD) main_v16 = W1 m ρ (0 : Dev nD) (Proc.devRef .tc main_v16) :=
  (W8_of m ρ (0 : Dev nD) main_v16 (by decide)).trans ((W7_of m ρ (0 : Dev nD) main_v16 (by decide)).trans (V6_right m ρ))

/-! ## The projections -/

/-- The reference's projections. -/
abbrev rProd : FVec Idealize.ShloMosaic.Ideal Cert.Reference2Ideal.S4x2048x11760 .f32 :=
  Cert.Reference2Ideal.Read.val_main_v34 (F := Idealize.ShloMosaic.Ideal) (aX m) (aC m) (aAda m) (aBias m) (aGain m) (aWeight m)
abbrev rProdS : FVec Idealize.ShloMosaic.Ideal Cert.Reference2Ideal.S32x4x11760 .f32 :=
  Cert.Reference2Ideal.Read.val_main_v90 (F := Idealize.ShloMosaic.Ideal) (aXs m) (aCs m) (aAda m) (aBias m) (aGain m) (aWeight m)

/-- Region 1's product at a column that is read is the reference's. -/
theorem prod1_apply (b : Fin 4) (t : Fin 2048) (j : Fin 11760) (i : Fin 8192) (p : Fin 12288) (hi : i.val = b.val * 2048 + t.val) (hp : p.val = pos j.val) :
    prod1 (V6 m ρ) i p = rProd m (ix3 b t j) := by
  have e1 : i = ⟨b.val * 2048 + t.val, by omega⟩ := Fin.ext hi
  have e2 : p = ⟨pos j.val, pos_lt j⟩ := Fin.ext hp
  rw [e1, e2]
  unfold prod1 lhs1 rhs1
  rw [V6_left, V6_right]
  have hl : ∀ k : Fin 4096, shapeCast S8192x4096 (truncf .bf16 (rNorm m) bitsLt_bf16_f32) shapeCasts_S4x2048x4096_S8192x4096 (ix2 ⟨b.val * 2048 + t.val, by omega⟩ k) = rNorm m (ix3 b t k) := fun k => by
    refine (shapeCast_apply _ shapeCasts_S4x2048x4096_S8192x4096 _ (ix3 b t k) ?_).trans rfl
    rw [Shape.rowMajor_val_three, Shape.rowMajor_val_two]
    rfl
  refine Eq.trans (Finset.sum_congr rfl fun k _ => congrArg₂ (fun a b : EReal => a * b) (hl k) (W1_weight m ρ k j)) ?_
  refine Eq.trans (Finset.sum_congr rfl fun k _ => ?_) (Cert.Reference2Ideal.Read.val_main_v34_apply (aX m) (aC m) (aAda m) (aBias m) (aGain m) (aWeight m) (ix3 b t j)).symm
  refine congrArg₂ (fun a b : EReal => a * b) (congrArg (rNorm m) ?_) ?_
  · funext a
    match a with
    | ⟨0, _⟩ => rfl
    | ⟨1, _⟩ => rfl
    | ⟨2, _⟩ => rfl
  · refine (mat_apply m k j).symm.trans ?_
    refine congrArg (mat m) ?_
    funext a
    match a with
    | ⟨0, _⟩ => rfl
    | ⟨1, _⟩ => rfl

/-- Region 2's product at a column that is read is the reference's. -/
theorem prod2_apply (b : Fin 32) (t : Fin 4) (j : Fin 11760) (i : Fin 128) (p : Fin 12288) (hi : i.val = b.val * 4 + t.val) (hp : p.val = pos j.val) :
    prod2 (V8 m ρ) i p = rProdS m (ix3 b t j) := by
  have e1 : i = ⟨b.val * 4 + t.val, by omega⟩ := Fin.ext hi
  have e2 : p = ⟨pos j.val, pos_lt j⟩ := Fin.ext hp
  rw [e1, e2]
  unfold prod2 lhs2 rhs2
  rw [V8_left, V8_right]
  have hl : ∀ k : Fin 4096, shapeCast S128x4096 (truncf .bf16 (rNormS m) bitsLt_bf16_f32) shapeCasts_S32x4x4096_S128x4096 (ix2 ⟨b.val * 4 + t.val, by omega⟩ k) = rNormS m (ix3 b t k) := fun k => by
    refine (shapeCast_apply _ shapeCasts_S32x4x4096_S128x4096 _ (ix3 b t k) ?_).trans rfl
    rw [Shape.rowMajor_val_three, Shape.rowMajor_val_two]
    rfl
  refine Eq.trans (Finset.sum_congr rfl fun k _ => congrArg₂ (fun a b : EReal => a * b) (hl k) (W1_weight m ρ k j)) ?_
  refine Eq.trans (Finset.sum_congr rfl fun k _ => ?_) (Cert.Reference2Ideal.Read.val_main_v90_apply (aXs m) (aCs m) (aAda m) (aBias m) (aGain m) (aWeight m) (ix3 b t j)).symm
  refine congrArg₂ (fun a b : EReal => a * b) (congrArg (rNormS m) ?_) ?_
  · funext a
    match a with
    | ⟨0, _⟩ => rfl
    | ⟨1, _⟩ => rfl
    | ⟨2, _⟩ => rfl
  · refine (mat_apply m k j).symm.trans ?_
    refine congrArg (mat m) ?_
    funext a
    match a with
    | ⟨0, _⟩ => rfl
    | ⟨1, _⟩ => rfl

end Cert.Proof.InProj

end
-- ==== Proof.InProjTail.lean ====
/- Hand-written: THE PIECES OF THE PROMPTS' IN-PROJECTION, over the extended reals. Each of their results of the call is cut out of the padded product;
   at every entry it is the reference's product at the column the reference cuts out (`kU_apply` …). -/
module

public import proofs.«01_k».proof.Proof.InProj
public import proofs.«01_k».proof.Proof.Gen.Reference2Ideal.Read
public import Idealize.ShloMosaic.Lib.ValueIdxRank6

@[expose] public section

noncomputable section

namespace Cert.Proof.InProj

open Cert.Kernel2Ideal Cert.Kernel2Ideal.Gen
open Idealize.ShloMosaic Idealize.ShloMosaic.TcCoe Idealize.ShloMosaic.ValueIdx Idealize.ShloMosaic.Tactic
open scoped BigOperators

variable (P : FVec Idealize.ShloMosaic.Ideal S8192x12288 .f32)

/-! ## What the lines after the region make of the array -/

/-- The recurrence's columns. -/
def u0 : FVec Idealize.ShloMosaic.Ideal S8192x6144 .f32 := extractStridedSlice S8192x6144 ![0, 0] P slices_S8192x12288_S8192x6144_0_0
def u1 : FVec Idealize.ShloMosaic.Ideal S8192x96 .f32 := extractStridedSlice S8192x96 ![0, 6144] P slices_S8192x12288_S8192x96_0_6144
def u2 : FVec Idealize.ShloMosaic.Ideal S8192x96 .f32 := extractStridedSlice S8192x96 ![0, 6272] P slices_S8192x12288_S8192x96_0_6272
def u3 : FVec Idealize.ShloMosaic.Ideal S8192x256 .f32 := extractStridedSlice S8192x256 ![0, 6400] P slices_S8192x12288_S8192x256_0_6400
def kU : FVec Idealize.ShloMosaic.Ideal S8192x6592 .f32 :=
  concatenate S8192x6592 1 [⟨S8192x6144, u0 P⟩, ⟨S8192x96, u1 P⟩, ⟨S8192x96, u2 P⟩, ⟨S8192x256, u3 P⟩] concatenates_S8192x6144_S8192x96_S8192x96_S8192x256_S8192x6592_d1
/-- The queries. -/
def kQ : FVec Idealize.ShloMosaic.Ideal S8192x2048 .f32 := extractStridedSlice S8192x2048 ![0, 6656] P slices_S8192x12288_S8192x2048_0_6656
/-- The gates. -/
def g0 : FVec Idealize.ShloMosaic.Ideal S8192x12 .f32 := extractStridedSlice S8192x12 ![0, 11776] P slices_S8192x12288_S8192x12_0_11776
def g1 : FVec Idealize.ShloMosaic.Ideal S8192x12 .f32 := extractStridedSlice S8192x12 ![0, 11904] P slices_S8192x12288_S8192x12_0_11904
def g2 : FVec Idealize.ShloMosaic.Ideal S8192x12 .f32 := extractStridedSlice S8192x12 ![0, 12032] P slices_S8192x12288_S8192x12_0_12032
def g3 : FVec Idealize.ShloMosaic.Ideal S8192x12 .f32 := extractStridedSlice S8192x12 ![0, 12160] P slices_S8192x12288_S8192x12_0_12160
def kG : FVec Idealize.ShloMosaic.Ideal S8192x48 .f32 :=
  concatenate S8192x48 1 [⟨S8192x12, g0 P⟩, ⟨S8192x12, g1 P⟩, ⟨S8192x12, g2 P⟩, ⟨S8192x12, g3 P⟩] concatenates_S8192x12_S8192x12_S8192x12_S8192x12_S8192x48_d1
/-- The keys and values of the three branches. -/
def kv : FVec Idealize.ShloMosaic.Ideal S4x2048x3x2x4x128 .f32 :=
  shapeCast S4x2048x3x2x4x128 (extractStridedSlice S8192x3072 ![0, 8704] P slices_S8192x12288_S8192x3072_0_8704) shapeCasts_S8192x3072_S4x2048x3x2x4x128
def kC : FVec Idealize.ShloMosaic.Ideal S1x4x2048x2x4x128 .f32 :=
  broadcastInDim S1x4x2048x2x4x128 ![1, 2, 3, 4, 5] bcast_S4x2048x2x4x128_S1x4x2048x2x4x128_1_2_3_4_5
    (shapeCast S4x2048x2x4x128 (extractStridedSlice S4x2048x1x2x4x128 ![0, 0, 0, 0, 0, 0] (kv P) slices_S4x2048x3x2x4x128_S4x2048x1x2x4x128_0_0_0_0_0_0) shapeCasts_S4x2048x1x2x4x128_S4x2048x2x4x128)
def kS : FVec Idealize.ShloMosaic.Ideal S1x4x2048x2x4x128 .f32 :=
  broadcastInDim S1x4x2048x2x4x128 ![1, 2, 3, 4, 5] bcast_S4x2048x2x4x128_S1x4x2048x2x4x128_1_2_3_4_5
    (shapeCast S4x2048x2x4x128 (extractStridedSlice S4x2048x1x2x4x128 ![0, 0, 1, 0, 0, 0] (kv P) slices_S4x2048x3x2x4x128_S4x2048x1x2x4x128_0_0_1_0_0_0) shapeCasts_S4x2048x1x2x4x128_S4x2048x2x4x128)
def kWall : FVec Idealize.ShloMosaic.Ideal S4x2048x2x4x128 .f32 :=
  shapeCast S4x2048x2x4x128 (extractStridedSlice S4x2048x1x2x4x128 ![0, 0, 2, 0, 0, 0] (kv P) slices_S4x2048x3x2x4x128_S4x2048x1x2x4x128_0_0_2_0_0_0) shapeCasts_S4x2048x1x2x4x128_S4x2048x2x4x128
def kW : FVec Idealize.ShloMosaic.Ideal S1x4x512x2x4x128 .f32 :=
  broadcastInDim S1x4x512x2x4x128 ![1, 2, 3, 4, 5] bcast_S4x512x2x4x128_S1x4x512x2x4x128_1_2_3_4_5
    (extractStridedSlice S4x512x2x4x128 ![0, 1536, 0, 0, 0] (kWall P) slices_S4x2048x2x4x128_S4x512x2x4x128_0_1536_0_0_0)
/-- The last row of every sequence. -/
def lastRow : FVec Idealize.ShloMosaic.Ideal S4x12288 .f32 :=
  shapeCast S4x12288 (extractStridedSlice S4x1x12288 ![0, 2047, 0] (shapeCast S4x2048x12288 P shapeCasts_S8192x12288_S4x2048x12288) slices_S4x2048x12288_S4x1x12288_0_2047_0)
    shapeCasts_S4x1x12288_S4x12288
def l0 : FVec Idealize.ShloMosaic.Ideal S4x6144 .f32 := extractStridedSlice S4x6144 ![0, 0] (lastRow P) slices_S4x12288_S4x6144_0_0
def l1 : FVec Idealize.ShloMosaic.Ideal S4x96 .f32 := extractStridedSlice S4x96 ![0, 6144] (lastRow P) slices_S4x12288_S4x96_0_6144
def l2 : FVec Idealize.ShloMosaic.Ideal S4x96 .f32 := extractStridedSlice S4x96 ![0, 6272] (lastRow P) slices_S4x12288_S4x96_0_6272
def l3 : FVec Idealize.ShloMosaic.Ideal S4x256 .f32 := extractStridedSlice S4x256 ![0, 6400] (lastRow P) slices_S4x12288_S4x256_0_6400
def lCat : FVec Idealize.ShloMosaic.Ideal S4x6592 .f32 :=
  concatenate S4x6592 1 [⟨S4x6144, l0 P⟩, ⟨S4x96, l1 P⟩, ⟨S4x96, l2 P⟩, ⟨S4x256, l3 P⟩] concatenates_S4x6144_S4x96_S4x96_S4x256_S4x6592_d1
def kL : FVec Idealize.ShloMosaic.Ideal S1x4x6592 .f32 := broadcastInDim S1x4x6592 ![1, 2] bcast_S4x6592_S1x4x6592_1_2 (lCat P)

/-! ## Where each entry of a piece lies in the array -/

theorem u0_apply (i : Fin 8192) (k : Fin 6144) : u0 P (ix2 i k) = P (ix2 i ⟨0 + k.val, by omega⟩) := by
  unfold u0
  generalize P = Q
  exact extractStridedSlice_apply ![0, 0] Q slices_S8192x12288_S8192x6144_0_0 (ix2 i k) (ix2 i ⟨0 + k.val, by omega⟩) (fun a => match a with
    | ⟨0, _⟩ => by show i.val = 0 + i.val; omega
    | ⟨1, _⟩ => rfl)

theorem u1_apply (i : Fin 8192) (k : Fin 96) : u1 P (ix2 i k) = P (ix2 i ⟨6144 + k.val, by omega⟩) := by
  unfold u1
  generalize P = Q
  exact extractStridedSlice_apply ![0, 6144] Q slices_S8192x12288_S8192x96_0_6144 (ix2 i k) (ix2 i ⟨6144 + k.val, by omega⟩) (fun a => match a with
    | ⟨0, _⟩ => by show i.val = 0 + i.val; omega
    | ⟨1, _⟩ => rfl)

theorem u2_apply (i : Fin 8192) (k : Fin 96) : u2 P (ix2 i k) = P (ix2 i ⟨6272 + k.val, by omega⟩) := by
  unfold u2
  generalize P = Q
  exact extractStridedSlice_apply ![0, 6272] Q slices_S8192x12288_S8192x96_0_6272 (ix2 i k) (ix2 i ⟨6272 + k.val, by omega⟩) (fun a => match a with
    | ⟨0, _⟩ => by show i.val = 0 + i.val; omega
    | ⟨1, _⟩ => rfl)

theorem u3_apply (i : Fin 8192) (k : Fin 256) : u3 P (ix2 i k) = P (ix2 i ⟨6400 + k.val, by omega⟩) := by
  unfold u3
  generalize P = Q
  exact extractStridedSlice_apply ![0, 6400] Q slices_S8192x12288_S8192x256_0_6400 (ix2 i k) (ix2 i ⟨6400 + k.val, by omega⟩) (fun a => match a with
    | ⟨0, _⟩ => by show i.val = 0 + i.val; omega
    | ⟨1, _⟩ => rfl)

theorem kQ_apply (i : Fin 8192) (k : Fin 2048) : kQ P (ix2 i k) = P (ix2 i ⟨6656 + k.val, by omega⟩) := by
  unfold kQ
  generalize P = Q
  exact extractStridedSlice_apply ![0, 6656] Q slices_S8192x12288_S8192x2048_0_6656 (ix2 i k) (ix2 i ⟨6656 + k.val, by omega⟩) (fun a => match a with
    | ⟨0, _⟩ => by show i.val = 0 + i.val; omega
    | ⟨1, _⟩ => rfl)

theorem g0_apply (i : Fin 8192) (k : Fin 12) : g0 P (ix2 i k) = P (ix2 i ⟨11776 + k.val, by omega⟩) := by
  unfold g0
  generalize P = Q
  exact extractStridedSlice_apply ![0, 11776] Q slices_S8192x12288_S8192x12_0_11776 (ix2 i k) (ix2 i ⟨11776 + k.val, by omega⟩) (fun a => match a with
    | ⟨0, _⟩ => by show i.val = 0 + i.val; omega
    | ⟨1, _⟩ => rfl)

theorem g1_apply (i : Fin 8192) (k : Fin 12) : g1 P (ix2 i k) = P (ix2 i ⟨11904 + k.val, by omega⟩) := by
  unfold g1
  generalize P = Q
  exact extractStridedSlice_apply ![0, 11904] Q slices_S8192x12288_S8192x12_0_11904 (ix2 i k) (ix2 i ⟨11904 + k.val, by omega⟩) (fun a => match a with
    | ⟨0, _⟩ => by show i.val = 0 + i.val; omega
    | ⟨1, _⟩ => rfl)

theorem g2_apply (i : Fin 8192) (k : Fin 12) : g2 P (ix2 i k) = P (ix2 i ⟨12032 + k.val, by omega⟩) := by
  unfold g2
  generalize P = Q
  exact extractStridedSlice_apply ![0, 12032] Q slices_S8192x12288_S8192x12_0_12032 (ix2 i k) (ix2 i ⟨12032 + k.val, by omega⟩) (fun a => match a with
    | ⟨0, _⟩ => by show i.val = 0 + i.val; omega
    | ⟨1, _⟩ => rfl)

theorem g3_apply (i : Fin 8192) (k : Fin 12) : g3 P (ix2 i k) = P (ix2 i ⟨12160 + k.val, by omega⟩) := by
  unfold g3
  generalize P = Q
  exact extractStridedSlice_apply ![0, 12160] Q slices_S8192x12288_S8192x12_0_12160 (ix2 i k) (ix2 i ⟨12160 + k.val, by omega⟩) (fun a => match a with
    | ⟨0, _⟩ => by show i.val = 0 + i.val; omega
    | ⟨1, _⟩ => rfl)

theorem lastRow_apply (b : Fin 4) (k : Fin 12288) : lastRow P (ix2 b k) = P (ix2 ⟨b.val * 2048 + 2047, by omega⟩ k) := by
  unfold lastRow
  refine (shapeCast_apply _ shapeCasts_S4x1x12288_S4x12288 (ix2 b k) (ix3 b (0 : Fin 1) k) (by
    rw [Shape.rowMajor_val_three, Shape.rowMajor_val_two]; show (b.val * 1 + 0) * 12288 + k.val = b.val * 12288 + k.val; omega)).trans ?_
  refine (extractStridedSlice_apply ![0, 2047, 0] _ slices_S4x2048x12288_S4x1x12288_0_2047_0 (ix3 b (0 : Fin 1) k) (ix3 b (⟨2047, by omega⟩ : Fin 2048) k)
    (fun a => match a with
    | ⟨0, _⟩ => by show b.val = 0 + b.val; omega
    | ⟨1, _⟩ => rfl
    | ⟨2, _⟩ => by show k.val = 0 + k.val; omega)).trans ?_
  exact shapeCast_apply _ shapeCasts_S8192x12288_S4x2048x12288 (ix3 b (⟨2047, by omega⟩ : Fin 2048) k) (ix2 ⟨b.val * 2048 + 2047, by omega⟩ k) (by
    rw [Shape.rowMajor_val_three, Shape.rowMajor_val_two]; show (b.val * 2048 + 2047) * 12288 + k.val = (b.val * 2048 + 2047) * 12288 + k.val; rfl)

theorem l0_apply (i : Fin 4) (k : Fin 6144) : l0 P (ix2 i k) = (lastRow P) (ix2 i ⟨0 + k.val, by omega⟩) := by
  unfold l0
  generalize (lastRow P) = Q
  exact extractStridedSlice_apply ![0, 0] Q slices_S4x12288_S4x6144_0_0 (ix2 i k) (ix2 i ⟨0 + k.val, by omega⟩) (fun a => match a with
    | ⟨0, _⟩ => by show i.val = 0 + i.val; omega
    | ⟨1, _⟩ => rfl)

theorem l1_apply (i : Fin 4) (k : Fin 96) : l1 P (ix2 i k) = (lastRow P) (ix2 i ⟨6144 + k.val, by omega⟩) := by
  unfold l1
  generalize (lastRow P) = Q
  exact extractStridedSlice_apply ![0, 6144] Q slices_S4x12288_S4x96_0_6144 (ix2 i k) (ix2 i ⟨6144 + k.val, by omega⟩) (fun a => match a with
    | ⟨0, _⟩ => by show i.val = 0 + i.val; omega
    | ⟨1, _⟩ => rfl)

theorem l2_apply (i : Fin 4) (k : Fin 96) : l2 P (ix2 i k) = (lastRow P) (ix2 i ⟨6272 + k.val, by omega⟩) := by
  unfold l2
  generalize (lastRow P) = Q
  exact extractStridedSlice_apply ![0, 6272] Q slices_S4x12288_S4x96_0_6272 (ix2 i k) (ix2 i ⟨6272 + k.val, by omega⟩) (fun a => match a with
    | ⟨0, _⟩ => by show i.val = 0 + i.val; omega
    | ⟨1, _⟩ => rfl)

theorem l3_apply (i : Fin 4) (k : Fin 256) : l3 P (ix2 i k) = (lastRow P) (ix2 i ⟨6400 + k.val, by omega⟩) := by
  unfold l3
  generalize (lastRow P) = Q
  exact extractStridedSlice_apply ![0, 6400] Q slices_S4x12288_S4x256_0_6400 (ix2 i k) (ix2 i ⟨6400 + k.val, by omega⟩) (fun a => match a with
    | ⟨0, _⟩ => by show i.val = 0 + i.val; omega
    | ⟨1, _⟩ => rfl)

theorem kU_piece0 (i : Fin 8192) (k : Fin 6144) : kU P (ix2 i ⟨0 + k.val, by omega⟩) = P (ix2 i ⟨0 + k.val, by omega⟩) := by
  unfold kU
  refine (concatenate_apply_piece (t := S8192x6592) 1 [⟨S8192x6144, u0 P⟩, ⟨S8192x96, u1 P⟩, ⟨S8192x96, u2 P⟩, ⟨S8192x256, u3 P⟩]
    concatenates_S8192x6144_S8192x96_S8192x96_S8192x256_S8192x6592_d1 _ 0 (show 0 < 4 by omega) S8192x6144 _ rfl rfl 0 (Eq.trans (b := ([] : List ℕ).sum) rfl (by norm_num)) (ix2 i k) (fun b hb => ?_) ?_).trans (u0_apply P i k)
  · match b with
    | ⟨0, _⟩ => rfl
    | ⟨1, _⟩ => exact absurd rfl hb
  · rfl

theorem kU_piece1 (i : Fin 8192) (k : Fin 96) : kU P (ix2 i ⟨6144 + k.val, by omega⟩) = P (ix2 i ⟨6144 + k.val, by omega⟩) := by
  unfold kU
  refine (concatenate_apply_piece (t := S8192x6592) 1 [⟨S8192x6144, u0 P⟩, ⟨S8192x96, u1 P⟩, ⟨S8192x96, u2 P⟩, ⟨S8192x256, u3 P⟩]
    concatenates_S8192x6144_S8192x96_S8192x96_S8192x256_S8192x6592_d1 _ 1 (show 1 < 4 by omega) S8192x96 _ rfl rfl 6144 (Eq.trans (b := ([6144] : List ℕ).sum) rfl (by norm_num)) (ix2 i k) (fun b hb => ?_) ?_).trans (u1_apply P i k)
  · match b with
    | ⟨0, _⟩ => rfl
    | ⟨1, _⟩ => exact absurd rfl hb
  · rfl

theorem kU_piece2 (i : Fin 8192) (k : Fin 96) : kU P (ix2 i ⟨6240 + k.val, by omega⟩) = P (ix2 i ⟨6272 + k.val, by omega⟩) := by
  unfold kU
  refine (concatenate_apply_piece (t := S8192x6592) 1 [⟨S8192x6144, u0 P⟩, ⟨S8192x96, u1 P⟩, ⟨S8192x96, u2 P⟩, ⟨S8192x256, u3 P⟩]
    concatenates_S8192x6144_S8192x96_S8192x96_S8192x256_S8192x6592_d1 _ 2 (show 2 < 4 by omega) S8192x96 _ rfl rfl 6240 (Eq.trans (b := ([6144, 96] : List ℕ).sum) rfl (by norm_num)) (ix2 i k) (fun b hb => ?_) ?_).trans (u2_apply P i k)
  · match b with
    | ⟨0, _⟩ => rfl
    | ⟨1, _⟩ => exact absurd rfl hb
  · rfl

theorem kU_piece3 (i : Fin 8192) (k : Fin 256) : kU P (ix2 i ⟨6336 + k.val, by omega⟩) = P (ix2 i ⟨6400 + k.val, by omega⟩) := by
  unfold kU
  refine (concatenate_apply_piece (t := S8192x6592) 1 [⟨S8192x6144, u0 P⟩, ⟨S8192x96, u1 P⟩, ⟨S8192x96, u2 P⟩, ⟨S8192x256, u3 P⟩]
    concatenates_S8192x6144_S8192x96_S8192x96_S8192x256_S8192x6592_d1 _ 3 (show 3 < 4 by omega) S8192x256 _ rfl rfl 6336 (Eq.trans (b := ([6144, 96, 96] : List ℕ).sum) rfl (by norm_num)) (ix2 i k) (fun b hb => ?_) ?_).trans (u3_apply P i k)
  · match b with
    | ⟨0, _⟩ => rfl
    | ⟨1, _⟩ => exact absurd rfl hb
  · rfl

theorem kU_apply (i : Fin 8192) (j : Fin 6592) : kU P (ix2 i j) = P (ix2 i ⟨pos (0 + j.val), pos_lt ⟨0 + j.val, by omega⟩⟩) := by
  have hj := j.isLt
  by_cases h0 : j.val < 6144
  · exact (congrArg (fun z => kU P (ix2 i z)) (Fin.ext (by show j.val = 0 + (j.val - 0); omega))).trans ((kU_piece0 P i ⟨j.val - 0, by omega⟩).trans
      (congrArg (fun z => P (ix2 i z)) (Fin.ext (by show 0 + (j.val - 0) = pos (0 + j.val); unfold pos; split_ifs <;> omega))))
  by_cases h1 : j.val < 6240
  · exact (congrArg (fun z => kU P (ix2 i z)) (Fin.ext (by show j.val = 6144 + (j.val - 6144); omega))).trans ((kU_piece1 P i ⟨j.val - 6144, by omega⟩).trans
      (congrArg (fun z => P (ix2 i z)) (Fin.ext (by show 6144 + (j.val - 6144) = pos (0 + j.val); unfold pos; split_ifs <;> omega))))
  by_cases h2 : j.val < 6336
  · exact (congrArg (fun z => kU P (ix2 i z)) (Fin.ext (by show j.val = 6240 + (j.val - 6240); omega))).trans ((kU_piece2 P i ⟨j.val - 6240, by omega⟩).trans
      (congrArg (fun z => P (ix2 i z)) (Fin.ext (by show 6272 + (j.val - 6240) = pos (0 + j.val); unfold pos; split_ifs <;> omega))))
  exact (congrArg (fun z => kU P (ix2 i z)) (Fin.ext (by show j.val = 6336 + (j.val - 6336); omega))).trans ((kU_piece3 P i ⟨j.val - 6336, by omega⟩).trans
      (congrArg (fun z => P (ix2 i z)) (Fin.ext (by show 6400 + (j.val - 6336) = pos (0 + j.val); unfold pos; split_ifs <;> omega))))

theorem kG_piece0 (i : Fin 8192) (k : Fin 12) : kG P (ix2 i ⟨0 + k.val, by omega⟩) = P (ix2 i ⟨11776 + k.val, by omega⟩) := by
  unfold kG
  refine (concatenate_apply_piece (t := S8192x48) 1 [⟨S8192x12, g0 P⟩, ⟨S8192x12, g1 P⟩, ⟨S8192x12, g2 P⟩, ⟨S8192x12, g3 P⟩]
    concatenates_S8192x12_S8192x12_S8192x12_S8192x12_S8192x48_d1 _ 0 (show 0 < 4 by omega) S8192x12 _ rfl rfl 0 (Eq.trans (b := ([] : List ℕ).sum) rfl (by norm_num)) (ix2 i k) (fun b hb => ?_) ?_).trans (g0_apply P i k)
  · match b with
    | ⟨0, _⟩ => rfl
    | ⟨1, _⟩ => exact absurd rfl hb
  · rfl

theorem kG_piece1 (i : Fin 8192) (k : Fin 12) : kG P (ix2 i ⟨12 + k.val, by omega⟩) = P (ix2 i ⟨11904 + k.val, by omega⟩) := by
  unfold kG
  refine (concatenate_apply_piece (t := S8192x48) 1 [⟨S8192x12, g0 P⟩, ⟨S8192x12, g1 P⟩, ⟨S8192x12, g2 P⟩, ⟨S8192x12, g3 P⟩]
    concatenates_S8192x12_S8192x12_S8192x12_S8192x12_S8192x48_d1 _ 1 (show 1 < 4 by omega) S8192x12 _ rfl rfl 12 (Eq.trans (b := ([12] : List ℕ).sum) rfl (by norm_num)) (ix2 i k) (fun b hb => ?_) ?_).trans (g1_apply P i k)
  · match b with
    | ⟨0, _⟩ => rfl
    | ⟨1, _⟩ => exact absurd rfl hb
  · rfl

theorem kG_piece2 (i : Fin 8192) (k : Fin 12) : kG P (ix2 i ⟨24 + k.val, by omega⟩) = P (ix2 i ⟨12032 + k.val, by omega⟩) := by
  unfold kG
  refine (concatenate_apply_piece (t := S8192x48) 1 [⟨S8192x12, g0 P⟩, ⟨S8192x12, g1 P⟩, ⟨S8192x12, g2 P⟩, ⟨S8192x12, g3 P⟩]
    concatenates_S8192x12_S8192x12_S8192x12_S8192x12_S8192x48_d1 _ 2 (show 2 < 4 by omega) S8192x12 _ rfl rfl 24 (Eq.trans (b := ([12, 12] : List ℕ).sum) rfl (by norm_num)) (ix2 i k) (fun b hb => ?_) ?_).trans (g2_apply P i k)
  · match b with
    | ⟨0, _⟩ => rfl
    | ⟨1, _⟩ => exact absurd rfl hb
  · rfl

theorem kG_piece3 (i : Fin 8192) (k : Fin 12) : kG P (ix2 i ⟨36 + k.val, by omega⟩) = P (ix2 i ⟨12160 + k.val, by omega⟩) := by
  unfold kG
  refine (concatenate_apply_piece (t := S8192x48) 1 [⟨S8192x12, g0 P⟩, ⟨S8192x12, g1 P⟩, ⟨S8192x12, g2 P⟩, ⟨S8192x12, g3 P⟩]
    concatenates_S8192x12_S8192x12_S8192x12_S8192x12_S8192x48_d1 _ 3 (show 3 < 4 by omega) S8192x12 _ rfl rfl 36 (Eq.trans (b := ([12, 12, 12] : List ℕ).sum) rfl (by norm_num)) (ix2 i k) (fun b hb => ?_) ?_).trans (g3_apply P i k)
  · match b with
    | ⟨0, _⟩ => rfl
    | ⟨1, _⟩ => exact absurd rfl hb
  · rfl

theorem kG_apply (i : Fin 8192) (j : Fin 48) : kG P (ix2 i j) = P (ix2 i ⟨pos (11712 + j.val), pos_lt ⟨11712 + j.val, by omega⟩⟩) := by
  have hj := j.isLt
  by_cases h0 : j.val < 12
  · exact (congrArg (fun z => kG P (ix2 i z)) (Fin.ext (by show j.val = 0 + (j.val - 0); omega))).trans ((kG_piece0 P i ⟨j.val - 0, by omega⟩).trans
      (congrArg (fun z => P (ix2 i z)) (Fin.ext (by show 11776 + (j.val - 0) = pos (11712 + j.val); unfold pos; split_ifs <;> omega))))
  by_cases h1 : j.val < 24
  · exact (congrArg (fun z => kG P (ix2 i z)) (Fin.ext (by show j.val = 12 + (j.val - 12); omega))).trans ((kG_piece1 P i ⟨j.val - 12, by omega⟩).trans
      (congrArg (fun z => P (ix2 i z)) (Fin.ext (by show 11904 + (j.val - 12) = pos (11712 + j.val); unfold pos; split_ifs <;> omega))))
  by_cases h2 : j.val < 36
  · exact (congrArg (fun z => kG P (ix2 i z)) (Fin.ext (by show j.val = 24 + (j.val - 24); omega))).trans ((kG_piece2 P i ⟨j.val - 24, by omega⟩).trans
      (congrArg (fun z => P (ix2 i z)) (Fin.ext (by show 12032 + (j.val - 24) = pos (11712 + j.val); unfold pos; split_ifs <;> omega))))
  exact (congrArg (fun z => kG P (ix2 i z)) (Fin.ext (by show j.val = 36 + (j.val - 36); omega))).trans ((kG_piece3 P i ⟨j.val - 36, by omega⟩).trans
      (congrArg (fun z => P (ix2 i z)) (Fin.ext (by show 12160 + (j.val - 36) = pos (11712 + j.val); unfold pos; split_ifs <;> omega))))

theorem lCat_piece0 (i : Fin 4) (k : Fin 6144) : lCat P (ix2 i ⟨0 + k.val, by omega⟩) = (lastRow P) (ix2 i ⟨0 + k.val, by omega⟩) := by
  unfold lCat
  refine (concatenate_apply_piece (t := S4x6592) 1 [⟨S4x6144, l0 P⟩, ⟨S4x96, l1 P⟩, ⟨S4x96, l2 P⟩, ⟨S4x256, l3 P⟩]
    concatenates_S4x6144_S4x96_S4x96_S4x256_S4x6592_d1 _ 0 (show 0 < 4 by omega) S4x6144 _ rfl rfl 0 (Eq.trans (b := ([] : List ℕ).sum) rfl (by norm_num)) (ix2 i k) (fun b hb => ?_) ?_).trans (l0_apply P i k)
  · match b with
    | ⟨0, _⟩ => rfl
    | ⟨1, _⟩ => exact absurd rfl hb
  · rfl

theorem lCat_piece1 (i : Fin 4) (k : Fin 96) : lCat P (ix2 i ⟨6144 + k.val, by omega⟩) = (lastRow P) (ix2 i ⟨6144 + k.val, by omega⟩) := by
  unfold lCat
  refine (concatenate_apply_piece (t := S4x6592) 1 [⟨S4x6144, l0 P⟩, ⟨S4x96, l1 P⟩, ⟨S4x96, l2 P⟩, ⟨S4x256, l3 P⟩]
    concatenates_S4x6144_S4x96_S4x96_S4x256_S4x6592_d1 _ 1 (show 1 < 4 by omega) S4x96 _ rfl rfl 6144 (Eq.trans (b := ([6144] : List ℕ).sum) rfl (by norm_num)) (ix2 i k) (fun b hb => ?_) ?_).trans (l1_apply P i k)
  · match b with
    | ⟨0, _⟩ => rfl
    | ⟨1, _⟩ => exact absurd rfl hb
  · rfl

theorem lCat_piece2 (i : Fin 4) (k : Fin 96) : lCat P (ix2 i ⟨6240 + k.val, by omega⟩) = (lastRow P) (ix2 i ⟨6272 + k.val, by omega⟩) := by
  unfold lCat
  refine (concatenate_apply_piece (t := S4x6592) 1 [⟨S4x6144, l0 P⟩, ⟨S4x96, l1 P⟩, ⟨S4x96, l2 P⟩, ⟨S4x256, l3 P⟩]
    concatenates_S4x6144_S4x96_S4x96_S4x256_S4x6592_d1 _ 2 (show 2 < 4 by omega) S4x96 _ rfl rfl 6240 (Eq.trans (b := ([6144, 96] : List ℕ).sum) rfl (by norm_num)) (ix2 i k) (fun b hb => ?_) ?_).trans (l2_apply P i k)
  · match b with
    | ⟨0, _⟩ => rfl
    | ⟨1, _⟩ => exact absurd rfl hb
  · rfl

theorem lCat_piece3 (i : Fin 4) (k : Fin 256) : lCat P (ix2 i ⟨6336 + k.val, by omega⟩) = (lastRow P) (ix2 i ⟨6400 + k.val, by omega⟩) := by
  unfold lCat
  refine (concatenate_apply_piece (t := S4x6592) 1 [⟨S4x6144, l0 P⟩, ⟨S4x96, l1 P⟩, ⟨S4x96, l2 P⟩, ⟨S4x256, l3 P⟩]
    concatenates_S4x6144_S4x96_S4x96_S4x256_S4x6592_d1 _ 3 (show 3 < 4 by omega) S4x256 _ rfl rfl 6336 (Eq.trans (b := ([6144, 96, 96] : List ℕ).sum) rfl (by norm_num)) (ix2 i k) (fun b hb => ?_) ?_).trans (l3_apply P i k)
  · match b with
    | ⟨0, _⟩ => rfl
    | ⟨1, _⟩ => exact absurd rfl hb
  · rfl

theorem lCat_apply (i : Fin 4) (j : Fin 6592) : lCat P (ix2 i j) = (lastRow P) (ix2 i ⟨pos (0 + j.val), pos_lt ⟨0 + j.val, by omega⟩⟩) := by
  have hj := j.isLt
  by_cases h0 : j.val < 6144
  · exact (congrArg (fun z => lCat P (ix2 i z)) (Fin.ext (by show j.val = 0 + (j.val - 0); omega))).trans ((lCat_piece0 P i ⟨j.val - 0, by omega⟩).trans
      (congrArg (fun z => (lastRow P) (ix2 i z)) (Fin.ext (by show 0 + (j.val - 0) = pos (0 + j.val); unfold pos; split_ifs <;> omega))))
  by_cases h1 : j.val < 6240
  · exact (congrArg (fun z => lCat P (ix2 i z)) (Fin.ext (by show j.val = 6144 + (j.val - 6144); omega))).trans ((lCat_piece1 P i ⟨j.val - 6144, by omega⟩).trans
      (congrArg (fun z => (lastRow P) (ix2 i z)) (Fin.ext (by show 6144 + (j.val - 6144) = pos (0 + j.val); unfold pos; split_ifs <;> omega))))
  by_cases h2 : j.val < 6336
  · exact (congrArg (fun z => lCat P (ix2 i z)) (Fin.ext (by show j.val = 6240 + (j.val - 6240); omega))).trans ((lCat_piece2 P i ⟨j.val - 6240, by omega⟩).trans
      (congrArg (fun z => (lastRow P) (ix2 i z)) (Fin.ext (by show 6272 + (j.val - 6240) = pos (0 + j.val); unfold pos; split_ifs <;> omega))))
  exact (congrArg (fun z => lCat P (ix2 i z)) (Fin.ext (by show j.val = 6336 + (j.val - 6336); omega))).trans ((lCat_piece3 P i ⟨j.val - 6336, by omega⟩).trans
      (congrArg (fun z => (lastRow P) (ix2 i z)) (Fin.ext (by show 6400 + (j.val - 6336) = pos (0 + j.val); unfold pos; split_ifs <;> omega))))

theorem kv_apply (b : Fin 4) (t : Fin 2048) (c : Fin 3) (x : Fin 2) (g : Fin 4) (e : Fin 128) :
    kv P (ix6 b t c x g e) = P (ix2 ⟨b.val * 2048 + t.val, by omega⟩ ⟨8704 + (((c.val * 2 + x.val) * 4 + g.val) * 128 + e.val), by omega⟩) := by
  unfold kv
  refine (shapeCast_apply _ shapeCasts_S8192x3072_S4x2048x3x2x4x128 (ix6 b t c x g e)
    (ix2 (⟨b.val * 2048 + t.val, by omega⟩ : Fin 8192) (⟨((c.val * 2 + x.val) * 4 + g.val) * 128 + e.val, by omega⟩ : Fin 3072)) (by
    rw [Shape.rowMajor_val_six, Shape.rowMajor_val_two]
    show (b.val * 2048 + t.val) * 3072 + (((c.val * 2 + x.val) * 4 + g.val) * 128 + e.val)
      = ((((b.val * 2048 + t.val) * 3 + c.val) * 2 + x.val) * 4 + g.val) * 128 + e.val
    omega)).trans ?_
  exact extractStridedSlice_apply ![0, 8704] P slices_S8192x12288_S8192x3072_0_8704 _ _ (fun a => match a with
    | ⟨0, _⟩ => by show b.val * 2048 + t.val = 0 + (b.val * 2048 + t.val); omega
    | ⟨1, _⟩ => rfl)

theorem drop_unit (Q : FVec Idealize.ShloMosaic.Ideal S4x2048x1x2x4x128 .f32) (b : Fin 4) (t : Fin 2048) (x : Fin 2) (g : Fin 4) (e : Fin 128) :
    shapeCast S4x2048x2x4x128 Q shapeCasts_S4x2048x1x2x4x128_S4x2048x2x4x128 (ix5 b t x g e) = Q (ix6 b t 0 x g e) :=
  shapeCast_apply Q shapeCasts_S4x2048x1x2x4x128_S4x2048x2x4x128 (ix5 b t x g e) (ix6 b t (0 : Fin 1) x g e) (by
    rw [Shape.rowMajor_val_six, Shape.rowMajor_val_five]
    show ((((b.val * 2048 + t.val) * 1 + 0) * 2 + x.val) * 4 + g.val) * 128 + e.val = (((b.val * 2048 + t.val) * 2 + x.val) * 4 + g.val) * 128 + e.val
    omega)

theorem branch (a : Fin 3) (h : S4x2048x3x2x4x128.Slices ![0, 0, a.val, 0, 0, 0] S4x2048x1x2x4x128) (Q : FVec Idealize.ShloMosaic.Ideal S4x2048x3x2x4x128 .f32)
    (b : Fin 4) (t : Fin 2048) (x : Fin 2) (g : Fin 4) (e : Fin 128) :
    extractStridedSlice S4x2048x1x2x4x128 ![0, 0, a.val, 0, 0, 0] Q h (ix6 b t 0 x g e) = Q (ix6 b t a x g e) :=
  extractStridedSlice_apply ![0, 0, a.val, 0, 0, 0] Q h (ix6 b t (0 : Fin 1) x g e) (ix6 b t a x g e) (fun z => match z with
    | ⟨0, _⟩ => by show b.val = 0 + b.val; omega
    | ⟨1, _⟩ => by show t.val = 0 + t.val; omega
    | ⟨2, _⟩ => by show a.val = a.val + 0; omega
    | ⟨3, _⟩ => by show x.val = 0 + x.val; omega
    | ⟨4, _⟩ => by show g.val = 0 + g.val; omega
    | ⟨5, _⟩ => by show e.val = 0 + e.val; omega)

theorem lead (Q : FVec Idealize.ShloMosaic.Ideal S4x2048x2x4x128 .f32) (b : Fin 4) (t : Fin 2048) (x : Fin 2) (g : Fin 4) (e : Fin 128) :
    broadcastInDim S1x4x2048x2x4x128 ![1, 2, 3, 4, 5] bcast_S4x2048x2x4x128_S1x4x2048x2x4x128_1_2_3_4_5 Q (ix6 0 b t x g e) = Q (ix5 b t x g e) :=
  broadcastInDim_apply ![1, 2, 3, 4, 5] bcast_S4x2048x2x4x128_S1x4x2048x2x4x128_1_2_3_4_5 Q (ix6 0 b t x g e) (ix5 b t x g e) (fun z => match z with
    | ⟨0, _⟩ => rfl
    | ⟨1, _⟩ => rfl
    | ⟨2, _⟩ => rfl
    | ⟨3, _⟩ => rfl
    | ⟨4, _⟩ => rfl)

theorem kC_apply (b : Fin 4) (t : Fin 2048) (x : Fin 2) (g : Fin 4) (e : Fin 128) : kC P (ix6 0 b t x g e) = kv P (ix6 b t 0 x g e) :=
  (lead _ b t x g e).trans ((drop_unit _ b t x g e).trans (branch 0 slices_S4x2048x3x2x4x128_S4x2048x1x2x4x128_0_0_0_0_0_0 (kv P) b t x g e))

theorem kS_apply (b : Fin 4) (t : Fin 2048) (x : Fin 2) (g : Fin 4) (e : Fin 128) : kS P (ix6 0 b t x g e) = kv P (ix6 b t 1 x g e) :=
  (lead _ b t x g e).trans ((drop_unit _ b t x g e).trans (branch 1 slices_S4x2048x3x2x4x128_S4x2048x1x2x4x128_0_0_1_0_0_0 (kv P) b t x g e))

theorem kWall_apply (b : Fin 4) (t : Fin 2048) (x : Fin 2) (g : Fin 4) (e : Fin 128) : kWall P (ix5 b t x g e) = kv P (ix6 b t 2 x g e) :=
  (drop_unit _ b t x g e).trans (branch 2 slices_S4x2048x3x2x4x128_S4x2048x1x2x4x128_0_0_2_0_0_0 (kv P) b t x g e)

theorem kW_apply (b : Fin 4) (t : Fin 512) (x : Fin 2) (g : Fin 4) (e : Fin 128) : kW P (ix6 0 b t x g e) = kv P (ix6 b ⟨1536 + t.val, by omega⟩ 2 x g e) := by
  unfold kW
  refine (broadcastInDim_apply ![1, 2, 3, 4, 5] bcast_S4x512x2x4x128_S1x4x512x2x4x128_1_2_3_4_5 _ (ix6 0 b t x g e) (ix5 b t x g e) (fun z => match z with
    | ⟨0, _⟩ => rfl
    | ⟨1, _⟩ => rfl
    | ⟨2, _⟩ => rfl
    | ⟨3, _⟩ => rfl
    | ⟨4, _⟩ => rfl)).trans ?_
  refine (extractStridedSlice_apply ![0, 1536, 0, 0, 0] (kWall P) slices_S4x2048x2x4x128_S4x512x2x4x128_0_1536_0_0_0 (ix5 b t x g e)
    (ix5 b (⟨1536 + t.val, by omega⟩ : Fin 2048) x g e) (fun z => match z with
    | ⟨0, _⟩ => by show b.val = 0 + b.val; omega
    | ⟨1, _⟩ => rfl
    | ⟨2, _⟩ => by show x.val = 0 + x.val; omega
    | ⟨3, _⟩ => by show g.val = 0 + g.val; omega
    | ⟨4, _⟩ => by show e.val = 0 + e.val; omega)).trans ?_
  exact kWall_apply P b _ x g e

theorem kL_apply (b : Fin 4) (j : Fin 6592) : kL P (ix3 0 b j) = P (ix2 ⟨b.val * 2048 + 2047, by omega⟩ ⟨pos (0 + j.val), pos_lt ⟨0 + j.val, by omega⟩⟩) := by
  unfold kL
  refine (broadcastInDim_apply ![1, 2] bcast_S4x6592_S1x4x6592_1_2 _ (ix3 0 b j) (ix2 b j) (fun z => match z with
    | ⟨0, _⟩ => rfl
    | ⟨1, _⟩ => rfl)).trans ?_
  exact (lCat_apply P b j).trans (lastRow_apply P b _)

/-! ## The buffers that hold them -/

variable (m : (ℓ : Loc nD τ sig) → Buf (Elt Idealize.ShloMosaic.Ideal) ℓ) (ρ : Dev nD → PrngReg)

/-- The array of the prompts' projection. -/
abbrev arr : FVec Idealize.ShloMosaic.Ideal S8192x12288 .f32 := fun y => prod1 (V6 m ρ) (y 0) (y 1)

theorem W7_56 : W7 m ρ (0 : Dev nD) (Proc.devRef .tc main_v56) = arr m ρ :=
  (W7_arr m ρ (0 : Dev nD) 2).trans (region_array1 (V6 m ρ))

def kC0 : FVec Idealize.ShloMosaic.Ideal S4x2048x2x4x128 .f32 :=
    (shapeCast S4x2048x2x4x128 (extractStridedSlice S4x2048x1x2x4x128 ![0, 0, 0, 0, 0, 0] (kv P) slices_S4x2048x3x2x4x128_S4x2048x1x2x4x128_0_0_0_0_0_0) shapeCasts_S4x2048x1x2x4x128_S4x2048x2x4x128)
def kS0 : FVec Idealize.ShloMosaic.Ideal S4x2048x2x4x128 .f32 :=
    (shapeCast S4x2048x2x4x128 (extractStridedSlice S4x2048x1x2x4x128 ![0, 0, 1, 0, 0, 0] (kv P) slices_S4x2048x3x2x4x128_S4x2048x1x2x4x128_0_0_1_0_0_0) shapeCasts_S4x2048x1x2x4x128_S4x2048x2x4x128)
def kW0 : FVec Idealize.ShloMosaic.Ideal S4x512x2x4x128 .f32 :=
    (extractStridedSlice S4x512x2x4x128 ![0, 1536, 0, 0, 0] (kWall P) slices_S4x2048x2x4x128_S4x512x2x4x128_0_1536_0_0_0)

theorem stretch2_61 (σ : Valuation τ sig (Elt Idealize.ShloMosaic.Ideal)) : StableHlo.after hostOps2 σ (Proc.devRef .tc main_v61) = kU (σ (Proc.devRef .tc main_v56)) := by
  after_results
  rfl

theorem stretch2_62 (σ : Valuation τ sig (Elt Idealize.ShloMosaic.Ideal)) : StableHlo.after hostOps2 σ (Proc.devRef .tc main_v62) = kQ (σ (Proc.devRef .tc main_v56)) := by
  after_results
  rfl

theorem stretch2_67 (σ : Valuation τ sig (Elt Idealize.ShloMosaic.Ideal)) : StableHlo.after hostOps2 σ (Proc.devRef .tc main_v67) = kG (σ (Proc.devRef .tc main_v56)) := by
  after_results
  rfl

theorem stretch2_79 (σ : Valuation τ sig (Elt Idealize.ShloMosaic.Ideal)) : StableHlo.after hostOps2 σ (Proc.devRef .tc main_v79) = kC0 (σ (Proc.devRef .tc main_v56)) := by
  after_results
  rfl

theorem stretch2_81 (σ : Valuation τ sig (Elt Idealize.ShloMosaic.Ideal)) : StableHlo.after hostOps2 σ (Proc.devRef .tc main_v81) = kS0 (σ (Proc.devRef .tc main_v56)) := by
  after_results
  rfl

theorem stretch2_84 (σ : Valuation τ sig (Elt Idealize.ShloMosaic.Ideal)) : StableHlo.after hostOps2 σ (Proc.devRef .tc main_v84) = kW0 (σ (Proc.devRef .tc main_v56)) := by
  after_results
  rfl

theorem stretch2_75 (σ : Valuation τ sig (Elt Idealize.ShloMosaic.Ideal)) : StableHlo.after hostOps2 σ (Proc.devRef .tc main_v75) = lCat (σ (Proc.devRef .tc main_v56)) := by
  after_results
  rfl

theorem tail_kU : W10 m ρ (0 : Dev nD) (Proc.devRef .tc main_v61) = kU (arr m ρ) := by
  refine (W10_of m ρ (0 : Dev nD) main_v61 (by decide)).trans ((W9_of_ne m ρ (0 : Dev nD) main_v61 (by decide)).trans ((stretch2_61 (W7 m ρ (0 : Dev nD))).trans ?_))
  rw [W7_56]

theorem tail_kQ : W10 m ρ (0 : Dev nD) (Proc.devRef .tc main_v62) = kQ (arr m ρ) := by
  refine (W10_of m ρ (0 : Dev nD) main_v62 (by decide)).trans ((W9_of_ne m ρ (0 : Dev nD) main_v62 (by decide)).trans ((stretch2_62 (W7 m ρ (0 : Dev nD))).trans ?_))
  rw [W7_56]

theorem tail_kG : W10 m ρ (0 : Dev nD) (Proc.devRef .tc main_v67) = kG (arr m ρ) := by
  refine (W10_of m ρ (0 : Dev nD) main_v67 (by decide)).trans ((W9_of_ne m ρ (0 : Dev nD) main_v67 (by decide)).trans ((stretch2_67 (W7 m ρ (0 : Dev nD))).trans ?_))
  rw [W7_56]

theorem stretch3_134 (σ : Valuation τ sig (Elt Idealize.ShloMosaic.Ideal)) : StableHlo.after hostOps3 σ (Proc.devRef .tc main_v134) =
    broadcastInDim S1x4x2048x2x4x128 ![1, 2, 3, 4, 5] bcast_S4x2048x2x4x128_S1x4x2048x2x4x128_1_2_3_4_5 (σ (Proc.devRef .tc main_v79) : FVec Idealize.ShloMosaic.Ideal S4x2048x2x4x128 .f32) := by
  after_results

theorem tail_kC : W10 m ρ (0 : Dev nD) (Proc.devRef .tc main_v134) = kC (arr m ρ) := by
  refine (stretch3_134 (W9 m ρ (0 : Dev nD))).trans ?_
  rw [(W9_of_ne m ρ (0 : Dev nD) main_v79 (by decide)).trans (stretch2_79 (W7 m ρ (0 : Dev nD))), W7_56]
  rfl

theorem stretch3_135 (σ : Valuation τ sig (Elt Idealize.ShloMosaic.Ideal)) : StableHlo.after hostOps3 σ (Proc.devRef .tc main_v135) =
    broadcastInDim S1x4x2048x2x4x128 ![1, 2, 3, 4, 5] bcast_S4x2048x2x4x128_S1x4x2048x2x4x128_1_2_3_4_5 (σ (Proc.devRef .tc main_v81) : FVec Idealize.ShloMosaic.Ideal S4x2048x2x4x128 .f32) := by
  after_results

theorem tail_kS : W10 m ρ (0 : Dev nD) (Proc.devRef .tc main_v135) = kS (arr m ρ) := by
  refine (stretch3_135 (W9 m ρ (0 : Dev nD))).trans ?_
  rw [(W9_of_ne m ρ (0 : Dev nD) main_v81 (by decide)).trans (stretch2_81 (W7 m ρ (0 : Dev nD))), W7_56]
  rfl

theorem stretch3_136 (σ : Valuation τ sig (Elt Idealize.ShloMosaic.Ideal)) : StableHlo.after hostOps3 σ (Proc.devRef .tc main_v136) =
    broadcastInDim S1x4x512x2x4x128 ![1, 2, 3, 4, 5] bcast_S4x512x2x4x128_S1x4x512x2x4x128_1_2_3_4_5 (σ (Proc.devRef .tc main_v84) : FVec Idealize.ShloMosaic.Ideal S4x512x2x4x128 .f32) := by
  after_results

theorem tail_kW : W10 m ρ (0 : Dev nD) (Proc.devRef .tc main_v136) = kW (arr m ρ) := by
  refine (stretch3_136 (W9 m ρ (0 : Dev nD))).trans ?_
  rw [(W9_of_ne m ρ (0 : Dev nD) main_v84 (by decide)).trans (stretch2_84 (W7 m ρ (0 : Dev nD))), W7_56]
  rfl

theorem stretch3_137 (σ : Valuation τ sig (Elt Idealize.ShloMosaic.Ideal)) : StableHlo.after hostOps3 σ (Proc.devRef .tc main_v137) =
    broadcastInDim S1x4x6592 ![1, 2] bcast_S4x6592_S1x4x6592_1_2 (σ (Proc.devRef .tc main_v75) : FVec Idealize.ShloMosaic.Ideal S4x6592 .f32) := by
  after_results

theorem tail_kL : W10 m ρ (0 : Dev nD) (Proc.devRef .tc main_v137) = kL (arr m ρ) := by
  refine (stretch3_137 (W9 m ρ (0 : Dev nD))).trans ?_
  rw [(W9_of_ne m ρ (0 : Dev nD) main_v75 (by decide)).trans (stretch2_75 (W7 m ρ (0 : Dev nD))), W7_56]
  rfl

end Cert.Proof.InProj

end
-- ==== Proof.InProjSamples.lean ====
/- Hand-written: THE PIECES OF THE SAMPLES' IN-PROJECTION, over the extended reals: how the kernel cuts its four results out of the
   padded product, and at which column of it every entry lies (`sC_apply` …). The new window is the old one with its first four
   rows dropped and the samples' four rows put behind it (`shiftIn`). -/
module

public import proofs.«01_k».proof.Proof.InProj
public import Idealize.ShloMosaic.Lib.ValueIdxRank6
public import Idealize.ShloMosaic.Lib.ValueIdx
public import Idealize.ShloMosaic.Lib.Pipeline.Value
public import Idealize.ShloMosaic.Lib.MatmulPlain
public import Idealize.ShloMosaic.Lib.WholeRead
public import Idealize.ShloMosaic.Lib.VecWindow
public import Idealize.ShloMosaic.Lib.Pipeline.ValueKit.Tiles
public import Idealize.ShloMosaic.Lib.Pipeline.ValueKit.Geometry

@[expose] public section

noncomputable section

namespace Cert.Proof.InProj

open Cert.Kernel2Ideal Cert.Kernel2Ideal.Gen
open Idealize.ShloMosaic Idealize.ShloMosaic.TcCoe Idealize.ShloMosaic.ValueIdx Idealize.ShloMosaic.Tactic
open scoped BigOperators

variable (P : FVec Idealize.ShloMosaic.Ideal S128x12288 .f32)

/-! ## What the lines after the region make of the array -/

/-- One row for every sample and position. -/
def sRows : FVec Idealize.ShloMosaic.Ideal S32x4x12288 .f32 := shapeCast S32x4x12288 P shapeCasts_S128x12288_S32x4x12288
/-- The keys and values of the three branches. -/
def skv : FVec Idealize.ShloMosaic.Ideal S32x4x3x2x4x128 .f32 :=
  shapeCast S32x4x3x2x4x128 (extractStridedSlice S32x4x3072 ![0, 0, 8704] (sRows P) slices_S32x4x12288_S32x4x3072_0_0_8704) shapeCasts_S32x4x3072_S32x4x3x2x4x128
def sBrC : FVec Idealize.ShloMosaic.Ideal S32x4x2x4x128 .f32 :=
  shapeCast S32x4x2x4x128 (extractStridedSlice S32x4x1x2x4x128 ![0, 0, 0, 0, 0, 0] (skv P) slices_S32x4x3x2x4x128_S32x4x1x2x4x128_0_0_0_0_0_0) shapeCasts_S32x4x1x2x4x128_S32x4x2x4x128
def sBrS : FVec Idealize.ShloMosaic.Ideal S32x4x2x4x128 .f32 :=
  shapeCast S32x4x2x4x128 (extractStridedSlice S32x4x1x2x4x128 ![0, 0, 1, 0, 0, 0] (skv P) slices_S32x4x3x2x4x128_S32x4x1x2x4x128_0_0_1_0_0_0) shapeCasts_S32x4x1x2x4x128_S32x4x2x4x128
def sBrW : FVec Idealize.ShloMosaic.Ideal S32x4x2x4x128 .f32 :=
  shapeCast S32x4x2x4x128 (extractStridedSlice S32x4x1x2x4x128 ![0, 0, 2, 0, 0, 0] (skv P) slices_S32x4x3x2x4x128_S32x4x1x2x4x128_0_0_2_0_0_0) shapeCasts_S32x4x1x2x4x128_S32x4x2x4x128
/-- A leading axis of length one. -/
def sLead (Q : FVec Idealize.ShloMosaic.Ideal S32x4x2x4x128 .f32) : FVec Idealize.ShloMosaic.Ideal S1x32x4x2x4x128 .f32 := broadcastInDim S1x32x4x2x4x128 ![1, 2, 3, 4, 5] bcast_S32x4x2x4x128_S1x32x4x2x4x128_1_2_3_4_5 Q
/-- The window with its first four rows dropped and four new rows behind it. -/
def shiftIn (st : FVec Idealize.ShloMosaic.Ideal S1x32x512x2x4x128 .f32) (Q : FVec Idealize.ShloMosaic.Ideal S32x4x2x4x128 .f32) : FVec Idealize.ShloMosaic.Ideal S1x32x512x2x4x128 .f32 :=
  broadcastInDim S1x32x512x2x4x128 ![1, 2, 3, 4, 5] bcast_S32x512x2x4x128_S1x32x512x2x4x128_1_2_3_4_5
    (extractStridedSlice S32x512x2x4x128 ![0, 4, 0, 0, 0] (concatenate S32x516x2x4x128 1 [⟨S32x512x2x4x128, shapeCast S32x512x2x4x128 st shapeCasts_S1x32x512x2x4x128_S32x512x2x4x128⟩, ⟨S32x4x2x4x128, Q⟩]
      concatenates_S32x512x2x4x128_S32x4x2x4x128_S32x516x2x4x128_d1) slices_S32x516x2x4x128_S32x512x2x4x128_0_4_0_0_0)
/-- The last row of every sample. -/
def sLast : FVec Idealize.ShloMosaic.Ideal S32x12288 .f32 :=
  shapeCast S32x12288 (extractStridedSlice S32x1x12288 ![0, 3, 0] (sRows P) slices_S32x4x12288_S32x1x12288_0_3_0) shapeCasts_S32x1x12288_S32x12288
def s0 : FVec Idealize.ShloMosaic.Ideal S32x6144 .f32 := extractStridedSlice S32x6144 ![0, 0] (sLast P) slices_S32x12288_S32x6144_0_0
def s1 : FVec Idealize.ShloMosaic.Ideal S32x96 .f32 := extractStridedSlice S32x96 ![0, 6144] (sLast P) slices_S32x12288_S32x96_0_6144
def s2 : FVec Idealize.ShloMosaic.Ideal S32x96 .f32 := extractStridedSlice S32x96 ![0, 6272] (sLast P) slices_S32x12288_S32x96_0_6272
def s3 : FVec Idealize.ShloMosaic.Ideal S32x256 .f32 := extractStridedSlice S32x256 ![0, 6400] (sLast P) slices_S32x12288_S32x256_0_6400
def sCat : FVec Idealize.ShloMosaic.Ideal S32x6592 .f32 :=
  concatenate S32x6592 1 [⟨S32x6144, s0 P⟩, ⟨S32x96, s1 P⟩, ⟨S32x96, s2 P⟩, ⟨S32x256, s3 P⟩] concatenates_S32x6144_S32x96_S32x96_S32x256_S32x6592_d1
def sL : FVec Idealize.ShloMosaic.Ideal S1x32x6592 .f32 := broadcastInDim S1x32x6592 ![1, 2] bcast_S32x6592_S1x32x6592_1_2 (sCat P)

/-! ## The buffers that hold them -/

variable (m : (ℓ : Loc nD τ sig) → Buf (Elt Idealize.ShloMosaic.Ideal) ℓ) (ρ : Dev nD → PrngReg)

/-- The array of the samples' projection. -/
abbrev arrS : FVec Idealize.ShloMosaic.Ideal S128x12288 .f32 := fun y => prod2 (V8 m ρ) (y 0) (y 1)

theorem W9_114 : W9 m ρ (0 : Dev nD) (Proc.devRef .tc main_v114) = arrS m ρ :=
  (W9_arr m ρ (0 : Dev nD) 2).trans (region_array2 (V8 m ρ))

theorem stretch3_138 (σ : Valuation τ sig (Elt Idealize.ShloMosaic.Ideal)) : StableHlo.after hostOps3 σ (Proc.devRef .tc main_v138) = sLead (sBrC (σ (Proc.devRef .tc main_v114))) := by
  after_results
  rfl

theorem tail_sC : W10 m ρ (0 : Dev nD) (Proc.devRef .tc main_v138) = sLead (sBrC (arrS m ρ)) := by
  refine (stretch3_138 (W9 m ρ (0 : Dev nD))).trans ?_
  rw [W9_114]

theorem stretch3_139 (σ : Valuation τ sig (Elt Idealize.ShloMosaic.Ideal)) : StableHlo.after hostOps3 σ (Proc.devRef .tc main_v139) = sLead (sBrS (σ (Proc.devRef .tc main_v114))) := by
  after_results
  rfl

theorem tail_sS : W10 m ρ (0 : Dev nD) (Proc.devRef .tc main_v139) = sLead (sBrS (arrS m ρ)) := by
  refine (stretch3_139 (W9 m ρ (0 : Dev nD))).trans ?_
  rw [W9_114]

theorem stretch3_141 (σ : Valuation τ sig (Elt Idealize.ShloMosaic.Ideal)) : StableHlo.after hostOps3 σ (Proc.devRef .tc main_v141) = sL (σ (Proc.devRef .tc main_v114)) := by
  after_results
  rfl

theorem tail_sL : W10 m ρ (0 : Dev nD) (Proc.devRef .tc main_v141) = sL (arrS m ρ) := by
  refine (stretch3_141 (W9 m ρ (0 : Dev nD))).trans ?_
  rw [W9_114]

theorem stretch3_140 (σ : Valuation τ sig (Elt Idealize.ShloMosaic.Ideal)) : StableHlo.after hostOps3 σ (Proc.devRef .tc main_v140) =
    shiftIn (σ (Proc.devRef .tc main_arg8)) (sBrW (σ (Proc.devRef .tc main_v114))) := by
  after_results
  rfl

theorem tail_sW : W10 m ρ (0 : Dev nD) (Proc.devRef .tc main_v140) = shiftIn (aWin m) (sBrW (arrS m ρ)) := by
  refine (stretch3_140 (W9 m ρ (0 : Dev nD))).trans ?_
  rw [W9_114, W9_args m ρ (0 : Dev nD) main_arg8 (by decide)]

/-! ## Where each entry of a piece lies in the array -/

theorem sRows_apply (b : Fin 32) (t : Fin 4) (p : Fin 12288) : sRows P (ix3 b t p) = P (ix2 ⟨b.val * 4 + t.val, by omega⟩ p) :=
  shapeCast_apply P shapeCasts_S128x12288_S32x4x12288 (ix3 b t p) (ix2 ⟨b.val * 4 + t.val, by omega⟩ p) (by
    rw [Shape.rowMajor_val_three, Shape.rowMajor_val_two]; rfl)

theorem skv_apply (b : Fin 32) (t : Fin 4) (c : Fin 3) (x : Fin 2) (g : Fin 4) (e : Fin 128) :
    skv P (ix6 b t c x g e) = P (ix2 ⟨b.val * 4 + t.val, by omega⟩ ⟨8704 + (((c.val * 2 + x.val) * 4 + g.val) * 128 + e.val), by omega⟩) := by
  unfold skv
  refine (shapeCast_apply _ shapeCasts_S32x4x3072_S32x4x3x2x4x128 (ix6 b t c x g e)
    (ix3 b t (⟨((c.val * 2 + x.val) * 4 + g.val) * 128 + e.val, by omega⟩ : Fin 3072)) (by
    rw [Shape.rowMajor_val_six, Shape.rowMajor_val_three]
    show (b.val * 4 + t.val) * 3072 + (((c.val * 2 + x.val) * 4 + g.val) * 128 + e.val)
      = ((((b.val * 4 + t.val) * 3 + c.val) * 2 + x.val) * 4 + g.val) * 128 + e.val
    omega)).trans ?_
  refine (extractStridedSlice_apply ![0, 0, 8704] (sRows P) slices_S32x4x12288_S32x4x3072_0_0_8704 _
    (ix3 b t (⟨8704 + (((c.val * 2 + x.val) * 4 + g.val) * 128 + e.val), by omega⟩ : Fin 12288)) (fun a => match a with
    | ⟨0, _⟩ => by show b.val = 0 + b.val; omega
    | ⟨1, _⟩ => by show t.val = 0 + t.val; omega
    | ⟨2, _⟩ => rfl)).trans ?_
  exact sRows_apply P b t _

theorem sDrop (Q : FVec Idealize.ShloMosaic.Ideal S32x4x1x2x4x128 .f32) (b : Fin 32) (t : Fin 4) (x : Fin 2) (g : Fin 4) (e : Fin 128) :
    shapeCast S32x4x2x4x128 Q shapeCasts_S32x4x1x2x4x128_S32x4x2x4x128 (ix5 b t x g e) = Q (ix6 b t 0 x g e) :=
  shapeCast_apply Q shapeCasts_S32x4x1x2x4x128_S32x4x2x4x128 (ix5 b t x g e) (ix6 b t (0 : Fin 1) x g e) (by
    rw [Shape.rowMajor_val_six, Shape.rowMajor_val_five]
    show ((((b.val * 4 + t.val) * 1 + 0) * 2 + x.val) * 4 + g.val) * 128 + e.val = (((b.val * 4 + t.val) * 2 + x.val) * 4 + g.val) * 128 + e.val
    omega)

theorem sBranch (a : Fin 3) (h : S32x4x3x2x4x128.Slices ![0, 0, a.val, 0, 0, 0] S32x4x1x2x4x128) (Q : FVec Idealize.ShloMosaic.Ideal S32x4x3x2x4x128 .f32)
    (b : Fin 32) (t : Fin 4) (x : Fin 2) (g : Fin 4) (e : Fin 128) :
    extractStridedSlice S32x4x1x2x4x128 ![0, 0, a.val, 0, 0, 0] Q h (ix6 b t 0 x g e) = Q (ix6 b t a x g e) :=
  extractStridedSlice_apply ![0, 0, a.val, 0, 0, 0] Q h (ix6 b t (0 : Fin 1) x g e) (ix6 b t a x g e) (fun z => match z with
    | ⟨0, _⟩ => by show b.val = 0 + b.val; omega
    | ⟨1, _⟩ => by show t.val = 0 + t.val; omega
    | ⟨2, _⟩ => by show a.val = a.val + 0; omega
    | ⟨3, _⟩ => by show x.val = 0 + x.val; omega
    | ⟨4, _⟩ => by show g.val = 0 + g.val; omega
    | ⟨5, _⟩ => by show e.val = 0 + e.val; omega)

theorem sLast_apply (b : Fin 32) (k : Fin 12288) : sLast P (ix2 b k) = P (ix2 ⟨b.val * 4 + 3, by omega⟩ k) := by
  unfold sLast
  refine (shapeCast_apply _ shapeCasts_S32x1x12288_S32x12288 (ix2 b k) (ix3 b (0 : Fin 1) k) (by
    rw [Shape.rowMajor_val_three, Shape.rowMajor_val_two]; show (b.val * 1 + 0) * 12288 + k.val = b.val * 12288 + k.val; omega)).trans ?_
  refine (extractStridedSlice_apply ![0, 3, 0] _ slices_S32x4x12288_S32x1x12288_0_3_0 (ix3 b (0 : Fin 1) k) (ix3 b (⟨3, by omega⟩ : Fin 4) k)
    (fun a => match a with
    | ⟨0, _⟩ => by show b.val = 0 + b.val; omega
    | ⟨1, _⟩ => rfl
    | ⟨2, _⟩ => by show k.val = 0 + k.val; omega)).trans ?_
  exact sRows_apply P b _ k

theorem s0_apply (i : Fin 32) (k : Fin 6144) : s0 P (ix2 i k) = (sLast P) (ix2 i ⟨0 + k.val, by omega⟩) := by
  unfold s0
  generalize (sLast P) = Q
  exact extractStridedSlice_apply ![0, 0] Q slices_S32x12288_S32x6144_0_0 (ix2 i k) (ix2 i ⟨0 + k.val, by omega⟩) (fun a => match a with
    | ⟨0, _⟩ => by show i.val = 0 + i.val; omega
    | ⟨1, _⟩ => rfl)

theorem s1_apply (i : Fin 32) (k : Fin 96) : s1 P (ix2 i k) = (sLast P) (ix2 i ⟨6144 + k.val, by omega⟩) := by
  unfold s1
  generalize (sLast P) = Q
  exact extractStridedSlice_apply ![0, 6144] Q slices_S32x12288_S32x96_0_6144 (ix2 i k) (ix2 i ⟨6144 + k.val, by omega⟩) (fun a => match a with
    | ⟨0, _⟩ => by show i.val = 0 + i.val; omega
    | ⟨1, _⟩ => rfl)

theorem s2_apply (i : Fin 32) (k : Fin 96) : s2 P (ix2 i k) = (sLast P) (ix2 i ⟨6272 + k.val, by omega⟩) := by
  unfold s2
  generalize (sLast P) = Q
  exact extractStridedSlice_apply ![0, 6272] Q slices_S32x12288_S32x96_0_6272 (ix2 i k) (ix2 i ⟨6272 + k.val, by omega⟩) (fun a => match a with
    | ⟨0, _⟩ => by show i.val = 0 + i.val; omega
    | ⟨1, _⟩ => rfl)

theorem s3_apply (i : Fin 32) (k : Fin 256) : s3 P (ix2 i k) = (sLast P) (ix2 i ⟨6400 + k.val, by omega⟩) := by
  unfold s3
  generalize (sLast P) = Q
  exact extractStridedSlice_apply ![0, 6400] Q slices_S32x12288_S32x256_0_6400 (ix2 i k) (ix2 i ⟨6400 + k.val, by omega⟩) (fun a => match a with
    | ⟨0, _⟩ => by show i.val = 0 + i.val; omega
    | ⟨1, _⟩ => rfl)

theorem sCat_piece0 (i : Fin 32) (k : Fin 6144) : sCat P (ix2 i ⟨0 + k.val, by omega⟩) = (sLast P) (ix2 i ⟨0 + k.val, by omega⟩) := by
  unfold sCat
  refine (concatenate_apply_piece (t := S32x6592) 1 [⟨S32x6144, s0 P⟩, ⟨S32x96, s1 P⟩, ⟨S32x96, s2 P⟩, ⟨S32x256, s3 P⟩]
    concatenates_S32x6144_S32x96_S32x96_S32x256_S32x6592_d1 _ 0 (show 0 < 4 by omega) S32x6144 _ rfl rfl 0 (Eq.trans (b := ([] : List ℕ).sum) rfl (by norm_num)) (ix2 i k) (fun b hb => ?_) ?_).trans (s0_apply P i k)
  · match b with
    | ⟨0, _⟩ => rfl
    | ⟨1, _⟩ => exact absurd rfl hb
  · rfl

theorem sCat_piece1 (i : Fin 32) (k : Fin 96) : sCat P (ix2 i ⟨6144 + k.val, by omega⟩) = (sLast P) (ix2 i ⟨6144 + k.val, by omega⟩) := by
  unfold sCat
  refine (concatenate_apply_piece (t := S32x6592) 1 [⟨S32x6144, s0 P⟩, ⟨S32x96, s1 P⟩, ⟨S32x96, s2 P⟩, ⟨S32x256, s3 P⟩]
    concatenates_S32x6144_S32x96_S32x96_S32x256_S32x6592_d1 _ 1 (show 1 < 4 by omega) S32x96 _ rfl rfl 6144 (Eq.trans (b := ([6144] : List ℕ).sum) rfl (by norm_num)) (ix2 i k) (fun b hb => ?_) ?_).trans (s1_apply P i k)
  · match b with
    | ⟨0, _⟩ => rfl
    | ⟨1, _⟩ => exact absurd rfl hb
  · rfl

theorem sCat_piece2 (i : Fin 32) (k : Fin 96) : sCat P (ix2 i ⟨6240 + k.val, by omega⟩) = (sLast P) (ix2 i ⟨6272 + k.val, by omega⟩) := by
  unfold sCat
  refine (concatenate_apply_piece (t := S32x6592) 1 [⟨S32x6144, s0 P⟩, ⟨S32x96, s1 P⟩, ⟨S32x96, s2 P⟩, ⟨S32x256, s3 P⟩]
    concatenates_S32x6144_S32x96_S32x96_S32x256_S32x6592_d1 _ 2 (show 2 < 4 by omega) S32x96 _ rfl rfl 6240 (Eq.trans (b := ([6144, 96] : List ℕ).sum) rfl (by norm_num)) (ix2 i k) (fun b hb => ?_) ?_).trans (s2_apply P i k)
  · match b with
    | ⟨0, _⟩ => rfl
    | ⟨1, _⟩ => exact absurd rfl hb
  · rfl

theorem sCat_piece3 (i : Fin 32) (k : Fin 256) : sCat P (ix2 i ⟨6336 + k.val, by omega⟩) = (sLast P) (ix2 i ⟨6400 + k.val, by omega⟩) := by
  unfold sCat
  refine (concatenate_apply_piece (t := S32x6592) 1 [⟨S32x6144, s0 P⟩, ⟨S32x96, s1 P⟩, ⟨S32x96, s2 P⟩, ⟨S32x256, s3 P⟩]
    concatenates_S32x6144_S32x96_S32x96_S32x256_S32x6592_d1 _ 3 (show 3 < 4 by omega) S32x256 _ rfl rfl 6336 (Eq.trans (b := ([6144, 96, 96] : List ℕ).sum) rfl (by norm_num)) (ix2 i k) (fun b hb => ?_) ?_).trans (s3_apply P i k)
  · match b with
    | ⟨0, _⟩ => rfl
    | ⟨1, _⟩ => exact absurd rfl hb
  · rfl

theorem sCat_apply (i : Fin 32) (j : Fin 6592) : sCat P (ix2 i j) = (sLast P) (ix2 i ⟨pos (0 + j.val), pos_lt ⟨0 + j.val, by omega⟩⟩) := by
  have hj := j.isLt
  by_cases h0 : j.val < 6144
  · exact (congrArg (fun z => sCat P (ix2 i z)) (Fin.ext (by show j.val = 0 + (j.val - 0); omega))).trans ((sCat_piece0 P i ⟨j.val - 0, by omega⟩).trans
      (congrArg (fun z => (sLast P) (ix2 i z)) (Fin.ext (by show 0 + (j.val - 0) = pos (0 + j.val); unfold pos; split_ifs <;> omega))))
  by_cases h1 : j.val < 6240
  · exact (congrArg (fun z => sCat P (ix2 i z)) (Fin.ext (by show j.val = 6144 + (j.val - 6144); omega))).trans ((sCat_piece1 P i ⟨j.val - 6144, by omega⟩).trans
      (congrArg (fun z => (sLast P) (ix2 i z)) (Fin.ext (by show 6144 + (j.val - 6144) = pos (0 + j.val); unfold pos; split_ifs <;> omega))))
  by_cases h2 : j.val < 6336
  · exact (congrArg (fun z => sCat P (ix2 i z)) (Fin.ext (by show j.val = 6240 + (j.val - 6240); omega))).trans ((sCat_piece2 P i ⟨j.val - 6240, by omega⟩).trans
      (congrArg (fun z => (sLast P) (ix2 i z)) (Fin.ext (by show 6272 + (j.val - 6240) = pos (0 + j.val); unfold pos; split_ifs <;> omega))))
  exact (congrArg (fun z => sCat P (ix2 i z)) (Fin.ext (by show j.val = 6336 + (j.val - 6336); omega))).trans ((sCat_piece3 P i ⟨j.val - 6336, by omega⟩).trans
      (congrArg (fun z => (sLast P) (ix2 i z)) (Fin.ext (by show 6400 + (j.val - 6336) = pos (0 + j.val); unfold pos; split_ifs <;> omega))))

theorem sL_apply (b : Fin 32) (j : Fin 6592) : sL P (ix3 0 b j) = P (ix2 ⟨b.val * 4 + 3, by omega⟩ ⟨pos (0 + j.val), pos_lt ⟨0 + j.val, by omega⟩⟩) := by
  unfold sL
  refine (broadcastInDim_apply ![1, 2] bcast_S32x6592_S1x32x6592_1_2 _ (ix3 0 b j) (ix2 b j) (fun z => match z with
    | ⟨0, _⟩ => rfl
    | ⟨1, _⟩ => rfl)).trans ?_
  exact (sCat_apply P b j).trans (sLast_apply P b _)

end Cert.Proof.InProj

end
-- ==== Proof.InProjRun.lean ====
/- Hand-written: WHAT THE RUN LEAVES. Every buffer of the entry function's ends with what the three regions and the operations
   around them put there: the generated frame's argument, keeping the contents of every buffer and not of the arguments alone. -/
module

public import proofs.«01_k».proof.Proof.Gen.Kernel2Ideal.Frame

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every buffer that outlives the calls ends at the last contents of the fold through the entry function. -/
theorem run_main : θ_run defs (onTc (τ := τ) (main (F := F))) ⟨m, fun _ => 0, ρ⟩ (fun r =>
      ∀ c : Dev nD, ∀ b ∈ Pipeline.ucRefs τ sig, r.2.mem (((c : Thread nD τ)).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

end Cert.Proof.InProj

end
-- ==== Proof.InProjClaims.lean ====
/- Hand-written: THE CLAIMS OF THE IN-PROJECTION. The two programs cut the same two products into the same eleven results: the kernel's
   columns lie in the padded products, the reference's in the plain ones, and `prod1_apply` and `prod2_apply` say that they agree
   column by column. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.InProjTail
public import proofs.«01_k».proof.Proof.InProjSamples
public import Idealize.ShloMosaic.Lib.Claim
public import proofs.«01_k».proof.Proof.InProjRun

@[expose] public section

noncomputable section

namespace Cert.Proof.InProj

open Cert.Reference2Ideal Cert.Reference2Ideal.Gen
open Idealize.ShloMosaic Idealize.ShloMosaic.TcCoe Idealize.ShloMosaic.ValueIdx
open scoped BigOperators

variable (D : FVec Idealize.ShloMosaic.Ideal S4x2048x11760 .f32)

/-! ## The reference's pieces -/

/-- The columns after the recurrence's. -/
def rRest : FVec Idealize.ShloMosaic.Ideal S4x2048x5168 .f32 := extractStridedSlice S4x2048x5168 ![0, 0, 6592] D slices_S4x2048x11760_S4x2048x5168_0_0_6592
def rRec : FVec Idealize.ShloMosaic.Ideal S4x2048x6592 .f32 := extractStridedSlice S4x2048x6592 ![0, 0, 0] D slices_S4x2048x11760_S4x2048x6592_0_0_0
def rU : FVec Idealize.ShloMosaic.Ideal S8192x6592 .f32 := shapeCast S8192x6592 (rRec D) shapeCasts_S4x2048x6592_S8192x6592
def rQ : FVec Idealize.ShloMosaic.Ideal S8192x2048 .f32 :=
  shapeCast S8192x2048 (extractStridedSlice S4x2048x2048 ![0, 0, 0] (rRest D) slices_S4x2048x5168_S4x2048x2048_0_0_0) shapeCasts_S4x2048x2048_S8192x2048
def rG : FVec Idealize.ShloMosaic.Ideal S8192x48 .f32 :=
  shapeCast S8192x48 (extractStridedSlice S4x2048x48 ![0, 0, 5120] (rRest D) slices_S4x2048x5168_S4x2048x48_0_0_5120) shapeCasts_S4x2048x48_S8192x48
def rkv : FVec Idealize.ShloMosaic.Ideal S4x2048x3x2x4x128 .f32 :=
  shapeCast S4x2048x3x2x4x128 (extractStridedSlice S4x2048x3072 ![0, 0, 2048] (rRest D) slices_S4x2048x5168_S4x2048x3072_0_0_2048) shapeCasts_S4x2048x3072_S4x2048x3x2x4x128
def rC : FVec Idealize.ShloMosaic.Ideal S1x4x2048x2x4x128 .f32 :=
  broadcastInDim S1x4x2048x2x4x128 ![1, 2, 3, 4, 5] bcast_S4x2048x2x4x128_S1x4x2048x2x4x128_1_2_3_4_5
    (shapeCast S4x2048x2x4x128 (extractStridedSlice S4x2048x1x2x4x128 ![0, 0, 0, 0, 0, 0] (rkv D) slices_S4x2048x3x2x4x128_S4x2048x1x2x4x128_0_0_0_0_0_0) shapeCasts_S4x2048x1x2x4x128_S4x2048x2x4x128)
def rS : FVec Idealize.ShloMosaic.Ideal S1x4x2048x2x4x128 .f32 :=
  broadcastInDim S1x4x2048x2x4x128 ![1, 2, 3, 4, 5] bcast_S4x2048x2x4x128_S1x4x2048x2x4x128_1_2_3_4_5
    (shapeCast S4x2048x2x4x128 (extractStridedSlice S4x2048x1x2x4x128 ![0, 0, 1, 0, 0, 0] (rkv D) slices_S4x2048x3x2x4x128_S4x2048x1x2x4x128_0_0_1_0_0_0) shapeCasts_S4x2048x1x2x4x128_S4x2048x2x4x128)
def rW : FVec Idealize.ShloMosaic.Ideal S1x4x512x2x4x128 .f32 :=
  broadcastInDim S1x4x512x2x4x128 ![1, 2, 3, 4, 5] bcast_S4x512x2x4x128_S1x4x512x2x4x128_1_2_3_4_5
    (shapeCast S4x512x2x4x128 (extractStridedSlice S4x512x1x2x4x128 ![0, 1536, 2, 0, 0, 0] (rkv D) slices_S4x2048x3x2x4x128_S4x512x1x2x4x128_0_1536_2_0_0_0) shapeCasts_S4x512x1x2x4x128_S4x512x2x4x128)
def rL : FVec Idealize.ShloMosaic.Ideal S1x4x6592 .f32 :=
  broadcastInDim S1x4x6592 ![1, 2] bcast_S4x6592_S1x4x6592_1_2
    (shapeCast S4x6592 (extractStridedSlice S4x1x6592 ![0, 2047, 0] (rRec D) slices_S4x2048x6592_S4x1x6592_0_2047_0) shapeCasts_S4x1x6592_S4x6592)

theorem rRest_apply (b : Fin 4) (t : Fin 2048) (k : Fin 5168) : rRest D (ix3 b t k) = D (ix3 b t ⟨6592 + k.val, by omega⟩) :=
  extractStridedSlice_apply ![0, 0, 6592] D slices_S4x2048x11760_S4x2048x5168_0_0_6592 (ix3 b t k) (ix3 b t (⟨6592 + k.val, by omega⟩ : Fin 11760)) (fun a => match a with
    | ⟨0, _⟩ => by show b.val = 0 + b.val; omega
    | ⟨1, _⟩ => by show t.val = 0 + t.val; omega
    | ⟨2, _⟩ => rfl)

theorem rRec_apply (b : Fin 4) (t : Fin 2048) (k : Fin 6592) : rRec D (ix3 b t k) = D (ix3 b t ⟨0 + k.val, by omega⟩) :=
  extractStridedSlice_apply ![0, 0, 0] D slices_S4x2048x11760_S4x2048x6592_0_0_0 (ix3 b t k) (ix3 b t (⟨0 + k.val, by omega⟩ : Fin 11760)) (fun a => match a with
    | ⟨0, _⟩ => by show b.val = 0 + b.val; omega
    | ⟨1, _⟩ => by show t.val = 0 + t.val; omega
    | ⟨2, _⟩ => rfl)

theorem rU_apply (b : Fin 4) (t : Fin 2048) (k : Fin 6592) : rU D (ix2 ⟨b.val * 2048 + t.val, by omega⟩ k) = D (ix3 b t ⟨0 + k.val, by omega⟩) := by
  unfold rU
  refine (shapeCast_apply _ shapeCasts_S4x2048x6592_S8192x6592 (ix2 (⟨b.val * 2048 + t.val, by omega⟩ : Fin 8192) k) (ix3 b t k) (by
    rw [Shape.rowMajor_val_three, Shape.rowMajor_val_two]; show (b.val * 2048 + t.val) * 6592 + k.val = (b.val * 2048 + t.val) * 6592 + k.val; rfl)).trans ?_
  exact rRec_apply D b t k

theorem rQ_apply (b : Fin 4) (t : Fin 2048) (k : Fin 2048) : rQ D (ix2 ⟨b.val * 2048 + t.val, by omega⟩ k) = D (ix3 b t ⟨6592 + k.val, by omega⟩) := by
  unfold rQ
  refine (shapeCast_apply _ shapeCasts_S4x2048x2048_S8192x2048 (ix2 (⟨b.val * 2048 + t.val, by omega⟩ : Fin 8192) k) (ix3 b t k) (by
    rw [Shape.rowMajor_val_three, Shape.rowMajor_val_two]; show (b.val * 2048 + t.val) * 2048 + k.val = (b.val * 2048 + t.val) * 2048 + k.val; rfl)).trans ?_
  refine (extractStridedSlice_apply ![0, 0, 0] (rRest D) slices_S4x2048x5168_S4x2048x2048_0_0_0 (ix3 b t k) (ix3 b t (⟨0 + k.val, by omega⟩ : Fin 5168)) (fun a => match a with
    | ⟨0, _⟩ => by show b.val = 0 + b.val; omega
    | ⟨1, _⟩ => by show t.val = 0 + t.val; omega
    | ⟨2, _⟩ => rfl)).trans ?_
  exact (rRest_apply D b t _).trans (congrArg (fun z => D (ix3 b t z)) (Fin.ext (by show 6592 + (0 + k.val) = 6592 + k.val; omega)))

theorem rG_apply (b : Fin 4) (t : Fin 2048) (k : Fin 48) : rG D (ix2 ⟨b.val * 2048 + t.val, by omega⟩ k) = D (ix3 b t ⟨11712 + k.val, by omega⟩) := by
  unfold rG
  refine (shapeCast_apply _ shapeCasts_S4x2048x48_S8192x48 (ix2 (⟨b.val * 2048 + t.val, by omega⟩ : Fin 8192) k) (ix3 b t k) (by
    rw [Shape.rowMajor_val_three, Shape.rowMajor_val_two]; show (b.val * 2048 + t.val) * 48 + k.val = (b.val * 2048 + t.val) * 48 + k.val; rfl)).trans ?_
  refine (extractStridedSlice_apply ![0, 0, 5120] (rRest D) slices_S4x2048x5168_S4x2048x48_0_0_5120 (ix3 b t k) (ix3 b t (⟨5120 + k.val, by omega⟩ : Fin 5168)) (fun a => match a with
    | ⟨0, _⟩ => by show b.val = 0 + b.val; omega
    | ⟨1, _⟩ => by show t.val = 0 + t.val; omega
    | ⟨2, _⟩ => rfl)).trans ?_
  exact (rRest_apply D b t _).trans (congrArg (fun z => D (ix3 b t z)) (Fin.ext (by show 6592 + (5120 + k.val) = 11712 + k.val; omega)))

theorem rkv_apply (b : Fin 4) (t : Fin 2048) (c : Fin 3) (x : Fin 2) (g : Fin 4) (e : Fin 128) :
    rkv D (ix6 b t c x g e) = D (ix3 b t ⟨8640 + (((c.val * 2 + x.val) * 4 + g.val) * 128 + e.val), by omega⟩) := by
  unfold rkv
  refine (shapeCast_apply _ shapeCasts_S4x2048x3072_S4x2048x3x2x4x128 (ix6 b t c x g e)
    (ix3 b t (⟨((c.val * 2 + x.val) * 4 + g.val) * 128 + e.val, by omega⟩ : Fin 3072)) (by
    rw [Shape.rowMajor_val_six, Shape.rowMajor_val_three]
    show (b.val * 2048 + t.val) * 3072 + (((c.val * 2 + x.val) * 4 + g.val) * 128 + e.val)
      = ((((b.val * 2048 + t.val) * 3 + c.val) * 2 + x.val) * 4 + g.val) * 128 + e.val
    omega)).trans ?_
  refine (extractStridedSlice_apply ![0, 0, 2048] (rRest D) slices_S4x2048x5168_S4x2048x3072_0_0_2048 _
    (ix3 b t (⟨2048 + (((c.val * 2 + x.val) * 4 + g.val) * 128 + e.val), by omega⟩ : Fin 5168)) (fun a => match a with
    | ⟨0, _⟩ => by show b.val = 0 + b.val; omega
    | ⟨1, _⟩ => by show t.val = 0 + t.val; omega
    | ⟨2, _⟩ => rfl)).trans ?_
  exact (rRest_apply D b t _).trans (congrArg (fun z => D (ix3 b t z)) (Fin.ext (by
    show 6592 + (2048 + (((c.val * 2 + x.val) * 4 + g.val) * 128 + e.val)) = 8640 + (((c.val * 2 + x.val) * 4 + g.val) * 128 + e.val); omega)))

theorem rC_apply (b : Fin 4) (t : Fin 2048) (x : Fin 2) (g : Fin 4) (e : Fin 128) : rC D (ix6 0 b t x g e) = rkv D (ix6 b t 0 x g e) :=
  (lead _ b t x g e).trans ((drop_unit _ b t x g e).trans (branch 0 slices_S4x2048x3x2x4x128_S4x2048x1x2x4x128_0_0_0_0_0_0 (rkv D) b t x g e))

theorem rS_apply (b : Fin 4) (t : Fin 2048) (x : Fin 2) (g : Fin 4) (e : Fin 128) : rS D (ix6 0 b t x g e) = rkv D (ix6 b t 1 x g e) :=
  (lead _ b t x g e).trans ((drop_unit _ b t x g e).trans (branch 1 slices_S4x2048x3x2x4x128_S4x2048x1x2x4x128_0_0_1_0_0_0 (rkv D) b t x g e))

theorem rW_apply (b : Fin 4) (t : Fin 512) (x : Fin 2) (g : Fin 4) (e : Fin 128) : rW D (ix6 0 b t x g e) = rkv D (ix6 b ⟨1536 + t.val, by omega⟩ 2 x g e) := by
  unfold rW
  refine (broadcastInDim_apply ![1, 2, 3, 4, 5] bcast_S4x512x2x4x128_S1x4x512x2x4x128_1_2_3_4_5 _ (ix6 0 b t x g e) (ix5 b t x g e) (fun z => match z with
    | ⟨0, _⟩ => rfl
    | ⟨1, _⟩ => rfl
    | ⟨2, _⟩ => rfl
    | ⟨3, _⟩ => rfl
    | ⟨4, _⟩ => rfl)).trans ?_
  refine (shapeCast_apply _ shapeCasts_S4x512x1x2x4x128_S4x512x2x4x128 (ix5 b t x g e) (ix6 b t (0 : Fin 1) x g e) (by
    rw [Shape.rowMajor_val_six, Shape.rowMajor_val_five]
    show ((((b.val * 512 + t.val) * 1 + 0) * 2 + x.val) * 4 + g.val) * 128 + e.val = (((b.val * 512 + t.val) * 2 + x.val) * 4 + g.val) * 128 + e.val
    omega)).trans ?_
  exact extractStridedSlice_apply ![0, 1536, 2, 0, 0, 0] (rkv D) slices_S4x2048x3x2x4x128_S4x512x1x2x4x128_0_1536_2_0_0_0 (ix6 b t (0 : Fin 1) x g e)
    (ix6 b (⟨1536 + t.val, by omega⟩ : Fin 2048) (2 : Fin 3) x g e) (fun z => match z with
    | ⟨0, _⟩ => by show b.val = 0 + b.val; omega
    | ⟨1, _⟩ => rfl
    | ⟨2, _⟩ => rfl
    | ⟨3, _⟩ => by show x.val = 0 + x.val; omega
    | ⟨4, _⟩ => by show g.val = 0 + g.val; omega
    | ⟨5, _⟩ => by show e.val = 0 + e.val; omega)

theorem rL_apply (b : Fin 4) (j : Fin 6592) : rL D (ix3 0 b j) = D (ix3 b ⟨2047, by omega⟩ ⟨0 + j.val, by omega⟩) := by
  unfold rL
  refine (broadcastInDim_apply ![1, 2] bcast_S4x6592_S1x4x6592_1_2 _ (ix3 0 b j) (ix2 b j) (fun z => match z with
    | ⟨0, _⟩ => rfl
    | ⟨1, _⟩ => rfl)).trans ?_
  refine (shapeCast_apply _ shapeCasts_S4x1x6592_S4x6592 (ix2 b j) (ix3 b (0 : Fin 1) j) (by
    rw [Shape.rowMajor_val_three, Shape.rowMajor_val_two]; show (b.val * 1 + 0) * 6592 + j.val = b.val * 6592 + j.val; omega)).trans ?_
  refine (extractStridedSlice_apply ![0, 2047, 0] (rRec D) slices_S4x2048x6592_S4x1x6592_0_2047_0 (ix3 b (0 : Fin 1) j) (ix3 b (⟨2047, by omega⟩ : Fin 2048) j)
    (fun a => match a with
    | ⟨0, _⟩ => by show b.val = 0 + b.val; omega
    | ⟨1, _⟩ => rfl
    | ⟨2, _⟩ => by show j.val = 0 + j.val; omega)).trans ?_
  exact rRec_apply D b _ j

/-! ## The pieces agree -/

section
variable {D}
variable {P : FVec Idealize.ShloMosaic.Ideal Cert.Kernel2Ideal.S8192x12288 .f32}
  (H : ∀ (b : Fin 4) (t : Fin 2048) (j : Fin 11760) (i : Fin 8192) (p : Fin 12288), i.val = b.val * 2048 + t.val → p.val = pos j.val → P (ix2 i p) = D (ix3 b t j))
include H

theorem kv_eq (b : Fin 4) (t : Fin 2048) (c : Fin 3) (x : Fin 2) (g : Fin 4) (e : Fin 128) : kv P (ix6 b t c x g e) = rkv D (ix6 b t c x g e) :=
  (kv_apply P b t c x g e).trans ((H b t _ _ _ rfl (by
    show 8704 + (((c.val * 2 + x.val) * 4 + g.val) * 128 + e.val) = pos (8640 + (((c.val * 2 + x.val) * 4 + g.val) * 128 + e.val))
    unfold pos; split_ifs <;> omega)).trans (rkv_apply D b t c x g e).symm)

theorem kC_eq : kC P = rC D := by
  funext y
  obtain ⟨a, b, t, x, g, e, rfl⟩ : ∃ a b t x g e, y = ix6 a b t x g e := ⟨y 0, y 1, y 2, y 3, y 4, y 5, eq_ix6 y⟩
  obtain rfl : a = 0 := Subsingleton.elim _ _
  exact (kC_apply P b t x g e).trans ((kv_eq H b t 0 x g e).trans (rC_apply D b t x g e).symm)

theorem kS_eq : kS P = rS D := by
  funext y
  obtain ⟨a, b, t, x, g, e, rfl⟩ : ∃ a b t x g e, y = ix6 a b t x g e := ⟨y 0, y 1, y 2, y 3, y 4, y 5, eq_ix6 y⟩
  obtain rfl : a = 0 := Subsingleton.elim _ _
  exact (kS_apply P b t x g e).trans ((kv_eq H b t 1 x g e).trans (rS_apply D b t x g e).symm)

theorem kW_eq : kW P = rW D := by
  funext y
  obtain ⟨a, b, t, x, g, e, rfl⟩ : ∃ a b t x g e, y = ix6 a b t x g e := ⟨y 0, y 1, y 2, y 3, y 4, y 5, eq_ix6 y⟩
  obtain rfl : a = 0 := Subsingleton.elim _ _
  exact (kW_apply P b t x g e).trans ((kv_eq H b _ 2 x g e).trans (rW_apply D b t x g e).symm)

theorem kL_eq : kL P = rL D := by
  funext y
  obtain ⟨a, b, j, rfl⟩ : ∃ a b j, y = ix3 a b j := ⟨y 0, y 1, y 2, ValueIdx.eq_ix3 y⟩
  obtain rfl : a = 0 := Subsingleton.elim _ _
  exact (kL_apply P b j).trans ((H b ⟨2047, by omega⟩ ⟨0 + j.val, by omega⟩ _ _ rfl rfl).trans (rL_apply D b j).symm)

theorem kU_eq : kU P = rU D := by
  funext y
  obtain ⟨i, k, rfl⟩ : ∃ (i : Fin 8192) (k : Fin 6592), y = ix2 i k := ⟨y 0, y 1, ValueIdx.eq_ix2 y⟩
  obtain ⟨b, t, rfl⟩ : ∃ (b : Fin 4) (t : Fin 2048), i = ⟨b.val * 2048 + t.val, by omega⟩ :=
    ⟨⟨i.val / 2048, by omega⟩, ⟨i.val % 2048, by omega⟩, Fin.ext (by show i.val = i.val / 2048 * 2048 + i.val % 2048; omega)⟩
  exact (kU_apply P _ k).trans ((H b t ⟨0 + k.val, by omega⟩ _ _ rfl rfl).trans (rU_apply D b t k).symm)

theorem kQ_eq : kQ P = rQ D := by
  funext y
  obtain ⟨i, k, rfl⟩ : ∃ (i : Fin 8192) (k : Fin 2048), y = ix2 i k := ⟨y 0, y 1, ValueIdx.eq_ix2 y⟩
  obtain ⟨b, t, rfl⟩ : ∃ (b : Fin 4) (t : Fin 2048), i = ⟨b.val * 2048 + t.val, by omega⟩ :=
    ⟨⟨i.val / 2048, by omega⟩, ⟨i.val % 2048, by omega⟩, Fin.ext (by show i.val = i.val / 2048 * 2048 + i.val % 2048; omega)⟩
  exact (kQ_apply P _ k).trans ((H b t ⟨6592 + k.val, by omega⟩ _ _ rfl (by show 6656 + k.val = pos (6592 + k.val); unfold pos; split_ifs <;> omega)).trans (rQ_apply D b t k).symm)

theorem kG_eq : kG P = rG D := by
  funext y
  obtain ⟨i, k, rfl⟩ : ∃ (i : Fin 8192) (k : Fin 48), y = ix2 i k := ⟨y 0, y 1, ValueIdx.eq_ix2 y⟩
  obtain ⟨b, t, rfl⟩ : ∃ (b : Fin 4) (t : Fin 2048), i = ⟨b.val * 2048 + t.val, by omega⟩ :=
    ⟨⟨i.val / 2048, by omega⟩, ⟨i.val % 2048, by omega⟩, Fin.ext (by show i.val = i.val / 2048 * 2048 + i.val % 2048; omega)⟩
  exact (kG_apply P _ k).trans ((H b t ⟨11712 + k.val, by omega⟩ _ _ rfl rfl).trans (rG_apply D b t k).symm)

end

/-! ## The samples' pieces -/

variable (E : FVec Idealize.ShloMosaic.Ideal S32x4x11760 .f32)

def tRest : FVec Idealize.ShloMosaic.Ideal S32x4x5168 .f32 := extractStridedSlice S32x4x5168 ![0, 0, 6592] E slices_S32x4x11760_S32x4x5168_0_0_6592
def tRec : FVec Idealize.ShloMosaic.Ideal S32x4x6592 .f32 := extractStridedSlice S32x4x6592 ![0, 0, 0] E slices_S32x4x11760_S32x4x6592_0_0_0
def tkv : FVec Idealize.ShloMosaic.Ideal S32x4x3x2x4x128 .f32 :=
  shapeCast S32x4x3x2x4x128 (extractStridedSlice S32x4x3072 ![0, 0, 2048] (tRest E) slices_S32x4x5168_S32x4x3072_0_0_2048) shapeCasts_S32x4x3072_S32x4x3x2x4x128
def tBrC : FVec Idealize.ShloMosaic.Ideal S32x4x2x4x128 .f32 :=
  shapeCast S32x4x2x4x128 (extractStridedSlice S32x4x1x2x4x128 ![0, 0, 0, 0, 0, 0] (tkv E) slices_S32x4x3x2x4x128_S32x4x1x2x4x128_0_0_0_0_0_0) shapeCasts_S32x4x1x2x4x128_S32x4x2x4x128
def tBrS : FVec Idealize.ShloMosaic.Ideal S32x4x2x4x128 .f32 :=
  shapeCast S32x4x2x4x128 (extractStridedSlice S32x4x1x2x4x128 ![0, 0, 1, 0, 0, 0] (tkv E) slices_S32x4x3x2x4x128_S32x4x1x2x4x128_0_0_1_0_0_0) shapeCasts_S32x4x1x2x4x128_S32x4x2x4x128
def tBrW : FVec Idealize.ShloMosaic.Ideal S32x4x2x4x128 .f32 :=
  shapeCast S32x4x2x4x128 (extractStridedSlice S32x4x1x2x4x128 ![0, 0, 2, 0, 0, 0] (tkv E) slices_S32x4x3x2x4x128_S32x4x1x2x4x128_0_0_2_0_0_0) shapeCasts_S32x4x1x2x4x128_S32x4x2x4x128
def tL : FVec Idealize.ShloMosaic.Ideal S1x32x6592 .f32 :=
  broadcastInDim S1x32x6592 ![1, 2] bcast_S32x6592_S1x32x6592_1_2
    (shapeCast S32x6592 (extractStridedSlice S32x1x6592 ![0, 3, 0] (tRec E) slices_S32x4x6592_S32x1x6592_0_3_0) shapeCasts_S32x1x6592_S32x6592)

theorem tRest_apply (b : Fin 32) (t : Fin 4) (k : Fin 5168) : tRest E (ix3 b t k) = E (ix3 b t ⟨6592 + k.val, by omega⟩) :=
  extractStridedSlice_apply ![0, 0, 6592] E slices_S32x4x11760_S32x4x5168_0_0_6592 (ix3 b t k) (ix3 b t (⟨6592 + k.val, by omega⟩ : Fin 11760)) (fun a => match a with
    | ⟨0, _⟩ => by show b.val = 0 + b.val; omega
    | ⟨1, _⟩ => by show t.val = 0 + t.val; omega
    | ⟨2, _⟩ => rfl)

theorem tRec_apply (b : Fin 32) (t : Fin 4) (k : Fin 6592) : tRec E (ix3 b t k) = E (ix3 b t ⟨0 + k.val, by omega⟩) :=
  extractStridedSlice_apply ![0, 0, 0] E slices_S32x4x11760_S32x4x6592_0_0_0 (ix3 b t k) (ix3 b t (⟨0 + k.val, by omega⟩ : Fin 11760)) (fun a => match a with
    | ⟨0, _⟩ => by show b.val = 0 + b.val; omega
    | ⟨1, _⟩ => by show t.val = 0 + t.val; omega
    | ⟨2, _⟩ => rfl)

theorem tkv_apply (b : Fin 32) (t : Fin 4) (c : Fin 3) (x : Fin 2) (g : Fin 4) (e : Fin 128) :
    tkv E (ix6 b t c x g e) = E (ix3 b t ⟨8640 + (((c.val * 2 + x.val) * 4 + g.val) * 128 + e.val), by omega⟩) := by
  unfold tkv
  refine (shapeCast_apply _ shapeCasts_S32x4x3072_S32x4x3x2x4x128 (ix6 b t c x g e)
    (ix3 b t (⟨((c.val * 2 + x.val) * 4 + g.val) * 128 + e.val, by omega⟩ : Fin 3072)) (by
    rw [Shape.rowMajor_val_six, Shape.rowMajor_val_three]
    show (b.val * 4 + t.val) * 3072 + (((c.val * 2 + x.val) * 4 + g.val) * 128 + e.val)
      = ((((b.val * 4 + t.val) * 3 + c.val) * 2 + x.val) * 4 + g.val) * 128 + e.val
    omega)).trans ?_
  refine (extractStridedSlice_apply ![0, 0, 2048] (tRest E) slices_S32x4x5168_S32x4x3072_0_0_2048 _
    (ix3 b t (⟨2048 + (((c.val * 2 + x.val) * 4 + g.val) * 128 + e.val), by omega⟩ : Fin 5168)) (fun a => match a with
    | ⟨0, _⟩ => by show b.val = 0 + b.val; omega
    | ⟨1, _⟩ => by show t.val = 0 + t.val; omega
    | ⟨2, _⟩ => rfl)).trans ?_
  exact (tRest_apply E b t _).trans (congrArg (fun z => E (ix3 b t z)) (Fin.ext (by
    show 6592 + (2048 + (((c.val * 2 + x.val) * 4 + g.val) * 128 + e.val)) = 8640 + (((c.val * 2 + x.val) * 4 + g.val) * 128 + e.val); omega)))

theorem tL_apply (b : Fin 32) (j : Fin 6592) : tL E (ix3 0 b j) = E (ix3 b ⟨3, by omega⟩ ⟨0 + j.val, by omega⟩) := by
  unfold tL
  refine (broadcastInDim_apply ![1, 2] bcast_S32x6592_S1x32x6592_1_2 _ (ix3 0 b j) (ix2 b j) (fun z => match z with
    | ⟨0, _⟩ => rfl
    | ⟨1, _⟩ => rfl)).trans ?_
  refine (shapeCast_apply _ shapeCasts_S32x1x6592_S32x6592 (ix2 b j) (ix3 b (0 : Fin 1) j) (by
    rw [Shape.rowMajor_val_three, Shape.rowMajor_val_two]; show (b.val * 1 + 0) * 6592 + j.val = b.val * 6592 + j.val; omega)).trans ?_
  refine (extractStridedSlice_apply ![0, 3, 0] (tRec E) slices_S32x4x6592_S32x1x6592_0_3_0 (ix3 b (0 : Fin 1) j) (ix3 b (⟨3, by omega⟩ : Fin 4) j)
    (fun a => match a with
    | ⟨0, _⟩ => by show b.val = 0 + b.val; omega
    | ⟨1, _⟩ => rfl
    | ⟨2, _⟩ => by show j.val = 0 + j.val; omega)).trans ?_
  exact tRec_apply E b _ j

section
variable {E}
variable {P : FVec Idealize.ShloMosaic.Ideal Cert.Kernel2Ideal.S128x12288 .f32}
  (H : ∀ (b : Fin 32) (t : Fin 4) (j : Fin 11760) (i : Fin 128) (p : Fin 12288), i.val = b.val * 4 + t.val → p.val = pos j.val → P (ix2 i p) = E (ix3 b t j))
include H

theorem skv_eq (b : Fin 32) (t : Fin 4) (c : Fin 3) (x : Fin 2) (g : Fin 4) (e : Fin 128) : skv P (ix6 b t c x g e) = tkv E (ix6 b t c x g e) :=
  (skv_apply P b t c x g e).trans ((H b t _ _ _ rfl (by
    show 8704 + (((c.val * 2 + x.val) * 4 + g.val) * 128 + e.val) = pos (8640 + (((c.val * 2 + x.val) * 4 + g.val) * 128 + e.val))
    unfold pos; split_ifs <;> omega)).trans (tkv_apply E b t c x g e).symm)

theorem sBrC_eq : sBrC P = tBrC E := by
  funext y
  obtain ⟨b, t, x, g, e, rfl⟩ : ∃ b t x g e, y = ix5 b t x g e := ⟨y 0, y 1, y 2, y 3, y 4, ValueIdx.eq_ix5 y⟩
  exact ((sDrop _ b t x g e).trans (sBranch 0 slices_S32x4x3x2x4x128_S32x4x1x2x4x128_0_0_0_0_0_0 (skv P) b t x g e)).trans ((skv_eq H b t 0 x g e).trans
    ((sDrop _ b t x g e).trans (sBranch 0 slices_S32x4x3x2x4x128_S32x4x1x2x4x128_0_0_0_0_0_0 (tkv E) b t x g e)).symm)

theorem sBrS_eq : sBrS P = tBrS E := by
  funext y
  obtain ⟨b, t, x, g, e, rfl⟩ : ∃ b t x g e, y = ix5 b t x g e := ⟨y 0, y 1, y 2, y 3, y 4, ValueIdx.eq_ix5 y⟩
  exact ((sDrop _ b t x g e).trans (sBranch 1 slices_S32x4x3x2x4x128_S32x4x1x2x4x128_0_0_1_0_0_0 (skv P) b t x g e)).trans ((skv_eq H b t 1 x g e).trans
    ((sDrop _ b t x g e).trans (sBranch 1 slices_S32x4x3x2x4x128_S32x4x1x2x4x128_0_0_1_0_0_0 (tkv E) b t x g e)).symm)

theorem sBrW_eq : sBrW P = tBrW E := by
  funext y
  obtain ⟨b, t, x, g, e, rfl⟩ : ∃ b t x g e, y = ix5 b t x g e := ⟨y 0, y 1, y 2, y 3, y 4, ValueIdx.eq_ix5 y⟩
  exact ((sDrop _ b t x g e).trans (sBranch 2 slices_S32x4x3x2x4x128_S32x4x1x2x4x128_0_0_2_0_0_0 (skv P) b t x g e)).trans ((skv_eq H b t 2 x g e).trans
    ((sDrop _ b t x g e).trans (sBranch 2 slices_S32x4x3x2x4x128_S32x4x1x2x4x128_0_0_2_0_0_0 (tkv E) b t x g e)).symm)

theorem sL_eq : sL P = tL E := by
  funext y
  obtain ⟨a, b, j, rfl⟩ : ∃ a b j, y = ix3 a b j := ⟨y 0, y 1, y 2, ValueIdx.eq_ix3 y⟩
  obtain rfl : a = 0 := Subsingleton.elim _ _
  exact (sL_apply P b j).trans ((H b ⟨3, by omega⟩ ⟨0 + j.val, by omega⟩ _ _ rfl rfl).trans (tL_apply E b j).symm)

end

/-! ## The claims -/

variable (m : (ℓ : Loc Cert.Kernel2Ideal.nD Cert.Kernel2Ideal.τ Cert.Kernel2Ideal.sig) → Buf (Elt Idealize.ShloMosaic.Ideal) ℓ)

/-- The kernel over the extended reals runs, keeps its arguments and ends with every counter at zero. -/
theorem frame_ideal : Cert.quiescent_Kernel2Ideal := fun m g _ => Cert.Kernel2Ideal.Gen.frame m g

/-- The same over the floating-point formats. -/
theorem frame_bits : Cert.quiescent_Kernel2 := fun m g _ => Cert.Kernel2.Gen.frame m g

/-- The eleven results of the kernel and of the reference are the same functions of the arguments. -/
theorem algebraic : Cert.algebraic_Kernel2Ideal_Reference2Ideal := by
  intro m g m' g' hpre hagree
  refine ⟨fun _ => rU (rProd m), fun _ => rQ (rProd m), fun _ => rG (rProd m), fun _ => rC (rProd m), fun _ => rS (rProd m), fun _ => rW (rProd m), fun _ => rL (rProd m),
    fun _ => sLead (tBrC (rProdS m)), fun _ => sLead (tBrS (rProdS m)), fun _ => shiftIn (aWin m) (tBrW (rProdS m)), fun _ => tL (rProdS m), ?_, ?_⟩
  · refine (θ_run Cert.Kernel2Ideal.defs _ _).mono (fun r h c => ?_)
      (θ_run_and (run_main m g) (Cert.Kernel2Ideal.Gen.unchanged m g))
    obtain rfl : c = 0 := Subsingleton.elim _ _
    have hr := h.1 0
    have H := prod1_apply m g
    have HS := prod2_apply m g
    have e61 := (hr _ (Cert.Kernel2Ideal.Gen.mem_uc Cert.Kernel2Ideal.main_v61 (by decide))).trans ((tail_kU m g).trans (kU_eq H))
    have e62 := (hr _ (Cert.Kernel2Ideal.Gen.mem_uc Cert.Kernel2Ideal.main_v62 (by decide))).trans ((tail_kQ m g).trans (kQ_eq H))
    have e67 := (hr _ (Cert.Kernel2Ideal.Gen.mem_uc Cert.Kernel2Ideal.main_v67 (by decide))).trans ((tail_kG m g).trans (kG_eq H))
    have e134 := (hr _ (Cert.Kernel2Ideal.Gen.mem_uc Cert.Kernel2Ideal.main_v134 (by decide))).trans ((tail_kC m g).trans (kC_eq H))
    have e135 := (hr _ (Cert.Kernel2Ideal.Gen.mem_uc Cert.Kernel2Ideal.main_v135 (by decide))).trans ((tail_kS m g).trans (kS_eq H))
    have e136 := (hr _ (Cert.Kernel2Ideal.Gen.mem_uc Cert.Kernel2Ideal.main_v136 (by decide))).trans ((tail_kW m g).trans (kW_eq H))
    have e137 := (hr _ (Cert.Kernel2Ideal.Gen.mem_uc Cert.Kernel2Ideal.main_v137 (by decide))).trans ((tail_kL m g).trans (kL_eq H))
    have e138 := (hr _ (Cert.Kernel2Ideal.Gen.mem_uc Cert.Kernel2Ideal.main_v138 (by decide))).trans ((tail_sC m g).trans (congrArg sLead (sBrC_eq HS)))
    have e139 := (hr _ (Cert.Kernel2Ideal.Gen.mem_uc Cert.Kernel2Ideal.main_v139 (by decide))).trans ((tail_sS m g).trans (congrArg sLead (sBrS_eq HS)))
    have e140 := (hr _ (Cert.Kernel2Ideal.Gen.mem_uc Cert.Kernel2Ideal.main_v140 (by decide))).trans ((tail_sW m g).trans (congrArg (shiftIn (aWin m)) (sBrW_eq HS)))
    have e141 := (hr _ (Cert.Kernel2Ideal.Gen.mem_uc Cert.Kernel2Ideal.main_v141 (by decide))).trans ((tail_sL m g).trans (sL_eq HS))
    exact ⟨e61, e62, e67, e134, e135, e136, e137, e138, e139, e140, e141, h.2 0⟩
  · refine (θ_run Cert.Reference2Ideal.defs _ _).mono (fun r h c => ?_) (Cert.Reference2Ideal.Value.run m' g')
    obtain rfl : c = 0 := Subsingleton.elim _ _
    obtain ⟨h0, h1, h2, h3, h4, h5, h6, h7, h8⟩ := hagree 0
    obtain ⟨r0, r1, r2, r3, r4, r5, r6, r7, r8, r9, r10, hargs⟩ := h 0
    have hD := congr (congr (congr (congr (congr (congrArg (Cert.Reference2Ideal.Read.val_main_v34 (F := Idealize.ShloMosaic.Ideal)) h0) h2) h4) h5) h6) h7
    have hE := congr (congr (congr (congr (congr (congrArg (Cert.Reference2Ideal.Read.val_main_v90 (F := Idealize.ShloMosaic.Ideal)) h1) h3) h4) h5) h6) h7
    have e0 := r0.trans ((Cert.Reference2Ideal.Read.val_main_v41_eq _ _ _ _ _ _).trans (congrArg rU hD))
    have e1 := r1.trans ((Cert.Reference2Ideal.Read.val_main_v42_eq _ _ _ _ _ _).trans (congrArg rQ hD))
    have e2 := r2.trans ((Cert.Reference2Ideal.Read.val_main_v43_eq _ _ _ _ _ _).trans (congrArg rG hD))
    have e3 := r3.trans ((Cert.Reference2Ideal.Read.val_main_v46_eq _ _ _ _ _ _).trans (congrArg rC hD))
    have e4 := r4.trans ((Cert.Reference2Ideal.Read.val_main_v49_eq _ _ _ _ _ _).trans (congrArg rS hD))
    have e5 := r5.trans ((Cert.Reference2Ideal.Read.val_main_v52_eq _ _ _ _ _ _).trans (congrArg rW hD))
    have e6 := r6.trans ((Cert.Reference2Ideal.Read.val_main_v55_eq _ _ _ _ _ _).trans (congrArg rL hD))
    have e7 := r7.trans ((Cert.Reference2Ideal.Read.val_main_v102_eq _ _ _ _ _ _).trans (congrArg (fun z => sLead (tBrC z)) hE))
    have e8 := r8.trans ((Cert.Reference2Ideal.Read.val_main_v105_eq _ _ _ _ _ _).trans (congrArg (fun z => sLead (tBrS z)) hE))
    have e9 := r9.trans ((Cert.Reference2Ideal.Read.val_main_v106_eq _ _ _ _ _ _ _).trans (congrArg₂ (fun w z => shiftIn w (tBrW z)) h8 hE))
    have e10 := r10.trans ((Cert.Reference2Ideal.Read.val_main_v109_eq _ _ _ _ _ _).trans (congrArg tL hE))
    exact ⟨e0, e1, e2, e3, e4, e5, e6, e7, e8, e9, e10, hargs⟩

end Cert.Proof.InProj

end
-- ==== Proof.OutProjRun.lean ====
/- Hand-written: WHAT THE RUN LEAVES. Every buffer of the entry function's ends with what the two regions and the operations
   around them put there: the generated frame's argument, keeping the contents of every buffer and not of the arguments alone. -/
module

public import proofs.«01_k».proof.Proof.Gen.Kernel3Ideal.Frame

@[expose] public section

set_option maxRecDepth 16384

noncomputable section

namespace Cert.Proof.OutProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every buffer that outlives the calls ends at the last contents of the fold through the entry function. -/
theorem run_main : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Proof.OutProj

end
-- ==== Proof.OutProjRegions.lean ====
/- Hand-written: THE TWO REGIONS of the output projection, over the extended reals. Each leaves in its result's array the product of
   its two operands as it finds them: the prompts' (8192 rows by 4096 columns) and the samples' (128 by 4096), each a sum over the
   4096 columns of the left operand; the weights are cast inside the body. -/
module

public import proofs.«01_k».proof.Proof.Gen.Kernel3Ideal.Frame
public import Idealize.ShloMosaic.Lib.ValueIdx
public import Idealize.ShloMosaic.Lib.Pipeline.Value
public import Idealize.ShloMosaic.Lib.MatmulPlain
public import Idealize.ShloMosaic.Lib.WholeRead
public import Idealize.ShloMosaic.Lib.VecWindow
public import Idealize.ShloMosaic.Lib.Pipeline.ValueKit.Tiles
public import Idealize.ShloMosaic.Lib.Pipeline.ValueKit.Geometry

@[expose] public section

noncomputable section

namespace Cert.Proof.OutProj

open Cert.Kernel3Ideal Cert.Kernel3Ideal.Gen
open Idealize.ShloMosaic Idealize.ShloMosaic.TcCoe Idealize.ShloMosaic.ValueIdx Idealize.ShloMosaic.Tactic
open scoped BigOperators

variable (V : (c : Dev nD) → (b : Ref sig .tc) → Buf (Elt Idealize.ShloMosaic.Ideal) ((c : Thread nD τ).loc b))

/-! ## Region 0: 8192 rows by 4096 columns, blocks of 1024 by 512 -/

/-- The body's product at an entry. -/
theorem body_apply0 (x0 : FVec Idealize.ShloMosaic.Ideal S1024x4096 .bf16) (x1 : FVec Idealize.ShloMosaic.Ideal S4096x512 .f32) (i : Fin 1024) (j : Fin 512) :
    k0_pay1 (F := Idealize.ShloMosaic.Ideal) x0 x1 (ix2 i j) = ∑ k : Fin 4096, x0 (ix2 i k) * x1 (ix2 k j) := by
  unfold k0_pay1
  refine (Ideal.matmul_plain_apply (M := 1024) (K := 4096) (N := 512) none _ _ _ _ _).trans ?_
  refine (congrArg (fun z : EReal => z + _) (Ideal.ofBits_zero_f32)).trans ((zero_add _).trans (Finset.sum_congr rfl fun k _ => ?_))
  have el : ∀ y : S1024x4096.Idx, shapeCast S1024x4096 x0 shapeCasts_S1024x4096_S1024x4096 y = x0 y := fun y => shapeCast_apply _ _ _ _ rfl
  have er : ∀ y : S4096x512.Idx, truncf .bf16 (shapeCast S4096x512 x1 shapeCasts_S4096x512_S4096x512) bitsLt_bf16_f32 y = x1 y := fun y => (shapeCast_apply x1 shapeCasts_S4096x512_S4096x512 y y rfl)
  exact congrArg₂ (· * ·) (el _) (er _)

/-- What the body leaves in the result's buffer. -/
theorem out_apply0 (x0 : FVec Idealize.ShloMosaic.Ideal S1024x4096 .bf16) (x1 : FVec Idealize.ShloMosaic.Ideal S4096x512 .f32) (i : Fin 1024) (j : Fin 512) :
    out0_2 (F := Idealize.ShloMosaic.Ideal) x0 x1 (ix2 i j) = ∑ k : Fin 4096, x0 (ix2 i k) * x1 (ix2 k j) := by
  unfold out0_2
  have h := fun pay => View.canon_cons_emb (Val := Elt Idealize.ShloMosaic.Ideal) (e := .f32) r0_2 pay [] (ix2 i j)
  have e2 : r0_2.emb (ix2 i j) = ix2 i j := Rect.emb_unit_full (s := S1024x512) _ _
  rw [e2] at h
  refine (h _).trans ?_
  have e0 : View.ld (Val := Elt Idealize.ShloMosaic.Ideal) (e' := .bf16) (S := S1024x4096) x0 r0_0 = x0 := funext fun y => congrArg x0 (Rect.emb_unit_full (s := S1024x4096) _ y)
  have e1 : View.ld (Val := Elt Idealize.ShloMosaic.Ideal) (e' := .f32) (S := S4096x512) x1 r0_1 = x1 := funext fun y => congrArg x1 (Rect.emb_unit_full (s := S4096x512) _ y)
  rw [e0, e1]
  exact body_apply0 x0 x1 i j

theorem transform0_0 (i : grid0.Coords) : cc0_transform_0 i = ![(i 0).val, 0] := by
  have h0 : (i 0).val < 8 := (i 0).isLt
  have h1 : (i 1).val < 8 := (i 1).isLt
  unfold cc0_transform_0
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, 0] = _
  rw [e0]

theorem transform0_1 (i : grid0.Coords) : cc0_transform_1 i = ![0, (i 1).val] := by
  have h0 : (i 0).val < 8 := (i 0).isLt
  have h1 : (i 1).val < 8 := (i 1).isLt
  unfold cc0_transform_1
  have e0 : (BitVec.ofNat 32 (i 0).val).toNat = (i 0).val := by rw [BitVec.toNat_ofNat]; omega
  have e1 : (BitVec.ofNat 32 (i 1).val).toNat = (i 1).val := by rw [BitVec.toNat_ofNat]; omega
  show ![0, (BitVec.ofNat 32 (i 1).val).toNat] = _
  rw [e1]

theorem transform0_2 (i : grid0.Coords) : cc0_transform_2 i = ![(i 0).val, (i 1).val] := by
  have h0 : (i 0).val < 8 := (i 0).isLt
  have h1 : (i 1).val < 8 := (i 1).isLt
  unfold cc0_transform_2
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat] = _
  rw [e0, e1]

/-- Region 0's operands. -/
def lhs0 : S8192x4096.Idx → EReal := V (0 : Dev nD) main_v17
def rhs0 : S4096x4096.Idx → EReal := V (0 : Dev nD) main_v1

/-- The product region 0 computes. -/
def prod0 (i : Fin 8192) (j : Fin 4096) : EReal := ∑ k : Fin 4096, lhs0 V (ix2 i k) * rhs0 V (ix2 k j)

theorem row_lt0 (t : Fin cfg0.N) (i : Fin 1024) : (grid0.coords t 0).val * 1024 + i.val < 8192 := by
  have h : (grid0.coords t 0).val < 8 := (grid0.coords t 0).isLt
  omega

theorem col_lt0 (t : Fin cfg0.N) (j : Fin 512) : (grid0.coords t 1).val * 512 + j.val < 4096 := by
  have h : (grid0.coords t 1).val < 8 := (grid0.coords t 1).isLt
  omega

theorem left_block0 (t : Fin cfg0.N) (i : Fin 1024) (k : Fin 4096) :
    (iblk0 V (0 : Dev nD) 0 t : FVec Idealize.ShloMosaic.Ideal S1024x4096 .bf16) (ix2 i k)
      = (V (0 : Dev nD) main_v17 : FVec Idealize.ShloMosaic.Ideal S8192x4096 .bf16) (ix2 ⟨(grid0.coords t 0).val * 1024 + i.val, row_lt0 t i⟩ k) := by
  have ht := transform0_0 (grid0.coords t)
  show V (0 : Dev nD) main_v17 (((cfg0.win 0).blk t).view.emb (ix2 i k)) = _
  refine congrArg (V (0 : Dev nD) main_v17) (funext fun (x : Fin 2) => Fin.ext ?_)
  match x with
  | ⟨0, _⟩ => show cc0_transform_0 (grid0.coords t) (0 : Fin 2) * 1024 + 1 * i.val = (grid0.coords t 0).val * 1024 + i.val; rw [ht]; show (grid0.coords t 0).val * 1024 + 1 * i.val = _; omega
  | ⟨1, _⟩ => show cc0_transform_0 (grid0.coords t) (1 : Fin 2) * 4096 + 1 * k.val = k.val; rw [ht]; show 0 * 4096 + 1 * k.val = k.val; omega

theorem right_block0 (t : Fin cfg0.N) (k : Fin 4096) (j : Fin 512) :
    (iblk0 V (0 : Dev nD) 1 t : FVec Idealize.ShloMosaic.Ideal S4096x512 .f32) (ix2 k j)
      = (V (0 : Dev nD) main_v1 : FVec Idealize.ShloMosaic.Ideal S4096x4096 .f32) (ix2 k ⟨(grid0.coords t 1).val * 512 + j.val, col_lt0 t j⟩) := by
  have ht := transform0_1 (grid0.coords t)
  show V (0 : Dev nD) main_v1 (((cfg0.win 1).blk t).view.emb (ix2 k j)) = _
  refine congrArg (V (0 : Dev nD) main_v1) (funext fun (x : Fin 2) => Fin.ext ?_)
  match x with
  | ⟨0, _⟩ => show cc0_transform_1 (grid0.coords t) (0 : Fin 2) * 4096 + 1 * k.val = k.val; rw [ht]; show 0 * 4096 + 1 * k.val = k.val; omega
  | ⟨1, _⟩ => show cc0_transform_1 (grid0.coords t) (1 : Fin 2) * 512 + 1 * j.val = (grid0.coords t 1).val * 512 + j.val; rw [ht]; show (grid0.coords t 1).val * 512 + 1 * j.val = _; omega

theorem out_emb0 (t : Fin cfg0.N) (y : S1024x512.Idx) :
    (((cfg0.win 2).blk t).view.emb y : S8192x4096.Idx) = ix2 ⟨(grid0.coords t 0).val * 1024 + (y 0).val, row_lt0 t (y 0)⟩ ⟨(grid0.coords t 1).val * 512 + (y 1).val, col_lt0 t (y 1)⟩ := by
  have ht := transform0_2 (grid0.coords t)
  refine funext fun (a : Fin 2) => Fin.ext ?_
  match a with
  | ⟨0, _⟩ => show cc0_transform_2 (grid0.coords t) (0 : Fin 2) * 1024 + 1 * (y 0).val = (grid0.coords t 0).val * 1024 + (y 0).val; rw [ht]; show (grid0.coords t 0).val * 1024 + 1 * (y 0).val = _; omega
  | ⟨1, _⟩ => show cc0_transform_2 (grid0.coords t) (1 : Fin 2) * 512 + 1 * (y 1).val = (grid0.coords t 1).val * 512 + (y 1).val; rw [ht]; show (grid0.coords t 1).val * 512 + 1 * (y 1).val = _; omega

theorem point_of0 : ∀ (b : Fin 8) (g : Fin 8), ∃ t : Fin grid0.N, (grid0.coords t 0).val = b.val ∧ (grid0.coords t 1).val = g.val := by
  decide +kernel

/-- The array region 0 leaves is the product of its two operands. -/
theorem region_array0 :
    (dat0 V (0 : Dev nD)).arrAt 2 cfg0.N = ((fun y : S8192x4096.Idx => prod0 V (y 0) (y 1)) : FVec Idealize.ShloMosaic.Ideal S8192x4096 .f32) := by
  refine (dat0 V (0 : Dev nD)).arrAt_eq_of_emb 2 _ (fun t _ y => ?_) fun i => ?_
  · refine (show _ = (dat0 V (0 : Dev nD)).after 2 t y from rfl).trans ?_
    rw [after0_2]
    refine (congrArg (out0_2 (F := Idealize.ShloMosaic.Ideal) (iblk0 V (0 : Dev nD) 0 t) (iblk0 V (0 : Dev nD) 1 t)) (eq_ix2 (y : S1024x512.Idx))).trans ?_
    refine (out_apply0 _ _ _ _).trans ?_
    refine Eq.trans ?_ (congrArg (fun y : S8192x4096.Idx => prod0 V (y 0) (y 1)) (out_emb0 t y)).symm
    exact Finset.sum_congr rfl fun k _ => congrArg₂ (fun a b : EReal => a * b) (left_block0 V t _ k) (right_block0 V t k _)
  · obtain ⟨t, h0, h1⟩ := point_of0 ⟨(i (0 : Fin 2)).val / 1024, by have h : (i (0 : Fin 2)).val < 8192 := (i (0 : Fin 2)).isLt; omega⟩
      ⟨(i (1 : Fin 2)).val / 512, by have h : (i (1 : Fin 2)).val < 4096 := (i (1 : Fin 2)).isLt; omega⟩
    refine ⟨t, flush0_2 t, ?_⟩
    have e : (((cfg0.win 2).blk t).view.emb (ix2 ⟨(i (0 : Fin 2)).val % 1024, by omega⟩ ⟨(i (1 : Fin 2)).val % 512, by omega⟩ : S1024x512.Idx) : S8192x4096.Idx) = i := by
      rw [out_emb0]
      refine funext fun (a : Fin 2) => Fin.ext ?_
      match a with
      | ⟨0, _⟩ => show (grid0.coords t 0).val * 1024 + (i (0 : Fin 2)).val % 1024 = (i (0 : Fin 2)).val; rw [h0]; show (i (0 : Fin 2)).val / 1024 * 1024 + (i (0 : Fin 2)).val % 1024 = (i (0 : Fin 2)).val; omega
      | ⟨1, _⟩ => show (grid0.coords t 1).val * 512 + (i (1 : Fin 2)).val % 512 = (i (1 : Fin 2)).val; rw [h1]; show (i (1 : Fin 2)).val / 512 * 512 + (i (1 : Fin 2)).val % 512 = (i (1 : Fin 2)).val; omega
    rw [← e]
    exact View.emb_mem_set _ _

/-! ## Region 1: 128 rows by 4096 columns, blocks of 128 by 512 -/

/-- The body's product at an entry. -/
theorem body_apply1 (x0 : FVec Idealize.ShloMosaic.Ideal S128x4096 .bf16) (x1 : FVec Idealize.ShloMosaic.Ideal S4096x512 .f32) (i : Fin 128) (j : Fin 512) :
    k1_pay1 (F := Idealize.ShloMosaic.Ideal) x0 x1 (ix2 i j) = ∑ k : Fin 4096, x0 (ix2 i k) * x1 (ix2 k j) := by
  unfold k1_pay1
  refine (Ideal.matmul_plain_apply (M := 128) (K := 4096) (N := 512) none _ _ _ _ _).trans ?_
  refine (congrArg (fun z : EReal => z + _) (Ideal.ofBits_zero_f32)).trans ((zero_add _).trans (Finset.sum_congr rfl fun k _ => ?_))
  have el : ∀ y : S128x4096.Idx, shapeCast S128x4096 x0 shapeCasts_S128x4096_S128x4096 y = x0 y := fun y => shapeCast_apply _ _ _ _ rfl
  have er : ∀ y : S4096x512.Idx, truncf .bf16 (shapeCast S4096x512 x1 shapeCasts_S4096x512_S4096x512) bitsLt_bf16_f32 y = x1 y := fun y => (shapeCast_apply x1 shapeCasts_S4096x512_S4096x512 y y rfl)
  exact congrArg₂ (· * ·) (el _) (er _)

/-- What the body leaves in the result's buffer. -/
theorem out_apply1 (x0 : FVec Idealize.ShloMosaic.Ideal S128x4096 .bf16) (x1 : FVec Idealize.ShloMosaic.Ideal S4096x512 .f32) (i : Fin 128) (j : Fin 512) :
    out1_2 (F := Idealize.ShloMosaic.Ideal) x0 x1 (ix2 i j) = ∑ k : Fin 4096, x0 (ix2 i k) * x1 (ix2 k j) := by
  unfold out1_2
  have h := fun pay => View.canon_cons_emb (Val := Elt Idealize.ShloMosaic.Ideal) (e := .f32) r1_2 pay [] (ix2 i j)
  have e2 : r1_2.emb (ix2 i j) = ix2 i j := Rect.emb_unit_full (s := S128x512) _ _
  rw [e2] at h
  refine (h _).trans ?_
  have e0 : View.ld (Val := Elt Idealize.ShloMosaic.Ideal) (e' := .bf16) (S := S128x4096) x0 r1_0 = x0 := funext fun y => congrArg x0 (Rect.emb_unit_full (s := S128x4096) _ y)
  have e1 : View.ld (Val := Elt Idealize.ShloMosaic.Ideal) (e' := .f32) (S := S4096x512) x1 r1_1 = x1 := funext fun y => congrArg x1 (Rect.emb_unit_full (s := S4096x512) _ y)
  rw [e0, e1]
  exact body_apply1 x0 x1 i j

theorem transform1_0 (i : grid1.Coords) : cc1_transform_0 i = ![(i 0).val, 0] := by
  have h0 : (i 0).val < 1 := (i 0).isLt
  have h1 : (i 1).val < 8 := (i 1).isLt
  unfold cc1_transform_0
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, 0] = _
  rw [e0]

theorem transform1_1 (i : grid1.Coords) : cc1_transform_1 i = ![0, (i 1).val] := by
  have h0 : (i 0).val < 1 := (i 0).isLt
  have h1 : (i 1).val < 8 := (i 1).isLt
  unfold cc1_transform_1
  have e0 : (BitVec.ofNat 32 (i 0).val).toNat = (i 0).val := by rw [BitVec.toNat_ofNat]; omega
  have e1 : (BitVec.ofNat 32 (i 1).val).toNat = (i 1).val := by rw [BitVec.toNat_ofNat]; omega
  show ![0, (BitVec.ofNat 32 (i 1).val).toNat] = _
  rw [e1]

theorem transform1_2 (i : grid1.Coords) : cc1_transform_2 i = ![(i 0).val, (i 1).val] := by
  have h0 : (i 0).val < 1 := (i 0).isLt
  have h1 : (i 1).val < 8 := (i 1).isLt
  unfold cc1_transform_2
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat] = _
  rw [e0, e1]

/-- Region 1's operands. -/
def lhs1 : S128x4096.Idx → EReal := V (0 : Dev nD) main_v35
def rhs1 : S4096x4096.Idx → EReal := V (0 : Dev nD) main_v1

/-- The product region 1 computes. -/
def prod1 (i : Fin 128) (j : Fin 4096) : EReal := ∑ k : Fin 4096, lhs1 V (ix2 i k) * rhs1 V (ix2 k j)

theorem row_lt1 (t : Fin cfg1.N) (i : Fin 128) : (grid1.coords t 0).val * 128 + i.val < 128 := by
  have h : (grid1.coords t 0).val < 1 := (grid1.coords t 0).isLt
  omega

theorem col_lt1 (t : Fin cfg1.N) (j : Fin 512) : (grid1.coords t 1).val * 512 + j.val < 4096 := by
  have h : (grid1.coords t 1).val < 8 := (grid1.coords t 1).isLt
  omega

theorem left_block1 (t : Fin cfg1.N) (i : Fin 128) (k : Fin 4096) :
    (iblk1 V (0 : Dev nD) 0 t : FVec Idealize.ShloMosaic.Ideal S128x4096 .bf16) (ix2 i k)
      = (V (0 : Dev nD) main_v35 : FVec Idealize.ShloMosaic.Ideal S128x4096 .bf16) (ix2 ⟨(grid1.coords t 0).val * 128 + i.val, row_lt1 t i⟩ k) := by
  have ht := transform1_0 (grid1.coords t)
  show V (0 : Dev nD) main_v35 (((cfg1.win 0).blk t).view.emb (ix2 i k)) = _
  refine congrArg (V (0 : Dev nD) main_v35) (funext fun (x : Fin 2) => Fin.ext ?_)
  match x with
  | ⟨0, _⟩ => show cc1_transform_0 (grid1.coords t) (0 : Fin 2) * 128 + 1 * i.val = (grid1.coords t 0).val * 128 + i.val; rw [ht]; show (grid1.coords t 0).val * 128 + 1 * i.val = _; omega
  | ⟨1, _⟩ => show cc1_transform_0 (grid1.coords t) (1 : Fin 2) * 4096 + 1 * k.val = k.val; rw [ht]; show 0 * 4096 + 1 * k.val = k.val; omega

theorem right_block1 (t : Fin cfg1.N) (k : Fin 4096) (j : Fin 512) :
    (iblk1 V (0 : Dev nD) 1 t : FVec Idealize.ShloMosaic.Ideal S4096x512 .f32) (ix2 k j)
      = (V (0 : Dev nD) main_v1 : FVec Idealize.ShloMosaic.Ideal S4096x4096 .f32) (ix2 k ⟨(grid1.coords t 1).val * 512 + j.val, col_lt1 t j⟩) := by
  have ht := transform1_1 (grid1.coords t)
  show V (0 : Dev nD) main_v1 (((cfg1.win 1).blk t).view.emb (ix2 k j)) = _
  refine congrArg (V (0 : Dev nD) main_v1) (funext fun (x : Fin 2) => Fin.ext ?_)
  match x with
  | ⟨0, _⟩ => show cc1_transform_1 (grid1.coords t) (0 : Fin 2) * 4096 + 1 * k.val = k.val; rw [ht]; show 0 * 4096 + 1 * k.val = k.val; omega
  | ⟨1, _⟩ => show cc1_transform_1 (grid1.coords t) (1 : Fin 2) * 512 + 1 * j.val = (grid1.coords t 1).val * 512 + j.val; rw [ht]; show (grid1.coords t 1).val * 512 + 1 * j.val = _; omega

theorem out_emb1 (t : Fin cfg1.N) (y : S128x512.Idx) :
    (((cfg1.win 2).blk t).view.emb y : S128x4096.Idx) = ix2 ⟨(grid1.coords t 0).val * 128 + (y 0).val, row_lt1 t (y 0)⟩ ⟨(grid1.coords t 1).val * 512 + (y 1).val, col_lt1 t (y 1)⟩ := by
  have ht := transform1_2 (grid1.coords t)
  refine funext fun (a : Fin 2) => Fin.ext ?_
  match a with
  | ⟨0, _⟩ => show cc1_transform_2 (grid1.coords t) (0 : Fin 2) * 128 + 1 * (y 0).val = (grid1.coords t 0).val * 128 + (y 0).val; rw [ht]; show (grid1.coords t 0).val * 128 + 1 * (y 0).val = _; omega
  | ⟨1, _⟩ => show cc1_transform_2 (grid1.coords t) (1 : Fin 2) * 512 + 1 * (y 1).val = (grid1.coords t 1).val * 512 + (y 1).val; rw [ht]; show (grid1.coords t 1).val * 512 + 1 * (y 1).val = _; omega

theorem point_of1 : ∀ (b : Fin 1) (g : Fin 8), ∃ t : Fin grid1.N, (grid1.coords t 0).val = b.val ∧ (grid1.coords t 1).val = g.val := by
  decide +kernel

/-- The array region 1 leaves is the product of its two operands. -/
theorem region_array1 :
    (dat1 V (0 : Dev nD)).arrAt 2 cfg1.N = ((fun y : S128x4096.Idx => prod1 V (y 0) (y 1)) : FVec Idealize.ShloMosaic.Ideal S128x4096 .f32) := by
  refine (dat1 V (0 : Dev nD)).arrAt_eq_of_emb 2 _ (fun t _ y => ?_) fun i => ?_
  · refine (show _ = (dat1 V (0 : Dev nD)).after 2 t y from rfl).trans ?_
    rw [after1_2]
    refine (congrArg (out1_2 (F := Idealize.ShloMosaic.Ideal) (iblk1 V (0 : Dev nD) 0 t) (iblk1 V (0 : Dev nD) 1 t)) (eq_ix2 (y : S128x512.Idx))).trans ?_
    refine (out_apply1 _ _ _ _).trans ?_
    refine Eq.trans ?_ (congrArg (fun y : S128x4096.Idx => prod1 V (y 0) (y 1)) (out_emb1 t y)).symm
    exact Finset.sum_congr rfl fun k _ => congrArg₂ (fun a b : EReal => a * b) (left_block1 V t _ k) (right_block1 V t k _)
  · obtain ⟨t, h0, h1⟩ := point_of1 ⟨(i (0 : Fin 2)).val / 128, by have h : (i (0 : Fin 2)).val < 128 := (i (0 : Fin 2)).isLt; omega⟩
      ⟨(i (1 : Fin 2)).val / 512, by have h : (i (1 : Fin 2)).val < 4096 := (i (1 : Fin 2)).isLt; omega⟩
    refine ⟨t, flush1_2 t, ?_⟩
    have e : (((cfg1.win 2).blk t).view.emb (ix2 ⟨(i (0 : Fin 2)).val % 128, by omega⟩ ⟨(i (1 : Fin 2)).val % 512, by omega⟩ : S128x512.Idx) : S128x4096.Idx) = i := by
      rw [out_emb1]
      refine funext fun (a : Fin 2) => Fin.ext ?_
      match a with
      | ⟨0, _⟩ => show (grid1.coords t 0).val * 128 + (i (0 : Fin 2)).val % 128 = (i (0 : Fin 2)).val; rw [h0]; show (i (0 : Fin 2)).val / 128 * 128 + (i (0 : Fin 2)).val % 128 = (i (0 : Fin 2)).val; omega
      | ⟨1, _⟩ => show (grid1.coords t 1).val * 512 + (i (1 : Fin 2)).val % 512 = (i (1 : Fin 2)).val; rw [h1]; show (i (1 : Fin 2)).val / 512 * 512 + (i (1 : Fin 2)).val % 512 = (i (1 : Fin 2)).val; omega
    rw [← e]
    exact View.emb_mem_set _ _

end Cert.Proof.OutProj

end
-- ==== Proof.OutProj.lean ====
/- Hand-written: THE OUTPUT PROJECTION. What both regions multiply on the left is the reference's own array, the recurrence's output
   and the normed attention's output side by side; on the right the weights. So each product, read at one row for every
   prompt (sample) and position, is the reference's. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.OutProjRun
public import proofs.«01_k».proof.Proof.OutProjRegions
public import Idealize.ShloMosaic.Lib.Claim

@[expose] public section

noncomputable section

namespace Cert.Proof.OutProj

open Cert.Kernel3Ideal Cert.Kernel3Ideal.Gen
open Idealize.ShloMosaic Idealize.ShloMosaic.TcCoe Idealize.ShloMosaic.ValueIdx Idealize.ShloMosaic.Tactic
open scoped BigOperators

variable (m : (ℓ : Loc nD τ sig) → Buf (Elt Idealize.ShloMosaic.Ideal) ℓ) (ρ : Dev nD → PrngReg)

/-- The arguments: the recurrence's and the attention's outputs of the prompts and of the samples, the norm's gain, the weights. -/
abbrev aU : FVec Idealize.ShloMosaic.Ideal S4x2048x2048 .f32 := m (((0 : Dev nD) : Thread nD τ).loc main_arg0)
abbrev aO : FVec Idealize.ShloMosaic.Ideal S4x2048x2048 .f32 := m (((0 : Dev nD) : Thread nD τ).loc main_arg1)
abbrev aUs : FVec Idealize.ShloMosaic.Ideal S32x4x2048 .f32 := m (((0 : Dev nD) : Thread nD τ).loc main_arg2)
abbrev aOs : FVec Idealize.ShloMosaic.Ideal S32x4x2048 .f32 := m (((0 : Dev nD) : Thread nD τ).loc main_arg3)
abbrev aGain : FVec Idealize.ShloMosaic.Ideal S1x2048 .f32 := m (((0 : Dev nD) : Thread nD τ).loc main_arg4)
abbrev aWeight : FVec Idealize.ShloMosaic.Ideal S1x4096x4096 .f32 := m (((0 : Dev nD) : Thread nD τ).loc main_arg5)

/-- The weights read as a matrix, and the gain as a row. -/
def mat : FVec Idealize.ShloMosaic.Ideal S4096x4096 .f32 := shapeCast S4096x4096 (aWeight m) shapeCasts_S1x4096x4096_S4096x4096
def gain : FVec Idealize.ShloMosaic.Ideal S2048 .f32 := shapeCast S2048 (aGain m) shapeCasts_S1x2048_S2048

/-- The prompts' outputs side by side: `u` as it is, `x` by its root-mean-square norm times the gain. -/
def joinP (u x : FVec Idealize.ShloMosaic.Ideal S4x2048x2048 .f32) (g : FVec Idealize.ShloMosaic.Ideal S2048 .f32) : FVec Idealize.ShloMosaic.Ideal S4x2048x4096 .f32 :=
  concatenate S4x2048x4096 2 [⟨S4x2048x2048, u⟩, ⟨S4x2048x2048, mulf (mulf x (broadcastInDim S4x2048x2048 ![0, 1, 2] bcast_S4x2048x1_S4x2048x2048_0_1_2 (Host.rsqrt (addf (Host.divf
      (broadcastInDim S4x2048x1 ![0, 1] bcast_S4x2048_S4x2048x1_0_1 (Host.reduceAdd (mulf x x) (constant S_ .f32 0x00000000#32) reducesTo_S4x2048x2048_S4x2048_d2 h_S_))
      (broadcastInDim S4x2048x1 ![] bcast_S_S4x2048x1 (constant S_ .f32 0x45000000#32)))
      (broadcastInDim S4x2048x1 ![] bcast_S_S4x2048x1 (constant S_ .f32 0x358637BD#32))))))
      (broadcastInDim S4x2048x2048 ![0, 1, 2] bcast_S1x1x2048_S4x2048x2048_0_1_2 (broadcastInDim S1x1x2048 ![2] bcast_S2048_S1x1x2048_2 g))⟩]
    concatenates_S4x2048x2048_S4x2048x2048_S4x2048x4096_d2

/-- The samples' outputs side by side: `u` as it is, `x` by its root-mean-square norm times the gain. -/
def joinS (u x : FVec Idealize.ShloMosaic.Ideal S32x4x2048 .f32) (g : FVec Idealize.ShloMosaic.Ideal S2048 .f32) : FVec Idealize.ShloMosaic.Ideal S32x4x4096 .f32 :=
  concatenate S32x4x4096 2 [⟨S32x4x2048, u⟩, ⟨S32x4x2048, mulf (mulf x (broadcastInDim S32x4x2048 ![0, 1, 2] bcast_S32x4x1_S32x4x2048_0_1_2 (Host.rsqrt (addf (Host.divf
      (broadcastInDim S32x4x1 ![0, 1] bcast_S32x4_S32x4x1_0_1 (Host.reduceAdd (mulf x x) (constant S_ .f32 0x00000000#32) reducesTo_S32x4x2048_S32x4_d2 h_S_))
      (broadcastInDim S32x4x1 ![] bcast_S_S32x4x1 (constant S_ .f32 0x45000000#32)))
      (broadcastInDim S32x4x1 ![] bcast_S_S32x4x1 (constant S_ .f32 0x358637BD#32))))))
      (broadcastInDim S32x4x2048 ![0, 1, 2] bcast_S1x1x2048_S32x4x2048_0_1_2 (broadcastInDim S1x1x2048 ![2] bcast_S2048_S1x1x2048_2 g))⟩]
    concatenates_S32x4x2048_S32x4x2048_S32x4x4096_d2

/-! ## The lines around the regions -/

theorem stretch0_0 (σ : Valuation τ sig (Elt Idealize.ShloMosaic.Ideal)) : StableHlo.after hostOps0 σ (Proc.devRef .tc main_v0) =
    shapeCast S2048 (σ (Proc.devRef .tc main_arg4) : FVec Idealize.ShloMosaic.Ideal S1x2048 .f32) shapeCasts_S1x2048_S2048 := by
  after_results
  rfl

theorem stretch0_1 (σ : Valuation τ sig (Elt Idealize.ShloMosaic.Ideal)) : StableHlo.after hostOps0 σ (Proc.devRef .tc main_v1) =
    shapeCast S4096x4096 (σ (Proc.devRef .tc main_arg5) : FVec Idealize.ShloMosaic.Ideal S1x4096x4096 .f32) shapeCasts_S1x4096x4096_S4096x4096 := by
  after_results
  rfl

theorem stretch0_17 (σ : Valuation τ sig (Elt Idealize.ShloMosaic.Ideal)) : StableHlo.after hostOps0 σ (Proc.devRef .tc main_v17) =
    shapeCast S8192x4096 (truncf .bf16 (joinP (σ (Proc.devRef .tc main_arg0)) (σ (Proc.devRef .tc main_arg1))
      (shapeCast S2048 (σ (Proc.devRef .tc main_arg4) : FVec Idealize.ShloMosaic.Ideal S1x2048 .f32) shapeCasts_S1x2048_S2048)) bitsLt_bf16_f32) shapeCasts_S4x2048x4096_S8192x4096 := by
  after_results
  rfl

theorem stretch1_19 (σ : Valuation τ sig (Elt Idealize.ShloMosaic.Ideal)) : StableHlo.after hostOps1 σ (Proc.devRef .tc main_v19) =
    shapeCast S4x2048x4096 (σ (Proc.devRef .tc main_v18) : FVec Idealize.ShloMosaic.Ideal S8192x4096 .f32) shapeCasts_S8192x4096_S4x2048x4096 := by
  after_results
  rfl

theorem stretch1_35 (σ : Valuation τ sig (Elt Idealize.ShloMosaic.Ideal)) : StableHlo.after hostOps1 σ (Proc.devRef .tc main_v35) =
    shapeCast S128x4096 (truncf .bf16 (joinS (σ (Proc.devRef .tc main_arg2)) (σ (Proc.devRef .tc main_arg3))
      (σ (Proc.devRef .tc main_v0))) bitsLt_bf16_f32) shapeCasts_S32x4x4096_S128x4096 := by
  after_results
  rfl

theorem stretch2_37 (σ : Valuation τ sig (Elt Idealize.ShloMosaic.Ideal)) : StableHlo.after hostOps2 σ (Proc.devRef .tc main_v37) =
    shapeCast S32x4x4096 (σ (Proc.devRef .tc main_v36) : FVec Idealize.ShloMosaic.Ideal S128x4096 .f32) shapeCasts_S128x4096_S32x4x4096 := by
  after_results
  rfl

/-- The reference's left operands. -/
abbrev rJoin : FVec Idealize.ShloMosaic.Ideal S4x2048x4096 .f32 := Cert.Reference3Ideal.Read.val_main_v14 (F := Idealize.ShloMosaic.Ideal) (aU m) (aO m) (aGain m)
abbrev rJoinS : FVec Idealize.ShloMosaic.Ideal S32x4x4096 .f32 := Cert.Reference3Ideal.Read.val_main_v31 (F := Idealize.ShloMosaic.Ideal) (aUs m) (aOs m) (aGain m)

theorem joinP_eq : joinP (aU m) (aO m) (gain m) = rJoin m := rfl
theorem joinS_eq : joinS (aUs m) (aOs m) (gain m) = rJoinS m := rfl

theorem V1_left : V1 m ρ (0 : Dev nD) main_v17 = shapeCast S8192x4096 (truncf .bf16 (rJoin m) bitsLt_bf16_f32) shapeCasts_S4x2048x4096_S8192x4096 :=
  (stretch0_17 (W0 m ρ (0 : Dev nD))).trans
    (congrArg (fun z => shapeCast S8192x4096 (truncf .bf16 z bitsLt_bf16_f32) shapeCasts_S4x2048x4096_S8192x4096) (joinP_eq m))

theorem V1_right : V1 m ρ (0 : Dev nD) main_v1 = mat m := stretch0_1 (W0 m ρ (0 : Dev nD))

theorem W2_0 : W2 m ρ (0 : Dev nD) (Proc.devRef .tc main_v0) = gain m :=
  (W2_of_ne m ρ (0 : Dev nD) main_v0 (by decide)).trans (stretch0_0 (W0 m ρ (0 : Dev nD)))

theorem V3_left : V3 m ρ (0 : Dev nD) main_v35 = shapeCast S128x4096 (truncf .bf16 (rJoinS m) bitsLt_bf16_f32) shapeCasts_S32x4x4096_S128x4096 := by
  refine (stretch1_35 (W2 m ρ (0 : Dev nD))).trans ?_
  rw [W2_args m ρ (0 : Dev nD) main_arg2 (by decide), W2_args m ρ (0 : Dev nD) main_arg3 (by decide), W2_0]
  exact congrArg (fun z => shapeCast S128x4096 (truncf .bf16 z bitsLt_bf16_f32) shapeCasts_S32x4x4096_S128x4096) (joinS_eq m)

theorem V3_right : V3 m ρ (0 : Dev nD) main_v1 = mat m :=
  (W3_of m ρ (0 : Dev nD) main_v1 (by decide)).trans ((W2_of m ρ (0 : Dev nD) main_v1 (by decide)).trans (V1_right m ρ))

/-! ## The projections -/

/-- The reference's projections. -/
abbrev rProd : FVec Idealize.ShloMosaic.Ideal S4x2048x4096 .f32 := Cert.Reference3Ideal.Read.val_main_v16 (F := Idealize.ShloMosaic.Ideal) (aU m) (aO m) (aGain m) (aWeight m)
abbrev rProdS : FVec Idealize.ShloMosaic.Ideal S32x4x4096 .f32 := Cert.Reference3Ideal.Read.val_main_v33 (F := Idealize.ShloMosaic.Ideal) (aUs m) (aOs m) (aGain m) (aWeight m)

/-- Region 0's product is the reference's. -/
theorem prod0_apply (b : Fin 4) (t : Fin 2048) (j : Fin 4096) :
    prod0 (V1 m ρ) ⟨b.val * 2048 + t.val, by omega⟩ j = rProd m (ix3 b t j) := by
  unfold prod0 lhs0 rhs0
  rw [V1_left, V1_right]
  have hl : ∀ k : Fin 4096, shapeCast S8192x4096 (truncf .bf16 (rJoin m) bitsLt_bf16_f32) shapeCasts_S4x2048x4096_S8192x4096 (ix2 ⟨b.val * 2048 + t.val, by omega⟩ k) = rJoin m (ix3 b t k) := fun k => by
    refine (shapeCast_apply _ shapeCasts_S4x2048x4096_S8192x4096 _ (ix3 b t k) ?_).trans rfl
    rw [Shape.rowMajor_val_three, Shape.rowMajor_val_two]
    rfl
  refine Eq.trans (Finset.sum_congr rfl fun k _ => congrArg (fun a : EReal => a * _) (hl k)) ?_
  refine Eq.trans (Finset.sum_congr rfl fun k _ => ?_) (Cert.Reference3Ideal.Read.val_main_v16_apply (aU m) (aO m) (aGain m) (aWeight m) (ix3 b t j)).symm
  refine congrArg₂ (fun a b : EReal => a * b) (congrArg (rJoin m) ?_) (congrArg (mat m) ?_)
  · funext a
    match a with
    | ⟨0, _⟩ => rfl
    | ⟨1, _⟩ => rfl
    | ⟨2, _⟩ => rfl
  · funext a
    match a with
    | ⟨0, _⟩ => rfl
    | ⟨1, _⟩ => rfl

/-- The prompts' result, one row for every one of them and every position. -/
theorem array0 : shapeCast S4x2048x4096 ((fun y : S8192x4096.Idx => prod0 (V1 m ρ) (y 0) (y 1)) : FVec Idealize.ShloMosaic.Ideal S8192x4096 .f32) shapeCasts_S8192x4096_S4x2048x4096 = rProd m := by
  funext y
  obtain ⟨b, t, j, rfl⟩ : ∃ (b : Fin 4) (t : Fin 2048) (j : Fin 4096), y = ix3 b t j := ⟨y 0, y 1, y 2, ValueIdx.eq_ix3 y⟩
  refine (shapeCast_apply _ shapeCasts_S8192x4096_S4x2048x4096 (ix3 b t j) (ix2 (⟨b.val * 2048 + t.val, by omega⟩ : Fin 8192) j) ?_).trans (prod0_apply m ρ b t j)
  rw [Shape.rowMajor_val_three, Shape.rowMajor_val_two]
  rfl

/-- Region 1's product is the reference's. -/
theorem prod1_apply (b : Fin 32) (t : Fin 4) (j : Fin 4096) :
    prod1 (V3 m ρ) ⟨b.val * 4 + t.val, by omega⟩ j = rProdS m (ix3 b t j) := by
  unfold prod1 lhs1 rhs1
  rw [V3_left, V3_right]
  have hl : ∀ k : Fin 4096, shapeCast S128x4096 (truncf .bf16 (rJoinS m) bitsLt_bf16_f32) shapeCasts_S32x4x4096_S128x4096 (ix2 ⟨b.val * 4 + t.val, by omega⟩ k) = rJoinS m (ix3 b t k) := fun k => by
    refine (shapeCast_apply _ shapeCasts_S32x4x4096_S128x4096 _ (ix3 b t k) ?_).trans rfl
    rw [Shape.rowMajor_val_three, Shape.rowMajor_val_two]
    rfl
  refine Eq.trans (Finset.sum_congr rfl fun k _ => congrArg (fun a : EReal => a * _) (hl k)) ?_
  refine Eq.trans (Finset.sum_congr rfl fun k _ => ?_) (Cert.Reference3Ideal.Read.val_main_v33_apply (aUs m) (aOs m) (aGain m) (aWeight m) (ix3 b t j)).symm
  refine congrArg₂ (fun a b : EReal => a * b) (congrArg (rJoinS m) ?_) (congrArg (mat m) ?_)
  · funext a
    match a with
    | ⟨0, _⟩ => rfl
    | ⟨1, _⟩ => rfl
    | ⟨2, _⟩ => rfl
  · funext a
    match a with
    | ⟨0, _⟩ => rfl
    | ⟨1, _⟩ => rfl

/-- The samples' result, one row for every one of them and every position. -/
theorem array1 : shapeCast S32x4x4096 ((fun y : S128x4096.Idx => prod1 (V3 m ρ) (y 0) (y 1)) : FVec Idealize.ShloMosaic.Ideal S128x4096 .f32) shapeCasts_S128x4096_S32x4x4096 = rProdS m := by
  funext y
  obtain ⟨b, t, j, rfl⟩ : ∃ (b : Fin 32) (t : Fin 4) (j : Fin 4096), y = ix3 b t j := ⟨y 0, y 1, y 2, ValueIdx.eq_ix3 y⟩
  refine (shapeCast_apply _ shapeCasts_S128x4096_S32x4x4096 (ix3 b t j) (ix2 (⟨b.val * 4 + t.val, by omega⟩ : Fin 128) j) ?_).trans (prod1_apply m ρ b t j)
  rw [Shape.rowMajor_val_three, Shape.rowMajor_val_two]
  rfl

theorem end_prompt : W5 m ρ (0 : Dev nD) (Proc.devRef .tc main_v19) = rProd m := by
  refine (W5_of m ρ (0 : Dev nD) main_v19 (by decide)).trans ((W4_of_ne m ρ (0 : Dev nD) main_v19 (by decide)).trans ((stretch1_19 (W2 m ρ (0 : Dev nD))).trans ?_))
  exact (congrArg (fun z : FVec Idealize.ShloMosaic.Ideal S8192x4096 .f32 => shapeCast S4x2048x4096 z shapeCasts_S8192x4096_S4x2048x4096)
    ((W2_arr m ρ (0 : Dev nD) 2).trans (region_array0 (V1 m ρ)))).trans (array0 m ρ)

theorem end_sample : W5 m ρ (0 : Dev nD) (Proc.devRef .tc main_v37) = rProdS m := by
  refine (stretch2_37 (W4 m ρ (0 : Dev nD))).trans ?_
  exact (congrArg (fun z : FVec Idealize.ShloMosaic.Ideal S128x4096 .f32 => shapeCast S32x4x4096 z shapeCasts_S128x4096_S32x4x4096)
    ((W4_arr m ρ (0 : Dev nD) 2).trans (region_array1 (V3 m ρ)))).trans (array1 m ρ)

/-! ## The claims -/

/-- The kernel over the extended reals runs, keeps its arguments and ends with every counter at zero. -/
theorem frame_ideal : Cert.quiescent_Kernel3Ideal := fun m g _ => Cert.Kernel3Ideal.Gen.frame m g

/-- The same over the floating-point formats. -/
theorem frame_bits : Cert.quiescent_Kernel3 := fun m g _ => Cert.Kernel3.Gen.frame m g

/-- The same of the reference. -/
theorem frame_ref : Cert.quiescent_Reference3Ideal := fun m g _ =>
  (θ_run Cert.Reference3Ideal.defs _ _).mono (fun r h => ⟨fun c => (h c).2.2, sem_eq_zero_of_no_sems (by decide) r.2⟩) (Cert.Reference3Ideal.Value.run m g)

/-- The two results of the kernel and of the reference are the same functions of the arguments. -/
theorem algebraic : Cert.algebraic_Kernel3Ideal_Reference3Ideal := by
  intro m g m' g' hpre hagree
  refine ⟨fun _ => rProd m, fun _ => rProdS m, ?_, ?_⟩
  · refine (θ_run Cert.Kernel3Ideal.defs _ _).mono (fun r h c => ?_)
      (θ_run_and (run_main m g) (Cert.Kernel3Ideal.Gen.unchanged m g))
    obtain rfl : c = 0 := Subsingleton.elim _ _
    have hr := h.1 0
    have e0 := (hr _ (Cert.Kernel3Ideal.Gen.mem_uc Cert.Kernel3Ideal.main_v19 (by decide))).trans (end_prompt m g)
    have e1 := (hr _ (Cert.Kernel3Ideal.Gen.mem_uc Cert.Kernel3Ideal.main_v37 (by decide))).trans (end_sample m g)
    exact ⟨e0, e1, h.2 0⟩
  · refine (θ_run Cert.Reference3Ideal.defs _ _).mono (fun r h c => ?_) (Cert.Reference3Ideal.Value.run m' g')
    obtain rfl : c = 0 := Subsingleton.elim _ _
    obtain ⟨h0, h1, h2, h3, h4, h5⟩ := hagree 0
    obtain ⟨r0, r1, hargs⟩ := h 0
    have e0 := r0.trans ((Cert.Reference3Ideal.Read.val_main_v16_eq _ _ _ _).trans
      (congr (congr (congr (congrArg (Cert.Reference3Ideal.Read.val_main_v16 (F := Idealize.ShloMosaic.Ideal)) h0) h1) h4) h5))
    have e1 := r1.trans ((Cert.Reference3Ideal.Read.val_main_v33_eq _ _ _ _).trans
      (congr (congr (congr (congrArg (Cert.Reference3Ideal.Read.val_main_v33 (F := Idealize.ShloMosaic.Ideal)) h2) h3) h4) h5))
    exact ⟨e0, e1, hargs⟩

end Cert.Proof.OutProj

end
-- ==== Proof.ExpUpRun.lean ====
/- Hand-written: THE BODY OF THE EXPERTS' UP PROJECTION AT ONE GRID POINT, in its three cases, for any tables. -/
module

public import proofs.«01_k».proof.Defs
public import proofs.«01_k».proof.Proof.Gen.Kernel4Ideal
public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Proof.ExpUp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The model the proof is written in. -/
abbrev MM (F : FTy → Type) [FloatOps F] := MT nD τ sig Unit (Elt F) ℕ (UR sig nD τ) ℕ

/-- The two tables and the two scratches, as the body holds them. -/
abbrev tM0 : Memref sig .tc .smem S320 .i32 := Memref.whole main_arg3
abbrev tM1 : Memref sig .tc .smem S1 .i32 := Memref.whole main_arg4
abbrev sM0 : Memref sig .tc .vmem S4096x512 .bf16 := Memref.whole cc0_scratch0
abbrev sM1 : Memref sig .tc .vmem S4096x512 .bf16 := Memref.whole cc0_scratch1

/-- The number of filled blocks, the expert of the block at hand, the expert of the block before: as the body reads them. -/
abbrev nW (T1 : S1.Idx → Elt F .i32) : Elt F .i32 :=
  View.readAt (Elt F) (tM1).view (Rect.unit (s := S1) ![0] S1.size inb_S1_S1_0).toLoadRect T1 (Shape.Idx.first (numel1_S1.symm ▸ Nat.one_pos))
abbrev eW (i : grid0.Coords) (T0 : S320.Idx → Elt F .i32) : Elt F .i32 :=
  View.readAt (Elt F) (tM0).view (Rect.unit (s := S320) (k0_off1 i) S1.size (k0_off1_inb i)).toLoadRect T0 (Shape.Idx.first (numel1_S1.symm ▸ Nat.one_pos))
abbrev pW (i : grid0.Coords) (T0 : S320.Idx → Elt F .i32) : Elt F .i32 :=
  View.readAt (Elt F) (tM0).view (Rect.unit (s := S320) (k0_off2 i) S1.size (k0_off2_inb i)).toLoadRect T0 (Shape.Idx.first (numel1_S1.symm ▸ Nat.one_pos))

/-- Whether the body casts the weights at the point: the block is filled, and its expert is not the one before. -/
abbrev fills (i : grid0.Coords) (T0 : S320.Idx → Elt F .i32) (T1 : S1.Idx → Elt F .i32) : BitVec 1 :=
  Scalar.cmpi .ne (Scalar.extui (Scalar.andi (Scalar.cmpi .slt (BitVec.ofNat 32 (i 0).val) (nW T1)) (Scalar.ori (Scalar.cmpi .eq (BitVec.ofNat 32 (i 0).val) 0#32) (Scalar.cmpi .ne (eW i T0) (pW i T0)))) : BitVec 32) 0#32

set_option maxHeartbeats 8000000 in
/-- A point past the filled blocks: the body stores zeros and reads nothing else. -/
theorem run_dead (c : Dev nD) (i : grid0.Coords) (arg3 : Memref sig .tc .vmem S256x4096 .bf16) (harg3 : arg3.IsWhole) (arg4 : Memref sig .tc .vmem S1x4096x512 .f32) (harg4 : arg4.IsWhole)
    (arg5 : Memref sig .tc .vmem S1x4096x512 .f32) (harg5 : arg5.IsWhole) (arg6 : Memref sig .tc .vmem S256x512 .bf16) (harg6 : arg6.IsWhole)
    (T0 : S320.Idx → Elt F .i32) (T1 : S1.Idx → Elt F .i32)
    (x0 : S256x4096.Idx → Elt F .bf16) (x1 x2 : S1x4096x512.Idx → Elt F .f32)
    (a0 : Buf (Elt F) ((c : Thread nD τ).loc cc0_scratch0)) (a1 : Buf (Elt F) ((c : Thread nD τ).loc cc0_scratch1))
    (hc : ¬(fills i T0 T1 = 1#1)) (h2 : ¬(k0_cond2 i (nW T1) = 1#1)) (h3 : k0_cond3 i (nW T1) = 1#1)
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0) ∗ (sM1.view.loc (c : Thread nD τ) ↦{fullShare} a1)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay4 (F := F))
          ∗ (sM0.view.loc (c : Thread nD τ) ↦{fullShare} a0) ∗ (sM1.view.loc (c : Thread nD τ) ↦{fullShare} a1)) -∗ K ⟨⟩))
      ⊢ wp frame (wpE (defs₀ (F := F)) Variants.none c none) Set.univ (cc0_ffn_up i tM0 (Memref.isWhole_whole _) tM1 (Memref.isWhole_whole _) arg3 harg3 arg4 harg4 arg5 harg5 arg6 harg6
          sM0 (Memref.isWhole_whole _) sM1 (Memref.isWhole_whole _)) K := by
  unfold owns
  rw [cc0_ffn_up_eq_skeleton]; unfold cc0_ffn_up_skel
  iintro ⟨⟨%f0, %hf0, H0⟩, ⟨%f1, %hf1, H1⟩, ⟨%f2, %hf2, H2⟩, HT0, HT1, ⟨%d3, %f3, -, HO3⟩, HS0, HS1, Hk⟩
  have hS0 : sM0.IsWhole := Memref.isWhole_whole _
  have hS1 : sM1.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro; exact View.read_writes_full _ _ _ _ _
  isplitl [HS0]; · iexact HS0
  iexact HS1

set_option maxHeartbeats 8000000 in
/-- A filled block of the same expert as before: the scratches hold the cast weights already. -/
theorem run_keep (c : Dev nD) (i : grid0.Coords) (arg3 : Memref sig .tc .vmem S256x4096 .bf16) (harg3 : arg3.IsWhole) (arg4 : Memref sig .tc .vmem S1x4096x512 .f32) (harg4 : arg4.IsWhole)
    (arg5 : Memref sig .tc .vmem S1x4096x512 .f32) (harg5 : arg5.IsWhole) (arg6 : Memref sig .tc .vmem S256x512 .bf16) (harg6 : arg6.IsWhole)
    (T0 : S320.Idx → Elt F .i32) (T1 : S1.Idx → Elt F .i32)
    (x0 : S256x4096.Idx → Elt F .bf16) (x1 x2 : S1x4096x512.Idx → Elt F .f32)
    (a0 : Buf (Elt F) ((c : Thread nD τ).loc cc0_scratch0)) (a1 : Buf (Elt F) ((c : Thread nD τ).loc cc0_scratch1))
    (hc : ¬(fills i T0 T1 = 1#1)) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0) ∗ (sM1.view.loc (c : Thread nD τ) ↦{fullShare} a1)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay3 x0 (sM0.view.read (Elt F) a0) (sM1.view.read (Elt F) a1))
          ∗ (sM0.view.loc (c : Thread nD τ) ↦{fullShare} a0) ∗ (sM1.view.loc (c : Thread nD τ) ↦{fullShare} a1)) -∗ K ⟨⟩))
      ⊢ wp frame (wpE (defs₀ (F := F)) Variants.none c none) Set.univ (cc0_ffn_up i tM0 (Memref.isWhole_whole _) tM1 (Memref.isWhole_whole _) arg3 harg3 arg4 harg4 arg5 harg5 arg6 harg6
          sM0 (Memref.isWhole_whole _) sM1 (Memref.isWhole_whole _)) K := by
  unfold owns
  rw [cc0_ffn_up_eq_skeleton]; unfold cc0_ffn_up_skel
  iintro ⟨⟨%f0, %hf0, H0⟩, ⟨%f1, %hf1, H1⟩, ⟨%f2, %hf2, H2⟩, HT0, HT1, ⟨%d3, %f3, -, HO3⟩, HS0, HS1, Hk⟩
  have hS0 : sM0.IsWhole := Memref.isWhole_whole _
  have hS1 : sM1.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full, View.readAt_full, View.readAt_full, hf0]
  isplitl [HS0]; · iexact HS0
  iexact HS1

set_option maxHeartbeats 8000000 in
/-- A filled block of a new expert: the body casts its two weights into the scratches first. -/
theorem run_fill (c : Dev nD) (i : grid0.Coords) (arg3 : Memref sig .tc .vmem S256x4096 .bf16) (harg3 : arg3.IsWhole) (arg4 : Memref sig .tc .vmem S1x4096x512 .f32) (harg4 : arg4.IsWhole)
    (arg5 : Memref sig .tc .vmem S1x4096x512 .f32) (harg5 : arg5.IsWhole) (arg6 : Memref sig .tc .vmem S256x512 .bf16) (harg6 : arg6.IsWhole)
    (T0 : S320.Idx → Elt F .i32) (T1 : S1.Idx → Elt F .i32)
    (x0 : S256x4096.Idx → Elt F .bf16) (x1 x2 : S1x4096x512.Idx → Elt F .f32)
    (a0 : Buf (Elt F) ((c : Thread nD τ).loc cc0_scratch0)) (a1 : Buf (Elt F) ((c : Thread nD τ).loc cc0_scratch1))
    (hc : fills i T0 T1 = 1#1) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0) ∗ (sM1.view.loc (c : Thread nD τ) ↦{fullShare} a1)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay3 x0 (k0_pay1 x1) (k0_pay2 x2))
          ∗ (∃ a : Buf (Elt F) ((c : Thread nD τ).loc cc0_scratch0), ⌜sM0.view.read (Elt F) a = k0_pay1 x1⌝ ∗ (sM0.view.loc (c : Thread nD τ) ↦{fullShare} a)) ∗ (∃ a : Buf (Elt F) ((c : Thread nD τ).loc cc0_scratch1), ⌜sM1.view.read (Elt F) a = k0_pay2 x2⌝ ∗ (sM1.view.loc (c : Thread nD τ) ↦{fullShare} a))) -∗ K ⟨⟩))
      ⊢ wp frame (wpE (defs₀ (F := F)) Variants.none c none) Set.univ (cc0_ffn_up i tM0 (Memref.isWhole_whole _) tM1 (Memref.isWhole_whole _) arg3 harg3 arg4 harg4 arg5 harg5 arg6 harg6
          sM0 (Memref.isWhole_whole _) sM1 (Memref.isWhole_whole _)) K := by
  unfold owns
  rw [cc0_ffn_up_eq_skeleton]; unfold cc0_ffn_up_skel
  iintro ⟨⟨%f0, %hf0, H0⟩, ⟨%f1, %hf1, H1⟩, ⟨%f2, %hf2, H2⟩, HT0, HT1, ⟨%d3, %f3, -, HO3⟩, HS0, HS1, Hk⟩
  have hS0 : sM0.IsWhole := Memref.isWhole_whole _
  have hS1 : sM1.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full arg3.view, hf0]
      refine congrArg₂ (k0_pay3 x0) ?_ ?_
      · refine (View.readCov_full _ _ _ _ _).trans ?_
        rw [View.readAt_full, hf1]
      · refine (View.readCov_full _ _ _ _ _).trans ?_
        rw [View.readAt_full, hf2]
  isplitl [HS0]
  · iexists _; isplitr; swap
    · iexact HS0
    · ipureintro
      refine (View.read_writes_full _ _ _ _ _).trans ?_
      rw [View.readAt_full, hf1]
  iexists _; isplitr; swap
  · iexact HS1
  · ipureintro
    refine (View.read_writes_full _ _ _ _ _).trans ?_
    rw [View.readAt_full, hf2]

end Cert.Proof.ExpUp

end
-- ==== Proof.ExpUpFrame.lean ====
/- Hand-written: THE FRAME OF THE EXPERTS' UP PROJECTION, for every table whose blocks lie inside the weights. Before a grid point the
   scratches hold the cast weights of the block before it, if that block was filled (`Held`); the point leaves the product of its block,
   or zeros past the filled blocks (`outU`). -/
module

public import proofs.«01_k».proof.Proof.ExpUpRun
public import Idealize.ShloMosaic.Lib.ValueIdx
public import Idealize.ShloMosaic.Lib.Claim
public import Idealize.ShloMosaic.Lib.Pipeline.Quiescent

@[expose] public section

set_option maxRecDepth 16384
set_option Elab.async false

noncomputable section

namespace Cert.Proof.ExpUp

open Cert.Kernel4Ideal Cert.Kernel4Ideal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The words the body reads -/

theorem ne_ofBool (b : Bool) : (Scalar.cmpi .ne (Scalar.extui (BitVec.ofBool b) : BitVec 32) 0#32 = 1#1) ↔ b = true := by
  cases b <;> decide

/-- Block number i is below the number of filled blocks. -/
def below (i : grid0.Coords) (v : BitVec 32) : Bool := BitVec.slt (BitVec.ofNat 32 (i 0).val) v

theorem cond2_iff (i : grid0.Coords) (v : BitVec 32) : k0_cond2 i v = 1#1 ↔ below i v = true :=
  ne_ofBool (BitVec.slt (BitVec.ofNat 32 (i 0).val) v)

theorem cond3_iff (i : grid0.Coords) (v : BitVec 32) : k0_cond3 i v = 1#1 ↔ below i v = false := by
  refine (ne_ofBool (BitVec.sle v (BitVec.ofNat 32 (i 0).val))).trans ?_
  unfold below
  rw [BitVec.sle_eq_not_slt]
  cases BitVec.slt (BitVec.ofNat 32 (i 0).val) v <;> decide

theorem coord_lt (i : grid0.Coords) : (i 0).val < 320 := (i 0).isLt

theorem below_prev (i i' : grid0.Coords) (v : BitVec 32) (h : (i' 0).val + 1 = (i 0).val) (hb : below i v = true) : below i' v = true := by
  have h0 := coord_lt i
  unfold below at hb ⊢
  simp only [BitVec.slt, decide_eq_true_eq, BitVec.toInt, BitVec.toNat_ofNat] at hb ⊢
  omega

theorem zero_iff (i : grid0.Coords) : (BitVec.ofNat 32 (i 0).val == 0#32) = true ↔ (i 0).val = 0 := by
  have h0 := coord_lt i
  rw [beq_iff_eq]
  constructor
  · intro h
    have := congrArg BitVec.toNat h
    simp only [BitVec.toNat_ofNat] at this
    omega
  · intro h; rw [h]

theorem fills_iff (i : grid0.Coords) (T0 : S320.Idx → Elt F .i32) (T1 : S1.Idx → Elt F .i32) :
    fills i T0 T1 = 1#1 ↔ below i (nW T1) = true ∧ ((i 0).val = 0 ∨ (eW i T0 : BitVec 32) ≠ pW i T0) := by
  have andi_ofBool (p q : Bool) : Scalar.andi (BitVec.ofBool p) (BitVec.ofBool q) = BitVec.ofBool (p && q) := by
    cases p <;> cases q <;> decide
  have ori_ofBool (p q : Bool) : Scalar.ori (BitVec.ofBool p) (BitVec.ofBool q) = BitVec.ofBool (p || q) := by
    cases p <;> cases q <;> decide
  have e : fills i T0 T1 = Scalar.cmpi .ne (Scalar.extui (BitVec.ofBool (below i (nW T1) && ((BitVec.ofNat 32 (i 0).val == 0#32) || ((eW i T0 : BitVec 32) != pW i T0)))) : BitVec 32) 0#32 := by
    rw [← andi_ofBool, ← ori_ofBool]
    rfl
  rw [e, ne_ofBool, Bool.and_eq_true, Bool.or_eq_true, zero_iff, bne_iff_ne]

theorem off1_val (i : grid0.Coords) : (Scalar.indexCast (BitVec.ofNat 32 (i 0).val)).toNat = (i 0).val := by
  have h0 := coord_lt i
  simp only [Scalar.indexCast]
  simp [BitVec.toNat_ofNat]
  omega

theorem off2_val (i : grid0.Coords) (h : (i 0).val ≠ 0) :
    (Scalar.indexCast (Scalar.maxsi (Scalar.subi (BitVec.ofNat 32 (i 0).val) 1#32) 0#32)).toNat = (i 0).val - 1 := by
  have h0 := coord_lt i
  have e : Scalar.subi (BitVec.ofNat 32 (i 0).val) 1#32 = BitVec.ofNat 32 ((i 0).val - 1) := by
    apply BitVec.eq_of_toNat_eq
    simp only [Scalar.subi, IntOp.subi, BitVec.toNat_sub, BitVec.toNat_ofNat]
    omega
  rw [e]
  have hall : ∀ n : Fin 320, (Scalar.indexCast (Scalar.maxsi (BitVec.ofNat 32 n.val) 0#32)).toNat = n.val := by decide +kernel
  exact hall ⟨(i 0).val - 1, by omega⟩

/-- The word of the table of experts at a block. -/
abbrev expert (T0 : S320.Idx → Elt F .i32) (k : Fin 320) : BitVec 32 := T0 (ix1 k)

theorem eW_eq (i : grid0.Coords) (T0 : S320.Idx → Elt F .i32) : (eW i T0 : BitVec 32) = expert T0 ⟨(i 0).val, coord_lt i⟩ := by
  show T0 _ = T0 _
  refine congrArg T0 (funext fun (a : Fin 1) => ?_)
  match a with
  | ⟨0, _⟩ => exact Fin.ext (show (Scalar.indexCast (BitVec.ofNat 32 (i 0).val)).toNat + 1 * 0 = (i 0).val by rw [off1_val]; omega)

theorem pW_eq (i : grid0.Coords) (T0 : S320.Idx → Elt F .i32) (h : (i 0).val ≠ 0) :
    (pW i T0 : BitVec 32) = expert T0 ⟨(i 0).val - 1, by have := coord_lt i; omega⟩ := by
  show T0 _ = T0 _
  refine congrArg T0 (funext fun (a : Fin 1) => ?_)
  match a with
  | ⟨0, _⟩ => exact Fin.ext (show (Scalar.indexCast (Scalar.maxsi (Scalar.subi (BitVec.ofNat 32 (i 0).val) 1#32) 0#32)).toNat + 1 * 0 = (i 0).val - 1 by rw [off2_val i h]; omega)

theorem nW_eq (T1 : S1.Idx → Elt F .i32) : (nW T1 : BitVec 32) = T1 (ix1 0) := by
  show T1 _ = T1 _
  refine congrArg T1 (funext fun (a : Fin 1) => ?_)
  match a with
  | ⟨0, _⟩ => exact Fin.ext rfl

theorem at_word (pf : pre0.Contents (Elt F)) (n : ℕ) (k : Fin 320) (hk : n = k.val)
    (inb : ∀ a, (![n] : Fin 1 → ℕ) a + S1.size a ≤ S320.size a) :
    pf.at 0 (Rect.unit (s := S320) ![n] S1.size inb) numel1_S1 = pf 0 (ix1 k) := by
  refine congrArg (pf 0) (funext fun (a : Fin 1) => ?_)
  match a with
  | ⟨0, _⟩ => exact Fin.ext (show n + 1 * 0 = k.val by omega)

theorem transform_1 (pf : pre0.Contents (Elt F)) (i : grid0.Coords) :
    cc0_transform_1 k0_off1_inb numel1_S1 pf i = ![(expert (F := F) (pf 0) ⟨(i 0).val, coord_lt i⟩).toNat, 0, 0] := by
  unfold cc0_transform_1
  exact congrArg (fun x : BitVec 32 => ![x.toNat, 0, 0]) (at_word pf _ ⟨(i 0).val, coord_lt i⟩ (off1_val i) _)
theorem transform_2 (pf : pre0.Contents (Elt F)) (i : grid0.Coords) :
    cc0_transform_2 k0_off1_inb numel1_S1 pf i = ![(expert (F := F) (pf 0) ⟨(i 0).val, coord_lt i⟩).toNat, 0, 0] := by
  unfold cc0_transform_2
  exact congrArg (fun x : BitVec 32 => ![x.toNat, 0, 0]) (at_word pf _ ⟨(i 0).val, coord_lt i⟩ (off1_val i) _)

theorem inb_of_lt (n : ℕ) (h : n < 64) : ∀ a, ((![n, 0, 0] : Fin 3 → ℕ) a + 1) * S1x4096x512.size a ≤ S64x4096x512.size a := by
  intro a
  match a with
  | ⟨0, _⟩ => show (n + 1) * 1 ≤ 64; omega
  | ⟨1, _⟩ => simp
  | ⟨2, _⟩ => simp

theorem coords_val (t : Fin grid0.N) : (grid0.coords t 0).val = t.val := by
  revert t
  decide +kernel

variable (m : (ℓ : Loc nD τ sig) → Buf (Elt F) ℓ) (ρ : Dev nD → PrngReg)

/-! ## The tables and the pipeline at them -/

/-- The tables at launch. -/
def tb : pre0.Contents (Elt F) := fun j => m (((0 : Dev nD) : Thread nD τ).loc (pre0.ref j))
abbrev tE : S320.Idx → Elt F .i32 := tb m 0
abbrev tN : S1.Idx → Elt F .i32 := tb m 1

/-- Every block that a window names lies inside its array. -/
abbrev Ok : Prop := ok0 (tb m)

theorem ok_of_lt (h : ∀ k : Fin 320, (expert (F := F) (tE m) k).toNat < 64) : Ok m :=
  ⟨fun i => ⟨by rw [transform_1]; exact inb_of_lt _ (h _), Or.inl rfl⟩, fun i => ⟨by rw [transform_2]; exact inb_of_lt _ (h _), Or.inl rfl⟩⟩

variable (hO : Ok m)

abbrev adm : (pcfg0 (F := F)).Adm := ⟨tb m, hO⟩
abbrev cfgA : Pipeline.Cfg sig Λ₀ := cfg0 (F := F) (adm m hO)
abbrev pcs : Fin 1 → Pipeline.Cfg sig Λ₀ := Pipeline.pin (pcfgs (F := F)) fun _ => adm m hO
abbrev crd (t : Fin (cfgA m hO).N) : grid0.Coords := grid0.coords t

abbrev ms0 (t : Fin (cfgA m hO).N) : Memref sig .tc .vmem S256x4096 .bf16 := spec0_0.stage ((cfgA m hO).slots t (0 : Fin 4))
abbrev hs0 (t : Fin (cfgA m hO).N) : (ms0 m hO t).IsWhole := hstage0_0 (((cfgA m hO).slots t (0 : Fin 4)).cast nbuf0_0)
abbrev ms1 (t : Fin (cfgA m hO).N) : Memref sig .tc .vmem S1x4096x512 .f32 := spec0_1.stage ((cfgA m hO).slots t (1 : Fin 4))
abbrev hs1 (t : Fin (cfgA m hO).N) : (ms1 m hO t).IsWhole := hstage0_1 (((cfgA m hO).slots t (1 : Fin 4)).cast nbuf0_1)
abbrev ms2 (t : Fin (cfgA m hO).N) : Memref sig .tc .vmem S1x4096x512 .f32 := spec0_2.stage ((cfgA m hO).slots t (2 : Fin 4))
abbrev hs2 (t : Fin (cfgA m hO).N) : (ms2 m hO t).IsWhole := hstage0_2 (((cfgA m hO).slots t (2 : Fin 4)).cast nbuf0_2)
abbrev ms3 (t : Fin (cfgA m hO).N) : Memref sig .tc .vmem S256x512 .bf16 := spec0_3.stage ((cfgA m hO).slots t (3 : Fin 4))
abbrev hs3 (t : Fin (cfgA m hO).N) : (ms3 m hO t).IsWhole := hstage0_3 (((cfgA m hO).slots t (3 : Fin 4)).cast nbuf0_3)

/-- Window w's block at point t. -/
def iblk (c : Dev nD) (w : Fin (cfgA m hO).W) (t : Fin (cfgA m hO).N) : (((cfgA m hO).win w).xblock ((cfgA m hO).grid.coords t)).Idx → Elt F ((cfgA m hO).win w).elt :=
  (((cfgA m hO).win w).blk t).view.read (Elt F) (m (((cfgA m hO).win w).arr.view.loc (c : Thread nD τ)))

abbrev xb (c : Dev nD) (t : Fin (cfgA m hO).N) : S256x4096.Idx → Elt F .bf16 := iblk m hO c (0 : Fin 4) t
abbrev gb (c : Dev nD) (t : Fin (cfgA m hO).N) : S1x4096x512.Idx → Elt F .f32 := iblk m hO c (1 : Fin 4) t
abbrev ub (c : Dev nD) (t : Fin (cfgA m hO).N) : S1x4096x512.Idx → Elt F .f32 := iblk m hO c (2 : Fin 4) t

theorem gb_congr (c : Dev nD) (t t' : Fin (cfgA m hO).N) (h : cc0_transform_1 k0_off1_inb numel1_S1 (tb m) (crd m hO t) = cc0_transform_1 k0_off1_inb numel1_S1 (tb m) (crd m hO t')) :
    gb m hO c t = gb m hO c t' := by
  funext z
  show m (((cfgA m hO).win 1).arr.view.loc (c : Thread nD τ)) ((((cfgA m hO).win 1).blk t).view.emb z) = m (((cfgA m hO).win 1).arr.view.loc (c : Thread nD τ)) ((((cfgA m hO).win 1).blk t').view.emb z)
  refine congrArg (m (((cfgA m hO).win 1).arr.view.loc (c : Thread nD τ))) (funext fun (x : Fin 3) => Fin.ext ?_)
  show cc0_transform_1 k0_off1_inb numel1_S1 (tb m) (crd m hO t) x * _ + 1 * _ = cc0_transform_1 k0_off1_inb numel1_S1 (tb m) (crd m hO t') x * _ + 1 * _
  rw [h]
theorem ub_congr (c : Dev nD) (t t' : Fin (cfgA m hO).N) (h : cc0_transform_2 k0_off1_inb numel1_S1 (tb m) (crd m hO t) = cc0_transform_2 k0_off1_inb numel1_S1 (tb m) (crd m hO t')) :
    ub m hO c t = ub m hO c t' := by
  funext z
  show m (((cfgA m hO).win 2).arr.view.loc (c : Thread nD τ)) ((((cfgA m hO).win 2).blk t).view.emb z) = m (((cfgA m hO).win 2).arr.view.loc (c : Thread nD τ)) ((((cfgA m hO).win 2).blk t').view.emb z)
  refine congrArg (m (((cfgA m hO).win 2).arr.view.loc (c : Thread nD τ))) (funext fun (x : Fin 3) => Fin.ext ?_)
  show cc0_transform_2 k0_off1_inb numel1_S1 (tb m) (crd m hO t) x * _ + 1 * _ = cc0_transform_2 k0_off1_inb numel1_S1 (tb m) (crd m hO t') x * _ + 1 * _
  rw [h]

/-- Whether the block at point t is filled. -/
abbrev live (t : Fin (cfgA m hO).N) : Bool := below (crd m hO t) (nW (tN m))

/-- What point t leaves. -/
def outU (c : Dev nD) (t : Fin (cfgA m hO).N) : FVec F S256x512 .bf16 :=
  if live m hO t = true then k0_pay3 (xb m hO c t) (k0_pay1 (gb m hO c t)) (k0_pay2 (ub m hO c t)) else k0_pay4 (F := F)

/-- What the scratches hold before position n: the cast weights of the point before, if its block is filled. -/
def Held0 (c : Dev nD) (n : ℕ) (a : Buf (Elt F) ((c : Thread nD τ).loc cc0_scratch0)) : Prop :=
  ∀ t : Fin (cfgA m hO).N, t.val + 1 = n → live m hO t = true → sM0.view.read (Elt F) a = k0_pay1 (gb m hO c t)
def Held1 (c : Dev nD) (n : ℕ) (a : Buf (Elt F) ((c : Thread nD τ).loc cc0_scratch1)) : Prop :=
  ∀ t : Fin (cfgA m hO).N, t.val + 1 = n → live m hO t = true → sM1.view.read (Elt F) a = k0_pay2 (ub m hO c t)

/-- A filled block whose weights are not cast anew: the scratches hold its weights. -/
theorem held_keep (c : Dev nD) (t : Fin (cfgA m hO).N) (a0 : Buf (Elt F) ((c : Thread nD τ).loc cc0_scratch0)) (a1 : Buf (Elt F) ((c : Thread nD τ).loc cc0_scratch1))
    (h0 : Held0 m hO c t.val a0) (h1 : Held1 m hO c t.val a1) (hl : live m hO t = true) (hf : ¬ fills (crd m hO t) (tE m) (tN m) = 1#1) :
    sM0.view.read (Elt F) a0 = k0_pay1 (gb m hO c t) ∧ sM1.view.read (Elt F) a1 = k0_pay2 (ub m hO c t) := by
  rw [fills_iff] at hf
  have hn := not_or.1 (fun h => hf ⟨hl, h⟩)
  have ht := coords_val t
  have hz : t.val ≠ 0 := fun h => hn.1 (ht.trans h)
  have he : (eW (crd m hO t) (tE m) : BitVec 32) = pW (crd m hO t) (tE m) := not_not.1 hn.2
  have hlt := t.isLt
  let s : Fin (cfgA m hO).N := ⟨t.val - 1, by omega⟩
  have hs : (crd m hO s 0).val = t.val - 1 := coords_val s
  have hls : live m hO s = true := below_prev (crd m hO t) (crd m hO s) _ (by rw [hs, ht]; omega) hl
  have hx : expert (F := F) (tb m 0) ⟨(crd m hO t 0).val, coord_lt _⟩ = expert (F := F) (tb m 0) ⟨(crd m hO s 0).val, coord_lt _⟩ := by
    rw [← eW_eq (crd m hO t) (tE m), he, pW_eq (crd m hO t) (tE m) hn.1]
    exact congrArg (expert (F := F) (tE m)) (Fin.ext (by show (crd m hO t 0).val - 1 = (crd m hO s 0).val; rw [hs, ht]))
  have hsn : s.val + 1 = t.val := by show t.val - 1 + 1 = t.val; omega
  refine ⟨(h0 s hsn hls).trans (congrArg k0_pay1 (gb_congr m hO c s t ?_)), (h1 s hsn hls).trans (congrArg k0_pay2 (ub_congr m hO c s t ?_))⟩
  · rw [transform_1, transform_1, hx]
  · rw [transform_2, transform_2, hx]

/-- The invariant before point t. -/
def Phi (c : Dev nD) (n : ℕ) : sProp (MM F) :=
  iprop((∃ a, ⌜Held0 m hO c n a⌝ ∗ (sM0.view.loc (c : Thread nD τ) ↦{fullShare} a)) ∗ (∃ a, ⌜Held1 m hO c n a⌝ ∗ (sM1.view.loc (c : Thread nD τ) ↦{fullShare} a))
    ∗ (tM0.view.loc (c : Thread nD τ) ↦{fullShare.right} tE m) ∗ (tM1.view.loc (c : Thread nD τ) ↦{fullShare.right} tN m))

/-- The proof data of the pipeline on core c. -/
def dats (_ : Fin 1) (c : Dev nD) : Dat τ (Elt F) Unit ℕ (UR sig nD τ) ℕ (cfgA m hO) c where
  A w := m (((cfgA m hO).win w).arr.view.loc (c : Thread nD τ))
  after w t := match w with
    | ⟨0, _⟩ => iblk m hO c (0 : Fin 4) t
    | ⟨1, _⟩ => iblk m hO c (1 : Fin 4) t
    | ⟨2, _⟩ => iblk m hO c (2 : Fin 4) t
    | ⟨3, _⟩ => outU m hO c t
  Φ t := Phi m hO c t.val
  q _ := fullShare
  owed _ := 0

theorem after_0 (c : Dev nD) (t : Fin (cfgA m hO).N) : (dats m hO 0 c).after (0 : Fin 4) t = iblk m hO c (0 : Fin 4) t := rfl
theorem after_1 (c : Dev nD) (t : Fin (cfgA m hO).N) : (dats m hO 0 c).after (1 : Fin 4) t = iblk m hO c (1 : Fin 4) t := rfl
theorem after_2 (c : Dev nD) (t : Fin (cfgA m hO).N) : (dats m hO 0 c).after (2 : Fin 4) t = iblk m hO c (2 : Fin 4) t := rfl
theorem after_3 (c : Dev nD) (t : Fin (cfgA m hO).N) : (dats m hO 0 c).after (3 : Fin 4) t = outU m hO c t := rfl

theorem before_0 (c : Dev nD) (t : Fin (cfgA m hO).N) (d) : (dats m hO 0 c).before (0 : Fin 4) t d = iblk m hO c (0 : Fin 4) t :=
  ((dats m hO 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hO).N) (d) : (dats m hO 0 c).before (1 : Fin 4) t d = iblk m hO c (1 : Fin 4) t :=
  ((dats m hO 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hO).N) (d) : (dats m hO 0 c).before (2 : Fin 4) t d = iblk m hO c (2 : Fin 4) t :=
  ((dats m hO 0 c).before_in_eq_fetched (2 : Fin 4) rfl (fun _ => rfl) (fun _ _ _ => rfl) (fun t => by rw [after_2]; unfold Dat.blockOf iblk; rfl) t d).trans
    (by unfold Dat.fetched Dat.blockOf iblk; rfl)

theorem idle_3 (t : Fin (cfgA m hO).N) : (cfgA m hO).idle (3 : Fin 4) ((cfgA m hO).grid.coords t) = false := by
  show (!(k0_cond2 (crd m hO t) ((tb m).atD 1 ![0]) == 1#1) && !(k0_cond3 (crd m hO t) ((tb m).atD 1 ![0]) == 1#1)) = false
  generalize (tb m).atD 1 ![0] = v
  cases h : below (crd m hO t) v with
  | true => simp [(cond2_iff (crd m hO t) v).2 h]
  | false => simp [(cond3_iff (crd m hO t) v).2 h]

/-- The body at point t. -/
abbrev bodyAt (t : Fin (cfgA m hO).N) : Prog (TpuEff nD τ sig (Elt F) Λ₀ .tc) PUnit :=
  cc0_ffn_up (crd m hO t) tM0 (Memref.isWhole_whole _) tM1 (Memref.isWhole_whole _) (ms0 m hO t) (hs0 m hO t) (ms1 m hO t) (hs1 m hO t) (ms2 m hO t) (hs2 m hO t) (ms3 m hO t) (hs3 m hO t)
    sM0 (Memref.isWhole_whole _) sM1 (Memref.isWhole_whole _)

set_option maxHeartbeats 4000000 in
theorem sound_body (c : Dev nD) (t : Fin (cfgA m hO).N) :
    iprop(Phi m hO c t.val ∗ (dats m hO 0 c).owesAt () t.castSucc
        ∗ owns (c : Thread nD τ) (ms0 m hO t) fullShare (xb m hO c t) ∗ owns (c : Thread nD τ) (ms1 m hO t) fullShare (gb m hO c t)
        ∗ owns (c : Thread nD τ) (ms2 m hO t) fullShare (ub m hO c t) ∗ (∃ d, owns (c : Thread nD τ) (ms3 m hO t) fullShare d))
      ⊢ wp frame (wpE (defs₀ (F := F)) Variants.none c none) Set.univ (bodyAt m hO t) fun _ =>
          iprop(Phi m hO c (t.val + 1) ∗ (dats m hO 0 c).owesAt () t.castSucc
            ∗ owns (c : Thread nD τ) (ms0 m hO t) fullShare (xb m hO c t) ∗ owns (c : Thread nD τ) (ms1 m hO t) fullShare (gb m hO c t)
            ∗ owns (c : Thread nD τ) (ms2 m hO t) fullShare (ub m hO c t) ∗ owns (c : Thread nD τ) (ms3 m hO t) fullShare (outU m hO c t)) := by
  unfold Phi
  have same : ∀ s : Fin (cfgA m hO).N, s.val + 1 = t.val + 1 → s = t := fun s h => Fin.ext (by omega)
  iintro ⟨⟨⟨%a0, %ha0, HS0⟩, ⟨%a1, %ha1, HS1⟩, HT0, HT1⟩, Ho, H0, H1, H2, H3⟩
  cases hl : live m hO t with
  | false =>
    have h2 : ¬ k0_cond2 (crd m hO t) (nW (tN m)) = 1#1 := fun h => by rw [cond2_iff] at h; exact absurd (h.symm.trans hl) (by decide)
    have h3 : k0_cond3 (crd m hO t) (nW (tN m)) = 1#1 := (cond3_iff _ _).2 hl
    have hc : ¬ fills (crd m hO t) (tE m) (tN m) = 1#1 := fun h => by rw [fills_iff] at h; exact absurd (h.1.symm.trans hl) (by decide)
    have ho : outU m hO c t = k0_pay4 (F := F) := by unfold outU; rw [if_neg (by rw [hl]; decide)]
    rw [ho]
    iapply (run_dead c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 a1 hc h2 h3 _)
    isplitl [H0]; · iexact H0
    isplitl [H1]; · iexact H1
    isplitl [H2]; · iexact H2
    isplitl [HT0]; · iexact HT0
    isplitl [HT1]; · iexact HT1
    isplitl [H3]; · iexact H3
    isplitl [HS0]; · iexact HS0
    isplitl [HS1]; · iexact HS1
    iintro ⟨H0, H1, H2, HT0, HT1, H3, HS0, HS1⟩
    isplitl [HS0 HS1 HT0 HT1]
    · isplitl [HS0]
      · iexists _; isplitr; swap
        · iexact HS0
        · ipureintro; intro s hs hls; rw [same s hs] at hls; exact absurd (hls.symm.trans hl) (by decide)
      isplitl [HS1]
      · iexists _; isplitr; swap
        · iexact HS1
        · ipureintro; intro s hs hls; rw [same s hs] at hls; exact absurd (hls.symm.trans hl) (by decide)
      isplitl [HT0]
      · iexact HT0
      iexact HT1
    isplitl [Ho]; · iexact Ho
    isplitl [H0]; · iexact H0
    isplitl [H1]; · iexact H1
    isplitl [H2]; · iexact H2
    iexact H3
  | true =>
    have h2 : k0_cond2 (crd m hO t) (nW (tN m)) = 1#1 := (cond2_iff _ _).2 hl
    have h3 : ¬ k0_cond3 (crd m hO t) (nW (tN m)) = 1#1 := fun h => by rw [cond3_iff] at h; exact absurd (h.symm.trans hl) (by decide)
    have ho : outU m hO c t = k0_pay3 (xb m hO c t) (k0_pay1 (gb m hO c t)) (k0_pay2 (ub m hO c t)) := by unfold outU; rw [if_pos hl]
    rw [ho]
    by_cases hc : fills (crd m hO t) (tE m) (tN m) = 1#1
    · iapply (run_fill c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 a1 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, ⟨%b0, %hb0, HS0⟩, ⟨%b1, %hb1, HS1⟩⟩
      isplitl [HS0 HS1 HT0 HT1]
      · isplitl [HS0]
        · iexists _; isplitr; swap
          · iexact HS0
          · ipureintro; intro s hs hls; rw [same s hs]; exact hb0
        isplitl [HS1]
        · iexists _; isplitr; swap
          · iexact HS1
          · ipureintro; intro s hs hls; rw [same s hs]; exact hb1
        isplitl [HT0]
        · iexact HT0
        iexact HT1
      isplitl [Ho]; · iexact Ho
      isplitl [H0]; · iexact H0
      isplitl [H1]; · iexact H1
      isplitl [H2]; · iexact H2
      iexact H3
    · obtain ⟨hk0, hk1⟩ := held_keep m hO c t a0 a1 ha0 ha1 hl hc
      rw [← hk0, ← hk1]
      iapply (run_keep c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 a1 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro s hs hls; rw [same s hs]; exact hk0
        isplitl [HS1]
        · iexists _; isplitr; swap
          · iexact HS1
          · ipureintro; intro s hs hls; rw [same s hs]; exact hk1
        isplitl [HT0]
        · iexact HT0
        iexact HT1
      isplitl [Ho]; · iexact Ho
      isplitl [H0]; · iexact H0
      isplitl [H1]; · iexact H1
      isplitl [H2]; · iexact H2
      iexact H3

set_option maxHeartbeats 4000000 in
/-- The library's body obligation, at every point. -/
theorem body_obligation (c : Dev nD) : BodyObligation (dats m hO 0 c) (defs₀ (F := F)) Variants.none () Set.univ := fun t => by
  rw [bigSep_W0, bigSep_W0]
  rewrite [idle_3 m hO t]
  simp only [before_0, before_1, before_2, after_0, after_1, after_2, after_3]
  rewrite [show (dats m hO 0 c).Φ t.succ = Phi m hO c (t.val + 1) from rfl, show (dats m hO 0 c).Φ t.castSucc = Phi m hO c t.val from rfl,
    show (dats m hO 0 c).owesAt () t.succ = (dats m hO 0 c).owesAt () t.castSucc from rfl]
  refine BIBase.Entails.trans ?_ (sound_body m hO c t)
  iintro ⟨HP, Ho, ⟨%d0, H0⟩, ⟨%d1, H1⟩, ⟨%d2, H2⟩, ⟨%d3, H3⟩⟩
  isplitl [HP]; · iexact HP
  isplitl [Ho]; · iexact Ho
  isplitl [H0]; · iexact H0
  isplitl [H1]; · iexact H1
  isplitl [H2]; · iexact H2
  iexists _; iexact H3

/-! ## The launch -/

/-- The proof's resource algebra: the rounds library's. -/
abbrev EP : Emb (UR sig nD τ) (MM F) := emb₁

/-- The rounds library's launch element. -/
def u₀ : UR sig nD τ :=
  initOf (Pipeline.cells (pcs m hO) ((launch0 (F := F)).cellOf_inj fun _ => adm m hO))
    (Pipeline.launchToks (pcs m hO) ((launch0 (F := F)).cellOf_inj fun _ => adm m hO))

theorem share_eq (c : Dev nD) (w : Fin (cfgA m hO).W) : (dats m hO 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hO).1 ∗ Pipeline.scopedRest spec0 c) ⊢ (dats m hO 0 c).Φ 0 := by
  rw [prefHeld_eq, scopedRest0_eq, show (dats m hO 0 c).Φ 0 = Phi m hO c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]
  · iexact HT0
  iexact HT1

theorem phiN_exit (c : Dev nD) : (dats m hO 0 c).Φ (Fin.last (cfgA m hO).N) ⊢ iprop(BI.emp ∗ Pipeline.scopedRest spec0 c) := by
  rw [scopedRest0_eq, show (dats m hO 0 c).Φ (Fin.last (cfgA m hO).N) = Phi m hO c (Fin.last (cfgA m hO).N).val from rfl]
  unfold Phi
  iintro ⟨⟨%a0, -, HS0⟩, ⟨%a1, -, HS1⟩, -, -⟩
  isplitr; · iempintro
  isplitl [HS0]
  · iexists a0; iexact HS0
  iexists a1; iexact HS1

/-- The arrays and the tables at the end. -/
def QC : PUnit × MemSt nD τ sig (Elt F) → Prop := fun r =>
  ∀ c : Dev nD, (∀ w : Fin (cfgA m hO).W, r.2.mem (((cfgA m hO).win w).arr.view.loc (c : Thread nD τ)) = (dats m hO 0 c).arrAt w (cfgA m hO).N)
    ∧ ∀ j, r.2.mem ((c : Thread nD τ).loc (pre0.ref j)) = (adm m hO).1 j

theorem V_pre (c : Dev nD) (j : Fin 2) : m ((c : Thread nD τ).loc (pre0.ref j)) = (adm m hO).1 j := by
  obtain rfl : c = 0 := Subsingleton.elim _ _
  rfl

set_option backward.isDefEq.respectTransparency.types false in
set_option maxHeartbeats 4000000 in
/-- From any memory with zero counters whose tables name blocks inside the weights, every fair execution ends, with the arrays at the
    computed contents and every counter at zero. -/
theorem run_main_quiescent : θ_run (defs (F := F)) (onTc (τ := τ) (main (F := F))) (s₀ m ρ) (fun r => QC m hO r ∧ r.2.sem = fun _ => 0) :=
  Pipeline.θ_run_region_noSem_pf_quiescent pcfgs (fun _ => adm m hO) (dats m hO) () ((launch0 (F := F)).cellOf_inj fun _ => adm m hO) (0 : Fin 1)
    (launch0 (F := F)).win.to₀ (launch0 (F := F)).pre EP defs₀ Variants.none m ρ main
    (hbody := fun c => (body_obligation m hO c).loose) (hne := (launch0 (F := F)).block_pos)
    (harr := (launch0 (F := F)).arr_whole) (hstage := (launch0 (F := F)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := F)).win.arr_inj c (launch0 (F := F)).arr_whole
      (share_eq m hO c) _ _ fun _ => rfl)
    (hpf := V_pre m hO)
    (X := fun _ => iprop(emp)) (Y := fun _ => iprop(emp)) (Z := fun _ => iprop(emp))
    (hX := fun c => by rw [unscopedRestP0_eq]; iintro -; isplitr <;> iempintro)
    (hin := phi0_intro m hO)
    (hout := phiN_exit m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hO in
/-- The arguments at the end. -/
theorem unchanged :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (0 : Fin 4)).trans ((dats m hO 0 c).arrAt_in (0 : Fin 4) rfl _), ((h.1 c).1 (1 : Fin 4)).trans ((dats m hO 0 c).arrAt_in (1 : Fin 4) rfl _),
    ((h.1 c).1 (2 : Fin 4)).trans ((dats m hO 0 c).arrAt_in (2 : Fin 4) rfl _), ((h.1 c).2 0).trans (V_pre m hO c 0).symm, ((h.1 c).2 1).trans (V_pre m hO c 1).symm⟩) (run_main_quiescent m ρ hO)

include hO in
/-- The frame. -/
theorem frame_up :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Proof.ExpUp

end
-- ==== Proof.ExpUpSum.lean ====
/- Hand-written: WHAT THE EXPERTS' UP PROJECTION COMPUTES, at an entry, over the extended reals: the row's block names an expert;
   the entry is the gate product times its logistic times the up product, or zero past the filled blocks. -/
module

public import proofs.«01_k».proof.Kernel4Ideal
public import Idealize.ShloMosaic.Lib.ValueIdx

@[expose] public section

noncomputable section

namespace Cert.Proof.ExpUp

open Cert.Kernel4Ideal
open Idealize.ShloMosaic Idealize.ShloMosaic.ValueIdx
open scoped BigOperators

/-- A row times a column of expert e's weights. -/
def prod (x : FVec Idealize.ShloMosaic.Ideal S81920x4096 .bf16) (w : FVec Idealize.ShloMosaic.Ideal S64x4096x512 .f32) (e : Fin 64) (r : Fin 81920) (j : Fin 512) : EReal :=
  ∑ k : Fin 4096, x (ix2 r k) * w (ix3 e k j)

/-- The entry of block b, row i, column j. -/
def upAt (x : FVec Idealize.ShloMosaic.Ideal S81920x4096 .bf16) (g u : FVec Idealize.ShloMosaic.Ideal S64x4096x512 .f32) (be : IVec S320 32) (nv : IVec S1 32)
    (hlt : ∀ k : Fin 320, (be (ix1 k)).toNat < 64) (b : Fin 320) (i : Fin 256) (j : Fin 512) : EReal :=
  if BitVec.slt (BitVec.ofNat 32 b.val) (nv (ix1 0)) = true then
    prod x g ⟨(be (ix1 b)).toNat, hlt b⟩ ⟨b.val * 256 + i.val, by omega⟩ j
      * Idealize.ShloMosaic.Ideal.logistic (prod x g ⟨(be (ix1 b)).toNat, hlt b⟩ ⟨b.val * 256 + i.val, by omega⟩ j)
      * prod x u ⟨(be (ix1 b)).toNat, hlt b⟩ ⟨b.val * 256 + i.val, by omega⟩ j
  else 0

end Cert.Proof.ExpUp

end
-- ==== Proof.ExpUpArray.lean ====
/- Hand-written: THE ARRAY THE EXPERTS' UP PROJECTION LEAVES, over the extended reals: the blocks a grid point reads, the body's
   products at an entry, and the array block by block (`up_array`). -/
module

public import proofs.«01_k».proof.Proof.ExpUpFrame
public import proofs.«01_k».proof.Proof.ExpUpSum
public import Idealize.ShloMosaic.Lib.Pipeline.Value
public import Idealize.ShloMosaic.Lib.Pipeline.ValueKit.Geometry
public import Idealize.ShloMosaic.Lib.MatmulPlain
public import Idealize.ShloMosaic.Lib.IdealHost

@[expose] public section

set_option maxRecDepth 16384

noncomputable section

namespace Cert.Proof.ExpUp

open Cert.Kernel4Ideal Cert.Kernel4Ideal.Gen
open Idealize.ShloMosaic Idealize.ShloMosaic.TcCoe Idealize.ShloMosaic.ValueIdx
open Idealize.ShloMosaic.Pipeline (Dat Cfg Window)
open scoped BigOperators

/-! ## The body's values at an entry -/

theorem cast1_apply (w : FVec Idealize.ShloMosaic.Ideal S1x4096x512 .f32) (k : Fin 4096) (j : Fin 512) :
    k0_pay1 (F := Idealize.ShloMosaic.Ideal) w (ix2 k j) = w (ix3 0 k j) := by
  unfold k0_pay1
  refine (shapeCast_apply _ shapeCasts_S4096x512_S4096x512 _ (ix2 k j) rfl).trans ?_
  refine (show truncf .bf16 (shapeCast S4096x512 w shapeCasts_S1x4096x512_S4096x512) bitsLt_bf16_f32 (ix2 k j) = shapeCast S4096x512 w shapeCasts_S1x4096x512_S4096x512 (ix2 k j) from rfl).trans ?_
  refine shapeCast_apply _ shapeCasts_S1x4096x512_S4096x512 _ _ ?_
  rw [Shape.rowMajor_val_three, Shape.rowMajor_val_two]
  show (0 * 4096 + k.val) * 512 + j.val = k.val * 512 + j.val
  omega

theorem cast2_apply (w : FVec Idealize.ShloMosaic.Ideal S1x4096x512 .f32) (k : Fin 4096) (j : Fin 512) :
    k0_pay2 (F := Idealize.ShloMosaic.Ideal) w (ix2 k j) = w (ix3 0 k j) := by
  unfold k0_pay2
  refine (shapeCast_apply _ shapeCasts_S4096x512_S4096x512 _ (ix2 k j) rfl).trans ?_
  refine (show truncf .bf16 (shapeCast S4096x512 w shapeCasts_S1x4096x512_S4096x512) bitsLt_bf16_f32 (ix2 k j) = shapeCast S4096x512 w shapeCasts_S1x4096x512_S4096x512 (ix2 k j) from rfl).trans ?_
  refine shapeCast_apply _ shapeCasts_S1x4096x512_S4096x512 _ _ ?_
  rw [Shape.rowMajor_val_three, Shape.rowMajor_val_two]
  show (0 * 4096 + k.val) * 512 + j.val = k.val * 512 + j.val
  omega

theorem mat_apply (x : FVec Idealize.ShloMosaic.Ideal S256x4096 .bf16) (w : FVec Idealize.ShloMosaic.Ideal S4096x512 .bf16) (i : Fin 256) (j : Fin 512) :
    matmul dot_S256x4096_S4096x512_S256x512_1_0_0_1_n_n none x w (constant (F := Idealize.ShloMosaic.Ideal) S256x512 .f32 0x00000000#32) (ix2 i j)
      = ∑ k : Fin 4096, x (ix2 i k) * w (ix2 k j) := by
  refine (Ideal.matmul_plain_apply (M := 256) (K := 4096) (N := 512) none _ _ _ _ _).trans ?_
  exact (congrArg (fun z : EReal => z + _) (Ideal.ofBits_zero_f32)).trans (zero_add _)

theorem full_apply (x : FVec Idealize.ShloMosaic.Ideal S256x4096 .bf16) (g u : FVec Idealize.ShloMosaic.Ideal S4096x512 .bf16) (i : Fin 256) (j : Fin 512) :
    k0_pay3 (F := Idealize.ShloMosaic.Ideal) x g u (ix2 i j)
      = ((∑ k : Fin 4096, x (ix2 i k) * g (ix2 k j)) * Idealize.ShloMosaic.Ideal.logistic (∑ k : Fin 4096, x (ix2 i k) * g (ix2 k j))
          * (∑ k : Fin 4096, x (ix2 i k) * u (ix2 k j)) : EReal) := by
  rw [← mat_apply x g i j, ← mat_apply x u i j]
  rfl

theorem zero_apply (y : S256x512.Idx) : k0_pay4 (F := Idealize.ShloMosaic.Ideal) y = (0 : EReal) :=
  Ideal.ofBits_zero_bf16

/-! ## The blocks -/

variable (m : (ℓ : Loc nD τ sig) → Buf (Elt Idealize.ShloMosaic.Ideal) ℓ)

abbrev aX : FVec Idealize.ShloMosaic.Ideal S81920x4096 .bf16 := m (((0 : Dev nD) : Thread nD τ).loc main_arg0)
abbrev aG : FVec Idealize.ShloMosaic.Ideal S64x4096x512 .f32 := m (((0 : Dev nD) : Thread nD τ).loc main_arg1)
abbrev aU : FVec Idealize.ShloMosaic.Ideal S64x4096x512 .f32 := m (((0 : Dev nD) : Thread nD τ).loc main_arg2)
abbrev aE : IVec S320 32 := m (((0 : Dev nD) : Thread nD τ).loc main_arg3)
abbrev aN : IVec S1 32 := m (((0 : Dev nD) : Thread nD τ).loc main_arg4)

variable (hlt : ∀ k : Fin 320, BitVec.toNat (w := 32) (aE m (ix1 k)) < 64) (hO : Ok m)

theorem transform_0 (i : grid0.Coords) : cc0_transform_0 i = ![(i 0).val, 0] := by
  have h0 := coord_lt i
  unfold cc0_transform_0
  have e0 : (BitVec.ofNat 32 (i 0).val).toNat = (i 0).val := by rw [BitVec.toNat_ofNat]; omega
  show ![(BitVec.ofNat 32 (i 0).val).toNat, 0] = _
  rw [e0]

theorem transform_3 (i : grid0.Coords) : cc0_transform_3 i = ![(i 0).val, 0] := transform_0 i

theorem x_block (t : Fin (cfgA m hO).N) (b : Fin 320) (hb : (grid0.coords t 0).val = b.val) (i : Fin 256) (k : Fin 4096) :
    xb m hO 0 t (ix2 i k) = aX m (ix2 ⟨b.val * 256 + i.val, by omega⟩ k) := by
  have ht := transform_0 (grid0.coords t)
  show aX m ((((cfgA m hO).win 0).blk t).view.emb (ix2 i k)) = aX m _
  refine congrArg (aX m) (funext fun (x : Fin 2) => Fin.ext ?_)
  match x with
  | ⟨0, _⟩ => show cc0_transform_0 (grid0.coords t) (0 : Fin 2) * 256 + 1 * i.val = _; rw [ht]; show (grid0.coords t 0).val * 256 + 1 * i.val = b.val * 256 + i.val; omega
  | ⟨1, _⟩ => show cc0_transform_0 (grid0.coords t) (1 : Fin 2) * 4096 + 1 * k.val = k.val; rw [ht]; show 0 * 4096 + 1 * k.val = k.val; omega

theorem g_block (t : Fin (cfgA m hO).N) (b : Fin 320) (hb : (grid0.coords t 0).val = b.val) (k : Fin 4096) (j : Fin 512) :
    gb m hO 0 t (ix3 0 k j) = aG m (ix3 ⟨(aE m (ix1 b)).toNat, hlt b⟩ k j) := by
  have ht := transform_1 (tb m) (grid0.coords t)
  have e : (⟨(grid0.coords t 0).val, coord_lt (grid0.coords t)⟩ : Fin 320) = b := Fin.ext hb
  rw [e] at ht
  show aG m ((((cfgA m hO).win 1).blk t).view.emb (ix3 0 k j)) = aG m _
  refine congrArg (aG m) (funext fun (x : Fin 3) => Fin.ext ?_)
  match x with
  | ⟨0, _⟩ => show cc0_transform_1 k0_off1_inb numel1_S1 (tb m) (grid0.coords t) (0 : Fin 3) * 1 + 1 * 0 = _; rw [ht]; show (aE m (ix1 b)).toNat * 1 + 1 * 0 = (aE m (ix1 b)).toNat; omega
  | ⟨1, _⟩ => show cc0_transform_1 k0_off1_inb numel1_S1 (tb m) (grid0.coords t) (1 : Fin 3) * 4096 + 1 * k.val = k.val; rw [ht]; show 0 * 4096 + 1 * k.val = k.val; omega
  | ⟨2, _⟩ => show cc0_transform_1 k0_off1_inb numel1_S1 (tb m) (grid0.coords t) (2 : Fin 3) * 512 + 1 * j.val = j.val; rw [ht]; show 0 * 512 + 1 * j.val = j.val; omega

theorem u_block (t : Fin (cfgA m hO).N) (b : Fin 320) (hb : (grid0.coords t 0).val = b.val) (k : Fin 4096) (j : Fin 512) :
    ub m hO 0 t (ix3 0 k j) = aU m (ix3 ⟨(aE m (ix1 b)).toNat, hlt b⟩ k j) := by
  have ht := transform_2 (tb m) (grid0.coords t)
  have e : (⟨(grid0.coords t 0).val, coord_lt (grid0.coords t)⟩ : Fin 320) = b := Fin.ext hb
  rw [e] at ht
  show aU m ((((cfgA m hO).win 2).blk t).view.emb (ix3 0 k j)) = aU m _
  refine congrArg (aU m) (funext fun (x : Fin 3) => Fin.ext ?_)
  match x with
  | ⟨0, _⟩ => show cc0_transform_2 k0_off1_inb numel1_S1 (tb m) (grid0.coords t) (0 : Fin 3) * 1 + 1 * 0 = _; rw [ht]; show (aE m (ix1 b)).toNat * 1 + 1 * 0 = (aE m (ix1 b)).toNat; omega
  | ⟨1, _⟩ => show cc0_transform_2 k0_off1_inb numel1_S1 (tb m) (grid0.coords t) (1 : Fin 3) * 4096 + 1 * k.val = k.val; rw [ht]; show 0 * 4096 + 1 * k.val = k.val; omega
  | ⟨2, _⟩ => show cc0_transform_2 k0_off1_inb numel1_S1 (tb m) (grid0.coords t) (2 : Fin 3) * 512 + 1 * j.val = j.val; rw [ht]; show 0 * 512 + 1 * j.val = j.val; omega

/-- What point b leaves, at an entry. -/
theorem out_apply (t : Fin (cfgA m hO).N) (b : Fin 320) (hb : (grid0.coords t 0).val = b.val) (i : Fin 256) (j : Fin 512) :
    outU m hO 0 t (ix2 i j) = upAt (aX m) (aG m) (aU m) (aE m) (aN m) hlt b i j := by
  have hl : live m hO t = BitVec.slt (BitVec.ofNat 32 b.val) (aN m (ix1 0)) := by
    show BitVec.slt (BitVec.ofNat 32 (grid0.coords t 0).val) (nW (tN m)) = _
    rw [hb, nW_eq]
    rfl
  unfold outU upAt
  rw [hl]
  by_cases h : BitVec.slt (BitVec.ofNat 32 b.val) (aN m (ix1 0)) = true
  · rw [if_pos h, if_pos h]
    refine (full_apply _ _ _ i j).trans ?_
    have eg : (∑ k : Fin 4096, xb m hO 0 t (ix2 i k) * k0_pay1 (F := Idealize.ShloMosaic.Ideal) (gb m hO 0 t) (ix2 k j) : EReal)
        = prod (aX m) (aG m) ⟨(aE m (ix1 b)).toNat, hlt b⟩ ⟨b.val * 256 + i.val, by omega⟩ j :=
      Finset.sum_congr rfl fun k _ => congrArg₂ (· * ·) (x_block m hO t b hb i k) ((cast1_apply _ k j).trans (g_block m hlt hO t b hb k j))
    have eu : (∑ k : Fin 4096, xb m hO 0 t (ix2 i k) * k0_pay2 (F := Idealize.ShloMosaic.Ideal) (ub m hO 0 t) (ix2 k j) : EReal)
        = prod (aX m) (aU m) ⟨(aE m (ix1 b)).toNat, hlt b⟩ ⟨b.val * 256 + i.val, by omega⟩ j :=
      Finset.sum_congr rfl fun k _ => congrArg₂ (· * ·) (x_block m hO t b hb i k) ((cast2_apply _ k j).trans (u_block m hlt hO t b hb k j))
    exact congrArg₂ (fun a c : EReal => a * Idealize.ShloMosaic.Ideal.logistic a * c) eg eu
  · rw [if_neg h, if_neg h]
    exact zero_apply _

/-! ## The array -/

/-- Where the output's block places an index. -/
theorem out_emb (t : Fin (cfgA m hO).N) (y : S256x512.Idx) :
    ((((cfgA m hO).win 3).blk t).view.emb y : S81920x512.Idx) = ix2 ⟨(grid0.coords t 0).val * 256 + (y 0).val, by
      have h0 := coord_lt (grid0.coords t); have h1 : (y 0).val < 256 := (y 0).isLt; omega⟩ (y 1) := by
  have ht := transform_3 (grid0.coords t)
  refine funext fun (a : Fin 2) => Fin.ext ?_
  match a with
  | ⟨0, _⟩ => show cc0_transform_3 (grid0.coords t) (0 : Fin 2) * 256 + 1 * (y 0).val = (grid0.coords t 0).val * 256 + (y 0).val; rw [ht]; show (grid0.coords t 0).val * 256 + 1 * (y 0).val = _; omega
  | ⟨1, _⟩ => show cc0_transform_3 (grid0.coords t) (1 : Fin 2) * 512 + 1 * (y 1).val = (y 1).val; rw [ht]; show 0 * 512 + 1 * (y 1).val = (y 1).val; omega

theorem flush_all : ∀ t : Fin grid0.N, Pipeline.Window.flushOf grid0 true cc0_transform_3 t = true := by decide +kernel

theorem flush_3 (t : Fin (cfgA m hO).N) : ((cfgA m hO).win 3).flush t = true := flush_all t

theorem point_of (b : Fin 320) : ∃ t : Fin grid0.N, (grid0.coords t 0).val = b.val :=
  ⟨⟨b.val, by rw [N_0]; exact b.isLt⟩, coords_val _⟩

/-- The array the region leaves. -/
theorem up_array :
    (dats m hO 0 (0 : Dev nD)).arrAt 3 (cfgA m hO).N
      = ((fun y : S81920x512.Idx => upAt (aX m) (aG m) (aU m) (aE m) (aN m) hlt ⟨(y 0).val / 256, by have h : (y 0).val < 81920 := (y 0).isLt; omega⟩
          ⟨(y 0).val % 256, by omega⟩ (y 1)) : FVec Idealize.ShloMosaic.Ideal S81920x512 .bf16) := by
  refine (dats m hO 0 (0 : Dev nD)).arrAt_eq_of_emb 3 _ (fun t _ y => ?_) fun i => ?_
  · refine (show _ = (dats m hO 0 (0 : Dev nD)).after 3 t y from rfl).trans ?_
    rw [after_3]
    have hy0 : (y (0 : Fin 2)).val < 256 := (y (0 : Fin 2)).isLt
    have hc := coord_lt (grid0.coords t)
    refine (congrArg (outU m hO 0 t) (eq_ix2 (y : S256x512.Idx))).trans ?_
    refine (out_apply m hlt hO t ⟨(grid0.coords t 0).val, hc⟩ rfl (y (0 : Fin 2)) (y (1 : Fin 2))).trans ?_
    refine Eq.trans ?_ (congrArg (fun y : S81920x512.Idx => upAt (aX m) (aG m) (aU m) (aE m) (aN m) hlt ⟨(y 0).val / 256, by have h : (y 0).val < 81920 := (y 0).isLt; omega⟩
          ⟨(y 0).val % 256, by omega⟩ (y 1)) (out_emb m hO t y)).symm
    have e1 : (⟨((grid0.coords t 0).val * 256 + (y (0 : Fin 2)).val) / 256, by omega⟩ : Fin 320) = ⟨(grid0.coords t 0).val, hc⟩ := Fin.ext (by
      show ((grid0.coords t 0).val * 256 + (y (0 : Fin 2)).val) / 256 = (grid0.coords t 0).val; omega)
    have e2 : (⟨((grid0.coords t 0).val * 256 + (y (0 : Fin 2)).val) % 256, by omega⟩ : Fin 256) = y (0 : Fin 2) := Fin.ext (by
      show ((grid0.coords t 0).val * 256 + (y (0 : Fin 2)).val) % 256 = (y (0 : Fin 2)).val; omega)
    exact (congrArg₂ (fun (b : Fin 320) (i : Fin 256) => upAt (aX m) (aG m) (aU m) (aE m) (aN m) hlt b i (y (1 : Fin 2))) e1 e2).symm
  · have hi : (i (0 : Fin 2)).val < 81920 := (i (0 : Fin 2)).isLt
    obtain ⟨t, h0⟩ := point_of ⟨(i (0 : Fin 2)).val / 256, by omega⟩
    refine ⟨t, flush_3 m hO t, ?_⟩
    have e : ((((cfgA m hO).win 3).blk t).view.emb (ix2 ⟨(i (0 : Fin 2)).val % 256, by omega⟩ (i (1 : Fin 2)) : S256x512.Idx) : S81920x512.Idx) = i := by
      rw [out_emb]
      refine funext fun (a : Fin 2) => Fin.ext ?_
      match a with
      | ⟨0, _⟩ => show (grid0.coords t 0).val * 256 + (i (0 : Fin 2)).val % 256 = (i (0 : Fin 2)).val; rw [h0]; show (i (0 : Fin 2)).val / 256 * 256 + (i (0 : Fin 2)).val % 256 = (i (0 : Fin 2)).val; omega
      | ⟨1, _⟩ => rfl
    rw [← e]
    exact View.emb_mem_set _ _

end Cert.Proof.ExpUp

end
-- ==== Proof.ExpUpRef.lean ====
/- Hand-written: THE REFERENCE OF THE EXPERTS' UP PROJECTION AT AN ENTRY, over the extended reals: the weights of a block's expert
   looked up at an in-range word (`gate_weights`, `up_weights`), the two products, and the result (`ref_apply`). -/
module

public import proofs.«01_k».proof.Proof.Gen.Reference4Ideal.Read
public import proofs.«01_k».proof.Proof.ExpUpSum
public import Idealize.ShloMosaic.Lib.ValueIdx
public import Idealize.ShloMosaic.Lib.Pipeline.Value
public import Idealize.ShloMosaic.Lib.IdealHost

@[expose] public section

noncomputable section

namespace Cert.Proof.ExpUpRef

open Cert.Reference4Ideal Cert.Reference4Ideal.Gen Cert.Reference4Ideal.Read
open Idealize.ShloMosaic Idealize.ShloMosaic.TcCoe Idealize.ShloMosaic.ValueIdx
open scoped BigOperators

variable (x0 : FVec Idealize.ShloMosaic.Ideal S81920x4096 .bf16) (x1 x2 : FVec Idealize.ShloMosaic.Ideal S64x4096x512 .f32) (x3 : IVec S320 32) (x4 : IVec S1 32)

theorem not_neg (w : BitVec 32) (h : w.toNat < 64) : IntOp.cmpi .slt w 0#32 = 0#1 := by
  have hs : w.slt 0#32 = false := by
    simp only [BitVec.slt, BitVec.toInt, BitVec.toNat_ofNat, decide_eq_false_iff_not]
    omega
  show BitVec.ofBool (w.slt 0#32) = 0#1
  rw [hs]; rfl

/-- A word of the table that names an expert is looked up as it is. -/
theorem word_apply (b : Fin 320) (hp : (x3 (ix1 b)).toNat < 64) (z : Fin 1) :
    val_main_v7 (F := Idealize.ShloMosaic.Ideal) x3 (ix2 b z) = x3 (ix1 b) := by
  have e : idx_main_v7 (ix2 b z) = ix1 b := by
    funext a
    match a with
    | ⟨0, _⟩ => rfl
  rw [val_main_v7_apply, e, val_main_v6_apply, val_main_v3_apply, val_main_v2_apply, val_main_c_apply, not_neg _ hp]
  rfl

/-- Only the expert's coordinate is looked up. -/
theorem start_off (I : IVec S320x1 32) (i : S320x4096x512.Idx) (y : Fin 3) (hy : y ≠ 0) :
    gather_S64x4096x512_S320x1_S320x4096x512_12_0_n_n_0_1_14096512.start i I y = 0 := by
  unfold GatherDims.start
  exact dif_neg (fun h => hy (List.mem_singleton.mp h))

/-- The lookup of a weight array through a table of words. -/
theorem gather_apply (w : FVec Idealize.ShloMosaic.Ideal S64x4096x512 .f32) (I : IVec S320x1 32) (b : Fin 320) (k : Fin 4096) (j : Fin 512) (v : BitVec 32) (hv : I (ix2 b 0) = v) (hp : v.toNat < 64) :
    Host.gather gather_S64x4096x512_S320x1_S320x4096x512_12_0_n_n_0_1_14096512 w I (ix3 b k j) = w (ix3 ⟨v.toNat, hp⟩ k j) := by
  let D := gather_S64x4096x512_S320x1_S320x4096x512_12_0_n_n_0_1_14096512
  unfold Host.gather
  refine congrArg _ (funext fun (x : Fin 3) => Fin.ext ?_)
  show D.start (ix3 b k j) I x + D.batchCoord (ix3 b k j) x + D.offCoord (ix3 b k j) x = _
  rw [GatherDims.batchCoord_eq_zero _ _ _ List.not_mem_nil]
  match x with
  | ⟨0, _⟩ =>
    rw [GatherDims.offCoord_eq_zero _ _ _ (fun h => ((GatherDims.mem_sKept _ _).mp h).1 (List.mem_singleton.mpr rfl))]
    have hst : D.start (ix3 b k j) I ⟨0, by decide⟩
        = min (I (D.siIdx (ix3 b k j) ⟨List.idxOf (0 : Fin 3) D.startIndexMap,
        List.idxOf_lt_length_iff.2 (List.mem_singleton.mpr rfl)⟩)).toInt.toNat (64 - 1) := by
      unfold GatherDims.start
      exact dif_pos (show (0 : Fin 3) ∈ D.startIndexMap from List.mem_singleton.mpr rfl)
    refine (congrArg (fun z => z + 0 + 0) hst).trans ?_
    have hsi : D.siIdx (ix3 b k j) ⟨List.idxOf (0 : Fin 3) D.startIndexMap,
        List.idxOf_lt_length_iff.2 (List.mem_singleton.mpr rfl)⟩ = ix2 b 0 := by
      funext y; refine Fin.ext ?_
      match y with
      | ⟨0, _⟩ => rfl
      | ⟨1, _⟩ => rfl
    rw [hsi, hv]
    show min v.toInt.toNat (64 - 1) + 0 + 0 = v.toNat
    have ht : v.toInt = (v.toNat : ℤ) := by
      rw [BitVec.toInt_eq_toNat_cond, if_pos (by omega)]
    rw [ht]
    omega
  | ⟨1, _⟩ => exact (congrArg₂ (· + ·) (congrArg (· + 0) (start_off I _ ⟨1, by decide⟩ (by decide))) rfl).trans (by show 0 + 0 + k.val = k.val; omega)
  | ⟨2, _⟩ => exact (congrArg₂ (· + ·) (congrArg (· + 0) (start_off I _ ⟨2, by decide⟩ (by decide))) rfl).trans (by show 0 + 0 + j.val = j.val; omega)

theorem gate_weights (b : Fin 320) (k : Fin 4096) (j : Fin 512) (hp : (x3 (ix1 b)).toNat < 64) :
    val_main_v8 (F := Idealize.ShloMosaic.Ideal) x1 x3 (ix3 b k j) = x1 (ix3 ⟨(x3 (ix1 b)).toNat, hp⟩ k j) := by
  unfold val_main_v8
  exact gather_apply x1 _ b k j _ (word_apply x3 b hp 0) hp

theorem up_weights (b : Fin 320) (k : Fin 4096) (j : Fin 512) (hp : (x3 (ix1 b)).toNat < 64) :
    val_main_v17 (F := Idealize.ShloMosaic.Ideal) x2 x3 (ix3 b k j) = x2 (ix3 ⟨(x3 (ix1 b)).toNat, hp⟩ k j) := by
  unfold val_main_v17
  exact gather_apply x2 _ b k j _ (word_apply x3 b hp 0) hp

/-- The rows, block by block. -/
theorem rows_apply (b : Fin 320) (i : Fin 256) (k : Fin 4096) :
    val_main_v1 (F := Idealize.ShloMosaic.Ideal) x0 (ix3 b i k) = x0 (ix2 ⟨b.val * 256 + i.val, by omega⟩ k) := by
  rw [val_main_v1_apply]
  show val_main_v0 (F := Idealize.ShloMosaic.Ideal) x0 (ix3 b i k) = _
  unfold val_main_v0
  refine shapeCast_apply _ _ _ _ ?_
  rw [Shape.rowMajor_val_three, Shape.rowMajor_val_two]
  show (b.val * 256 + i.val) * 4096 + k.val = (b.val * 256 + i.val) * 4096 + k.val
  rfl

variable (hlt : ∀ k : Fin 320, (x3 (ix1 k)).toNat < 64)

theorem gate_apply (b : Fin 320) (i : Fin 256) (j : Fin 512) :
    val_main_v9 (F := Idealize.ShloMosaic.Ideal) x0 x1 x3 (ix3 b i j)
      = ExpUp.prod x0 x1 ⟨(x3 (ix1 b)).toNat, hlt b⟩ ⟨b.val * 256 + i.val, by omega⟩ j := by
  rw [val_main_v9_apply]
  refine Finset.sum_congr rfl fun k _ => ?_
  have el : lidx_main_v9 (ix3 b i j) k = ix3 b i k := by
    funext a
    match a with
    | ⟨0, _⟩ => rfl
    | ⟨1, _⟩ => rfl
    | ⟨2, _⟩ => rfl
  have er : ridx_main_v9 (ix3 b i j) k = ix3 b k j := by
    funext a
    match a with
    | ⟨0, _⟩ => rfl
    | ⟨1, _⟩ => rfl
    | ⟨2, _⟩ => rfl
  rw [el, er, rows_apply, gate_weights x1 x3 b k j (hlt b)]

theorem up_apply (b : Fin 320) (i : Fin 256) (j : Fin 512) :
    val_main_v18 (F := Idealize.ShloMosaic.Ideal) x0 x2 x3 (ix3 b i j)
      = ExpUp.prod x0 x2 ⟨(x3 (ix1 b)).toNat, hlt b⟩ ⟨b.val * 256 + i.val, by omega⟩ j := by
  rw [val_main_v18_apply]
  refine Finset.sum_congr rfl fun k _ => ?_
  have el : lidx_main_v18 (ix3 b i j) k = ix3 b i k := by
    funext a
    match a with
    | ⟨0, _⟩ => rfl
    | ⟨1, _⟩ => rfl
    | ⟨2, _⟩ => rfl
  have er : ridx_main_v18 (ix3 b i j) k = ix3 b k j := by
    funext a
    match a with
    | ⟨0, _⟩ => rfl
    | ⟨1, _⟩ => rfl
    | ⟨2, _⟩ => rfl
  rw [el, er, rows_apply, up_weights x2 x3 b k j (hlt b)]

/-- A product times its logistic. -/
theorem silu_apply (i : S320x256x512.Idx) (a : EReal) (ha : val_main_v9 (F := Idealize.ShloMosaic.Ideal) x0 x1 x3 i = a) :
    val_main_v10 (F := Idealize.ShloMosaic.Ideal) x0 x1 x3 i = (a * Idealize.ShloMosaic.Ideal.logistic a : EReal) := by
  rw [val_main_v10_apply, val_main_call0_v5_apply, val_main_call0_v4_apply, val_main_call0_v3_apply, val_main_call0_v2_apply, val_main_call0_v1_apply, val_main_call0_v0_apply,
    val_main_call0_cst_0_apply, val_main_call0_cst_apply, ha]
  have h1 : (FloatOps.ofBits .f32 0x3F800000#32 : Idealize.ShloMosaic.Ideal .f32) = (1 : EReal) := Ideal.ofBits_one_f32
  rw [h1]
  rfl

/-- Whether block b is filled. -/
theorem live_apply (b : Fin 320) (i : Fin 256) (j : Fin 512) :
    val_main_call1_v1 (F := Idealize.ShloMosaic.Ideal) x4 (ix3 b i j) = BitVec.ofBool (BitVec.slt (BitVec.ofNat 32 b.val) (x4 (ix1 0))) := by
  rw [val_main_call1_v1_apply, val_main_v24_apply, val_main_v23_apply, val_main_v22_apply, val_main_v20_apply]
  have h : val_main_v21 (F := Idealize.ShloMosaic.Ideal) x4 (idx_main_v22 (idx_main_v24 (idx_main_call1_v1 (ix3 b i j)))) = x4 (ix1 0) := by
    unfold val_main_v21
    refine congrArg x4 (funext fun (a : Fin 1) => ?_)
    match a with
    | ⟨0, _⟩ => exact Subsingleton.elim (α := Fin 1) _ _
  rw [h]
  rfl

/-- A block's entry. -/
theorem block_apply (b : Fin 320) (i : Fin 256) (j : Fin 512) :
    val_main_v25 (F := Idealize.ShloMosaic.Ideal) x0 x1 x2 x3 x4 (ix3 b i j) = ExpUp.upAt x0 x1 x2 x3 x4 hlt b i j := by
  rw [val_main_v25_apply, live_apply]
  unfold ExpUp.upAt
  cases h : BitVec.slt (BitVec.ofNat 32 b.val) (x4 (ix1 0))
  · rw [if_neg (by simp)]
    exact Ideal.ofBits_zero_f32
  · rw [if_pos rfl]
    show val_main_v19 (F := Idealize.ShloMosaic.Ideal) x0 x1 x2 x3 _ = _
    rw [val_main_v19_apply, silu_apply x0 x1 x3 _ _ (gate_apply x0 x1 x3 hlt _ _ _), up_apply x0 x2 x3 hlt]
    rfl

/-- The reference's result, at an entry. -/
theorem ref_apply (y : S81920x512.Idx) :
    val_main_v27 (F := Idealize.ShloMosaic.Ideal) x0 x1 x2 x3 x4 y
      = ExpUp.upAt x0 x1 x2 x3 x4 hlt ⟨(y 0).val / 256, by have h : (y 0).val < 81920 := (y 0).isLt; omega⟩ ⟨(y 0).val % 256, by omega⟩ (y 1) := by
  have h0 : (y 0).val < 81920 := (y 0).isLt
  have h1 : (y 1).val < 512 := (y 1).isLt
  rw [val_main_v27_apply]
  show val_main_v26 (F := Idealize.ShloMosaic.Ideal) x0 x1 x2 x3 x4 y = _
  rw [val_main_v26_apply]
  have ei : idx_main_v26 y = ix3 ⟨(y 0).val / 256, by omega⟩ ⟨(y 0).val % 256, by omega⟩ (⟨(y 1).val, h1⟩ : Fin 512) := by
    funext a; refine Fin.ext ?_
    match a with
    | ⟨0, _⟩ => show ((y 0).val * 512 + (y 1).val) / 131072 = (y 0).val / 256; omega
    | ⟨1, _⟩ => show ((y 0).val * 512 + (y 1).val) / 512 % 256 = (y 0).val % 256; omega
    | ⟨2, _⟩ => show ((y 0).val * 512 + (y 1).val) % 512 = (y 1).val; omega
  exact (congrArg (val_main_v25 (F := Idealize.ShloMosaic.Ideal) x0 x1 x2 x3 x4) ei).trans (block_apply x0 x1 x2 x3 x4 hlt _ _ _)

end Cert.Proof.ExpUpRef

end
-- ==== Proof.ExpUpClaims.lean ====
/- Hand-written: THE CLAIMS OF THE EXPERTS' UP PROJECTION. The precondition says that every word of the table of experts names one
   of the 64 experts, which is the frame's side condition; the value is `ExpUpArray`'s `up_array` on the kernel's side and `ExpUpRef`'s
   `ref_apply` on the reference's. -/
module

public import proofs.«01_k».proof.Defs
public import proofs.«01_k».proof.Proof.Gen.Pre_experts_in_range
public import proofs.«01_k».proof.Proof.Gen.Reference4Ideal.Run
public import proofs.«01_k».proof.Proof.Gen.Kernel4
public import proofs.«01_k».proof.Proof.ExpUpArray
public import proofs.«01_k».proof.Proof.ExpUpRef
public import Idealize.ShloMosaic.Lib.Claim

@[expose] public section

set_option maxRecDepth 16384

noncomputable section

namespace Cert.Proof.ExpUp

open Idealize.ShloMosaic Idealize.ShloMosaic.TcCoe Idealize.ShloMosaic.ValueIdx
open scoped BigOperators

/-- The precondition, at an entry of the table of experts. -/
theorem in_range {F : FTy → Type} [FloatOps F] (a0 : FVec F Cert.Kernel4Ideal.S81920x4096 .bf16) (a1 a2 : FVec F Cert.Kernel4Ideal.S64x4096x512 .f32)
    (be : IVec Cert.Kernel4Ideal.S320 32) (nv : IVec Cert.Kernel4Ideal.S1 32)
    (h : Cert.Pre_experts_in_range.fn (F := F) a0 a1 a2 be nv = fun _ => 1#1) (y : Cert.Kernel4Ideal.S320.Idx) : (be y).toNat < 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_experts_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The kernel over the extended reals runs, keeps its arguments and ends with every counter at zero. -/
theorem frame_ideal : Cert.quiescent_Kernel4Ideal := fun m g h =>
  frame_up m g (ok_of_lt m fun k => in_range _ _ _ _ _ (h 0) (ix1 k))

/-! ## The same program over the floating-point formats

The two printings of the kernel are the same definitions under two names, so the frame, which is proved for every instance of
the operations, holds of both. -/

theorem body_same {F : FTy → Type} [FloatOps F] : Kernel4.defs₀ (F := F) = Kernel4Ideal.defs₀ (F := F) := by
  refine congrArg (Defs.onTc (nD := Kernel4.nD) (τ := Kernel4.τ) (sig := Kernel4.sig) (Λ := Kernel4.Λ₀)) (funext fun p => funext fun x => ?_)
  match p, x with
  | 0, (t, s) => with_unfolding_all rfl

theorem defs_same {F : FTy → Type} [FloatOps F] : Kernel4.defs (F := F) = Kernel4Ideal.defs (F := F) := by
  refine Eq.trans (b := Pipeline.defs Kernel4.pcfgs (Kernel4Ideal.defs₀ (F := F))) (congrArg (Pipeline.defs Kernel4.pcfgs) body_same) ?_
  with_unfolding_all rfl

theorem run_same (m : (ℓ : Loc Kernel4.nD Kernel4.τ Kernel4.sig) → Buf (Elt Bits) ℓ) (g : Dev Kernel4.nD → PrngReg)
    (P : PUnit × MemSt Kernel4.nD Kernel4.τ Kernel4.sig (Elt Bits) → Prop)
    (h : θ_run (Kernel4Ideal.defs (F := Bits)) (onTc (τ := Kernel4Ideal.τ) (Kernel4Ideal.main (F := Bits))) ⟨m, fun _ => 0, g⟩ P) :
    θ_run (Kernel4.defs (F := Bits)) (onTc (τ := Kernel4.τ) (Kernel4.main (F := Bits))) ⟨m, fun _ => 0, g⟩ P := by
  rw [defs_same]; exact h

set_option backward.isDefEq.respectTransparency false in
/-- The kernel over the floating-point formats runs, keeps its arguments and ends with every counter at zero. -/
theorem frame_bits : Cert.quiescent_Kernel4 := fun m g h =>
  run_same m g _ (frame_up (F := Bits) m g (ok_of_lt (F := Bits) m fun k => in_range (F := Bits) _ _ _ _ _ (h 0) (ix1 k)))

/-- The reference over the extended reals runs, keeps its arguments and ends with every counter at zero. -/
theorem frame_ref : Cert.quiescent_Reference4Ideal := fun m g _ =>
  (θ_run Cert.Reference4Ideal.defs _ _).mono (fun r h => ⟨fun c => (h c).2, sem_eq_zero_of_no_sems (by decide) r.2⟩) (Cert.Reference4Ideal.Value.run m g)

theorem frame_ref_pre : Cert.quiescent_Reference4Ideal_pre_experts_in_range := fun m g _ =>
  (θ_run Cert.Reference4Ideal.defs _ _).mono (fun r h => ⟨fun c => (h c).2, sem_eq_zero_of_no_sems (by decide) r.2⟩) (Cert.Reference4Ideal.Value.run m g)

/-- The kernel's array and the reference's result are the same function of the arguments. -/
theorem algebraic : Cert.algebraic_Kernel4Ideal_Reference4Ideal := by
  intro m g m' g' hpre hagree
  have hlt : ∀ k : Fin 320, BitVec.toNat (w := 32) (aE m (ix1 k)) < 64 := fun k => in_range _ _ _ _ _ (hpre 0) (ix1 k)
  have hO : Ok m := ok_of_lt m hlt
  refine ⟨fun _ => ((fun y : Cert.Kernel4Ideal.S81920x512.Idx => upAt (aX m) (aG m) (aU m) (aE m) (aN m) hlt ⟨(y 0).val / 256, by have h : (y 0).val < 81920 := (y 0).isLt; omega⟩
          ⟨(y 0).val % 256, by omega⟩ (y 1)) : FVec Idealize.ShloMosaic.Ideal Cert.Kernel4Ideal.S81920x512 .bf16), ?_, ?_⟩
  · refine (θ_run Cert.Kernel4Ideal.defs _ _).mono (fun r h c => ?_)
      (θ_run_and (run_main_quiescent m g hO) (unchanged m g hO))
    obtain rfl : c = 0 := Subsingleton.elim _ _
    exact ⟨((h.1.1 0).1 3).trans (up_array m hlt hO), h.2 0⟩
  · refine (θ_run Cert.Reference4Ideal.defs _ _).mono (fun r h c => ?_) (Cert.Reference4Ideal.Value.run m' g')
    obtain rfl : c = 0 := Subsingleton.elim _ _
    refine ⟨((h 0).1.trans (Cert.Reference4Ideal.Read.val_main_v27_eq _ _ _ _ _)).trans ?_, (h 0).2⟩
    obtain ⟨h0, h1, h2, h3, h4⟩ := hagree 0
    funext y
    refine (congrFun (congr (congr (congr (congr (congrArg Cert.Reference4Ideal.Read.val_main_v27 h0) h1) h2) h3) h4) y).trans ?_
    exact ExpUpRef.ref_apply _ _ _ _ _ hlt y

end Cert.Proof.ExpUp

end
-- ==== Proof.ExpDownRun.lean ====
/- Hand-written: THE BODY OF THE EXPERTS' DOWN PROJECTION AT ONE GRID POINT, in its three cases, for any tables. -/
module

public import proofs.«01_k».proof.Defs
public import proofs.«01_k».proof.Proof.Gen.Kernel5Ideal
public import proofs.«01_k».proof.Proof.Gen.Kernel5Ideal.Launch
public import proofs.«01_k».proof.Proof.Gen.Kernel5Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Proof.ExpDown

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The model the proof is written in. -/
abbrev MM (F : FTy → Type) [FloatOps F] := MT nD τ sig Unit (Elt F) ℕ (UR sig nD τ) ℕ

/-- The two tables and the scratch, as the body holds them. -/
abbrev tM0 : Memref sig .tc .smem S320 .i32 := Memref.whole main_arg3
abbrev tM1 : Memref sig .tc .smem S1 .i32 := Memref.whole main_arg4
abbrev sM0 : Memref sig .tc .vmem S512x4096 .bf16 := Memref.whole cc0_scratch0

/-- The number of filled blocks, the expert of the block at hand, the expert of the block before: as the body reads them. -/
abbrev nW (T1 : S1.Idx → Elt F .i32) : Elt F .i32 :=
  View.readAt (Elt F) (tM1).view (Rect.unit (s := S1) ![0] S1.size inb_S1_S1_0).toLoadRect T1 (Shape.Idx.first (numel1_S1.symm ▸ Nat.one_pos))
abbrev eW (i : grid0.Coords) (T0 : S320.Idx → Elt F .i32) : Elt F .i32 :=
  View.readAt (Elt F) (tM0).view (Rect.unit (s := S320) (k0_off1 i) S1.size (k0_off1_inb i)).toLoadRect T0 (Shape.Idx.first (numel1_S1.symm ▸ Nat.one_pos))
abbrev pW (i : grid0.Coords) (T0 : S320.Idx → Elt F .i32) : Elt F .i32 :=
  View.readAt (Elt F) (tM0).view (Rect.unit (s := S320) (k0_off2 i) S1.size (k0_off2_inb i)).toLoadRect T0 (Shape.Idx.first (numel1_S1.symm ▸ Nat.one_pos))

/-- Whether the body casts the weights at the point: the block is filled, and its expert is not the one before. -/
abbrev fills (i : grid0.Coords) (T0 : S320.Idx → Elt F .i32) (T1 : S1.Idx → Elt F .i32) : BitVec 1 :=
  Scalar.cmpi .ne (Scalar.extui (Scalar.andi (Scalar.cmpi .slt (BitVec.ofNat 32 (i 0).val) (nW T1)) (Scalar.ori (Scalar.cmpi .eq (BitVec.ofNat 32 (i 0).val) 0#32) (Scalar.cmpi .ne (eW i T0) (pW i T0)))) : BitVec 32) 0#32

set_option maxHeartbeats 8000000 in
/-- A point past the filled blocks: the body stores zeros and reads nothing else. -/
theorem run_dead (c : Dev nD) (i : grid0.Coords) (arg3 : Memref sig .tc .vmem S256x512 .bf16) (harg3 : arg3.IsWhole) (arg4 : Memref sig .tc .vmem S1x512x4096 .f32) (harg4 : arg4.IsWhole)
    (arg5 : Memref sig .tc .vmem S256x1 .f32) (harg5 : arg5.IsWhole) (arg6 : Memref sig .tc .vmem S256x4096 .f32) (harg6 : arg6.IsWhole)
    (T0 : S320.Idx → Elt F .i32) (T1 : S1.Idx → Elt F .i32)
    (x0 : S256x512.Idx → Elt F .bf16) (x1 : S1x512x4096.Idx → Elt F .f32) (x2 : S256x1.Idx → Elt F .f32)
    (a0 : Buf (Elt F) ((c : Thread nD τ).loc cc0_scratch0))
    (hc : ¬(fills i T0 T1 = 1#1)) (h2 : ¬(k0_cond2 i (nW T1) = 1#1)) (h3 : k0_cond3 i (nW T1) = 1#1)
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay3 (F := F))
          ∗ (sM0.view.loc (c : Thread nD τ) ↦{fullShare} a0)) -∗ K ⟨⟩))
      ⊢ wp frame (wpE (defs₀ (F := F)) Variants.none c none) Set.univ (cc0_ffn_down i tM0 (Memref.isWhole_whole _) tM1 (Memref.isWhole_whole _) arg3 harg3 arg4 harg4 arg5 harg5 arg6 harg6
          sM0 (Memref.isWhole_whole _)) K := by
  unfold owns
  rw [cc0_ffn_down_eq_skeleton]; unfold cc0_ffn_down_skel
  iintro ⟨⟨%f0, %hf0, H0⟩, ⟨%f1, %hf1, H1⟩, ⟨%f2, %hf2, H2⟩, HT0, HT1, ⟨%d3, %f3, -, HO3⟩, HS0, Hk⟩
  have hS0 : sM0.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro; exact View.read_writes_full _ _ _ _ _
  iexact HS0

set_option maxHeartbeats 8000000 in
/-- A filled block of the same expert as before: the scratch holds the cast weights already. -/
theorem run_keep (c : Dev nD) (i : grid0.Coords) (arg3 : Memref sig .tc .vmem S256x512 .bf16) (harg3 : arg3.IsWhole) (arg4 : Memref sig .tc .vmem S1x512x4096 .f32) (harg4 : arg4.IsWhole)
    (arg5 : Memref sig .tc .vmem S256x1 .f32) (harg5 : arg5.IsWhole) (arg6 : Memref sig .tc .vmem S256x4096 .f32) (harg6 : arg6.IsWhole)
    (T0 : S320.Idx → Elt F .i32) (T1 : S1.Idx → Elt F .i32)
    (x0 : S256x512.Idx → Elt F .bf16) (x1 : S1x512x4096.Idx → Elt F .f32) (x2 : S256x1.Idx → Elt F .f32)
    (a0 : Buf (Elt F) ((c : Thread nD τ).loc cc0_scratch0))
    (hc : ¬(fills i T0 T1 = 1#1)) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay2 x0 (sM0.view.read (Elt F) a0) x2)
          ∗ (sM0.view.loc (c : Thread nD τ) ↦{fullShare} a0)) -∗ K ⟨⟩))
      ⊢ wp frame (wpE (defs₀ (F := F)) Variants.none c none) Set.univ (cc0_ffn_down i tM0 (Memref.isWhole_whole _) tM1 (Memref.isWhole_whole _) arg3 harg3 arg4 harg4 arg5 harg5 arg6 harg6
          sM0 (Memref.isWhole_whole _)) K := by
  unfold owns
  rw [cc0_ffn_down_eq_skeleton]; unfold cc0_ffn_down_skel
  iintro ⟨⟨%f0, %hf0, H0⟩, ⟨%f1, %hf1, H1⟩, ⟨%f2, %hf2, H2⟩, HT0, HT1, ⟨%d3, %f3, -, HO3⟩, HS0, Hk⟩
  have hS0 : sM0.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full, View.readAt_full, View.readAt_full, hf0, hf2]
  iexact HS0

set_option maxHeartbeats 8000000 in
/-- A filled block of a new expert: the body casts its weights into the scratch first. -/
theorem run_fill (c : Dev nD) (i : grid0.Coords) (arg3 : Memref sig .tc .vmem S256x512 .bf16) (harg3 : arg3.IsWhole) (arg4 : Memref sig .tc .vmem S1x512x4096 .f32) (harg4 : arg4.IsWhole)
    (arg5 : Memref sig .tc .vmem S256x1 .f32) (harg5 : arg5.IsWhole) (arg6 : Memref sig .tc .vmem S256x4096 .f32) (harg6 : arg6.IsWhole)
    (T0 : S320.Idx → Elt F .i32) (T1 : S1.Idx → Elt F .i32)
    (x0 : S256x512.Idx → Elt F .bf16) (x1 : S1x512x4096.Idx → Elt F .f32) (x2 : S256x1.Idx → Elt F .f32)
    (a0 : Buf (Elt F) ((c : Thread nD τ).loc cc0_scratch0))
    (hc : fills i T0 T1 = 1#1) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay2 x0 (k0_pay1 x1) x2)
          ∗ (∃ a : Buf (Elt F) ((c : Thread nD τ).loc cc0_scratch0), ⌜sM0.view.read (Elt F) a = k0_pay1 x1⌝ ∗ (sM0.view.loc (c : Thread nD τ) ↦{fullShare} a))) -∗ K ⟨⟩))
      ⊢ wp frame (wpE (defs₀ (F := F)) Variants.none c none) Set.univ (cc0_ffn_down i tM0 (Memref.isWhole_whole _) tM1 (Memref.isWhole_whole _) arg3 harg3 arg4 harg4 arg5 harg5 arg6 harg6
          sM0 (Memref.isWhole_whole _)) K := by
  unfold owns
  rw [cc0_ffn_down_eq_skeleton]; unfold cc0_ffn_down_skel
  iintro ⟨⟨%f0, %hf0, H0⟩, ⟨%f1, %hf1, H1⟩, ⟨%f2, %hf2, H2⟩, HT0, HT1, ⟨%d3, %f3, -, HO3⟩, HS0, Hk⟩
  have hS0 : sM0.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full arg3.view, hf0, View.readAt_full arg5.view, hf2]
      refine congrArg (fun z => k0_pay2 x0 z x2) ?_
      refine (View.readCov_full _ _ _ _ _).trans ?_
      rw [View.readAt_full, hf1]
  iexists _; isplitr; swap
  · iexact HS0
  · ipureintro
    refine (View.read_writes_full _ _ _ _ _).trans ?_
    rw [View.readAt_full, hf1]

end Cert.Proof.ExpDown

end
-- ==== Proof.ExpDownFrame.lean ====
/- Hand-written: THE FRAME OF THE EXPERTS' DOWN PROJECTION, for every table whose blocks lie inside the weights. Before a grid point the
   scratch holds the cast weights of the block before it, if that block was filled (`Held`); the point leaves the product of its block,
   or zeros past the filled blocks (`outU`). -/
module

public import proofs.«01_k».proof.Proof.ExpDownRun
public import Idealize.ShloMosaic.Lib.ValueIdx
public import Idealize.ShloMosaic.Lib.Claim
public import Idealize.ShloMosaic.Lib.Pipeline.Quiescent

@[expose] public section

set_option maxRecDepth 16384
set_option Elab.async false

noncomputable section

namespace Cert.Proof.ExpDown

open Cert.Kernel5Ideal Cert.Kernel5Ideal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The words the body reads -/

theorem ne_ofBool (b : Bool) : (Scalar.cmpi .ne (Scalar.extui (BitVec.ofBool b) : BitVec 32) 0#32 = 1#1) ↔ b = true := by
  cases b <;> decide

/-- Block number i is below the number of filled blocks. -/
def below (i : grid0.Coords) (v : BitVec 32) : Bool := BitVec.slt (BitVec.ofNat 32 (i 0).val) v

theorem cond2_iff (i : grid0.Coords) (v : BitVec 32) : k0_cond2 i v = 1#1 ↔ below i v = true :=
  ne_ofBool (BitVec.slt (BitVec.ofNat 32 (i 0).val) v)

theorem cond3_iff (i : grid0.Coords) (v : BitVec 32) : k0_cond3 i v = 1#1 ↔ below i v = false := by
  refine (ne_ofBool (BitVec.sle v (BitVec.ofNat 32 (i 0).val))).trans ?_
  unfold below
  rw [BitVec.sle_eq_not_slt]
  cases BitVec.slt (BitVec.ofNat 32 (i 0).val) v <;> decide

theorem coord_lt (i : grid0.Coords) : (i 0).val < 320 := (i 0).isLt

theorem below_prev (i i' : grid0.Coords) (v : BitVec 32) (h : (i' 0).val + 1 = (i 0).val) (hb : below i v = true) : below i' v = true := by
  have h0 := coord_lt i
  unfold below at hb ⊢
  simp only [BitVec.slt, decide_eq_true_eq, BitVec.toInt, BitVec.toNat_ofNat] at hb ⊢
  omega

theorem zero_iff (i : grid0.Coords) : (BitVec.ofNat 32 (i 0).val == 0#32) = true ↔ (i 0).val = 0 := by
  have h0 := coord_lt i
  rw [beq_iff_eq]
  constructor
  · intro h
    have := congrArg BitVec.toNat h
    simp only [BitVec.toNat_ofNat] at this
    omega
  · intro h; rw [h]

theorem fills_iff (i : grid0.Coords) (T0 : S320.Idx → Elt F .i32) (T1 : S1.Idx → Elt F .i32) :
    fills i T0 T1 = 1#1 ↔ below i (nW T1) = true ∧ ((i 0).val = 0 ∨ (eW i T0 : BitVec 32) ≠ pW i T0) := by
  have andi_ofBool (p q : Bool) : Scalar.andi (BitVec.ofBool p) (BitVec.ofBool q) = BitVec.ofBool (p && q) := by
    cases p <;> cases q <;> decide
  have ori_ofBool (p q : Bool) : Scalar.ori (BitVec.ofBool p) (BitVec.ofBool q) = BitVec.ofBool (p || q) := by
    cases p <;> cases q <;> decide
  have e : fills i T0 T1 = Scalar.cmpi .ne (Scalar.extui (BitVec.ofBool (below i (nW T1) && ((BitVec.ofNat 32 (i 0).val == 0#32) || ((eW i T0 : BitVec 32) != pW i T0)))) : BitVec 32) 0#32 := by
    rw [← andi_ofBool, ← ori_ofBool]
    rfl
  rw [e, ne_ofBool, Bool.and_eq_true, Bool.or_eq_true, zero_iff, bne_iff_ne]

theorem off1_val (i : grid0.Coords) : (Scalar.indexCast (BitVec.ofNat 32 (i 0).val)).toNat = (i 0).val := by
  have h0 := coord_lt i
  simp only [Scalar.indexCast]
  simp [BitVec.toNat_ofNat]
  omega

theorem off2_val (i : grid0.Coords) (h : (i 0).val ≠ 0) :
    (Scalar.indexCast (Scalar.maxsi (Scalar.subi (BitVec.ofNat 32 (i 0).val) 1#32) 0#32)).toNat = (i 0).val - 1 := by
  have h0 := coord_lt i
  have e : Scalar.subi (BitVec.ofNat 32 (i 0).val) 1#32 = BitVec.ofNat 32 ((i 0).val - 1) := by
    apply BitVec.eq_of_toNat_eq
    simp only [Scalar.subi, IntOp.subi, BitVec.toNat_sub, BitVec.toNat_ofNat]
    omega
  rw [e]
  have hall : ∀ n : Fin 320, (Scalar.indexCast (Scalar.maxsi (BitVec.ofNat 32 n.val) 0#32)).toNat = n.val := by decide +kernel
  exact hall ⟨(i 0).val - 1, by omega⟩

/-- The word of the table of experts at a block. -/
abbrev expert (T0 : S320.Idx → Elt F .i32) (k : Fin 320) : BitVec 32 := T0 (ix1 k)

theorem eW_eq (i : grid0.Coords) (T0 : S320.Idx → Elt F .i32) : (eW i T0 : BitVec 32) = expert T0 ⟨(i 0).val, coord_lt i⟩ := by
  show T0 _ = T0 _
  refine congrArg T0 (funext fun (a : Fin 1) => ?_)
  match a with
  | ⟨0, _⟩ => exact Fin.ext (show (Scalar.indexCast (BitVec.ofNat 32 (i 0).val)).toNat + 1 * 0 = (i 0).val by rw [off1_val]; omega)

theorem pW_eq (i : grid0.Coords) (T0 : S320.Idx → Elt F .i32) (h : (i 0).val ≠ 0) :
    (pW i T0 : BitVec 32) = expert T0 ⟨(i 0).val - 1, by have := coord_lt i; omega⟩ := by
  show T0 _ = T0 _
  refine congrArg T0 (funext fun (a : Fin 1) => ?_)
  match a with
  | ⟨0, _⟩ => exact Fin.ext (show (Scalar.indexCast (Scalar.maxsi (Scalar.subi (BitVec.ofNat 32 (i 0).val) 1#32) 0#32)).toNat + 1 * 0 = (i 0).val - 1 by rw [off2_val i h]; omega)

theorem nW_eq (T1 : S1.Idx → Elt F .i32) : (nW T1 : BitVec 32) = T1 (ix1 0) := by
  show T1 _ = T1 _
  refine congrArg T1 (funext fun (a : Fin 1) => ?_)
  match a with
  | ⟨0, _⟩ => exact Fin.ext rfl

theorem at_word (pf : pre0.Contents (Elt F)) (n : ℕ) (k : Fin 320) (hk : n = k.val)
    (inb : ∀ a, (![n] : Fin 1 → ℕ) a + S1.size a ≤ S320.size a) :
    pf.at 0 (Rect.unit (s := S320) ![n] S1.size inb) numel1_S1 = pf 0 (ix1 k) := by
  refine congrArg (pf 0) (funext fun (a : Fin 1) => ?_)
  match a with
  | ⟨0, _⟩ => exact Fin.ext (show n + 1 * 0 = k.val by omega)

theorem transform_1 (pf : pre0.Contents (Elt F)) (i : grid0.Coords) :
    cc0_transform_1 k0_off1_inb numel1_S1 pf i = ![(expert (F := F) (pf 0) ⟨(i 0).val, coord_lt i⟩).toNat, 0, 0] := by
  unfold cc0_transform_1
  exact congrArg (fun x : BitVec 32 => ![x.toNat, 0, 0]) (at_word pf _ ⟨(i 0).val, coord_lt i⟩ (off1_val i) _)
theorem inb_of_lt (n : ℕ) (h : n < 64) : ∀ a, ((![n, 0, 0] : Fin 3 → ℕ) a + 1) * S1x512x4096.size a ≤ S64x512x4096.size a := by
  intro a
  match a with
  | ⟨0, _⟩ => show (n + 1) * 1 ≤ 64; omega
  | ⟨1, _⟩ => simp
  | ⟨2, _⟩ => simp

theorem coords_val (t : Fin grid0.N) : (grid0.coords t 0).val = t.val := by
  revert t
  decide +kernel

variable (m : (ℓ : Loc nD τ sig) → Buf (Elt F) ℓ) (ρ : Dev nD → PrngReg)

/-! ## The tables and the pipeline at them -/

/-- The tables at launch. -/
def tb : pre0.Contents (Elt F) := fun j => m (((0 : Dev nD) : Thread nD τ).loc (pre0.ref j))
abbrev tE : S320.Idx → Elt F .i32 := tb m 0
abbrev tN : S1.Idx → Elt F .i32 := tb m 1

/-- Every block that a window names lies inside its array. -/
abbrev Ok : Prop := ok0 (tb m)

theorem ok_of_lt (h : ∀ k : Fin 320, (expert (F := F) (tE m) k).toNat < 64) : Ok m :=
  fun i => ⟨by rw [transform_1]; exact inb_of_lt _ (h _), Or.inl rfl⟩

variable (hO : Ok m)

abbrev adm : (pcfg0 (F := F)).Adm := ⟨tb m, hO⟩
abbrev cfgA : Pipeline.Cfg sig Λ₀ := cfg0 (F := F) (adm m hO)
abbrev pcs : Fin 1 → Pipeline.Cfg sig Λ₀ := Pipeline.pin (pcfgs (F := F)) fun _ => adm m hO
abbrev crd (t : Fin (cfgA m hO).N) : grid0.Coords := grid0.coords t

abbrev ms0 (t : Fin (cfgA m hO).N) : Memref sig .tc .vmem S256x512 .bf16 := spec0_0.stage ((cfgA m hO).slots t (0 : Fin 4))
abbrev hs0 (t : Fin (cfgA m hO).N) : (ms0 m hO t).IsWhole := hstage0_0 (((cfgA m hO).slots t (0 : Fin 4)).cast nbuf0_0)
abbrev ms1 (t : Fin (cfgA m hO).N) : Memref sig .tc .vmem S1x512x4096 .f32 := spec0_1.stage ((cfgA m hO).slots t (1 : Fin 4))
abbrev hs1 (t : Fin (cfgA m hO).N) : (ms1 m hO t).IsWhole := hstage0_1 (((cfgA m hO).slots t (1 : Fin 4)).cast nbuf0_1)
abbrev ms2 (t : Fin (cfgA m hO).N) : Memref sig .tc .vmem S256x1 .f32 := spec0_2.stage ((cfgA m hO).slots t (2 : Fin 4))
abbrev hs2 (t : Fin (cfgA m hO).N) : (ms2 m hO t).IsWhole := hstage0_2 (((cfgA m hO).slots t (2 : Fin 4)).cast nbuf0_2)
abbrev ms3 (t : Fin (cfgA m hO).N) : Memref sig .tc .vmem S256x4096 .f32 := spec0_3.stage ((cfgA m hO).slots t (3 : Fin 4))
abbrev hs3 (t : Fin (cfgA m hO).N) : (ms3 m hO t).IsWhole := hstage0_3 (((cfgA m hO).slots t (3 : Fin 4)).cast nbuf0_3)

/-- Window w's block at point t. -/
def iblk (c : Dev nD) (w : Fin (cfgA m hO).W) (t : Fin (cfgA m hO).N) : (((cfgA m hO).win w).xblock ((cfgA m hO).grid.coords t)).Idx → Elt F ((cfgA m hO).win w).elt :=
  (((cfgA m hO).win w).blk t).view.read (Elt F) (m (((cfgA m hO).win w).arr.view.loc (c : Thread nD τ)))

abbrev xb (c : Dev nD) (t : Fin (cfgA m hO).N) : S256x512.Idx → Elt F .bf16 := iblk m hO c (0 : Fin 4) t
abbrev gb (c : Dev nD) (t : Fin (cfgA m hO).N) : S1x512x4096.Idx → Elt F .f32 := iblk m hO c (1 : Fin 4) t
abbrev ub (c : Dev nD) (t : Fin (cfgA m hO).N) : S256x1.Idx → Elt F .f32 := iblk m hO c (2 : Fin 4) t

theorem gb_congr (c : Dev nD) (t t' : Fin (cfgA m hO).N) (h : cc0_transform_1 k0_off1_inb numel1_S1 (tb m) (crd m hO t) = cc0_transform_1 k0_off1_inb numel1_S1 (tb m) (crd m hO t')) :
    gb m hO c t = gb m hO c t' := by
  funext z
  show m (((cfgA m hO).win 1).arr.view.loc (c : Thread nD τ)) ((((cfgA m hO).win 1).blk t).view.emb z) = m (((cfgA m hO).win 1).arr.view.loc (c : Thread nD τ)) ((((cfgA m hO).win 1).blk t').view.emb z)
  refine congrArg (m (((cfgA m hO).win 1).arr.view.loc (c : Thread nD τ))) (funext fun (x : Fin 3) => Fin.ext ?_)
  show cc0_transform_1 k0_off1_inb numel1_S1 (tb m) (crd m hO t) x * _ + 1 * _ = cc0_transform_1 k0_off1_inb numel1_S1 (tb m) (crd m hO t') x * _ + 1 * _
  rw [h]
/-- Whether the block at point t is filled. -/
abbrev live (t : Fin (cfgA m hO).N) : Bool := below (crd m hO t) (nW (tN m))

/-- What point t leaves. -/
def outU (c : Dev nD) (t : Fin (cfgA m hO).N) : FVec F S256x4096 .f32 :=
  if live m hO t = true then k0_pay2 (xb m hO c t) (k0_pay1 (gb m hO c t)) (ub m hO c t) else k0_pay3 (F := F)

/-- What the scratch holds before position n: the cast weights of the point before, if its block is filled. -/
def Held0 (c : Dev nD) (n : ℕ) (a : Buf (Elt F) ((c : Thread nD τ).loc cc0_scratch0)) : Prop :=
  ∀ t : Fin (cfgA m hO).N, t.val + 1 = n → live m hO t = true → sM0.view.read (Elt F) a = k0_pay1 (gb m hO c t)

/-- A filled block whose weights are not cast anew: the scratch holds its weights. -/
theorem held_keep (c : Dev nD) (t : Fin (cfgA m hO).N) (a0 : Buf (Elt F) ((c : Thread nD τ).loc cc0_scratch0))
    (h0 : Held0 m hO c t.val a0) (hl : live m hO t = true) (hf : ¬ fills (crd m hO t) (tE m) (tN m) = 1#1) :
    sM0.view.read (Elt F) a0 = k0_pay1 (gb m hO c t) := by
  rw [fills_iff] at hf
  have hn := not_or.1 (fun h => hf ⟨hl, h⟩)
  have ht := coords_val t
  have hz : t.val ≠ 0 := fun h => hn.1 (ht.trans h)
  have he : (eW (crd m hO t) (tE m) : BitVec 32) = pW (crd m hO t) (tE m) := not_not.1 hn.2
  have hlt := t.isLt
  let s : Fin (cfgA m hO).N := ⟨t.val - 1, by omega⟩
  have hs : (crd m hO s 0).val = t.val - 1 := coords_val s
  have hls : live m hO s = true := below_prev (crd m hO t) (crd m hO s) _ (by rw [hs, ht]; omega) hl
  have hx : expert (F := F) (tb m 0) ⟨(crd m hO t 0).val, coord_lt _⟩ = expert (F := F) (tb m 0) ⟨(crd m hO s 0).val, coord_lt _⟩ := by
    rw [← eW_eq (crd m hO t) (tE m), he, pW_eq (crd m hO t) (tE m) hn.1]
    exact congrArg (expert (F := F) (tE m)) (Fin.ext (by show (crd m hO t 0).val - 1 = (crd m hO s 0).val; rw [hs, ht]))
  have hsn : s.val + 1 = t.val := by show t.val - 1 + 1 = t.val; omega
  refine (h0 s hsn hls).trans (congrArg k0_pay1 (gb_congr m hO c s t ?_))
  rw [transform_1, transform_1, hx]

/-- The invariant before point t. -/
def Phi (c : Dev nD) (n : ℕ) : sProp (MM F) :=
  iprop((∃ a, ⌜Held0 m hO c n a⌝ ∗ (sM0.view.loc (c : Thread nD τ) ↦{fullShare} a))
    ∗ (tM0.view.loc (c : Thread nD τ) ↦{fullShare.right} tE m) ∗ (tM1.view.loc (c : Thread nD τ) ↦{fullShare.right} tN m))

/-- The proof data of the pipeline on core c. -/
def dats (_ : Fin 1) (c : Dev nD) : Dat τ (Elt F) Unit ℕ (UR sig nD τ) ℕ (cfgA m hO) c where
  A w := m (((cfgA m hO).win w).arr.view.loc (c : Thread nD τ))
  after w t := match w with
    | ⟨0, _⟩ => iblk m hO c (0 : Fin 4) t
    | ⟨1, _⟩ => iblk m hO c (1 : Fin 4) t
    | ⟨2, _⟩ => iblk m hO c (2 : Fin 4) t
    | ⟨3, _⟩ => outU m hO c t
  Φ t := Phi m hO c t.val
  q _ := fullShare
  owed _ := 0

theorem after_0 (c : Dev nD) (t : Fin (cfgA m hO).N) : (dats m hO 0 c).after (0 : Fin 4) t = iblk m hO c (0 : Fin 4) t := rfl
theorem after_1 (c : Dev nD) (t : Fin (cfgA m hO).N) : (dats m hO 0 c).after (1 : Fin 4) t = iblk m hO c (1 : Fin 4) t := rfl
theorem after_2 (c : Dev nD) (t : Fin (cfgA m hO).N) : (dats m hO 0 c).after (2 : Fin 4) t = iblk m hO c (2 : Fin 4) t := rfl
theorem after_3 (c : Dev nD) (t : Fin (cfgA m hO).N) : (dats m hO 0 c).after (3 : Fin 4) t = outU m hO c t := rfl

theorem before_0 (c : Dev nD) (t : Fin (cfgA m hO).N) (d) : (dats m hO 0 c).before (0 : Fin 4) t d = iblk m hO c (0 : Fin 4) t :=
  ((dats m hO 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hO).N) (d) : (dats m hO 0 c).before (1 : Fin 4) t d = iblk m hO c (1 : Fin 4) t :=
  ((dats m hO 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hO).N) (d) : (dats m hO 0 c).before (2 : Fin 4) t d = iblk m hO c (2 : Fin 4) t :=
  ((dats m hO 0 c).before_in_eq_fetched (2 : Fin 4) rfl (fun _ => rfl) (fun _ _ _ => rfl) (fun t => by rw [after_2]; unfold Dat.blockOf iblk; rfl) t d).trans
    (by unfold Dat.fetched Dat.blockOf iblk; rfl)

theorem idle_3 (t : Fin (cfgA m hO).N) : (cfgA m hO).idle (3 : Fin 4) ((cfgA m hO).grid.coords t) = false := by
  show (!(k0_cond2 (crd m hO t) ((tb m).atD 1 ![0]) == 1#1) && !(k0_cond3 (crd m hO t) ((tb m).atD 1 ![0]) == 1#1)) = false
  generalize (tb m).atD 1 ![0] = v
  cases h : below (crd m hO t) v with
  | true => simp [(cond2_iff (crd m hO t) v).2 h]
  | false => simp [(cond3_iff (crd m hO t) v).2 h]

/-- The body at point t. -/
abbrev bodyAt (t : Fin (cfgA m hO).N) : Prog (TpuEff nD τ sig (Elt F) Λ₀ .tc) PUnit :=
  cc0_ffn_down (crd m hO t) tM0 (Memref.isWhole_whole _) tM1 (Memref.isWhole_whole _) (ms0 m hO t) (hs0 m hO t) (ms1 m hO t) (hs1 m hO t) (ms2 m hO t) (hs2 m hO t) (ms3 m hO t) (hs3 m hO t)
    sM0 (Memref.isWhole_whole _)

set_option maxHeartbeats 4000000 in
theorem sound_body (c : Dev nD) (t : Fin (cfgA m hO).N) :
    iprop(Phi m hO c t.val ∗ (dats m hO 0 c).owesAt () t.castSucc
        ∗ owns (c : Thread nD τ) (ms0 m hO t) fullShare (xb m hO c t) ∗ owns (c : Thread nD τ) (ms1 m hO t) fullShare (gb m hO c t)
        ∗ owns (c : Thread nD τ) (ms2 m hO t) fullShare (ub m hO c t) ∗ (∃ d, owns (c : Thread nD τ) (ms3 m hO t) fullShare d))
      ⊢ wp frame (wpE (defs₀ (F := F)) Variants.none c none) Set.univ (bodyAt m hO t) fun _ =>
          iprop(Phi m hO c (t.val + 1) ∗ (dats m hO 0 c).owesAt () t.castSucc
            ∗ owns (c : Thread nD τ) (ms0 m hO t) fullShare (xb m hO c t) ∗ owns (c : Thread nD τ) (ms1 m hO t) fullShare (gb m hO c t)
            ∗ owns (c : Thread nD τ) (ms2 m hO t) fullShare (ub m hO c t) ∗ owns (c : Thread nD τ) (ms3 m hO t) fullShare (outU m hO c t)) := by
  unfold Phi
  have same : ∀ s : Fin (cfgA m hO).N, s.val + 1 = t.val + 1 → s = t := fun s h => Fin.ext (by omega)
  iintro ⟨⟨⟨%a0, %ha0, HS0⟩, HT0, HT1⟩, Ho, H0, H1, H2, H3⟩
  cases hl : live m hO t with
  | false =>
    have h2 : ¬ k0_cond2 (crd m hO t) (nW (tN m)) = 1#1 := fun h => by rw [cond2_iff] at h; exact absurd (h.symm.trans hl) (by decide)
    have h3 : k0_cond3 (crd m hO t) (nW (tN m)) = 1#1 := (cond3_iff _ _).2 hl
    have hc : ¬ fills (crd m hO t) (tE m) (tN m) = 1#1 := fun h => by rw [fills_iff] at h; exact absurd (h.1.symm.trans hl) (by decide)
    have ho : outU m hO c t = k0_pay3 (F := F) := by unfold outU; rw [if_neg (by rw [hl]; decide)]
    rw [ho]
    iapply (run_dead c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 hc h2 h3 _)
    isplitl [H0]; · iexact H0
    isplitl [H1]; · iexact H1
    isplitl [H2]; · iexact H2
    isplitl [HT0]; · iexact HT0
    isplitl [HT1]; · iexact HT1
    isplitl [H3]; · iexact H3
    isplitl [HS0]; · iexact HS0
    iintro ⟨H0, H1, H2, HT0, HT1, H3, HS0⟩
    isplitl [HS0 HT0 HT1]
    · isplitl [HS0]
      · iexists _; isplitr; swap
        · iexact HS0
        · ipureintro; intro s hs hls; rw [same s hs] at hls; exact absurd (hls.symm.trans hl) (by decide)
      isplitl [HT0]
      · iexact HT0
      iexact HT1
    isplitl [Ho]; · iexact Ho
    isplitl [H0]; · iexact H0
    isplitl [H1]; · iexact H1
    isplitl [H2]; · iexact H2
    iexact H3
  | true =>
    have h2 : k0_cond2 (crd m hO t) (nW (tN m)) = 1#1 := (cond2_iff _ _).2 hl
    have h3 : ¬ k0_cond3 (crd m hO t) (nW (tN m)) = 1#1 := fun h => by rw [cond3_iff] at h; exact absurd (h.symm.trans hl) (by decide)
    have ho : outU m hO c t = k0_pay2 (xb m hO c t) (k0_pay1 (gb m hO c t)) (ub m hO c t) := by unfold outU; rw [if_pos hl]
    rw [ho]
    by_cases hc : fills (crd m hO t) (tE m) (tN m) = 1#1
    · iapply (run_fill c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      iintro ⟨H0, H1, H2, HT0, HT1, H3, ⟨%b0, %hb0, HS0⟩⟩
      isplitl [HS0 HT0 HT1]
      · isplitl [HS0]
        · iexists _; isplitr; swap
          · iexact HS0
          · ipureintro; intro s hs hls; rw [same s hs]; exact hb0
        isplitl [HT0]
        · iexact HT0
        iexact HT1
      isplitl [Ho]; · iexact Ho
      isplitl [H0]; · iexact H0
      isplitl [H1]; · iexact H1
      isplitl [H2]; · iexact H2
      iexact H3
    · have hk0 := held_keep m hO c t a0 ha0 hl hc
      rw [← hk0]
      iapply (run_keep c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      iintro ⟨H0, H1, H2, HT0, HT1, H3, HS0⟩
      isplitl [HS0 HT0 HT1]
      · isplitl [HS0]
        · iexists _; isplitr; swap
          · iexact HS0
          · ipureintro; intro s hs hls; rw [same s hs]; exact hk0
        isplitl [HT0]
        · iexact HT0
        iexact HT1
      isplitl [Ho]; · iexact Ho
      isplitl [H0]; · iexact H0
      isplitl [H1]; · iexact H1
      isplitl [H2]; · iexact H2
      iexact H3

set_option maxHeartbeats 4000000 in
/-- The library's body obligation, at every point. -/
theorem body_obligation (c : Dev nD) : BodyObligation (dats m hO 0 c) (defs₀ (F := F)) Variants.none () Set.univ := fun t => by
  rw [bigSep_W0, bigSep_W0]
  rewrite [idle_3 m hO t]
  simp only [before_0, before_1, before_2, after_0, after_1, after_2, after_3]
  rewrite [show (dats m hO 0 c).Φ t.succ = Phi m hO c (t.val + 1) from rfl, show (dats m hO 0 c).Φ t.castSucc = Phi m hO c t.val from rfl,
    show (dats m hO 0 c).owesAt () t.succ = (dats m hO 0 c).owesAt () t.castSucc from rfl]
  refine BIBase.Entails.trans ?_ (sound_body m hO c t)
  iintro ⟨HP, Ho, ⟨%d0, H0⟩, ⟨%d1, H1⟩, ⟨%d2, H2⟩, ⟨%d3, H3⟩⟩
  isplitl [HP]; · iexact HP
  isplitl [Ho]; · iexact Ho
  isplitl [H0]; · iexact H0
  isplitl [H1]; · iexact H1
  isplitl [H2]; · iexact H2
  iexists _; iexact H3

/-! ## The launch -/

/-- The proof's resource algebra: the rounds library's. -/
abbrev EP : Emb (UR sig nD τ) (MM F) := emb₁

/-- The rounds library's launch element. -/
def u₀ : UR sig nD τ :=
  initOf (Pipeline.cells (pcs m hO) ((launch0 (F := F)).cellOf_inj fun _ => adm m hO))
    (Pipeline.launchToks (pcs m hO) ((launch0 (F := F)).cellOf_inj fun _ => adm m hO))

theorem share_eq (c : Dev nD) (w : Fin (cfgA m hO).W) : (dats m hO 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hO).1 ∗ Pipeline.scopedRest spec0 c) ⊢ (dats m hO 0 c).Φ 0 := by
  rw [prefHeld_eq, scopedRest0_eq, show (dats m hO 0 c).Φ 0 = Phi m hO c 0 from rfl]
  unfold Phi
  iintro ⟨-, ⟨HT0, HT1⟩, ⟨%a0, HS0⟩⟩
  isplitl [HS0]
  · iexists a0; isplitr; swap
    · iexact HS0
    · ipureintro; intro s h; exact absurd h (Nat.succ_ne_zero _)
  isplitl [HT0]
  · iexact HT0
  iexact HT1

theorem phiN_exit (c : Dev nD) : (dats m hO 0 c).Φ (Fin.last (cfgA m hO).N) ⊢ iprop(BI.emp ∗ Pipeline.scopedRest spec0 c) := by
  rw [scopedRest0_eq, show (dats m hO 0 c).Φ (Fin.last (cfgA m hO).N) = Phi m hO c (Fin.last (cfgA m hO).N).val from rfl]
  unfold Phi
  iintro ⟨⟨%a0, -, HS0⟩, -, -⟩
  isplitr; · iempintro
  iexists a0; iexact HS0

/-- The arrays and the tables at the end. -/
def QC : PUnit × MemSt nD τ sig (Elt F) → Prop := fun r =>
  ∀ c : Dev nD, (∀ w : Fin (cfgA m hO).W, r.2.mem (((cfgA m hO).win w).arr.view.loc (c : Thread nD τ)) = (dats m hO 0 c).arrAt w (cfgA m hO).N)
    ∧ ∀ j, r.2.mem ((c : Thread nD τ).loc (pre0.ref j)) = (adm m hO).1 j

theorem V_pre (c : Dev nD) (j : Fin 2) : m ((c : Thread nD τ).loc (pre0.ref j)) = (adm m hO).1 j := by
  obtain rfl : c = 0 := Subsingleton.elim _ _
  rfl

set_option backward.isDefEq.respectTransparency.types false in
set_option maxHeartbeats 4000000 in
/-- From any memory with zero counters whose tables name blocks inside the weights, every fair execution ends, with the arrays at the
    computed contents and every counter at zero. -/
theorem run_main_quiescent : θ_run (defs (F := F)) (onTc (τ := τ) (main (F := F))) (s₀ m ρ) (fun r => QC m hO r ∧ r.2.sem = fun _ => 0) :=
  Pipeline.θ_run_region_noSem_pf_quiescent pcfgs (fun _ => adm m hO) (dats m hO) () ((launch0 (F := F)).cellOf_inj fun _ => adm m hO) (0 : Fin 1)
    (launch0 (F := F)).win.to₀ (launch0 (F := F)).pre EP defs₀ Variants.none m ρ main
    (hbody := fun c => (body_obligation m hO c).loose) (hne := (launch0 (F := F)).block_pos)
    (harr := (launch0 (F := F)).arr_whole) (hstage := (launch0 (F := F)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := F)).win.arr_inj c (launch0 (F := F)).arr_whole
      (share_eq m hO c) _ _ fun _ => rfl)
    (hpf := V_pre m hO)
    (X := fun _ => iprop(emp)) (Y := fun _ => iprop(emp)) (Z := fun _ => iprop(emp))
    (hX := fun c => by rw [unscopedRestP0_eq]; iintro -; isplitr <;> iempintro)
    (hin := phi0_intro m hO)
    (hout := phiN_exit m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hO in
/-- The arguments at the end. -/
theorem unchanged :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (0 : Fin 4)).trans ((dats m hO 0 c).arrAt_in (0 : Fin 4) rfl _), ((h.1 c).1 (1 : Fin 4)).trans ((dats m hO 0 c).arrAt_in (1 : Fin 4) rfl _),
    ((h.1 c).1 (2 : Fin 4)).trans ((dats m hO 0 c).arrAt_in (2 : Fin 4) rfl _), ((h.1 c).2 0).trans (V_pre m hO c 0).symm, ((h.1 c).2 1).trans (V_pre m hO c 1).symm⟩) (run_main_quiescent m ρ hO)

include hO in
/-- The frame. -/
theorem frame_down :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Proof.ExpDown

end
-- ==== Proof.ExpDownSum.lean ====
/- Hand-written: WHAT THE EXPERTS' DOWN PROJECTION COMPUTES, at an entry, over the extended reals: the row's block names an expert;
   the entry is the product with that expert's weights times the row's weight, or zero past the filled blocks. -/
module

public import proofs.«01_k».proof.Kernel5Ideal
public import Idealize.ShloMosaic.Lib.ValueIdx

@[expose] public section

noncomputable section

namespace Cert.Proof.ExpDown

open Cert.Kernel5Ideal
open Idealize.ShloMosaic Idealize.ShloMosaic.ValueIdx
open scoped BigOperators

/-- A row times a column of expert e's weights. -/
def prod (x : FVec Idealize.ShloMosaic.Ideal S81920x512 .bf16) (w : FVec Idealize.ShloMosaic.Ideal S64x512x4096 .f32) (e : Fin 64) (r : Fin 81920) (j : Fin 4096) : EReal :=
  ∑ k : Fin 512, x (ix2 r k) * w (ix3 e k j)

/-- The entry of block b, row i, column j. -/
def downAt (x : FVec Idealize.ShloMosaic.Ideal S81920x512 .bf16) (w : FVec Idealize.ShloMosaic.Ideal S64x512x4096 .f32) (rw : FVec Idealize.ShloMosaic.Ideal S81920x1 .f32) (be : IVec S320 32) (nv : IVec S1 32)
    (hlt : ∀ k : Fin 320, (be (ix1 k)).toNat < 64) (b : Fin 320) (i : Fin 256) (j : Fin 4096) : EReal :=
  if BitVec.slt (BitVec.ofNat 32 b.val) (nv (ix1 0)) = true then
    prod x w ⟨(be (ix1 b)).toNat, hlt b⟩ ⟨b.val * 256 + i.val, by omega⟩ j * rw (ix2 ⟨b.val * 256 + i.val, by omega⟩ 0)
  else 0

end Cert.Proof.ExpDown

end
-- ==== Proof.ExpDownArray.lean ====
/- Hand-written: THE ARRAY THE EXPERTS' DOWN PROJECTION LEAVES, over the extended reals: the blocks a grid point reads, the body's
   products at an entry, and the array block by block (`down_array`). -/
module

public import proofs.«01_k».proof.Proof.ExpDownFrame
public import proofs.«01_k».proof.Proof.ExpDownSum
public import Idealize.ShloMosaic.Lib.Pipeline.Value
public import Idealize.ShloMosaic.Lib.Pipeline.ValueKit.Geometry
public import Idealize.ShloMosaic.Lib.MatmulPlain
public import Idealize.ShloMosaic.Lib.IdealHost

@[expose] public section

set_option maxRecDepth 16384

noncomputable section

namespace Cert.Proof.ExpDown

open Cert.Kernel5Ideal Cert.Kernel5Ideal.Gen
open Idealize.ShloMosaic Idealize.ShloMosaic.TcCoe Idealize.ShloMosaic.ValueIdx
open Idealize.ShloMosaic.Pipeline (Dat Cfg Window)
open scoped BigOperators

/-! ## The body's values at an entry -/

theorem cast1_apply (w : FVec Idealize.ShloMosaic.Ideal S1x512x4096 .f32) (k : Fin 512) (j : Fin 4096) :
    k0_pay1 (F := Idealize.ShloMosaic.Ideal) w (ix2 k j) = w (ix3 0 k j) := by
  unfold k0_pay1
  refine (shapeCast_apply _ shapeCasts_S512x4096_S512x4096 _ (ix2 k j) rfl).trans ?_
  refine (show truncf .bf16 (shapeCast S512x4096 w shapeCasts_S1x512x4096_S512x4096) bitsLt_bf16_f32 (ix2 k j) = shapeCast S512x4096 w shapeCasts_S1x512x4096_S512x4096 (ix2 k j) from rfl).trans ?_
  refine shapeCast_apply _ shapeCasts_S1x512x4096_S512x4096 _ _ ?_
  rw [Shape.rowMajor_val_three, Shape.rowMajor_val_two]
  show (0 * 512 + k.val) * 4096 + j.val = k.val * 4096 + j.val
  omega

theorem mat_apply (x : FVec Idealize.ShloMosaic.Ideal S256x512 .bf16) (w : FVec Idealize.ShloMosaic.Ideal S512x4096 .bf16) (i : Fin 256) (j : Fin 4096) :
    matmul dot_S256x512_S512x4096_S256x4096_1_0_0_1_n_n none x w (constant (F := Idealize.ShloMosaic.Ideal) S256x4096 .f32 0x00000000#32) (ix2 i j)
      = ∑ k : Fin 512, x (ix2 i k) * w (ix2 k j) := by
  refine (Ideal.matmul_plain_apply (M := 256) (K := 512) (N := 4096) none _ _ _ _ _).trans ?_
  exact (congrArg (fun z : EReal => z + _) (Ideal.ofBits_zero_f32)).trans (zero_add _)

theorem full_apply (x : FVec Idealize.ShloMosaic.Ideal S256x512 .bf16) (w : FVec Idealize.ShloMosaic.Ideal S512x4096 .bf16) (r : FVec Idealize.ShloMosaic.Ideal S256x1 .f32) (i : Fin 256) (j : Fin 4096) :
    k0_pay2 (F := Idealize.ShloMosaic.Ideal) x w r (ix2 i j) = ((∑ k : Fin 512, x (ix2 i k) * w (ix2 k j)) * r (ix2 i 0) : EReal) := by
  rw [← mat_apply x w i j]
  have hb : broadcastTo S256x4096 r broadcasts_S256x1_S256x4096 (ix2 i j) = r (ix2 i 0) := by
    refine congrArg r (funext fun (a : Fin 2) => Fin.ext ?_)
    match a with
    | ⟨0, _⟩ => rfl
    | ⟨1, _⟩ => rfl
  rw [← hb]
  rfl

theorem zero_apply (y : S256x4096.Idx) : k0_pay3 (F := Idealize.ShloMosaic.Ideal) y = (0 : EReal) :=
  Ideal.ofBits_zero_f32

/-! ## The blocks -/

variable (m : (ℓ : Loc nD τ sig) → Buf (Elt Idealize.ShloMosaic.Ideal) ℓ)

abbrev aX : FVec Idealize.ShloMosaic.Ideal S81920x512 .bf16 := m (((0 : Dev nD) : Thread nD τ).loc main_arg0)
abbrev aW : FVec Idealize.ShloMosaic.Ideal S64x512x4096 .f32 := m (((0 : Dev nD) : Thread nD τ).loc main_arg1)
abbrev aR : FVec Idealize.ShloMosaic.Ideal S81920x1 .f32 := m (((0 : Dev nD) : Thread nD τ).loc main_arg2)
abbrev aE : IVec S320 32 := m (((0 : Dev nD) : Thread nD τ).loc main_arg3)
abbrev aN : IVec S1 32 := m (((0 : Dev nD) : Thread nD τ).loc main_arg4)

variable (hlt : ∀ k : Fin 320, BitVec.toNat (w := 32) (aE m (ix1 k)) < 64) (hO : Ok m)

theorem transform_0 (i : grid0.Coords) : cc0_transform_0 i = ![(i 0).val, 0] := by
  have h0 := coord_lt i
  unfold cc0_transform_0
  have e0 : (BitVec.ofNat 32 (i 0).val).toNat = (i 0).val := by rw [BitVec.toNat_ofNat]; omega
  show ![(BitVec.ofNat 32 (i 0).val).toNat, 0] = _
  rw [e0]

theorem transform_2 (i : grid0.Coords) : cc0_transform_2 i = ![(i 0).val, 0] := transform_0 i

theorem transform_3 (i : grid0.Coords) : cc0_transform_3 i = ![(i 0).val, 0] := transform_0 i

theorem x_block (t : Fin (cfgA m hO).N) (b : Fin 320) (hb : (grid0.coords t 0).val = b.val) (i : Fin 256) (k : Fin 512) :
    xb m hO 0 t (ix2 i k) = aX m (ix2 ⟨b.val * 256 + i.val, by omega⟩ k) := by
  have ht := transform_0 (grid0.coords t)
  show aX m ((((cfgA m hO).win 0).blk t).view.emb (ix2 i k)) = aX m _
  refine congrArg (aX m) (funext fun (x : Fin 2) => Fin.ext ?_)
  match x with
  | ⟨0, _⟩ => show cc0_transform_0 (grid0.coords t) (0 : Fin 2) * 256 + 1 * i.val = _; rw [ht]; show (grid0.coords t 0).val * 256 + 1 * i.val = b.val * 256 + i.val; omega
  | ⟨1, _⟩ => show cc0_transform_0 (grid0.coords t) (1 : Fin 2) * 512 + 1 * k.val = k.val; rw [ht]; show 0 * 512 + 1 * k.val = k.val; omega

theorem g_block (t : Fin (cfgA m hO).N) (b : Fin 320) (hb : (grid0.coords t 0).val = b.val) (k : Fin 512) (j : Fin 4096) :
    gb m hO 0 t (ix3 0 k j) = aW m (ix3 ⟨(aE m (ix1 b)).toNat, hlt b⟩ k j) := by
  have ht := transform_1 (tb m) (grid0.coords t)
  have e : (⟨(grid0.coords t 0).val, coord_lt (grid0.coords t)⟩ : Fin 320) = b := Fin.ext hb
  rw [e] at ht
  show aW m ((((cfgA m hO).win 1).blk t).view.emb (ix3 0 k j)) = aW m _
  refine congrArg (aW m) (funext fun (x : Fin 3) => Fin.ext ?_)
  match x with
  | ⟨0, _⟩ => show cc0_transform_1 k0_off1_inb numel1_S1 (tb m) (grid0.coords t) (0 : Fin 3) * 1 + 1 * 0 = _; rw [ht]; show (aE m (ix1 b)).toNat * 1 + 1 * 0 = (aE m (ix1 b)).toNat; omega
  | ⟨1, _⟩ => show cc0_transform_1 k0_off1_inb numel1_S1 (tb m) (grid0.coords t) (1 : Fin 3) * 512 + 1 * k.val = k.val; rw [ht]; show 0 * 512 + 1 * k.val = k.val; omega
  | ⟨2, _⟩ => show cc0_transform_1 k0_off1_inb numel1_S1 (tb m) (grid0.coords t) (2 : Fin 3) * 4096 + 1 * j.val = j.val; rw [ht]; show 0 * 4096 + 1 * j.val = j.val; omega

theorem r_block (t : Fin (cfgA m hO).N) (b : Fin 320) (hb : (grid0.coords t 0).val = b.val) (i : Fin 256) :
    ub m hO 0 t (ix2 i 0) = aR m (ix2 ⟨b.val * 256 + i.val, by omega⟩ 0) := by
  have ht := transform_2 (grid0.coords t)
  show aR m ((((cfgA m hO).win 2).blk t).view.emb (ix2 i 0)) = aR m _
  refine congrArg (aR m) (funext fun (x : Fin 2) => Fin.ext ?_)
  match x with
  | ⟨0, _⟩ => show cc0_transform_2 (grid0.coords t) (0 : Fin 2) * 256 + 1 * i.val = _; rw [ht]; show (grid0.coords t 0).val * 256 + 1 * i.val = b.val * 256 + i.val; omega
  | ⟨1, _⟩ => show cc0_transform_2 (grid0.coords t) (1 : Fin 2) * 1 + 1 * 0 = 0; rw [ht]; rfl

/-- What point b leaves, at an entry. -/
theorem out_apply (t : Fin (cfgA m hO).N) (b : Fin 320) (hb : (grid0.coords t 0).val = b.val) (i : Fin 256) (j : Fin 4096) :
    outU m hO 0 t (ix2 i j) = downAt (aX m) (aW m) (aR m) (aE m) (aN m) hlt b i j := by
  have hl : live m hO t = BitVec.slt (BitVec.ofNat 32 b.val) (aN m (ix1 0)) := by
    show BitVec.slt (BitVec.ofNat 32 (grid0.coords t 0).val) (nW (tN m)) = _
    rw [hb, nW_eq]
    rfl
  unfold outU downAt
  rw [hl]
  by_cases h : BitVec.slt (BitVec.ofNat 32 b.val) (aN m (ix1 0)) = true
  · rw [if_pos h, if_pos h]
    refine (full_apply _ _ _ i j).trans ?_
    have eg : (∑ k : Fin 512, xb m hO 0 t (ix2 i k) * k0_pay1 (F := Idealize.ShloMosaic.Ideal) (gb m hO 0 t) (ix2 k j) : EReal)
        = prod (aX m) (aW m) ⟨(aE m (ix1 b)).toNat, hlt b⟩ ⟨b.val * 256 + i.val, by omega⟩ j :=
      Finset.sum_congr rfl fun k _ => congrArg₂ (· * ·) (x_block m hO t b hb i k) ((cast1_apply _ k j).trans (g_block m hlt hO t b hb k j))
    exact congrArg₂ (fun a c : EReal => a * c) eg (r_block m hO t b hb i)
  · rw [if_neg h, if_neg h]
    exact zero_apply _

/-! ## The array -/

/-- Where the output's block places an index. -/
theorem out_emb (t : Fin (cfgA m hO).N) (y : S256x4096.Idx) :
    ((((cfgA m hO).win 3).blk t).view.emb y : S81920x4096.Idx) = ix2 ⟨(grid0.coords t 0).val * 256 + (y 0).val, by
      have h0 := coord_lt (grid0.coords t); have h1 : (y 0).val < 256 := (y 0).isLt; omega⟩ (y 1) := by
  have ht := transform_3 (grid0.coords t)
  refine funext fun (a : Fin 2) => Fin.ext ?_
  match a with
  | ⟨0, _⟩ => show cc0_transform_3 (grid0.coords t) (0 : Fin 2) * 256 + 1 * (y 0).val = (grid0.coords t 0).val * 256 + (y 0).val; rw [ht]; show (grid0.coords t 0).val * 256 + 1 * (y 0).val = _; omega
  | ⟨1, _⟩ => show cc0_transform_3 (grid0.coords t) (1 : Fin 2) * 4096 + 1 * (y 1).val = (y 1).val; rw [ht]; show 0 * 4096 + 1 * (y 1).val = (y 1).val; omega

theorem flush_all : ∀ t : Fin grid0.N, Pipeline.Window.flushOf grid0 true cc0_transform_3 t = true := by decide +kernel

theorem flush_3 (t : Fin (cfgA m hO).N) : ((cfgA m hO).win 3).flush t = true := flush_all t

theorem point_of (b : Fin 320) : ∃ t : Fin grid0.N, (grid0.coords t 0).val = b.val :=
  ⟨⟨b.val, by rw [N_0]; exact b.isLt⟩, coords_val _⟩

/-- The array the region leaves. -/
theorem down_array :
    (dats m hO 0 (0 : Dev nD)).arrAt 3 (cfgA m hO).N
      = ((fun y : S81920x4096.Idx => downAt (aX m) (aW m) (aR m) (aE m) (aN m) hlt ⟨(y 0).val / 256, by have h : (y 0).val < 81920 := (y 0).isLt; omega⟩
          ⟨(y 0).val % 256, by omega⟩ (y 1)) : FVec Idealize.ShloMosaic.Ideal S81920x4096 .f32) := by
  refine (dats m hO 0 (0 : Dev nD)).arrAt_eq_of_emb 3 _ (fun t _ y => ?_) fun i => ?_
  · refine (show _ = (dats m hO 0 (0 : Dev nD)).after 3 t y from rfl).trans ?_
    rw [after_3]
    have hy0 : (y (0 : Fin 2)).val < 256 := (y (0 : Fin 2)).isLt
    have hc := coord_lt (grid0.coords t)
    refine (congrArg (outU m hO 0 t) (eq_ix2 (y : S256x4096.Idx))).trans ?_
    refine (out_apply m hlt hO t ⟨(grid0.coords t 0).val, hc⟩ rfl (y (0 : Fin 2)) (y (1 : Fin 2))).trans ?_
    refine Eq.trans ?_ (congrArg (fun y : S81920x4096.Idx => downAt (aX m) (aW m) (aR m) (aE m) (aN m) hlt ⟨(y 0).val / 256, by have h : (y 0).val < 81920 := (y 0).isLt; omega⟩
          ⟨(y 0).val % 256, by omega⟩ (y 1)) (out_emb m hO t y)).symm
    have e1 : (⟨((grid0.coords t 0).val * 256 + (y (0 : Fin 2)).val) / 256, by omega⟩ : Fin 320) = ⟨(grid0.coords t 0).val, hc⟩ := Fin.ext (by
      show ((grid0.coords t 0).val * 256 + (y (0 : Fin 2)).val) / 256 = (grid0.coords t 0).val; omega)
    have e2 : (⟨((grid0.coords t 0).val * 256 + (y (0 : Fin 2)).val) % 256, by omega⟩ : Fin 256) = y (0 : Fin 2) := Fin.ext (by
      show ((grid0.coords t 0).val * 256 + (y (0 : Fin 2)).val) % 256 = (y (0 : Fin 2)).val; omega)
    exact (congrArg₂ (fun (b : Fin 320) (i : Fin 256) => downAt (aX m) (aW m) (aR m) (aE m) (aN m) hlt b i (y (1 : Fin 2))) e1 e2).symm
  · have hi : (i (0 : Fin 2)).val < 81920 := (i (0 : Fin 2)).isLt
    obtain ⟨t, h0⟩ := point_of ⟨(i (0 : Fin 2)).val / 256, by omega⟩
    refine ⟨t, flush_3 m hO t, ?_⟩
    have e : ((((cfgA m hO).win 3).blk t).view.emb (ix2 ⟨(i (0 : Fin 2)).val % 256, by omega⟩ (i (1 : Fin 2)) : S256x4096.Idx) : S81920x4096.Idx) = i := by
      rw [out_emb]
      refine funext fun (a : Fin 2) => Fin.ext ?_
      match a with
      | ⟨0, _⟩ => show (grid0.coords t 0).val * 256 + (i (0 : Fin 2)).val % 256 = (i (0 : Fin 2)).val; rw [h0]; show (i (0 : Fin 2)).val / 256 * 256 + (i (0 : Fin 2)).val % 256 = (i (0 : Fin 2)).val; omega
      | ⟨1, _⟩ => rfl
    rw [← e]
    exact View.emb_mem_set _ _

end Cert.Proof.ExpDown

end
-- ==== Proof.ExpDownRef.lean ====
/- Hand-written: THE REFERENCE OF THE EXPERTS' DOWN PROJECTION AT AN ENTRY, over the extended reals: the weights of a block's expert
   looked up at an in-range word (`weights`), the product, and the result (`ref_apply`). -/
module

public import proofs.«01_k».proof.Proof.Gen.Reference5Ideal.Read
public import proofs.«01_k».proof.Proof.ExpDownSum
public import Idealize.ShloMosaic.Lib.ValueIdx
public import Idealize.ShloMosaic.Lib.Pipeline.Value
public import Idealize.ShloMosaic.Lib.IdealHost

@[expose] public section

noncomputable section

namespace Cert.Proof.ExpDownRef

open Cert.Reference5Ideal Cert.Reference5Ideal.Gen Cert.Reference5Ideal.Read
open Idealize.ShloMosaic Idealize.ShloMosaic.TcCoe Idealize.ShloMosaic.ValueIdx
open scoped BigOperators

variable (x0 : FVec Idealize.ShloMosaic.Ideal S81920x512 .bf16) (x1 : FVec Idealize.ShloMosaic.Ideal S64x512x4096 .f32) (x2 : FVec Idealize.ShloMosaic.Ideal S81920x1 .f32) (x3 : IVec S320 32) (x4 : IVec S1 32)

theorem not_neg (w : BitVec 32) (h : w.toNat < 64) : IntOp.cmpi .slt w 0#32 = 0#1 := by
  have hs : w.slt 0#32 = false := by
    simp only [BitVec.slt, BitVec.toInt, BitVec.toNat_ofNat, decide_eq_false_iff_not]
    omega
  show BitVec.ofBool (w.slt 0#32) = 0#1
  rw [hs]; rfl

/-- A word of the table that names an expert is looked up as it is. -/
theorem word_apply (b : Fin 320) (hp : (x3 (ix1 b)).toNat < 64) (z : Fin 1) :
    val_main_v7 (F := Idealize.ShloMosaic.Ideal) x3 (ix2 b z) = x3 (ix1 b) := by
  have e : idx_main_v7 (ix2 b z) = ix1 b := by
    funext a
    match a with
    | ⟨0, _⟩ => rfl
  rw [val_main_v7_apply, e, val_main_v6_apply, val_main_v3_apply, val_main_v2_apply, val_main_c_apply, not_neg _ hp]
  rfl

/-- Only the expert's coordinate is looked up. -/
theorem start_off (I : IVec S320x1 32) (i : S320x512x4096.Idx) (y : Fin 3) (hy : y ≠ 0) :
    gather_S64x512x4096_S320x1_S320x512x4096_12_0_n_n_0_1_15124096.start i I y = 0 := by
  unfold GatherDims.start
  exact dif_neg (fun h => hy (List.mem_singleton.mp h))

/-- The lookup of a weight array through a table of words. -/
theorem gather_apply (w : FVec Idealize.ShloMosaic.Ideal S64x512x4096 .f32) (I : IVec S320x1 32) (b : Fin 320) (k : Fin 512) (j : Fin 4096) (v : BitVec 32) (hv : I (ix2 b 0) = v) (hp : v.toNat < 64) :
    Host.gather gather_S64x512x4096_S320x1_S320x512x4096_12_0_n_n_0_1_15124096 w I (ix3 b k j) = w (ix3 ⟨v.toNat, hp⟩ k j) := by
  let D := gather_S64x512x4096_S320x1_S320x512x4096_12_0_n_n_0_1_15124096
  unfold Host.gather
  refine congrArg _ (funext fun (x : Fin 3) => Fin.ext ?_)
  show D.start (ix3 b k j) I x + D.batchCoord (ix3 b k j) x + D.offCoord (ix3 b k j) x = _
  rw [GatherDims.batchCoord_eq_zero _ _ _ List.not_mem_nil]
  match x with
  | ⟨0, _⟩ =>
    rw [GatherDims.offCoord_eq_zero _ _ _ (fun h => ((GatherDims.mem_sKept _ _).mp h).1 (List.mem_singleton.mpr rfl))]
    have hst : D.start (ix3 b k j) I ⟨0, by decide⟩
        = min (I (D.siIdx (ix3 b k j) ⟨List.idxOf (0 : Fin 3) D.startIndexMap,
        List.idxOf_lt_length_iff.2 (List.mem_singleton.mpr rfl)⟩)).toInt.toNat (64 - 1) := by
      unfold GatherDims.start
      exact dif_pos (show (0 : Fin 3) ∈ D.startIndexMap from List.mem_singleton.mpr rfl)
    refine (congrArg (fun z => z + 0 + 0) hst).trans ?_
    have hsi : D.siIdx (ix3 b k j) ⟨List.idxOf (0 : Fin 3) D.startIndexMap,
        List.idxOf_lt_length_iff.2 (List.mem_singleton.mpr rfl)⟩ = ix2 b 0 := by
      funext y; refine Fin.ext ?_
      match y with
      | ⟨0, _⟩ => rfl
      | ⟨1, _⟩ => rfl
    rw [hsi, hv]
    show min v.toInt.toNat (64 - 1) + 0 + 0 = v.toNat
    have ht : v.toInt = (v.toNat : ℤ) := by
      rw [BitVec.toInt_eq_toNat_cond, if_pos (by omega)]
    rw [ht]
    omega
  | ⟨1, _⟩ => exact (congrArg₂ (· + ·) (congrArg (· + 0) (start_off I _ ⟨1, by decide⟩ (by decide))) rfl).trans (by show 0 + 0 + k.val = k.val; omega)
  | ⟨2, _⟩ => exact (congrArg₂ (· + ·) (congrArg (· + 0) (start_off I _ ⟨2, by decide⟩ (by decide))) rfl).trans (by show 0 + 0 + j.val = j.val; omega)

theorem weights (b : Fin 320) (k : Fin 512) (j : Fin 4096) (hp : (x3 (ix1 b)).toNat < 64) :
    val_main_v8 (F := Idealize.ShloMosaic.Ideal) x1 x3 (ix3 b k j) = x1 (ix3 ⟨(x3 (ix1 b)).toNat, hp⟩ k j) := by
  unfold val_main_v8
  exact gather_apply x1 _ b k j _ (word_apply x3 b hp 0) hp

/-- The rows, block by block. -/
theorem rows_apply (b : Fin 320) (i : Fin 256) (k : Fin 512) :
    val_main_v1 (F := Idealize.ShloMosaic.Ideal) x0 (ix3 b i k) = x0 (ix2 ⟨b.val * 256 + i.val, by omega⟩ k) := by
  rw [val_main_v1_apply]
  show val_main_v0 (F := Idealize.ShloMosaic.Ideal) x0 (ix3 b i k) = _
  unfold val_main_v0
  refine shapeCast_apply _ _ _ _ ?_
  rw [Shape.rowMajor_val_three, Shape.rowMajor_val_two]
  show (b.val * 256 + i.val) * 512 + k.val = (b.val * 256 + i.val) * 512 + k.val
  rfl

variable (hlt : ∀ k : Fin 320, (x3 (ix1 k)).toNat < 64)

theorem prod_apply (b : Fin 320) (i : Fin 256) (j : Fin 4096) :
    val_main_v9 (F := Idealize.ShloMosaic.Ideal) x0 x1 x3 (ix3 b i j)
      = ExpDown.prod x0 x1 ⟨(x3 (ix1 b)).toNat, hlt b⟩ ⟨b.val * 256 + i.val, by omega⟩ j := by
  rw [val_main_v9_apply]
  refine Finset.sum_congr rfl fun k _ => ?_
  have el : lidx_main_v9 (ix3 b i j) k = ix3 b i k := by
    funext a
    match a with
    | ⟨0, _⟩ => rfl
    | ⟨1, _⟩ => rfl
    | ⟨2, _⟩ => rfl
  have er : ridx_main_v9 (ix3 b i j) k = ix3 b k j := by
    funext a
    match a with
    | ⟨0, _⟩ => rfl
    | ⟨1, _⟩ => rfl
    | ⟨2, _⟩ => rfl
  rw [el, er, rows_apply, weights x1 x3 b k j (hlt b)]

/-- The row's weight. -/
theorem row_apply (b : Fin 320) (i : Fin 256) (j : Fin 4096) :
    val_main_v11 (F := Idealize.ShloMosaic.Ideal) x2 (ix3 b i j) = x2 (ix2 ⟨b.val * 256 + i.val, by omega⟩ 0) := by
  rw [val_main_v11_apply, val_main_v10_apply]
  refine congrArg x2 (funext fun (a : Fin 2) => Fin.ext ?_)
  match a with
  | ⟨0, _⟩ => show ((b.val * 256 + i.val) * 1 + 0) / 1 = b.val * 256 + i.val; omega
  | ⟨1, _⟩ => rfl

/-- Whether block b is filled. -/
theorem live_apply (b : Fin 320) (i : Fin 256) (j : Fin 4096) :
    val_main_call0_v1 (F := Idealize.ShloMosaic.Ideal) x4 (ix3 b i j) = BitVec.ofBool (BitVec.slt (BitVec.ofNat 32 b.val) (x4 (ix1 0))) := by
  rw [val_main_call0_v1_apply, val_main_v17_apply, val_main_v16_apply, val_main_v15_apply, val_main_v13_apply]
  have h : val_main_v14 (F := Idealize.ShloMosaic.Ideal) x4 (idx_main_v15 (idx_main_v17 (idx_main_call0_v1 (ix3 b i j)))) = x4 (ix1 0) := by
    unfold val_main_v14
    refine congrArg x4 (funext fun (a : Fin 1) => ?_)
    match a with
    | ⟨0, _⟩ => exact Subsingleton.elim (α := Fin 1) _ _
  rw [h]
  rfl

/-- A block's entry. -/
theorem block_apply (b : Fin 320) (i : Fin 256) (j : Fin 4096) :
    val_main_v18 (F := Idealize.ShloMosaic.Ideal) x0 x1 x2 x3 x4 (ix3 b i j) = ExpDown.downAt x0 x1 x2 x3 x4 hlt b i j := by
  rw [val_main_v18_apply, live_apply]
  unfold ExpDown.downAt
  cases h : BitVec.slt (BitVec.ofNat 32 b.val) (x4 (ix1 0))
  · rw [if_neg (by simp)]
    exact Ideal.ofBits_zero_f32
  · rw [if_pos rfl]
    show val_main_v12 (F := Idealize.ShloMosaic.Ideal) x0 x1 x2 x3 _ = _
    rw [val_main_v12_apply, prod_apply x0 x1 x3 hlt, row_apply]
    rfl

/-- The reference's result, at an entry. -/
theorem ref_apply (y : S81920x4096.Idx) :
    val_main_v19 (F := Idealize.ShloMosaic.Ideal) x0 x1 x2 x3 x4 y
      = ExpDown.downAt x0 x1 x2 x3 x4 hlt ⟨(y 0).val / 256, by have h : (y 0).val < 81920 := (y 0).isLt; omega⟩ ⟨(y 0).val % 256, by omega⟩ (y 1) := by
  have h0 : (y 0).val < 81920 := (y 0).isLt
  have h1 : (y 1).val < 4096 := (y 1).isLt
  rw [val_main_v19_apply]
  have ei : idx_main_v19 y = ix3 ⟨(y 0).val / 256, by omega⟩ ⟨(y 0).val % 256, by omega⟩ (⟨(y 1).val, h1⟩ : Fin 4096) := by
    funext a; refine Fin.ext ?_
    match a with
    | ⟨0, _⟩ => show ((y 0).val * 4096 + (y 1).val) / 1048576 = (y 0).val / 256; omega
    | ⟨1, _⟩ => show ((y 0).val * 4096 + (y 1).val) / 4096 % 256 = (y 0).val % 256; omega
    | ⟨2, _⟩ => show ((y 0).val * 4096 + (y 1).val) % 4096 = (y 1).val; omega
  exact (congrArg (val_main_v18 (F := Idealize.ShloMosaic.Ideal) x0 x1 x2 x3 x4) ei).trans (block_apply x0 x1 x2 x3 x4 hlt _ _ _)

end Cert.Proof.ExpDownRef

end
-- ==== Proof.ExpDownClaims.lean ====
/- Hand-written: THE CLAIMS OF THE EXPERTS' DOWN PROJECTION. The precondition says that every word of the table of experts names one
   of the 64 experts, which is the frame's side condition; the value is `ExpDownArray`'s `down_array` on the kernel's side and `ExpDownRef`'s
   `ref_apply` on the reference's. -/
module

public import proofs.«01_k».proof.Defs
public import proofs.«01_k».proof.Proof.Gen.Pre_experts_in_range_down
public import proofs.«01_k».proof.Proof.Gen.Reference5Ideal.Run
public import proofs.«01_k».proof.Proof.Gen.Kernel5
public import proofs.«01_k».proof.Proof.ExpDownArray
public import proofs.«01_k».proof.Proof.ExpDownRef
public import Idealize.ShloMosaic.Lib.Claim

@[expose] public section

set_option maxRecDepth 16384

noncomputable section

namespace Cert.Proof.ExpDown

open Idealize.ShloMosaic Idealize.ShloMosaic.TcCoe Idealize.ShloMosaic.ValueIdx
open scoped BigOperators

/-- The precondition, at an entry of the table of experts. -/
theorem in_range {F : FTy → Type} [FloatOps F] (a0 : FVec F Cert.Kernel5Ideal.S81920x512 .bf16) (a1 : FVec F Cert.Kernel5Ideal.S64x512x4096 .f32) (a2 : FVec F Cert.Kernel5Ideal.S81920x1 .f32)
    (be : IVec Cert.Kernel5Ideal.S320 32) (nv : IVec Cert.Kernel5Ideal.S1 32)
    (h : Cert.Pre_experts_in_range_down.fn (F := F) a0 a1 a2 be nv = fun _ => 1#1) (y : Cert.Kernel5Ideal.S320.Idx) : (be y).toNat < 64 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_experts_in_range_down.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- The kernel over the extended reals runs, keeps its arguments and ends with every counter at zero. -/
theorem frame_ideal : Cert.quiescent_Kernel5Ideal := fun m g h =>
  frame_down m g (ok_of_lt m fun k => in_range _ _ _ _ _ (h 0) (ix1 k))

/-! ## The same program over the floating-point formats

The two printings of the kernel are the same definitions under two names, so the frame, which is proved for every instance of
the operations, holds of both. -/

theorem body_same {F : FTy → Type} [FloatOps F] : Kernel5.defs₀ (F := F) = Kernel5Ideal.defs₀ (F := F) := by
  refine congrArg (Defs.onTc (nD := Kernel5.nD) (τ := Kernel5.τ) (sig := Kernel5.sig) (Λ := Kernel5.Λ₀)) (funext fun p => funext fun x => ?_)
  match p, x with
  | 0, (t, s) => with_unfolding_all rfl

theorem defs_same {F : FTy → Type} [FloatOps F] : Kernel5.defs (F := F) = Kernel5Ideal.defs (F := F) := by
  refine Eq.trans (b := Pipeline.defs Kernel5.pcfgs (Kernel5Ideal.defs₀ (F := F))) (congrArg (Pipeline.defs Kernel5.pcfgs) body_same) ?_
  with_unfolding_all rfl

theorem run_same (m : (ℓ : Loc Kernel5.nD Kernel5.τ Kernel5.sig) → Buf (Elt Bits) ℓ) (g : Dev Kernel5.nD → PrngReg)
    (P : PUnit × MemSt Kernel5.nD Kernel5.τ Kernel5.sig (Elt Bits) → Prop)
    (h : θ_run (Kernel5Ideal.defs (F := Bits)) (onTc (τ := Kernel5Ideal.τ) (Kernel5Ideal.main (F := Bits))) ⟨m, fun _ => 0, g⟩ P) :
    θ_run (Kernel5.defs (F := Bits)) (onTc (τ := Kernel5.τ) (Kernel5.main (F := Bits))) ⟨m, fun _ => 0, g⟩ P := by
  rw [defs_same]; exact h

set_option backward.isDefEq.respectTransparency false in
/-- The kernel over the floating-point formats runs, keeps its arguments and ends with every counter at zero. -/
theorem frame_bits : Cert.quiescent_Kernel5 := fun m g h =>
  run_same m g _ (frame_down (F := Bits) m g (ok_of_lt (F := Bits) m fun k => in_range (F := Bits) _ _ _ _ _ (h 0) (ix1 k)))

/-- The reference over the extended reals runs, keeps its arguments and ends with every counter at zero. -/
theorem frame_ref : Cert.quiescent_Reference5Ideal := fun m g _ =>
  (θ_run Cert.Reference5Ideal.defs _ _).mono (fun r h => ⟨fun c => (h c).2, sem_eq_zero_of_no_sems (by decide) r.2⟩) (Cert.Reference5Ideal.Value.run m g)

theorem frame_ref_pre : Cert.quiescent_Reference5Ideal_pre_experts_in_range_down := fun m g _ =>
  (θ_run Cert.Reference5Ideal.defs _ _).mono (fun r h => ⟨fun c => (h c).2, sem_eq_zero_of_no_sems (by decide) r.2⟩) (Cert.Reference5Ideal.Value.run m g)

/-- The kernel's array and the reference's result are the same function of the arguments. -/
theorem algebraic : Cert.algebraic_Kernel5Ideal_Reference5Ideal := by
  intro m g m' g' hpre hagree
  have hlt : ∀ k : Fin 320, BitVec.toNat (w := 32) (aE m (ix1 k)) < 64 := fun k => in_range _ _ _ _ _ (hpre 0) (ix1 k)
  have hO : Ok m := ok_of_lt m hlt
  refine ⟨fun _ => ((fun y : Cert.Kernel5Ideal.S81920x4096.Idx => downAt (aX m) (aW m) (aR m) (aE m) (aN m) hlt ⟨(y 0).val / 256, by have h : (y 0).val < 81920 := (y 0).isLt; omega⟩
          ⟨(y 0).val % 256, by omega⟩ (y 1)) : FVec Idealize.ShloMosaic.Ideal Cert.Kernel5Ideal.S81920x4096 .f32), ?_, ?_⟩
  · refine (θ_run Cert.Kernel5Ideal.defs _ _).mono (fun r h c => ?_)
      (θ_run_and (run_main_quiescent m g hO) (unchanged m g hO))
    obtain rfl : c = 0 := Subsingleton.elim _ _
    exact ⟨((h.1.1 0).1 3).trans (down_array m hlt hO), h.2 0⟩
  · refine (θ_run Cert.Reference5Ideal.defs _ _).mono (fun r h c => ?_) (Cert.Reference5Ideal.Value.run m' g')
    obtain rfl : c = 0 := Subsingleton.elim _ _
    refine ⟨((h 0).1.trans (Cert.Reference5Ideal.Read.val_main_v19_eq _ _ _ _ _)).trans ?_, (h 0).2⟩
    obtain ⟨h0, h1, h2, h3, h4⟩ := hagree 0
    funext y
    refine (congrFun (congr (congr (congr (congr (congrArg Cert.Reference5Ideal.Read.val_main_v19 h0) h1) h2) h3) h4) y).trans ?_
    exact ExpDownRef.ref_apply _ _ _ _ _ hlt y

end Cert.Proof.ExpDown

end
-- ==== Proof.ShUpRun.lean ====
/- Hand-written: THE BODY OF THE SHARED EXPERT'S UP PROJECTION AT ONE GRID POINT, in its three cases, for any tables. -/
module

public import proofs.«01_k».proof.Defs
public import proofs.«01_k».proof.Proof.Gen.Kernel6Ideal
public import proofs.«01_k».proof.Proof.Gen.Kernel6Ideal.Launch
public import proofs.«01_k».proof.Proof.Gen.Kernel6Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Proof.ShUp

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The model the proof is written in. -/
abbrev MM (F : FTy → Type) [FloatOps F] := MT nD τ sig Unit (Elt F) ℕ (UR sig nD τ) ℕ

/-- The two tables and the two scratches, as the body holds them. -/
abbrev tM0 : Memref sig .tc .smem S32 .i32 := Memref.whole main_arg3
abbrev tM1 : Memref sig .tc .smem S1 .i32 := Memref.whole main_arg4
abbrev sM0 : Memref sig .tc .vmem S4096x512 .bf16 := Memref.whole cc0_scratch0
abbrev sM1 : Memref sig .tc .vmem S4096x512 .bf16 := Memref.whole cc0_scratch1

/-- The number of filled blocks, the expert of the block at hand, the expert of the block before: as the body reads them. -/
abbrev nW (T1 : S1.Idx → Elt F .i32) : Elt F .i32 :=
  View.readAt (Elt F) (tM1).view (Rect.unit (s := S1) ![0] S1.size inb_S1_S1_0).toLoadRect T1 (Shape.Idx.first (numel1_S1.symm ▸ Nat.one_pos))
abbrev eW (i : grid0.Coords) (T0 : S32.Idx → Elt F .i32) : Elt F .i32 :=
  View.readAt (Elt F) (tM0).view (Rect.unit (s := S32) (k0_off1 i) S1.size (k0_off1_inb i)).toLoadRect T0 (Shape.Idx.first (numel1_S1.symm ▸ Nat.one_pos))
abbrev pW (i : grid0.Coords) (T0 : S32.Idx → Elt F .i32) : Elt F .i32 :=
  View.readAt (Elt F) (tM0).view (Rect.unit (s := S32) (k0_off2 i) S1.size (k0_off2_inb i)).toLoadRect T0 (Shape.Idx.first (numel1_S1.symm ▸ Nat.one_pos))

/-- Whether the body casts the weights at the point: the block is filled, and its expert is not the one before. -/
abbrev fills (i : grid0.Coords) (T0 : S32.Idx → Elt F .i32) (T1 : S1.Idx → Elt F .i32) : BitVec 1 :=
  Scalar.cmpi .ne (Scalar.extui (Scalar.andi (Scalar.cmpi .slt (BitVec.ofNat 32 (i 0).val) (nW T1)) (Scalar.ori (Scalar.cmpi .eq (BitVec.ofNat 32 (i 0).val) 0#32) (Scalar.cmpi .ne (eW i T0) (pW i T0)))) : BitVec 32) 0#32

set_option maxHeartbeats 8000000 in
/-- A point past the filled blocks: the body stores zeros and reads nothing else. -/
theorem run_dead (c : Dev nD) (i : grid0.Coords) (arg3 : Memref sig .tc .vmem S256x4096 .bf16) (harg3 : arg3.IsWhole) (arg4 : Memref sig .tc .vmem S1x4096x512 .f32) (harg4 : arg4.IsWhole)
    (arg5 : Memref sig .tc .vmem S1x4096x512 .f32) (harg5 : arg5.IsWhole) (arg6 : Memref sig .tc .vmem S256x512 .bf16) (harg6 : arg6.IsWhole)
    (T0 : S32.Idx → Elt F .i32) (T1 : S1.Idx → Elt F .i32)
    (x0 : S256x4096.Idx → Elt F .bf16) (x1 x2 : S1x4096x512.Idx → Elt F .f32)
    (a0 : Buf (Elt F) ((c : Thread nD τ).loc cc0_scratch0)) (a1 : Buf (Elt F) ((c : Thread nD τ).loc cc0_scratch1))
    (hc : ¬(fills i T0 T1 = 1#1)) (h2 : ¬(k0_cond2 i (nW T1) = 1#1)) (h3 : k0_cond3 i (nW T1) = 1#1)
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0) ∗ (sM1.view.loc (c : Thread nD τ) ↦{fullShare} a1)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay4 (F := F))
          ∗ (sM0.view.loc (c : Thread nD τ) ↦{fullShare} a0) ∗ (sM1.view.loc (c : Thread nD τ) ↦{fullShare} a1)) -∗ K ⟨⟩))
      ⊢ wp frame (wpE (defs₀ (F := F)) Variants.none c none) Set.univ (cc0_ffn_up i tM0 (Memref.isWhole_whole _) tM1 (Memref.isWhole_whole _) arg3 harg3 arg4 harg4 arg5 harg5 arg6 harg6
          sM0 (Memref.isWhole_whole _) sM1 (Memref.isWhole_whole _)) K := by
  unfold owns
  rw [cc0_ffn_up_eq_skeleton]; unfold cc0_ffn_up_skel
  iintro ⟨⟨%f0, %hf0, H0⟩, ⟨%f1, %hf1, H1⟩, ⟨%f2, %hf2, H2⟩, HT0, HT1, ⟨%d3, %f3, -, HO3⟩, HS0, HS1, Hk⟩
  have hS0 : sM0.IsWhole := Memref.isWhole_whole _
  have hS1 : sM1.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro; exact View.read_writes_full _ _ _ _ _
  isplitl [HS0]; · iexact HS0
  iexact HS1

set_option maxHeartbeats 8000000 in
/-- A filled block of the same expert as before: the scratches hold the cast weights already. -/
theorem run_keep (c : Dev nD) (i : grid0.Coords) (arg3 : Memref sig .tc .vmem S256x4096 .bf16) (harg3 : arg3.IsWhole) (arg4 : Memref sig .tc .vmem S1x4096x512 .f32) (harg4 : arg4.IsWhole)
    (arg5 : Memref sig .tc .vmem S1x4096x512 .f32) (harg5 : arg5.IsWhole) (arg6 : Memref sig .tc .vmem S256x512 .bf16) (harg6 : arg6.IsWhole)
    (T0 : S32.Idx → Elt F .i32) (T1 : S1.Idx → Elt F .i32)
    (x0 : S256x4096.Idx → Elt F .bf16) (x1 x2 : S1x4096x512.Idx → Elt F .f32)
    (a0 : Buf (Elt F) ((c : Thread nD τ).loc cc0_scratch0)) (a1 : Buf (Elt F) ((c : Thread nD τ).loc cc0_scratch1))
    (hc : ¬(fills i T0 T1 = 1#1)) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0) ∗ (sM1.view.loc (c : Thread nD τ) ↦{fullShare} a1)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay3 x0 (sM0.view.read (Elt F) a0) (sM1.view.read (Elt F) a1))
          ∗ (sM0.view.loc (c : Thread nD τ) ↦{fullShare} a0) ∗ (sM1.view.loc (c : Thread nD τ) ↦{fullShare} a1)) -∗ K ⟨⟩))
      ⊢ wp frame (wpE (defs₀ (F := F)) Variants.none c none) Set.univ (cc0_ffn_up i tM0 (Memref.isWhole_whole _) tM1 (Memref.isWhole_whole _) arg3 harg3 arg4 harg4 arg5 harg5 arg6 harg6
          sM0 (Memref.isWhole_whole _) sM1 (Memref.isWhole_whole _)) K := by
  unfold owns
  rw [cc0_ffn_up_eq_skeleton]; unfold cc0_ffn_up_skel
  iintro ⟨⟨%f0, %hf0, H0⟩, ⟨%f1, %hf1, H1⟩, ⟨%f2, %hf2, H2⟩, HT0, HT1, ⟨%d3, %f3, -, HO3⟩, HS0, HS1, Hk⟩
  have hS0 : sM0.IsWhole := Memref.isWhole_whole _
  have hS1 : sM1.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full, View.readAt_full, View.readAt_full, hf0]
  isplitl [HS0]; · iexact HS0
  iexact HS1

set_option maxHeartbeats 8000000 in
/-- A filled block of a new expert: the body casts its two weights into the scratches first. -/
theorem run_fill (c : Dev nD) (i : grid0.Coords) (arg3 : Memref sig .tc .vmem S256x4096 .bf16) (harg3 : arg3.IsWhole) (arg4 : Memref sig .tc .vmem S1x4096x512 .f32) (harg4 : arg4.IsWhole)
    (arg5 : Memref sig .tc .vmem S1x4096x512 .f32) (harg5 : arg5.IsWhole) (arg6 : Memref sig .tc .vmem S256x512 .bf16) (harg6 : arg6.IsWhole)
    (T0 : S32.Idx → Elt F .i32) (T1 : S1.Idx → Elt F .i32)
    (x0 : S256x4096.Idx → Elt F .bf16) (x1 x2 : S1x4096x512.Idx → Elt F .f32)
    (a0 : Buf (Elt F) ((c : Thread nD τ).loc cc0_scratch0)) (a1 : Buf (Elt F) ((c : Thread nD τ).loc cc0_scratch1))
    (hc : fills i T0 T1 = 1#1) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0) ∗ (sM1.view.loc (c : Thread nD τ) ↦{fullShare} a1)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay3 x0 (k0_pay1 x1) (k0_pay2 x2))
          ∗ (∃ a : Buf (Elt F) ((c : Thread nD τ).loc cc0_scratch0), ⌜sM0.view.read (Elt F) a = k0_pay1 x1⌝ ∗ (sM0.view.loc (c : Thread nD τ) ↦{fullShare} a)) ∗ (∃ a : Buf (Elt F) ((c : Thread nD τ).loc cc0_scratch1), ⌜sM1.view.read (Elt F) a = k0_pay2 x2⌝ ∗ (sM1.view.loc (c : Thread nD τ) ↦{fullShare} a))) -∗ K ⟨⟩))
      ⊢ wp frame (wpE (defs₀ (F := F)) Variants.none c none) Set.univ (cc0_ffn_up i tM0 (Memref.isWhole_whole _) tM1 (Memref.isWhole_whole _) arg3 harg3 arg4 harg4 arg5 harg5 arg6 harg6
          sM0 (Memref.isWhole_whole _) sM1 (Memref.isWhole_whole _)) K := by
  unfold owns
  rw [cc0_ffn_up_eq_skeleton]; unfold cc0_ffn_up_skel
  iintro ⟨⟨%f0, %hf0, H0⟩, ⟨%f1, %hf1, H1⟩, ⟨%f2, %hf2, H2⟩, HT0, HT1, ⟨%d3, %f3, -, HO3⟩, HS0, HS1, Hk⟩
  have hS0 : sM0.IsWhole := Memref.isWhole_whole _
  have hS1 : sM1.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full arg3.view, hf0]
      refine congrArg₂ (k0_pay3 x0) ?_ ?_
      · refine (View.readCov_full _ _ _ _ _).trans ?_
        rw [View.readAt_full, hf1]
      · refine (View.readCov_full _ _ _ _ _).trans ?_
        rw [View.readAt_full, hf2]
  isplitl [HS0]
  · iexists _; isplitr; swap
    · iexact HS0
    · ipureintro
      refine (View.read_writes_full _ _ _ _ _).trans ?_
      rw [View.readAt_full, hf1]
  iexists _; isplitr; swap
  · iexact HS1
  · ipureintro
    refine (View.read_writes_full _ _ _ _ _).trans ?_
    rw [View.readAt_full, hf2]

end Cert.Proof.ShUp

end
-- ==== Proof.ShUpFrame.lean ====
/- Hand-written: THE FRAME OF THE SHARED EXPERT'S UP PROJECTION, for every table whose blocks lie inside the weights. Before a grid point the
   scratches hold the cast weights of the block before it, if that block was filled (`Held`); the point leaves the product of its block,
   or zeros past the filled blocks (`outU`). -/
module

public import proofs.«01_k».proof.Proof.ShUpRun
public import Idealize.ShloMosaic.Lib.ValueIdx
public import Idealize.ShloMosaic.Lib.Claim
public import Idealize.ShloMosaic.Lib.Pipeline.Quiescent

@[expose] public section

set_option maxRecDepth 16384
set_option Elab.async false

noncomputable section

namespace Cert.Proof.ShUp

open Cert.Kernel6Ideal Cert.Kernel6Ideal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The words the body reads -/

theorem ne_ofBool (b : Bool) : (Scalar.cmpi .ne (Scalar.extui (BitVec.ofBool b) : BitVec 32) 0#32 = 1#1) ↔ b = true := by
  cases b <;> decide

/-- Block number i is below the number of filled blocks. -/
def below (i : grid0.Coords) (v : BitVec 32) : Bool := BitVec.slt (BitVec.ofNat 32 (i 0).val) v

theorem cond2_iff (i : grid0.Coords) (v : BitVec 32) : k0_cond2 i v = 1#1 ↔ below i v = true :=
  ne_ofBool (BitVec.slt (BitVec.ofNat 32 (i 0).val) v)

theorem cond3_iff (i : grid0.Coords) (v : BitVec 32) : k0_cond3 i v = 1#1 ↔ below i v = false := by
  refine (ne_ofBool (BitVec.sle v (BitVec.ofNat 32 (i 0).val))).trans ?_
  unfold below
  rw [BitVec.sle_eq_not_slt]
  cases BitVec.slt (BitVec.ofNat 32 (i 0).val) v <;> decide

theorem coord_lt (i : grid0.Coords) : (i 0).val < 32 := (i 0).isLt

theorem below_prev (i i' : grid0.Coords) (v : BitVec 32) (h : (i' 0).val + 1 = (i 0).val) (hb : below i v = true) : below i' v = true := by
  have h0 := coord_lt i
  unfold below at hb ⊢
  simp only [BitVec.slt, decide_eq_true_eq, BitVec.toInt, BitVec.toNat_ofNat] at hb ⊢
  omega

theorem zero_iff (i : grid0.Coords) : (BitVec.ofNat 32 (i 0).val == 0#32) = true ↔ (i 0).val = 0 := by
  have h0 := coord_lt i
  rw [beq_iff_eq]
  constructor
  · intro h
    have := congrArg BitVec.toNat h
    simp only [BitVec.toNat_ofNat] at this
    omega
  · intro h; rw [h]

theorem fills_iff (i : grid0.Coords) (T0 : S32.Idx → Elt F .i32) (T1 : S1.Idx → Elt F .i32) :
    fills i T0 T1 = 1#1 ↔ below i (nW T1) = true ∧ ((i 0).val = 0 ∨ (eW i T0 : BitVec 32) ≠ pW i T0) := by
  have andi_ofBool (p q : Bool) : Scalar.andi (BitVec.ofBool p) (BitVec.ofBool q) = BitVec.ofBool (p && q) := by
    cases p <;> cases q <;> decide
  have ori_ofBool (p q : Bool) : Scalar.ori (BitVec.ofBool p) (BitVec.ofBool q) = BitVec.ofBool (p || q) := by
    cases p <;> cases q <;> decide
  have e : fills i T0 T1 = Scalar.cmpi .ne (Scalar.extui (BitVec.ofBool (below i (nW T1) && ((BitVec.ofNat 32 (i 0).val == 0#32) || ((eW i T0 : BitVec 32) != pW i T0)))) : BitVec 32) 0#32 := by
    rw [← andi_ofBool, ← ori_ofBool]
    rfl
  rw [e, ne_ofBool, Bool.and_eq_true, Bool.or_eq_true, zero_iff, bne_iff_ne]

theorem off1_val (i : grid0.Coords) : (Scalar.indexCast (BitVec.ofNat 32 (i 0).val)).toNat = (i 0).val := by
  have h0 := coord_lt i
  simp only [Scalar.indexCast]
  simp [BitVec.toNat_ofNat]
  omega

theorem off2_val (i : grid0.Coords) (h : (i 0).val ≠ 0) :
    (Scalar.indexCast (Scalar.maxsi (Scalar.subi (BitVec.ofNat 32 (i 0).val) 1#32) 0#32)).toNat = (i 0).val - 1 := by
  have h0 := coord_lt i
  have e : Scalar.subi (BitVec.ofNat 32 (i 0).val) 1#32 = BitVec.ofNat 32 ((i 0).val - 1) := by
    apply BitVec.eq_of_toNat_eq
    simp only [Scalar.subi, IntOp.subi, BitVec.toNat_sub, BitVec.toNat_ofNat]
    omega
  rw [e]
  have hall : ∀ n : Fin 32, (Scalar.indexCast (Scalar.maxsi (BitVec.ofNat 32 n.val) 0#32)).toNat = n.val := by decide +kernel
  exact hall ⟨(i 0).val - 1, by omega⟩

/-- The word of the table of experts at a block. -/
abbrev expert (T0 : S32.Idx → Elt F .i32) (k : Fin 32) : BitVec 32 := T0 (ix1 k)

theorem eW_eq (i : grid0.Coords) (T0 : S32.Idx → Elt F .i32) : (eW i T0 : BitVec 32) = expert T0 ⟨(i 0).val, coord_lt i⟩ := by
  show T0 _ = T0 _
  refine congrArg T0 (funext fun (a : Fin 1) => ?_)
  match a with
  | ⟨0, _⟩ => exact Fin.ext (show (Scalar.indexCast (BitVec.ofNat 32 (i 0).val)).toNat + 1 * 0 = (i 0).val by rw [off1_val]; omega)

theorem pW_eq (i : grid0.Coords) (T0 : S32.Idx → Elt F .i32) (h : (i 0).val ≠ 0) :
    (pW i T0 : BitVec 32) = expert T0 ⟨(i 0).val - 1, by have := coord_lt i; omega⟩ := by
  show T0 _ = T0 _
  refine congrArg T0 (funext fun (a : Fin 1) => ?_)
  match a with
  | ⟨0, _⟩ => exact Fin.ext (show (Scalar.indexCast (Scalar.maxsi (Scalar.subi (BitVec.ofNat 32 (i 0).val) 1#32) 0#32)).toNat + 1 * 0 = (i 0).val - 1 by rw [off2_val i h]; omega)

theorem nW_eq (T1 : S1.Idx → Elt F .i32) : (nW T1 : BitVec 32) = T1 (ix1 0) := by
  show T1 _ = T1 _
  refine congrArg T1 (funext fun (a : Fin 1) => ?_)
  match a with
  | ⟨0, _⟩ => exact Fin.ext rfl

theorem at_word (pf : pre0.Contents (Elt F)) (n : ℕ) (k : Fin 32) (hk : n = k.val)
    (inb : ∀ a, (![n] : Fin 1 → ℕ) a + S1.size a ≤ S32.size a) :
    pf.at 0 (Rect.unit (s := S32) ![n] S1.size inb) numel1_S1 = pf 0 (ix1 k) := by
  refine congrArg (pf 0) (funext fun (a : Fin 1) => ?_)
  match a with
  | ⟨0, _⟩ => exact Fin.ext (show n + 1 * 0 = k.val by omega)

theorem transform_1 (pf : pre0.Contents (Elt F)) (i : grid0.Coords) :
    cc0_transform_1 k0_off1_inb numel1_S1 pf i = ![(expert (F := F) (pf 0) ⟨(i 0).val, coord_lt i⟩).toNat, 0, 0] := by
  unfold cc0_transform_1
  exact congrArg (fun x : BitVec 32 => ![x.toNat, 0, 0]) (at_word pf _ ⟨(i 0).val, coord_lt i⟩ (off1_val i) _)
theorem transform_2 (pf : pre0.Contents (Elt F)) (i : grid0.Coords) :
    cc0_transform_2 k0_off1_inb numel1_S1 pf i = ![(expert (F := F) (pf 0) ⟨(i 0).val, coord_lt i⟩).toNat, 0, 0] := by
  unfold cc0_transform_2
  exact congrArg (fun x : BitVec 32 => ![x.toNat, 0, 0]) (at_word pf _ ⟨(i 0).val, coord_lt i⟩ (off1_val i) _)

theorem inb_of_lt (n : ℕ) (h : n < 1) : ∀ a, ((![n, 0, 0] : Fin 3 → ℕ) a + 1) * S1x4096x512.size a ≤ S1x4096x512.size a := by
  intro a
  match a with
  | ⟨0, _⟩ => show (n + 1) * 1 ≤ 1; omega
  | ⟨1, _⟩ => simp
  | ⟨2, _⟩ => simp

theorem coords_val (t : Fin grid0.N) : (grid0.coords t 0).val = t.val := by
  revert t
  decide +kernel

variable (m : (ℓ : Loc nD τ sig) → Buf (Elt F) ℓ) (ρ : Dev nD → PrngReg)

/-! ## The tables and the pipeline at them -/

/-- The tables at launch. -/
def tb : pre0.Contents (Elt F) := fun j => m (((0 : Dev nD) : Thread nD τ).loc (pre0.ref j))
abbrev tE : S32.Idx → Elt F .i32 := tb m 0
abbrev tN : S1.Idx → Elt F .i32 := tb m 1

/-- Every block that a window names lies inside its array. -/
abbrev Ok : Prop := ok0 (tb m)

theorem ok_of_lt (h : ∀ k : Fin 32, (expert (F := F) (tE m) k).toNat < 1) : Ok m :=
  ⟨fun i => ⟨by rw [transform_1]; exact inb_of_lt _ (h _), Or.inl rfl⟩, fun i => ⟨by rw [transform_2]; exact inb_of_lt _ (h _), Or.inl rfl⟩⟩

variable (hO : Ok m)

abbrev adm : (pcfg0 (F := F)).Adm := ⟨tb m, hO⟩
abbrev cfgA : Pipeline.Cfg sig Λ₀ := cfg0 (F := F) (adm m hO)
abbrev pcs : Fin 1 → Pipeline.Cfg sig Λ₀ := Pipeline.pin (pcfgs (F := F)) fun _ => adm m hO
abbrev crd (t : Fin (cfgA m hO).N) : grid0.Coords := grid0.coords t

abbrev ms0 (t : Fin (cfgA m hO).N) : Memref sig .tc .vmem S256x4096 .bf16 := spec0_0.stage ((cfgA m hO).slots t (0 : Fin 4))
abbrev hs0 (t : Fin (cfgA m hO).N) : (ms0 m hO t).IsWhole := hstage0_0 (((cfgA m hO).slots t (0 : Fin 4)).cast nbuf0_0)
abbrev ms1 (t : Fin (cfgA m hO).N) : Memref sig .tc .vmem S1x4096x512 .f32 := spec0_1.stage ((cfgA m hO).slots t (1 : Fin 4))
abbrev hs1 (t : Fin (cfgA m hO).N) : (ms1 m hO t).IsWhole := hstage0_1 (((cfgA m hO).slots t (1 : Fin 4)).cast nbuf0_1)
abbrev ms2 (t : Fin (cfgA m hO).N) : Memref sig .tc .vmem S1x4096x512 .f32 := spec0_2.stage ((cfgA m hO).slots t (2 : Fin 4))
abbrev hs2 (t : Fin (cfgA m hO).N) : (ms2 m hO t).IsWhole := hstage0_2 (((cfgA m hO).slots t (2 : Fin 4)).cast nbuf0_2)
abbrev ms3 (t : Fin (cfgA m hO).N) : Memref sig .tc .vmem S256x512 .bf16 := spec0_3.stage ((cfgA m hO).slots t (3 : Fin 4))
abbrev hs3 (t : Fin (cfgA m hO).N) : (ms3 m hO t).IsWhole := hstage0_3 (((cfgA m hO).slots t (3 : Fin 4)).cast nbuf0_3)

/-- Window w's block at point t. -/
def iblk (c : Dev nD) (w : Fin (cfgA m hO).W) (t : Fin (cfgA m hO).N) : (((cfgA m hO).win w).xblock ((cfgA m hO).grid.coords t)).Idx → Elt F ((cfgA m hO).win w).elt :=
  (((cfgA m hO).win w).blk t).view.read (Elt F) (m (((cfgA m hO).win w).arr.view.loc (c : Thread nD τ)))

abbrev xb (c : Dev nD) (t : Fin (cfgA m hO).N) : S256x4096.Idx → Elt F .bf16 := iblk m hO c (0 : Fin 4) t
abbrev gb (c : Dev nD) (t : Fin (cfgA m hO).N) : S1x4096x512.Idx → Elt F .f32 := iblk m hO c (1 : Fin 4) t
abbrev ub (c : Dev nD) (t : Fin (cfgA m hO).N) : S1x4096x512.Idx → Elt F .f32 := iblk m hO c (2 : Fin 4) t

theorem gb_congr (c : Dev nD) (t t' : Fin (cfgA m hO).N) (h : cc0_transform_1 k0_off1_inb numel1_S1 (tb m) (crd m hO t) = cc0_transform_1 k0_off1_inb numel1_S1 (tb m) (crd m hO t')) :
    gb m hO c t = gb m hO c t' := by
  funext z
  show m (((cfgA m hO).win 1).arr.view.loc (c : Thread nD τ)) ((((cfgA m hO).win 1).blk t).view.emb z) = m (((cfgA m hO).win 1).arr.view.loc (c : Thread nD τ)) ((((cfgA m hO).win 1).blk t').view.emb z)
  refine congrArg (m (((cfgA m hO).win 1).arr.view.loc (c : Thread nD τ))) (funext fun (x : Fin 3) => Fin.ext ?_)
  show cc0_transform_1 k0_off1_inb numel1_S1 (tb m) (crd m hO t) x * _ + 1 * _ = cc0_transform_1 k0_off1_inb numel1_S1 (tb m) (crd m hO t') x * _ + 1 * _
  rw [h]
theorem ub_congr (c : Dev nD) (t t' : Fin (cfgA m hO).N) (h : cc0_transform_2 k0_off1_inb numel1_S1 (tb m) (crd m hO t) = cc0_transform_2 k0_off1_inb numel1_S1 (tb m) (crd m hO t')) :
    ub m hO c t = ub m hO c t' := by
  funext z
  show m (((cfgA m hO).win 2).arr.view.loc (c : Thread nD τ)) ((((cfgA m hO).win 2).blk t).view.emb z) = m (((cfgA m hO).win 2).arr.view.loc (c : Thread nD τ)) ((((cfgA m hO).win 2).blk t').view.emb z)
  refine congrArg (m (((cfgA m hO).win 2).arr.view.loc (c : Thread nD τ))) (funext fun (x : Fin 3) => Fin.ext ?_)
  show cc0_transform_2 k0_off1_inb numel1_S1 (tb m) (crd m hO t) x * _ + 1 * _ = cc0_transform_2 k0_off1_inb numel1_S1 (tb m) (crd m hO t') x * _ + 1 * _
  rw [h]

/-- Whether the block at point t is filled. -/
abbrev live (t : Fin (cfgA m hO).N) : Bool := below (crd m hO t) (nW (tN m))

/-- What point t leaves. -/
def outU (c : Dev nD) (t : Fin (cfgA m hO).N) : FVec F S256x512 .bf16 :=
  if live m hO t = true then k0_pay3 (xb m hO c t) (k0_pay1 (gb m hO c t)) (k0_pay2 (ub m hO c t)) else k0_pay4 (F := F)

/-- What the scratches hold before position n: the cast weights of the point before, if its block is filled. -/
def Held0 (c : Dev nD) (n : ℕ) (a : Buf (Elt F) ((c : Thread nD τ).loc cc0_scratch0)) : Prop :=
  ∀ t : Fin (cfgA m hO).N, t.val + 1 = n → live m hO t = true → sM0.view.read (Elt F) a = k0_pay1 (gb m hO c t)
def Held1 (c : Dev nD) (n : ℕ) (a : Buf (Elt F) ((c : Thread nD τ).loc cc0_scratch1)) : Prop :=
  ∀ t : Fin (cfgA m hO).N, t.val + 1 = n → live m hO t = true → sM1.view.read (Elt F) a = k0_pay2 (ub m hO c t)

/-- A filled block whose weights are not cast anew: the scratches hold its weights. -/
theorem held_keep (c : Dev nD) (t : Fin (cfgA m hO).N) (a0 : Buf (Elt F) ((c : Thread nD τ).loc cc0_scratch0)) (a1 : Buf (Elt F) ((c : Thread nD τ).loc cc0_scratch1))
    (h0 : Held0 m hO c t.val a0) (h1 : Held1 m hO c t.val a1) (hl : live m hO t = true) (hf : ¬ fills (crd m hO t) (tE m) (tN m) = 1#1) :
    sM0.view.read (Elt F) a0 = k0_pay1 (gb m hO c t) ∧ sM1.view.read (Elt F) a1 = k0_pay2 (ub m hO c t) := by
  rw [fills_iff] at hf
  have hn := not_or.1 (fun h => hf ⟨hl, h⟩)
  have ht := coords_val t
  have hz : t.val ≠ 0 := fun h => hn.1 (ht.trans h)
  have he : (eW (crd m hO t) (tE m) : BitVec 32) = pW (crd m hO t) (tE m) := not_not.1 hn.2
  have hlt := t.isLt
  let s : Fin (cfgA m hO).N := ⟨t.val - 1, by omega⟩
  have hs : (crd m hO s 0).val = t.val - 1 := coords_val s
  have hls : live m hO s = true := below_prev (crd m hO t) (crd m hO s) _ (by rw [hs, ht]; omega) hl
  have hx : expert (F := F) (tb m 0) ⟨(crd m hO t 0).val, coord_lt _⟩ = expert (F := F) (tb m 0) ⟨(crd m hO s 0).val, coord_lt _⟩ := by
    rw [← eW_eq (crd m hO t) (tE m), he, pW_eq (crd m hO t) (tE m) hn.1]
    exact congrArg (expert (F := F) (tE m)) (Fin.ext (by show (crd m hO t 0).val - 1 = (crd m hO s 0).val; rw [hs, ht]))
  have hsn : s.val + 1 = t.val := by show t.val - 1 + 1 = t.val; omega
  refine ⟨(h0 s hsn hls).trans (congrArg k0_pay1 (gb_congr m hO c s t ?_)), (h1 s hsn hls).trans (congrArg k0_pay2 (ub_congr m hO c s t ?_))⟩
  · rw [transform_1, transform_1, hx]
  · rw [transform_2, transform_2, hx]

/-- The invariant before point t. -/
def Phi (c : Dev nD) (n : ℕ) : sProp (MM F) :=
  iprop((∃ a, ⌜Held0 m hO c n a⌝ ∗ (sM0.view.loc (c : Thread nD τ) ↦{fullShare} a)) ∗ (∃ a, ⌜Held1 m hO c n a⌝ ∗ (sM1.view.loc (c : Thread nD τ) ↦{fullShare} a))
    ∗ (tM0.view.loc (c : Thread nD τ) ↦{fullShare.right} tE m) ∗ (tM1.view.loc (c : Thread nD τ) ↦{fullShare.right} tN m))

/-- The proof data of the pipeline on core c. -/
def dats (_ : Fin 1) (c : Dev nD) : Dat τ (Elt F) Unit ℕ (UR sig nD τ) ℕ (cfgA m hO) c where
  A w := m (((cfgA m hO).win w).arr.view.loc (c : Thread nD τ))
  after w t := match w with
    | ⟨0, _⟩ => iblk m hO c (0 : Fin 4) t
    | ⟨1, _⟩ => iblk m hO c (1 : Fin 4) t
    | ⟨2, _⟩ => iblk m hO c (2 : Fin 4) t
    | ⟨3, _⟩ => outU m hO c t
  Φ t := Phi m hO c t.val
  q _ := fullShare
  owed _ := 0

theorem after_0 (c : Dev nD) (t : Fin (cfgA m hO).N) : (dats m hO 0 c).after (0 : Fin 4) t = iblk m hO c (0 : Fin 4) t := rfl
theorem after_1 (c : Dev nD) (t : Fin (cfgA m hO).N) : (dats m hO 0 c).after (1 : Fin 4) t = iblk m hO c (1 : Fin 4) t := rfl
theorem after_2 (c : Dev nD) (t : Fin (cfgA m hO).N) : (dats m hO 0 c).after (2 : Fin 4) t = iblk m hO c (2 : Fin 4) t := rfl
theorem after_3 (c : Dev nD) (t : Fin (cfgA m hO).N) : (dats m hO 0 c).after (3 : Fin 4) t = outU m hO c t := rfl

theorem before_0 (c : Dev nD) (t : Fin (cfgA m hO).N) (d) : (dats m hO 0 c).before (0 : Fin 4) t d = iblk m hO c (0 : Fin 4) t :=
  ((dats m hO 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hO).N) (d) : (dats m hO 0 c).before (1 : Fin 4) t d = iblk m hO c (1 : Fin 4) t :=
  ((dats m hO 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hO).N) (d) : (dats m hO 0 c).before (2 : Fin 4) t d = iblk m hO c (2 : Fin 4) t :=
  ((dats m hO 0 c).before_in_eq_fetched (2 : Fin 4) rfl (fun _ => rfl) (fun _ _ _ => rfl) (fun t => by rw [after_2]; unfold Dat.blockOf iblk; rfl) t d).trans
    (by unfold Dat.fetched Dat.blockOf iblk; rfl)

theorem idle_3 (t : Fin (cfgA m hO).N) : (cfgA m hO).idle (3 : Fin 4) ((cfgA m hO).grid.coords t) = false := by
  show (!(k0_cond2 (crd m hO t) ((tb m).atD 1 ![0]) == 1#1) && !(k0_cond3 (crd m hO t) ((tb m).atD 1 ![0]) == 1#1)) = false
  generalize (tb m).atD 1 ![0] = v
  cases h : below (crd m hO t) v with
  | true => simp [(cond2_iff (crd m hO t) v).2 h]
  | false => simp [(cond3_iff (crd m hO t) v).2 h]

/-- The body at point t. -/
abbrev bodyAt (t : Fin (cfgA m hO).N) : Prog (TpuEff nD τ sig (Elt F) Λ₀ .tc) PUnit :=
  cc0_ffn_up (crd m hO t) tM0 (Memref.isWhole_whole _) tM1 (Memref.isWhole_whole _) (ms0 m hO t) (hs0 m hO t) (ms1 m hO t) (hs1 m hO t) (ms2 m hO t) (hs2 m hO t) (ms3 m hO t) (hs3 m hO t)
    sM0 (Memref.isWhole_whole _) sM1 (Memref.isWhole_whole _)

set_option maxHeartbeats 4000000 in
theorem sound_body (c : Dev nD) (t : Fin (cfgA m hO).N) :
    iprop(Phi m hO c t.val ∗ (dats m hO 0 c).owesAt () t.castSucc
        ∗ owns (c : Thread nD τ) (ms0 m hO t) fullShare (xb m hO c t) ∗ owns (c : Thread nD τ) (ms1 m hO t) fullShare (gb m hO c t)
        ∗ owns (c : Thread nD τ) (ms2 m hO t) fullShare (ub m hO c t) ∗ (∃ d, owns (c : Thread nD τ) (ms3 m hO t) fullShare d))
      ⊢ wp frame (wpE (defs₀ (F := F)) Variants.none c none) Set.univ (bodyAt m hO t) fun _ =>
          iprop(Phi m hO c (t.val + 1) ∗ (dats m hO 0 c).owesAt () t.castSucc
            ∗ owns (c : Thread nD τ) (ms0 m hO t) fullShare (xb m hO c t) ∗ owns (c : Thread nD τ) (ms1 m hO t) fullShare (gb m hO c t)
            ∗ owns (c : Thread nD τ) (ms2 m hO t) fullShare (ub m hO c t) ∗ owns (c : Thread nD τ) (ms3 m hO t) fullShare (outU m hO c t)) := by
  unfold Phi
  have same : ∀ s : Fin (cfgA m hO).N, s.val + 1 = t.val + 1 → s = t := fun s h => Fin.ext (by omega)
  iintro ⟨⟨⟨%a0, %ha0, HS0⟩, ⟨%a1, %ha1, HS1⟩, HT0, HT1⟩, Ho, H0, H1, H2, H3⟩
  cases hl : live m hO t with
  | false =>
    have h2 : ¬ k0_cond2 (crd m hO t) (nW (tN m)) = 1#1 := fun h => by rw [cond2_iff] at h; exact absurd (h.symm.trans hl) (by decide)
    have h3 : k0_cond3 (crd m hO t) (nW (tN m)) = 1#1 := (cond3_iff _ _).2 hl
    have hc : ¬ fills (crd m hO t) (tE m) (tN m) = 1#1 := fun h => by rw [fills_iff] at h; exact absurd (h.1.symm.trans hl) (by decide)
    have ho : outU m hO c t = k0_pay4 (F := F) := by unfold outU; rw [if_neg (by rw [hl]; decide)]
    rw [ho]
    iapply (run_dead c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 a1 hc h2 h3 _)
    isplitl [H0]; · iexact H0
    isplitl [H1]; · iexact H1
    isplitl [H2]; · iexact H2
    isplitl [HT0]; · iexact HT0
    isplitl [HT1]; · iexact HT1
    isplitl [H3]; · iexact H3
    isplitl [HS0]; · iexact HS0
    isplitl [HS1]; · iexact HS1
    iintro ⟨H0, H1, H2, HT0, HT1, H3, HS0, HS1⟩
    isplitl [HS0 HS1 HT0 HT1]
    · isplitl [HS0]
      · iexists _; isplitr; swap
        · iexact HS0
        · ipureintro; intro s hs hls; rw [same s hs] at hls; exact absurd (hls.symm.trans hl) (by decide)
      isplitl [HS1]
      · iexists _; isplitr; swap
        · iexact HS1
        · ipureintro; intro s hs hls; rw [same s hs] at hls; exact absurd (hls.symm.trans hl) (by decide)
      isplitl [HT0]
      · iexact HT0
      iexact HT1
    isplitl [Ho]; · iexact Ho
    isplitl [H0]; · iexact H0
    isplitl [H1]; · iexact H1
    isplitl [H2]; · iexact H2
    iexact H3
  | true =>
    have h2 : k0_cond2 (crd m hO t) (nW (tN m)) = 1#1 := (cond2_iff _ _).2 hl
    have h3 : ¬ k0_cond3 (crd m hO t) (nW (tN m)) = 1#1 := fun h => by rw [cond3_iff] at h; exact absurd (h.symm.trans hl) (by decide)
    have ho : outU m hO c t = k0_pay3 (xb m hO c t) (k0_pay1 (gb m hO c t)) (k0_pay2 (ub m hO c t)) := by unfold outU; rw [if_pos hl]
    rw [ho]
    by_cases hc : fills (crd m hO t) (tE m) (tN m) = 1#1
    · iapply (run_fill c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 a1 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, ⟨%b0, %hb0, HS0⟩, ⟨%b1, %hb1, HS1⟩⟩
      isplitl [HS0 HS1 HT0 HT1]
      · isplitl [HS0]
        · iexists _; isplitr; swap
          · iexact HS0
          · ipureintro; intro s hs hls; rw [same s hs]; exact hb0
        isplitl [HS1]
        · iexists _; isplitr; swap
          · iexact HS1
          · ipureintro; intro s hs hls; rw [same s hs]; exact hb1
        isplitl [HT0]
        · iexact HT0
        iexact HT1
      isplitl [Ho]; · iexact Ho
      isplitl [H0]; · iexact H0
      isplitl [H1]; · iexact H1
      isplitl [H2]; · iexact H2
      iexact H3
    · obtain ⟨hk0, hk1⟩ := held_keep m hO c t a0 a1 ha0 ha1 hl hc
      rw [← hk0, ← hk1]
      iapply (run_keep c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 a1 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      isplitl [HS1]; · iexact HS1
      iintro ⟨H0, H1, H2, HT0, HT1, H3, HS0, HS1⟩
      isplitl [HS0 HS1 HT0 HT1]
      · isplitl [HS0]
        · iexists _; isplitr; swap
          · iexact HS0
          · ipureintro; intro s hs hls; rw [same s hs]; exact hk0
        isplitl [HS1]
        · iexists _; isplitr; swap
          · iexact HS1
          · ipureintro; intro s hs hls; rw [same s hs]; exact hk1
        isplitl [HT0]
        · iexact HT0
        iexact HT1
      isplitl [Ho]; · iexact Ho
      isplitl [H0]; · iexact H0
      isplitl [H1]; · iexact H1
      isplitl [H2]; · iexact H2
      iexact H3

set_option maxHeartbeats 4000000 in
/-- The library's body obligation, at every point. -/
theorem body_obligation (c : Dev nD) : BodyObligation (dats m hO 0 c) (defs₀ (F := F)) Variants.none () Set.univ := fun t => by
  rw [bigSep_W0, bigSep_W0]
  rewrite [idle_3 m hO t]
  simp only [before_0, before_1, before_2, after_0, after_1, after_2, after_3]
  rewrite [show (dats m hO 0 c).Φ t.succ = Phi m hO c (t.val + 1) from rfl, show (dats m hO 0 c).Φ t.castSucc = Phi m hO c t.val from rfl,
    show (dats m hO 0 c).owesAt () t.succ = (dats m hO 0 c).owesAt () t.castSucc from rfl]
  refine BIBase.Entails.trans ?_ (sound_body m hO c t)
  iintro ⟨HP, Ho, ⟨%d0, H0⟩, ⟨%d1, H1⟩, ⟨%d2, H2⟩, ⟨%d3, H3⟩⟩
  isplitl [HP]; · iexact HP
  isplitl [Ho]; · iexact Ho
  isplitl [H0]; · iexact H0
  isplitl [H1]; · iexact H1
  isplitl [H2]; · iexact H2
  iexists _; iexact H3

/-! ## The launch -/

/-- The proof's resource algebra: the rounds library's. -/
abbrev EP : Emb (UR sig nD τ) (MM F) := emb₁

/-- The rounds library's launch element. -/
def u₀ : UR sig nD τ :=
  initOf (Pipeline.cells (pcs m hO) ((launch0 (F := F)).cellOf_inj fun _ => adm m hO))
    (Pipeline.launchToks (pcs m hO) ((launch0 (F := F)).cellOf_inj fun _ => adm m hO))

theorem share_eq (c : Dev nD) (w : Fin (cfgA m hO).W) : (dats m hO 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hO).1 ∗ Pipeline.scopedRest spec0 c) ⊢ (dats m hO 0 c).Φ 0 := by
  rw [prefHeld_eq, scopedRest0_eq, show (dats m hO 0 c).Φ 0 = Phi m hO c 0 from rfl]
  unfold Phi
  iintro ⟨-, ⟨HT0, HT1⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]
  · iexact HT0
  iexact HT1

theorem phiN_exit (c : Dev nD) : (dats m hO 0 c).Φ (Fin.last (cfgA m hO).N) ⊢ iprop(BI.emp ∗ Pipeline.scopedRest spec0 c) := by
  rw [scopedRest0_eq, show (dats m hO 0 c).Φ (Fin.last (cfgA m hO).N) = Phi m hO c (Fin.last (cfgA m hO).N).val from rfl]
  unfold Phi
  iintro ⟨⟨%a0, -, HS0⟩, ⟨%a1, -, HS1⟩, -, -⟩
  isplitr; · iempintro
  isplitl [HS0]
  · iexists a0; iexact HS0
  iexists a1; iexact HS1

/-- The arrays and the tables at the end. -/
def QC : PUnit × MemSt nD τ sig (Elt F) → Prop := fun r =>
  ∀ c : Dev nD, (∀ w : Fin (cfgA m hO).W, r.2.mem (((cfgA m hO).win w).arr.view.loc (c : Thread nD τ)) = (dats m hO 0 c).arrAt w (cfgA m hO).N)
    ∧ ∀ j, r.2.mem ((c : Thread nD τ).loc (pre0.ref j)) = (adm m hO).1 j

theorem V_pre (c : Dev nD) (j : Fin 2) : m ((c : Thread nD τ).loc (pre0.ref j)) = (adm m hO).1 j := by
  obtain rfl : c = 0 := Subsingleton.elim _ _
  rfl

set_option backward.isDefEq.respectTransparency.types false in
set_option maxHeartbeats 4000000 in
/-- From any memory with zero counters whose tables name blocks inside the weights, every fair execution ends, with the arrays at the
    computed contents and every counter at zero. -/
theorem run_main_quiescent : θ_run (defs (F := F)) (onTc (τ := τ) (main (F := F))) (s₀ m ρ) (fun r => QC m hO r ∧ r.2.sem = fun _ => 0) :=
  Pipeline.θ_run_region_noSem_pf_quiescent pcfgs (fun _ => adm m hO) (dats m hO) () ((launch0 (F := F)).cellOf_inj fun _ => adm m hO) (0 : Fin 1)
    (launch0 (F := F)).win.to₀ (launch0 (F := F)).pre EP defs₀ Variants.none m ρ main
    (hbody := fun c => (body_obligation m hO c).loose) (hne := (launch0 (F := F)).block_pos)
    (harr := (launch0 (F := F)).arr_whole) (hstage := (launch0 (F := F)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := F)).win.arr_inj c (launch0 (F := F)).arr_whole
      (share_eq m hO c) _ _ fun _ => rfl)
    (hpf := V_pre m hO)
    (X := fun _ => iprop(emp)) (Y := fun _ => iprop(emp)) (Z := fun _ => iprop(emp))
    (hX := fun c => by rw [unscopedRestP0_eq]; iintro -; isplitr <;> iempintro)
    (hin := phi0_intro m hO)
    (hout := phiN_exit m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hO in
/-- The arguments at the end. -/
theorem unchanged :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (0 : Fin 4)).trans ((dats m hO 0 c).arrAt_in (0 : Fin 4) rfl _), ((h.1 c).1 (1 : Fin 4)).trans ((dats m hO 0 c).arrAt_in (1 : Fin 4) rfl _),
    ((h.1 c).1 (2 : Fin 4)).trans ((dats m hO 0 c).arrAt_in (2 : Fin 4) rfl _), ((h.1 c).2 0).trans (V_pre m hO c 0).symm, ((h.1 c).2 1).trans (V_pre m hO c 1).symm⟩) (run_main_quiescent m ρ hO)

include hO in
/-- The frame. -/
theorem frame_up :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Proof.ShUp

end
-- ==== Proof.ShUpSum.lean ====
/- Hand-written: WHAT THE SHARED EXPERT'S UP PROJECTION COMPUTES, at an entry, over the extended reals: the row's block names an expert;
   the entry is the gate product times its logistic times the up product, or zero past the filled blocks. -/
module

public import proofs.«01_k».proof.Kernel6Ideal
public import Idealize.ShloMosaic.Lib.ValueIdx

@[expose] public section

noncomputable section

namespace Cert.Proof.ShUp

open Cert.Kernel6Ideal
open Idealize.ShloMosaic Idealize.ShloMosaic.ValueIdx
open scoped BigOperators

/-- A row times a column of expert e's weights. -/
def prod (x : FVec Idealize.ShloMosaic.Ideal S8192x4096 .bf16) (w : FVec Idealize.ShloMosaic.Ideal S1x4096x512 .f32) (e : Fin 1) (r : Fin 8192) (j : Fin 512) : EReal :=
  ∑ k : Fin 4096, x (ix2 r k) * w (ix3 e k j)

/-- The entry of block b, row i, column j. -/
def upAt (x : FVec Idealize.ShloMosaic.Ideal S8192x4096 .bf16) (g u : FVec Idealize.ShloMosaic.Ideal S1x4096x512 .f32) (be : IVec S32 32) (nv : IVec S1 32)
    (hlt : ∀ k : Fin 32, (be (ix1 k)).toNat < 1) (b : Fin 32) (i : Fin 256) (j : Fin 512) : EReal :=
  if BitVec.slt (BitVec.ofNat 32 b.val) (nv (ix1 0)) = true then
    prod x g ⟨(be (ix1 b)).toNat, hlt b⟩ ⟨b.val * 256 + i.val, by omega⟩ j
      * Idealize.ShloMosaic.Ideal.logistic (prod x g ⟨(be (ix1 b)).toNat, hlt b⟩ ⟨b.val * 256 + i.val, by omega⟩ j)
      * prod x u ⟨(be (ix1 b)).toNat, hlt b⟩ ⟨b.val * 256 + i.val, by omega⟩ j
  else 0

end Cert.Proof.ShUp

end
-- ==== Proof.ShUpArray.lean ====
/- Hand-written: THE ARRAY THE SHARED EXPERT'S UP PROJECTION LEAVES, over the extended reals: the blocks a grid point reads, the body's
   products at an entry, and the array block by block (`up_array`). -/
module

public import proofs.«01_k».proof.Proof.ShUpFrame
public import proofs.«01_k».proof.Proof.ShUpSum
public import Idealize.ShloMosaic.Lib.Pipeline.Value
public import Idealize.ShloMosaic.Lib.Pipeline.ValueKit.Geometry
public import Idealize.ShloMosaic.Lib.MatmulPlain
public import Idealize.ShloMosaic.Lib.IdealHost

@[expose] public section

set_option maxRecDepth 16384

noncomputable section

namespace Cert.Proof.ShUp

open Cert.Kernel6Ideal Cert.Kernel6Ideal.Gen
open Idealize.ShloMosaic Idealize.ShloMosaic.TcCoe Idealize.ShloMosaic.ValueIdx
open Idealize.ShloMosaic.Pipeline (Dat Cfg Window)
open scoped BigOperators

/-! ## The body's values at an entry -/

theorem cast1_apply (w : FVec Idealize.ShloMosaic.Ideal S1x4096x512 .f32) (k : Fin 4096) (j : Fin 512) :
    k0_pay1 (F := Idealize.ShloMosaic.Ideal) w (ix2 k j) = w (ix3 0 k j) := by
  unfold k0_pay1
  refine (shapeCast_apply _ shapeCasts_S4096x512_S4096x512 _ (ix2 k j) rfl).trans ?_
  refine (show truncf .bf16 (shapeCast S4096x512 w shapeCasts_S1x4096x512_S4096x512) bitsLt_bf16_f32 (ix2 k j) = shapeCast S4096x512 w shapeCasts_S1x4096x512_S4096x512 (ix2 k j) from rfl).trans ?_
  refine shapeCast_apply _ shapeCasts_S1x4096x512_S4096x512 _ _ ?_
  rw [Shape.rowMajor_val_three, Shape.rowMajor_val_two]
  show (0 * 4096 + k.val) * 512 + j.val = k.val * 512 + j.val
  omega

theorem cast2_apply (w : FVec Idealize.ShloMosaic.Ideal S1x4096x512 .f32) (k : Fin 4096) (j : Fin 512) :
    k0_pay2 (F := Idealize.ShloMosaic.Ideal) w (ix2 k j) = w (ix3 0 k j) := by
  unfold k0_pay2
  refine (shapeCast_apply _ shapeCasts_S4096x512_S4096x512 _ (ix2 k j) rfl).trans ?_
  refine (show truncf .bf16 (shapeCast S4096x512 w shapeCasts_S1x4096x512_S4096x512) bitsLt_bf16_f32 (ix2 k j) = shapeCast S4096x512 w shapeCasts_S1x4096x512_S4096x512 (ix2 k j) from rfl).trans ?_
  refine shapeCast_apply _ shapeCasts_S1x4096x512_S4096x512 _ _ ?_
  rw [Shape.rowMajor_val_three, Shape.rowMajor_val_two]
  show (0 * 4096 + k.val) * 512 + j.val = k.val * 512 + j.val
  omega

theorem mat_apply (x : FVec Idealize.ShloMosaic.Ideal S256x4096 .bf16) (w : FVec Idealize.ShloMosaic.Ideal S4096x512 .bf16) (i : Fin 256) (j : Fin 512) :
    matmul dot_S256x4096_S4096x512_S256x512_1_0_0_1_n_n none x w (constant (F := Idealize.ShloMosaic.Ideal) S256x512 .f32 0x00000000#32) (ix2 i j)
      = ∑ k : Fin 4096, x (ix2 i k) * w (ix2 k j) := by
  refine (Ideal.matmul_plain_apply (M := 256) (K := 4096) (N := 512) none _ _ _ _ _).trans ?_
  exact (congrArg (fun z : EReal => z + _) (Ideal.ofBits_zero_f32)).trans (zero_add _)

theorem full_apply (x : FVec Idealize.ShloMosaic.Ideal S256x4096 .bf16) (g u : FVec Idealize.ShloMosaic.Ideal S4096x512 .bf16) (i : Fin 256) (j : Fin 512) :
    k0_pay3 (F := Idealize.ShloMosaic.Ideal) x g u (ix2 i j)
      = ((∑ k : Fin 4096, x (ix2 i k) * g (ix2 k j)) * Idealize.ShloMosaic.Ideal.logistic (∑ k : Fin 4096, x (ix2 i k) * g (ix2 k j))
          * (∑ k : Fin 4096, x (ix2 i k) * u (ix2 k j)) : EReal) := by
  rw [← mat_apply x g i j, ← mat_apply x u i j]
  rfl

theorem zero_apply (y : S256x512.Idx) : k0_pay4 (F := Idealize.ShloMosaic.Ideal) y = (0 : EReal) :=
  Ideal.ofBits_zero_bf16

/-! ## The blocks -/

variable (m : (ℓ : Loc nD τ sig) → Buf (Elt Idealize.ShloMosaic.Ideal) ℓ)

abbrev aX : FVec Idealize.ShloMosaic.Ideal S8192x4096 .bf16 := m (((0 : Dev nD) : Thread nD τ).loc main_arg0)
abbrev aG : FVec Idealize.ShloMosaic.Ideal S1x4096x512 .f32 := m (((0 : Dev nD) : Thread nD τ).loc main_arg1)
abbrev aU : FVec Idealize.ShloMosaic.Ideal S1x4096x512 .f32 := m (((0 : Dev nD) : Thread nD τ).loc main_arg2)
abbrev aE : IVec S32 32 := m (((0 : Dev nD) : Thread nD τ).loc main_arg3)
abbrev aN : IVec S1 32 := m (((0 : Dev nD) : Thread nD τ).loc main_arg4)

variable (hlt : ∀ k : Fin 32, BitVec.toNat (w := 32) (aE m (ix1 k)) < 1) (hO : Ok m)

theorem transform_0 (i : grid0.Coords) : cc0_transform_0 i = ![(i 0).val, 0] := by
  have h0 := coord_lt i
  unfold cc0_transform_0
  have e0 : (BitVec.ofNat 32 (i 0).val).toNat = (i 0).val := by rw [BitVec.toNat_ofNat]; omega
  show ![(BitVec.ofNat 32 (i 0).val).toNat, 0] = _
  rw [e0]

theorem transform_3 (i : grid0.Coords) : cc0_transform_3 i = ![(i 0).val, 0] := transform_0 i

theorem x_block (t : Fin (cfgA m hO).N) (b : Fin 32) (hb : (grid0.coords t 0).val = b.val) (i : Fin 256) (k : Fin 4096) :
    xb m hO 0 t (ix2 i k) = aX m (ix2 ⟨b.val * 256 + i.val, by omega⟩ k) := by
  have ht := transform_0 (grid0.coords t)
  show aX m ((((cfgA m hO).win 0).blk t).view.emb (ix2 i k)) = aX m _
  refine congrArg (aX m) (funext fun (x : Fin 2) => Fin.ext ?_)
  match x with
  | ⟨0, _⟩ => show cc0_transform_0 (grid0.coords t) (0 : Fin 2) * 256 + 1 * i.val = _; rw [ht]; show (grid0.coords t 0).val * 256 + 1 * i.val = b.val * 256 + i.val; omega
  | ⟨1, _⟩ => show cc0_transform_0 (grid0.coords t) (1 : Fin 2) * 4096 + 1 * k.val = k.val; rw [ht]; show 0 * 4096 + 1 * k.val = k.val; omega

theorem g_block (t : Fin (cfgA m hO).N) (b : Fin 32) (hb : (grid0.coords t 0).val = b.val) (k : Fin 4096) (j : Fin 512) :
    gb m hO 0 t (ix3 0 k j) = aG m (ix3 ⟨(aE m (ix1 b)).toNat, hlt b⟩ k j) := by
  have ht := transform_1 (tb m) (grid0.coords t)
  have e : (⟨(grid0.coords t 0).val, coord_lt (grid0.coords t)⟩ : Fin 32) = b := Fin.ext hb
  rw [e] at ht
  show aG m ((((cfgA m hO).win 1).blk t).view.emb (ix3 0 k j)) = aG m _
  refine congrArg (aG m) (funext fun (x : Fin 3) => Fin.ext ?_)
  match x with
  | ⟨0, _⟩ => show cc0_transform_1 k0_off1_inb numel1_S1 (tb m) (grid0.coords t) (0 : Fin 3) * 1 + 1 * 0 = _; rw [ht]; show (aE m (ix1 b)).toNat * 1 + 1 * 0 = (aE m (ix1 b)).toNat; omega
  | ⟨1, _⟩ => show cc0_transform_1 k0_off1_inb numel1_S1 (tb m) (grid0.coords t) (1 : Fin 3) * 4096 + 1 * k.val = k.val; rw [ht]; show 0 * 4096 + 1 * k.val = k.val; omega
  | ⟨2, _⟩ => show cc0_transform_1 k0_off1_inb numel1_S1 (tb m) (grid0.coords t) (2 : Fin 3) * 512 + 1 * j.val = j.val; rw [ht]; show 0 * 512 + 1 * j.val = j.val; omega

theorem u_block (t : Fin (cfgA m hO).N) (b : Fin 32) (hb : (grid0.coords t 0).val = b.val) (k : Fin 4096) (j : Fin 512) :
    ub m hO 0 t (ix3 0 k j) = aU m (ix3 ⟨(aE m (ix1 b)).toNat, hlt b⟩ k j) := by
  have ht := transform_2 (tb m) (grid0.coords t)
  have e : (⟨(grid0.coords t 0).val, coord_lt (grid0.coords t)⟩ : Fin 32) = b := Fin.ext hb
  rw [e] at ht
  show aU m ((((cfgA m hO).win 2).blk t).view.emb (ix3 0 k j)) = aU m _
  refine congrArg (aU m) (funext fun (x : Fin 3) => Fin.ext ?_)
  match x with
  | ⟨0, _⟩ => show cc0_transform_2 k0_off1_inb numel1_S1 (tb m) (grid0.coords t) (0 : Fin 3) * 1 + 1 * 0 = _; rw [ht]; show (aE m (ix1 b)).toNat * 1 + 1 * 0 = (aE m (ix1 b)).toNat; omega
  | ⟨1, _⟩ => show cc0_transform_2 k0_off1_inb numel1_S1 (tb m) (grid0.coords t) (1 : Fin 3) * 4096 + 1 * k.val = k.val; rw [ht]; show 0 * 4096 + 1 * k.val = k.val; omega
  | ⟨2, _⟩ => show cc0_transform_2 k0_off1_inb numel1_S1 (tb m) (grid0.coords t) (2 : Fin 3) * 512 + 1 * j.val = j.val; rw [ht]; show 0 * 512 + 1 * j.val = j.val; omega

/-- What point b leaves, at an entry. -/
theorem out_apply (t : Fin (cfgA m hO).N) (b : Fin 32) (hb : (grid0.coords t 0).val = b.val) (i : Fin 256) (j : Fin 512) :
    outU m hO 0 t (ix2 i j) = upAt (aX m) (aG m) (aU m) (aE m) (aN m) hlt b i j := by
  have hl : live m hO t = BitVec.slt (BitVec.ofNat 32 b.val) (aN m (ix1 0)) := by
    show BitVec.slt (BitVec.ofNat 32 (grid0.coords t 0).val) (nW (tN m)) = _
    rw [hb, nW_eq]
    rfl
  unfold outU upAt
  rw [hl]
  by_cases h : BitVec.slt (BitVec.ofNat 32 b.val) (aN m (ix1 0)) = true
  · rw [if_pos h, if_pos h]
    refine (full_apply _ _ _ i j).trans ?_
    have eg : (∑ k : Fin 4096, xb m hO 0 t (ix2 i k) * k0_pay1 (F := Idealize.ShloMosaic.Ideal) (gb m hO 0 t) (ix2 k j) : EReal)
        = prod (aX m) (aG m) ⟨(aE m (ix1 b)).toNat, hlt b⟩ ⟨b.val * 256 + i.val, by omega⟩ j :=
      Finset.sum_congr rfl fun k _ => congrArg₂ (· * ·) (x_block m hO t b hb i k) ((cast1_apply _ k j).trans (g_block m hlt hO t b hb k j))
    have eu : (∑ k : Fin 4096, xb m hO 0 t (ix2 i k) * k0_pay2 (F := Idealize.ShloMosaic.Ideal) (ub m hO 0 t) (ix2 k j) : EReal)
        = prod (aX m) (aU m) ⟨(aE m (ix1 b)).toNat, hlt b⟩ ⟨b.val * 256 + i.val, by omega⟩ j :=
      Finset.sum_congr rfl fun k _ => congrArg₂ (· * ·) (x_block m hO t b hb i k) ((cast2_apply _ k j).trans (u_block m hlt hO t b hb k j))
    exact congrArg₂ (fun a c : EReal => a * Idealize.ShloMosaic.Ideal.logistic a * c) eg eu
  · rw [if_neg h, if_neg h]
    exact zero_apply _

/-! ## The array -/

/-- Where the output's block places an index. -/
theorem out_emb (t : Fin (cfgA m hO).N) (y : S256x512.Idx) :
    ((((cfgA m hO).win 3).blk t).view.emb y : S8192x512.Idx) = ix2 ⟨(grid0.coords t 0).val * 256 + (y 0).val, by
      have h0 := coord_lt (grid0.coords t); have h1 : (y 0).val < 256 := (y 0).isLt; omega⟩ (y 1) := by
  have ht := transform_3 (grid0.coords t)
  refine funext fun (a : Fin 2) => Fin.ext ?_
  match a with
  | ⟨0, _⟩ => show cc0_transform_3 (grid0.coords t) (0 : Fin 2) * 256 + 1 * (y 0).val = (grid0.coords t 0).val * 256 + (y 0).val; rw [ht]; show (grid0.coords t 0).val * 256 + 1 * (y 0).val = _; omega
  | ⟨1, _⟩ => show cc0_transform_3 (grid0.coords t) (1 : Fin 2) * 512 + 1 * (y 1).val = (y 1).val; rw [ht]; show 0 * 512 + 1 * (y 1).val = (y 1).val; omega

theorem flush_all : ∀ t : Fin grid0.N, Pipeline.Window.flushOf grid0 true cc0_transform_3 t = true := by decide +kernel

theorem flush_3 (t : Fin (cfgA m hO).N) : ((cfgA m hO).win 3).flush t = true := flush_all t

theorem point_of (b : Fin 32) : ∃ t : Fin grid0.N, (grid0.coords t 0).val = b.val :=
  ⟨⟨b.val, by rw [N_0]; exact b.isLt⟩, coords_val _⟩

/-- The array the region leaves. -/
theorem up_array :
    (dats m hO 0 (0 : Dev nD)).arrAt 3 (cfgA m hO).N
      = ((fun y : S8192x512.Idx => upAt (aX m) (aG m) (aU m) (aE m) (aN m) hlt ⟨(y 0).val / 256, by have h : (y 0).val < 8192 := (y 0).isLt; omega⟩
          ⟨(y 0).val % 256, by omega⟩ (y 1)) : FVec Idealize.ShloMosaic.Ideal S8192x512 .bf16) := by
  refine (dats m hO 0 (0 : Dev nD)).arrAt_eq_of_emb 3 _ (fun t _ y => ?_) fun i => ?_
  · refine (show _ = (dats m hO 0 (0 : Dev nD)).after 3 t y from rfl).trans ?_
    rw [after_3]
    have hy0 : (y (0 : Fin 2)).val < 256 := (y (0 : Fin 2)).isLt
    have hc := coord_lt (grid0.coords t)
    refine (congrArg (outU m hO 0 t) (eq_ix2 (y : S256x512.Idx))).trans ?_
    refine (out_apply m hlt hO t ⟨(grid0.coords t 0).val, hc⟩ rfl (y (0 : Fin 2)) (y (1 : Fin 2))).trans ?_
    refine Eq.trans ?_ (congrArg (fun y : S8192x512.Idx => upAt (aX m) (aG m) (aU m) (aE m) (aN m) hlt ⟨(y 0).val / 256, by have h : (y 0).val < 8192 := (y 0).isLt; omega⟩
          ⟨(y 0).val % 256, by omega⟩ (y 1)) (out_emb m hO t y)).symm
    have e1 : (⟨((grid0.coords t 0).val * 256 + (y (0 : Fin 2)).val) / 256, by omega⟩ : Fin 32) = ⟨(grid0.coords t 0).val, hc⟩ := Fin.ext (by
      show ((grid0.coords t 0).val * 256 + (y (0 : Fin 2)).val) / 256 = (grid0.coords t 0).val; omega)
    have e2 : (⟨((grid0.coords t 0).val * 256 + (y (0 : Fin 2)).val) % 256, by omega⟩ : Fin 256) = y (0 : Fin 2) := Fin.ext (by
      show ((grid0.coords t 0).val * 256 + (y (0 : Fin 2)).val) % 256 = (y (0 : Fin 2)).val; omega)
    exact (congrArg₂ (fun (b : Fin 32) (i : Fin 256) => upAt (aX m) (aG m) (aU m) (aE m) (aN m) hlt b i (y (1 : Fin 2))) e1 e2).symm
  · have hi : (i (0 : Fin 2)).val < 8192 := (i (0 : Fin 2)).isLt
    obtain ⟨t, h0⟩ := point_of ⟨(i (0 : Fin 2)).val / 256, by omega⟩
    refine ⟨t, flush_3 m hO t, ?_⟩
    have e : ((((cfgA m hO).win 3).blk t).view.emb (ix2 ⟨(i (0 : Fin 2)).val % 256, by omega⟩ (i (1 : Fin 2)) : S256x512.Idx) : S8192x512.Idx) = i := by
      rw [out_emb]
      refine funext fun (a : Fin 2) => Fin.ext ?_
      match a with
      | ⟨0, _⟩ => show (grid0.coords t 0).val * 256 + (i (0 : Fin 2)).val % 256 = (i (0 : Fin 2)).val; rw [h0]; show (i (0 : Fin 2)).val / 256 * 256 + (i (0 : Fin 2)).val % 256 = (i (0 : Fin 2)).val; omega
      | ⟨1, _⟩ => rfl
    rw [← e]
    exact View.emb_mem_set _ _

end Cert.Proof.ShUp

end
-- ==== Proof.ShUpRef.lean ====
/- Hand-written: THE REFERENCE OF THE SHARED EXPERT'S UP PROJECTION AT AN ENTRY, over the extended reals: the products with the one
   expert's weights, and the result (`ref_apply`), which is the kernel's entry where every block is filled. -/
module

public import proofs.«01_k».proof.Proof.Gen.Reference6Ideal.Read
public import proofs.«01_k».proof.Proof.ShUpSum
public import Idealize.ShloMosaic.Lib.ValueIdx
public import Idealize.ShloMosaic.Lib.IdealHost

@[expose] public section

noncomputable section

namespace Cert.Proof.ShUpRef

open Cert.Reference6Ideal Cert.Reference6Ideal.Gen Cert.Reference6Ideal.Read
open Idealize.ShloMosaic Idealize.ShloMosaic.TcCoe Idealize.ShloMosaic.ValueIdx
open scoped BigOperators

variable (x0 : FVec Idealize.ShloMosaic.Ideal S8192x4096 .bf16) (x1 x2 : FVec Idealize.ShloMosaic.Ideal S1x4096x512 .f32) (x3 : IVec S32 32) (x4 : IVec S1 32)

theorem gate_apply (r : Fin 8192) (j : Fin 512) :
    val_main_v2 (F := Idealize.ShloMosaic.Ideal) x0 x1 (ix2 r j) = ShUp.prod x0 x1 0 r j := by
  rw [val_main_v2_apply]
  refine Finset.sum_congr rfl fun k _ => ?_
  have el : lidx_main_v2 (ix2 r j) k = ix2 r k := by
    funext a
    match a with
    | ⟨0, _⟩ => rfl
    | ⟨1, _⟩ => rfl
  have er : idx_main_v1 (ridx_main_v2 (ix2 r j) k) = ix3 0 k j := by
    refine funext fun (a : Fin 3) => Fin.ext ?_
    match a with
    | ⟨0, _⟩ => rfl
    | ⟨1, _⟩ => show (k.val * 512 + j.val) / 512 % 4096 = k.val; omega
    | ⟨2, _⟩ => show (k.val * 512 + j.val) % 512 = j.val; omega
  rw [el, val_main_v1_apply, er]
  rfl

theorem up_apply (r : Fin 8192) (j : Fin 512) :
    val_main_v5 (F := Idealize.ShloMosaic.Ideal) x0 x2 (ix2 r j) = ShUp.prod x0 x2 0 r j := by
  rw [val_main_v5_apply]
  refine Finset.sum_congr rfl fun k _ => ?_
  have el : lidx_main_v5 (ix2 r j) k = ix2 r k := by
    funext a
    match a with
    | ⟨0, _⟩ => rfl
    | ⟨1, _⟩ => rfl
  have er : idx_main_v4 (ridx_main_v5 (ix2 r j) k) = ix3 0 k j := by
    refine funext fun (a : Fin 3) => Fin.ext ?_
    match a with
    | ⟨0, _⟩ => rfl
    | ⟨1, _⟩ => show (k.val * 512 + j.val) / 512 % 4096 = k.val; omega
    | ⟨2, _⟩ => show (k.val * 512 + j.val) % 512 = j.val; omega
  rw [el, val_main_v4_apply, er]
  rfl

/-- A product times its logistic. -/
theorem silu_apply (i : S8192x512.Idx) (a : EReal) (ha : val_main_v2 (F := Idealize.ShloMosaic.Ideal) x0 x1 i = a) :
    val_main_v3 (F := Idealize.ShloMosaic.Ideal) x0 x1 i = (a * Idealize.ShloMosaic.Ideal.logistic a : EReal) := by
  rw [val_main_v3_apply, val_main_call0_v5_apply, val_main_call0_v4_apply, val_main_call0_v3_apply, val_main_call0_v2_apply, val_main_call0_v1_apply, val_main_call0_v0_apply,
    val_main_call0_cst_0_apply, val_main_call0_cst_apply, ha]
  have h1 : (FloatOps.ofBits .f32 0x3F800000#32 : Idealize.ShloMosaic.Ideal .f32) = (1 : EReal) := Ideal.ofBits_one_f32
  rw [h1]
  rfl

theorem row_apply (r : Fin 8192) (j : Fin 512) :
    val_main_v7 (F := Idealize.ShloMosaic.Ideal) x0 x1 x2 (ix2 r j)
      = (ShUp.prod x0 x1 0 r j * Idealize.ShloMosaic.Ideal.logistic (ShUp.prod x0 x1 0 r j) * ShUp.prod x0 x2 0 r j : EReal) := by
  rw [val_main_v7_apply, val_main_v6_apply, silu_apply x0 x1 _ _ (gate_apply x0 x1 r j), up_apply]
  rfl

theorem filled (b : Fin 32) : BitVec.slt (BitVec.ofNat 32 b.val) 32#32 = true := by
  revert b; decide

/-- The reference's result, at an entry. -/
theorem ref_apply (hlt : ∀ k : Fin 32, (x3 (ix1 k)).toNat < 1) (hn : x4 (ix1 0) = 32#32) (y : S8192x512.Idx) :
    val_main_v7 (F := Idealize.ShloMosaic.Ideal) x0 x1 x2 y
      = ShUp.upAt x0 x1 x2 x3 x4 hlt ⟨(y 0).val / 256, by have h : (y 0).val < 8192 := (y 0).isLt; omega⟩ ⟨(y 0).val % 256, by omega⟩ (y 1) := by
  have h0 : (y 0).val < 8192 := (y 0).isLt
  have hb : (y 0).val / 256 < 32 := by omega
  unfold ShUp.upAt
  rw [if_pos ((congrArg (BitVec.slt (BitVec.ofNat 32 ((y 0).val / 256))) hn).trans (filled ⟨(y 0).val / 256, hb⟩))]
  have hr : (⟨(y 0).val / 256 * 256 + (y 0).val % 256, by omega⟩ : Fin 8192) = y 0 := Fin.ext (by
    show (y 0).val / 256 * 256 + (y 0).val % 256 = (y 0).val; omega)
  have he : (⟨(x3 (ix1 ⟨(y 0).val / 256, hb⟩)).toNat, hlt _⟩ : Fin 1) = 0 := Subsingleton.elim _ _
  refine (congrArg (val_main_v7 (F := Idealize.ShloMosaic.Ideal) x0 x1 x2) (eq_ix2 y)).trans ((row_apply x0 x1 x2 (y 0) (y 1)).trans ?_)
  exact congrArg₂ (fun (e : Fin 1) (r : Fin 8192) => (ShUp.prod x0 x1 e r (y 1) * Idealize.ShloMosaic.Ideal.logistic (ShUp.prod x0 x1 e r (y 1)) * ShUp.prod x0 x2 e r (y 1) : EReal)) he.symm hr.symm

end Cert.Proof.ShUpRef

end
-- ==== Proof.ShUpClaims.lean ====
/- Hand-written: THE CLAIMS OF THE SHARED EXPERT'S UP PROJECTION. The precondition says that every word of the table is zero, the one
   expert, which is the frame's side condition, and that all 32 blocks are filled; the value is `ShUpArray`'s `up_array` on the
   kernel's side and `ShUpRef`'s `ref_apply` on the reference's. -/
module

public import proofs.«01_k».proof.Defs
public import proofs.«01_k».proof.Proof.Gen.Pre_one_expert
public import proofs.«01_k».proof.Proof.Gen.Kernel6
public import proofs.«01_k».proof.Proof.Gen.Reference6Ideal.Run
public import proofs.«01_k».proof.Proof.ShUpArray
public import proofs.«01_k».proof.Proof.ShUpRef
public import Idealize.ShloMosaic.Lib.Claim

@[expose] public section

set_option maxRecDepth 16384

noncomputable section

namespace Cert.Proof.ShUp

open Idealize.ShloMosaic Idealize.ShloMosaic.TcCoe Idealize.ShloMosaic.ValueIdx
open scoped BigOperators

theorem idx_one (i j : Cert.Kernel6Ideal.S1.Idx) : i = j := by
  funext a
  match a with
  | ⟨0, _⟩ => exact Subsingleton.elim (α := Fin 1) _ _

/-- The precondition, at an entry of the table and at the number of filled blocks. -/
theorem tables {F : FTy → Type} [FloatOps F] (a0 : FVec F Cert.Kernel6Ideal.S8192x4096 .bf16) (a1 a2 : FVec F Cert.Kernel6Ideal.S1x4096x512 .f32)
    (be : IVec Cert.Kernel6Ideal.S32 32) (nv : IVec Cert.Kernel6Ideal.S1 32)
    (h : Cert.Pre_one_expert.fn (F := F) a0 a1 a2 be nv = fun _ => 1#1) (y : Cert.Kernel6Ideal.S32.Idx) : be y = 0#32 ∧ nv (ix1 0) = 32#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_one_expert.fn, andi, cmpi, broadcastInDim, constantI, IntOp.cmpi, andi_ofBool, ofBool_eq_one,
    Bool.and_eq_true, beq_iff_eq] at e
  exact ⟨e.1, (congrArg nv (idx_one _ _)).trans e.2⟩

theorem in_range {F : FTy → Type} [FloatOps F] (a0 : FVec F Cert.Kernel6Ideal.S8192x4096 .bf16) (a1 a2 : FVec F Cert.Kernel6Ideal.S1x4096x512 .f32)
    (be : IVec Cert.Kernel6Ideal.S32 32) (nv : IVec Cert.Kernel6Ideal.S1 32)
    (h : Cert.Pre_one_expert.fn (F := F) a0 a1 a2 be nv = fun _ => 1#1) (y : Cert.Kernel6Ideal.S32.Idx) : (be y).toNat < 1 := by
  rw [(tables a0 a1 a2 be nv h y).1]
  decide

/-- The kernel over the extended reals runs, keeps its arguments and ends with every counter at zero. -/
theorem frame_ideal : Cert.quiescent_Kernel6Ideal := fun m g h =>
  frame_up m g (ok_of_lt m fun k => in_range _ _ _ _ _ (h 0) (ix1 k))

/-! ## The same program over the floating-point formats

The two printings of the kernel are the same definitions under two names, so the frame, which is proved for every instance of
the operations, holds of both. -/

theorem body_same {F : FTy → Type} [FloatOps F] : Kernel6.defs₀ (F := F) = Kernel6Ideal.defs₀ (F := F) := by
  refine congrArg (Defs.onTc (nD := Kernel6.nD) (τ := Kernel6.τ) (sig := Kernel6.sig) (Λ := Kernel6.Λ₀)) (funext fun p => funext fun x => ?_)
  match p, x with
  | 0, (t, s) => with_unfolding_all rfl

theorem defs_same {F : FTy → Type} [FloatOps F] : Kernel6.defs (F := F) = Kernel6Ideal.defs (F := F) := by
  refine Eq.trans (b := Pipeline.defs Kernel6.pcfgs (Kernel6Ideal.defs₀ (F := F))) (congrArg (Pipeline.defs Kernel6.pcfgs) body_same) ?_
  with_unfolding_all rfl

theorem run_same (m : (ℓ : Loc Kernel6.nD Kernel6.τ Kernel6.sig) → Buf (Elt Bits) ℓ) (g : Dev Kernel6.nD → PrngReg)
    (P : PUnit × MemSt Kernel6.nD Kernel6.τ Kernel6.sig (Elt Bits) → Prop)
    (h : θ_run (Kernel6Ideal.defs (F := Bits)) (onTc (τ := Kernel6Ideal.τ) (Kernel6Ideal.main (F := Bits))) ⟨m, fun _ => 0, g⟩ P) :
    θ_run (Kernel6.defs (F := Bits)) (onTc (τ := Kernel6.τ) (Kernel6.main (F := Bits))) ⟨m, fun _ => 0, g⟩ P := by
  rw [defs_same]; exact h

set_option backward.isDefEq.respectTransparency false in
/-- The kernel over the floating-point formats runs, keeps its arguments and ends with every counter at zero. -/
theorem frame_bits : Cert.quiescent_Kernel6 := fun m g h =>
  run_same m g _ (frame_up (F := Bits) m g (ok_of_lt (F := Bits) m fun k => in_range (F := Bits) _ _ _ _ _ (h 0) (ix1 k)))

/-- The reference over the extended reals runs, keeps its arguments and ends with every counter at zero. -/
theorem frame_ref : Cert.quiescent_Reference6Ideal := fun m g _ =>
  (θ_run Cert.Reference6Ideal.defs _ _).mono (fun r h => ⟨fun c => (h c).2, sem_eq_zero_of_no_sems (by decide) r.2⟩) (Cert.Reference6Ideal.Value.run m g)

theorem frame_ref_pre : Cert.quiescent_Reference6Ideal_pre_one_expert := fun m g _ =>
  (θ_run Cert.Reference6Ideal.defs _ _).mono (fun r h => ⟨fun c => (h c).2, sem_eq_zero_of_no_sems (by decide) r.2⟩) (Cert.Reference6Ideal.Value.run m g)

/-- The kernel's array and the reference's result are the same function of the arguments. -/
theorem algebraic : Cert.algebraic_Kernel6Ideal_Reference6Ideal := by
  intro m g m' g' hpre hagree
  have hlt : ∀ k : Fin 32, BitVec.toNat (w := 32) (aE m (ix1 k)) < 1 := fun k => in_range _ _ _ _ _ (hpre 0) (ix1 k)
  have hn : aN m (ix1 0) = 32#32 := (tables _ _ _ _ _ (hpre 0) (ix1 0)).2
  have hO : Ok m := ok_of_lt m hlt
  refine ⟨fun _ => ((fun y : Cert.Kernel6Ideal.S8192x512.Idx => upAt (aX m) (aG m) (aU m) (aE m) (aN m) hlt ⟨(y 0).val / 256, by have h : (y 0).val < 8192 := (y 0).isLt; omega⟩
          ⟨(y 0).val % 256, by omega⟩ (y 1)) : FVec Idealize.ShloMosaic.Ideal Cert.Kernel6Ideal.S8192x512 .bf16), ?_, ?_⟩
  · refine (θ_run Cert.Kernel6Ideal.defs _ _).mono (fun r h c => ?_)
      (θ_run_and (run_main_quiescent m g hO) (unchanged m g hO))
    obtain rfl : c = 0 := Subsingleton.elim _ _
    exact ⟨((h.1.1 0).1 3).trans (up_array m hlt hO), h.2 0⟩
  · refine (θ_run Cert.Reference6Ideal.defs _ _).mono (fun r h c => ?_) (Cert.Reference6Ideal.Value.run m' g')
    obtain rfl : c = 0 := Subsingleton.elim _ _
    refine ⟨((h 0).1.trans (Cert.Reference6Ideal.Read.val_main_v7_eq _ _ _)).trans ?_, (h 0).2⟩
    obtain ⟨h0, h1, h2, -, -⟩ := hagree 0
    funext y
    refine (congrFun (congr (congr (congrArg Cert.Reference6Ideal.Read.val_main_v7 h0) h1) h2) y).trans ?_
    exact ShUpRef.ref_apply _ _ _ _ _ hlt hn y

end Cert.Proof.ShUp

end
-- ==== Proof.ShDownRun.lean ====
/- Hand-written: THE BODY OF THE SHARED EXPERT'S DOWN PROJECTION AT ONE GRID POINT, in its three cases, for any tables. -/
module

public import proofs.«01_k».proof.Defs
public import proofs.«01_k».proof.Proof.Gen.Kernel7Ideal
public import proofs.«01_k».proof.Proof.Gen.Kernel7Ideal.Launch
public import proofs.«01_k».proof.Proof.Gen.Kernel7Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Proof.ShDown

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The model the proof is written in. -/
abbrev MM (F : FTy → Type) [FloatOps F] := MT nD τ sig Unit (Elt F) ℕ (UR sig nD τ) ℕ

/-- The two tables and the scratch, as the body holds them. -/
abbrev tM0 : Memref sig .tc .smem S32 .i32 := Memref.whole main_arg3
abbrev tM1 : Memref sig .tc .smem S1 .i32 := Memref.whole main_arg4
abbrev sM0 : Memref sig .tc .vmem S512x4096 .bf16 := Memref.whole cc0_scratch0

/-- The number of filled blocks, the expert of the block at hand, the expert of the block before: as the body reads them. -/
abbrev nW (T1 : S1.Idx → Elt F .i32) : Elt F .i32 :=
  View.readAt (Elt F) (tM1).view (Rect.unit (s := S1) ![0] S1.size inb_S1_S1_0).toLoadRect T1 (Shape.Idx.first (numel1_S1.symm ▸ Nat.one_pos))
abbrev eW (i : grid0.Coords) (T0 : S32.Idx → Elt F .i32) : Elt F .i32 :=
  View.readAt (Elt F) (tM0).view (Rect.unit (s := S32) (k0_off1 i) S1.size (k0_off1_inb i)).toLoadRect T0 (Shape.Idx.first (numel1_S1.symm ▸ Nat.one_pos))
abbrev pW (i : grid0.Coords) (T0 : S32.Idx → Elt F .i32) : Elt F .i32 :=
  View.readAt (Elt F) (tM0).view (Rect.unit (s := S32) (k0_off2 i) S1.size (k0_off2_inb i)).toLoadRect T0 (Shape.Idx.first (numel1_S1.symm ▸ Nat.one_pos))

/-- Whether the body casts the weights at the point: the block is filled, and its expert is not the one before. -/
abbrev fills (i : grid0.Coords) (T0 : S32.Idx → Elt F .i32) (T1 : S1.Idx → Elt F .i32) : BitVec 1 :=
  Scalar.cmpi .ne (Scalar.extui (Scalar.andi (Scalar.cmpi .slt (BitVec.ofNat 32 (i 0).val) (nW T1)) (Scalar.ori (Scalar.cmpi .eq (BitVec.ofNat 32 (i 0).val) 0#32) (Scalar.cmpi .ne (eW i T0) (pW i T0)))) : BitVec 32) 0#32

set_option maxHeartbeats 8000000 in
/-- A point past the filled blocks: the body stores zeros and reads nothing else. -/
theorem run_dead (c : Dev nD) (i : grid0.Coords) (arg3 : Memref sig .tc .vmem S256x512 .bf16) (harg3 : arg3.IsWhole) (arg4 : Memref sig .tc .vmem S1x512x4096 .f32) (harg4 : arg4.IsWhole)
    (arg5 : Memref sig .tc .vmem S256x1 .f32) (harg5 : arg5.IsWhole) (arg6 : Memref sig .tc .vmem S256x4096 .f32) (harg6 : arg6.IsWhole)
    (T0 : S32.Idx → Elt F .i32) (T1 : S1.Idx → Elt F .i32)
    (x0 : S256x512.Idx → Elt F .bf16) (x1 : S1x512x4096.Idx → Elt F .f32) (x2 : S256x1.Idx → Elt F .f32)
    (a0 : Buf (Elt F) ((c : Thread nD τ).loc cc0_scratch0))
    (hc : ¬(fills i T0 T1 = 1#1)) (h2 : ¬(k0_cond2 i (nW T1) = 1#1)) (h3 : k0_cond3 i (nW T1) = 1#1)
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay3 (F := F))
          ∗ (sM0.view.loc (c : Thread nD τ) ↦{fullShare} a0)) -∗ K ⟨⟩))
      ⊢ wp frame (wpE (defs₀ (F := F)) Variants.none c none) Set.univ (cc0_ffn_down i tM0 (Memref.isWhole_whole _) tM1 (Memref.isWhole_whole _) arg3 harg3 arg4 harg4 arg5 harg5 arg6 harg6
          sM0 (Memref.isWhole_whole _)) K := by
  unfold owns
  rw [cc0_ffn_down_eq_skeleton]; unfold cc0_ffn_down_skel
  iintro ⟨⟨%f0, %hf0, H0⟩, ⟨%f1, %hf1, H1⟩, ⟨%f2, %hf2, H2⟩, HT0, HT1, ⟨%d3, %f3, -, HO3⟩, HS0, Hk⟩
  have hS0 : sM0.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro; exact View.read_writes_full _ _ _ _ _
  iexact HS0

set_option maxHeartbeats 8000000 in
/-- A filled block of the same expert as before: the scratch holds the cast weights already. -/
theorem run_keep (c : Dev nD) (i : grid0.Coords) (arg3 : Memref sig .tc .vmem S256x512 .bf16) (harg3 : arg3.IsWhole) (arg4 : Memref sig .tc .vmem S1x512x4096 .f32) (harg4 : arg4.IsWhole)
    (arg5 : Memref sig .tc .vmem S256x1 .f32) (harg5 : arg5.IsWhole) (arg6 : Memref sig .tc .vmem S256x4096 .f32) (harg6 : arg6.IsWhole)
    (T0 : S32.Idx → Elt F .i32) (T1 : S1.Idx → Elt F .i32)
    (x0 : S256x512.Idx → Elt F .bf16) (x1 : S1x512x4096.Idx → Elt F .f32) (x2 : S256x1.Idx → Elt F .f32)
    (a0 : Buf (Elt F) ((c : Thread nD τ).loc cc0_scratch0))
    (hc : ¬(fills i T0 T1 = 1#1)) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay2 x0 (sM0.view.read (Elt F) a0) x2)
          ∗ (sM0.view.loc (c : Thread nD τ) ↦{fullShare} a0)) -∗ K ⟨⟩))
      ⊢ wp frame (wpE (defs₀ (F := F)) Variants.none c none) Set.univ (cc0_ffn_down i tM0 (Memref.isWhole_whole _) tM1 (Memref.isWhole_whole _) arg3 harg3 arg4 harg4 arg5 harg5 arg6 harg6
          sM0 (Memref.isWhole_whole _)) K := by
  unfold owns
  rw [cc0_ffn_down_eq_skeleton]; unfold cc0_ffn_down_skel
  iintro ⟨⟨%f0, %hf0, H0⟩, ⟨%f1, %hf1, H1⟩, ⟨%f2, %hf2, H2⟩, HT0, HT1, ⟨%d3, %f3, -, HO3⟩, HS0, Hk⟩
  have hS0 : sM0.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full, View.readAt_full, View.readAt_full, hf0, hf2]
  iexact HS0

set_option maxHeartbeats 8000000 in
/-- A filled block of a new expert: the body casts its weights into the scratch first. -/
theorem run_fill (c : Dev nD) (i : grid0.Coords) (arg3 : Memref sig .tc .vmem S256x512 .bf16) (harg3 : arg3.IsWhole) (arg4 : Memref sig .tc .vmem S1x512x4096 .f32) (harg4 : arg4.IsWhole)
    (arg5 : Memref sig .tc .vmem S256x1 .f32) (harg5 : arg5.IsWhole) (arg6 : Memref sig .tc .vmem S256x4096 .f32) (harg6 : arg6.IsWhole)
    (T0 : S32.Idx → Elt F .i32) (T1 : S1.Idx → Elt F .i32)
    (x0 : S256x512.Idx → Elt F .bf16) (x1 : S1x512x4096.Idx → Elt F .f32) (x2 : S256x1.Idx → Elt F .f32)
    (a0 : Buf (Elt F) ((c : Thread nD τ).loc cc0_scratch0))
    (hc : fills i T0 T1 = 1#1) (h2 : k0_cond2 i (nW T1) = 1#1) (h3 : ¬(k0_cond3 i (nW T1) = 1#1))
    (K : PUnit → sProp (MM F)) :
    iprop(owns (c : Thread nD τ) arg3 fullShare x0 ∗ owns (c : Thread nD τ) arg4 fullShare x1 ∗ owns (c : Thread nD τ) arg5 fullShare x2
      ∗ (tM0.view.loc (c : Thread nD τ) ↦{fullShare.right} T0) ∗ (tM1.view.loc (c : Thread nD τ) ↦{fullShare.right} T1)
      ∗ (∃ d, owns (c : Thread nD τ) arg6 fullShare d)
      ∗ (sM0.view.loc (c : Thread nD τ) ↦{fullShare} a0)
      ∗ (iprop(owns (c : Thread nD τ) arg3 fullShare x0 ∗ owns (c : Thread nD τ) arg4 fullShare x1 ∗ owns (c : Thread nD τ) arg5 fullShare x2
          ∗ (tM0.view.loc (c : Thread nD τ) ↦{fullShare.right} T0) ∗ (tM1.view.loc (c : Thread nD τ) ↦{fullShare.right} T1)
          ∗ owns (c : Thread nD τ) arg6 fullShare (k0_pay2 x0 (k0_pay1 x1) x2)
          ∗ (∃ a : Buf (Elt F) ((c : Thread nD τ).loc cc0_scratch0), ⌜sM0.view.read (Elt F) a = k0_pay1 x1⌝ ∗ (sM0.view.loc (c : Thread nD τ) ↦{fullShare} a))) -∗ K ⟨⟩))
      ⊢ wp frame (wpE (defs₀ (F := F)) Variants.none c none) Set.univ (cc0_ffn_down i tM0 (Memref.isWhole_whole _) tM1 (Memref.isWhole_whole _) arg3 harg3 arg4 harg4 arg5 harg5 arg6 harg6
          sM0 (Memref.isWhole_whole _)) K := by
  unfold owns
  rw [cc0_ffn_down_eq_skeleton]; unfold cc0_ffn_down_skel
  iintro ⟨⟨%f0, %hf0, H0⟩, ⟨%f1, %hf1, H1⟩, ⟨%f2, %hf2, H2⟩, HT0, HT1, ⟨%d3, %f3, -, HO3⟩, HS0, Hk⟩
  have hS0 : sM0.IsWhole := Memref.isWhole_whole _
  have hT0 : tM0.IsWhole := Memref.isWhole_whole _
  have hT1 : tM1.IsWhole := Memref.isWhole_whole _
  sl_exec! (disch := first | exact hc | exact h2 | exact h3)
  sl_step
  iapply Hk
  isplitl [H0]
  · iexists _; isplitr; swap
    · iexact H0
    · ipureintro; exact hf0
  isplitl [H1]
  · iexists _; isplitr; swap
    · iexact H1
    · ipureintro; exact hf1
  isplitl [H2]
  · iexists _; isplitr; swap
    · iexact H2
    · ipureintro; exact hf2
  isplitl [HT0]; · iexact HT0
  isplitl [HT1]; · iexact HT1
  isplitl [HO3]
  · iexists _; isplitr; swap
    · iexact HO3
    · ipureintro
      refine (View.read_writes_full _ _ _ _ _).trans ?_
      rw [View.readAt_full arg3.view, hf0, View.readAt_full arg5.view, hf2]
      refine congrArg (fun z => k0_pay2 x0 z x2) ?_
      refine (View.readCov_full _ _ _ _ _).trans ?_
      rw [View.readAt_full, hf1]
  iexists _; isplitr; swap
  · iexact HS0
  · ipureintro
    refine (View.read_writes_full _ _ _ _ _).trans ?_
    rw [View.readAt_full, hf1]

end Cert.Proof.ShDown

end
-- ==== Proof.ShDownFrame.lean ====
/- Hand-written: THE FRAME OF THE SHARED EXPERT'S DOWN PROJECTION, for every table whose blocks lie inside the weights. Before a grid point the
   scratch holds the cast weights of the block before it, if that block was filled (`Held`); the point leaves the product of its block,
   or zeros past the filled blocks (`outU`). -/
module

public import proofs.«01_k».proof.Proof.ShDownRun
public import Idealize.ShloMosaic.Lib.ValueIdx
public import Idealize.ShloMosaic.Lib.Claim
public import Idealize.ShloMosaic.Lib.Pipeline.Quiescent

@[expose] public section

set_option maxRecDepth 16384
set_option Elab.async false

noncomputable section

namespace Cert.Proof.ShDown

open Cert.Kernel7Ideal Cert.Kernel7Ideal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The words the body reads -/

theorem ne_ofBool (b : Bool) : (Scalar.cmpi .ne (Scalar.extui (BitVec.ofBool b) : BitVec 32) 0#32 = 1#1) ↔ b = true := by
  cases b <;> decide

/-- Block number i is below the number of filled blocks. -/
def below (i : grid0.Coords) (v : BitVec 32) : Bool := BitVec.slt (BitVec.ofNat 32 (i 0).val) v

theorem cond2_iff (i : grid0.Coords) (v : BitVec 32) : k0_cond2 i v = 1#1 ↔ below i v = true :=
  ne_ofBool (BitVec.slt (BitVec.ofNat 32 (i 0).val) v)

theorem cond3_iff (i : grid0.Coords) (v : BitVec 32) : k0_cond3 i v = 1#1 ↔ below i v = false := by
  refine (ne_ofBool (BitVec.sle v (BitVec.ofNat 32 (i 0).val))).trans ?_
  unfold below
  rw [BitVec.sle_eq_not_slt]
  cases BitVec.slt (BitVec.ofNat 32 (i 0).val) v <;> decide

theorem coord_lt (i : grid0.Coords) : (i 0).val < 32 := (i 0).isLt

theorem below_prev (i i' : grid0.Coords) (v : BitVec 32) (h : (i' 0).val + 1 = (i 0).val) (hb : below i v = true) : below i' v = true := by
  have h0 := coord_lt i
  unfold below at hb ⊢
  simp only [BitVec.slt, decide_eq_true_eq, BitVec.toInt, BitVec.toNat_ofNat] at hb ⊢
  omega

theorem zero_iff (i : grid0.Coords) : (BitVec.ofNat 32 (i 0).val == 0#32) = true ↔ (i 0).val = 0 := by
  have h0 := coord_lt i
  rw [beq_iff_eq]
  constructor
  · intro h
    have := congrArg BitVec.toNat h
    simp only [BitVec.toNat_ofNat] at this
    omega
  · intro h; rw [h]

theorem fills_iff (i : grid0.Coords) (T0 : S32.Idx → Elt F .i32) (T1 : S1.Idx → Elt F .i32) :
    fills i T0 T1 = 1#1 ↔ below i (nW T1) = true ∧ ((i 0).val = 0 ∨ (eW i T0 : BitVec 32) ≠ pW i T0) := by
  have andi_ofBool (p q : Bool) : Scalar.andi (BitVec.ofBool p) (BitVec.ofBool q) = BitVec.ofBool (p && q) := by
    cases p <;> cases q <;> decide
  have ori_ofBool (p q : Bool) : Scalar.ori (BitVec.ofBool p) (BitVec.ofBool q) = BitVec.ofBool (p || q) := by
    cases p <;> cases q <;> decide
  have e : fills i T0 T1 = Scalar.cmpi .ne (Scalar.extui (BitVec.ofBool (below i (nW T1) && ((BitVec.ofNat 32 (i 0).val == 0#32) || ((eW i T0 : BitVec 32) != pW i T0)))) : BitVec 32) 0#32 := by
    rw [← andi_ofBool, ← ori_ofBool]
    rfl
  rw [e, ne_ofBool, Bool.and_eq_true, Bool.or_eq_true, zero_iff, bne_iff_ne]

theorem off1_val (i : grid0.Coords) : (Scalar.indexCast (BitVec.ofNat 32 (i 0).val)).toNat = (i 0).val := by
  have h0 := coord_lt i
  simp only [Scalar.indexCast]
  simp [BitVec.toNat_ofNat]
  omega

theorem off2_val (i : grid0.Coords) (h : (i 0).val ≠ 0) :
    (Scalar.indexCast (Scalar.maxsi (Scalar.subi (BitVec.ofNat 32 (i 0).val) 1#32) 0#32)).toNat = (i 0).val - 1 := by
  have h0 := coord_lt i
  have e : Scalar.subi (BitVec.ofNat 32 (i 0).val) 1#32 = BitVec.ofNat 32 ((i 0).val - 1) := by
    apply BitVec.eq_of_toNat_eq
    simp only [Scalar.subi, IntOp.subi, BitVec.toNat_sub, BitVec.toNat_ofNat]
    omega
  rw [e]
  have hall : ∀ n : Fin 32, (Scalar.indexCast (Scalar.maxsi (BitVec.ofNat 32 n.val) 0#32)).toNat = n.val := by decide +kernel
  exact hall ⟨(i 0).val - 1, by omega⟩

/-- The word of the table of experts at a block. -/
abbrev expert (T0 : S32.Idx → Elt F .i32) (k : Fin 32) : BitVec 32 := T0 (ix1 k)

theorem eW_eq (i : grid0.Coords) (T0 : S32.Idx → Elt F .i32) : (eW i T0 : BitVec 32) = expert T0 ⟨(i 0).val, coord_lt i⟩ := by
  show T0 _ = T0 _
  refine congrArg T0 (funext fun (a : Fin 1) => ?_)
  match a with
  | ⟨0, _⟩ => exact Fin.ext (show (Scalar.indexCast (BitVec.ofNat 32 (i 0).val)).toNat + 1 * 0 = (i 0).val by rw [off1_val]; omega)

theorem pW_eq (i : grid0.Coords) (T0 : S32.Idx → Elt F .i32) (h : (i 0).val ≠ 0) :
    (pW i T0 : BitVec 32) = expert T0 ⟨(i 0).val - 1, by have := coord_lt i; omega⟩ := by
  show T0 _ = T0 _
  refine congrArg T0 (funext fun (a : Fin 1) => ?_)
  match a with
  | ⟨0, _⟩ => exact Fin.ext (show (Scalar.indexCast (Scalar.maxsi (Scalar.subi (BitVec.ofNat 32 (i 0).val) 1#32) 0#32)).toNat + 1 * 0 = (i 0).val - 1 by rw [off2_val i h]; omega)

theorem nW_eq (T1 : S1.Idx → Elt F .i32) : (nW T1 : BitVec 32) = T1 (ix1 0) := by
  show T1 _ = T1 _
  refine congrArg T1 (funext fun (a : Fin 1) => ?_)
  match a with
  | ⟨0, _⟩ => exact Fin.ext rfl

theorem at_word (pf : pre0.Contents (Elt F)) (n : ℕ) (k : Fin 32) (hk : n = k.val)
    (inb : ∀ a, (![n] : Fin 1 → ℕ) a + S1.size a ≤ S32.size a) :
    pf.at 0 (Rect.unit (s := S32) ![n] S1.size inb) numel1_S1 = pf 0 (ix1 k) := by
  refine congrArg (pf 0) (funext fun (a : Fin 1) => ?_)
  match a with
  | ⟨0, _⟩ => exact Fin.ext (show n + 1 * 0 = k.val by omega)

theorem transform_1 (pf : pre0.Contents (Elt F)) (i : grid0.Coords) :
    cc0_transform_1 k0_off1_inb numel1_S1 pf i = ![(expert (F := F) (pf 0) ⟨(i 0).val, coord_lt i⟩).toNat, 0, 0] := by
  unfold cc0_transform_1
  exact congrArg (fun x : BitVec 32 => ![x.toNat, 0, 0]) (at_word pf _ ⟨(i 0).val, coord_lt i⟩ (off1_val i) _)
theorem inb_of_lt (n : ℕ) (h : n < 1) : ∀ a, ((![n, 0, 0] : Fin 3 → ℕ) a + 1) * S1x512x4096.size a ≤ S1x512x4096.size a := by
  intro a
  match a with
  | ⟨0, _⟩ => show (n + 1) * 1 ≤ 1; omega
  | ⟨1, _⟩ => simp
  | ⟨2, _⟩ => simp

theorem coords_val (t : Fin grid0.N) : (grid0.coords t 0).val = t.val := by
  revert t
  decide +kernel

variable (m : (ℓ : Loc nD τ sig) → Buf (Elt F) ℓ) (ρ : Dev nD → PrngReg)

/-! ## The tables and the pipeline at them -/

/-- The tables at launch. -/
def tb : pre0.Contents (Elt F) := fun j => m (((0 : Dev nD) : Thread nD τ).loc (pre0.ref j))
abbrev tE : S32.Idx → Elt F .i32 := tb m 0
abbrev tN : S1.Idx → Elt F .i32 := tb m 1

/-- Every block that a window names lies inside its array. -/
abbrev Ok : Prop := ok0 (tb m)

theorem ok_of_lt (h : ∀ k : Fin 32, (expert (F := F) (tE m) k).toNat < 1) : Ok m :=
  fun i => ⟨by rw [transform_1]; exact inb_of_lt _ (h _), Or.inl rfl⟩

variable (hO : Ok m)

abbrev adm : (pcfg0 (F := F)).Adm := ⟨tb m, hO⟩
abbrev cfgA : Pipeline.Cfg sig Λ₀ := cfg0 (F := F) (adm m hO)
abbrev pcs : Fin 1 → Pipeline.Cfg sig Λ₀ := Pipeline.pin (pcfgs (F := F)) fun _ => adm m hO
abbrev crd (t : Fin (cfgA m hO).N) : grid0.Coords := grid0.coords t

abbrev ms0 (t : Fin (cfgA m hO).N) : Memref sig .tc .vmem S256x512 .bf16 := spec0_0.stage ((cfgA m hO).slots t (0 : Fin 4))
abbrev hs0 (t : Fin (cfgA m hO).N) : (ms0 m hO t).IsWhole := hstage0_0 (((cfgA m hO).slots t (0 : Fin 4)).cast nbuf0_0)
abbrev ms1 (t : Fin (cfgA m hO).N) : Memref sig .tc .vmem S1x512x4096 .f32 := spec0_1.stage ((cfgA m hO).slots t (1 : Fin 4))
abbrev hs1 (t : Fin (cfgA m hO).N) : (ms1 m hO t).IsWhole := hstage0_1 (((cfgA m hO).slots t (1 : Fin 4)).cast nbuf0_1)
abbrev ms2 (t : Fin (cfgA m hO).N) : Memref sig .tc .vmem S256x1 .f32 := spec0_2.stage ((cfgA m hO).slots t (2 : Fin 4))
abbrev hs2 (t : Fin (cfgA m hO).N) : (ms2 m hO t).IsWhole := hstage0_2 (((cfgA m hO).slots t (2 : Fin 4)).cast nbuf0_2)
abbrev ms3 (t : Fin (cfgA m hO).N) : Memref sig .tc .vmem S256x4096 .f32 := spec0_3.stage ((cfgA m hO).slots t (3 : Fin 4))
abbrev hs3 (t : Fin (cfgA m hO).N) : (ms3 m hO t).IsWhole := hstage0_3 (((cfgA m hO).slots t (3 : Fin 4)).cast nbuf0_3)

/-- Window w's block at point t. -/
def iblk (c : Dev nD) (w : Fin (cfgA m hO).W) (t : Fin (cfgA m hO).N) : (((cfgA m hO).win w).xblock ((cfgA m hO).grid.coords t)).Idx → Elt F ((cfgA m hO).win w).elt :=
  (((cfgA m hO).win w).blk t).view.read (Elt F) (m (((cfgA m hO).win w).arr.view.loc (c : Thread nD τ)))

abbrev xb (c : Dev nD) (t : Fin (cfgA m hO).N) : S256x512.Idx → Elt F .bf16 := iblk m hO c (0 : Fin 4) t
abbrev gb (c : Dev nD) (t : Fin (cfgA m hO).N) : S1x512x4096.Idx → Elt F .f32 := iblk m hO c (1 : Fin 4) t
abbrev ub (c : Dev nD) (t : Fin (cfgA m hO).N) : S256x1.Idx → Elt F .f32 := iblk m hO c (2 : Fin 4) t

theorem gb_congr (c : Dev nD) (t t' : Fin (cfgA m hO).N) (h : cc0_transform_1 k0_off1_inb numel1_S1 (tb m) (crd m hO t) = cc0_transform_1 k0_off1_inb numel1_S1 (tb m) (crd m hO t')) :
    gb m hO c t = gb m hO c t' := by
  funext z
  show m (((cfgA m hO).win 1).arr.view.loc (c : Thread nD τ)) ((((cfgA m hO).win 1).blk t).view.emb z) = m (((cfgA m hO).win 1).arr.view.loc (c : Thread nD τ)) ((((cfgA m hO).win 1).blk t').view.emb z)
  refine congrArg (m (((cfgA m hO).win 1).arr.view.loc (c : Thread nD τ))) (funext fun (x : Fin 3) => Fin.ext ?_)
  show cc0_transform_1 k0_off1_inb numel1_S1 (tb m) (crd m hO t) x * _ + 1 * _ = cc0_transform_1 k0_off1_inb numel1_S1 (tb m) (crd m hO t') x * _ + 1 * _
  rw [h]
/-- Whether the block at point t is filled. -/
abbrev live (t : Fin (cfgA m hO).N) : Bool := below (crd m hO t) (nW (tN m))

/-- What point t leaves. -/
def outU (c : Dev nD) (t : Fin (cfgA m hO).N) : FVec F S256x4096 .f32 :=
  if live m hO t = true then k0_pay2 (xb m hO c t) (k0_pay1 (gb m hO c t)) (ub m hO c t) else k0_pay3 (F := F)

/-- What the scratch holds before position n: the cast weights of the point before, if its block is filled. -/
def Held0 (c : Dev nD) (n : ℕ) (a : Buf (Elt F) ((c : Thread nD τ).loc cc0_scratch0)) : Prop :=
  ∀ t : Fin (cfgA m hO).N, t.val + 1 = n → live m hO t = true → sM0.view.read (Elt F) a = k0_pay1 (gb m hO c t)

/-- A filled block whose weights are not cast anew: the scratch holds its weights. -/
theorem held_keep (c : Dev nD) (t : Fin (cfgA m hO).N) (a0 : Buf (Elt F) ((c : Thread nD τ).loc cc0_scratch0))
    (h0 : Held0 m hO c t.val a0) (hl : live m hO t = true) (hf : ¬ fills (crd m hO t) (tE m) (tN m) = 1#1) :
    sM0.view.read (Elt F) a0 = k0_pay1 (gb m hO c t) := by
  rw [fills_iff] at hf
  have hn := not_or.1 (fun h => hf ⟨hl, h⟩)
  have ht := coords_val t
  have hz : t.val ≠ 0 := fun h => hn.1 (ht.trans h)
  have he : (eW (crd m hO t) (tE m) : BitVec 32) = pW (crd m hO t) (tE m) := not_not.1 hn.2
  have hlt := t.isLt
  let s : Fin (cfgA m hO).N := ⟨t.val - 1, by omega⟩
  have hs : (crd m hO s 0).val = t.val - 1 := coords_val s
  have hls : live m hO s = true := below_prev (crd m hO t) (crd m hO s) _ (by rw [hs, ht]; omega) hl
  have hx : expert (F := F) (tb m 0) ⟨(crd m hO t 0).val, coord_lt _⟩ = expert (F := F) (tb m 0) ⟨(crd m hO s 0).val, coord_lt _⟩ := by
    rw [← eW_eq (crd m hO t) (tE m), he, pW_eq (crd m hO t) (tE m) hn.1]
    exact congrArg (expert (F := F) (tE m)) (Fin.ext (by show (crd m hO t 0).val - 1 = (crd m hO s 0).val; rw [hs, ht]))
  have hsn : s.val + 1 = t.val := by show t.val - 1 + 1 = t.val; omega
  refine (h0 s hsn hls).trans (congrArg k0_pay1 (gb_congr m hO c s t ?_))
  rw [transform_1, transform_1, hx]

/-- The invariant before point t. -/
def Phi (c : Dev nD) (n : ℕ) : sProp (MM F) :=
  iprop((∃ a, ⌜Held0 m hO c n a⌝ ∗ (sM0.view.loc (c : Thread nD τ) ↦{fullShare} a))
    ∗ (tM0.view.loc (c : Thread nD τ) ↦{fullShare.right} tE m) ∗ (tM1.view.loc (c : Thread nD τ) ↦{fullShare.right} tN m))

/-- The proof data of the pipeline on core c. -/
def dats (_ : Fin 1) (c : Dev nD) : Dat τ (Elt F) Unit ℕ (UR sig nD τ) ℕ (cfgA m hO) c where
  A w := m (((cfgA m hO).win w).arr.view.loc (c : Thread nD τ))
  after w t := match w with
    | ⟨0, _⟩ => iblk m hO c (0 : Fin 4) t
    | ⟨1, _⟩ => iblk m hO c (1 : Fin 4) t
    | ⟨2, _⟩ => iblk m hO c (2 : Fin 4) t
    | ⟨3, _⟩ => outU m hO c t
  Φ t := Phi m hO c t.val
  q _ := fullShare
  owed _ := 0

theorem after_0 (c : Dev nD) (t : Fin (cfgA m hO).N) : (dats m hO 0 c).after (0 : Fin 4) t = iblk m hO c (0 : Fin 4) t := rfl
theorem after_1 (c : Dev nD) (t : Fin (cfgA m hO).N) : (dats m hO 0 c).after (1 : Fin 4) t = iblk m hO c (1 : Fin 4) t := rfl
theorem after_2 (c : Dev nD) (t : Fin (cfgA m hO).N) : (dats m hO 0 c).after (2 : Fin 4) t = iblk m hO c (2 : Fin 4) t := rfl
theorem after_3 (c : Dev nD) (t : Fin (cfgA m hO).N) : (dats m hO 0 c).after (3 : Fin 4) t = outU m hO c t := rfl

theorem before_0 (c : Dev nD) (t : Fin (cfgA m hO).N) (d) : (dats m hO 0 c).before (0 : Fin 4) t d = iblk m hO c (0 : Fin 4) t :=
  ((dats m hO 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hO).N) (d) : (dats m hO 0 c).before (1 : Fin 4) t d = iblk m hO c (1 : Fin 4) t :=
  ((dats m hO 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hO).N) (d) : (dats m hO 0 c).before (2 : Fin 4) t d = iblk m hO c (2 : Fin 4) t :=
  ((dats m hO 0 c).before_in_eq_fetched (2 : Fin 4) rfl (fun _ => rfl) (fun _ _ _ => rfl) (fun t => by rw [after_2]; unfold Dat.blockOf iblk; rfl) t d).trans
    (by unfold Dat.fetched Dat.blockOf iblk; rfl)

theorem idle_3 (t : Fin (cfgA m hO).N) : (cfgA m hO).idle (3 : Fin 4) ((cfgA m hO).grid.coords t) = false := by
  show (!(k0_cond2 (crd m hO t) ((tb m).atD 1 ![0]) == 1#1) && !(k0_cond3 (crd m hO t) ((tb m).atD 1 ![0]) == 1#1)) = false
  generalize (tb m).atD 1 ![0] = v
  cases h : below (crd m hO t) v with
  | true => simp [(cond2_iff (crd m hO t) v).2 h]
  | false => simp [(cond3_iff (crd m hO t) v).2 h]

/-- The body at point t. -/
abbrev bodyAt (t : Fin (cfgA m hO).N) : Prog (TpuEff nD τ sig (Elt F) Λ₀ .tc) PUnit :=
  cc0_ffn_down (crd m hO t) tM0 (Memref.isWhole_whole _) tM1 (Memref.isWhole_whole _) (ms0 m hO t) (hs0 m hO t) (ms1 m hO t) (hs1 m hO t) (ms2 m hO t) (hs2 m hO t) (ms3 m hO t) (hs3 m hO t)
    sM0 (Memref.isWhole_whole _)

set_option maxHeartbeats 4000000 in
theorem sound_body (c : Dev nD) (t : Fin (cfgA m hO).N) :
    iprop(Phi m hO c t.val ∗ (dats m hO 0 c).owesAt () t.castSucc
        ∗ owns (c : Thread nD τ) (ms0 m hO t) fullShare (xb m hO c t) ∗ owns (c : Thread nD τ) (ms1 m hO t) fullShare (gb m hO c t)
        ∗ owns (c : Thread nD τ) (ms2 m hO t) fullShare (ub m hO c t) ∗ (∃ d, owns (c : Thread nD τ) (ms3 m hO t) fullShare d))
      ⊢ wp frame (wpE (defs₀ (F := F)) Variants.none c none) Set.univ (bodyAt m hO t) fun _ =>
          iprop(Phi m hO c (t.val + 1) ∗ (dats m hO 0 c).owesAt () t.castSucc
            ∗ owns (c : Thread nD τ) (ms0 m hO t) fullShare (xb m hO c t) ∗ owns (c : Thread nD τ) (ms1 m hO t) fullShare (gb m hO c t)
            ∗ owns (c : Thread nD τ) (ms2 m hO t) fullShare (ub m hO c t) ∗ owns (c : Thread nD τ) (ms3 m hO t) fullShare (outU m hO c t)) := by
  unfold Phi
  have same : ∀ s : Fin (cfgA m hO).N, s.val + 1 = t.val + 1 → s = t := fun s h => Fin.ext (by omega)
  iintro ⟨⟨⟨%a0, %ha0, HS0⟩, HT0, HT1⟩, Ho, H0, H1, H2, H3⟩
  cases hl : live m hO t with
  | false =>
    have h2 : ¬ k0_cond2 (crd m hO t) (nW (tN m)) = 1#1 := fun h => by rw [cond2_iff] at h; exact absurd (h.symm.trans hl) (by decide)
    have h3 : k0_cond3 (crd m hO t) (nW (tN m)) = 1#1 := (cond3_iff _ _).2 hl
    have hc : ¬ fills (crd m hO t) (tE m) (tN m) = 1#1 := fun h => by rw [fills_iff] at h; exact absurd (h.1.symm.trans hl) (by decide)
    have ho : outU m hO c t = k0_pay3 (F := F) := by unfold outU; rw [if_neg (by rw [hl]; decide)]
    rw [ho]
    iapply (run_dead c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 hc h2 h3 _)
    isplitl [H0]; · iexact H0
    isplitl [H1]; · iexact H1
    isplitl [H2]; · iexact H2
    isplitl [HT0]; · iexact HT0
    isplitl [HT1]; · iexact HT1
    isplitl [H3]; · iexact H3
    isplitl [HS0]; · iexact HS0
    iintro ⟨H0, H1, H2, HT0, HT1, H3, HS0⟩
    isplitl [HS0 HT0 HT1]
    · isplitl [HS0]
      · iexists _; isplitr; swap
        · iexact HS0
        · ipureintro; intro s hs hls; rw [same s hs] at hls; exact absurd (hls.symm.trans hl) (by decide)
      isplitl [HT0]
      · iexact HT0
      iexact HT1
    isplitl [Ho]; · iexact Ho
    isplitl [H0]; · iexact H0
    isplitl [H1]; · iexact H1
    isplitl [H2]; · iexact H2
    iexact H3
  | true =>
    have h2 : k0_cond2 (crd m hO t) (nW (tN m)) = 1#1 := (cond2_iff _ _).2 hl
    have h3 : ¬ k0_cond3 (crd m hO t) (nW (tN m)) = 1#1 := fun h => by rw [cond3_iff] at h; exact absurd (h.symm.trans hl) (by decide)
    have ho : outU m hO c t = k0_pay2 (xb m hO c t) (k0_pay1 (gb m hO c t)) (ub m hO c t) := by unfold outU; rw [if_pos hl]
    rw [ho]
    by_cases hc : fills (crd m hO t) (tE m) (tN m) = 1#1
    · iapply (run_fill c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      iintro ⟨H0, H1, H2, HT0, HT1, H3, ⟨%b0, %hb0, HS0⟩⟩
      isplitl [HS0 HT0 HT1]
      · isplitl [HS0]
        · iexists _; isplitr; swap
          · iexact HS0
          · ipureintro; intro s hs hls; rw [same s hs]; exact hb0
        isplitl [HT0]
        · iexact HT0
        iexact HT1
      isplitl [Ho]; · iexact Ho
      isplitl [H0]; · iexact H0
      isplitl [H1]; · iexact H1
      isplitl [H2]; · iexact H2
      iexact H3
    · have hk0 := held_keep m hO c t a0 ha0 hl hc
      rw [← hk0]
      iapply (run_keep c (crd m hO t) (ms0 m hO t) (hs0 m hO t) (ms1 m hO t) (hs1 m hO t) (ms2 m hO t) (hs2 m hO t) (ms3 m hO t) (hs3 m hO t) (tE m) (tN m) (xb m hO c t) (gb m hO c t) (ub m hO c t) a0 hc h2 h3 _)
      isplitl [H0]; · iexact H0
      isplitl [H1]; · iexact H1
      isplitl [H2]; · iexact H2
      isplitl [HT0]; · iexact HT0
      isplitl [HT1]; · iexact HT1
      isplitl [H3]; · iexact H3
      isplitl [HS0]; · iexact HS0
      iintro ⟨H0, H1, H2, HT0, HT1, H3, HS0⟩
      isplitl [HS0 HT0 HT1]
      · isplitl [HS0]
        · iexists _; isplitr; swap
          · iexact HS0
          · ipureintro; intro s hs hls; rw [same s hs]; exact hk0
        isplitl [HT0]
        · iexact HT0
        iexact HT1
      isplitl [Ho]; · iexact Ho
      isplitl [H0]; · iexact H0
      isplitl [H1]; · iexact H1
      isplitl [H2]; · iexact H2
      iexact H3

set_option maxHeartbeats 4000000 in
/-- The library's body obligation, at every point. -/
theorem body_obligation (c : Dev nD) : BodyObligation (dats m hO 0 c) (defs₀ (F := F)) Variants.none () Set.univ := fun t => by
  rw [bigSep_W0, bigSep_W0]
  rewrite [idle_3 m hO t]
  simp only [before_0, before_1, before_2, after_0, after_1, after_2, after_3]
  rewrite [show (dats m hO 0 c).Φ t.succ = Phi m hO c (t.val + 1) from rfl, show (dats m hO 0 c).Φ t.castSucc = Phi m hO c t.val from rfl,
    show (dats m hO 0 c).owesAt () t.succ = (dats m hO 0 c).owesAt () t.castSucc from rfl]
  refine BIBase.Entails.trans ?_ (sound_body m hO c t)
  iintro ⟨HP, Ho, ⟨%d0, H0⟩, ⟨%d1, H1⟩, ⟨%d2, H2⟩, ⟨%d3, H3⟩⟩
  isplitl [HP]; · iexact HP
  isplitl [Ho]; · iexact Ho
  isplitl [H0]; · iexact H0
  isplitl [H1]; · iexact H1
  isplitl [H2]; · iexact H2
  iexists _; iexact H3

/-! ## The launch -/

/-- The proof's resource algebra: the rounds library's. -/
abbrev EP : Emb (UR sig nD τ) (MM F) := emb₁

/-- The rounds library's launch element. -/
def u₀ : UR sig nD τ :=
  initOf (Pipeline.cells (pcs m hO) ((launch0 (F := F)).cellOf_inj fun _ => adm m hO))
    (Pipeline.launchToks (pcs m hO) ((launch0 (F := F)).cellOf_inj fun _ => adm m hO))

theorem share_eq (c : Dev nD) (w : Fin (cfgA m hO).W) : (dats m hO 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm m hO).1 ∗ Pipeline.scopedRest spec0 c) ⊢ (dats m hO 0 c).Φ 0 := by
  rw [prefHeld_eq, scopedRest0_eq, show (dats m hO 0 c).Φ 0 = Phi m hO c 0 from rfl]
  unfold Phi
  iintro ⟨-, ⟨HT0, HT1⟩, ⟨%a0, HS0⟩⟩
  isplitl [HS0]
  · iexists a0; isplitr; swap
    · iexact HS0
    · ipureintro; intro s h; exact absurd h (Nat.succ_ne_zero _)
  isplitl [HT0]
  · iexact HT0
  iexact HT1

theorem phiN_exit (c : Dev nD) : (dats m hO 0 c).Φ (Fin.last (cfgA m hO).N) ⊢ iprop(BI.emp ∗ Pipeline.scopedRest spec0 c) := by
  rw [scopedRest0_eq, show (dats m hO 0 c).Φ (Fin.last (cfgA m hO).N) = Phi m hO c (Fin.last (cfgA m hO).N).val from rfl]
  unfold Phi
  iintro ⟨⟨%a0, -, HS0⟩, -, -⟩
  isplitr; · iempintro
  iexists a0; iexact HS0

/-- The arrays and the tables at the end. -/
def QC : PUnit × MemSt nD τ sig (Elt F) → Prop := fun r =>
  ∀ c : Dev nD, (∀ w : Fin (cfgA m hO).W, r.2.mem (((cfgA m hO).win w).arr.view.loc (c : Thread nD τ)) = (dats m hO 0 c).arrAt w (cfgA m hO).N)
    ∧ ∀ j, r.2.mem ((c : Thread nD τ).loc (pre0.ref j)) = (adm m hO).1 j

theorem V_pre (c : Dev nD) (j : Fin 2) : m ((c : Thread nD τ).loc (pre0.ref j)) = (adm m hO).1 j := by
  obtain rfl : c = 0 := Subsingleton.elim _ _
  rfl

set_option backward.isDefEq.respectTransparency.types false in
set_option maxHeartbeats 4000000 in
/-- From any memory with zero counters whose tables name blocks inside the weights, every fair execution ends, with the arrays at the
    computed contents and every counter at zero. -/
theorem run_main_quiescent : θ_run (defs (F := F)) (onTc (τ := τ) (main (F := F))) (s₀ m ρ) (fun r => QC m hO r ∧ r.2.sem = fun _ => 0) :=
  Pipeline.θ_run_region_noSem_pf_quiescent pcfgs (fun _ => adm m hO) (dats m hO) () ((launch0 (F := F)).cellOf_inj fun _ => adm m hO) (0 : Fin 1)
    (launch0 (F := F)).win.to₀ (launch0 (F := F)).pre EP defs₀ Variants.none m ρ main
    (hbody := fun c => (body_obligation m hO c).loose) (hne := (launch0 (F := F)).block_pos)
    (harr := (launch0 (F := F)).arr_whole) (hstage := (launch0 (F := F)).stage_whole) (howed := fun _ _ => rfl)
    (u₀ := u₀ m hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hO) (dats m hO) 0 (launch0 (F := F)).win.arr_inj c (launch0 (F := F)).arr_whole
      (share_eq m hO c) _ _ fun _ => rfl)
    (hpf := V_pre m hO)
    (X := fun _ => iprop(emp)) (Y := fun _ => iprop(emp)) (Z := fun _ => iprop(emp))
    (hX := fun c => by rw [unscopedRestP0_eq]; iintro -; isplitr <;> iempintro)
    (hin := phi0_intro m hO)
    (hout := phiN_exit m hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hO in
/-- The arguments at the end. -/
theorem unchanged :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 (0 : Fin 4)).trans ((dats m hO 0 c).arrAt_in (0 : Fin 4) rfl _), ((h.1 c).1 (1 : Fin 4)).trans ((dats m hO 0 c).arrAt_in (1 : Fin 4) rfl _),
    ((h.1 c).1 (2 : Fin 4)).trans ((dats m hO 0 c).arrAt_in (2 : Fin 4) rfl _), ((h.1 c).2 0).trans (V_pre m hO c 0).symm, ((h.1 c).2 1).trans (V_pre m hO c 1).symm⟩) (run_main_quiescent m ρ hO)

include hO in
/-- The frame. -/
theorem frame_down :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Proof.ShDown

end
-- ==== Proof.ShDownSum.lean ====
/- Hand-written: WHAT THE SHARED EXPERT'S DOWN PROJECTION COMPUTES, at an entry, over the extended reals: the row's block names an expert;
   the entry is the product with that expert's weights times the row's weight, or zero past the filled blocks. -/
module

public import proofs.«01_k».proof.Kernel7Ideal
public import Idealize.ShloMosaic.Lib.ValueIdx

@[expose] public section

noncomputable section

namespace Cert.Proof.ShDown

open Cert.Kernel7Ideal
open Idealize.ShloMosaic Idealize.ShloMosaic.ValueIdx
open scoped BigOperators

/-- A row times a column of expert e's weights. -/
def prod (x : FVec Idealize.ShloMosaic.Ideal S8192x512 .bf16) (w : FVec Idealize.ShloMosaic.Ideal S1x512x4096 .f32) (e : Fin 1) (r : Fin 8192) (j : Fin 4096) : EReal :=
  ∑ k : Fin 512, x (ix2 r k) * w (ix3 e k j)

/-- The entry of block b, row i, column j. -/
def downAt (x : FVec Idealize.ShloMosaic.Ideal S8192x512 .bf16) (w : FVec Idealize.ShloMosaic.Ideal S1x512x4096 .f32) (rw : FVec Idealize.ShloMosaic.Ideal S8192x1 .f32) (be : IVec S32 32) (nv : IVec S1 32)
    (hlt : ∀ k : Fin 32, (be (ix1 k)).toNat < 1) (b : Fin 32) (i : Fin 256) (j : Fin 4096) : EReal :=
  if BitVec.slt (BitVec.ofNat 32 b.val) (nv (ix1 0)) = true then
    prod x w ⟨(be (ix1 b)).toNat, hlt b⟩ ⟨b.val * 256 + i.val, by omega⟩ j * rw (ix2 ⟨b.val * 256 + i.val, by omega⟩ 0)
  else 0

end Cert.Proof.ShDown

end
-- ==== Proof.ShDownArray.lean ====
/- Hand-written: THE ARRAY THE SHARED EXPERT'S DOWN PROJECTION LEAVES, over the extended reals: the blocks a grid point reads, the body's
   products at an entry, and the array block by block (`down_array`). -/
module

public import proofs.«01_k».proof.Proof.ShDownFrame
public import proofs.«01_k».proof.Proof.ShDownSum
public import Idealize.ShloMosaic.Lib.Pipeline.Value
public import Idealize.ShloMosaic.Lib.Pipeline.ValueKit.Geometry
public import Idealize.ShloMosaic.Lib.MatmulPlain
public import Idealize.ShloMosaic.Lib.IdealHost

@[expose] public section

set_option maxRecDepth 16384

noncomputable section

namespace Cert.Proof.ShDown

open Cert.Kernel7Ideal Cert.Kernel7Ideal.Gen
open Idealize.ShloMosaic Idealize.ShloMosaic.TcCoe Idealize.ShloMosaic.ValueIdx
open Idealize.ShloMosaic.Pipeline (Dat Cfg Window)
open scoped BigOperators

/-! ## The body's values at an entry -/

theorem cast1_apply (w : FVec Idealize.ShloMosaic.Ideal S1x512x4096 .f32) (k : Fin 512) (j : Fin 4096) :
    k0_pay1 (F := Idealize.ShloMosaic.Ideal) w (ix2 k j) = w (ix3 0 k j) := by
  unfold k0_pay1
  refine (shapeCast_apply _ shapeCasts_S512x4096_S512x4096 _ (ix2 k j) rfl).trans ?_
  refine (show truncf .bf16 (shapeCast S512x4096 w shapeCasts_S1x512x4096_S512x4096) bitsLt_bf16_f32 (ix2 k j) = shapeCast S512x4096 w shapeCasts_S1x512x4096_S512x4096 (ix2 k j) from rfl).trans ?_
  refine shapeCast_apply _ shapeCasts_S1x512x4096_S512x4096 _ _ ?_
  rw [Shape.rowMajor_val_three, Shape.rowMajor_val_two]
  show (0 * 512 + k.val) * 4096 + j.val = k.val * 4096 + j.val
  omega

theorem mat_apply (x : FVec Idealize.ShloMosaic.Ideal S256x512 .bf16) (w : FVec Idealize.ShloMosaic.Ideal S512x4096 .bf16) (i : Fin 256) (j : Fin 4096) :
    matmul dot_S256x512_S512x4096_S256x4096_1_0_0_1_n_n none x w (constant (F := Idealize.ShloMosaic.Ideal) S256x4096 .f32 0x00000000#32) (ix2 i j)
      = ∑ k : Fin 512, x (ix2 i k) * w (ix2 k j) := by
  refine (Ideal.matmul_plain_apply (M := 256) (K := 512) (N := 4096) none _ _ _ _ _).trans ?_
  exact (congrArg (fun z : EReal => z + _) (Ideal.ofBits_zero_f32)).trans (zero_add _)

theorem full_apply (x : FVec Idealize.ShloMosaic.Ideal S256x512 .bf16) (w : FVec Idealize.ShloMosaic.Ideal S512x4096 .bf16) (r : FVec Idealize.ShloMosaic.Ideal S256x1 .f32) (i : Fin 256) (j : Fin 4096) :
    k0_pay2 (F := Idealize.ShloMosaic.Ideal) x w r (ix2 i j) = ((∑ k : Fin 512, x (ix2 i k) * w (ix2 k j)) * r (ix2 i 0) : EReal) := by
  rw [← mat_apply x w i j]
  have hb : broadcastTo S256x4096 r broadcasts_S256x1_S256x4096 (ix2 i j) = r (ix2 i 0) := by
    refine congrArg r (funext fun (a : Fin 2) => Fin.ext ?_)
    match a with
    | ⟨0, _⟩ => rfl
    | ⟨1, _⟩ => rfl
  rw [← hb]
  rfl

theorem zero_apply (y : S256x4096.Idx) : k0_pay3 (F := Idealize.ShloMosaic.Ideal) y = (0 : EReal) :=
  Ideal.ofBits_zero_f32

/-! ## The blocks -/

variable (m : (ℓ : Loc nD τ sig) → Buf (Elt Idealize.ShloMosaic.Ideal) ℓ)

abbrev aX : FVec Idealize.ShloMosaic.Ideal S8192x512 .bf16 := m (((0 : Dev nD) : Thread nD τ).loc main_arg0)
abbrev aW : FVec Idealize.ShloMosaic.Ideal S1x512x4096 .f32 := m (((0 : Dev nD) : Thread nD τ).loc main_arg1)
abbrev aR : FVec Idealize.ShloMosaic.Ideal S8192x1 .f32 := m (((0 : Dev nD) : Thread nD τ).loc main_arg2)
abbrev aE : IVec S32 32 := m (((0 : Dev nD) : Thread nD τ).loc main_arg3)
abbrev aN : IVec S1 32 := m (((0 : Dev nD) : Thread nD τ).loc main_arg4)

variable (hlt : ∀ k : Fin 32, BitVec.toNat (w := 32) (aE m (ix1 k)) < 1) (hO : Ok m)

theorem transform_0 (i : grid0.Coords) : cc0_transform_0 i = ![(i 0).val, 0] := by
  have h0 := coord_lt i
  unfold cc0_transform_0
  have e0 : (BitVec.ofNat 32 (i 0).val).toNat = (i 0).val := by rw [BitVec.toNat_ofNat]; omega
  show ![(BitVec.ofNat 32 (i 0).val).toNat, 0] = _
  rw [e0]

theorem transform_2 (i : grid0.Coords) : cc0_transform_2 i = ![(i 0).val, 0] := transform_0 i

theorem transform_3 (i : grid0.Coords) : cc0_transform_3 i = ![(i 0).val, 0] := transform_0 i

theorem x_block (t : Fin (cfgA m hO).N) (b : Fin 32) (hb : (grid0.coords t 0).val = b.val) (i : Fin 256) (k : Fin 512) :
    xb m hO 0 t (ix2 i k) = aX m (ix2 ⟨b.val * 256 + i.val, by omega⟩ k) := by
  have ht := transform_0 (grid0.coords t)
  show aX m ((((cfgA m hO).win 0).blk t).view.emb (ix2 i k)) = aX m _
  refine congrArg (aX m) (funext fun (x : Fin 2) => Fin.ext ?_)
  match x with
  | ⟨0, _⟩ => show cc0_transform_0 (grid0.coords t) (0 : Fin 2) * 256 + 1 * i.val = _; rw [ht]; show (grid0.coords t 0).val * 256 + 1 * i.val = b.val * 256 + i.val; omega
  | ⟨1, _⟩ => show cc0_transform_0 (grid0.coords t) (1 : Fin 2) * 512 + 1 * k.val = k.val; rw [ht]; show 0 * 512 + 1 * k.val = k.val; omega

theorem g_block (t : Fin (cfgA m hO).N) (b : Fin 32) (hb : (grid0.coords t 0).val = b.val) (k : Fin 512) (j : Fin 4096) :
    gb m hO 0 t (ix3 0 k j) = aW m (ix3 ⟨(aE m (ix1 b)).toNat, hlt b⟩ k j) := by
  have ht := transform_1 (tb m) (grid0.coords t)
  have e : (⟨(grid0.coords t 0).val, coord_lt (grid0.coords t)⟩ : Fin 32) = b := Fin.ext hb
  rw [e] at ht
  show aW m ((((cfgA m hO).win 1).blk t).view.emb (ix3 0 k j)) = aW m _
  refine congrArg (aW m) (funext fun (x : Fin 3) => Fin.ext ?_)
  match x with
  | ⟨0, _⟩ => show cc0_transform_1 k0_off1_inb numel1_S1 (tb m) (grid0.coords t) (0 : Fin 3) * 1 + 1 * 0 = _; rw [ht]; show (aE m (ix1 b)).toNat * 1 + 1 * 0 = (aE m (ix1 b)).toNat; omega
  | ⟨1, _⟩ => show cc0_transform_1 k0_off1_inb numel1_S1 (tb m) (grid0.coords t) (1 : Fin 3) * 512 + 1 * k.val = k.val; rw [ht]; show 0 * 512 + 1 * k.val = k.val; omega
  | ⟨2, _⟩ => show cc0_transform_1 k0_off1_inb numel1_S1 (tb m) (grid0.coords t) (2 : Fin 3) * 4096 + 1 * j.val = j.val; rw [ht]; show 0 * 4096 + 1 * j.val = j.val; omega

theorem r_block (t : Fin (cfgA m hO).N) (b : Fin 32) (hb : (grid0.coords t 0).val = b.val) (i : Fin 256) :
    ub m hO 0 t (ix2 i 0) = aR m (ix2 ⟨b.val * 256 + i.val, by omega⟩ 0) := by
  have ht := transform_2 (grid0.coords t)
  show aR m ((((cfgA m hO).win 2).blk t).view.emb (ix2 i 0)) = aR m _
  refine congrArg (aR m) (funext fun (x : Fin 2) => Fin.ext ?_)
  match x with
  | ⟨0, _⟩ => show cc0_transform_2 (grid0.coords t) (0 : Fin 2) * 256 + 1 * i.val = _; rw [ht]; show (grid0.coords t 0).val * 256 + 1 * i.val = b.val * 256 + i.val; omega
  | ⟨1, _⟩ => show cc0_transform_2 (grid0.coords t) (1 : Fin 2) * 1 + 1 * 0 = 0; rw [ht]; rfl

/-- What point b leaves, at an entry. -/
theorem out_apply (t : Fin (cfgA m hO).N) (b : Fin 32) (hb : (grid0.coords t 0).val = b.val) (i : Fin 256) (j : Fin 4096) :
    outU m hO 0 t (ix2 i j) = downAt (aX m) (aW m) (aR m) (aE m) (aN m) hlt b i j := by
  have hl : live m hO t = BitVec.slt (BitVec.ofNat 32 b.val) (aN m (ix1 0)) := by
    show BitVec.slt (BitVec.ofNat 32 (grid0.coords t 0).val) (nW (tN m)) = _
    rw [hb, nW_eq]
    rfl
  unfold outU downAt
  rw [hl]
  by_cases h : BitVec.slt (BitVec.ofNat 32 b.val) (aN m (ix1 0)) = true
  · rw [if_pos h, if_pos h]
    refine (full_apply _ _ _ i j).trans ?_
    have eg : (∑ k : Fin 512, xb m hO 0 t (ix2 i k) * k0_pay1 (F := Idealize.ShloMosaic.Ideal) (gb m hO 0 t) (ix2 k j) : EReal)
        = prod (aX m) (aW m) ⟨(aE m (ix1 b)).toNat, hlt b⟩ ⟨b.val * 256 + i.val, by omega⟩ j :=
      Finset.sum_congr rfl fun k _ => congrArg₂ (· * ·) (x_block m hO t b hb i k) ((cast1_apply _ k j).trans (g_block m hlt hO t b hb k j))
    exact congrArg₂ (fun a c : EReal => a * c) eg (r_block m hO t b hb i)
  · rw [if_neg h, if_neg h]
    exact zero_apply _

/-! ## The array -/

/-- Where the output's block places an index. -/
theorem out_emb (t : Fin (cfgA m hO).N) (y : S256x4096.Idx) :
    ((((cfgA m hO).win 3).blk t).view.emb y : S8192x4096.Idx) = ix2 ⟨(grid0.coords t 0).val * 256 + (y 0).val, by
      have h0 := coord_lt (grid0.coords t); have h1 : (y 0).val < 256 := (y 0).isLt; omega⟩ (y 1) := by
  have ht := transform_3 (grid0.coords t)
  refine funext fun (a : Fin 2) => Fin.ext ?_
  match a with
  | ⟨0, _⟩ => show cc0_transform_3 (grid0.coords t) (0 : Fin 2) * 256 + 1 * (y 0).val = (grid0.coords t 0).val * 256 + (y 0).val; rw [ht]; show (grid0.coords t 0).val * 256 + 1 * (y 0).val = _; omega
  | ⟨1, _⟩ => show cc0_transform_3 (grid0.coords t) (1 : Fin 2) * 4096 + 1 * (y 1).val = (y 1).val; rw [ht]; show 0 * 4096 + 1 * (y 1).val = (y 1).val; omega

theorem flush_all : ∀ t : Fin grid0.N, Pipeline.Window.flushOf grid0 true cc0_transform_3 t = true := by decide +kernel

theorem flush_3 (t : Fin (cfgA m hO).N) : ((cfgA m hO).win 3).flush t = true := flush_all t

theorem point_of (b : Fin 32) : ∃ t : Fin grid0.N, (grid0.coords t 0).val = b.val :=
  ⟨⟨b.val, by rw [N_0]; exact b.isLt⟩, coords_val _⟩

/-- The array the region leaves. -/
theorem down_array :
    (dats m hO 0 (0 : Dev nD)).arrAt 3 (cfgA m hO).N
      = ((fun y : S8192x4096.Idx => downAt (aX m) (aW m) (aR m) (aE m) (aN m) hlt ⟨(y 0).val / 256, by have h : (y 0).val < 8192 := (y 0).isLt; omega⟩
          ⟨(y 0).val % 256, by omega⟩ (y 1)) : FVec Idealize.ShloMosaic.Ideal S8192x4096 .f32) := by
  refine (dats m hO 0 (0 : Dev nD)).arrAt_eq_of_emb 3 _ (fun t _ y => ?_) fun i => ?_
  · refine (show _ = (dats m hO 0 (0 : Dev nD)).after 3 t y from rfl).trans ?_
    rw [after_3]
    have hy0 : (y (0 : Fin 2)).val < 256 := (y (0 : Fin 2)).isLt
    have hc := coord_lt (grid0.coords t)
    refine (congrArg (outU m hO 0 t) (eq_ix2 (y : S256x4096.Idx))).trans ?_
    refine (out_apply m hlt hO t ⟨(grid0.coords t 0).val, hc⟩ rfl (y (0 : Fin 2)) (y (1 : Fin 2))).trans ?_
    refine Eq.trans ?_ (congrArg (fun y : S8192x4096.Idx => downAt (aX m) (aW m) (aR m) (aE m) (aN m) hlt ⟨(y 0).val / 256, by have h : (y 0).val < 8192 := (y 0).isLt; omega⟩
          ⟨(y 0).val % 256, by omega⟩ (y 1)) (out_emb m hO t y)).symm
    have e1 : (⟨((grid0.coords t 0).val * 256 + (y (0 : Fin 2)).val) / 256, by omega⟩ : Fin 32) = ⟨(grid0.coords t 0).val, hc⟩ := Fin.ext (by
      show ((grid0.coords t 0).val * 256 + (y (0 : Fin 2)).val) / 256 = (grid0.coords t 0).val; omega)
    have e2 : (⟨((grid0.coords t 0).val * 256 + (y (0 : Fin 2)).val) % 256, by omega⟩ : Fin 256) = y (0 : Fin 2) := Fin.ext (by
      show ((grid0.coords t 0).val * 256 + (y (0 : Fin 2)).val) % 256 = (y (0 : Fin 2)).val; omega)
    exact (congrArg₂ (fun (b : Fin 32) (i : Fin 256) => downAt (aX m) (aW m) (aR m) (aE m) (aN m) hlt b i (y (1 : Fin 2))) e1 e2).symm
  · have hi : (i (0 : Fin 2)).val < 8192 := (i (0 : Fin 2)).isLt
    obtain ⟨t, h0⟩ := point_of ⟨(i (0 : Fin 2)).val / 256, by omega⟩
    refine ⟨t, flush_3 m hO t, ?_⟩
    have e : ((((cfgA m hO).win 3).blk t).view.emb (ix2 ⟨(i (0 : Fin 2)).val % 256, by omega⟩ (i (1 : Fin 2)) : S256x4096.Idx) : S8192x4096.Idx) = i := by
      rw [out_emb]
      refine funext fun (a : Fin 2) => Fin.ext ?_
      match a with
      | ⟨0, _⟩ => show (grid0.coords t 0).val * 256 + (i (0 : Fin 2)).val % 256 = (i (0 : Fin 2)).val; rw [h0]; show (i (0 : Fin 2)).val / 256 * 256 + (i (0 : Fin 2)).val % 256 = (i (0 : Fin 2)).val; omega
      | ⟨1, _⟩ => rfl
    rw [← e]
    exact View.emb_mem_set _ _

end Cert.Proof.ShDown

end
-- ==== Proof.ShDownRef.lean ====
/- Hand-written: THE REFERENCE OF THE SHARED EXPERT'S DOWN PROJECTION AT AN ENTRY, over the extended reals: the products with the one
   expert's weights, and the result (`ref_apply`), which is the kernel's entry where every block is filled. -/
module

public import proofs.«01_k».proof.Proof.Gen.Reference7Ideal.Read
public import proofs.«01_k».proof.Proof.ShDownSum
public import Idealize.ShloMosaic.Lib.ValueIdx
public import Idealize.ShloMosaic.Lib.IdealHost

@[expose] public section

noncomputable section

namespace Cert.Proof.ShDownRef

open Cert.Reference7Ideal Cert.Reference7Ideal.Gen Cert.Reference7Ideal.Read
open Idealize.ShloMosaic Idealize.ShloMosaic.TcCoe Idealize.ShloMosaic.ValueIdx
open scoped BigOperators

variable (x0 : FVec Idealize.ShloMosaic.Ideal S8192x512 .bf16) (x1 : FVec Idealize.ShloMosaic.Ideal S1x512x4096 .f32) (x2 : FVec Idealize.ShloMosaic.Ideal S8192x1 .f32) (x3 : IVec S32 32) (x4 : IVec S1 32)

theorem prod_apply (r : Fin 8192) (j : Fin 4096) :
    val_main_v2 (F := Idealize.ShloMosaic.Ideal) x0 x1 (ix2 r j) = ShDown.prod x0 x1 0 r j := by
  rw [val_main_v2_apply]
  refine Finset.sum_congr rfl fun k _ => ?_
  have el : lidx_main_v2 (ix2 r j) k = ix2 r k := by
    funext a
    match a with
    | ⟨0, _⟩ => rfl
    | ⟨1, _⟩ => rfl
  have er : idx_main_v1 (ridx_main_v2 (ix2 r j) k) = ix3 0 k j := by
    refine funext fun (a : Fin 3) => Fin.ext ?_
    match a with
    | ⟨0, _⟩ => rfl
    | ⟨1, _⟩ => show (k.val * 4096 + j.val) / 4096 % 512 = k.val; omega
    | ⟨2, _⟩ => show (k.val * 4096 + j.val) % 4096 = j.val; omega
  rw [el, val_main_v1_apply, er]
  rfl

theorem row_apply (r : Fin 8192) (j : Fin 4096) :
    val_main_v4 (F := Idealize.ShloMosaic.Ideal) x0 x1 x2 (ix2 r j) = (ShDown.prod x0 x1 0 r j * x2 (ix2 r 0) : EReal) := by
  have e : idx_main_v3 (ix2 r j) = ix2 r 0 := by
    funext a
    match a with
    | ⟨0, _⟩ => rfl
    | ⟨1, _⟩ => rfl
  rw [val_main_v4_apply, prod_apply, val_main_v3_apply, e]
  rfl

theorem filled (b : Fin 32) : BitVec.slt (BitVec.ofNat 32 b.val) 32#32 = true := by
  revert b; decide

/-- The reference's result, at an entry. -/
theorem ref_apply (hlt : ∀ k : Fin 32, (x3 (ix1 k)).toNat < 1) (hn : x4 (ix1 0) = 32#32) (y : S8192x4096.Idx) :
    val_main_v4 (F := Idealize.ShloMosaic.Ideal) x0 x1 x2 y
      = ShDown.downAt x0 x1 x2 x3 x4 hlt ⟨(y 0).val / 256, by have h : (y 0).val < 8192 := (y 0).isLt; omega⟩ ⟨(y 0).val % 256, by omega⟩ (y 1) := by
  have h0 : (y 0).val < 8192 := (y 0).isLt
  have hb : (y 0).val / 256 < 32 := by omega
  unfold ShDown.downAt
  rw [if_pos ((congrArg (BitVec.slt (BitVec.ofNat 32 ((y 0).val / 256))) hn).trans (filled ⟨(y 0).val / 256, hb⟩))]
  have hr : (⟨(y 0).val / 256 * 256 + (y 0).val % 256, by omega⟩ : Fin 8192) = y 0 := Fin.ext (by
    show (y 0).val / 256 * 256 + (y 0).val % 256 = (y 0).val; omega)
  have he : (⟨(x3 (ix1 ⟨(y 0).val / 256, hb⟩)).toNat, hlt _⟩ : Fin 1) = 0 := Subsingleton.elim _ _
  refine (congrArg (val_main_v4 (F := Idealize.ShloMosaic.Ideal) x0 x1 x2) (eq_ix2 y)).trans ((row_apply x0 x1 x2 (y 0) (y 1)).trans ?_)
  exact congrArg₂ (fun (e : Fin 1) (r : Fin 8192) => (ShDown.prod x0 x1 e r (y 1) * x2 (ix2 r 0) : EReal)) he.symm hr.symm

end Cert.Proof.ShDownRef

end
-- ==== Proof.ShDownClaims.lean ====
/- Hand-written: THE CLAIMS OF THE SHARED EXPERT'S DOWN PROJECTION. The precondition says that every word of the table is zero, the one
   expert, which is the frame's side condition, and that all 32 blocks are filled; the value is `ShDownArray`'s `down_array` on the
   kernel's side and `ShDownRef`'s `ref_apply` on the reference's. -/
module

public import proofs.«01_k».proof.Defs
public import proofs.«01_k».proof.Proof.Gen.Pre_one_expert_down
public import proofs.«01_k».proof.Proof.Gen.Kernel7
public import proofs.«01_k».proof.Proof.Gen.Reference7Ideal.Run
public import proofs.«01_k».proof.Proof.ShDownArray
public import proofs.«01_k».proof.Proof.ShDownRef
public import Idealize.ShloMosaic.Lib.Claim

@[expose] public section

set_option maxRecDepth 16384

noncomputable section

namespace Cert.Proof.ShDown

open Idealize.ShloMosaic Idealize.ShloMosaic.TcCoe Idealize.ShloMosaic.ValueIdx
open scoped BigOperators

theorem idx_one (i j : Cert.Kernel7Ideal.S1.Idx) : i = j := by
  funext a
  match a with
  | ⟨0, _⟩ => exact Subsingleton.elim (α := Fin 1) _ _

/-- The precondition, at an entry of the table and at the number of filled blocks. -/
theorem tables {F : FTy → Type} [FloatOps F] (a0 : FVec F Cert.Kernel7Ideal.S8192x512 .bf16) (a1 : FVec F Cert.Kernel7Ideal.S1x512x4096 .f32) (a2 : FVec F Cert.Kernel7Ideal.S8192x1 .f32)
    (be : IVec Cert.Kernel7Ideal.S32 32) (nv : IVec Cert.Kernel7Ideal.S1 32)
    (h : Cert.Pre_one_expert_down.fn (F := F) a0 a1 a2 be nv = fun _ => 1#1) (y : Cert.Kernel7Ideal.S32.Idx) : be y = 0#32 ∧ nv (ix1 0) = 32#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_one_expert_down.fn, andi, cmpi, broadcastInDim, constantI, IntOp.cmpi, andi_ofBool, ofBool_eq_one,
    Bool.and_eq_true, beq_iff_eq] at e
  exact ⟨e.1, (congrArg nv (idx_one _ _)).trans e.2⟩

theorem in_range {F : FTy → Type} [FloatOps F] (a0 : FVec F Cert.Kernel7Ideal.S8192x512 .bf16) (a1 : FVec F Cert.Kernel7Ideal.S1x512x4096 .f32) (a2 : FVec F Cert.Kernel7Ideal.S8192x1 .f32)
    (be : IVec Cert.Kernel7Ideal.S32 32) (nv : IVec Cert.Kernel7Ideal.S1 32)
    (h : Cert.Pre_one_expert_down.fn (F := F) a0 a1 a2 be nv = fun _ => 1#1) (y : Cert.Kernel7Ideal.S32.Idx) : (be y).toNat < 1 := by
  rw [(tables a0 a1 a2 be nv h y).1]
  decide

/-- The kernel over the extended reals runs, keeps its arguments and ends with every counter at zero. -/
theorem frame_ideal : Cert.quiescent_Kernel7Ideal := fun m g h =>
  frame_down m g (ok_of_lt m fun k => in_range _ _ _ _ _ (h 0) (ix1 k))

/-! ## The same program over the floating-point formats

The two printings of the kernel are the same definitions under two names, so the frame, which is proved for every instance of
the operations, holds of both. -/

theorem body_same {F : FTy → Type} [FloatOps F] : Kernel7.defs₀ (F := F) = Kernel7Ideal.defs₀ (F := F) := by
  refine congrArg (Defs.onTc (nD := Kernel7.nD) (τ := Kernel7.τ) (sig := Kernel7.sig) (Λ := Kernel7.Λ₀)) (funext fun p => funext fun x => ?_)
  match p, x with
  | 0, (t, s) => with_unfolding_all rfl

theorem defs_same {F : FTy → Type} [FloatOps F] : Kernel7.defs (F := F) = Kernel7Ideal.defs (F := F) := by
  refine Eq.trans (b := Pipeline.defs Kernel7.pcfgs (Kernel7Ideal.defs₀ (F := F))) (congrArg (Pipeline.defs Kernel7.pcfgs) body_same) ?_
  with_unfolding_all rfl

theorem run_same (m : (ℓ : Loc Kernel7.nD Kernel7.τ Kernel7.sig) → Buf (Elt Bits) ℓ) (g : Dev Kernel7.nD → PrngReg)
    (P : PUnit × MemSt Kernel7.nD Kernel7.τ Kernel7.sig (Elt Bits) → Prop)
    (h : θ_run (Kernel7Ideal.defs (F := Bits)) (onTc (τ := Kernel7Ideal.τ) (Kernel7Ideal.main (F := Bits))) ⟨m, fun _ => 0, g⟩ P) :
    θ_run (Kernel7.defs (F := Bits)) (onTc (τ := Kernel7.τ) (Kernel7.main (F := Bits))) ⟨m, fun _ => 0, g⟩ P := by
  rw [defs_same]; exact h

set_option backward.isDefEq.respectTransparency false in
/-- The kernel over the floating-point formats runs, keeps its arguments and ends with every counter at zero. -/
theorem frame_bits : Cert.quiescent_Kernel7 := fun m g h =>
  run_same m g _ (frame_down (F := Bits) m g (ok_of_lt (F := Bits) m fun k => in_range (F := Bits) _ _ _ _ _ (h 0) (ix1 k)))

/-- The reference over the extended reals runs, keeps its arguments and ends with every counter at zero. -/
theorem frame_ref : Cert.quiescent_Reference7Ideal := fun m g _ =>
  (θ_run Cert.Reference7Ideal.defs _ _).mono (fun r h => ⟨fun c => (h c).2, sem_eq_zero_of_no_sems (by decide) r.2⟩) (Cert.Reference7Ideal.Value.run m g)

theorem frame_ref_pre : Cert.quiescent_Reference7Ideal_pre_one_expert_down := fun m g _ =>
  (θ_run Cert.Reference7Ideal.defs _ _).mono (fun r h => ⟨fun c => (h c).2, sem_eq_zero_of_no_sems (by decide) r.2⟩) (Cert.Reference7Ideal.Value.run m g)

/-- The kernel's array and the reference's result are the same function of the arguments. -/
theorem algebraic : Cert.algebraic_Kernel7Ideal_Reference7Ideal := by
  intro m g m' g' hpre hagree
  have hlt : ∀ k : Fin 32, BitVec.toNat (w := 32) (aE m (ix1 k)) < 1 := fun k => in_range _ _ _ _ _ (hpre 0) (ix1 k)
  have hn : aN m (ix1 0) = 32#32 := (tables _ _ _ _ _ (hpre 0) (ix1 0)).2
  have hO : Ok m := ok_of_lt m hlt
  refine ⟨fun _ => ((fun y : Cert.Kernel7Ideal.S8192x4096.Idx => downAt (aX m) (aW m) (aR m) (aE m) (aN m) hlt ⟨(y 0).val / 256, by have h : (y 0).val < 8192 := (y 0).isLt; omega⟩
          ⟨(y 0).val % 256, by omega⟩ (y 1)) : FVec Idealize.ShloMosaic.Ideal Cert.Kernel7Ideal.S8192x4096 .f32), ?_, ?_⟩
  · refine (θ_run Cert.Kernel7Ideal.defs _ _).mono (fun r h c => ?_)
      (θ_run_and (run_main_quiescent m g hO) (unchanged m g hO))
    obtain rfl : c = 0 := Subsingleton.elim _ _
    exact ⟨((h.1.1 0).1 3).trans (down_array m hlt hO), h.2 0⟩
  · refine (θ_run Cert.Reference7Ideal.defs _ _).mono (fun r h c => ?_) (Cert.Reference7Ideal.Value.run m' g')
    obtain rfl : c = 0 := Subsingleton.elim _ _
    refine ⟨((h 0).1.trans (Cert.Reference7Ideal.Read.val_main_v4_eq _ _ _)).trans ?_, (h 0).2⟩
    obtain ⟨h0, h1, h2, -, -⟩ := hagree 0
    funext y
    refine (congrFun (congr (congr (congrArg Cert.Reference7Ideal.Read.val_main_v4 h0) h1) h2) y).trans ?_
    exact ShDownRef.ref_apply _ _ _ _ _ hlt hn y

end Cert.Proof.ShDown

end
-- ==== Proof.NewRows.lean ====
/- Hand-written: THE COMPRESSION OF THE SAMPLES' NEW ROWS, on the kernel's side. The body takes one sample's 64 rows of one group;
   for the place c in a block (c = 0 … 31) it puts row c over row 32 + c, adds the position row of c, multiplies by the weight
   matrix of c and adds to the accumulator. `chain n` is the accumulator after n places (`out_apply`: what the body leaves is
   `chain 32`), `chain_apply` its value over the extended reals, and `array` what the region leaves: entry (b, j, h, n, e) is
   Σ_c Σ_k (row 64 b + 32 n + c, column 128 (4 j + h) + k, + position (j, c, k)) · weight (j, c, k, e). -/
module

public import proofs.«01_k».proof.Proof.Gen.Kernel8Ideal.Frame
public import proofs.«01_k».proof.Proof.Gen.Kernel8Ideal.Value
public import Idealize.ShloMosaic.Lib.ValueIdx
public import Idealize.ShloMosaic.Lib.VecWindow
public import Idealize.ShloMosaic.Lib.WholeRead
public import Idealize.ShloMosaic.Lib.MatmulPlain
public import Idealize.ShloMosaic.Lib.Pipeline.Value
public import Idealize.ShloMosaic.Lib.Pipeline.ValueKit.Tiles
public import Idealize.ShloMosaic.Lib.Pipeline.ValueKit.Geometry

@[expose] public section

noncomputable section

namespace Cert.Proof.NewRows

open Cert.Kernel8Ideal Cert.Kernel8Ideal.Gen
open Idealize.ShloMosaic Idealize.ShloMosaic.TcCoe Idealize.ShloMosaic.ValueIdx Idealize.ShloMosaic.Tactic
open scoped BigOperators

/-! ## The body as a chain -/

section Chain

variable {F : FTy → Type} [FloatOps F]

theorem inb_row (h : Fin 2) (n : ℕ) : ∀ a, S1x128.size a = 0 ∨
    (![32 * h.val + n % 32, 0] : Fin 2 → Nat) a + (![64, 1] : Fin 2 → Nat) a * (S1x128.size a - 1) < S64x128.size a := by
  intro a
  have hn : n % 32 < 32 := Nat.mod_lt _ (by decide)
  have hh := h.isLt
  match a with
  | ⟨0, _⟩ => right; show 32 * h.val + n % 32 + 64 * (1 - 1) < 64; omega
  | ⟨1, _⟩ => right; simp

theorem inb_pos (n : ℕ) : ∀ a, (![0, n % 32, 0] : Fin 3 → Nat) a + S1x1x128.size a ≤ S1x32x128.size a := by
  intro a
  have hn : n % 32 < 32 := Nat.mod_lt _ (by decide)
  match a with
  | ⟨0, _⟩ => simp
  | ⟨1, _⟩ => show n % 32 + 1 ≤ 32; omega
  | ⟨2, _⟩ => simp

theorem inb_wt (n : ℕ) : ∀ a, (![0, n % 32, 0, 0] : Fin 4 → Nat) a + S1x1x128x128.size a ≤ S1x32x128x128.size a := by
  intro a
  have hn : n % 32 < 32 := Nat.mod_lt _ (by decide)
  match a with
  | ⟨0, _⟩ => simp
  | ⟨1, _⟩ => show n % 32 + 1 ≤ 32; omega
  | ⟨2, _⟩ => simp
  | ⟨3, _⟩ => simp

/-- Place n of block h of the rows. -/
abbrev rowRect (h : Fin 2) (n : ℕ) : LoadRect S64x128 := ⟨![32 * h.val + n % 32, 0], S1x128.size, ![64, 1], inb_row h n⟩
/-- Place n of the positions. -/
abbrev posRect (n : ℕ) : LoadRect S1x32x128 := (Rect.unit (s := S1x32x128) ![0, n % 32, 0] S1x1x128.size (inb_pos n)).toLoadRect
/-- Place n of the weights. -/
abbrev wtRect (n : ℕ) : LoadRect S1x32x128x128 := (Rect.unit (s := S1x32x128x128) ![0, n % 32, 0, 0] S1x1x128x128.size (inb_wt n)).toLoadRect

/-- One step: the two blocks' rows, the position added, times the weights, added to the accumulator. -/
def step (acc : FVec F S2x128 .f32) (r0 r1 : Vec F S1x128 .f32) (p : Vec F S1x1x128 .f32) (w : Vec F S1x1x128x128 .f32) : FVec F S2x128 .f32 :=
  addf acc (matmul dot_S2x128_S128x128_S2x128_1_0_0_1_n_n none
    (truncf .bf16 (addf (concatenate S2x128 0 [⟨S1x128, r0⟩, ⟨S1x128, r1⟩] concatenates_S1x128_S1x128_S2x128_d0)
      (broadcastTo S2x128 (shapeCast S1x128 p shapeCasts_S1x1x128_S1x128) broadcasts_S1x128_S2x128)) bitsLt_bf16_f32)
    (truncf .bf16 (shapeCast S128x128 w shapeCasts_S1x1x128x128_S128x128) bitsLt_bf16_f32)
    (constant S2x128 .f32 0x00000000#32))

/-- The accumulator after n steps, from what each step loads. -/
def chain (r : Fin 2 → ℕ → Vec F S1x128 .f32) (p : ℕ → Vec F S1x1x128 .f32) (w : ℕ → Vec F S1x1x128x128 .f32) : ℕ → FVec F S2x128 .f32
  | 0 => broadcast S2x128 (Scalar.ofBits .f32 0x00000000#32)
  | n + 1 => step (chain r p w n) (r 0 n) (r 1 n) (p n) (w n)

/-- What the body leaves in the result's buffer, from the memrefs' contents. -/
theorem out_apply (c : Dev nD) (i : grid0.Coords) (arg3 : Memref sig .tc .vmem S64x128 .f32) (harg3 : arg3.IsWhole)
    (arg4 : Memref sig .tc .vmem S1x32x128x128 .f32) (harg4 : arg4.IsWhole) (arg5 : Memref sig .tc .vmem S1x32x128 .f32) (harg5 : arg5.IsWhole)
    (arg6 : Memref sig .tc .vmem S1x1x1x2x128 .f32) (harg6 : arg6.IsWhole)
    (x0 : Vec F S64x128 .f32) (x1 : Vec F S1x32x128x128 .f32) (x2 : Vec F S1x32x128 .f32) (y : S1x1x1x2x128.Idx) :
    out0_A_3 c i arg3 harg3 arg4 harg4 arg5 harg5 arg6 harg6 x0 x1 x2 y
      = shapeCast S1x1x1x2x128 (chain (fun h n => arg3.view.readAt (Elt F) (rowRect h n) (harg3.unread x0))
          (fun n => arg5.view.readAt (Elt F) (posRect n) (harg5.unread x2))
          (fun n => arg4.view.readAt (Elt F) (wtRect n) (harg4.unread x1)) 32) shapeCasts_S2x128_S1x1x1x2x128 y := by
  unfold out0_A_3 kernelRun0_A
  have h := fun pay => View.read_writes_cons_emb (v := VO0_3) (f := VO0_3.junk) (Val := Elt F)
    (Rect.unit (s := S1x1x1x2x128) ![0, 0, 0, 0, 0] S1x1x1x2x128.size inb_S1x1x1x2x128_S1x1x1x2x128_0_0_0_0_0) pay [] y
  rw [Rect.emb_unit_full] at h
  refine (h _).trans ?_
  rfl

end Chain

/-! ## The chain over the extended reals -/

/-- The two blocks' rows, one over the other. -/
theorem rows_apply (r : Fin 2 → FVec Ideal S1x128 .f32) (n : Fin 2) (k : Fin 128) :
    concatenate S2x128 0 [⟨S1x128, r 0⟩, ⟨S1x128, r 1⟩] concatenates_S1x128_S1x128_S2x128_d0 (ix2 n k) = r n (ix2 0 k) := by
  refine concatenate_ofFn_apply (t := S2x128) (s₁ := S1x128) 0 r _ rfl 1 rfl (ix2 n k) n (Nat.div_one _) (ix2 0 k) (Nat.mod_one _).symm (fun b hb => ?_)
  match b with
  | ⟨0, _⟩ => exact absurd rfl hb
  | ⟨1, _⟩ => rfl

/-- One step of the chain, at an entry. -/
theorem step_apply (acc : FVec Ideal S2x128 .f32) (r : Fin 2 → FVec Ideal S1x128 .f32) (p : FVec Ideal S1x1x128 .f32)
    (w : FVec Ideal S1x1x128x128 .f32) (n : Fin 2) (e : Fin 128) :
    step acc (r 0) (r 1) p w (ix2 n e)
      = acc (ix2 n e) + ∑ k : Fin 128, (r n (ix2 0 k) + p (ix3 0 0 k)) * w (ix4 0 0 k e) := by
  unfold step
  refine (addf_apply _ _ _).trans (congrArg (acc _ + ·) ?_)
  refine (Ideal.matmul_plain_apply (M := 2) (K := 128) (N := 128) none _ _ _ _ e).trans ?_
  rw [show (constant (F := Ideal) S2x128 .f32 0x00000000#32) (ix2 n e) = 0 from Ideal.ofBits_zero_f32, zero_add]
  refine Finset.sum_congr rfl fun k _ => ?_
  refine congrArg₂ (· * ·) ?_ ?_
  · refine congrArg₂ (· + ·) (rows_apply r n k) ?_
    refine (broadcastTo_apply _ broadcasts_S1x128_S2x128 _ (ix2 0 k) fun a => ?_).trans ?_
    · match a with
      | ⟨0, _⟩ => rfl
      | ⟨1, _⟩ => rfl
    · refine shapeCast_apply _ shapeCasts_S1x1x128_S1x128 _ (ix3 0 0 k) ?_
      rw [Shape.rowMajor_val_two, Shape.rowMajor_val_three]
      rfl
  · refine shapeCast_apply _ shapeCasts_S1x1x128x128_S128x128 _ (ix4 0 0 k e) ?_
    rw [Shape.rowMajor_val_two, Shape.rowMajor_val_four]
    show ((0 * 1 + 0) * 128 + k.val) * 128 + e.val = k.val * 128 + e.val
    omega

/-- The chain after N steps, at an entry. -/
theorem chain_apply (r : Fin 2 → ℕ → FVec Ideal S1x128 .f32) (p : ℕ → FVec Ideal S1x1x128 .f32) (w : ℕ → FVec Ideal S1x1x128x128 .f32)
    (n : Fin 2) (e : Fin 128) (N : ℕ) :
    chain r p w N (ix2 n e) = ∑ c ∈ Finset.range N, ∑ k : Fin 128, (r n c (ix2 0 k) + p c (ix3 0 0 k)) * w c (ix4 0 0 k e) := by
  induction N with
  | zero => exact Ideal.ofBits_zero_f32
  | succ N ih =>
    rw [Finset.sum_range_succ, ← ih]
    exact step_apply _ (fun i => r i N) (p N) (w N) n e

/-! ## The blocks -/

variable (m : (ℓ : Loc nD τ sig) → Buf (Elt Idealize.ShloMosaic.Ideal) ℓ)

/-- The rows, the positions and the weights. -/
abbrev aRows : FVec Idealize.ShloMosaic.Ideal S2048x1024 .f32 := m (((0 : Dev nD) : Thread nD τ).loc main_arg0)
abbrev aPos : FVec Idealize.ShloMosaic.Ideal S1x2x32x128 .f32 := m (((0 : Dev nD) : Thread nD τ).loc main_arg1)
abbrev aWt : FVec Idealize.ShloMosaic.Ideal S1x2x32x128x128 .f32 := m (((0 : Dev nD) : Thread nD τ).loc main_arg2)

theorem V_pos (j : Fin 2) (c : Fin 32) (k : Fin 128) :
    (V m (0 : Dev nD) main_v0 : FVec Idealize.ShloMosaic.Ideal S2x32x128 .f32) (ix3 j c k) = aPos m (ix4 0 j c k) := by
  have e : V m (0 : Dev nD) main_v0 = shapeCast S2x32x128 (aPos m) shapeCasts_S1x2x32x128_S2x32x128 := by
    unfold_abbrev_sides
    after_results
    rfl
  rw [e]
  refine shapeCast_apply _ shapeCasts_S1x2x32x128_S2x32x128 _ _ ?_
  rw [Shape.rowMajor_val_four, Shape.rowMajor_val_three]
  show ((0 * 2 + j.val) * 32 + c.val) * 128 + k.val = (j.val * 32 + c.val) * 128 + k.val
  omega

theorem V_wt (j : Fin 2) (c : Fin 32) (k e : Fin 128) :
    (V m (0 : Dev nD) main_v1 : FVec Idealize.ShloMosaic.Ideal S2x32x128x128 .f32) (ix4 j c k e) = aWt m (ix5 0 j c k e) := by
  have h : V m (0 : Dev nD) main_v1 = shapeCast S2x32x128x128 (aWt m) shapeCasts_S1x2x32x128x128_S2x32x128x128 := by
    unfold_abbrev_sides
    after_results
    rfl
  rw [h]
  refine shapeCast_apply _ shapeCasts_S1x2x32x128x128_S2x32x128x128 _ _ ?_
  rw [Shape.rowMajor_val_five, Shape.rowMajor_val_four]
  show (((0 * 2 + j.val) * 32 + c.val) * 128 + k.val) * 128 + e.val = ((j.val * 32 + c.val) * 128 + k.val) * 128 + e.val
  omega

theorem coord_val (n : ℕ) (h : n < 32) : (BitVec.ofNat 32 n).toNat = n := by rw [BitVec.toNat_ofNat]; omega

theorem transform_0 (i : grid0.Coords) : cc0_transform_0 i = ![(i 0).val, (i 1).val * 4 + (i 2).val] := by
  have h0 : (i 0).val < 32 := (i 0).isLt
  have h1 : (i 1).val < 2 := (i 1).isLt
  have h2 : (i 2).val < 4 := (i 2).isLt
  unfold cc0_transform_0
  have e : (0#32 + BitVec.ofNat 32 (i 1).val * 4#32 + BitVec.ofNat 32 (i 2).val).toNat = (i 1).val * 4 + (i 2).val := by
    simp only [BitVec.toNat_add, BitVec.toNat_mul, BitVec.toNat_ofNat]
    omega
  show ![(BitVec.ofNat 32 (i 0).val).toNat, (0#32 + BitVec.ofNat 32 (i 1).val * 4#32 + BitVec.ofNat 32 (i 2).val).toNat] = _
  rw [e, coord_val _ h0]

theorem transform_1 (i : grid0.Coords) : cc0_transform_1 i = ![(i 1).val, 0, 0, 0] := by
  have h1 : (i 1).val < 2 := (i 1).isLt
  unfold cc0_transform_1
  show ![(BitVec.ofNat 32 (i 1).val).toNat, 0, 0, 0] = _
  rw [coord_val _ (by omega)]

theorem transform_2 (i : grid0.Coords) : cc0_transform_2 i = ![(i 1).val, 0, 0] := by
  have h1 : (i 1).val < 2 := (i 1).isLt
  unfold cc0_transform_2
  show ![(BitVec.ofNat 32 (i 1).val).toNat, 0, 0] = _
  rw [coord_val _ (by omega)]

theorem transform_3 (i : grid0.Coords) : cc0_transform_3 i = ![(i 0).val, (i 1).val, (i 2).val, 0, 0] := by
  have h0 : (i 0).val < 32 := (i 0).isLt
  have h1 : (i 1).val < 2 := (i 1).isLt
  have h2 : (i 2).val < 4 := (i 2).isLt
  unfold cc0_transform_3
  show ![(BitVec.ofNat 32 (i 0).val).toNat, (BitVec.ofNat 32 (i 1).val).toNat, (BitVec.ofNat 32 (i 2).val).toNat, 0, 0] = _
  rw [coord_val _ h0, coord_val _ (by omega), coord_val _ (by omega)]

/-- The entry of the compressed blocks. -/
def entry (b : Fin 32) (j : Fin 2) (h : Fin 4) (n : Fin 2) (e : Fin 128) : EReal :=
  ∑ c : Fin 32, ∑ k : Fin 128,
    (aRows m (ix2 ⟨b.val * 64 + (32 * n.val + c.val), by omega⟩ ⟨(j.val * 4 + h.val) * 128 + k.val, by omega⟩) + aPos m (ix4 0 j c k))
      * aWt m (ix5 0 j c k e)

section Blocks

variable (t : Fin cfg0.N) (b : Fin 32) (j : Fin 2) (h : Fin 4)
  (hb : (grid0.coords t 0).val = b.val) (hj : (grid0.coords t 1).val = j.val) (hh : (grid0.coords t 2).val = h.val)

include hb hj hh in
theorem row_block (a : Fin 64) (k : Fin 128) :
    (iblk m 0 0 t : FVec Idealize.ShloMosaic.Ideal S64x128 .f32) (ix2 a k)
      = aRows m (ix2 ⟨b.val * 64 + a.val, by omega⟩ ⟨(j.val * 4 + h.val) * 128 + k.val, by omega⟩) := by
  have ht := transform_0 (grid0.coords t)
  show V m (0 : Dev nD) main_arg0 (((cfg0.win 0).blk t).view.emb (ix2 a k)) = _
  rw [V_main_arg0]
  refine congrArg (aRows m) (funext fun (x : Fin 2) => Fin.ext ?_)
  match x with
  | ⟨0, _⟩ => show cc0_transform_0 (grid0.coords t) (0 : Fin 2) * 64 + 1 * a.val = b.val * 64 + a.val; rw [ht]; show (grid0.coords t 0).val * 64 + 1 * a.val = _; omega
  | ⟨1, _⟩ => show cc0_transform_0 (grid0.coords t) (1 : Fin 2) * 128 + 1 * k.val = (j.val * 4 + h.val) * 128 + k.val; rw [ht]; show ((grid0.coords t 1).val * 4 + (grid0.coords t 2).val) * 128 + 1 * k.val = _; rw [hj, hh]; omega

include hj in
theorem wt_block (c : Fin 32) (k e : Fin 128) :
    (iblk m 0 1 t : FVec Idealize.ShloMosaic.Ideal S1x32x128x128 .f32) (ix4 0 c k e) = aWt m (ix5 0 j c k e) := by
  have ht := transform_1 (grid0.coords t)
  refine Eq.trans ?_ (V_wt m j c k e)
  show V m (0 : Dev nD) main_v1 (((cfg0.win 1).blk t).view.emb (ix4 0 c k e)) = _
  refine congrArg (V m (0 : Dev nD) main_v1) (funext fun (x : Fin 4) => Fin.ext ?_)
  match x with
  | ⟨0, _⟩ => show cc0_transform_1 (grid0.coords t) (0 : Fin 4) * 1 + 1 * 0 = j.val; rw [ht]; show (grid0.coords t 1).val * 1 + 1 * 0 = _; omega
  | ⟨1, _⟩ => show cc0_transform_1 (grid0.coords t) (1 : Fin 4) * 32 + 1 * c.val = c.val; rw [ht]; show 0 * 32 + 1 * c.val = _; omega
  | ⟨2, _⟩ => show cc0_transform_1 (grid0.coords t) (2 : Fin 4) * 128 + 1 * k.val = k.val; rw [ht]; show 0 * 128 + 1 * k.val = _; omega
  | ⟨3, _⟩ => show cc0_transform_1 (grid0.coords t) (3 : Fin 4) * 128 + 1 * e.val = e.val; rw [ht]; show 0 * 128 + 1 * e.val = _; omega

include hj in
theorem pos_block (c : Fin 32) (k : Fin 128) :
    (iblk m 0 2 t : FVec Idealize.ShloMosaic.Ideal S1x32x128 .f32) (ix3 0 c k) = aPos m (ix4 0 j c k) := by
  have ht := transform_2 (grid0.coords t)
  refine Eq.trans ?_ (V_pos m j c k)
  show V m (0 : Dev nD) main_v0 (((cfg0.win 2).blk t).view.emb (ix3 0 c k)) = _
  refine congrArg (V m (0 : Dev nD) main_v0) (funext fun (x : Fin 3) => Fin.ext ?_)
  match x with
  | ⟨0, _⟩ => show cc0_transform_2 (grid0.coords t) (0 : Fin 3) * 1 + 1 * 0 = j.val; rw [ht]; show (grid0.coords t 1).val * 1 + 1 * 0 = _; omega
  | ⟨1, _⟩ => show cc0_transform_2 (grid0.coords t) (1 : Fin 3) * 32 + 1 * c.val = c.val; rw [ht]; show 0 * 32 + 1 * c.val = _; omega
  | ⟨2, _⟩ => show cc0_transform_2 (grid0.coords t) (2 : Fin 3) * 128 + 1 * k.val = k.val; rw [ht]; show 0 * 128 + 1 * k.val = _; omega

include hb hj hh in
/-- What the body leaves at a point. -/
theorem outs_apply (n : Fin 2) (e : Fin 128) : outsAt0 m 0 t (ix5 0 0 0 n e) = entry m b j h n e := by
  unfold outsAt0
  refine (out_apply _ _ _ _ _ _ _ _ _ _ _ _ _ _).trans ?_
  refine (shapeCast_apply _ shapeCasts_S2x128_S1x1x1x2x128 _ (ix2 n e) ?_).trans ?_
  · rw [Shape.rowMajor_val_two, Shape.rowMajor_val_five]
    show n.val * 128 + e.val = (((0 * 1 + 0) * 1 + 0) * 2 + n.val) * 128 + e.val
    omega
  refine (chain_apply _ _ _ n e 32).trans ?_
  unfold entry
  rw [Finset.sum_range]
  refine Finset.sum_congr rfl fun c _ => Finset.sum_congr rfl fun k _ => ?_
  have hc := c.isLt
  have hn := n.isLt
  refine congrArg₂ (· * ·) (congrArg₂ (· + ·) ?_ ?_) ?_
  · refine ((hs0_0 t).readAt_unread _ _ _).trans ((congrArg _ (funext fun a => Fin.ext ?_)).trans (row_block m t b j h hb hj hh ⟨32 * n.val + c.val, by omega⟩ k))
    match a with
    | ⟨0, _⟩ => show 32 * n.val + c.val % 32 + 64 * 0 = 32 * n.val + c.val; omega
    | ⟨1, _⟩ => show 0 + 1 * k.val = k.val; omega
  · refine ((hs0_2 t).readAt_unread _ _ _).trans ((congrArg _ (funext fun a => Fin.ext ?_)).trans (pos_block m t j hj c k))
    match a with
    | ⟨0, _⟩ => rfl
    | ⟨1, _⟩ => show c.val % 32 + 1 * 0 = c.val; omega
    | ⟨2, _⟩ => show 0 + 1 * k.val = k.val; omega
  · refine ((hs0_1 t).readAt_unread _ _ _).trans ((congrArg _ (funext fun a => Fin.ext ?_)).trans (wt_block m t j hj c k e))
    match a with
    | ⟨0, _⟩ => rfl
    | ⟨1, _⟩ => show c.val % 32 + 1 * 0 = c.val; omega
    | ⟨2, _⟩ => show 0 + 1 * k.val = k.val; omega
    | ⟨3, _⟩ => show 0 + 1 * e.val = e.val; omega

end Blocks

/-! ## The array -/

/-- Every (b, j, h) is a point of the grid. -/
theorem point_of : ∀ (b : Fin 32) (j : Fin 2) (h : Fin 4), ∃ t : Fin grid0.N,
    (grid0.coords t 0).val = b.val ∧ (grid0.coords t 1).val = j.val ∧ (grid0.coords t 2).val = h.val := by
  decide +kernel

/-- Where the output's block places an index. -/
theorem out_emb (t : Fin cfg0.N) (y : S1x1x1x2x128.Idx) :
    (((cfg0.win 3).blk t).view.emb y : S32x2x4x2x128.Idx) = ix5 (grid0.coords t 0) (grid0.coords t 1) (grid0.coords t 2) (y 3) (y 4) := by
  have ht := transform_3 (grid0.coords t)
  have hy0 : (y 0).val < 1 := (y 0).isLt
  have hy1 : (y 1).val < 1 := (y 1).isLt
  have hy2 : (y 2).val < 1 := (y 2).isLt
  refine funext fun (a : Fin 5) => Fin.ext ?_
  match a with
  | ⟨0, _⟩ => show cc0_transform_3 (grid0.coords t) (0 : Fin 5) * 1 + 1 * (y 0).val = (grid0.coords t 0).val; rw [ht]; show (grid0.coords t 0).val * 1 + 1 * (y 0).val = _; omega
  | ⟨1, _⟩ => show cc0_transform_3 (grid0.coords t) (1 : Fin 5) * 1 + 1 * (y 1).val = (grid0.coords t 1).val; rw [ht]; show (grid0.coords t 1).val * 1 + 1 * (y 1).val = _; omega
  | ⟨2, _⟩ => show cc0_transform_3 (grid0.coords t) (2 : Fin 5) * 1 + 1 * (y 2).val = (grid0.coords t 2).val; rw [ht]; show (grid0.coords t 2).val * 1 + 1 * (y 2).val = _; omega
  | ⟨3, _⟩ => show cc0_transform_3 (grid0.coords t) (3 : Fin 5) * 2 + 1 * (y 3).val = (y 3).val; rw [ht]; show 0 * 2 + 1 * (y 3).val = _; omega
  | ⟨4, _⟩ => show cc0_transform_3 (grid0.coords t) (4 : Fin 5) * 128 + 1 * (y 4).val = (y 4).val; rw [ht]; show 0 * 128 + 1 * (y 4).val = _; omega

/-- The array the region leaves. -/
theorem array :
    (dats m 0 (0 : Dev nD)).arrAt 3 cfg0.N
      = ((fun y : S32x2x4x2x128.Idx => entry m (y 0) (y 1) (y 2) (y 3) (y 4)) : FVec Idealize.ShloMosaic.Ideal S32x2x4x2x128 .f32) := by
  refine (dats m 0 (0 : Dev nD)).arrAt_eq_of_emb 3 _ (fun t _ y => ?_) fun i => ?_
  · refine (show _ = (dats m 0 (0 : Dev nD)).after 3 t y from rfl).trans ?_
    rw [after0_3]
    have hy : (y : S1x1x1x2x128.Idx) = ix5 0 0 0 (y (3 : Fin 5)) (y (4 : Fin 5)) := by
      refine funext fun (a : Fin 5) => ?_
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl
      | ⟨4, _⟩ => rfl
    refine (congrArg (outsAt0 m 0 t) hy).trans ?_
    refine (outs_apply m t (grid0.coords t 0) (grid0.coords t 1) (grid0.coords t 2) rfl rfl rfl (y (3 : Fin 5)) (y (4 : Fin 5))).trans ?_
    refine Eq.trans ?_ (congrArg (fun y : S32x2x4x2x128.Idx => entry m (y 0) (y 1) (y 2) (y 3) (y 4)) (out_emb t y)).symm
    rfl
  · obtain ⟨t, h0, h1, h2⟩ := point_of (i (0 : Fin 5)) (i (1 : Fin 5)) (i (2 : Fin 5))
    refine ⟨t, flush0_3 t, ?_⟩
    have e : (((cfg0.win 3).blk t).view.emb (ix5 0 0 0 (i (3 : Fin 5)) (i (4 : Fin 5)) : S1x1x1x2x128.Idx) : S32x2x4x2x128.Idx) = i := by
      rw [out_emb]
      refine funext fun (a : Fin 5) => Fin.ext ?_
      match a with
      | ⟨0, _⟩ => exact h0
      | ⟨1, _⟩ => exact h1
      | ⟨2, _⟩ => exact h2
      | ⟨3, _⟩ => rfl
      | ⟨4, _⟩ => rfl
    rw [← e]
    exact View.emb_mem_set _ _

end Cert.Proof.NewRows

end
-- ==== Proof.NewRowsRef.lean ====
/- Hand-written: THE REFERENCE OF THE COMPRESSION OF THE SAMPLES' NEW ROWS AT AN ENTRY, over the extended reals: the contraction over
   a block's 32 places and 128 features as a double sum (`product_apply`), and the result (`ref_apply`). -/
module

public import proofs.«01_k».proof.Proof.Gen.Reference8Ideal.Read
public import Idealize.ShloMosaic.Lib.ValueIdx
public import Idealize.ShloMosaic.Lib.ValueIdxRank6
public import Idealize.ShloMosaic.Lib.Pipeline.Value
public import Idealize.ShloMosaic.Lib.MatmulPlain

@[expose] public section

noncomputable section

namespace Cert.Proof.NewRowsRef

open Cert.Reference8Ideal Cert.Reference8Ideal.Gen Cert.Reference8Ideal.Read
open Idealize.ShloMosaic Idealize.ShloMosaic.TcCoe Idealize.ShloMosaic.ValueIdx
open scoped BigOperators

variable (x0 : FVec Idealize.ShloMosaic.Ideal S2048x1024 .f32) (x1 : FVec Idealize.ShloMosaic.Ideal S1x2x32x128 .f32)
  (x2 : FVec Idealize.ShloMosaic.Ideal S1x2x32x128x128 .f32)

/-- The weight's entry. -/
theorem wt_apply (j : Fin 2) (c : Fin 32) (k e : Fin 128) :
    val_main_v1 (F := Idealize.ShloMosaic.Ideal) x2 (ix4 j c k e) = x2 (ix5 0 j c k e) := by
  unfold val_main_v1
  refine shapeCast_apply _ shapeCasts_S1x2x32x128x128_S2x32x128x128 _ _ ?_
  rw [Shape.rowMajor_val_five, Shape.rowMajor_val_four]
  show (((0 * 2 + j.val) * 32 + c.val) * 128 + k.val) * 128 + e.val = ((j.val * 32 + c.val) * 128 + k.val) * 128 + e.val
  omega

/-- The position's entry. -/
theorem pos_apply (b : Fin 32) (n : Fin 2) (c : Fin 32) (j : Fin 2) (h : Fin 4) (k : Fin 128) :
    val_main_v5 (F := Idealize.ShloMosaic.Ideal) x1 (ix6 b n c j h k) = x1 (ix4 0 j c k) := by
  rw [val_main_v5_apply, val_main_v4_apply, val_main_v3_apply]
  unfold val_main_v0
  refine shapeCast_apply _ shapeCasts_S1x2x32x128_S2x32x128 _ _ ?_
  rw [Shape.rowMajor_val_four, Shape.rowMajor_val_three]
  show ((0 * 2 + j.val) * 32 + c.val) * 128 + k.val = (j.val * 32 + c.val) * 128 + k.val
  omega

/-- The row's entry. -/
theorem rows_apply (b : Fin 32) (n : Fin 2) (c : Fin 32) (j : Fin 2) (h : Fin 4) (k : Fin 128) :
    val_main_v2 (F := Idealize.ShloMosaic.Ideal) x0 (ix6 b n c j h k)
      = x0 (ix2 ⟨b.val * 64 + (32 * n.val + c.val), by omega⟩ ⟨(j.val * 4 + h.val) * 128 + k.val, by omega⟩) := by
  unfold val_main_v2
  refine shapeCast_apply _ shapeCasts_S2048x1024_S32x2x32x2x4x128 _ _ ?_
  rw [Shape.rowMajor_val_two, Shape.rowMajor_val_six]
  show (b.val * 64 + (32 * n.val + c.val)) * 1024 + ((j.val * 4 + h.val) * 128 + k.val)
    = ((((b.val * 2 + n.val) * 32 + c.val) * 2 + j.val) * 4 + h.val) * 128 + k.val
  omega

/-- The contraction over places and features. -/
theorem product_apply (L : FVec Idealize.ShloMosaic.Ideal S2x32x128x128 .f32) (R : FVec Idealize.ShloMosaic.Ideal S32x2x32x2x4x128 .f32)
    (j : Fin 2) (e : Fin 128) (b : Fin 32) (n : Fin 2) (h : Fin 4) :
    Host.dotGeneral dot_S2x32x128x128_S32x2x32x2x4x128_S2x128x32x2x4_12_25_3_014_0_3 none L R (ix5 j e b n h)
      = ∑ c : Fin 32, ∑ k : Fin 128, L (ix4 j c k e) * R (ix6 b n c j h k) := by
  let D := dot_S2x32x128x128_S32x2x32x2x4x128_S2x128x32x2x4_12_25_3_014_0_3
  have hr : D.contr.rank = 2 := rfl
  have c0 : D.contr.size ⟨0, by rw [hr]; omega⟩ = 32 := rfl
  have c1 : D.contr.size ⟨1, by rw [hr]; omega⟩ = 128 := rfl
  show FloatOps.dotGeneral D none _ L R (ix5 j e b n h) = _
  rw [Idealize.ShloMosaic.Ideal.dotGeneral_apply, ← Equiv.sum_comp (contrEquiv2 D 32 128 hr c0 c1).symm, Fintype.sum_prod_type]
  refine Finset.sum_congr rfl fun c _ => Finset.sum_congr rfl fun k _ => ?_
  have h0 := contrEquiv2_symm_val0 D 32 128 hr c0 c1 (c, k)
  have h1 := contrEquiv2_symm_val1 D 32 128 hr c0 c1 (c, k)
  have el : D.lhsIdx (ix5 j e b n h) ((contrEquiv2 D 32 128 hr c0 c1).symm (c, k)) = ix4 j c k e := by
    funext a; apply Fin.ext
    match a with
    | ⟨0, _⟩ => rfl
    | ⟨1, _⟩ => exact h0
    | ⟨2, _⟩ => exact h1
    | ⟨3, _⟩ => rfl
  have er : D.rhsIdx (ix5 j e b n h) ((contrEquiv2 D 32 128 hr c0 c1).symm (c, k)) = ix6 b n c j h k := by
    funext a; apply Fin.ext
    match a with
    | ⟨0, _⟩ => rfl
    | ⟨1, _⟩ => rfl
    | ⟨2, _⟩ => exact h0
    | ⟨3, _⟩ => rfl
    | ⟨4, _⟩ => rfl
    | ⟨5, _⟩ => exact h1
  rw [el, er]

/-- The reference's result, at an entry. -/
theorem ref_apply (b : Fin 32) (j : Fin 2) (h : Fin 4) (n : Fin 2) (e : Fin 128) :
    val_main_v8 (F := Idealize.ShloMosaic.Ideal) x0 x1 x2 (ix5 b j h n e)
      = ∑ c : Fin 32, ∑ k : Fin 128,
          (x0 (ix2 ⟨b.val * 64 + (32 * n.val + c.val), by omega⟩ ⟨(j.val * 4 + h.val) * 128 + k.val, by omega⟩) + x1 (ix4 0 j c k)) * x2 (ix5 0 j c k e) := by
  rw [val_main_v8_apply]
  have ei : idx_main_v8 (ix5 b j h n e) = ix5 j e b n h := by
    funext a
    match a with
    | ⟨0, _⟩ => rfl
    | ⟨1, _⟩ => rfl
    | ⟨2, _⟩ => rfl
    | ⟨3, _⟩ => rfl
    | ⟨4, _⟩ => rfl
  rw [ei]
  unfold val_main_v7
  rw [product_apply]
  refine Finset.sum_congr rfl fun c _ => Finset.sum_congr rfl fun k _ => ?_
  rw [val_main_v6_apply, wt_apply, rows_apply, pos_apply]
  exact mul_comm _ _

end Cert.Proof.NewRowsRef

end
-- ==== Proof.NewClaims.lean ====
/- Hand-written: THE CLAIMS OF THE COMPRESSION OF THE SAMPLES' NEW ROWS. The frames are the generated ones and need nothing of the
   arguments; the value is `NewRows.array` on the kernel's side and `NewRowsRef.ref_apply` on the reference's. -/
module

public import proofs.«01_k».proof.Defs
public import proofs.«01_k».proof.Proof.Gen.Kernel8.Frame
public import proofs.«01_k».proof.Proof.Gen.Reference8Ideal.Run
public import proofs.«01_k».proof.Proof.NewRows
public import proofs.«01_k».proof.Proof.NewRowsRef

@[expose] public section

noncomputable section

namespace Cert.Proof.NewRows

open Idealize.ShloMosaic Idealize.ShloMosaic.TcCoe Idealize.ShloMosaic.ValueIdx Idealize.SL.Sem

/-- The kernel runs, keeps its arguments and ends with every counter at zero, over the extended reals and over the formats. -/
theorem frame_ideal : Cert.quiescent_Kernel8Ideal := fun m g _ => Cert.Kernel8Ideal.Gen.frame m g

theorem frame_bits : Cert.quiescent_Kernel8 := fun m g _ => Cert.Kernel8.Gen.frame m g

/-- The same of the reference. -/
theorem frame_ref : Cert.quiescent_Reference8Ideal := fun m g _ =>
  (θ_run Cert.Reference8Ideal.defs _ _).mono (fun r h => ⟨fun c => (h c).2, sem_eq_zero_of_no_sems (by decide) r.2⟩) (Cert.Reference8Ideal.Value.run m g)

/-- The kernel's array and the reference's result are the same function of the arguments. -/
theorem algebraic : Cert.algebraic_Kernel8Ideal_Reference8Ideal := by
  intro m g m' g' _ hagree
  refine ⟨fun _ => ((fun y : Cert.Kernel8Ideal.S32x2x4x2x128.Idx => entry m (y 0) (y 1) (y 2) (y 3) (y 4)) :
    FVec Idealize.ShloMosaic.Ideal Cert.Kernel8Ideal.S32x2x4x2x128 .f32), ?_, ?_⟩
  · refine (θ_run Cert.Kernel8Ideal.defs _ _).mono (fun r h c => ?_) (Cert.Kernel8Ideal.Value.run_blocks m g)
    obtain rfl : c = 0 := Subsingleton.elim _ _
    exact ⟨(h 0).1.trans (array m), (h 0).2⟩
  · refine (θ_run Cert.Reference8Ideal.defs _ _).mono (fun r h c => ?_) (Cert.Reference8Ideal.Value.run m' g')
    obtain rfl : c = 0 := Subsingleton.elim _ _
    refine ⟨((h 0).1.trans (Cert.Reference8Ideal.Read.val_main_v8_eq _ _ _)).trans ?_, (h 0).2⟩
    obtain ⟨h0, h1, h2⟩ := hagree 0
    funext y
    refine (congrFun (congr (congr (congrArg Cert.Reference8Ideal.Read.val_main_v8 h0) h1) h2) y).trans ?_
    refine (congrArg _ (eq_ix5 y)).trans ?_
    exact NewRowsRef.ref_apply _ _ _ (y 0) (y 1) (y 2) (y 3) (y 4)

end Cert.Proof.NewRows

end
-- ==== Proof.DenseBody.lean ====
/- Hand-written: THE COMPRESSION OF THE PROMPTS' ROWS, the kernel's body. The body takes one prompt's 2048 rows of one group. For the
   place c in a block (c = 0 … 31) it keeps the rows r with r % 32 = c, puts zero in the others, multiplies by the weight matrix of
   c and adds to the accumulator: `chain n` is the accumulator after n places, so that after 32 row r is multiplied by the matrix
   of its own place (`chain_apply`). It then sums each block's 32 rows by a product with a matrix of zeros and ones (`pick_apply`),
   in three parts: the accumulator, and two remainders that are differences y - y, hence 0 where the accumulator is finite
   (`out_apply`). The first 32 results are the even blocks, the others the odd ones (`block`). -/
module

public import proofs.«01_k».proof.Proof.Gen.Kernel9Ideal.Frame
public import Idealize.ShloMosaic.Lib.ValueIdx
public import Idealize.ShloMosaic.Lib.MatmulPlain
public import Idealize.ShloMosaic.Lib.Pipeline.Value

@[expose] public section

noncomputable section

namespace Cert.Proof.Dense

open Cert.Kernel9Ideal Cert.Kernel9Ideal.Gen
open Idealize.ShloMosaic Idealize.ShloMosaic.TcCoe Idealize.ShloMosaic.ValueIdx Idealize.ShloMosaic.Tactic
open scoped BigOperators

/-! ## The body as a chain -/

section Chain

variable {F : FTy → Type} [FloatOps F]

theorem inb_wt (n : ℕ) : ∀ a, (![0, n % 32, 0, 0] : Fin 4 → Nat) a + S1x1x128x128.size a ≤ S1x32x128x128.size a := by
  intro a
  have hn : n % 32 < 32 := Nat.mod_lt _ (by decide)
  match a with
  | ⟨0, _⟩ => simp
  | ⟨1, _⟩ => show n % 32 + 1 ≤ 32; omega
  | ⟨2, _⟩ => simp
  | ⟨3, _⟩ => simp

/-- Place n of the weights. -/
abbrev wtRect (n : ℕ) : Rect S1x32x128x128 := Rect.unit (s := S1x32x128x128) ![0, n % 32, 0, 0] S1x1x128x128.size (inb_wt n)

/-- The accumulator after n places, from the rows with their positions and the weights. -/
def chain (xb : FVec F S2048x128 .bf16) (x1 : Vec F S1x32x128x128 .f32) : ℕ → FVec F S2048x128 .f32
  | 0 => broadcast S2048x128 (Scalar.ofBits .f32 0x00000000#32)
  | n + 1 => addf (chain xb x1 n) (matmul dot_S2048x128_S128x128_S2048x128_1_0_0_1_n_n none
      (select (broadcastTo S2048x128 (shapeCast S2048x1 (cmpi .eq k0_pay2 (broadcast S2048x1 (BitVec.ofNat 32 n))) shapeCasts_S2048x1_S2048x1)
        broadcasts_S2048x1_S2048x128) xb (broadcast S2048x128 (Scalar.ofBits .bf16 0x0000#16)))
      (truncf .bf16 (shapeCast S128x128 (View.ld x1 (wtRect n)) shapeCasts_S1x1x128x128_S128x128) bitsLt_bf16_f32)
      (constant S2048x128 .f32 0x00000000#32))

theorem pay36_eq (x0 : Vec F S2048x128 .f32) (x1 : Vec F S1x32x128x128 .f32) (x2 : Vec F S1x32x128 .f32) :
    k0_pay36 x0 x1 x2 = chain (k0_pay3 (View.ld x0 r0_0) (View.ld x2 r0_1)) x1 32 := rfl

end Chain

/-! ## The chain over the extended reals -/

theorem place_bits : ∀ r : Fin 2048, IntOp.andi (BitVec.ofNat 32 r.val) 31#32 = BitVec.ofNat 32 (r.val % 32) := by
  decide +kernel

theorem eq_bits (a b : ℕ) (ha : a < 2048) (hb : b < 2048) :
    IntOp.cmpi .eq (BitVec.ofNat 32 a) (BitVec.ofNat 32 b) = if a = b then 1#1 else 0#1 := by
  have h : (BitVec.ofNat 32 a == BitVec.ofNat 32 b) = decide (a = b) := by
    rw [Bool.eq_iff_iff, beq_iff_eq, decide_eq_true_eq, ← BitVec.toNat_inj, BitVec.toNat_ofNat,
      BitVec.toNat_ofNat]
    omega
  show BitVec.ofBool (BitVec.ofNat 32 a == BitVec.ofNat 32 b) = _
  rw [h]
  by_cases hab : a = b <;> simp [hab]

/-- The rows kept for place c. -/
theorem kept_apply (xb : FVec Ideal S2048x128 .bf16) (c : ℕ) (hc : c < 32) (r : Fin 2048) (k : Fin 128) :
    select (broadcastTo S2048x128 (shapeCast S2048x1 (cmpi .eq k0_pay2 (broadcast S2048x1 (BitVec.ofNat 32 c))) shapeCasts_S2048x1_S2048x1)
        broadcasts_S2048x1_S2048x128) xb (broadcast S2048x128 (Scalar.ofBits .bf16 0x0000#16)) (ix2 r k)
      = if r.val % 32 = c then xb (ix2 r k) else 0 := by
  have hb : broadcastTo S2048x128 (shapeCast S2048x1 (cmpi .eq k0_pay2 (broadcast S2048x1 (BitVec.ofNat 32 c))) shapeCasts_S2048x1_S2048x1)
      broadcasts_S2048x1_S2048x128 (ix2 r k) = if r.val % 32 = c then 1#1 else 0#1 := by
    refine (broadcastTo_apply _ broadcasts_S2048x1_S2048x128 _ (ix2 r 0) fun a => ?_).trans ?_
    · match a with
      | ⟨0, _⟩ => rfl
      | ⟨1, _⟩ => rfl
    refine (shapeCast_apply _ shapeCasts_S2048x1_S2048x1 _ (ix2 r 0) rfl).trans ?_
    show IntOp.cmpi .eq (IntOp.andi (BitVec.ofNat 32 (0 * 2048 + r.val)) 31#32) (BitVec.ofNat 32 c) = _
    rw [Nat.zero_mul, Nat.zero_add, place_bits, eq_bits _ _ (by omega) (by omega)]
  show Scalar.select (broadcastTo S2048x128 _ _ _) (xb (ix2 r k)) (Ideal.ofBits .bf16 0x0000#16) = _
  rw [hb]
  by_cases h : r.val % 32 = c
  · rw [if_pos h, if_pos h]; rfl
  · rw [if_neg h, if_neg h]
    show Ideal.ofBits .bf16 0x0000#16 = 0
    simp [Ideal.ofBits, Ideal.ieee]

theorem wt_apply (x1 : Vec Ideal S1x32x128x128 .f32) (c : ℕ) (k e : Fin 128) :
    truncf (F := Ideal) .bf16 (shapeCast S128x128 (View.ld x1 (wtRect c)) shapeCasts_S1x1x128x128_S128x128) bitsLt_bf16_f32 (ix2 k e)
      = x1 (ix4 0 ⟨c % 32, Nat.mod_lt _ (by decide)⟩ k e) := by
  refine Eq.trans (show _ = shapeCast S128x128 (View.ld x1 (wtRect c)) shapeCasts_S1x1x128x128_S128x128 (ix2 k e) from rfl) ?_
  refine (shapeCast_apply _ shapeCasts_S1x1x128x128_S128x128 _ (ix4 0 0 k e) ?_).trans ?_
  · rw [Shape.rowMajor_val_two, Shape.rowMajor_val_four]
    show ((0 * 1 + 0) * 128 + k.val) * 128 + e.val = k.val * 128 + e.val
    omega
  refine congrArg x1 (funext fun a => Fin.ext ?_)
  match a with
  | ⟨0, _⟩ => rfl
  | ⟨1, _⟩ => show c % 32 + 1 * 0 = c % 32; omega
  | ⟨2, _⟩ => show 0 + 1 * k.val = k.val; omega
  | ⟨3, _⟩ => show 0 + 1 * e.val = e.val; omega

/-- After 32 places each row is multiplied by the matrix of its own place. -/
theorem chain_apply (xb : FVec Ideal S2048x128 .bf16) (x1 : Vec Ideal S1x32x128x128 .f32) (r : Fin 2048) (e : Fin 128) :
    chain xb x1 32 (ix2 r e) = ∑ k : Fin 128, xb (ix2 r k) * x1 (ix4 0 ⟨r.val % 32, Nat.mod_lt _ (by decide)⟩ k e) := by
  have h : ∀ N, N ≤ 32 → chain xb x1 N (ix2 r e) = ∑ c ∈ Finset.range N, ∑ k : Fin 128,
      (if r.val % 32 = c then xb (ix2 r k) else 0) * x1 (ix4 0 ⟨c % 32, Nat.mod_lt _ (by decide)⟩ k e) := by
    intro N
    induction N with
    | zero => intro _; exact Ideal.ofBits_zero_f32
    | succ N ih =>
      intro hN
      rw [Finset.sum_range_succ, ← ih (by omega)]
      refine (addf_apply _ _ _).trans (congrArg (chain xb x1 N (ix2 r e) + ·) ?_)
      refine (Ideal.matmul_plain_apply (M := 2048) (K := 128) (N := 128) none _ _ _ _ e).trans ?_
      rw [show (constant (F := Ideal) S2048x128 .f32 0x00000000#32) (ix2 r e) = 0 from Ideal.ofBits_zero_f32, zero_add]
      exact Finset.sum_congr rfl fun k _ => congrArg₂ (· * ·) (kept_apply xb N (by omega) r k) (wt_apply x1 N k e)
  rw [h 32 le_rfl, Finset.sum_eq_single (r.val % 32)]
  · refine Finset.sum_congr rfl fun k _ => ?_
    rw [if_pos rfl]
    simp only [Nat.mod_mod]
  · intro c _ hc
    refine Finset.sum_eq_zero fun k _ => ?_
    rw [if_neg (Ne.symm hc), zero_mul]
  · intro hn
    exact absurd (Finset.mem_range.2 (Nat.mod_lt _ (by decide))) hn

/-- The rows with their positions. -/
theorem rows_apply (x0 : Vec Ideal S2048x128 .f32) (x2 : Vec Ideal S1x32x128 .f32) (r : Fin 2048) (k : Fin 128) :
    k0_pay3 (F := Ideal) (View.ld x0 r0_0) (View.ld x2 r0_1) (ix2 r k)
      = x0 (ix2 r k) + x2 (ix3 0 ⟨r.val % 32, Nat.mod_lt _ (by decide)⟩ k) := by
  unfold k0_pay3
  refine congrArg₂ (· + ·) (congrArg x0 (funext fun a => Fin.ext ?_)) ?_
  · match a with
    | ⟨0, _⟩ => show 0 + 1 * r.val = r.val; omega
    | ⟨1, _⟩ => show 0 + 1 * k.val = k.val; omega
  refine (concatenate_replicate_apply (t := S2048x128) (s₁ := S32x128) 0 64 (shapeCast S32x128 (View.ld x2 r0_1) shapeCasts_S1x32x128_S32x128)
    _ rfl (ix2 r k) (ix2 ⟨r.val % 32, Nat.mod_lt _ (by decide)⟩ k) rfl (fun b hb => ?_)).trans ?_
  · match b with
    | ⟨0, _⟩ => exact absurd rfl hb
    | ⟨1, _⟩ => rfl
  refine (shapeCast_apply _ shapeCasts_S1x32x128_S32x128 _ (ix3 0 ⟨r.val % 32, Nat.mod_lt _ (by decide)⟩ k) ?_).trans ?_
  · rw [Shape.rowMajor_val_two, Shape.rowMajor_val_three]
    show (0 * 32 + r.val % 32) * 128 + k.val = r.val % 32 * 128 + k.val
    omega
  refine congrArg x2 (funext fun a => Fin.ext ?_)
  match a with
  | ⟨0, _⟩ => rfl
  | ⟨1, _⟩ => show 0 + 1 * (r.val % 32) = r.val % 32; omega
  | ⟨2, _⟩ => show 0 + 1 * k.val = k.val; omega

/-! ## The blocks' sums -/

/-- The block whose sum is result n: the even blocks, then the odd ones. -/
def block (n : Fin 64) : Fin 64 := if h : n.val < 32 then ⟨2 * n.val, by omega⟩ else ⟨2 * (n.val - 32) + 1, by omega⟩

/-- Division by 32 rounded down, as the body computes it. -/
def quot (v : BitVec 32) : BitVec 32 :=
  Scalar.select (IntOp.andi
      (IntOp.cmpi .ne (IntOp.subi ((IntOp.cmpi .sgt v 0#32).setWidth 32) ((IntOp.cmpi .slt v 0#32).setWidth 32))
        (Scalar.subi (Scalar.extui (Scalar.cmpi .sgt 32#32 0#32)) (Scalar.extui (Scalar.cmpi .slt 32#32 0#32))))
      (IntOp.cmpi .ne (IntOp.remsi .vector v 32#32) 0#32))
    (IntOp.subi (IntOp.divsi .vector v 32#32) 1#32) (IntOp.divsi .vector v 32#32)

/-- The block wanted, as the body computes it. -/
def want (v : BitVec 32) : BitVec 32 :=
  Scalar.select (IntOp.cmpi .slt v 32#32) (IntOp.muli 2#32 v) (IntOp.addi (IntOp.muli 2#32 (IntOp.subi v 32#32)) 1#32)

theorem quot_bits : ∀ r : Fin 2048, quot (BitVec.ofNat 32 r.val) = BitVec.ofNat 32 (r.val / 32) := by decide +kernel

theorem want_bits : ∀ n : Fin 64, want (BitVec.ofNat 32 n.val) = BitVec.ofNat 32 (block n).val := by decide +kernel

/-- The matrix of zeros and ones. -/
theorem pick_apply (x0 : Vec Ideal S2048x128 .f32) (x1 : Vec Ideal S1x32x128x128 .f32) (x2 : Vec Ideal S1x32x128 .f32) (n : Fin 64) (r : Fin 2048) :
    k0_pay27 (F := Ideal) (k0_pay34 x0 x1 x2) (k0_pay35 x0 x1 x2) (k0_pay37 x0 x1 x2) (ix2 n r) = if r.val / 32 = (block n).val then (1 : EReal) else 0 := by
  have e : k0_pay27 (F := Ideal) (k0_pay34 x0 x1 x2) (k0_pay35 x0 x1 x2) (k0_pay37 x0 x1 x2) (ix2 n r)
      = ((((IntOp.cmpi .eq (quot (BitVec.ofNat 32 (0 * 2048 + r.val))) (want (BitVec.ofNat 32 (0 * 64 + n.val)))).setWidth 32).toInt : ℝ) : EReal) := rfl
  have hb := (block n).isLt
  rw [e]
  simp only [Nat.zero_mul, Nat.zero_add]
  rw [quot_bits, want_bits, eq_bits _ _ (by omega) (by omega)]
  by_cases h : r.val / 32 = (block n).val
  · rw [if_pos h, if_pos h]; simp
  · rw [if_neg h, if_neg h]; simp

/-- The sum over the rows a result picks is the sum over its block. -/
theorem sum_block (n : Fin 64) (y : Fin 2048 → EReal) :
    ∑ r : Fin 2048, (if r.val / 32 = (block n).val then (1 : EReal) else 0) * y r
      = ∑ c : Fin 32, y ⟨32 * (block n).val + c.val, by omega⟩ := by
  rw [← Equiv.sum_comp (finProdFinEquiv (m := 64) (n := 32)), Fintype.sum_prod_type, Finset.sum_eq_single (block n)]
  · refine Finset.sum_congr rfl fun c _ => ?_
    have hv : (finProdFinEquiv (block n, c)).val = c.val + 32 * (block n).val := rfl
    rw [if_pos (by rw [hv]; omega), one_mul]
    exact congrArg y (Fin.ext (by rw [hv]; exact Nat.add_comm _ _))
  · intro b _ hb
    refine Finset.sum_eq_zero fun c _ => ?_
    have hv : (finProdFinEquiv (b, c)).val = c.val + 32 * b.val := rfl
    have hne : b.val ≠ (block n).val := fun h => hb (Fin.ext h)
    rw [if_neg (by rw [hv]; omega), zero_mul]
  · exact fun h => absurd (Finset.mem_univ _) h

/-! ## Finite values -/

/-- Neither infinity. -/
def Finite (x : EReal) : Prop := ∃ z : ℝ, (z : EReal) = x

theorem Finite.add {x y : EReal} (hx : Finite x) (hy : Finite y) : Finite (x + y) := by
  obtain ⟨a, rfl⟩ := hx; obtain ⟨b, rfl⟩ := hy; exact ⟨a + b, EReal.coe_add a b⟩

theorem Finite.mul {x y : EReal} (hx : Finite x) (hy : Finite y) : Finite (x * y) := by
  obtain ⟨a, rfl⟩ := hx; obtain ⟨b, rfl⟩ := hy; exact ⟨a * b, EReal.coe_mul a b⟩

theorem Finite.sum {ι : Type} (s : Finset ι) (f : ι → EReal) (h : ∀ i, Finite (f i)) : Finite (∑ i ∈ s, f i) := by
  classical
  induction s using Finset.induction_on with
  | empty => exact ⟨0, by simp⟩
  | insert a s ha ih => rw [Finset.sum_insert ha]; exact (h a).add ih

theorem Finite.sub_self {x : EReal} (hx : Finite x) : x - x = 0 := by
  obtain ⟨a, rfl⟩ := hx
  rw [← EReal.coe_sub, _root_.sub_self, EReal.coe_zero]

/-! ## What the body leaves -/

/-- The product with a matrix of zeros is zero. -/
theorem product_zero (p : FVec Ideal S64x2048 .bf16) (y : FVec Ideal S2048x128 .bf16) (hy : ∀ i, y i = (0 : EReal)) (n : Fin 64) (e : Fin 128) :
    matmul dot_S64x2048_S2048x128_S64x128_1_0_0_1_n_n none p y (constant S64x128 .f32 0x00000000#32) (ix2 n e) = (0 : EReal) := by
  refine (Ideal.matmul_plain_apply (M := 64) (K := 2048) (N := 128) none _ _ _ _ e).trans ?_
  rw [show (constant (F := Ideal) S64x128 .f32 0x00000000#32) (ix2 n e) = 0 from Ideal.ofBits_zero_f32, zero_add]
  exact Finset.sum_eq_zero fun r _ => by rw [hy]; exact mul_zero _

/-- What the body leaves in the result's buffer, from finite blocks. -/
theorem out_apply (x0 : Vec Ideal S2048x128 .f32) (x1 : Vec Ideal S1x32x128x128 .f32) (x2 : Vec Ideal S1x32x128 .f32)
    (h0 : ∀ i, Finite (x0 i)) (h1 : ∀ i, Finite (x1 i)) (h2 : ∀ i, Finite (x2 i)) (n : Fin 64) (e : Fin 128) :
    out0_3 (F := Ideal) x0 x1 x2 (ix5 0 0 0 n e)
      = ∑ c : Fin 32, ∑ k : Fin 128, (x0 (ix2 ⟨32 * (block n).val + c.val, by omega⟩ k) + x2 (ix3 0 c k)) * x1 (ix4 0 c k e) := by
  have hy : ∀ (r : Fin 2048) (e : Fin 128), k0_pay36 (F := Ideal) x0 x1 x2 (ix2 r e)
      = ∑ k : Fin 128, (x0 (ix2 r k) + x2 (ix3 0 ⟨r.val % 32, Nat.mod_lt _ (by decide)⟩ k)) * x1 (ix4 0 ⟨r.val % 32, Nat.mod_lt _ (by decide)⟩ k e) := by
    intro r e
    rw [pay36_eq, chain_apply]
    exact Finset.sum_congr rfl fun k _ => congrArg (· * _) (rows_apply x0 x2 r k)
  have hf : ∀ i, k0_pay36 (F := Ideal) x0 x1 x2 i - k0_pay36 (F := Ideal) x0 x1 x2 i = (0 : EReal) := by
    intro i
    refine Finite.sub_self ((congrArg Finite ((congrArg (k0_pay36 (F := Ideal) x0 x1 x2) (eq_ix2 i)).trans (hy (i 0) (i 1)))).mpr ?_)
    exact Finite.sum _ _ fun k => ((h0 _).add (h2 _)).mul (h1 _)
  unfold out0_3
  rw [View.canon_unit_zero (S := S1x1x1x64x128) (by funext a; fin_cases a <;> rfl)]
  generalize k0_pay36 (F := Ideal) x0 x1 x2 = y at hy hf
  unfold k0_pay1
  refine (shapeCast_apply _ shapeCasts_S64x128_S1x1x1x64x128 _ (ix2 n e) ?_).trans ?_
  · rw [Shape.rowMajor_val_two, Shape.rowMajor_val_five]
    show n.val * 128 + e.val = (((0 * 1 + 0) * 1 + 0) * 64 + n.val) * 128 + e.val
    omega
  refine (addf_apply _ _ _).trans ?_
  refine (congrArg₂ (· + ·) rfl ((addf_apply _ _ _).trans (congrArg₂ (· + ·) (product_zero _ (k0_pay29 y) hf n e)
    (product_zero _ (k0_pay30 y) (fun i => ?_) n e)))).trans ?_
  · show (y i - y i) - (y i - y i) = (0 : EReal)
    rw [hf]; exact sub_zero _
  refine (congrArg (_ + ·) (add_zero (0 : EReal))).trans ((add_zero _).trans ?_)
  unfold k0_pay31
  refine (Ideal.matmul_plain_apply (M := 64) (K := 2048) (N := 128) none _ _ _ _ e).trans ?_
  rw [show (constant (F := Ideal) S64x128 .f32 0x00000000#32) (ix2 n e) = 0 from Ideal.ofBits_zero_f32, zero_add]
  refine (Finset.sum_congr rfl fun r _ => congrArg₂ (· * ·) (pick_apply x0 x1 x2 n r) rfl).trans ?_
  refine (sum_block n fun r => y (ix2 r e)).trans ?_
  refine Finset.sum_congr rfl fun c _ => ?_
  rw [hy]
  have hc : (⟨(32 * (block n).val + c.val) % 32, Nat.mod_lt _ (by decide)⟩ : Fin 32) = c := Fin.ext (by show (32 * (block n).val + c.val) % 32 = c.val; omega)
  simp only [hc]

end Cert.Proof.Dense

end
-- ==== Proof.Dense.lean ====
/- Hand-written: THE COMPRESSION OF THE PROMPTS' ROWS, the array the region leaves: entry (b, j, h, n, e) is
   Σ_c Σ_k (row 2048 b + 32 q + c, column 8704 + 128 (4 j + h) + k, + position (j, c, k)) · weight (j, c, k, e), q the block of result n,
   where the rows' columns 8704 … 9727, positions and weights are finite (`array`). -/
module

public import proofs.«01_k».proof.Proof.DenseBody
public import proofs.«01_k».proof.Proof.Gen.Kernel9Ideal.Value
public import Idealize.ShloMosaic.Lib.Pipeline.ValueKit.Tiles
public import Idealize.ShloMosaic.Lib.Pipeline.ValueKit.Geometry

@[expose] public section

noncomputable section

namespace Cert.Proof.Dense

open Cert.Kernel9Ideal Cert.Kernel9Ideal.Gen
open Idealize.ShloMosaic Idealize.ShloMosaic.TcCoe Idealize.ShloMosaic.ValueIdx Idealize.ShloMosaic.Tactic
open scoped BigOperators

/-! ## The blocks -/

variable (m : (ℓ : Loc nD τ sig) → Buf (Elt Idealize.ShloMosaic.Ideal) ℓ)

/-- The rows, the positions and the weights. -/
abbrev aRows : FVec Idealize.ShloMosaic.Ideal S8192x12288 .f32 := m (((0 : Dev nD) : Thread nD τ).loc main_arg0)
abbrev aPos : FVec Idealize.ShloMosaic.Ideal S1x2x32x128 .f32 := m (((0 : Dev nD) : Thread nD τ).loc main_arg1)
abbrev aWt : FVec Idealize.ShloMosaic.Ideal S1x2x32x128x128 .f32 := m (((0 : Dev nD) : Thread nD τ).loc main_arg2)

theorem V_pos (j : Fin 2) (c : Fin 32) (k : Fin 128) :
    (V m (0 : Dev nD) main_v0 : FVec Idealize.ShloMosaic.Ideal S2x32x128 .f32) (ix3 j c k) = aPos m (ix4 0 j c k) := by
  have e : V m (0 : Dev nD) main_v0 = shapeCast S2x32x128 (aPos m) shapeCasts_S1x2x32x128_S2x32x128 := by
    unfold_abbrev_sides
    after_results
    rfl
  rw [e]
  refine shapeCast_apply _ shapeCasts_S1x2x32x128_S2x32x128 _ _ ?_
  rw [Shape.rowMajor_val_four, Shape.rowMajor_val_three]
  show ((0 * 2 + j.val) * 32 + c.val) * 128 + k.val = (j.val * 32 + c.val) * 128 + k.val
  omega

theorem V_wt (j : Fin 2) (c : Fin 32) (k e : Fin 128) :
    (V m (0 : Dev nD) main_v1 : FVec Idealize.ShloMosaic.Ideal S2x32x128x128 .f32) (ix4 j c k e) = aWt m (ix5 0 j c k e) := by
  have h : V m (0 : Dev nD) main_v1 = shapeCast S2x32x128x128 (aWt m) shapeCasts_S1x2x32x128x128_S2x32x128x128 := by
    unfold_abbrev_sides
    after_results
    rfl
  rw [h]
  refine shapeCast_apply _ shapeCasts_S1x2x32x128x128_S2x32x128x128 _ _ ?_
  rw [Shape.rowMajor_val_five, Shape.rowMajor_val_four]
  show (((0 * 2 + j.val) * 32 + c.val) * 128 + k.val) * 128 + e.val = ((j.val * 32 + c.val) * 128 + k.val) * 128 + e.val
  omega

theorem coord_val (n : ℕ) (h : n < 32) : (BitVec.ofNat 32 n).toNat = n := by rw [BitVec.toNat_ofNat]; omega

theorem transform_0 (i : grid0.Coords) : cc0_transform_0 i = ![(i 0).val, 68 + ((i 1).val * 4 + (i 2).val)] := by
  have h0 : (i 0).val < 4 := (i 0).isLt
  have h1 : (i 1).val < 2 := (i 1).isLt
  have h2 : (i 2).val < 4 := (i 2).isLt
  unfold cc0_transform_0
  have e : (68#32 + BitVec.ofNat 32 (i 1).val * 4#32 + BitVec.ofNat 32 (i 2).val).toNat = 68 + ((i 1).val * 4 + (i 2).val) := by
    simp only [BitVec.toNat_add, BitVec.toNat_mul, BitVec.toNat_ofNat]
    omega
  show ![(BitVec.ofNat 32 (i 0).val).toNat, (68#32 + BitVec.ofNat 32 (i 1).val * 4#32 + BitVec.ofNat 32 (i 2).val).toNat] = _
  rw [e, coord_val _ (by omega)]

theorem transform_1 (i : grid0.Coords) : cc0_transform_1 i = ![(i 1).val, 0, 0, 0] := by
  have h1 : (i 1).val < 2 := (i 1).isLt
  unfold cc0_transform_1
  show ![(BitVec.ofNat 32 (i 1).val).toNat, 0, 0, 0] = _
  rw [coord_val _ (by omega)]

theorem transform_2 (i : grid0.Coords) : cc0_transform_2 i = ![(i 1).val, 0, 0] := by
  have h1 : (i 1).val < 2 := (i 1).isLt
  unfold cc0_transform_2
  show ![(BitVec.ofNat 32 (i 1).val).toNat, 0, 0] = _
  rw [coord_val _ (by omega)]

theorem transform_3 (i : grid0.Coords) : cc0_transform_3 i = ![(i 0).val, (i 1).val, (i 2).val, 0, 0] := by
  have h0 : (i 0).val < 4 := (i 0).isLt
  have h1 : (i 1).val < 2 := (i 1).isLt
  have h2 : (i 2).val < 4 := (i 2).isLt
  unfold cc0_transform_3
  show ![(BitVec.ofNat 32 (i 0).val).toNat, (BitVec.ofNat 32 (i 1).val).toNat, (BitVec.ofNat 32 (i 2).val).toNat, 0, 0] = _
  rw [coord_val _ (by omega), coord_val _ (by omega), coord_val _ (by omega)]

/-- The entry of the compressed blocks. -/
def entry (b : Fin 4) (j : Fin 2) (h : Fin 4) (n : Fin 64) (e : Fin 128) : EReal :=
  ∑ c : Fin 32, ∑ k : Fin 128,
    (aRows m (ix2 ⟨b.val * 2048 + (32 * (block n).val + c.val), by omega⟩ ⟨8704 + ((j.val * 4 + h.val) * 128 + k.val), by omega⟩) + aPos m (ix4 0 j c k))
      * aWt m (ix5 0 j c k e)

/-- The rows' columns that are compressed, the positions and the weights are finite. -/
def FiniteArgs : Prop :=
  (∀ (a : Fin 8192) (c : Fin 1024), Finite (aRows m (ix2 a ⟨8704 + c.val, by omega⟩))) ∧ (∀ i, Finite (aPos m i)) ∧ ∀ i, Finite (aWt m i)

section Blocks

variable (t : Fin cfg0.N) (b : Fin 4) (j : Fin 2) (h : Fin 4)
  (hb : (grid0.coords t 0).val = b.val) (hj : (grid0.coords t 1).val = j.val) (hh : (grid0.coords t 2).val = h.val)

include hb hj hh in
theorem row_block (a : Fin 2048) (k : Fin 128) :
    (iblk m 0 0 t : FVec Idealize.ShloMosaic.Ideal S2048x128 .f32) (ix2 a k)
      = aRows m (ix2 ⟨b.val * 2048 + a.val, by omega⟩ ⟨8704 + ((j.val * 4 + h.val) * 128 + k.val), by omega⟩) := by
  have ht := transform_0 (grid0.coords t)
  show V m (0 : Dev nD) main_arg0 (((cfg0.win 0).blk t).view.emb (ix2 a k)) = _
  rw [V_main_arg0]
  refine congrArg (aRows m) (funext fun (x : Fin 2) => Fin.ext ?_)
  match x with
  | ⟨0, _⟩ => show cc0_transform_0 (grid0.coords t) (0 : Fin 2) * 2048 + 1 * a.val = b.val * 2048 + a.val; rw [ht]; show (grid0.coords t 0).val * 2048 + 1 * a.val = _; omega
  | ⟨1, _⟩ => show cc0_transform_0 (grid0.coords t) (1 : Fin 2) * 128 + 1 * k.val = 8704 + ((j.val * 4 + h.val) * 128 + k.val); rw [ht]; show (68 + ((grid0.coords t 1).val * 4 + (grid0.coords t 2).val)) * 128 + 1 * k.val = _; rw [hj, hh]; omega

include hj in
theorem wt_block (c : Fin 32) (k e : Fin 128) :
    (iblk m 0 1 t : FVec Idealize.ShloMosaic.Ideal S1x32x128x128 .f32) (ix4 0 c k e) = aWt m (ix5 0 j c k e) := by
  have ht := transform_1 (grid0.coords t)
  refine Eq.trans ?_ (V_wt m j c k e)
  show V m (0 : Dev nD) main_v1 (((cfg0.win 1).blk t).view.emb (ix4 0 c k e)) = _
  refine congrArg (V m (0 : Dev nD) main_v1) (funext fun (x : Fin 4) => Fin.ext ?_)
  match x with
  | ⟨0, _⟩ => show cc0_transform_1 (grid0.coords t) (0 : Fin 4) * 1 + 1 * 0 = j.val; rw [ht]; show (grid0.coords t 1).val * 1 + 1 * 0 = _; omega
  | ⟨1, _⟩ => show cc0_transform_1 (grid0.coords t) (1 : Fin 4) * 32 + 1 * c.val = c.val; rw [ht]; show 0 * 32 + 1 * c.val = _; omega
  | ⟨2, _⟩ => show cc0_transform_1 (grid0.coords t) (2 : Fin 4) * 128 + 1 * k.val = k.val; rw [ht]; show 0 * 128 + 1 * k.val = _; omega
  | ⟨3, _⟩ => show cc0_transform_1 (grid0.coords t) (3 : Fin 4) * 128 + 1 * e.val = e.val; rw [ht]; show 0 * 128 + 1 * e.val = _; omega

include hj in
theorem pos_block (c : Fin 32) (k : Fin 128) :
    (iblk m 0 2 t : FVec Idealize.ShloMosaic.Ideal S1x32x128 .f32) (ix3 0 c k) = aPos m (ix4 0 j c k) := by
  have ht := transform_2 (grid0.coords t)
  refine Eq.trans ?_ (V_pos m j c k)
  show V m (0 : Dev nD) main_v0 (((cfg0.win 2).blk t).view.emb (ix3 0 c k)) = _
  refine congrArg (V m (0 : Dev nD) main_v0) (funext fun (x : Fin 3) => Fin.ext ?_)
  match x with
  | ⟨0, _⟩ => show cc0_transform_2 (grid0.coords t) (0 : Fin 3) * 1 + 1 * 0 = j.val; rw [ht]; show (grid0.coords t 1).val * 1 + 1 * 0 = _; omega
  | ⟨1, _⟩ => show cc0_transform_2 (grid0.coords t) (1 : Fin 3) * 32 + 1 * c.val = c.val; rw [ht]; show 0 * 32 + 1 * c.val = _; omega
  | ⟨2, _⟩ => show cc0_transform_2 (grid0.coords t) (2 : Fin 3) * 128 + 1 * k.val = k.val; rw [ht]; show 0 * 128 + 1 * k.val = _; omega

variable (hA : FiniteArgs m)

include hb hj hh hA in
/-- What the body leaves at a point. -/
theorem outs_apply (n : Fin 64) (e : Fin 128) :
    out0_3 (F := Idealize.ShloMosaic.Ideal) (iblk m 0 0 t) (iblk m 0 1 t) (iblk m 0 2 t) (ix5 0 0 0 n e) = entry m b j h n e := by
  have u (i : Fin 1) : i = 0 := Subsingleton.elim _ _
  refine (out_apply (iblk m 0 0 t) (iblk m 0 1 t) (iblk m 0 2 t) (fun i => ?_) (fun i => ?_) (fun i => ?_) n e).trans ?_
  · exact (congrArg Finite ((congrArg (iblk m 0 0 t : FVec Idealize.ShloMosaic.Ideal S2048x128 .f32) (eq_ix2 i)).trans
      (row_block m t b j h hb hj hh (i 0) (i 1)))).mpr (hA.1 _ ⟨(j.val * 4 + h.val) * 128 + (i 1).val, by have hi : (i 1).val < 128 := (i 1).isLt; omega⟩)
  · exact (congrArg Finite ((congrArg (iblk m 0 1 t : FVec Idealize.ShloMosaic.Ideal S1x32x128x128 .f32)
      ((eq_ix4 i).trans (congrArg (fun a => ix4 a _ _ _) (u (i 0))))).trans (wt_block m t j hj (i 1) (i 2) (i 3)))).mpr (hA.2.2 _)
  · exact (congrArg Finite ((congrArg (iblk m 0 2 t : FVec Idealize.ShloMosaic.Ideal S1x32x128 .f32)
      ((eq_ix3 i).trans (congrArg (fun a => ix3 a _ _) (u (i 0))))).trans (pos_block m t j hj (i 1) (i 2)))).mpr (hA.2.1 _)
  unfold entry
  exact Finset.sum_congr rfl fun c _ => Finset.sum_congr rfl fun k _ => congrArg₂ (· * ·)
    (congrArg₂ (· + ·) (row_block m t b j h hb hj hh _ k) (pos_block m t j hj c k)) (wt_block m t j hj c k e)

end Blocks

/-! ## The array -/

/-- Every (b, j, h) is a point of the grid. -/
theorem point_of : ∀ (b : Fin 4) (j : Fin 2) (h : Fin 4), ∃ t : Fin grid0.N,
    (grid0.coords t 0).val = b.val ∧ (grid0.coords t 1).val = j.val ∧ (grid0.coords t 2).val = h.val := by
  decide +kernel

/-- Where the output's block places an index. -/
theorem out_emb (t : Fin cfg0.N) (y : S1x1x1x64x128.Idx) :
    (((cfg0.win 3).blk t).view.emb y : S4x2x4x64x128.Idx) = ix5 (grid0.coords t 0) (grid0.coords t 1) (grid0.coords t 2) (y 3) (y 4) := by
  have ht := transform_3 (grid0.coords t)
  have hy0 : (y 0).val < 1 := (y 0).isLt
  have hy1 : (y 1).val < 1 := (y 1).isLt
  have hy2 : (y 2).val < 1 := (y 2).isLt
  refine funext fun (a : Fin 5) => Fin.ext ?_
  match a with
  | ⟨0, _⟩ => show cc0_transform_3 (grid0.coords t) (0 : Fin 5) * 1 + 1 * (y 0).val = (grid0.coords t 0).val; rw [ht]; show (grid0.coords t 0).val * 1 + 1 * (y 0).val = _; omega
  | ⟨1, _⟩ => show cc0_transform_3 (grid0.coords t) (1 : Fin 5) * 1 + 1 * (y 1).val = (grid0.coords t 1).val; rw [ht]; show (grid0.coords t 1).val * 1 + 1 * (y 1).val = _; omega
  | ⟨2, _⟩ => show cc0_transform_3 (grid0.coords t) (2 : Fin 5) * 1 + 1 * (y 2).val = (grid0.coords t 2).val; rw [ht]; show (grid0.coords t 2).val * 1 + 1 * (y 2).val = _; omega
  | ⟨3, _⟩ => show cc0_transform_3 (grid0.coords t) (3 : Fin 5) * 64 + 1 * (y 3).val = (y 3).val; rw [ht]; show 0 * 64 + 1 * (y 3).val = _; omega
  | ⟨4, _⟩ => show cc0_transform_3 (grid0.coords t) (4 : Fin 5) * 128 + 1 * (y 4).val = (y 4).val; rw [ht]; show 0 * 128 + 1 * (y 4).val = _; omega

/-- The array the region leaves. -/
theorem array (hA : FiniteArgs m) :
    (dats m 0 (0 : Dev nD)).arrAt 3 cfg0.N
      = ((fun y : S4x2x4x64x128.Idx => entry m (y 0) (y 1) (y 2) (y 3) (y 4)) : FVec Idealize.ShloMosaic.Ideal S4x2x4x64x128 .f32) := by
  refine (dats m 0 (0 : Dev nD)).arrAt_eq_of_emb 3 _ (fun t _ y => ?_) fun i => ?_
  · refine (show _ = (dats m 0 (0 : Dev nD)).after 3 t y from rfl).trans ?_
    rw [after0_3]
    have hy : (y : S1x1x1x64x128.Idx) = ix5 0 0 0 (y (3 : Fin 5)) (y (4 : Fin 5)) := by
      refine funext fun (a : Fin 5) => ?_
      match a with
      | ⟨0, _⟩ => exact Subsingleton.elim (α := Fin 1) _ _
      | ⟨1, _⟩ => exact Subsingleton.elim (α := Fin 1) _ _
      | ⟨2, _⟩ => exact Subsingleton.elim (α := Fin 1) _ _
      | ⟨3, _⟩ => rfl
      | ⟨4, _⟩ => rfl
    refine (congrArg (out0_3 (F := Idealize.ShloMosaic.Ideal) (iblk m 0 0 t) (iblk m 0 1 t) (iblk m 0 2 t)) hy).trans ?_
    refine (outs_apply m t (grid0.coords t 0) (grid0.coords t 1) (grid0.coords t 2) rfl rfl rfl hA (y (3 : Fin 5)) (y (4 : Fin 5))).trans ?_
    refine Eq.trans ?_ (congrArg (fun y : S4x2x4x64x128.Idx => entry m (y 0) (y 1) (y 2) (y 3) (y 4)) (out_emb t y)).symm
    rfl
  · obtain ⟨t, h0, h1, h2⟩ := point_of (i (0 : Fin 5)) (i (1 : Fin 5)) (i (2 : Fin 5))
    refine ⟨t, flush0_3 t, ?_⟩
    have e : (((cfg0.win 3).blk t).view.emb (ix5 0 0 0 (i (3 : Fin 5)) (i (4 : Fin 5)) : S1x1x1x64x128.Idx) : S4x2x4x64x128.Idx) = i := by
      rw [out_emb]
      refine funext fun (a : Fin 5) => Fin.ext ?_
      match a with
      | ⟨0, _⟩ => exact h0
      | ⟨1, _⟩ => exact h1
      | ⟨2, _⟩ => exact h2
      | ⟨3, _⟩ => rfl
      | ⟨4, _⟩ => rfl
    rw [← e]
    exact View.emb_mem_set _ _

end Cert.Proof.Dense

end
-- ==== Proof.DenseRef.lean ====
/- Hand-written: THE REFERENCE OF THE COMPRESSION OF THE PROMPTS' ROWS AT AN ENTRY, over the extended reals: the contraction over
   a block's 32 places and 128 features as a double sum (`product_apply`), and the result, the even blocks before the odd ones
   (`ref_apply`). -/
module

public import proofs.«01_k».proof.Proof.DenseBody
public import proofs.«01_k».proof.Proof.Gen.Reference9Ideal.Read
public import Idealize.ShloMosaic.Lib.ValueIdx
public import Idealize.ShloMosaic.Lib.ValueIdxRank6
public import Idealize.ShloMosaic.Lib.Pipeline.Value
public import Idealize.ShloMosaic.Lib.MatmulPlain

@[expose] public section

noncomputable section

namespace Cert.Proof.DenseRef

open Cert.Reference9Ideal Cert.Reference9Ideal.Gen Cert.Reference9Ideal.Read
open Idealize.ShloMosaic Idealize.ShloMosaic.TcCoe Idealize.ShloMosaic.ValueIdx
open scoped BigOperators

variable (x0 : FVec Idealize.ShloMosaic.Ideal S8192x12288 .f32) (x1 : FVec Idealize.ShloMosaic.Ideal S1x2x32x128 .f32)
  (x2 : FVec Idealize.ShloMosaic.Ideal S1x2x32x128x128 .f32)

/-- The weight's entry. -/
theorem wt_apply (j : Fin 2) (c : Fin 32) (k e : Fin 128) :
    val_main_v1 (F := Idealize.ShloMosaic.Ideal) x2 (ix4 j c k e) = x2 (ix5 0 j c k e) := by
  unfold val_main_v1
  refine shapeCast_apply _ shapeCasts_S1x2x32x128x128_S2x32x128x128 _ _ ?_
  rw [Shape.rowMajor_val_five, Shape.rowMajor_val_four]
  show (((0 * 2 + j.val) * 32 + c.val) * 128 + k.val) * 128 + e.val = ((j.val * 32 + c.val) * 128 + k.val) * 128 + e.val
  omega

/-- The position's entry. -/
theorem pos_apply (b : Fin 4) (n : Fin 64) (c : Fin 32) (j : Fin 2) (h : Fin 4) (k : Fin 128) :
    val_main_v6 (F := Idealize.ShloMosaic.Ideal) x1 (ix6 b n c j h k) = x1 (ix4 0 j c k) := by
  rw [val_main_v6_apply, val_main_v5_apply, val_main_v4_apply]
  unfold val_main_v0
  refine shapeCast_apply _ shapeCasts_S1x2x32x128_S2x32x128 _ _ ?_
  rw [Shape.rowMajor_val_four, Shape.rowMajor_val_three]
  show ((0 * 2 + j.val) * 32 + c.val) * 128 + k.val = (j.val * 32 + c.val) * 128 + k.val
  omega

/-- The row's entry. -/
theorem rows_apply (b : Fin 4) (n : Fin 64) (c : Fin 32) (j : Fin 2) (h : Fin 4) (k : Fin 128) :
    val_main_v3 (F := Idealize.ShloMosaic.Ideal) x0 (ix6 b n c j h k)
      = x0 (ix2 ⟨b.val * 2048 + (32 * n.val + c.val), by omega⟩ ⟨8704 + ((j.val * 4 + h.val) * 128 + k.val), by omega⟩) := by
  unfold val_main_v3
  refine (shapeCast_apply _ shapeCasts_S8192x1024_S4x64x32x2x4x128 _
    (ix2 ⟨b.val * 2048 + (32 * n.val + c.val), by omega⟩ ⟨(j.val * 4 + h.val) * 128 + k.val, by omega⟩) ?_).trans ?_
  · rw [Shape.rowMajor_val_two, Shape.rowMajor_val_six]
    show (b.val * 2048 + (32 * n.val + c.val)) * 1024 + ((j.val * 4 + h.val) * 128 + k.val)
      = ((((b.val * 64 + n.val) * 32 + c.val) * 2 + j.val) * 4 + h.val) * 128 + k.val
    omega
  rw [val_main_v2_apply]
  refine congrArg x0 (funext fun a => Fin.ext ?_)
  match a with
  | ⟨0, _⟩ => rfl
  | ⟨1, _⟩ => rfl

/-- The contraction over places and features. -/
theorem product_apply (L : FVec Idealize.ShloMosaic.Ideal S2x32x128x128 .f32) (R : FVec Idealize.ShloMosaic.Ideal S4x64x32x2x4x128 .f32)
    (j : Fin 2) (e : Fin 128) (b : Fin 4) (n : Fin 64) (h : Fin 4) :
    Host.dotGeneral dot_S2x32x128x128_S4x64x32x2x4x128_S2x128x4x64x4_12_25_3_014_0_3 none L R (ix5 j e b n h)
      = ∑ c : Fin 32, ∑ k : Fin 128, L (ix4 j c k e) * R (ix6 b n c j h k) := by
  let D := dot_S2x32x128x128_S4x64x32x2x4x128_S2x128x4x64x4_12_25_3_014_0_3
  have hr : D.contr.rank = 2 := rfl
  have c0 : D.contr.size ⟨0, by rw [hr]; omega⟩ = 32 := rfl
  have c1 : D.contr.size ⟨1, by rw [hr]; omega⟩ = 128 := rfl
  show FloatOps.dotGeneral D none _ L R (ix5 j e b n h) = _
  rw [Idealize.ShloMosaic.Ideal.dotGeneral_apply, ← Equiv.sum_comp (contrEquiv2 D 32 128 hr c0 c1).symm, Fintype.sum_prod_type]
  refine Finset.sum_congr rfl fun c _ => Finset.sum_congr rfl fun k _ => ?_
  have h0 := contrEquiv2_symm_val0 D 32 128 hr c0 c1 (c, k)
  have h1 := contrEquiv2_symm_val1 D 32 128 hr c0 c1 (c, k)
  have el : D.lhsIdx (ix5 j e b n h) ((contrEquiv2 D 32 128 hr c0 c1).symm (c, k)) = ix4 j c k e := by
    funext a; apply Fin.ext
    match a with
    | ⟨0, _⟩ => rfl
    | ⟨1, _⟩ => exact h0
    | ⟨2, _⟩ => exact h1
    | ⟨3, _⟩ => rfl
  have er : D.rhsIdx (ix5 j e b n h) ((contrEquiv2 D 32 128 hr c0 c1).symm (c, k)) = ix6 b n c j h k := by
    funext a; apply Fin.ext
    match a with
    | ⟨0, _⟩ => rfl
    | ⟨1, _⟩ => rfl
    | ⟨2, _⟩ => exact h0
    | ⟨3, _⟩ => rfl
    | ⟨4, _⟩ => rfl
    | ⟨5, _⟩ => exact h1
  rw [el, er]

/-- The block n's entry, before the blocks are put in order. -/
theorem blocks_apply (b : Fin 4) (j : Fin 2) (h : Fin 4) (n : Fin 64) (e : Fin 128) :
    val_main_v9 (F := Idealize.ShloMosaic.Ideal) x0 x1 x2 (ix5 b j h n e)
      = ∑ c : Fin 32, ∑ k : Fin 128,
          (x0 (ix2 ⟨b.val * 2048 + (32 * n.val + c.val), by omega⟩ ⟨8704 + ((j.val * 4 + h.val) * 128 + k.val), by omega⟩) + x1 (ix4 0 j c k)) * x2 (ix5 0 j c k e) := by
  rw [val_main_v9_apply]
  have ei : idx_main_v9 (ix5 b j h n e) = ix5 j e b n h := by
    funext a
    match a with
    | ⟨0, _⟩ => rfl
    | ⟨1, _⟩ => rfl
    | ⟨2, _⟩ => rfl
    | ⟨3, _⟩ => rfl
    | ⟨4, _⟩ => rfl
  rw [ei]
  unfold val_main_v8
  rw [product_apply]
  refine Finset.sum_congr rfl fun c _ => Finset.sum_congr rfl fun k _ => ?_
  rw [val_main_v7_apply, wt_apply, rows_apply, pos_apply]
  exact mul_comm _ _

/-- The reference's result, at an entry: the even blocks, then the odd ones. -/
theorem ref_apply (b : Fin 4) (j : Fin 2) (h : Fin 4) (n : Fin 64) (e : Fin 128) :
    val_main_v12 (F := Idealize.ShloMosaic.Ideal) x0 x1 x2 (ix5 b j h n e)
      = ∑ c : Fin 32, ∑ k : Fin 128,
          (x0 (ix2 ⟨b.val * 2048 + (32 * (Dense.block n).val + c.val), by omega⟩ ⟨8704 + ((j.val * 4 + h.val) * 128 + k.val), by omega⟩) + x1 (ix4 0 j c k)) * x2 (ix5 0 j c k e) := by
  refine Eq.trans ?_ (blocks_apply x0 x1 x2 b j h (Dense.block n) e)
  unfold val_main_v12
  by_cases hn : n.val < 32
  · refine (concatenate_pair_apply_left (t := S4x2x4x64x128) 3 (val_main_v10 (F := Idealize.ShloMosaic.Ideal) x0 x1 x2)
      (val_main_v11 (F := Idealize.ShloMosaic.Ideal) x0 x1 x2) _ (ix5 b j h n e) rfl (ix5 b j h ⟨n.val, hn⟩ e) (fun a => ?_)).trans ?_
    · match a with
      | ⟨0, _⟩ => rfl
      | ⟨1, _⟩ => rfl
      | ⟨2, _⟩ => rfl
      | ⟨3, _⟩ => rfl
      | ⟨4, _⟩ => rfl
    refine congrArg (val_main_v9 (F := Idealize.ShloMosaic.Ideal) x0 x1 x2) (funext fun a => Fin.ext ?_)
    match a with
    | ⟨0, _⟩ => show 0 + 1 * b.val = b.val; omega
    | ⟨1, _⟩ => show 0 + 1 * j.val = j.val; omega
    | ⟨2, _⟩ => show 0 + 1 * h.val = h.val; omega
    | ⟨3, _⟩ => show 0 + 2 * n.val = (Dense.block n).val; unfold Dense.block; rw [dif_pos hn]; show 0 + 2 * n.val = 2 * n.val; omega
    | ⟨4, _⟩ => show 0 + 1 * e.val = e.val; omega
  · refine (concatenate_pair_apply_right (t := S4x2x4x64x128) 3 (val_main_v10 (F := Idealize.ShloMosaic.Ideal) x0 x1 x2)
      (val_main_v11 (F := Idealize.ShloMosaic.Ideal) x0 x1 x2) _ (ix5 b j h n e) rfl rfl (ix5 b j h ⟨n.val - 32, by omega⟩ e) (fun a ha => ?_) ?_).trans ?_
    · match a with
      | ⟨0, _⟩ => rfl
      | ⟨1, _⟩ => rfl
      | ⟨2, _⟩ => rfl
      | ⟨3, _⟩ => exact absurd rfl ha
      | ⟨4, _⟩ => rfl
    · show n.val - 32 + 32 = n.val; omega
    refine congrArg (val_main_v9 (F := Idealize.ShloMosaic.Ideal) x0 x1 x2) (funext fun a => Fin.ext ?_)
    match a with
    | ⟨0, _⟩ => show 0 + 1 * b.val = b.val; omega
    | ⟨1, _⟩ => show 0 + 1 * j.val = j.val; omega
    | ⟨2, _⟩ => show 0 + 1 * h.val = h.val; omega
    | ⟨3, _⟩ => show 1 + 2 * (n.val - 32) = (Dense.block n).val; unfold Dense.block; rw [dif_neg hn]; show 1 + 2 * (n.val - 32) = 2 * (n.val - 32) + 1; omega
    | ⟨4, _⟩ => show 0 + 1 * e.val = e.val; omega

end Cert.Proof.DenseRef

end
-- ==== Proof.DenseClaims.lean ====
/- Hand-written: THE CLAIMS OF THE COMPRESSION OF THE PROMPTS' ROWS. The frames are the generated ones and need nothing of the arguments;
   the value, where the rows' columns that are compressed, the positions and the weights are finite (`finite_of`), is `Dense.array` on the kernel's side and
   `DenseRef.ref_apply` on the reference's. -/
module

public import proofs.«01_k».proof.Defs
public import proofs.«01_k».proof.Proof.Gen.Pre_finite
public import proofs.«01_k».proof.Proof.Gen.Kernel9.Frame
public import proofs.«01_k».proof.Proof.Gen.Reference9Ideal.Run
public import proofs.«01_k».proof.Proof.Dense
public import proofs.«01_k».proof.Proof.DenseRef
public import Idealize.ShloMosaic.Lib.ReduceAll

@[expose] public section

noncomputable section

namespace Cert.Proof.Dense

open Idealize.ShloMosaic Idealize.ShloMosaic.TcCoe Idealize.ShloMosaic.ValueIdx Idealize.SL.Sem

/-- The kernel runs, keeps its arguments and ends with every counter at zero, over the extended reals and over the formats. -/
theorem frame_ideal : Cert.quiescent_Kernel9Ideal := fun m g _ => Cert.Kernel9Ideal.Gen.frame m g

theorem frame_ideal_finite : Cert.quiescent_Kernel9Ideal_pre_finite := fun m g _ => Cert.Kernel9Ideal.Gen.frame m g

theorem frame_bits : Cert.quiescent_Kernel9 := fun m g _ => Cert.Kernel9.Gen.frame m g

/-- The same of the reference. -/
theorem frame_ref : Cert.quiescent_Reference9Ideal := fun m g _ =>
  (θ_run Cert.Reference9Ideal.defs _ _).mono (fun r h => ⟨fun c => (h c).2, sem_eq_zero_of_no_sems (by decide) r.2⟩) (Cert.Reference9Ideal.Value.run m g)

theorem frame_ref_finite : Cert.quiescent_Reference9Ideal_pre_finite := fun m g _ => frame_ref m g trivial

/-- A value below infinity in size is finite. -/
theorem finite_of_lt (x : EReal) (h : Ideal.cmp .olt (max x (-x)) (Ideal.ofBits .f32 0x7F800000#32) = 1#1) : Finite x := by
  have e : Ideal.ofBits .f32 0x7F800000#32 = (⊤ : EReal) := by simp [Ideal.ofBits, Ideal.ieee]
  rw [e] at h
  have h' : max x (-x) < ⊤ := by
    by_contra hn
    simp [Ideal.cmp, hn] at h
  rw [max_lt_iff] at h'
  refine ⟨x.toReal, EReal.coe_toReal h'.1.ne fun hb => ?_⟩
  rw [hb, EReal.neg_bot] at h'
  exact lt_irrefl _ h'.2

/-- What the precondition says of the rows, the positions and the weights. -/
theorem finite_of (x0 : FVec Idealize.ShloMosaic.Ideal Cert.Pre_finite.S8192x12288 .f32) (x1 : FVec Idealize.ShloMosaic.Ideal Cert.Pre_finite.S1x2x32x128 .f32)
    (x2 : FVec Idealize.ShloMosaic.Ideal Cert.Pre_finite.S1x2x32x128x128 .f32)
    (h : Cert.Pre_finite.fn (F := Idealize.ShloMosaic.Ideal) x0 x1 x2 = fun _ => 1#1) :
    (∀ (a : Fin 8192) (c : Fin 1024), Finite (x0 (ix2 a ⟨8704 + c.val, by omega⟩))) ∧ (∀ i, Finite (x1 i)) ∧ ∀ i, Finite (x2 i) := by
  have and_one : ∀ a b : BitVec 1, IntOp.andi a b = 1#1 → a = 1#1 ∧ b = 1#1 := by decide
  have e := congrFun h (Shape.Idx.first Cert.Pre_finite.Facts.h_S_)
  obtain ⟨e01, e2⟩ := and_one _ _ e
  obtain ⟨e0, e1⟩ := and_one _ _ e01
  haveI : Subsingleton Cert.Pre_finite.S_.Idx := ⟨fun a b => funext fun i => i.elim0⟩
  refine ⟨fun a c => ?_, fun i => finite_of_lt _ (Host.reduce_andi_all _ _ _ _ _ e1 i),
    fun i => finite_of_lt _ (Host.reduce_andi_all _ _ _ _ _ e2 i)⟩
  have f : ∀ i, Finite (extractStridedSlice Cert.Pre_finite.S8192x1024 ![0, 8704] x0 Cert.Pre_finite.Facts.slices_S8192x12288_S8192x1024_0_8704 i) :=
    fun i => finite_of_lt _ (Host.reduce_andi_all _ _ _ _ _ e0 i)
  refine (congrArg Finite (extractStridedSlice_apply _ x0 _ _ (ix2 a ⟨8704 + c.val, by omega⟩) fun b => ?_)).mp (f (ix2 a c))
  match b with
  | ⟨0, _⟩ => show a.val = 0 + a.val; omega
  | ⟨1, _⟩ => rfl

/-- The kernel's array and the reference's result are the same function of finite arguments. -/
theorem algebraic : Cert.algebraic_Kernel9Ideal_Reference9Ideal_pre_finite := by
  intro m g m' g' hpre hagree
  refine ⟨fun _ => ((fun y : Cert.Kernel9Ideal.S4x2x4x64x128.Idx => entry m (y 0) (y 1) (y 2) (y 3) (y 4)) :
    FVec Idealize.ShloMosaic.Ideal Cert.Kernel9Ideal.S4x2x4x64x128 .f32), ?_, ?_⟩
  · refine (θ_run Cert.Kernel9Ideal.defs _ _).mono (fun r h c => ?_) (Cert.Kernel9Ideal.Value.run_blocks m g)
    obtain rfl : c = 0 := Subsingleton.elim _ _
    exact ⟨(h 0).1.trans (array m (finite_of _ _ _ (hpre 0))), (h 0).2⟩
  · refine (θ_run Cert.Reference9Ideal.defs _ _).mono (fun r h c => ?_) (Cert.Reference9Ideal.Value.run m' g')
    obtain rfl : c = 0 := Subsingleton.elim _ _
    refine ⟨((h 0).1.trans (Cert.Reference9Ideal.Read.val_main_v12_eq _ _ _)).trans ?_, (h 0).2⟩
    obtain ⟨h0, h1, h2⟩ := hagree 0
    funext y
    refine (congrFun (congr (congr (congrArg Cert.Reference9Ideal.Read.val_main_v12 h0) h1) h2) y).trans ?_
    refine (congrArg _ (eq_ix5 y)).trans ?_
    exact DenseRef.ref_apply _ _ _ (y 0) (y 1) (y 2) (y 3) (y 4)

end Cert.Proof.Dense

end
-- ==== Proof.lean ====
/- Hand-written: THE CLAIMS OF THE CERTIFICATE, joined. `PagedClaims` proves those of the paged compression, `InProjClaims`
   those of the in-projection, `OutProj` those of the output projection, `ExpUpClaims` and `ExpDownClaims` those of the experts' two products,
   `ShUpClaims` and `ShDownClaims` those of the shared expert's, `NewClaims` those of the compression of the samples' new rows, `DenseClaims` those of the
   compression of the prompts' rows; a reference runs without a region and declares no semaphore, so its frame is its run. -/
module

public import proofs.«01_k».proof.Defs
public import proofs.«01_k».proof.Proof.PagedClaims
public import proofs.«01_k».proof.Proof.InProjClaims
public import proofs.«01_k».proof.Proof.OutProj
public import proofs.«01_k».proof.Proof.ExpUpClaims
public import proofs.«01_k».proof.Proof.ExpDownClaims
public import proofs.«01_k».proof.Proof.ShUpClaims
public import proofs.«01_k».proof.Proof.ShDownClaims
public import proofs.«01_k».proof.Proof.NewClaims
public import proofs.«01_k».proof.Proof.DenseClaims

@[expose] public section

noncomputable section

namespace Cert.Proof

open Idealize.ShloMosaic Idealize.SL.Sem

/-- The reference of the paged compression runs and keeps its arguments. -/
theorem frame_paged_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem frame_paged_reference_pre : Cert.quiescent_ReferenceIdeal_pre_pages_in_pool := fun m g _ =>
  (θ_run Cert.ReferenceIdeal.defs _ _).mono (fun r h => ⟨fun c => (h c).2, sem_eq_zero_of_no_sems (by decide) r.2⟩) (Cert.ReferenceIdeal.Value.run m g)

/-- The reference of the in-projection runs and keeps its arguments. -/
theorem frame_in_reference : Cert.quiescent_Reference2Ideal := fun m g _ =>
  (θ_run Cert.Reference2Ideal.defs _ _).mono (fun r h => ⟨fun c => (h c).2.2.2.2.2.2.2.2.2.2.2, sem_eq_zero_of_no_sems (by decide) r.2⟩) (Cert.Reference2Ideal.Value.run m g)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_pages_in_pool.Gen.facts, Cert.Pre_experts_in_range.Gen.facts, Cert.Pre_experts_in_range_down.Gen.facts, Cert.Pre_one_expert.Gen.facts, Cert.Pre_one_expert_down.Gen.facts, Cert.Pre_finite.Gen.facts,
  Paged.frame_bits, Paged.frame_ideal, frame_paged_reference, frame_paged_reference_pre,
  InProj.frame_bits, InProj.frame_ideal, frame_in_reference,
  OutProj.frame_bits, OutProj.frame_ideal, OutProj.frame_ref,
  ExpUp.frame_bits, ExpUp.frame_ideal, ExpUp.frame_ref, ExpUp.frame_ref_pre,
  ExpDown.frame_bits, ExpDown.frame_ideal, ExpDown.frame_ref, ExpDown.frame_ref_pre,
  ShUp.frame_bits, ShUp.frame_ideal, ShUp.frame_ref, ShUp.frame_ref_pre,
  ShDown.frame_bits, ShDown.frame_ideal, ShDown.frame_ref, ShDown.frame_ref_pre,
  NewRows.frame_bits, NewRows.frame_ideal, NewRows.frame_ref,
  Dense.frame_bits, Dense.frame_ideal, Dense.frame_ideal_finite, Dense.frame_ref, Dense.frame_ref_finite,
  trivial, Paged.algebraic, trivial, InProj.algebraic, trivial, OutProj.algebraic, trivial, ExpUp.algebraic, trivial, ExpDown.algebraic, trivial, ShUp.algebraic, trivial, ShDown.algebraic,
  trivial, NewRows.algebraic, trivial, Dense.algebraic⟩

end Cert.Proof

end
